-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))).2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "dead" .f32 0xC2D20000#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)) (v3 : (c : Dev Cert.KernelIdeal.nD) → Buf (Elt Ideal) ((c.tc : Thread Cert.KernelIdeal.nD Cert.KernelIdeal.τ).loc Cert.KernelIdeal.main_v35_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_v35_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_v23) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)) (v2 : (c : Dev Cert.Kernel5Ideal.nD) → Buf (Elt Ideal) ((c.tc : Thread Cert.Kernel5Ideal.nD Cert.Kernel5Ideal.τ).loc Cert.Kernel5Ideal.main_v1_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_v1_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v17) = v1 c
          ∧ r.2.mem ((c.tc : Thread Cert.Reference5Ideal.nD Cert.Reference5Ideal.τ).loc Cert.Reference5Ideal.main_v18) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  IdealRules.named_const.Statement Cert.Kernel7Ideal.κ "mask" .f32 0xF149F2CA#32 ⊥
  ∧ IdealRules.named_const.Statement Cert.Kernel7Ideal.κ "dead" .f32 0xC2D20000#32 ⊥

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v115_0)) (v1 : (c : Dev Cert.Kernel7Ideal.nD) → Buf (Elt Ideal) ((c.tc : Thread Cert.Kernel7Ideal.nD Cert.Kernel7Ideal.τ).loc Cert.Kernel7Ideal.main_v115_1)) (v2 : (c : Dev Cert.Kernel7Ideal.nD) → Buf (Elt Ideal) ((c.tc : Thread Cert.Kernel7Ideal.nD Cert.Kernel7Ideal.τ).loc Cert.Kernel7Ideal.main_v115_2)) (v3 : (c : Dev Cert.Kernel7Ideal.nD) → Buf (Elt Ideal) ((c.tc : Thread Cert.Kernel7Ideal.nD Cert.Kernel7Ideal.τ).loc Cert.Kernel7Ideal.main_v115_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v115_0) = v0 c
          ∧ r.2.mem ((c.tc : Thread Cert.Kernel7Ideal.nD Cert.Kernel7Ideal.τ).loc Cert.Kernel7Ideal.main_v115_1) = v1 c
          ∧ r.2.mem ((c.tc : Thread Cert.Kernel7Ideal.nD Cert.Kernel7Ideal.τ).loc Cert.Kernel7Ideal.main_v115_2) = v2 c
          ∧ r.2.mem ((c.tc : Thread Cert.Kernel7Ideal.nD Cert.Kernel7Ideal.τ).loc Cert.Kernel7Ideal.main_v115_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v89) = v0 c
          ∧ r.2.mem ((c.tc : Thread Cert.Reference7Ideal.nD Cert.Reference7Ideal.τ).loc Cert.Reference7Ideal.main_v87) = v1 c
          ∧ r.2.mem ((c.tc : Thread Cert.Reference7Ideal.nD Cert.Reference7Ideal.τ).loc Cert.Reference7Ideal.main_v68) = v2 c
          ∧ r.2.mem ((c.tc : Thread Cert.Reference7Ideal.nD Cert.Reference7Ideal.τ).loc Cert.Reference7Ideal.main_v61) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S4096x3584 : Shape := ⟨2, ![4096, 3584]⟩
abbrev S4096x1024 : Shape := ⟨2, ![4096, 1024]⟩
abbrev S_ : Shape := ⟨0, ![]⟩

class Facts : Prop where
  bcast_S_S4096x3584 : S_.BroadcastsInDim S4096x3584 (![] : Fin 0 → Fin S4096x3584.rank)
  bcast_S_S4096x1024 : S_.BroadcastsInDim S4096x1024 (![] : Fin 0 → Fin S4096x1024.rank)

variable [Facts]

def fn {F : FTy → Type} [FloatOps F] (main_arg0 : FVec F S4096x3584 .f32) (main_arg1 : FVec F S4096x1024 .f32) : IVec S4096x3584 1 × IVec S4096x1024 1 :=
  let main_v0 : FVec F S4096x3584 .f32 := Host.absf main_arg0
  let main_cst : FVec F S_ .f32 := constant S_ .f32 0x7F800000#32
  let main_v1 : FVec F S4096x3584 .f32 := broadcastInDim S4096x3584 ![] bcast_S_S4096x3584 main_cst
  let main_v2 : IVec S4096x3584 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_finite7.lean ====
abbrev S4096x512 : Shape := ⟨2, ![4096, 512]⟩
abbrev S4096x8 : Shape := ⟨2, ![4096, 8]⟩
abbrev S4096x3584 : Shape := ⟨2, ![4096, 3584]⟩
abbrev S4096x1024 : Shape := ⟨2, ![4096, 1024]⟩
abbrev S64 : Shape := ⟨1, ![64]⟩
abbrev S_ : Shape := ⟨0, ![]⟩

class Facts : Prop where
  bcast_S_S4096x512 : S_.BroadcastsInDim S4096x512 (![] : Fin 0 → Fin S4096x512.rank)
  bcast_S_S4096x8 : S_.BroadcastsInDim S4096x8 (![] : Fin 0 → Fin S4096x8.rank)
  bcast_S_S4096x3584 : S_.BroadcastsInDim S4096x3584 (![] : Fin 0 → Fin S4096x3584.rank)
  bcast_S_S4096x1024 : S_.BroadcastsInDim S4096x1024 (![] : Fin 0 → Fin S4096x1024.rank)

variable [Facts]

def fn {F : FTy → Type} [FloatOps F] (main_arg0 : FVec F S4096x512 .f32) (main_arg1 : FVec F S4096x512 .f32) (main_arg2 : FVec F S4096x512 .f32) (main_arg3 : FVec F S4096x8 .f32) (main_arg4 : FVec F S4096x3584 .f32) (main_arg5 : FVec F S4096x1024 .f32) (main_arg6 : FVec F S64 .f32) (main_arg7 : FVec F S64 .f32) : IVec S4096x512 1 × IVec S4096x512 1 × IVec S4096x512 1 × IVec S4096x8 1 × IVec S4096x3584 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x8 .f32 := Host.absf main_arg3
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_v12 : FVec F S4096x3584 .f32 := Host.absf main_arg4
  let main_cst_3 : FVec F S_ .f32 := constant S_ .f32 0x7F800000#32
  let main_v13 : FVec F S4096x3584 .f32 := broadcastInDim S4096x3584 ![] bcast_S_S4096x3584 main_cst_3
  let main_v14 : IVec S4096x3584 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x3584 : Shape := ⟨2, ![4096, 3584]⟩
abbrev S4096x1024 : Shape := ⟨2, ![4096, 1024]⟩
abbrev S4096x256 : Shape := ⟨2, ![4096, 256]⟩
abbrev S4096x4x64 : Shape := ⟨3, ![4096, 4, 64]⟩
abbrev S4x4096x64 : Shape := ⟨3, ![4, 4096, 64]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S256x128 : Shape := ⟨2, ![256, 128]⟩
abbrev S4096x128 : Shape := ⟨2, ![4096, 128]⟩
abbrev S1x128 : Shape := ⟨2, ![1, 128]⟩
abbrev S256 : Shape := ⟨1, ![256]⟩
abbrev S256x1 : Shape := ⟨2, ![256, 1]⟩
abbrev S512x256 : Shape := ⟨2, ![512, 256]⟩
abbrev S256x256 : Shape := ⟨2, ![256, 256]⟩
abbrev S256x512 : Shape := ⟨2, ![256, 512]⟩
abbrev S512x128 : Shape := ⟨2, ![512, 128]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 81
  | .vmem => 20
  | .smem => 0
  | _ => 0

abbrev bufTy : (tb : Table) → Fin (tcTables nBuf tb) → BufTy
  | .hbm, ⟨0, _⟩ => ⟨S4096x3584, .f32⟩
  | .hbm, ⟨1, _⟩ => ⟨S4096x1024, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x4x64, .f32⟩
  | .hbm, ⟨6, _⟩ => ⟨S4x4096x64, .f32⟩
  | .hbm, ⟨7, _⟩ => ⟨S4096x4x64, .f32⟩
  | .hbm, ⟨8, _⟩ => ⟨S4x4096x64, .f32⟩
  | .hbm, ⟨9, _⟩ => ⟨S4096x4x64, .f32⟩
  | .hbm, ⟨10, _⟩ => ⟨S4x4096x64, .f32⟩
  | .hbm, ⟨11, _⟩ => ⟨S4096, .i32⟩
  | .hbm, ⟨12, _⟩ => ⟨S4x4096x4096, .f32⟩
  | .hbm, ⟨13, _⟩ => ⟨S_, .f32⟩
  | .hbm, ⟨14, _⟩ => ⟨S4x4096x4096, .f32⟩
  | .hbm, ⟨15, _⟩ => ⟨S4x4096x4096, .f32⟩
  | .hbm, ⟨16, _⟩ => ⟨S1x4096, .i32⟩
  | .hbm, ⟨17, _⟩ => ⟨S4096x1, .i32⟩
  | .hbm, ⟨18, _⟩ => ⟨S4096x4096, .i32⟩
  | .hbm, ⟨19, _⟩ => ⟨S4096x4096, .i32⟩
  | .hbm, ⟨20, _⟩ => ⟨S4096x4096, .i1⟩
  | .hbm, ⟨21, _⟩ => ⟨S_, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S4x4096x4096, .i1⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S_, .f32⟩
  | .hbm, ⟨38, _⟩ => ⟨S4x4096x4096, .i1⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S4x4096x4096, .f32⟩
  | .hbm, ⟨51, _⟩ => ⟨S4x4096x4096, .i1⟩
  | .hbm, ⟨52, _⟩ => ⟨S4x4096x4096, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S4x4096x4096, .f32⟩
  | .hbm, ⟨58, _⟩ => ⟨S4x4096x4096, .f32⟩
  | .hbm, ⟨59, _⟩ => ⟨S4x4096x4096, .f32⟩
  | .hbm, ⟨60, _⟩ => ⟨S4x4096x4096, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S_, .f32⟩
  | .hbm, ⟨65, _⟩ => ⟨S4x4096x4096, .i1⟩
  | .hbm, ⟨66, _⟩ => ⟨S4x4096x4096, .f32⟩
  | .hbm, ⟨67, _⟩ => ⟨S4x4096x4096, .f32⟩
  | .hbm, ⟨68, _⟩ => ⟨S4x4096x64, .f32⟩
  | .hbm, ⟨69, _⟩ => ⟨S4096x4x64, .f32⟩
  | .hbm, ⟨70, _⟩ => ⟨S4096x256, .f32⟩
  | .hbm, ⟨71, _⟩ => ⟨S_, .f32⟩
  | .hbm, ⟨72, _⟩ => ⟨S4096x256, .f32⟩
  | .hbm, ⟨73, _⟩ => ⟨S4096x256, .f32⟩
  | .hbm, ⟨74, _⟩ => ⟨S4096x256, .bf16⟩
  | .hbm, ⟨75, _⟩ => ⟨S4096x256, .bf16⟩
  | .hbm, ⟨76, _⟩ => ⟨S4096x256, .bf16⟩
  | .hbm, ⟨77, _⟩ => ⟨S4096x256, .f32⟩
  | .hbm, ⟨78, _⟩ => ⟨S4096x256, .f32⟩
  | .hbm, ⟨79, _⟩ => ⟨S4096x256, .f32⟩
  | .hbm, ⟨80, _⟩ => ⟨S4096x256, .f32⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S256x128, .f32⟩
  | .local _ .vmem, ⟨19, _⟩ => ⟨S256x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v20 : Ref sig .tc := ⟨.hbm, 40, rfl⟩
abbrev main_call2_cst : Ref sig .tc := ⟨.hbm, 41, rfl⟩
abbrev main_call2_v0 : Ref sig .tc := ⟨.hbm, 42, rfl⟩
abbrev main_v21 : Ref sig .tc := ⟨.hbm, 43, rfl⟩
abbrev main_v22 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35_0 : Ref sig .tc := ⟨.hbm, 77, rfl⟩
abbrev main_v35_1 : Ref sig .tc := ⟨.hbm, 78, rfl⟩
abbrev main_v35_2 : Ref sig .tc := ⟨.hbm, 79, rfl⟩
abbrev main_v35_3 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c256_i32_35 : BitVec 32 := 256#32
  let v103 : BitVec 32 := Scalar.muli arg1 c256_i32_35
  let c0_i32_36 : BitVec 32 := 0#32
  let v104 : BitVec 32 := Scalar.addi v103 c0_i32_36
  v104
def k0_off1 (i : grid0.Coords) : Fin 2 → Nat :=
  let arg1 : BitVec 32 := BitVec.ofNat 32 (i 1).val
  let c256_i32_35 : BitVec 32 := 256#32
  let v103 : BitVec 32 := Scalar.muli arg1 c256_i32_35
  let c0_i32_36 : BitVec 32 := 0#32
  let v104 : BitVec 32 := Scalar.addi v103 c0_i32_36
  let v105 : BitVec 32 := v104
  let v106 : Index := Scalar.indexCast v105
  let c0_37 : Index := 0#32
  ![v106.toNat, 0]
def k0_mult2 (i : grid0.Coords) (arg12 : BitVec 32) : BitVec 32 :=
  let arg1 : BitVec 32 := BitVec.ofNat 32 (i 1).val
  let c256_i32 : BitVec 32 := 256#32
  let v83 : BitVec 32 := Scalar.muli arg1 c256_i32
  let c0_i32_28 : BitVec 32 := 0#32
  let v85 : BitVec 1 := Scalar.cmpi .sgt v83 c0_i32_28
  let v86 : BitVec 32 := Scalar.extui v85
  let c0_i32_29 : BitVec 32 := 0#32
  let v87 : BitVec 1 := Scalar.cmpi .slt v83 c0_i32_29
  let v88 : BitVec 32 := Scalar.extui v87
  let v89 : BitVec 32 := Scalar.subi v86 v88
  let c256_i32_27 : BitVec 32 := 256#32
  let c0_i32_30 : BitVec 32 := 0#32
  let v90 : BitVec 1 := Scalar.cmpi .sgt c256_i32_27 c0_i32_30
  let v91 : BitVec 32 := Scalar.extui v90
  let c0_i32_31 : BitVec 32 := 0#32
  let v92 : BitVec 1 := Scalar.cmpi .slt c256_i32_27 c0_i32_31
  let v93 : BitVec 32 := Scalar.extui v92
  let v94 : BitVec 32 := Scalar.subi v91 v93
  let v95 : BitVec 1 := Scalar.cmpi .ne v89 v94
  let v96 : BitVec 32 := Scalar.remsi v83 c256_i32_27
  let c0_i32_32 : BitVec 32 := 0#32
  let v97 : BitVec 1 := Scalar.cmpi .ne v96 c0_i32_32
  let v98 : BitVec 1 := Scalar.andi v95 v97
  let v84 : BitVec 32 := Scalar.divsi v83 c256_i32_27
  let c1_i32 : BitVec 32 := 1#32
  let v99 : BitVec 32 := Scalar.subi v84 c1_i32
  let v100 : BitVec 32 := Scalar.select v98 v99 v84
  let c1_i32_81 : BitVec 32 := 1#32
  let v272 : BitVec 32 := Scalar.subi v100 c1_i32_81
  let v273 : BitVec 32 := Scalar.subi v272 arg12
  let c256_i32_82 : BitVec 32 := 256#32
  let v274 : BitVec 32 := Scalar.muli v273 c256_i32_82
  v274

def k0_off2 (i : grid0.Coords) (arg12 : BitVec 32) : Fin 2 → Nat :=
  let arg1 : BitVec 32 := BitVec.ofNat 32 (i 1).val
  let c256_i32 : BitVec 32 := 256#32
  let v83 : BitVec 32 := Scalar.muli arg1 c256_i32
  let c0_i32_28 : BitVec 32 := 0#32
  let v85 : BitVec 1 := Scalar.cmpi .sgt v83 c0_i32_28
  let v86 : BitVec 32 := Scalar.extui v85
  let c0_i32_29 : BitVec 32 := 0#32
  let v87 : BitVec 1 := Scalar.cmpi .slt v83 c0_i32_29
  let v88 : BitVec 32 := Scalar.extui v87
  let v89 : BitVec 32 := Scalar.subi v86 v88
  let c256_i32_27 : BitVec 32 := 256#32
  let c0_i32_30 : BitVec 32 := 0#32
  let v90 : BitVec 1 := Scalar.cmpi .sgt c256_i32_27 c0_i32_30
  let v91 : BitVec 32 := Scalar.extui v90
  let c0_i32_31 : BitVec 32 := 0#32
  let v92 : BitVec 1 := Scalar.cmpi .slt c256_i32_27 c0_i32_31
  let v93 : BitVec 32 := Scalar.extui v92
  let v94 : BitVec 32 := Scalar.subi v91 v93
  let v95 : BitVec 1 := Scalar.cmpi .ne v89 v94
  let v96 : BitVec 32 := Scalar.remsi v83 c256_i32_27
  let c0_i32_32 : BitVec 32 := 0#32
  let v97 : BitVec 1 := Scalar.cmpi .ne v96 c0_i32_32
  let v98 : BitVec 1 := Scalar.andi v95 v97
  let v84 : BitVec 32 := Scalar.divsi v83 c256_i32_27
  let c1_i32 : BitVec 32 := 1#32
  let v99 : BitVec 32 := Scalar.subi v84 c1_i32
  let v100 : BitVec 32 := Scalar.select v98 v99 v84
  let c1_i32_81 : BitVec 32 := 1#32
  let v272 : BitVec 32 := Scalar.subi v100 c1_i32_81
  let v273 : BitVec 32 := Scalar.subi v272 arg12
  let c256_i32_82 : BitVec 32 := 256#32
  let v274 : BitVec 32 := Scalar.muli v273 c256_i32_82
  let v275 : BitVec 32 := v274
  let v276 : Index := Scalar.indexCast v275
  let c0_83 : Index := 0#32
  ![v276.toNat, 0]

def k0_chk1 (i : grid0.Coords) (arg12 : BitVec 32) : Prop :=
  (256 ∣ (k0_mult2 i arg12).toNat) ∧
  (∀ a, (k0_off2 i arg12) a + S256x128.size a ≤ S4096x128.size a)
theorem k0_mult2_dvd : ∀ (i : grid0.Coords) (arg12 : BitVec 32) (k0_hw1 : k0_chk1 i arg12), 256 ∣ (k0_mult2 i arg12).toNat := fun i arg12 k0_hw1 => k0_hw1.1
theorem k0_off2_inb : ∀ (i : grid0.Coords) (arg12 : BitVec 32) (k0_hw1 : k0_chk1 i arg12), ∀ a, (k0_off2 i arg12) a + S256x128.size a ≤ S4096x128.size a := fun i arg12 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KernelIdeal.lean ====
variable {F : FTy → Type} [FloatOps F] [Named F]
def κ : String → Option EReal := fun
  | "dead" => some ⊥
  | "mask" => some ⊥
  | _ => none
-- ==== ReferenceIdeal.lean ====
abbrev S4096x3584 : Shape := ⟨2, ![4096, 3584]⟩
abbrev S4096x1024 : Shape := ⟨2, ![4096, 1024]⟩
abbrev S4096x256 : Shape := ⟨2, ![4096, 256]⟩
abbrev S4096x4x64 : Shape := ⟨3, ![4096, 4, 64]⟩
abbrev S4x4096x64 : Shape := ⟨3, ![4, 4096, 64]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x64x4096 : Shape := ⟨3, ![4, 64, 4096]⟩

abbrev nBuf : Space → Nat
  | .hbm => 196
  | .vmem => 0
  | .smem => 0
  | _ => 0

abbrev hbmTy0_0 (i : Nat) : BufTy := match i % 128 with
  | 0 => ⟨S4096x3584, .f32⟩
  | 1 => ⟨S4096x1024, .f32⟩
  | 2 => ⟨S4096x1024, .f32⟩
  | 3 => ⟨S4096x256, .f32⟩
  | 4 => ⟨S4096x256, .f32⟩
  | 5 => ⟨S4096x256, .f32⟩
  | 6 => ⟨S4096x256, .f32⟩
  | 7 => ⟨S4096x4x64, .f32⟩
  | 8 => ⟨S4x4096x64, .f32⟩
  | 9 => ⟨S4096x4x64, .f32⟩
  | 10 => ⟨S4x4096x64, .f32⟩
  | 11 => ⟨S4096x4x64, .f32⟩
  | 12 => ⟨S4x4096x64, .f32⟩
  | 13 => ⟨S4096, .i32⟩
  | 14 => ⟨S4x4096x4096, .f32⟩
  | 15 => ⟨S_, .f32⟩
  | 16 => ⟨S4x4096x4096, .f32⟩
  | 17 => ⟨S4x4096x4096, .f32⟩
  | 18 => ⟨S1x4096, .i32⟩
  | 19 => ⟨S4096x1, .i32⟩
  | 20 => ⟨S4096x4096, .i32⟩
  | 21 => ⟨S4096x4096, .i32⟩
  | 22 => ⟨S4096x4096, .i1⟩
  | 23 => ⟨S_, .f32⟩
  | 24 => ⟨S4x4096x4096, .f32⟩
  | 25 => ⟨S4x4096x4096, .f32⟩
  | 26 => ⟨S4x4096x4096, .f32⟩
  | 27 => ⟨S4x4096x4096, .f32⟩
  | 28 => ⟨S4x4096x4096, .i1⟩
  | 29 => ⟨S4x4096x4096, .f32⟩
  | 30 => ⟨S4x4096x4096, .f32⟩
  | 31 => ⟨S4x4096x4096, .f32⟩
  | 32 => ⟨S4x4096x4096, .f32⟩
  | 33 => ⟨S4x4096x4096, .f32⟩
  | 34 => ⟨S4x4096x4096, .f32⟩
  | 35 => ⟨S4x4096x4096, .f32⟩
  | 36 => ⟨S4x4096x4096, .f32⟩
  | 37 => ⟨S_, .f32⟩
  | 38 => ⟨S4x4096x4096, .f32⟩
  | 39 => ⟨S4x4096x4096, .i1⟩
  | 40 => ⟨S_, .f32⟩
  | 41 => ⟨S4x4096x4096, .f32⟩
  | 42 => ⟨S4x4096x4096, .f32⟩
  | 43 => ⟨S_, .f32⟩
  | 44 => ⟨S4x4096x4096, .f32⟩
  | 45 => ⟨S4x4096x4096, .i1⟩
  | 46 => ⟨S_, .f32⟩
  | 47 => ⟨S4x4096x4096, .f32⟩
  | 48 => ⟨S4x4096x4096, .f32⟩
  | 49 => ⟨S4x4096x4096, .f32⟩
  | 50 => ⟨S4x4096x4096, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S4x4096x4096, .f32⟩
  | 59 => ⟨S4x4096x4096, .i1⟩
  | 60 => ⟨S_, .f32⟩
  | 61 => ⟨S4x4096x4096, .f32⟩
  | 62 => ⟨S4x4096x4096, .f32⟩
  | 63 => ⟨S4x4096x4096, .f32⟩
  | 64 => ⟨S4x4096x4096, .f32⟩
  | 65 => ⟨S4x4096x4096, .f32⟩
  | 66 => ⟨S_, .f32⟩
  | 67 => ⟨S4x4096x4096, .f32⟩
  | 68 => ⟨S4x4096x4096, .f32⟩
  | 69 => ⟨S4x4096x4096, .f32⟩
  | 70 => ⟨S_, .f32⟩
  | 71 => ⟨S_, .f32⟩
  | 72 => ⟨S4x4096x4096, .i1⟩
  | 73 => ⟨S4x4096x4096, .f32⟩
  | 74 => ⟨S4x4096x4096, .f32⟩
  | 75 => ⟨S_, .f32⟩
  | 76 => ⟨S4x4096x4096, .f32⟩
  | 77 => ⟨S_, .f32⟩
  | 78 => ⟨S_, .f32⟩
  | 79 => ⟨S4x4096x4096, .f32⟩
  | 80 => ⟨S4x4096x4096, .f32⟩
  | 81 => ⟨S4x4096x4096, .f32⟩
  | 82 => ⟨S_, .f32⟩
  | 83 => ⟨S4x4096x4096, .f32⟩
  | 84 => ⟨S4x4096x4096, .f32⟩
  | 85 => ⟨S4x4096x4096, .f32⟩
  | 86 => ⟨S4x4096x4096, .f32⟩
  | 87 => ⟨S4x4096x4096, .i1⟩
  | 88 => ⟨S4x4096x4096, .f32⟩
  | 89 => ⟨S4x4096x4096, .f32⟩
  | 90 => ⟨S4x4096x4096, .f32⟩
  | 91 => ⟨S4x4096x4096, .f32⟩
  | 92 => ⟨S4x4096x4096, .f32⟩
  | 93 => ⟨S4x4096x4096, .f32⟩
  | 94 => ⟨S4x4096x4096, .f32⟩
  | 95 => ⟨S4x4096x4096, .f32⟩
  | 96 => ⟨S_, .f32⟩
  | 97 => ⟨S4x4096x4096, .f32⟩
  | 98 => ⟨S4x4096x4096, .i1⟩
  | 99 => ⟨S_, .f32⟩
  | 100 => ⟨S4x4096x4096, .f32⟩
  | 101 => ⟨S4x4096x4096, .f32⟩
  | 102 => ⟨S_, .f32⟩
  | 103 => ⟨S4x4096x4096, .f32⟩
  | 104 => ⟨S4x4096x4096, .i1⟩
  | 105 => ⟨S_, .f32⟩
  | 106 => ⟨S4x4096x4096, .f32⟩
  | 107 => ⟨S4x4096x4096, .f32⟩
  | 108 => ⟨S4x4096x4096, .f32⟩
  | 109 => ⟨S4x4096x4096, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S4x4096x4096, .f32⟩
  | 118 => ⟨S4x4096x4096, .i1⟩
  | 119 => ⟨S_, .f32⟩
  | 120 => ⟨S4x4096x4096, .f32⟩
  | 121 => ⟨S4x4096x4096, .f32⟩
  | 122 => ⟨S4x4096x4096, .f32⟩
  | 123 => ⟨S4x4096x4096, .f32⟩
  | 124 => ⟨S4x4096x4096, .f32⟩
  | 125 => ⟨S_, .f32⟩
  | 126 => ⟨S4x4096x4096, .f32⟩
  | 127 => ⟨S4x4096x4096, .f32⟩
  | _ => ⟨S4096x3584, .f32⟩

abbrev hbmTy0_1 (i : Nat) : BufTy := match i % 128 with
  | 0 => ⟨S4x4096x4096, .f32⟩
  | 1 => ⟨S4x4096x4096, .f32⟩
  | 2 => ⟨S4x4096x4096, .f32⟩
  | 3 => ⟨S_, .f32⟩
  | 4 => ⟨S_, .f32⟩
  | 5 => ⟨S4x4096x4096, .i1⟩
  | 6 => ⟨S4x4096x4096, .f32⟩
  | 7 => ⟨S4x4096x4096, .f32⟩
  | 8 => ⟨S_, .f32⟩
  | 9 => ⟨S4x4096x4096, .f32⟩
  | 10 => ⟨S4x4096x64, .f32⟩
  | 11 => ⟨S4096x4x64, .f32⟩
  | 12 => ⟨S4096x256, .f32⟩
  | 13 => ⟨S4096x256, .f32⟩
  | 14 => ⟨S4096x256, .f32⟩
  | 15 => ⟨S_, .f32⟩
  | 16 => ⟨S4096x256, .f32⟩
  | 17 => ⟨S4096x256, .f32⟩
  | 18 => ⟨S_, .f32⟩
  | 19 => ⟨S4096x256, .f32⟩
  | 20 => ⟨S4096x256, .f32⟩
  | 21 => ⟨S_, .f32⟩
  | 22 => ⟨S4096x256, .f32⟩
  | 23 => ⟨S4096x256, .f32⟩
  | 24 => ⟨S4096x256, .f32⟩
  | 25 => ⟨S4096x256, .f32⟩
  | 26 => ⟨S4096x256, .f32⟩
  | 27 => ⟨S4096x256, .f32⟩
  | 28 => ⟨S4096x256, .f32⟩
  | 29 => ⟨S4096x256, .f32⟩
  | 30 => ⟨S4096x256, .f32⟩
  | 31 => ⟨S4096x256, .f32⟩
  | 32 => ⟨S4096x256, .f32⟩
  | 33 => ⟨S4096x256, .f32⟩
  | 34 => ⟨S4096x4x64, .f32⟩
  | 35 => ⟨S4x4096x64, .f32⟩
  | 36 => ⟨S4x64x4096, .f32⟩
  | 37 => ⟨S4x4096x64, .f32⟩
  | 38 => ⟨S4x4096x4096, .f32⟩
  | 39 => ⟨S_, .f32⟩
  | 40 => ⟨S4x4096x4096, .f32⟩
  | 41 => ⟨S4x4096x4096, .f32⟩
  | 42 => ⟨S4x4096x4096, .f32⟩
  | 43 => ⟨S4x4096x4096, .f32⟩
  | 44 => ⟨S4x4096x4096, .f32⟩
  | 45 => ⟨S4x4096x4096, .f32⟩
  | 46 => ⟨S4x4096x4096, .f32⟩
  | 47 => ⟨S_, .f32⟩
  | 48 => ⟨S_, .f32⟩
  | 49 => ⟨S4x4096x4096, .f32⟩
  | 50 => ⟨S4x4096x4096, .f32⟩
  | 51 => ⟨S_, .f32⟩
  | 52 => ⟨S4x4096x4096, .f32⟩
  | 53 => ⟨S4x4096x4096, .f32⟩
  | 54 => ⟨S4x4096x4096, .f32⟩
  | 55 => ⟨S4x4096x4096, .f32⟩
  | 56 => ⟨S4x4096x4096, .f32⟩
  | 57 => ⟨S_, .f32⟩
  | 58 => ⟨S4x4096x4096, .f32⟩
  | 59 => ⟨S4x4096x4096, .f32⟩
  | 60 => ⟨S4x4096x64, .f32⟩
  | 61 => ⟨S4x4096x64, .f32⟩
  | 62 => ⟨S4096x4x64, .f32⟩
  | 63 => ⟨S4096x256, .f32⟩
  | 64 => ⟨S4096x4x64, .f32⟩
  | 65 => ⟨S4096x256, .f32⟩
  | 66 => ⟨S4096x4x64, .f32⟩
  | 67 => ⟨S4096x256, .f32⟩
  | _ => ⟨S4096x3584, .f32⟩

abbrev hbmTy (i : Nat) : BufTy := match i / 128 with
  | 0 => hbmTy0_0 i
  | 1 => hbmTy0_1 i
  | _ => ⟨S4096x3584, .f32⟩

abbrev bufTy : (tb : Table) → Fin (tcTables nBuf tb) → BufTy
  | .hbm, ⟨i, _⟩ => hbmTy i
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v20_0 : Ref sig .tc := ⟨.hbm, 36, rfl⟩
abbrev main_call0_cst_0 : Ref sig .tc := ⟨.hbm, 37, rfl⟩
abbrev main_call0_v13 : Ref sig .tc := ⟨.hbm, 38, rfl⟩
abbrev main_call0_v14 : Ref sig .tc := ⟨.hbm, 39, rfl⟩
abbrev main_call0_cst_1 : Ref sig .tc := ⟨.hbm, 40, rfl⟩
abbrev main_call0_v15 : Ref sig .tc := ⟨.hbm, 41, rfl⟩
abbrev main_call0_v16 : Ref sig .tc := ⟨.hbm, 42, rfl⟩
abbrev main_call0_cst_2 : Ref sig .tc := ⟨.hbm, 43, rfl⟩
abbrev main_call0_v17 : Ref sig .tc := ⟨.hbm, 44, rfl⟩
abbrev main_call0_v18 : Ref sig .tc := ⟨.hbm, 45, rfl⟩
abbrev main_call0_cst_3 : Ref sig .tc := ⟨.hbm, 46, rfl⟩
abbrev main_call0_v19 : Ref sig .tc := ⟨.hbm, 47, rfl⟩
abbrev main_call0_v20 : Ref sig .tc := ⟨.hbm, 48, rfl⟩
abbrev main_call0_v21 : Ref sig .tc := ⟨.hbm, 49, rfl⟩
abbrev main_v20_1 : Ref sig .tc := ⟨.hbm, 50, rfl⟩
abbrev main_call0_cst_4 : Ref sig .tc := ⟨.hbm, 51, rfl⟩
abbrev main_call0_cst_5 : Ref sig .tc := ⟨.hbm, 52, rfl⟩
abbrev main_call0_v23 : Ref sig .tc := ⟨.hbm, 53, rfl⟩
abbrev main_call0_cst_6 : Ref sig .tc := ⟨.hbm, 54, rfl⟩
abbrev main_call0_cst_7 : Ref sig .tc := ⟨.hbm, 55, rfl⟩
abbrev main_call0_v24 : Ref sig .tc := ⟨.hbm, 56, rfl⟩
abbrev main_call0_cst_8 : Ref sig .tc := ⟨.hbm, 57, rfl⟩
abbrev main_call0_v25 : Ref sig .tc := ⟨.hbm, 58, rfl⟩
abbrev main_call0_v26 : Ref sig .tc := ⟨.hbm, 59, rfl⟩
abbrev main_call0_cst_9 : Ref sig .tc := ⟨.hbm, 60, rfl⟩
abbrev main_call0_v27 : Ref sig .tc := ⟨.hbm, 61, rfl⟩
abbrev main_call0_v28 : Ref sig .tc := ⟨.hbm, 62, rfl⟩
abbrev main_call0_v29 : Ref sig .tc := ⟨.hbm, 63, rfl⟩
abbrev main_call0_v30 : Ref sig .tc := ⟨.hbm, 64, rfl⟩
abbrev main_call0_v31 : Ref sig .tc := ⟨.hbm, 65, rfl⟩
abbrev main_call0_cst_10 : Ref sig .tc := ⟨.hbm, 66, rfl⟩
abbrev main_call0_v32 : Ref sig .tc := ⟨.hbm, 67, rfl⟩
abbrev main_v20_2 : Ref sig .tc := ⟨.hbm, 68, rfl⟩
abbrev main_v21 : Ref sig .tc := ⟨.hbm, 69, rfl⟩
abbrev main_cst_0 : Ref sig .tc := ⟨.hbm, 70, rfl⟩
abbrev main_call1_v0 : Ref sig .tc := ⟨.hbm, 71, rfl⟩
abbrev main_v22_1 : Ref sig .tc := ⟨.hbm, 72, rfl⟩
abbrev main_call1_v2 : Ref sig .tc := ⟨.hbm, 73, rfl⟩
abbrev main_v22_0 : Ref sig .tc := ⟨.hbm, 74, rfl⟩
abbrev main_call1_cst : Ref sig .tc := ⟨.hbm, 75, rfl⟩
abbrev main_v22_2 : Ref sig .tc := ⟨.hbm, 76, rfl⟩
abbrev main_call2_cst : Ref sig .tc := ⟨.hbm, 77, rfl⟩
abbrev main_call2_v0 : Ref sig .tc := ⟨.hbm, 78, rfl⟩
abbrev main_v23 : Ref sig .tc := ⟨.hbm, 79, rfl⟩
abbrev main_v24 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v25_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v25_2 : Ref sig .tc := ⟨.hbm, 127, rfl⟩
abbrev main_v25_0 : Ref sig .tc := ⟨.hbm, 128, rfl⟩
abbrev main_v26 : Ref sig .tc := ⟨.hbm, 129, rfl⟩
abbrev main_v27 : Ref sig .tc := ⟨.hbm, 130, rfl⟩
abbrev main_cst_1 : Ref sig .tc := ⟨.hbm, 131, rfl⟩
abbrev main_call4_v0 : Ref sig .tc := ⟨.hbm, 132, rfl⟩
abbrev main_v28_1 : Ref sig .tc := ⟨.hbm, 133, rfl⟩
abbrev main_call4_v2 : Ref sig .tc := ⟨.hbm, 134, rfl⟩
abbrev main_v28_0 : Ref sig .tc := ⟨.hbm, 135, rfl⟩
abbrev main_call4_cst : Ref sig .tc := ⟨.hbm, 136, rfl⟩
abbrev main_v28_2 : Ref sig .tc := ⟨.hbm, 137, rfl⟩
abbrev main_v29 : Ref sig .tc := ⟨.hbm, 138, rfl⟩
abbrev main_v30 : Ref sig .tc := ⟨.hbm, 139, rfl⟩
abbrev main_v31 : Ref sig .tc := ⟨.hbm, 140, rfl⟩
abbrev main_call5_v0 : Ref sig .tc := ⟨.hbm, 141, rfl⟩
abbrev main_call5_v1 : Ref sig .tc := ⟨.hbm, 142, rfl⟩
abbrev main_call5_cst : Ref sig .tc := ⟨.hbm, 143, rfl⟩
abbrev main_call5_v2 : Ref sig .tc := ⟨.hbm, 144, rfl⟩
abbrev main_call5_v3 : Ref sig .tc := ⟨.hbm, 145, rfl⟩
abbrev main_call5_cst_0 : Ref sig .tc := ⟨.hbm, 146, rfl⟩
abbrev main_call5_v4 : Ref sig .tc := ⟨.hbm, 147, rfl⟩
abbrev main_v32_2 : Ref sig .tc := ⟨.hbm, 148, rfl⟩
abbrev main_call5_cst_1 : Ref sig .tc := ⟨.hbm, 149, rfl⟩
abbrev main_call5_v6 : Ref sig .tc := ⟨.hbm, 150, rfl⟩
abbrev main_call5_v7 : Ref sig .tc := ⟨.hbm, 151, rfl⟩
abbrev main_v32_1 : Ref sig .tc := ⟨.hbm, 152, rfl⟩
abbrev main_v32_0 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_v36 : Ref sig .tc := ⟨.hbm, 157, rfl⟩
abbrev main_call6_v0 : Ref sig .tc := ⟨.hbm, 158, rfl⟩
abbrev main_call6_v1 : Ref sig .tc := ⟨.hbm, 159, rfl⟩
abbrev main_call6_v2 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_v41 : Ref sig .tc := ⟨.hbm, 165, rfl⟩
abbrev main_v42 : Ref sig .tc := ⟨.hbm, 166, rfl⟩
abbrev main_call7_cst : Ref sig .tc := ⟨.hbm, 167, rfl⟩
abbrev main_call7_v0 : Ref sig .tc := ⟨.hbm, 168, rfl⟩
abbrev main_v43 : Ref sig .tc := ⟨.hbm, 169, rfl⟩
abbrev main_v44 : Ref sig .tc := ⟨.hbm, 170, rfl⟩
abbrev main_call8_v0 : Ref sig .tc := ⟨.hbm, 171, rfl⟩
abbrev main_call8_v1 : Ref sig .tc := ⟨.hbm, 172, rfl⟩
abbrev main_v45 : Ref sig .tc := ⟨.hbm, 173, rfl⟩
abbrev main_v46 : Ref sig .tc := ⟨.hbm, 174, rfl⟩
abbrev main_call9_cst : Ref sig .tc := ⟨.hbm, 175, rfl⟩
abbrev main_call9_v0 : Ref sig .tc := ⟨.hbm, 176, rfl⟩
abbrev main_v47 : Ref sig .tc := ⟨.hbm, 177, rfl⟩
abbrev main_v48 : Ref sig .tc := ⟨.hbm, 178, rfl⟩
abbrev main_call10_cst : Ref sig .tc := ⟨.hbm, 179, rfl⟩
abbrev main_call10_v0 : Ref sig .tc := ⟨.hbm, 180, rfl⟩
abbrev main_v49 : Ref sig .tc := ⟨.hbm, 181, rfl⟩
abbrev main_v50 : Ref sig .tc := ⟨.hbm, 182, rfl⟩
abbrev main_v51 : Ref sig .tc := ⟨.hbm, 183, rfl⟩
abbrev main_v52 : Ref sig .tc := ⟨.hbm, 184, rfl⟩
abbrev main_cst_2 : Ref sig .tc := ⟨.hbm, 185, rfl⟩
abbrev main_v53 : Ref sig .tc := ⟨.hbm, 186, rfl⟩
abbrev main_v54 : Ref sig .tc := ⟨.hbm, 187, rfl⟩
abbrev main_v55 : Ref sig .tc := ⟨.hbm, 188, rfl⟩
abbrev main_v56 : Ref sig .tc := ⟨.hbm, 189, rfl⟩
abbrev main_v57 : Ref sig .tc := ⟨.hbm, 190, rfl⟩
abbrev main_v58 : Ref sig .tc := ⟨.hbm, 191, rfl⟩
abbrev main_v59 : Ref sig .tc := ⟨.hbm, 192, rfl⟩
abbrev main_v60 : Ref sig .tc := ⟨.hbm, 193, rfl⟩
abbrev main_v61 : Ref sig .tc := ⟨.hbm, 194, rfl⟩
abbrev main_v62 : Ref sig .tc := ⟨.hbm, 195, rfl⟩

abbrev nD : Nat := 1
abbrev τ : Topo := Topo.v7x

variable {F : FTy → Type} [FloatOps F]
-- ==== Kernel2.lean ====
abbrev S4096x3712 : Shape := ⟨2, ![4096, 3712]⟩
abbrev S4x3712x1024 : Shape := ⟨3, ![4, 3712, 1024]⟩
abbrev S4096x1024 : Shape := ⟨2, ![4096, 1024]⟩
abbrev S1x1024 : Shape := ⟨2, ![1, 1024]⟩
abbrev S512x3712 : Shape := ⟨2, ![512, 3712]⟩
abbrev S1x3712x1024 : Shape := ⟨3, ![1, 3712, 1024]⟩
abbrev S512x1024 : Shape := ⟨2, ![512, 1024]⟩
abbrev S3712x1024 : Shape := ⟨2, ![3712, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x3712, .f32⟩
  | .hbm, ⟨1, _⟩ => ⟨S4x3712x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x3712, .bf16⟩
  | .hbm, ⟨6, _⟩ => ⟨S4x3712x1024, .bf16⟩
  | .hbm, ⟨7, _⟩ => ⟨S4096x1024, .f32⟩
  | .hbm, ⟨8, _⟩ => ⟨S1x1024, .f32⟩
  | .local _ .vmem, ⟨0, _⟩ => ⟨S512x3712, .bf16⟩
  | .local _ .vmem, ⟨1, _⟩ => ⟨S512x3712, .bf16⟩
  | .local _ .vmem, ⟨2, _⟩ => ⟨S1x3712x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3712x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S4096x3712 : Shape := ⟨2, ![4096, 3712]⟩
abbrev S4x3712x1024 : Shape := ⟨3, ![4, 3712, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x3712x1024 : Shape := ⟨3, ![1, 3712, 1024]⟩
abbrev S3712x1024 : Shape := ⟨2, ![3712, 1024]⟩
abbrev S1024x3712 : Shape := ⟨2, ![1024, 3712]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x3712, .f32⟩
  | .hbm, ⟨1, _⟩ => ⟨S4x3712x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1x3712x1024, .f32⟩
  | .hbm, ⟨25, _⟩ => ⟨S3712x1024, .f32⟩
  | .hbm, ⟨26, _⟩ => ⟨S1024x3712, .f32⟩
  | .hbm, ⟨27, _⟩ => ⟨S4096x3712, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S4096x3712 : Shape := ⟨2, ![4096, 3712]⟩
abbrev S4x3584x1024 : Shape := ⟨3, ![4, 3584, 1024]⟩
abbrev S4x128x1024 : Shape := ⟨3, ![4, 128, 1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩
abbrev S1024x1792 : Shape := ⟨2, ![1024, 1792]⟩
abbrev S1024x128 : Shape := ⟨2, ![1024, 128]⟩
abbrev S1x1792x1024 : Shape := ⟨3, ![1, 1792, 1024]⟩
abbrev S1x128x1024 : Shape := ⟨3, ![1, 128, 1024]⟩
abbrev S1792x1024 : Shape := ⟨2, ![1792, 1024]⟩
abbrev S128x1024 : Shape := ⟨2, ![128, 1024]⟩

abbrev nBuf : Space → Nat
  | .hbm => 24
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3712, .f32⟩
  | .hbm, ⟨3, _⟩ => ⟨S4x3584x1024, .f32⟩
  | .hbm, ⟨4, _⟩ => ⟨S4x128x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x3712, .bf16⟩
  | .hbm, ⟨22, _⟩ => ⟨S4x3584x1024, .f32⟩
  | .hbm, ⟨23, _⟩ => ⟨S4x128x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x128, .bf16⟩
  | .local _ .vmem, ⟨5, _⟩ => ⟨S1024x128, .bf16⟩
  | .local _ .vmem, ⟨6, _⟩ => ⟨S1x1792x1024, .f32⟩
  | .local _ .vmem, ⟨7, _⟩ => ⟨S1x1792x1024, .f32⟩
  | .local _ .vmem, ⟨8, _⟩ => ⟨S1x128x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let arg0 : BitVec 32 := BitVec.ofNat 32 (i 0).val
  let c0_i32_2 : BitVec 32 := 0#32
  let v4 : BitVec 1 := Scalar.cmpi .eq arg0 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_13 : BitVec 32 := 0#32
  let v19 : BitVec 1 := Scalar.cmpi .eq arg0 c0_i32_13
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let c0_i32 : BitVec 32 := 0#32
  ![arg1.toNat, c28_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1792x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== Reference3Ideal.lean ====
abbrev S4096x1024 : Shape := ⟨2, ![4096, 1024]⟩
abbrev S1x1024 : Shape := ⟨2, ![1, 1024]⟩
abbrev S4096x3712 : Shape := ⟨2, ![4096, 3712]⟩
abbrev S4x3584x1024 : Shape := ⟨3, ![4, 3584, 1024]⟩
abbrev S4x128x1024 : Shape := ⟨3, ![4, 128, 1024]⟩
abbrev S_ : Shape := ⟨0, ![]⟩
abbrev S3712x1024 : Shape := ⟨2, ![3712, 1024]⟩
abbrev S4096 : Shape := ⟨1, ![4096]⟩
abbrev S4096x1 : Shape := ⟨2, ![4096, 1]⟩
abbrev S1024x3712 : Shape := ⟨2, ![1024, 3712]⟩
abbrev S3584x1024 : Shape := ⟨2, ![3584, 1024]⟩
abbrev S1 : Shape := ⟨1, ![1]⟩
abbrev S128x1024 : Shape := ⟨2, ![128, 1024]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x3712, .f32⟩
  | .hbm, ⟨3, _⟩ => ⟨S4x3584x1024, .f32⟩
  | .hbm, ⟨4, _⟩ => ⟨S4x128x1024, .f32⟩
  | .hbm, ⟨5, _⟩ => ⟨S_, .f32⟩
  | .hbm, ⟨6, _⟩ => ⟨S3712x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x3712, .f32⟩
  | .hbm, ⟨23, _⟩ => ⟨S4096x3712, .f32⟩
  | .hbm, ⟨24, _⟩ => ⟨S3712x1024, .f32⟩
  | .hbm, ⟨25, _⟩ => ⟨S1024x3712, .f32⟩
  | .hbm, ⟨26, _⟩ => ⟨S3712x1024, .f32⟩
  | .hbm, ⟨27, _⟩ => ⟨S3584x1024, .f32⟩
  | .hbm, ⟨28, _⟩ => ⟨S_, .i32⟩
  | .hbm, ⟨29, _⟩ => ⟨S1, .i32⟩
  | .hbm, ⟨30, _⟩ => ⟨S4x3584x1024, .f32⟩
  | .hbm, ⟨31, _⟩ => ⟨S128x1024, .f32⟩
  | .hbm, ⟨32, _⟩ => ⟨S_, .i32⟩
  | .hbm, ⟨33, _⟩ => ⟨S1, .i32⟩
  | .hbm, ⟨34, _⟩ => ⟨S4x128x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_3 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel4.lean ====
abbrev S4096x1024 : Shape := ⟨2, ![4096, 1024]⟩
abbrev S4096x512 : Shape := ⟨2, ![4096, 512]⟩
abbrev S4096x256 : Shape := ⟨2, ![4096, 256]⟩
abbrev S4x1024x1024 : Shape := ⟨3, ![4, 1024, 1024]⟩
abbrev S1024x1024 : Shape := ⟨2, ![1024, 1024]⟩
abbrev S1024x512 : Shape := ⟨2, ![1024, 512]⟩
abbrev S1024x256 : Shape := ⟨2, ![1024, 256]⟩
abbrev S1x1024x1024 : Shape := ⟨3, ![1, 1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4x1024x1024, .f32⟩
  | .hbm, ⟨5, _⟩ => ⟨S4x1024x1024, .f32⟩
  | .hbm, ⟨6, _⟩ => ⟨S4096x512, .bf16⟩
  | .hbm, ⟨7, _⟩ => ⟨S4096x256, .bf16⟩
  | .hbm, ⟨8, _⟩ => ⟨S4096x256, .bf16⟩
  | .hbm, ⟨9, _⟩ => ⟨S4x1024x1024, .bf16⟩
  | .hbm, ⟨10, _⟩ => ⟨S4096x1024, .f32⟩
  | .hbm, ⟨11, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S4096x512 : Shape := ⟨2, ![4096, 512]⟩
abbrev S4096x256 : Shape := ⟨2, ![4096, 256]⟩
abbrev S4x1024x1024 : Shape := ⟨3, ![4, 1024, 1024]⟩
abbrev S1x1024x1024 : Shape := ⟨3, ![1, 1024, 1024]⟩
abbrev S1024x1024 : Shape := ⟨2, ![1024, 1024]⟩
abbrev S_ : Shape := ⟨0, ![]⟩
abbrev S1 : Shape := ⟨1, ![1]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4x1024x1024, .f32⟩
  | .hbm, ⟨5, _⟩ => ⟨S4x1024x1024, .f32⟩
  | .hbm, ⟨6, _⟩ => ⟨S4096x1024, .f32⟩
  | .hbm, ⟨7, _⟩ => ⟨S1x1024x1024, .f32⟩
  | .hbm, ⟨8, _⟩ => ⟨S1024x1024, .f32⟩
  | .hbm, ⟨9, _⟩ => ⟨S4096x1024, .f32⟩
  | .hbm, ⟨10, _⟩ => ⟨S1024x1024, .f32⟩
  | .hbm, ⟨11, _⟩ => ⟨S1024x1024, .f32⟩
  | .hbm, ⟨12, _⟩ => ⟨S4096x1024, .f32⟩
  | .hbm, ⟨13, _⟩ => ⟨S_, .i32⟩
  | .hbm, ⟨14, _⟩ => ⟨S1, .i32⟩
  | .hbm, ⟨15, _⟩ => ⟨S4x1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4x3712x1024 : Shape := ⟨3, ![4, 3712, 1024]⟩
abbrev S4096x3584 : Shape := ⟨2, ![4096, 3584]⟩
abbrev S4096x128 : Shape := ⟨2, ![4096, 128]⟩
abbrev S1024x1024 : Shape := ⟨2, ![1024, 1024]⟩
abbrev S1x1792x1024 : Shape := ⟨3, ![1, 1792, 1024]⟩
abbrev S1x128x1024 : Shape := ⟨3, ![1, 128, 1024]⟩
abbrev S1024x1792 : Shape := ⟨2, ![1024, 1792]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩
abbrev S1792x1024 : Shape := ⟨2, ![1792, 1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x3712x1024, .f32⟩
  | .hbm, ⟨3, _⟩ => ⟨S4x3712x1024, .bf16⟩
  | .hbm, ⟨4, _⟩ => ⟨S4096x3584, .f32⟩
  | .hbm, ⟨5, _⟩ => ⟨S4096x128, .f32⟩
  | .hbm, ⟨6, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1792x1024, .bf16⟩
  | .local _ .vmem, ⟨4, _⟩ => ⟨S1x1792x1024, .bf16⟩
  | .local _ .vmem, ⟨5, _⟩ => ⟨S1x128x1024, .bf16⟩
  | .local _ .vmem, ⟨6, _⟩ => ⟨S1024x1792, .f32⟩
  | .local _ .vmem, ⟨7, _⟩ => ⟨S1024x1792, .f32⟩
  | .local _ .vmem, ⟨8, _⟩ => ⟨S1024x128, .f32⟩
  | .local _ .vmem, ⟨9, _⟩ => ⟨S1024x128, .f32⟩
  | .local _ .vmem, ⟨10, _⟩ => ⟨S1024x1024, .bf16⟩
  | .local _ .vmem, ⟨11, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c28_i32 : BitVec 32 := 28#32
  let c0_i32_0 : BitVec 32 := 0#32
  let c0_i32_1 : BitVec 32 := 0#32
  ![c0_i32.toNat, c28_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1792x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference5Ideal.lean ====
abbrev S4096x1024 : Shape := ⟨2, ![4096, 1024]⟩
abbrev S1x1024 : Shape := ⟨2, ![1, 1024]⟩
abbrev S4x3712x1024 : Shape := ⟨3, ![4, 3712, 1024]⟩
abbrev S_ : Shape := ⟨0, ![]⟩
abbrev S4096 : Shape := ⟨1, ![4096]⟩
abbrev S4096x1 : Shape := ⟨2, ![4096, 1]⟩
abbrev S1x3712x1024 : Shape := ⟨3, ![1, 3712, 1024]⟩
abbrev S3712x1024 : Shape := ⟨2, ![3712, 1024]⟩
abbrev S1024x3712 : Shape := ⟨2, ![1024, 3712]⟩
abbrev S4096x3712 : Shape := ⟨2, ![4096, 3712]⟩
abbrev S4096x3584 : Shape := ⟨2, ![4096, 3584]⟩
abbrev S4096x128 : Shape := ⟨2, ![4096, 128]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4x3712x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x3712x1024, .f32⟩
  | .hbm, ⟨19, _⟩ => ⟨S3712x1024, .f32⟩
  | .hbm, ⟨20, _⟩ => ⟨S1024x3712, .f32⟩
  | .hbm, ⟨21, _⟩ => ⟨S4096x3712, .f32⟩
  | .hbm, ⟨22, _⟩ => ⟨S4096x3584, .f32⟩
  | .hbm, ⟨23, _⟩ => ⟨S4096x128, .f32⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel6.lean ====
abbrev S4096x1024 : Shape := ⟨2, ![4096, 1024]⟩
abbrev S4096x512 : Shape := ⟨2, ![4096, 512]⟩
abbrev S4096x256 : Shape := ⟨2, ![4096, 256]⟩
abbrev S4x1024x1024 : Shape := ⟨3, ![4, 1024, 1024]⟩
abbrev S1024x1024 : Shape := ⟨2, ![1024, 1024]⟩
abbrev S1024x512 : Shape := ⟨2, ![1024, 512]⟩
abbrev S1024x256 : Shape := ⟨2, ![1024, 256]⟩
abbrev S1x1024x1024 : Shape := ⟨3, ![1, 1024, 1024]⟩
abbrev S1x512x1024 : Shape := ⟨3, ![1, 512, 1024]⟩
abbrev S512x1024 : Shape := ⟨2, ![512, 1024]⟩
abbrev S1x256x1024 : Shape := ⟨3, ![1, 256, 1024]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4x1024x1024, .f32⟩
  | .hbm, ⟨5, _⟩ => ⟨S4096x512, .bf16⟩
  | .hbm, ⟨6, _⟩ => ⟨S4096x256, .bf16⟩
  | .hbm, ⟨7, _⟩ => ⟨S4096x256, .bf16⟩
  | .hbm, ⟨8, _⟩ => ⟨S4x1024x1024, .bf16⟩
  | .hbm, ⟨9, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1x1024x1024, .bf16⟩
  | .local _ .vmem, ⟨9, _⟩ => ⟨S1024x1024, .f32⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4096x1024 : Shape := ⟨2, ![4096, 1024]⟩
abbrev S4096x512 : Shape := ⟨2, ![4096, 512]⟩
abbrev S4096x256 : Shape := ⟨2, ![4096, 256]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x256, .f32⟩
  | .hbm, ⟨3, _⟩ => ⟨S4096x256, .f32⟩
  | .hbm, ⟨4, _⟩ => ⟨S4x1024x1024, .f32⟩
  | .hbm, ⟨5, _⟩ => ⟨S4096x1024, .f32⟩
  | .hbm, ⟨6, _⟩ => ⟨S1x1024x1024, .f32⟩
  | .hbm, ⟨7, _⟩ => ⟨S1024x1024, .f32⟩
  | .hbm, ⟨8, _⟩ => ⟨S4096x1024, .f32⟩
  | .hbm, ⟨9, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel7.lean ====
abbrev S4096x512 : Shape := ⟨2, ![4096, 512]⟩
abbrev S4096x8 : Shape := ⟨2, ![4096, 8]⟩
abbrev S4096x3584 : Shape := ⟨2, ![4096, 3584]⟩
abbrev S4096x1024 : Shape := ⟨2, ![4096, 1024]⟩
abbrev S64 : Shape := ⟨1, ![64]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4x2x64 : Shape := ⟨4, ![4096, 4, 2, 64]⟩
abbrev S4096x8x1 : Shape := ⟨3, ![4096, 8, 1]⟩
abbrev S4096x8x3 : Shape := ⟨3, ![4096, 8, 3]⟩
abbrev S4096x4x1x64 : Shape := ⟨4, ![4096, 4, 1, 64]⟩
abbrev S4096x4x64 : Shape := ⟨3, ![4096, 4, 64]⟩
abbrev S4096x4x128 : Shape := ⟨3, ![4096, 4, 128]⟩
abbrev S1x128 : Shape := ⟨2, ![1, 128]⟩
abbrev S4x8x4096 : Shape := ⟨3, ![4, 8, 4096]⟩
abbrev S4x4096x128 : Shape := ⟨3, ![4, 4096, 128]⟩
abbrev S1024x128 : Shape := ⟨2, ![1024, 128]⟩
abbrev S4096x128 : Shape := ⟨2, ![4096, 128]⟩
abbrev S1x8x4096 : Shape := ⟨3, ![1, 8, 4096]⟩
abbrev S1x1024x128 : Shape := ⟨3, ![1, 1024, 128]⟩
abbrev S1024 : Shape := ⟨1, ![1024]⟩
abbrev S1024x1 : Shape := ⟨2, ![1024, 1]⟩
abbrev S256x128 : Shape := ⟨2, ![256, 128]⟩
abbrev S1024x256 : Shape := ⟨2, ![1024, 256]⟩
abbrev S1x1x256 : Shape := ⟨3, ![1, 1, 256]⟩
abbrev S1x256 : Shape := ⟨2, ![1, 256]⟩
abbrev S256 : Shape := ⟨1, ![256]⟩
abbrev S2048x256 : Shape := ⟨2, ![2048, 256]⟩
abbrev S2048x128 : Shape := ⟨2, ![2048, 128]⟩
abbrev S512x128 : Shape := ⟨2, ![512, 128]⟩
abbrev S1024x512 : Shape := ⟨2, ![1024, 512]⟩
abbrev S768x256 : Shape := ⟨2, ![768, 256]⟩
abbrev S768x128 : Shape := ⟨2, ![768, 128]⟩
abbrev S768x1 : Shape := ⟨2, ![768, 1]⟩
abbrev S768 : Shape := ⟨1, ![768]⟩
abbrev S256x1 : Shape := ⟨2, ![256, 1]⟩
abbrev S1536x256 : Shape := ⟨2, ![1536, 256]⟩
abbrev S1536x128 : Shape := ⟨2, ![1536, 128]⟩
abbrev S768x512 : Shape := ⟨2, ![768, 512]⟩
abbrev S512x256 : Shape := ⟨2, ![512, 256]⟩
abbrev S512x1 : Shape := ⟨2, ![512, 1]⟩
abbrev S512 : Shape := ⟨1, ![512]⟩
abbrev S512x512 : Shape := ⟨2, ![512, 512]⟩
abbrev S256x256 : Shape := ⟨2, ![256, 256]⟩
abbrev S256x512 : Shape := ⟨2, ![256, 512]⟩
abbrev S1x1024x1 : Shape := ⟨3, ![1, 1024, 1]⟩
abbrev S1 : Shape := ⟨1, ![1]⟩
abbrev S1x1x1 : Shape := ⟨3, ![1, 1, 1]⟩
abbrev S1x1x128 : Shape := ⟨3, ![1, 1, 128]⟩
abbrev S16x128 : Shape := ⟨2, ![16, 128]⟩
abbrev S16 : Shape := ⟨1, ![16]⟩
abbrev S16x1 : Shape := ⟨2, ![16, 1]⟩
abbrev S1x16x1 : Shape := ⟨3, ![1, 16, 1]⟩
abbrev S1x1x512 : Shape := ⟨3, ![1, 1, 512]⟩
abbrev S1x512 : Shape := ⟨2, ![1, 512]⟩
abbrev S2048x512 : Shape := ⟨2, ![2048, 512]⟩
abbrev S1024x1024 : Shape := ⟨2, ![1024, 1024]⟩

abbrev nBuf : Space → Nat
  | .hbm => 150
  | .vmem => 29
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x3584, .f32⟩
  | 5 => ⟨S4096x1024, .f32⟩
  | 6 => ⟨S64, .f32⟩
  | 7 => ⟨S64, .f32⟩
  | 8 => ⟨S4096x8x64, .f32⟩
  | 9 => ⟨S8x4096x64, .f32⟩
  | 10 => ⟨S4096x8x64, .f32⟩
  | 11 => ⟨S8x4096x64, .f32⟩
  | 12 => ⟨S8x4096x4096, .f32⟩
  | 13 => ⟨S_, .f32⟩
  | 14 => ⟨S8x4096x4096, .f32⟩
  | 15 => ⟨S8x4096x4096, .f32⟩
  | 16 => ⟨S8x4096, .f32⟩
  | 17 => ⟨S8x4096x1, .f32⟩
  | 18 => ⟨S8x4096, .f32⟩
  | 19 => ⟨S8x1x4096, .f32⟩
  | 20 => ⟨S8x4096x4096, .f32⟩
  | 21 => ⟨S8x4096x4096, .f32⟩
  | 22 => ⟨S8x4096x4096, .f32⟩
  | 23 => ⟨S8x4096x4096, .f32⟩
  | 24 => ⟨S4096, .i32⟩
  | 25 => ⟨S1x4096, .i32⟩
  | 26 => ⟨S4096x1, .i32⟩
  | 27 => ⟨S4096x4096, .i32⟩
  | 28 => ⟨S4096x4096, .i32⟩
  | 29 => ⟨S4096x4096, .i1⟩
  | 30 => ⟨S_, .f32⟩
  | 31 => ⟨S_, .f32⟩
  | 32 => ⟨S8x4096x4096, .i1⟩
  | 33 => ⟨S8x4096x4096, .f32⟩
  | 34 => ⟨S8x4096x4096, .f32⟩
  | 35 => ⟨S_, .f32⟩
  | 36 => ⟨S8x4096, .f32⟩
  | 37 => ⟨S8x4096x1, .f32⟩
  | 38 => ⟨S8x4096x4096, .f32⟩
  | 39 => ⟨S8x4096x4096, .f32⟩
  | 40 => ⟨S8x4096x4096, .f32⟩
  | 41 => ⟨S_, .f32⟩
  | 42 => ⟨S8x4096, .f32⟩
  | 43 => ⟨S8x4096, .f32⟩
  | 44 => ⟨S8x4096, .f32⟩
  | 45 => ⟨S4096x8, .f32⟩
  | 46 => ⟨S4096x8, .f32⟩
  | 47 => ⟨S4096x4x2x64, .f32⟩
  | 48 => ⟨S4096x8, .f32⟩
  | 49 => ⟨S4096x8, .bf16⟩
  | 50 => ⟨S4096x8, .f32⟩
  | 51 => ⟨S4096x8, .f32⟩
  | 52 => ⟨S4096x8, .bf16⟩
  | 53 => ⟨S4096x8, .f32⟩
  | 54 => ⟨S4096x8, .f32⟩
  | 55 => ⟨S4096x8, .bf16⟩
  | 56 => ⟨S4096x8x1, .bf16⟩
  | 57 => ⟨S4096x8x1, .bf16⟩
  | 58 => ⟨S4096x8x1, .bf16⟩
  | 59 => ⟨S4096x8x3, .bf16⟩
  | 60 => ⟨S_, .i32⟩
  | 61 => ⟨S_, .bf16⟩
  | 62 => ⟨S4096x8x64, .bf16⟩
  | 63 => ⟨S4096x4x2x64, .bf16⟩
  | 64 => ⟨S4096x4x1x64, .f32⟩
  | 65 => ⟨S4096x4x64, .f32⟩
  | 66 => ⟨S4096x4x1x64, .bf16⟩
  | 67 => ⟨S4096x4x64, .bf16⟩
  | 68 => ⟨S4096x4x64, .f32⟩
  | 69 => ⟨S4096x4x128, .f32⟩
  | 70 => ⟨S4096x512, .f32⟩
  | 71 => ⟨S4096x4x1x64, .bf16⟩
  | 72 => ⟨S4096x4x64, .bf16⟩
  | 73 => ⟨S4096x4x1x64, .f32⟩
  | 74 => ⟨S4096x4x64, .f32⟩
  | 75 => ⟨S4096x4x64, .f32⟩
  | 76 => ⟨S4096x4x128, .f32⟩
  | 77 => ⟨S4096x512, .f32⟩
  | 78 => ⟨S64, .f32⟩
  | 79 => ⟨S_, .f32⟩
  | 80 => ⟨S_, .f32⟩
  | 81 => ⟨S_, .f32⟩
  | 82 => ⟨S_, .f32⟩
  | 83 => ⟨S64, .f32⟩
  | 84 => ⟨S_, .f32⟩
  | 85 => ⟨S_, .f32⟩
  | 86 => ⟨S_, .f32⟩
  | 87 => ⟨S_, .f32⟩
  | 88 => ⟨S4096x512, .f32⟩
  | 89 => ⟨S4096x512, .f32⟩
  | 90 => ⟨S4096x512, .bf16⟩
  | 91 => ⟨S4096x512, .bf16⟩
  | 92 => ⟨S4096x512, .bf16⟩
  | 93 => ⟨S4096x512, .bf16⟩
  | 94 => ⟨S4096x8x64, .f32⟩
  | 95 => ⟨S8x4096x64, .f32⟩
  | 96 => ⟨S4096x8x64, .f32⟩
  | 97 => ⟨S8x4096x64, .f32⟩
  | 98 => ⟨S8x4096x4096, .f32⟩
  | 99 => ⟨S_, .f32⟩
  | 100 => ⟨S8x4096x4096, .f32⟩
  | 101 => ⟨S8x4096x4096, .f32⟩
  | 102 => ⟨S8x4096, .f32⟩
  | 103 => ⟨S8x4096x1, .f32⟩
  | 104 => ⟨S8x4096, .f32⟩
  | 105 => ⟨S8x1x4096, .f32⟩
  | 106 => ⟨S8x4096x4096, .f32⟩
  | 107 => ⟨S8x4096x4096, .f32⟩
  | 108 => ⟨S8x4096x4096, .f32⟩
  | 109 => ⟨S8x4096x4096, .f32⟩
  | 110 => ⟨S4096, .i32⟩
  | 111 => ⟨S1x4096, .i32⟩
  | 112 => ⟨S4096x1, .i32⟩
  | 113 => ⟨S4096x4096, .i32⟩
  | 114 => ⟨S4096x4096, .i32⟩
  | 115 => ⟨S4096x4096, .i1⟩
  | 116 => ⟨S_, .f32⟩
  | 117 => ⟨S_, .f32⟩
  | 118 => ⟨S8x4096x4096, .i1⟩
  | 119 => ⟨S8x4096x4096, .f32⟩
  | 120 => ⟨S8x4096x4096, .f32⟩
  | 121 => ⟨S_, .f32⟩
  | 122 => ⟨S8x4096, .f32⟩
  | 123 => ⟨S_, .f32⟩
  | 124 => ⟨S8x4096, .f32⟩
  | 125 => ⟨S8x4096, .f32⟩
  | 126 => ⟨S8x4096x1, .f32⟩
  | 127 => ⟨S8x4096x4096, .f32⟩
  | _ => ⟨S4096x512, .f32⟩

abbrev hbmTy0_1 (i : Nat) : BufTy := match i % 128 with
  | 0 => ⟨S8x4096x4096, .f32⟩
  | 1 => ⟨S8x4096x4096, .f32⟩
  | 2 => ⟨S_, .f32⟩
  | 3 => ⟨S8x4096, .f32⟩
  | 4 => ⟨S8x4096x1, .f32⟩
  | 5 => ⟨S8x4096x4096, .f32⟩
  | 6 => ⟨S8x4096x4096, .f32⟩
  | 7 => ⟨S4096x8x64, .f32⟩
  | 8 => ⟨S8x4096x64, .f32⟩
  | 9 => ⟨S8x4096x64, .f32⟩
  | 10 => ⟨S4096x8x64, .f32⟩
  | 11 => ⟨S4096x512, .f32⟩
  | 12 => ⟨S4096x8x1, .f32⟩
  | 13 => ⟨S4096x8x64, .f32⟩
  | 14 => ⟨S4096x512, .f32⟩
  | 15 => ⟨S1x128, .f32⟩
  | 16 => ⟨S4096x512, .f32⟩
  | 17 => ⟨S4096x512, .f32⟩
  | 18 => ⟨S4096x512, .f32⟩
  | 19 => ⟨S4096x512, .f32⟩
  | 20 => ⟨S4x8x4096, .f32⟩
  | 21 => ⟨S4x4096x128, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x128, .f32⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S1024x128, .f32⟩
  | .local _ .vmem, ⟨24, _⟩ => ⟨S1024x128, .f32⟩
  | .local _ .vmem, ⟨25, _⟩ => ⟨S1x8x4096, .f32⟩
  | .local _ .vmem, ⟨26, _⟩ => ⟨S1x8x4096, .f32⟩
  | .local _ .vmem, ⟨27, _⟩ => ⟨S1x1024x128, .f32⟩
  | .local _ .vmem, ⟨28, _⟩ => ⟨S1x1024x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c : Ref sig .tc := ⟨.hbm, 60, rfl⟩
abbrev main_call1_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_cst_4 : Ref sig .tc := ⟨.hbm, 81, rfl⟩
abbrev main_v63 : Ref sig .tc := ⟨.hbm, 82, rfl⟩
abbrev main_v64 : Ref sig .tc := ⟨.hbm, 83, rfl⟩
abbrev main_cst_5 : Ref sig .tc := ⟨.hbm, 84, rfl⟩
abbrev main_v65 : Ref sig .tc := ⟨.hbm, 85, rfl⟩
abbrev main_v66 : Ref sig .tc := ⟨.hbm, 86, rfl⟩
abbrev main_cst_6 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_7 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_8 : Ref sig .tc := ⟨.hbm, 116, rfl⟩
abbrev main_call2_v0 : Ref sig .tc := ⟨.hbm, 117, rfl⟩
abbrev main_call2_v1 : Ref sig .tc := ⟨.hbm, 118, rfl⟩
abbrev main_call2_v2 : Ref sig .tc := ⟨.hbm, 119, rfl⟩
abbrev main_v94 : Ref sig .tc := ⟨.hbm, 120, rfl⟩
abbrev main_cst_9 : Ref sig .tc := ⟨.hbm, 121, rfl⟩
abbrev main_v95 : Ref sig .tc := ⟨.hbm, 122, rfl⟩
abbrev main_cst_10 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_11 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115_0 : Ref sig .tc := ⟨.hbm, 144, rfl⟩
abbrev main_v115_1 : Ref sig .tc := ⟨.hbm, 145, rfl⟩
abbrev main_v115_2 : Ref sig .tc := ⟨.hbm, 146, rfl⟩
abbrev main_v115_3 : Ref sig .tc := ⟨.hbm, 147, rfl⟩
abbrev main_v115_4 : Ref sig .tc := ⟨.hbm, 148, rfl⟩
abbrev main_v115_5 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v109 : BitVec 32 := Scalar.muli arg1 c1024_i32
  let c0_i32_38 : BitVec 32 := 0#32
  let v110 : BitVec 32 := Scalar.addi v109 c0_i32_38
  v110
def k0_off1 (i : grid0.Coords) (c0_i32_38 : BitVec 32) : Fin 2 → Nat :=
  let arg1 : BitVec 32 := BitVec.ofNat 32 (i 1).val
  let c1024_i32 : BitVec 32 := 1024#32
  let v109 : BitVec 32 := Scalar.muli arg1 c1024_i32
  let v110 : BitVec 32 := Scalar.addi v109 c0_i32_38
  let v111 : BitVec 32 := v110
  let v112 : Index := Scalar.indexCast v111
  let c0_39 : Index := 0#32
  ![v112.toNat, 0]
def k0_off2 (i : grid0.Coords) (c0_i32_38 : BitVec 32) : Fin 3 → Nat :=
  let c0_49 : Index := 0#32
  let c0_50 : Index := 0#32
  let arg1 : BitVec 32 := BitVec.ofNat 32 (i 1).val
  let c1024_i32 : BitVec 32 := 1024#32
  let v109 : BitVec 32 := Scalar.muli arg1 c1024_i32
  let v110 : BitVec 32 := Scalar.addi v109 c0_i32_38
  let v111 : BitVec 32 := v110
  let v142 : Index := Scalar.indexCast v111
  ![0, 0, v142.toNat]
def k0_off3 (i : grid0.Coords) (c0_i32_38 : BitVec 32) : Fin 3 → Nat :=
  let c0_56 : Index := 0#32
  let c1 : Index := 1#32
  let arg1 : BitVec 32 := BitVec.ofNat 32 (i 1).val
  let c1024_i32 : BitVec 32 := 1024#32
  let v109 : BitVec 32 := Scalar.muli arg1 c1024_i32
  let v110 : BitVec 32 := Scalar.addi v109 c0_i32_38
  let v111 : BitVec 32 := v110
  let v165 : Index := Scalar.indexCast v111
  ![0, 1, v165.toNat]
def k0_mult2 (i : grid0.Coords) : BitVec 32 :=
  let arg1 : BitVec 32 := BitVec.ofNat 32 (i 1).val
  let c1024_i32_72 : BitVec 32 := 1024#32
  let v216 : BitVec 32 := Scalar.muli arg1 c1024_i32_72
  let c256_i32 : BitVec 32 := 256#32
  let v217 : BitVec 32 := Scalar.addi v216 c256_i32
  v217
def k0_mult3 (i : grid0.Coords) : BitVec 32 :=
  let arg1 : BitVec 32 := BitVec.ofNat 32 (i 1).val
  let c1024_i32_107 : BitVec 32 := 1024#32
  let v344 : BitVec 32 := Scalar.muli arg1 c1024_i32_107
  let c512_i32 : BitVec 32 := 512#32
  let v345 : BitVec 32 := Scalar.addi v344 c512_i32
  v345
def k0_mult4 (i : grid0.Coords) : BitVec 32 :=
  let arg1 : BitVec 32 := BitVec.ofNat 32 (i 1).val
  let c1024_i32_142 : BitVec 32 := 1024#32
  let v472 : BitVec 32 := Scalar.muli arg1 c1024_i32_142
  let c768_i32 : BitVec 32 := 768#32
  let v473 : BitVec 32 := Scalar.addi v472 c768_i32
  v473
def k0_mult5 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  v655

def k0_off4 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  let v656 : BitVec 32 := v655
  let v657 : Index := Scalar.indexCast v656
  let c0_200 : Index := 0#32
  ![v657.toNat, 0]
def k0_mult6 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_207 : BitVec 32 := 1#32
  let v680 : BitVec 32 := Scalar.subi v625 c1_i32_207
  let v681 : BitVec 32 := Scalar.subi v680 arg17
  let c0_i32_208 : BitVec 32 := 0#32
  let v682 : BitVec 32 := Scalar.maxsi v681 c0_i32_208
  let c512_i32_209 : BitVec 32 := 512#32
  let v683 : BitVec 32 := Scalar.muli v682 c512_i32_209
  let c512_i32_210 : BitVec 32 := 512#32
  let v684 : BitVec 32 := Scalar.addi v683 c512_i32_210
  let c16_i32_211 : BitVec 32 := 16#32
  let v685 : BitVec 32 := Scalar.subi v684 c16_i32_211
  v685

def k0_chk1 (i : grid0.Coords) (arg17 : BitVec 32) : Prop :=
  (16 ∣ (k0_mult5 i arg17).toNat) ∧
  (∀ a, (k0_off4 i arg17) a + S16x128.size a ≤ S4096x128.size a) ∧
  (16 ∣ (k0_mult6 i arg17).toNat)
theorem k0_mult5_dvd : ∀ (i : grid0.Coords) (arg17 : BitVec 32) (k0_hw1 : k0_chk1 i arg17), 16 ∣ (k0_mult5 i arg17).toNat := fun i arg17 k0_hw1 => k0_hw1.1
theorem k0_off4_inb : ∀ (i : grid0.Coords) (arg17 : BitVec 32) (k0_hw1 : k0_chk1 i arg17), ∀ a, (k0_off4 i arg17) a + S16x128.size a ≤ S4096x128.size a := fun i arg17 k0_hw1 => k0_hw1.2.1
theorem k0_mult6_dvd : ∀ (i : grid0.Coords) (arg17 : BitVec 32) (k0_hw1 : k0_chk1 i arg17), 16 ∣ (k0_mult6 i arg17).toNat := fun i arg17 k0_hw1 => k0_hw1.2.2

def k0_mult7 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  v652

def k0_off5 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v654 : Index := Scalar.indexCast v653
  let c0_199 : Index := 0#32
  ![v654.toNat, 0]
def k0_off6 (i : grid0.Coords) (arg17 : BitVec 32) : Fin 3 → Nat :=
  let c0_206 : Index := 0#32
  let c0_207 : Index := 0#32
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v673 : Index := Scalar.indexCast v653
  ![0, 0, v673.toNat]
def k0_off7 (i : grid0.Coords) (arg17 : BitVec 32) : Fin 3 → Nat :=
  let c0_212 : Index := 0#32
  let c1_213 : Index := 1#32
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v694 : Index := Scalar.indexCast v653
  ![0, 1, v694.toNat]

def k0_chk2 (i : grid0.Coords) (arg17 : BitVec 32) : Prop :=
  (512 ∣ (k0_mult7 i arg17).toNat) ∧
  (∀ a, (k0_off5 i arg17) a + S512x128.size a ≤ S4096x128.size a) ∧
  (∀ a, (k0_off6 i arg17) a + S1x1x512.size a ≤ S1x8x4096.size a) ∧
  (∀ a, (k0_off7 i arg17) a + S1x1x512.size a ≤ S1x8x4096.size a)
theorem k0_mult7_dvd : ∀ (i : grid0.Coords) (arg17 : BitVec 32) (k0_hw2 : k0_chk2 i arg17), 512 ∣ (k0_mult7 i arg17).toNat := fun i arg17 k0_hw2 => k0_hw2.1
theorem k0_off5_inb : ∀ (i : grid0.Coords) (arg17 : BitVec 32) (k0_hw2 : k0_chk2 i arg17), ∀ a, (k0_off5 i arg17) a + S512x128.size a ≤ S4096x128.size a := fun i arg17 k0_hw2 => k0_hw2.2.1
theorem k0_off6_inb : ∀ (i : grid0.Coords) (arg17 : BitVec 32) (k0_hw2 : k0_chk2 i arg17), ∀ a, (k0_off6 i arg17) a + S1x1x512.size a ≤ S1x8x4096.size a := fun i arg17 k0_hw2 => k0_hw2.2.2.1
theorem k0_off7_inb : ∀ (i : grid0.Coords) (arg17 : BitVec 32) (k0_hw2 : k0_chk2 i arg17), ∀ a, (k0_off7 i arg17) a + S1x1x512.size a ≤ S1x8x4096.size a := fun i arg17 k0_hw2 => k0_hw2.2.2.2

def k0_mult8 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  v655

def k0_off8 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  let v656 : BitVec 32 := v655
  let v657 : Index := Scalar.indexCast v656
  let c0_200 : Index := 0#32
  ![v657.toNat, 0]

def k0_chk3 (i : grid0.Coords) (arg17 : BitVec 32) : Prop :=
  (16 ∣ (k0_mult8 i arg17).toNat) ∧
  (∀ a, (k0_off8 i arg17) a + S16x128.size a ≤ S4096x128.size a)
theorem k0_mult8_dvd : ∀ (i : grid0.Coords) (arg17 : BitVec 32) (k0_hw3 : k0_chk3 i arg17), 16 ∣ (k0_mult8 i arg17).toNat := fun i arg17 k0_hw3 => k0_hw3.1
theorem k0_off8_inb : ∀ (i : grid0.Coords) (arg17 : BitVec 32) (k0_hw3 : k0_chk3 i arg17), ∀ a, (k0_off8 i arg17) a + S16x128.size a ≤ S4096x128.size a := fun i arg17 k0_hw3 => k0_hw3.2

def k0_mult9 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  v652

def k0_off9 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v654 : Index := Scalar.indexCast v653
  let c0_199 : Index := 0#32
  ![v654.toNat, 0]
def k0_off10 (i : grid0.Coords) (arg17 : BitVec 32) : Fin 3 → Nat :=
  let c0_203 : Index := 0#32
  let c0_204 : Index := 0#32
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v668 : Index := Scalar.indexCast v653
  ![0, 0, v668.toNat]

def k0_chk4 (i : grid0.Coords) (arg17 : BitVec 32) : Prop :=
  (512 ∣ (k0_mult9 i arg17).toNat) ∧
  (∀ a, (k0_off9 i arg17) a + S512x128.size a ≤ S4096x128.size a) ∧
  (∀ a, (k0_off10 i arg17) a + S1x1x512.size a ≤ S1x8x4096.size a)
theorem k0_mult9_dvd : ∀ (i : grid0.Coords) (arg17 : BitVec 32) (k0_hw4 : k0_chk4 i arg17), 512 ∣ (k0_mult9 i arg17).toNat := fun i arg17 k0_hw4 => k0_hw4.1
theorem k0_off9_inb : ∀ (i : grid0.Coords) (arg17 : BitVec 32) (k0_hw4 : k0_chk4 i arg17), ∀ a, (k0_off9 i arg17) a + S512x128.size a ≤ S4096x128.size a := fun i arg17 k0_hw4 => k0_hw4.2.1
theorem k0_off10_inb : ∀ (i : grid0.Coords) (arg17 : BitVec 32) (k0_hw4 : k0_chk4 i arg17), ∀ a, (k0_off10 i arg17) a + S1x1x512.size a ≤ S1x8x4096.size a := fun i arg17 k0_hw4 => k0_hw4.2.2

def k0_mult10 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  v655

def k0_off11 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_196 : BitVec 32 := 1#32
  let v650 : BitVec 32 := Scalar.subi v625 c1_i32_196
  let v651 : BitVec 32 := Scalar.subi v650 arg17
  let c0_i32_197 : BitVec 32 := 0#32
  let v652 : BitVec 32 := Scalar.maxsi v651 c0_i32_197
  let c512_i32_198 : BitVec 32 := 512#32
  let v653 : BitVec 32 := Scalar.muli v652 c512_i32_198
  let c512_i32_199 : BitVec 32 := 512#32
  let v654 : BitVec 32 := Scalar.addi v653 c512_i32_199
  let c16_i32 : BitVec 32 := 16#32
  let v655 : BitVec 32 := Scalar.subi v654 c16_i32
  let v656 : BitVec 32 := v655
  let v657 : Index := Scalar.indexCast v656
  let c0_200 : Index := 0#32
  ![v657.toNat, 0]

def k0_chk5 (i : grid0.Coords) (arg17 : BitVec 32) : Prop :=
  (16 ∣ (k0_mult10 i arg17).toNat) ∧
  (∀ a, (k0_off11 i arg17) a + S16x128.size a ≤ S4096x128.size a)
theorem k0_mult10_dvd : ∀ (i : grid0.Coords) (arg17 : BitVec 32) (k0_hw5 : k0_chk5 i arg17), 16 ∣ (k0_mult10 i arg17).toNat := fun i arg17 k0_hw5 => k0_hw5.1
theorem k0_off11_inb : ∀ (i : grid0.Coords) (arg17 : BitVec 32) (k0_hw5 : k0_chk5 i arg17), ∀ a, (k0_off11 i arg17) a + S16x128.size a ≤ S4096x128.size a := fun i arg17 k0_hw5 => k0_hw5.2

def k0_mult11 (i : grid0.Coords) (arg17 : BitVec 32) : BitVec 32 :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  v652

def k0_off12 (i : grid0.Coords) (arg17 : BitVec 32) : Fin 2 → Nat :=
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v654 : Index := Scalar.indexCast v653
  let c0_199 : Index := 0#32
  ![v654.toNat, 0]
def k0_off13 (i : grid0.Coords) (arg17 : BitVec 32) : Fin 3 → Nat :=
  let c0_203 : Index := 0#32
  let c1_204 : Index := 1#32
  let arg1 : BitVec 32 := BitVec.ofNat 32 (i 1).val
  let c1024_i32_179 : BitVec 32 := 1024#32
  let v608 : BitVec 32 := Scalar.muli arg1 c1024_i32_179
  let c0_i32_181 : BitVec 32 := 0#32
  let v610 : BitVec 1 := Scalar.cmpi .sgt v608 c0_i32_181
  let v611 : BitVec 32 := Scalar.extui v610
  let c0_i32_182 : BitVec 32 := 0#32
  let v612 : BitVec 1 := Scalar.cmpi .slt v608 c0_i32_182
  let v613 : BitVec 32 := Scalar.extui v612
  let v614 : BitVec 32 := Scalar.subi v611 v613
  let c512_i32_180 : BitVec 32 := 512#32
  let c0_i32_183 : BitVec 32 := 0#32
  let v615 : BitVec 1 := Scalar.cmpi .sgt c512_i32_180 c0_i32_183
  let v616 : BitVec 32 := Scalar.extui v615
  let c0_i32_184 : BitVec 32 := 0#32
  let v617 : BitVec 1 := Scalar.cmpi .slt c512_i32_180 c0_i32_184
  let v618 : BitVec 32 := Scalar.extui v617
  let v619 : BitVec 32 := Scalar.subi v616 v618
  let v620 : BitVec 1 := Scalar.cmpi .ne v614 v619
  let v621 : BitVec 32 := Scalar.remsi v608 c512_i32_180
  let c0_i32_185 : BitVec 32 := 0#32
  let v622 : BitVec 1 := Scalar.cmpi .ne v621 c0_i32_185
  let v623 : BitVec 1 := Scalar.andi v620 v622
  let v609 : BitVec 32 := Scalar.divsi v608 c512_i32_180
  let c1_i32 : BitVec 32 := 1#32
  let v624 : BitVec 32 := Scalar.subi v609 c1_i32
  let v625 : BitVec 32 := Scalar.select v623 v624 v609
  let c1_i32_197 : BitVec 32 := 1#32
  let v650 : BitVec 32 := Scalar.subi v625 c1_i32_197
  let v651 : BitVec 32 := Scalar.subi v650 arg17
  let c512_i32_198 : BitVec 32 := 512#32
  let v652 : BitVec 32 := Scalar.muli v651 c512_i32_198
  let v653 : BitVec 32 := v652
  let v668 : Index := Scalar.indexCast v653
  ![0, 1, v668.toNat]

def k0_chk6 (i : grid0.Coords) (arg17 : BitVec 32) : Prop :=
  (512 ∣ (k0_mult11 i arg17).toNat) ∧
  (∀ a, (k0_off12 i arg17) a + S512x128.size a ≤ S4096x128.size a) ∧
  (∀ a, (k0_off13 i arg17) a + S1x1x512.size a ≤ S1x8x4096.size a)
theorem k0_mult11_dvd : ∀ (i : grid0.Coords) (arg17 : BitVec 32) (k0_hw6 : k0_chk6 i arg17), 512 ∣ (k0_mult11 i arg17).toNat := fun i arg17 k0_hw6 => k0_hw6.1
theorem k0_off12_inb : ∀ (i : grid0.Coords) (arg17 : BitVec 32) (k0_hw6 : k0_chk6 i arg17), ∀ a, (k0_off12 i arg17) a + S512x128.size a ≤ S4096x128.size a := fun i arg17 k0_hw6 => k0_hw6.2.1
theorem k0_off13_inb : ∀ (i : grid0.Coords) (arg17 : BitVec 32) (k0_hw6 : k0_chk6 i arg17), ∀ a, (k0_off13 i arg17) a + S1x1x512.size a ≤ S1x8x4096.size a := fun i arg17 k0_hw6 => k0_hw6.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x1024x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel7Ideal.lean ====
variable {F : FTy → Type} [FloatOps F] [Named F]
def κ : String → Option EReal := fun
  | "dead" => some ⊥
  | "mask" => some ⊥
  | _ => none
-- ==== Reference7Ideal.lean ====
abbrev S4096x512 : Shape := ⟨2, ![4096, 512]⟩
abbrev S4096x8 : Shape := ⟨2, ![4096, 8]⟩
abbrev S4096x3584 : Shape := ⟨2, ![4096, 3584]⟩
abbrev S4096x1024 : Shape := ⟨2, ![4096, 1024]⟩
abbrev S64 : Shape := ⟨1, ![64]⟩
abbrev S4096x8x64 : Shape := ⟨3, ![4096, 8, 64]⟩
abbrev S8x4096x64 : Shape := ⟨3, ![8, 4096, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 135
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x8, .f32⟩
  | 4 => ⟨S4096x3584, .f32⟩
  | 5 => ⟨S4096x1024, .f32⟩
  | 6 => ⟨S64, .f32⟩
  | 7 => ⟨S64, .f32⟩
  | 8 => ⟨S4096x512, .f32⟩
  | 9 => ⟨S4096x8x64, .f32⟩
  | 10 => ⟨S8x4096x64, .f32⟩
  | 11 => ⟨S4096x8x64, .f32⟩
  | 12 => ⟨S8x4096x64, .f32⟩
  | 13 => ⟨S8x4096x4096, .f32⟩
  | 14 => ⟨S_, .f32⟩
  | 15 => ⟨S8x4096x4096, .f32⟩
  | 16 => ⟨S8x4096x4096, .f32⟩
  | 17 => ⟨S8x4096, .f32⟩
  | 18 => ⟨S8x4096x1, .f32⟩
  | 19 => ⟨S8x4096, .f32⟩
  | 20 => ⟨S8x1x4096, .f32⟩
  | 21 => ⟨S8x4096x4096, .f32⟩
  | 22 => ⟨S8x4096x4096, .f32⟩
  | 23 => ⟨S8x4096x4096, .f32⟩
  | 24 => ⟨S8x4096x4096, .f32⟩
  | 25 => ⟨S4096, .i32⟩
  | 26 => ⟨S1x4096, .i32⟩
  | 27 => ⟨S4096x1, .i32⟩
  | 28 => ⟨S4096x4096, .i32⟩
  | 29 => ⟨S4096x4096, .i32⟩
  | 30 => ⟨S4096x4096, .i1⟩
  | 31 => ⟨S_, .f32⟩
  | 32 => ⟨S_, .f32⟩
  | 33 => ⟨S8x4096x4096, .i1⟩
  | 34 => ⟨S8x4096x4096, .f32⟩
  | 35 => ⟨S8x4096x4096, .f32⟩
  | 36 => ⟨S_, .f32⟩
  | 37 => ⟨S8x4096x4096, .f32⟩
  | 38 => ⟨S_, .f32⟩
  | 39 => ⟨S8x4096, .f32⟩
  | 40 => ⟨S8x4096x1, .f32⟩
  | 41 => ⟨S8x4096x4096, .f32⟩
  | 42 => ⟨S8x4096x4096, .i1⟩
  | 43 => ⟨S8x4096x4096, .f32⟩
  | 44 => ⟨S_, .f32⟩
  | 45 => ⟨S8x4096, .f32⟩
  | 46 => ⟨S_, .f32⟩
  | 47 => ⟨S8x4096, .f32⟩
  | 48 => ⟨S8x4096, .f32⟩
  | 49 => ⟨S_, .f32⟩
  | 50 => ⟨S8x4096, .f32⟩
  | 51 => ⟨S8x4096, .i1⟩
  | 52 => ⟨S_, .f32⟩
  | 53 => ⟨S8x4096, .f32⟩
  | 54 => ⟨S8x4096, .i1⟩
  | 55 => ⟨S_, .f32⟩
  | 56 => ⟨S8x4096, .f32⟩
  | 57 => ⟨S_, .f32⟩
  | 58 => ⟨S8x4096, .f32⟩
  | 59 => ⟨S_, .f32⟩
  | 60 => ⟨S8x4096, .f32⟩
  | 61 => ⟨S8x4096, .f32⟩
  | 62 => ⟨S8x4096, .f32⟩
  | 63 => ⟨S8x4096x1, .f32⟩
  | 64 => ⟨S8x4096x4096, .f32⟩
  | 65 => ⟨S8x4096x4096, .f32⟩
  | 66 => ⟨S8x4096x4096, .f32⟩
  | 67 => ⟨S_, .f32⟩
  | 68 => ⟨S8x4096, .f32⟩
  | 69 => ⟨S8x4096x1, .f32⟩
  | 70 => ⟨S8x4096x4096, .f32⟩
  | 71 => ⟨S8x4096x4096, .f32⟩
  | 72 => ⟨S8x4096x1, .f32⟩
  | 73 => ⟨S_, .f32⟩
  | 74 => ⟨S8x4096x1, .f32⟩
  | 75 => ⟨S8x4096x1, .f32⟩
  | 76 => ⟨S4096x8x64, .f32⟩
  | 77 => ⟨S8x4096x64, .f32⟩
  | 78 => ⟨S8x4096x64, .f32⟩
  | 79 => ⟨S4096x8x64, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S_, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x8x64, .f32⟩
  | 103 => ⟨S8x4096x64, .f32⟩
  | 104 => ⟨S8x64x4096, .f32⟩
  | 105 => ⟨S8x4096x64, .f32⟩
  | 106 => ⟨S8x4096x4096, .f32⟩
  | 107 => ⟨S4096x8x64, .f32⟩
  | 108 => ⟨S4096x512, .f32⟩
  | 109 => ⟨S8x4096x4096, .f32⟩
  | 110 => ⟨S8x4096x4096, .f32⟩
  | 111 => ⟨S8x4096x4096, .f32⟩
  | 112 => ⟨S_, .f32⟩
  | 113 => ⟨S8x4096, .f32⟩
  | 114 => ⟨S8x4096x1, .f32⟩
  | 115 => ⟨S8x4096x1, .f32⟩
  | 116 => ⟨S8x4096x4096, .f32⟩
  | 117 => ⟨S8x4096x4096, .f32⟩
  | 118 => ⟨S_, .f32⟩
  | 119 => ⟨S8x4096, .f32⟩
  | 120 => ⟨S8x4096x4096, .f32⟩
  | 121 => ⟨S8x4096x4096, .f32⟩
  | 122 => ⟨S8x4096x4096, .f32⟩
  | 123 => ⟨S_, .f32⟩
  | 124 => ⟨S8x4096x4096, .f32⟩
  | 125 => ⟨S8x4096x4096, .f32⟩
  | 126 => ⟨S_, .f32⟩
  | 127 => ⟨S8x4096x4096, .f32⟩
  | _ => ⟨S4096x512, .f32⟩

abbrev hbmTy0_1 (i : Nat) : BufTy := match i % 128 with
  | 0 => ⟨S8x4096x4096, .f32⟩
  | 1 => ⟨S8x4096x64, .f32⟩
  | 2 => ⟨S8x4096x64, .f32⟩
  | 3 => ⟨S4096x8x64, .f32⟩
  | 4 => ⟨S4096x512, .f32⟩
  | 5 => ⟨S4096x8x64, .f32⟩
  | 6 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_call0_v0 : Ref sig .tc := ⟨.hbm, 32, rfl⟩
abbrev main_v22_1 : Ref sig .tc := ⟨.hbm, 33, rfl⟩
abbrev main_call0_v2 : Ref sig .tc := ⟨.hbm, 34, rfl⟩
abbrev main_v22_0 : Ref sig .tc := ⟨.hbm, 35, rfl⟩
abbrev main_call0_cst : Ref sig .tc := ⟨.hbm, 36, rfl⟩
abbrev main_v22_2 : Ref sig .tc := ⟨.hbm, 37, rfl⟩
abbrev main_cst_1 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_v0 : Ref sig .tc := ⟨.hbm, 81, rfl⟩
abbrev main_call1_v1 : Ref sig .tc := ⟨.hbm, 82, rfl⟩
abbrev main_call1_cst : Ref sig .tc := ⟨.hbm, 83, rfl⟩
abbrev main_call1_v2 : Ref sig .tc := ⟨.hbm, 84, rfl⟩
abbrev main_call1_v3 : Ref sig .tc := ⟨.hbm, 85, rfl⟩
abbrev main_call1_cst_0 : Ref sig .tc := ⟨.hbm, 86, rfl⟩
abbrev main_call1_v4 : Ref sig .tc := ⟨.hbm, 87, rfl⟩
abbrev main_v56_2 : Ref sig .tc := ⟨.hbm, 88, rfl⟩
abbrev main_call1_cst_1 : Ref sig .tc := ⟨.hbm, 89, rfl⟩
abbrev main_call1_v6 : Ref sig .tc := ⟨.hbm, 90, rfl⟩
abbrev main_call1_v7 : Ref sig .tc := ⟨.hbm, 91, rfl⟩
abbrev main_v56_1 : Ref sig .tc := ⟨.hbm, 92, rfl⟩
abbrev main_v56_0 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_11 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_cst_12 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call3_cst : Ref sig .tc := ⟨.hbm, 123, rfl⟩
abbrev main_call3_v0 : Ref sig .tc := ⟨.hbm, 124, rfl⟩
abbrev main_v81 : Ref sig .tc := ⟨.hbm, 125, rfl⟩
abbrev main_cst_13 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩

abbrev nD : Nat := 1
abbrev τ : Topo := Topo.v7x

variable {F : FTy → Type} [FloatOps F]
-- ==== Proof.Owns.lean ====
/-
  Loads and stores at a memref owned at its contents. A load through a rectangle gives the contents at the
  rectangle's positions; an unmasked store leaves the contents with the rectangle's part replaced
  (`Rect.overlay`). A kernel body run with these two rules leaves its buffers at plain functions of what
  they held, which is what the later modules compute with.
-/
module

public import Idealize.ShloMosaic.Lib.Memref
public import Idealize.ShloMosaic.Lib.Writes

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- What a load through the rectangle `r` gives at contents `X`. -/
def rows {s : Shape} {β : Type} (r : Rect s) (X : s.Idx → β) : r.shape.Idx → β := fun i => X (r.emb i)

/-- A load at a memref owned at `X`. -/
theorem wp_load_owns {cs : CoreSpace} {m : Memref sig c.2.kind cs s e} {r : Rect s} {hl : m.view.LoadsAt r.toLoadRect}
    {k : (r.toLoadRect.shape.Idx → Val e) → Prog (TpuEff nD τ sig Val Λ c.2) α} {q : PosShare TreeShare} {X : s.Idx → Val e} :
    owns c m q X
      ⊢ iprop((owns c m q X -∗ wp frame (wpE defs 𝒱 c bd) E (k (rows r X)) Q)
        -∗ wp frame (wpE defs 𝒱 c bd) E (.op (.load m r.toLoadRect hl) k) Q) := by
  unfold owns
  iintro ⟨%f, %hf, H⟩ Hk
  iapply (wp_load 𝒱 c bd E (m := m) (r := r.toLoadRect) (hl := hl) (k := k) (Q := Q) (q := q) (f := f) (S := m.view.set)
    (m.view.setOn_subset_set _)) $$ H
  iintro H
  have hr : m.view.readAt Val r.toLoadRect f = rows r X := by
    subst hf; rfl
  rw [hr]
  iapply Hk
  iexists f
  isplitr
  · ipureintro; exact hf
  iexact H

/-- An unmasked store at a memref owned at `X`. -/
theorem wp_store_owns {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} :
    owns c m fullShare X
      ⊢ iprop((owns c m fullShare (r.overlay X w) -∗ wp frame (wpE defs 𝒱 c bd) E (k ⟨⟩) Q)
        -∗ wp frame (wpE defs 𝒱 c bd) E (.op (.store m r w Finset.univ hx hm) k) Q) := by
  unfold owns
  iintro ⟨%f, %hf, H⟩ Hk
  iapply (wp_store 𝒱 c bd E (m := m) (r := r) (w := w) (Mk := Finset.univ) (hx := hx) (hm := hm) (k := k) (Q := Q) (f := f)
    (S := m.view.set) (by rw [View.setOn_univ]; exact m.view.set_slice_subset r)) $$ H
  iintro H
  iapply Hk
  iexists _
  isplitr; swap
  · iexact H
  ipureintro
  subst hf
  funext y
  by_cases hy : y ∈ r.set
  · obtain ⟨x, rfl⟩ := r.exists_idx_of_mem hy
    refine Eq.trans ?_ (Rect.overlay_emb r _ w x).symm
    exact View.read_slice_write_emb r f w (Finset.mem_univ x)
  · rw [Rect.overlay_of_not_mem r _ _ hy]
    exact View.read_slice_write_of_not_mem r f w Finset.univ (by rw [Rect.map_emb_univ]; exact hy)

end Cert.Proof

end
-- ==== Proof.Whole.lean ====
/-
  Rules for a kernel body whose loads and stores are of whole blocks, and for an output's buffer that a body leaves
  alone at some points of the grid. A load of a whole block gives the buffer's contents; a store of one replaces them.
  A buffer not written back since the point before holds what that point left in it, or what that point found in it.
-/
module

public import proofs.«01_k».proof.Proof.Owns
public import Idealize.ShloMosaic.Lib.Pipeline.FrameBody

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-! ### Whole blocks -/

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- The rectangle of a whole block leaves positions where they are. -/
theorem emb_whole {s : Shape} {o : Fin s.rank → ℕ} (ho : ∀ a, o a = 0) (h : ∀ a, o a + s.size a ≤ s.size a) (x : s.Idx) :
    (Rect.unit (s := s) o s.size h).emb x = x :=
  Rect.emb_eq_of_coords _ _ _ fun a => by
    show (x a).val = o a + 1 * (x a).val
    rw [ho a, Nat.zero_add, Nat.one_mul]

/-- A load of a whole block. -/
theorem wp_load_whole {cs : CoreSpace} {m : Memref sig c.2.kind cs s e} {o : Fin s.rank → ℕ} {h : ∀ a, o a + s.size a ≤ s.size a}
    (ho : ∀ a, o a = 0) {hl : m.view.LoadsAt (Rect.unit (s := s) o s.size h).toLoadRect}
    {k : (s.Idx → Val e) → Prog (TpuEff nD τ sig Val Λ c.2) α} {q : PosShare TreeShare} {X : s.Idx → Val e} :
    owns c m q X
      ⊢ iprop((owns c m q X -∗ wp frame (wpE defs 𝒱 c bd) E (k X) Q)
        -∗ wp frame (wpE defs 𝒱 c bd) E (.op (.load m (Rect.unit (s := s) o s.size h).toLoadRect hl) k) Q) := by
  have := wp_load_owns (defs := defs) 𝒱 c bd E (m := m) (r := Rect.unit (s := s) o s.size h) (hl := hl) (k := k) (q := q) (X := X) (Q := Q)
  have e : rows (Rect.unit (s := s) o s.size h) X = X := funext fun x => congrArg X (emb_whole ho h x)
  rwa [e] at this

/-- A store of a whole block. -/
theorem wp_store_whole {cs : CoreSpace} {m : Memref sig c.2.kind cs s e} {o : Fin s.rank → ℕ} {h : ∀ a, o a + s.size a ≤ s.size a}
    (ho : ∀ a, o a = 0) {w : s.Idx → Val e} {hx : (m.access (Rect.unit (s := s) o s.size h)).Stores Finset.univ}
    {hm : Finset.univ = Finset.univ ∨ ∀ a, (Rect.unit (s := s) o s.size h).stride a = 1}
    {k : PUnit → Prog (TpuEff nD τ sig Val Λ c.2) α} {X : s.Idx → Val e} :
    owns c m fullShare X
      ⊢ iprop((owns c m fullShare w -∗ wp frame (wpE defs 𝒱 c bd) E (k ⟨⟩) Q)
        -∗ wp frame (wpE defs 𝒱 c bd) E (.op (.store m (Rect.unit (s := s) o s.size h) w Finset.univ hx hm) k) Q) := by
  have := wp_store_owns (defs := defs) 𝒱 c bd E (m := m) (r := Rect.unit (s := s) o s.size h) (w := w) (hx := hx) (hm := hm) (k := k)
    (X := X) (Q := Q)
  have e : (Rect.unit (s := s) o s.size h).overlay X w = w := by
    funext x
    have := Rect.overlay_emb (Rect.unit (s := s) o s.size h) X w x
    rwa [emb_whole ho h x] at this
  rwa [e] at this

end Rules

/-! ### Buffers kept from point to point -/

section Kept

open Idealize.ShloMosaic.Pipeline

variable {nD : Nat} {τ : Topo} {sig : RefSig} {Ix : Type} [DecidableEq Ix]
variable {Val : EltTy → Type} {Name : Type} [DecidableEq Name]
variable {U : Type} [URA U]
variable {Lvl : Type} [Preorder Lvl] {Λ₀ : Labels} {cfg : Cfg sig Λ₀} {c : Dev nD}
variable (dat : Dat τ Val Ix Name U Lvl cfg c)

/-- A block that is never cut is filled whole, whatever the buffer held. -/
theorem fill_uncut {cfg : Cfg sig Λ₀} (w : Fin cfg.W) (i : cfg.grid.Coords) (h : ∀ a, (cfg.win w).clip i a = none) {β : Type}
    (d d' : (cfg.win w).block.Idx → β) (g : ((cfg.win w).xblock i).Idx → β) : (cfg.win w).fill i d g = (cfg.win w).fill i d' g := by
  funext j
  have hm : (cfg.win w).moved i j = true :=
    ((cfg.win w).moved_iff _ j).mpr fun a => by have := (j a).isLt; unfold Window.xsize; rw [h a]; exact this
  unfold Window.fill; rw [dif_pos hm, dif_pos hm]

/-- What an output's buffer holds, if the point before stored into it and did not write it back. -/
theorem before_stored (w : Fin cfg.W) (hw : (cfg.win w).isOut = true) (t : Fin cfg.N) (ht : t.val ≠ 0)
    (hfl : (cfg.win w).flush ⟨t.val - 1, Nat.lt_of_le_of_lt (Nat.sub_le _ _) t.isLt⟩ = false)
    (hl : cfg.idle w (cfg.grid.coords ⟨t.val - 1, Nat.lt_of_le_of_lt (Nat.sub_le _ _) t.isLt⟩) = false)
    (hclip : ∀ (i : cfg.grid.Coords) a, (cfg.win w).clip i a = none) (d) :
    dat.before w t d = dat.after w ⟨t.val - 1, Nat.lt_of_le_of_lt (Nat.sub_le _ _) t.isLt⟩ := by
  rw [dat.before_of_pos w t ht (by unfold Window.fetch; rw [hw]; rfl) d, hfl, if_neg Bool.false_ne_true]
  unfold Dat.left
  rw [hl]
  show dat.kept w _ d = _
  unfold Dat.kept
  rw [fill_uncut w _ (hclip _) d (dat.after w _), Window.fill_cut]

/-- What an output's buffer holds, if the point before left it alone and did not write it back. -/
theorem before_passed (w : Fin cfg.W) (hw : (cfg.win w).isOut = true) (t : Fin cfg.N) (ht : t.val ≠ 0)
    (hfl : (cfg.win w).flush ⟨t.val - 1, Nat.lt_of_le_of_lt (Nat.sub_le _ _) t.isLt⟩ = false)
    (hl : cfg.idle w (cfg.grid.coords ⟨t.val - 1, Nat.lt_of_le_of_lt (Nat.sub_le _ _) t.isLt⟩) = true) (d) :
    dat.before w t d = dat.before w ⟨t.val - 1, Nat.lt_of_le_of_lt (Nat.sub_le _ _) t.isLt⟩ d := by
  rw [dat.before_of_pos w t ht (by unfold Window.fetch; rw [hw]; rfl) d, hfl, if_neg Bool.false_ne_true]
  unfold Dat.left
  rw [hl]

/-- A buffer at what the point is said to leave is the point's postcondition for it, provided that where the body
    leaves it alone and it is not written back, that is what it held. -/
theorem leaves_of_owns (w : Fin cfg.W) (t : Fin cfg.N)
    (h : cfg.idle w (cfg.grid.coords t) = true → (cfg.win w).flush t = false → ∃ d, dat.before w t d = dat.after w t) :
    (owns (c.tc : Thread nD τ) ((cfg.win w).stage (cfg.slots t w)) fullShare (dat.after w t)
      : sProp (MT nD τ sig Ix Val Name U Lvl)) ⊢ dat.leavesExact w t := by
  unfold Dat.leavesExact
  cases hi : cfg.idle w (cfg.grid.coords t) with
  | false => exact BIBase.Entails.rfl
  | true =>
    cases hf : (cfg.win w).flush t with
    | true => exact BIBase.Entails.rfl
    | false =>
      obtain ⟨d, hd⟩ := h hi hf
      show _ ⊢ iprop(∃ d, owns (c.tc : Thread nD τ) ((cfg.win w).stage (cfg.slots t w)) fullShare (dat.before w t d))
      rw [← hd]
      iintro H
      iexists d
      iexact H

end Kept

end Cert.Proof

end
-- ==== Proof.Inp.Run.lean ====
/-
  The run of the forward input projection's kernel. At the first of a row block's two grid points the body norms the rows
  into the saved block and projects the last 128 columns; at both it projects one half of the other columns from the
  saved block, which the second point finds as the first left it.
-/
module

public import proofs.«01_k».proof.Proof.Whole
public import proofs.«01_k».proof.Proof.Gen.Kernel5Ideal.Frame
public import proofs.«01_k».proof.Proof.Gen.Kernel5Ideal.Launch
public import proofs.«01_k».proof.Proof.Gen.Kernel5Ideal.Skeleton
public import proofs.«01_k».proof.Proof.Gen.Kernel5Ideal.Points
public import Idealize.ShloMosaic.Lib.Claim

@[expose] public section

set_option maxRecDepth 16384

noncomputable section

namespace Cert.Proof.Inp

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2 : ∀ a, (![0, 0] : Fin 2 → ℕ) a = 0 := by decide
theorem off3 : ∀ a, (![0, 0, 0] : Fin 3 → ℕ) a = 0 := by decide

/-! ### The body -/

section Body

variable (i : grid0.Coords) (c : Dev nD)
  (a2 : Memref sig .tc .vmem S1024x1024 .f32) (h2 : a2.IsWhole) (a3 : Memref sig .tc .vmem S1x1024 .f32) (h3 : a3.IsWhole)
  (a4 : Memref sig .tc .vmem S1x1792x1024 .bf16) (h4 : a4.IsWhole) (a5 : Memref sig .tc .vmem S1x128x1024 .bf16) (h5 : a5.IsWhole)
  (a6 : Memref sig .tc .vmem S1024x1792 .f32) (h6 : a6.IsWhole) (a7 : Memref sig .tc .vmem S1024x128 .f32) (h7 : a7.IsWhole)
  (a8 : Memref sig .tc .vmem S1024x1024 .bf16) (h8 : a8.IsWhole)
  (x2 : Vec F S1024x1024 .f32) (x3 : Vec F S1x1024 .f32) (x4 : Vec F S1x1792x1024 .bf16) (x5 : Vec F S1x128x1024 .bf16)

/-- The seven buffers at their contents. -/
def bufs (x6 : Vec F S1024x1792 .f32) (x7 : Vec F S1024x128 .f32) (x8 : Vec F S1024x1024 .bf16) : sProp 𝕄 :=
  iprop(owns (c : Thread nD τ) a2 fullShare x2 ∗ owns (c : Thread nD τ) a3 fullShare x3 ∗ owns (c : Thread nD τ) a4 fullShare x4
    ∗ owns (c : Thread nD τ) a5 fullShare x5 ∗ owns (c : Thread nD τ) a6 fullShare x6 ∗ owns (c : Thread nD τ) a7 fullShare x7
    ∗ owns (c : Thread nD τ) a8 fullShare x8)

set_option maxHeartbeats 1600000 in
/-- The body where it norms the rows. -/
theorem body_first (hc : k0_cond1 i = 1#1) (E : Set ℕ) (x6 : Vec F S1024x1792 .f32) (x7 : Vec F S1024x128 .f32) (x8 : Vec F S1024x1024 .bf16)
    (Q : PUnit → sProp 𝕄) :
    iprop(bufs c a2 a3 a4 a5 a6 a7 a8 x2 x3 x4 x5 x6 x7 x8
      ∗ (bufs c a2 a3 a4 a5 a6 a7 a8 x2 x3 x4 x5 (k0_pay3 (k0_pay1 x2 x3) x4) (k0_pay2 x2 x3 x5) (k0_pay1 x2 x3) -∗ Q ⟨⟩))
    ⊢ wp frame (wpE (defs₀ (F := F)) Variants.none (c : Thread nD τ) none) E
        (cc0_inproj i a2 h2 a3 h3 a4 h4 a5 h5 a6 h6 a7 h7 a8 h8) Q := by
  simp only [cc0_inproj_eq_skeleton]; unfold cc0_inproj_skel
  simp only [dif_pos hc, Prog.lift, Prog.bind_op, Prog.bind_ret, Prog.pure_eq_ret]
  unfold bufs
  iintro ⟨⟨H2, H3, H4, H5, H6, H7, H8⟩, Hq⟩
  iapply (wp_load_whole Variants.none (c : Thread nD τ) none E off2) $$ H2; iintro H2
  iapply (wp_load_whole Variants.none (c : Thread nD τ) none E off2) $$ H3; iintro H3
  iapply (wp_load_whole Variants.none (c : Thread nD τ) none E off2) $$ H8; iintro H8
  iapply (wp_store_whole Variants.none (c : Thread nD τ) none E off2) $$ H8; iintro H8
  iapply (wp_load_whole Variants.none (c : Thread nD τ) none E off3) $$ H5; iintro H5
  iapply (wp_load_whole Variants.none (c : Thread nD τ) none E off2) $$ H7; iintro H7
  iapply (wp_store_whole Variants.none (c : Thread nD τ) none E off2) $$ H7; iintro H7
  iapply (wp_load_whole Variants.none (c : Thread nD τ) none E off2) $$ H8; iintro H8
  iapply (wp_load_whole Variants.none (c : Thread nD τ) none E off3) $$ H4; iintro H4
  iapply (wp_load_whole Variants.none (c : Thread nD τ) none E off2) $$ H6; iintro H6
  iapply (wp_store_whole Variants.none (c : Thread nD τ) none E off2) $$ H6; iintro H6
  rw [wp_ret]; imodintro
  iapply Hq
  isplitl [H2]; · iexact H2
  isplitl [H3]; · iexact H3
  isplitl [H4]; · iexact H4
  isplitl [H5]; · iexact H5
  isplitl [H6]; · iexact H6
  isplitl [H7]; · iexact H7
  iexact H8

set_option maxHeartbeats 1600000 in
/-- The body where it finds the rows normed. -/
theorem body_next (hc : ¬k0_cond1 i = 1#1) (E : Set ℕ) (x6 : Vec F S1024x1792 .f32) (x7 : Vec F S1024x128 .f32) (x8 : Vec F S1024x1024 .bf16)
    (Q : PUnit → sProp 𝕄) :
    iprop(bufs c a2 a3 a4 a5 a6 a7 a8 x2 x3 x4 x5 x6 x7 x8
      ∗ (bufs c a2 a3 a4 a5 a6 a7 a8 x2 x3 x4 x5 (k0_pay3 x8 x4) x7 x8 -∗ Q ⟨⟩))
    ⊢ wp frame (wpE (defs₀ (F := F)) Variants.none (c : Thread nD τ) none) E
        (cc0_inproj i a2 h2 a3 h3 a4 h4 a5 h5 a6 h6 a7 h7 a8 h8) Q := by
  simp only [cc0_inproj_eq_skeleton]; unfold cc0_inproj_skel
  simp only [dif_neg hc, Prog.lift, Prog.bind_op, Prog.bind_ret, Prog.pure_eq_ret]
  unfold bufs
  iintro ⟨⟨H2, H3, H4, H5, H6, H7, H8⟩, Hq⟩
  iapply (wp_load_whole Variants.none (c : Thread nD τ) none E off2) $$ H8; iintro H8
  iapply (wp_load_whole Variants.none (c : Thread nD τ) none E off3) $$ H4; iintro H4
  iapply (wp_load_whole Variants.none (c : Thread nD τ) none E off2) $$ H6; iintro H6
  iapply (wp_store_whole Variants.none (c : Thread nD τ) none E off2) $$ H6; iintro H6
  rw [wp_ret]; imodintro
  iapply Hq
  isplitl [H2]; · iexact H2
  isplitl [H3]; · iexact H3
  isplitl [H4]; · iexact H4
  isplitl [H5]; · iexact H5
  isplitl [H6]; · iexact H6
  isplitl [H7]; · iexact H7
  iexact H8

end Body

/-! ### What the windows' buffers hold -/

variable (m : (ℓ : Loc nD τ sig) → Buf (Elt F) ℓ) (ρ : Dev nD → PrngReg)

/-- The body norms the rows at the first of a row block's two points. -/
theorem first_iff (t : Fin cfg0.N) : k0_cond1 (grid0.coords t) = 1#1 ↔ t.val % 2 = 0 :=
  (by decide +kernel : ∀ t : Fin grid0.N, k0_cond1 (grid0.coords t) = 1#1 ↔ t.val % 2 = 0) t

/-- The first point of `t`'s row block. -/
def base (t : Fin cfg0.N) : Fin cfg0.N := ⟨t.val - t.val % 2, Nat.lt_of_le_of_lt (Nat.sub_le _ _) t.isLt⟩

theorem base_even (t : Fin cfg0.N) (h : t.val % 2 = 0) : base t = t := Fin.ext (by unfold base; dsimp only; omega)

theorem base_pred (t : Fin cfg0.N) (h : ¬t.val % 2 = 0) : base ⟨t.val - 1, Nat.lt_of_le_of_lt (Nat.sub_le _ _) t.isLt⟩ = base t :=
  Fin.ext (by unfold base; dsimp only; omega)

/-- The normed rows of `t`'s row block. -/
def hAt (c : Dev nD) (t : Fin cfg0.N) : Vec F S1024x1024 .bf16 := k0_pay1 (iblk m c 0 (base t)) (iblk m c 1 (base t))

/-- Their projection on the last columns. -/
def fAt (c : Dev nD) (t : Fin cfg0.N) : Vec F S1024x128 .f32 := k0_pay2 (iblk m c 0 (base t)) (iblk m c 1 (base t)) (iblk m c 3 (base t))

/-- Their projection on `t`'s half of the other columns. -/
def pAt (c : Dev nD) (t : Fin cfg0.N) : Vec F S1024x1792 .f32 := k0_pay3 (hAt m c t) (X0_2 m c t)

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => pAt m c t
    | ⟨5, _⟩ => fAt m c t
    | ⟨6, _⟩ => hAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = pAt m c t := by dsimp only [dats]
theorem after0_5 (c : Dev nD) (t : Fin cfg0.N) : (dats m 0 c).after 5 t = fAt m c t := by dsimp only [dats]
theorem after0_6 (c : Dev nD) (t : Fin cfg0.N) : (dats m 0 c).after 6 t = hAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Where the body leaves an output alone. -/
theorem idle_eq (t : Fin cfg0.N) (w : Fin cfg0.W) (hw : w = 5 ∨ w = 6) :
    cfg0.idle w (grid0.coords t) = !(k0_cond1 (grid0.coords t) == 1#1) := by
  rcases hw with rfl | rfl <;> rfl

theorem live_even (t : Fin cfg0.N) (w : Fin cfg0.W) (hw : w = 5 ∨ w = 6) (h : t.val % 2 = 0) : cfg0.idle w (grid0.coords t) = false := by
  rw [idle_eq t w hw, (first_iff t).mpr h]; rfl

/-- The second point finds the last columns' projection, -/
theorem before0_5 (c : Dev nD) (t : Fin cfg0.N) (h : ¬t.val % 2 = 0) (d) : (dats m 0 c).before 5 t d = fAt m c t := by
  rw [before_stored (dats m 0 c) 5 rfl t (by omega) (Bool.eq_false_iff.mpr fun e => by have := (flush0_5 _).mp e; dsimp only at this; omega)
    (live_even _ 5 (Or.inl rfl) (by dsimp only; omega)) (fun _ _ => rfl) d, after0_5]
  unfold fAt; rw [base_pred t h]

/-- and the normed rows, as the first left them. -/
theorem before0_6 (c : Dev nD) (t : Fin cfg0.N) (h : ¬t.val % 2 = 0) (d) : (dats m 0 c).before 6 t d = hAt m c t := by
  rw [before_stored (dats m 0 c) 6 rfl t (by omega) (Bool.eq_false_iff.mpr fun e => by have := (flush0_6 _).mp e; dsimp only at this; omega)
    (live_even _ 6 (Or.inr rfl) (by dsimp only; omega)) (fun _ _ => rfl) d, after0_6]
  unfold hAt; rw [base_pred t h]

/-! ### The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t
    ∗ (dats m 0 c).leavesExact 6 t)

/-- The second point writes back what it leaves alone. -/
theorem leaves5 (c : Dev nD) (t : Fin cfg0.N) :
    (owns (c : Thread nD τ) (st0_5 t) fullShare (fAt m c t) : sProp 𝕄) ⊢ (dats m 0 c).leavesExact 5 t := by
  rw [← after0_5]
  refine leaves_of_owns (dats m 0 c) 5 t fun hi hf => ?_
  exfalso
  have h : ¬t.val % 2 = 0 := fun h => Bool.false_ne_true ((live_even t 5 (Or.inl rfl) h).symm.trans hi)
  exact Bool.false_ne_true (hf.symm.trans ((flush0_5 t).mpr (by omega)))

theorem leaves6 (c : Dev nD) (t : Fin cfg0.N) :
    (owns (c : Thread nD τ) (st0_6 t) fullShare (hAt m c t) : sProp 𝕄) ⊢ (dats m 0 c).leavesExact 6 t := by
  rw [← after0_6]
  refine leaves_of_owns (dats m 0 c) 6 t fun hi hf => ?_
  exfalso
  have h : ¬t.val % 2 = 0 := fun h => Bool.false_ne_true ((live_even t 6 (Or.inr rfl) h).symm.trans hi)
  exact Bool.false_ne_true (hf.symm.trans ((flush0_6 t).mpr (by omega)))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  by_cases h0 : t.val % 2 = 0
  · have e4 : pAt m c t = k0_pay3 (k0_pay1 (iblk m c 0 t) (iblk m c 1 t)) (X0_2 m c t) := by unfold pAt hAt; rw [base_even t h0]
    have e5 : fAt m c t = k0_pay2 (iblk m c 0 t) (iblk m c 1 t) (iblk m c 3 t) := by unfold fAt; rw [base_even t h0]
    have e6 : hAt m c t = k0_pay1 (iblk m c 0 t) (iblk m c 1 t) := by unfold hAt; rw [base_even t h0]
    have l5 := leaves5 m c t
    have l6 := leaves6 m c t
    rw [e5] at l5
    rw [e6] at l6
    rw [e4]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_first (grid0.coords t) c _ _ _ _ _ _ _ _ _ _ _ _ _ _ (iblk m c 0 t) (iblk m c 1 t) (X0_2 m c t) (iblk m c 3 t)
      ((first_iff t).mpr h0) Set.univ ((dats m 0 c).before 4 t d4) ((dats m 0 c).before 5 t d5) ((dats m 0 c).before 6 t d6) _)
    unfold bufs
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply l5 $$ H5
    iapply l6 $$ H6
  · have l5 := leaves5 m c t
    have l6 := leaves6 m c t
    unfold pAt
    simp only [before0_5 m c t h0, before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body_next (grid0.coords t) c _ _ _ _ _ _ _ _ _ _ _ _ _ _ (iblk m c 0 t) (iblk m c 1 t) (X0_2 m c t) (iblk m c 3 t)
      (fun h => h0 ((first_iff t).mp h)) Set.univ ((dats m 0 c).before 4 t d4) (fAt m c t) (hAt m c t) _)
    unfold bufs
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iapply l5 $$ H5
    iapply l6 $$ H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- Every final state: the three results at the pipeline's final arrays, the arguments as launched. -/
theorem run_blocks : θ_run defs (onTc (τ := τ) (main (F := F))) ⟨m, fun _ => 0, ρ⟩ (fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_v1_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 4, (h.1.1 c).1 5, (h.1.1 c).1 6, h.2.1 c⟩) (θ_run_and (run_quiescent m ρ) (frame_main m ρ))

end Cert.Proof.Inp

end
-- ==== Proof.Dw.Run.lean ====
/-
  The run of the input projection's weight gradient. The kernel walks the two halves of the main columns, and for each the
  four row blocks: the half's buffer is cleared at the first row block and gains each block's product. The last 128 columns'
  buffer gains its products in the first half's walk only, and is handed on unchanged through the second.
-/
module

public import proofs.«01_k».proof.Proof.Whole
public import proofs.«01_k».proof.Proof.Gen.Kernel3Ideal.Frame
public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Claim

@[expose] public section

set_option maxRecDepth 16384

noncomputable section

namespace Cert.Proof.Dw

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem off2 : ∀ a, (![0, 0] : Fin 2 → ℕ) a = 0 := by decide
theorem off3 : ∀ a, (![0, 0, 0] : Fin 3 → ℕ) a = 0 := by decide

/-! ### The body -/

section Body

variable (i : grid0.Coords) (c : Dev nD)
  (a2 : Memref sig .tc .vmem S1024x1024 .bf16) (h2 : a2.IsWhole) (a3 : Memref sig .tc .vmem S1024x1792 .bf16) (h3 : a3.IsWhole)
  (a4 : Memref sig .tc .vmem S1024x128 .bf16) (h4 : a4.IsWhole) (a5 : Memref sig .tc .hbm S4x3584x1024 .f32) (h5 : a5.IsWhole)
  (a6 : Memref sig .tc .hbm S4x128x1024 .f32) (h6 : a6.IsWhole) (a7 : Memref sig .tc .vmem S1x1792x1024 .f32) (h7 : a7.IsWhole)
  (a8 : Memref sig .tc .vmem S1x128x1024 .f32) (h8 : a8.IsWhole)
  (x2 : Vec F S1024x1024 .bf16) (x3 : Vec F S1024x1792 .bf16) (x4 : Vec F S1024x128 .bf16)

/-- The five buffers at their contents. -/
def bufs (x7 : Vec F S1x1792x1024 .f32) (x8 : Vec F S1x128x1024 .f32) : sProp 𝕄 :=
  iprop(owns (c : Thread nD τ) a2 fullShare x2 ∗ owns (c : Thread nD τ) a3 fullShare x3 ∗ owns (c : Thread nD τ) a4 fullShare x4
    ∗ owns (c : Thread nD τ) a7 fullShare x7 ∗ owns (c : Thread nD τ) a8 fullShare x8)

/-- The first row block's condition, as the body computes it. -/
abbrev cond1 : BitVec 1 := Scalar.cmpi .ne (Scalar.extui (Scalar.cmpi .eq (BitVec.ofNat 32 (i 1).val) 0#32) : BitVec 32) 0#32

/-- What the half's buffer is left at, cleared first or not, -/
def next7 (b : Prop) [Decidable b] (x7 : Vec F S1x1792x1024 .f32) : Vec F S1x1792x1024 .f32 := k0_pay4 x2 (if b then k0_pay1 else x7) x3

/-- and the last columns' buffer, in the first half's walk. -/
def next8 (b b' : Prop) [Decidable b] [Decidable b'] (x8 : Vec F S1x128x1024 .f32) : Vec F S1x128x1024 .f32 :=
  if b' then k0_pay5 x2 (if b then k0_pay2 else x8) x4 else x8

set_option maxHeartbeats 3200000 in
/-- The body's run. -/
theorem body_run (b b' : Prop) [Decidable b] [Decidable b'] (hb1 : cond1 i = 1#1 ↔ b) (hb2 : k0_cond2 i = 1#1 ↔ b ∧ b')
    (hb3 : k0_cond3 i = 1#1 ↔ b') (E : Set ℕ) (x7 : Vec F S1x1792x1024 .f32) (x8 : Vec F S1x128x1024 .f32) (Q : PUnit → sProp 𝕄) :
    iprop(bufs c a2 a3 a4 a7 a8 x2 x3 x4 x7 x8
      ∗ (bufs c a2 a3 a4 a7 a8 x2 x3 x4 (next7 x2 x3 b x7) (next8 x2 x4 b b' x8) -∗ Q ⟨⟩))
    ⊢ wp frame (wpE (defs₀ (F := F)) Variants.none (c : Thread nD τ) none) E
        (cc0_inproj_dw i a2 h2 a3 h3 a4 h4 a5 h5 a6 h6 a7 h7 a8 h8) Q := by
  simp only [cc0_inproj_dw_eq_skeleton]; unfold cc0_inproj_dw_skel next7 next8
  by_cases h : b
  · by_cases h' : b'
    · have c1 : cond1 i = 1#1 := hb1.mpr h
      have c2 : k0_cond2 i = 1#1 := hb2.mpr ⟨h, h'⟩
      have c3 : k0_cond3 i = 1#1 := hb3.mpr h'
      simp only [dif_pos c1, dif_pos c2, dif_pos c3, if_pos h, if_pos h', Prog.lift, Prog.bind_op, Prog.bind_ret, Prog.pure_eq_ret]
      unfold bufs
      iintro ⟨⟨H2, H3, H4, H7, H8⟩, Hq⟩
      iapply (wp_load_whole Variants.none (c : Thread nD τ) none E off3) $$ H7; iintro H7
      iapply (wp_store_whole Variants.none (c : Thread nD τ) none E off3) $$ H7; iintro H7
      iapply (wp_load_whole Variants.none (c : Thread nD τ) none E off3) $$ H8; iintro H8
      iapply (wp_store_whole Variants.none (c : Thread nD τ) none E off3) $$ H8; iintro H8
      iapply (wp_load_whole Variants.none (c : Thread nD τ) none E off2) $$ H2; iintro H2
      iapply (wp_load_whole Variants.none (c : Thread nD τ) none E off3) $$ H7; iintro H7
      iapply (wp_load_whole Variants.none (c : Thread nD τ) none E off2) $$ H3; iintro H3
      iapply (wp_load_whole Variants.none (c : Thread nD τ) none E off3) $$ H7; iintro H7
      iapply (wp_store_whole Variants.none (c : Thread nD τ) none E off3) $$ H7; iintro H7
      iapply (wp_load_whole Variants.none (c : Thread nD τ) none E off3) $$ H8; iintro H8
      iapply (wp_load_whole Variants.none (c : Thread nD τ) none E off2) $$ H4; iintro H4
      iapply (wp_load_whole Variants.none (c : Thread nD τ) none E off3) $$ H8; iintro H8
      iapply (wp_store_whole Variants.none (c : Thread nD τ) none E off3) $$ H8; iintro H8
      rw [wp_ret]; imodintro
      iapply Hq
      isplitl [H2]; · iexact H2
      isplitl [H3]; · iexact H3
      isplitl [H4]; · iexact H4
      isplitl [H7]; · iexact H7
      iexact H8
    · have c1 : cond1 i = 1#1 := hb1.mpr h
      have c2 : ¬k0_cond2 i = 1#1 := fun e => h' (hb2.mp e).2
      have c3 : ¬k0_cond3 i = 1#1 := fun e => h' (hb3.mp e)
      simp only [dif_pos c1, dif_neg c2, dif_neg c3, if_pos h, if_neg h', Prog.lift, Prog.bind_op, Prog.bind_ret, Prog.pure_eq_ret]
      unfold bufs
      iintro ⟨⟨H2, H3, H4, H7, H8⟩, Hq⟩
      iapply (wp_load_whole Variants.none (c : Thread nD τ) none E off3) $$ H7; iintro H7
      iapply (wp_store_whole Variants.none (c : Thread nD τ) none E off3) $$ H7; iintro H7
      iapply (wp_load_whole Variants.none (c : Thread nD τ) none E off2) $$ H2; iintro H2
      iapply (wp_load_whole Variants.none (c : Thread nD τ) none E off3) $$ H7; iintro H7
      iapply (wp_load_whole Variants.none (c : Thread nD τ) none E off2) $$ H3; iintro H3
      iapply (wp_load_whole Variants.none (c : Thread nD τ) none E off3) $$ H7; iintro H7
      iapply (wp_store_whole Variants.none (c : Thread nD τ) none E off3) $$ H7; iintro H7
      rw [wp_ret]; imodintro
      iapply Hq
      isplitl [H2]; · iexact H2
      isplitl [H3]; · iexact H3
      isplitl [H4]; · iexact H4
      isplitl [H7]; · iexact H7
      iexact H8
  · by_cases h' : b'
    · have c1 : ¬cond1 i = 1#1 := fun e => h (hb1.mp e)
      have c2 : ¬k0_cond2 i = 1#1 := fun e => h (hb2.mp e).1
      have c3 : k0_cond3 i = 1#1 := hb3.mpr h'
      simp only [dif_neg c1, dif_neg c2, dif_pos c3, if_neg h, if_pos h', Prog.lift, Prog.bind_op, Prog.bind_ret, Prog.pure_eq_ret]
      unfold bufs
      iintro ⟨⟨H2, H3, H4, H7, H8⟩, Hq⟩
      iapply (wp_load_whole Variants.none (c : Thread nD τ) none E off2) $$ H2; iintro H2
      iapply (wp_load_whole Variants.none (c : Thread nD τ) none E off3) $$ H7; iintro H7
      iapply (wp_load_whole Variants.none (c : Thread nD τ) none E off2) $$ H3; iintro H3
      iapply (wp_load_whole Variants.none (c : Thread nD τ) none E off3) $$ H7; iintro H7
      iapply (wp_store_whole Variants.none (c : Thread nD τ) none E off3) $$ H7; iintro H7
      iapply (wp_load_whole Variants.none (c : Thread nD τ) none E off3) $$ H8; iintro H8
      iapply (wp_load_whole Variants.none (c : Thread nD τ) none E off2) $$ H4; iintro H4
      iapply (wp_load_whole Variants.none (c : Thread nD τ) none E off3) $$ H8; iintro H8
      iapply (wp_store_whole Variants.none (c : Thread nD τ) none E off3) $$ H8; iintro H8
      rw [wp_ret]; imodintro
      iapply Hq
      isplitl [H2]; · iexact H2
      isplitl [H3]; · iexact H3
      isplitl [H4]; · iexact H4
      isplitl [H7]; · iexact H7
      iexact H8
    · have c1 : ¬cond1 i = 1#1 := fun e => h (hb1.mp e)
      have c2 : ¬k0_cond2 i = 1#1 := fun e => h (hb2.mp e).1
      have c3 : ¬k0_cond3 i = 1#1 := fun e => h' (hb3.mp e)
      simp only [dif_neg c1, dif_neg c2, dif_neg c3, if_neg h, if_neg h', Prog.lift, Prog.bind_op, Prog.bind_ret, Prog.pure_eq_ret]
      unfold bufs
      iintro ⟨⟨H2, H3, H4, H7, H8⟩, Hq⟩
      iapply (wp_load_whole Variants.none (c : Thread nD τ) none E off2) $$ H2; iintro H2
      iapply (wp_load_whole Variants.none (c : Thread nD τ) none E off3) $$ H7; iintro H7
      iapply (wp_load_whole Variants.none (c : Thread nD τ) none E off2) $$ H3; iintro H3
      iapply (wp_load_whole Variants.none (c : Thread nD τ) none E off3) $$ H7; iintro H7
      iapply (wp_store_whole Variants.none (c : Thread nD τ) none E off3) $$ H7; iintro H7
      rw [wp_ret]; imodintro
      iapply Hq
      isplitl [H2]; · iexact H2
      isplitl [H3]; · iexact H3
      isplitl [H4]; · iexact H4
      isplitl [H7]; · iexact H7
      iexact H8

end Body

/-! ### What the windows' buffers hold -/

variable (m : (ℓ : Loc nD τ sig) → Buf (Elt F) ℓ) (ρ : Dev nD → PrngReg)

theorem cond1_iff (t : Fin cfg0.N) : cond1 (grid0.coords t) = 1#1 ↔ t.val % 4 = 0 :=
  (by decide +kernel : ∀ t : Fin grid0.N, cond1 (grid0.coords t) = 1#1 ↔ t.val % 4 = 0) t

theorem cond2_iff (t : Fin cfg0.N) : k0_cond2 (grid0.coords t) = 1#1 ↔ t.val % 4 = 0 ∧ t.val < 4 :=
  (by decide +kernel : ∀ t : Fin grid0.N, k0_cond2 (grid0.coords t) = 1#1 ↔ t.val % 4 = 0 ∧ t.val < 4) t

theorem cond3_iff (t : Fin cfg0.N) : k0_cond3 (grid0.coords t) = 1#1 ↔ t.val < 4 :=
  (by decide +kernel : ∀ t : Fin grid0.N, k0_cond3 (grid0.coords t) = 1#1 ↔ t.val < 4) t

/-- One point's effect on the half's buffer, -/
def step7 (c : Dev nD) (t : Fin cfg0.N) (x : Vec F S1x1792x1024 .f32) : Vec F S1x1792x1024 .f32 :=
  next7 (iblk m c 0 t) (X0_1 m c t) (t.val % 4 = 0) x

/-- and on the last columns'. -/
def step8 (c : Dev nD) (t : Fin cfg0.N) (x : Vec F S1x128x1024 .f32) : Vec F S1x128x1024 .f32 :=
  next8 (iblk m c 0 t) (iblk m c 2 t) (t.val % 4 = 0) (t.val < 4) x

/-- The half's buffer after point `n`, -/
def acc7 (c : Dev nD) : (n : ℕ) → n < cfg0.N → Vec F S1x1792x1024 .f32
  | 0, h => step7 m c ⟨0, h⟩ k0_pay1
  | n + 1, h => step7 m c ⟨n + 1, h⟩ (acc7 c n (Nat.lt_of_succ_lt h))

/-- and the last columns'. -/
def acc8 (c : Dev nD) : (n : ℕ) → n < cfg0.N → Vec F S1x128x1024 .f32
  | 0, h => step8 m c ⟨0, h⟩ k0_pay2
  | n + 1, h => step8 m c ⟨n + 1, h⟩ (acc8 c n (Nat.lt_of_succ_lt h))

/-- A half's first row block starts from zero, whatever the buffer held; -/
theorem step7_first (c : Dev nD) (t : Fin cfg0.N) (h : t.val % 4 = 0) (x y : Vec F S1x1792x1024 .f32) : step7 m c t x = step7 m c t y := by
  unfold step7 next7; simp only [if_pos h]

theorem step8_first (c : Dev nD) (t : Fin cfg0.N) (h : t.val = 0) (x y : Vec F S1x128x1024 .f32) : step8 m c t x = step8 m c t y := by
  unfold step8 next8; simp only [if_pos (show t.val % 4 = 0 by omega), if_pos (show t.val < 4 by omega)]

theorem acc7_first (c : Dev nD) (t : Fin cfg0.N) (h : t.val % 4 = 0) (x : Vec F S1x1792x1024 .f32) : step7 m c t x = acc7 m c t.val t.isLt := by
  obtain ⟨n, hn⟩ := t
  cases n with
  | zero => exact step7_first m c _ h _ _
  | succ n => exact step7_first m c _ h _ _

theorem acc7_next (c : Dev nD) (t : Fin cfg0.N) (h : t.val ≠ 0) :
    step7 m c t (acc7 m c (t.val - 1) (Nat.lt_of_le_of_lt (Nat.sub_le _ _) t.isLt)) = acc7 m c t.val t.isLt := by
  obtain ⟨n, hn⟩ := t
  cases n with
  | zero => exact absurd rfl h
  | succ n => rfl

theorem acc8_first (c : Dev nD) (t : Fin cfg0.N) (h : t.val = 0) (x : Vec F S1x128x1024 .f32) : step8 m c t x = acc8 m c t.val t.isLt := by
  obtain ⟨n, hn⟩ := t
  cases n with
  | zero => exact step8_first m c _ h _ _
  | succ n => exact absurd h (Nat.succ_ne_zero n)

theorem acc8_next (c : Dev nD) (t : Fin cfg0.N) (h : t.val ≠ 0) :
    step8 m c t (acc8 m c (t.val - 1) (Nat.lt_of_le_of_lt (Nat.sub_le _ _) t.isLt)) = acc8 m c t.val t.isLt := by
  obtain ⟨n, hn⟩ := t
  cases n with
  | zero => exact absurd rfl h
  | succ n => rfl

/-- Through the second half's walk the last columns' buffer is handed on. -/
theorem acc8_passed (c : Dev nD) (t : Fin cfg0.N) (h : ¬t.val < 4) :
    acc8 m c (t.val - 1) (Nat.lt_of_le_of_lt (Nat.sub_le _ _) t.isLt) = acc8 m c t.val t.isLt := by
  rw [← acc8_next m c t (by omega)]
  unfold step8 next8; rw [if_neg h]

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => iblk m c 2 t
    | ⟨3, _⟩ => acc7 m c t.val t.isLt
    | ⟨4, _⟩ => acc8 m c t.val t.isLt
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = acc7 m c t.val t.isLt := by dsimp only [dats]
theorem after0_4 (c : Dev nD) (t : Fin cfg0.N) : (dats m 0 c).after 4 t = acc8 m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the body leaves the last columns' buffer alone: in the second half's walk. -/
theorem idle_iff (t : Fin cfg0.N) : cfg0.idle 4 (grid0.coords t) = true ↔ ¬t.val < 4 :=
  (by decide +kernel : ∀ t : Fin grid0.N, idle0 4 (grid0.coords t) = true ↔ ¬t.val < 4) t

/-- The half's buffer before a point: what the point before left, or anything at all at a half's first. -/
theorem before_acc7 (c : Dev nD) (t : Fin cfg0.N) (d) : step7 m c t ((dats m 0 c).before 3 t d) = acc7 m c t.val t.isLt := by
  by_cases ht : t.val % 4 = 0
  · exact acc7_first m c t ht _
  · rw [(dats m 0 c).before_out_kept 3 rfl t (by omega)
      (Bool.eq_false_iff.mpr fun h => by have := (flush0_3 _).mp h; dsimp only at this; omega) (fun _ => rfl) (fun _ _ => rfl), after0_3]
    exact acc7_next m c t (by omega)

/-- The last columns' buffer before a point after the first: what the point before is said to leave. -/
theorem before0_4 (c : Dev nD) (d) : ∀ (n : ℕ) (hn : n < cfg0.N) (h : n ≠ 0),
    (dats m 0 c).before 4 ⟨n, hn⟩ d = acc8 m c (n - 1) (Nat.lt_of_le_of_lt (Nat.sub_le _ _) hn) := by
  intro n
  induction n with
  | zero => intro _ h; exact absurd rfl h
  | succ n ih =>
    intro hn _
    have hN : cfg0.N = 8 := N_0
    have hf : (cfg0.win 4).flush ⟨n, Nat.lt_of_succ_lt hn⟩ = false :=
      Bool.eq_false_iff.mpr fun h => by have := (flush0_4 _).mp h; dsimp only at this; omega
    by_cases hl : n < 4
    · refine (before_stored (dats m 0 c) 4 rfl ⟨n + 1, hn⟩ (Nat.succ_ne_zero n) hf
        (Bool.eq_false_iff.mpr fun h => (idle_iff _).mp h hl) (fun _ _ => rfl) d).trans ?_
      exact after0_4 m c _
    · refine (before_passed (dats m 0 c) 4 rfl ⟨n + 1, hn⟩ (Nat.succ_ne_zero n) hf ((idle_iff _).mpr hl) d).trans ?_
      refine (ih (Nat.lt_of_succ_lt hn) (by omega)).trans ?_
      exact acc8_passed m c ⟨n, Nat.lt_of_succ_lt hn⟩ hl

theorem before_acc8 (c : Dev nD) (t : Fin cfg0.N) (d) : step8 m c t ((dats m 0 c).before 4 t d) = acc8 m c t.val t.isLt := by
  by_cases ht : t.val = 0
  · exact acc8_first m c t ht _
  · rw [before0_4 m c d t.val t.isLt ht]
    exact acc8_next m c t ht

/-! ### The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (dats m 0 c).leavesExact 4 t)

/-- Where the last columns' buffer is left alone, what it held is what the point is said to leave. -/
theorem leaves4 (c : Dev nD) (t : Fin cfg0.N) :
    (owns (c : Thread nD τ) (st0_4 t) fullShare (acc8 m c t.val t.isLt) : sProp 𝕄) ⊢ (dats m 0 c).leavesExact 4 t := by
  rw [← after0_4]
  refine leaves_of_owns (dats m 0 c) 4 t fun hi hf => ⟨(dats m 0 c).after 4 t, ?_⟩
  have h := (idle_iff t).mp hi
  refine (before0_4 m c _ t.val t.isLt (by omega)).trans ?_
  rw [after0_4]
  exact acc8_passed m c t h

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩, ⟨%d4, H4⟩⟩
  have l4 := leaves4 m c t
  have e3 := before_acc7 m c t d3
  rw [← before_acc8 m c t d4] at l4
  rw [← e3]
  unfold step7
  unfold step8 at l4
  iapply (body_run (grid0.coords t) c _ _ _ _ _ _ _ _ _ _ _ _ _ _ (iblk m c 0 t) (X0_1 m c t) (iblk m c 2 t)
    (t.val % 4 = 0) (t.val < 4) (cond1_iff t) (cond2_iff t) (cond3_iff t) Set.univ ((dats m 0 c).before 3 t d3) ((dats m 0 c).before 4 t d4) _)
  unfold bufs
  isplitl [H0 H1 H2 H3 H4]
  · isplitl [H0]; · iexact H0
    isplitl [H1]; · iexact H1
    isplitl [H2]; · iexact H2
    isplitl [H3]; · iexact H3
    iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iapply l4 $$ H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

/-- Every final state: the two stacks at the pipeline's final arrays, the arguments as launched. -/
theorem run_blocks : θ_run defs (onTc (τ := τ) (main (F := F))) ⟨m, fun _ => 0, ρ⟩ (fun r => ∀ c : Dev nD,
      r.2.mem ((c.tc : Thread nD τ).loc main_v14_0) = (dats m 0 c).arrAt 3 cfg0.N
      ∧ r.2.mem ((c.tc : Thread nD τ).loc main_v14_1) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1.1 c).1 3, (h.1.1 c).1 4, h.2.1 c⟩) (θ_run_and (run_quiescent m ρ) (frame_main m ρ))

end Cert.Proof.Dw

end
-- ==== Proof.Ideal.Model.lean ====
/-
  What the kernel body computes at one grid point, as plain functions of what its buffers hold: the diagonal block
  (`diag…`), one trip of the walk over the blocks before it (`trip…`), the walk (`walk`) and the four results of the
  point (`outDq`, `outDk`, `outDv`, `outDsg`). Every value is the payload the printed body computes; nothing is
  simplified here.
-/
module

public import proofs.«01_k».proof.Proof.Owns
public import proofs.«01_k».proof.Proof.Gen.KernelIdeal.Skeleton
public import proofs.«01_k».proof.Proof.Gen.KernelIdeal.Points

@[expose] public section

noncomputable section

namespace Cert.Proof.KI

open Cert.KernelIdeal Cert.KernelIdeal.Gen
open Idealize.ShloMosaic Idealize.ShloMosaic.TcCoe
open Idealize.SL.Sem

variable {F : FTy → Type} [FloatOps F] [Named F]

/-- Block `b` of a 4096-row buffer: its rows `256·b … 256·b + 255`. -/
def blk (b : Fin 16) : Rect S4096x128 := Rect.unit (s := S4096x128) ![256 * b.val, 0] S256x128.size (by
  intro a
  have hb := b.isLt
  match a with
  | ⟨0, _⟩ => show 256 * b.val + 256 ≤ 4096; omega
  | ⟨1, _⟩ => show 0 + 128 ≤ 128; omega)

/-- Block `n` when there is one (block 0 otherwise). -/
def blkN (n : ℕ) : Rect S4096x128 := blk ⟨n % 16, Nat.mod_lt _ (by omega)⟩

/-- What a query block fixes for the whole walk: per head the gradient of the attention's output, the scaled
    queries, the two triangular matrices, and the row sums of gradient times output. -/
structure Sides (F : FTy → Type) where
  doA : FVec F S256x128 .bf16
  doB : FVec F S256x128 .bf16
  qA : FVec F S256x128 .bf16
  qB : FVec F S256x128 .bf16
  tEx : FVec F S512x256 .bf16
  tIn : FVec F S512x256 .bf16
  sumA : FVec F S256x1 .f32
  sumB : FVec F S256x1 .f32

/-- What the walk carries from block to block: per head the sum of the logs and of the gradients seen, and the
    query gradient. -/
structure Carry (F : FTy → Type) where
  lA : FVec F S256x1 .f32
  uA : FVec F S256x1 .f32
  lB : FVec F S256x1 .f32
  uB : FVec F S256x1 .f32
  dq : FVec F S256x128 .f32

/-- The fixed part from the point's blocks of the queries `x2`, output `x5`, gradient `x6` and gate `x7`. -/
def sides (x2 : Vec F S256x128 .bf16) (x5 x6 x7 : Vec F S256x128 .f32) : Sides F where
  doA := k0_pay22 (k0_pay14 x7 x6)
  doB := k0_pay23 (k0_pay14 x7 x6)
  qA := k0_pay10 x2
  qB := k0_pay11 x2
  tEx := k0_pay24
  tIn := k0_pay25
  sumA := k0_pay18 k0_pay6 (k0_pay13 x5) (k0_pay14 x7 x6)
  sumB := k0_pay19 k0_pay6 (k0_pay13 x5) (k0_pay14 x7 x6)

/-! ### One trip of the walk -/

section Trip

variable (p : Sides F) (c : Carry F) (kk vv : Vec F S256x128 .bf16)

def tripNB : FVec F S256x256 .f32 := k0_pay76 (k0_pay74 p.qB kk) (k0_pay75 p.qB kk)
def tripAA : FVec F S256x256 .bf16 := k0_pay77 p.tEx c.lA (k0_pay71 p.qA kk) (k0_pay73 p.qA kk)
def tripAB : FVec F S256x256 .bf16 := k0_pay78 p.tEx c.lB (k0_pay72 p.qB kk) (k0_pay74 p.qB kk) (k0_pay75 p.qB kk)
def tripUA : FVec F S256x256 .f32 := k0_pay79 p.tEx c.lA (k0_pay69 p.doA vv) (k0_pay71 p.qA kk) (k0_pay73 p.qA kk)
def tripUB : FVec F S256x256 .f32 := k0_pay80 p.tEx c.lB (k0_pay70 p.doB vv) (k0_pay72 p.qB kk) (k0_pay74 p.qB kk) (k0_pay75 p.qB kk)
def tripSB : FVec F S256x256 .f32 := k0_pay81 p.tEx p.tIn c.lB (k0_pay70 p.doB vv) (k0_pay72 p.qB kk) (k0_pay74 p.qB kk) (k0_pay75 p.qB kk)
def tripRA : FVec F S256x256 .f32 := k0_pay82 p.tEx p.tIn p.sumA c.lA c.uA (k0_pay69 p.doA vv) (k0_pay71 p.qA kk) (k0_pay73 p.qA kk)
def tripPA : FVec F S256x256 .f32 := k0_pay83 p.tEx c.lA (k0_pay69 p.doA vv) (k0_pay71 p.qA kk) (k0_pay73 p.qA kk)
def tripQA : FVec F S256x256 .f32 := k0_pay84 (k0_pay71 p.qA kk) (k0_pay73 p.qA kk)

/-- The trip's rows of the value gradient, over what they held. -/
def tripDv (old : Vec F S256x128 .f32) : FVec F S256x128 .f32 :=
  k0_pay87 p.doA p.doB (tripAA p c kk) (tripAB p c kk) old

/-- The trip's rows of the key gradient, over what they held. -/
def tripDk (old : Vec F S256x128 .f32) : FVec F S256x128 .f32 :=
  k0_pay88 p.qA p.qB p.sumB c.uB (k0_pay72 p.qB kk) (tripNB p kk) (tripUB p c kk vv) (tripSB p c kk vv)
    (tripRA p c kk vv) (tripPA p c kk vv) (tripQA p kk) old

/-- What the trip carries on. -/
def tripCarry : Carry F where
  lA := k0_pay90 c.lA (k0_pay73 p.qA kk)
  uA := k0_pay91 c.uA (tripUA p c kk vv)
  lB := k0_pay92 c.lB (tripNB p kk)
  uB := k0_pay3 c.uB (k0_pay93 (tripUB p c kk vv))
  dq := k0_pay89 p.sumB c.uB c.dq (k0_pay67 kk) (k0_pay68 kk) (k0_pay72 p.qB kk) (tripNB p kk) (tripUB p c kk vv)
    (tripSB p c kk vv) (tripRA p c kk vv) (tripPA p c kk vv) (tripQA p kk)

/-- The walk goes on: some row's sum of logs is not below the threshold. -/
def alive : BitVec 1 := Scalar.cmpf .oge (k0_pay2 c.lA c.lB) (Named.named κ "dead" 0xC2D20000#32)

end Trip

/-- The walk over the blocks `n - 1, …, 0`: from the carry and the two gradients' contents, each block's trip in turn
    until none is left or the walk is over. -/
def walk (p : Sides F) (kc vc : Vec F S4096x128 .bf16) : ℕ → Carry F → Vec F S4096x128 .f32 → Vec F S4096x128 .f32 →
    Carry F × Vec F S4096x128 .f32 × Vec F S4096x128 .f32
  | 0, c, dk, dv => (c, dk, dv)
  | n + 1, c, dk, dv =>
    if alive c = 1#1 then
      walk p kc vc n (tripCarry p c (rows (blkN n) kc) (rows (blkN n) vc))
        ((blkN n).overlay dk (tripDk p c (rows (blkN n) kc) (rows (blkN n) vc) (rows (blkN n) dk)))
        ((blkN n).overlay dv (tripDv p c (rows (blkN n) kc) (rows (blkN n) dv)))
    else (c, dk, dv)

/-! ### The diagonal block -/

section Diag

variable (w : BitVec 32) (p : Sides F) (kk vv : Vec F S256x128 .bf16)

def dgMask : IVec S256x256 1 := k0_pay35 (k0_pay34 w) (Scalar.muli w 256#32) 0#32
def dgZA : FVec F S256x256 .f32 := k0_pay38 p.qA (k0_pay28 kk)
def dgZB : FVec F S256x256 .f32 := k0_pay39 p.qB (k0_pay28 kk)
def dgGA : FVec F S256x256 .f32 := k0_pay36 p.doA (k0_pay29 vv)
def dgGB : FVec F S256x256 .f32 := k0_pay37 p.doB (k0_pay29 vv)
def dgNA : FVec F S256x256 .f32 := k0_pay40 p.qA (k0_pay28 kk)
def dgNB : FVec F S256x256 .f32 := k0_pay41 p.qB (k0_pay28 kk)
def dgLA : FVec F S256x256 .f32 := k0_pay42 p.qA (k0_pay28 kk) (k0_pay34 w) (Scalar.muli w 256#32) 0#32
def dgLB : FVec F S256x256 .f32 := k0_pay43 p.qB (k0_pay28 kk) (k0_pay34 w) (Scalar.muli w 256#32) 0#32
def dgSA : FVec F S256x256 .f32 := k0_pay44 p.qA p.tEx (k0_pay28 kk) (k0_pay34 w) (Scalar.muli w 256#32) 0#32
def dgHB : FVec F S256x256 .bf16 := k0_pay45 p.qB (k0_pay28 kk) (k0_pay34 w) (Scalar.muli w 256#32) 0#32
def dgIB : FVec F S256x256 .f32 := k0_pay46 p.qB (k0_pay28 kk) (k0_pay34 w) (Scalar.muli w 256#32) 0#32
def dgAA : FVec F S256x256 .bf16 := k0_pay47 k0_pay26 (dgMask w) (dgZA p kk) (dgLA w p kk) (dgSA w p kk)
def dgAB : FVec F S256x256 .bf16 := k0_pay48 p.tEx k0_pay26 (dgMask w) (dgZB p kk) (dgLB w p kk) (dgHB w p kk) (dgIB w p kk)
def dgUA : FVec F S256x256 .f32 := k0_pay49 k0_pay26 (dgMask w) (dgGA p vv) (dgZA p kk) (dgLA w p kk) (dgSA w p kk)
def dgUB : FVec F S256x256 .f32 := k0_pay50 p.tEx k0_pay26 (dgMask w) (dgGB p vv) (dgZB p kk) (dgLB w p kk) (dgHB w p kk) (dgIB w p kk)
def dgDA : FVec F S256x256 .bf16 := k0_pay51 p.sumA p.tIn k0_pay26 (dgMask w) (dgGA p vv) (dgZA p kk) (dgNA p kk) (dgLA w p kk) (dgSA w p kk)
def dgRB : FVec F S256x256 .f32 := k0_pay52 p.sumB p.tEx p.tIn k0_pay26 (dgMask w) (dgGB p vv) (dgZB p kk) (dgLB w p kk) (dgHB w p kk) (dgIB w p kk)
def dgEB : FVec F S256x256 .f32 := k0_pay53 (dgNB p kk)

/-- The diagonal block's rows of the value gradient, over what they held. -/
def dgDv (old : Vec F S256x128 .f32) : FVec F S256x128 .f32 := k0_pay55 p.doA p.doB (dgAA w p kk) (dgAB w p kk) old

/-- The diagonal block's rows of the key gradient, over what they held. -/
def dgDk (old : Vec F S256x128 .f32) : FVec F S256x128 .f32 :=
  k0_pay56 p.qA p.qB (dgMask w) (dgZB p kk) (dgNB p kk) (dgUB w p kk vv) (dgDA w p kk vv) (dgRB w p kk vv) (dgEB p kk) old

/-- What the diagonal block carries into the walk. -/
def dgCarry : Carry F where
  lA := k0_pay58 k0_pay26 (dgLA w p kk)
  uA := k0_pay59 k0_pay26 (dgUA w p kk vv)
  lB := k0_pay60 k0_pay26 (dgLB w p kk)
  uB := k0_pay61 k0_pay26 (dgUB w p kk vv)
  dq := k0_pay57 k0_pay27 (k0_pay32 kk) (k0_pay33 kk) (dgMask w) (dgZB p kk) (dgNB p kk) (dgUB w p kk vv) (dgDA w p kk vv) (dgRB w p kk vv) (dgEB p kk)

end Diag

/-! ### The point's results -/

/-- The carry and the key and value gradients' contents after the point of query block `b`: the diagonal block, then
    the walk over the blocks before it. The two gradients are cleared first at block 0. -/
def point (b : Fin 16) (x2 : Vec F S256x128 .bf16) (kc vc : Vec F S4096x128 .bf16) (x5 x6 x7 : Vec F S256x128 .f32)
    (dk dv : Vec F S4096x128 .f32) : Carry F × Vec F S4096x128 .f32 × Vec F S4096x128 .f32 :=
  let w : BitVec 32 := BitVec.ofNat 32 b.val
  let p := sides x2 x5 x6 x7
  let dk0 := if b.val = 0 then (k0_pay4 : Vec F S4096x128 .f32) else dk
  let dv0 := if b.val = 0 then (k0_pay5 : Vec F S4096x128 .f32) else dv
  walk p kc vc b.val (dgCarry w p (rows (blk b) kc) (rows (blk b) vc))
    ((blk b).overlay dk0 (dgDk w p (rows (blk b) kc) (rows (blk b) vc) (rows (blk b) dk0)))
    ((blk b).overlay dv0 (dgDv w p (rows (blk b) kc) (rows (blk b) dv0)))

/-- The point's block of the query gradient. -/
def outDq (r : Carry F × Vec F S4096x128 .f32 × Vec F S4096x128 .f32) : Vec F S256x128 .f32 := k0_pay1 r.1.dq k0_pay62

/-- The point's block of the gate gradient. -/
def outDsg (x5 x6 x7 : Vec F S256x128 .f32) : Vec F S256x128 .f32 := k0_pay15 x7 x6 x5

end Cert.Proof.KI

end
-- ==== Proof.Ideal.Walk.lean ====
/-
  The walk's label meets its specification. Entered with `n` blocks still to visit — its counter at `b - n` for query
  block `b` —, holding the key and value buffers and the two gradients at given contents, the label's function returns
  the carry's query gradient and the gradients' contents that `walk` gives. By induction on `n`: with no block left the
  counter's test fails; otherwise the threshold's test decides as `walk`'s own, the counter's rectangle is block `n - 1`,
  and the function's own call is answered by the induction hypothesis.
-/
module

public import proofs.«01_k».proof.Proof.Ideal.Model
public import Idealize.ShloMosaic.Lib.Pipeline.Frame
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants: the blocks still to visit. -/
abbrev 𝒱₀ : Variants := Variants.nat

/-! ### Words -/

/-- The walk's block count at a query block's word is the word itself (the printed floor division by 256 of its multiple). -/
def countOf (w : BitVec 32) : BitVec 32 :=
  Scalar.select (Scalar.andi (Scalar.cmpi .ne (Scalar.subi (Scalar.extui (Scalar.cmpi .sgt (Scalar.muli w 256#32) 0#32))
      (Scalar.extui (Scalar.cmpi .slt (Scalar.muli w 256#32) 0#32)))
    (Scalar.subi (Scalar.extui (Scalar.cmpi .sgt 256#32 0#32)) (Scalar.extui (Scalar.cmpi .slt 256#32 0#32))))
    (Scalar.cmpi .ne (Scalar.remsi (Scalar.muli w 256#32) 256#32) 0#32))
    (Scalar.subi (Scalar.divsi (Scalar.muli w 256#32) 256#32) 1#32) (Scalar.divsi (Scalar.muli w 256#32) 256#32)

theorem countOf_eq : ∀ b : Fin 16, countOf (BitVec.ofNat 32 b.val) = BitVec.ofNat 32 b.val := by decide +kernel

theorem lt_count : ∀ (b j : Fin 16), j.val < b.val →
    Scalar.cmpi .slt (BitVec.ofNat 32 j.val) (countOf (BitVec.ofNat 32 b.val)) = 1#1 := by decide +kernel

theorem not_lt_count : ∀ b : Fin 16,
    Scalar.cmpi .slt (BitVec.ofNat 32 b.val) (countOf (BitVec.ofNat 32 b.val)) = 0#1 := by decide +kernel

theorem off_block : ∀ (b j : Fin 16), j.val < b.val →
    (Scalar.muli (Scalar.subi (Scalar.subi (countOf (BitVec.ofNat 32 b.val)) 1#32) (BitVec.ofNat 32 j.val)) 256#32).toNat
      = 256 * (b.val - 1 - j.val) := by decide +kernel

variable (i : grid0.Coords)

theorem off2_eq (w : BitVec 32) : k0_off2 i w
    = ![(Scalar.muli (Scalar.subi (Scalar.subi (countOf (BitVec.ofNat 32 (i 1).val)) 1#32) w) 256#32).toNat, 0] := rfl

theorem off2_block (n : ℕ) (hn : n < (i 1).val) :
    k0_off2 i (BitVec.ofNat 32 ((i 1).val - (n + 1))) = ![256 * n, 0] := by
  have h16 : (i 1).val < 16 := (i 1).isLt
  rw [off2_eq]
  have h := off_block ⟨(i 1).val, h16⟩ ⟨(i 1).val - (n + 1), by omega⟩ (by show (i 1).val - (n + 1) < (i 1).val; omega)
  simp only [] at h
  rw [h, show (i 1).val - 1 - ((i 1).val - (n + 1)) = n from by omega]

theorem chk_block (n : ℕ) (hn : n < (i 1).val) : k0_chk1 i (BitVec.ofNat 32 ((i 1).val - (n + 1))) := by
  have h16 : (i 1).val < 16 := (i 1).isLt
  have h := off2_block i n hn
  constructor
  · have h0 := congrFun h 0
    show 256 ∣ k0_off2 i (BitVec.ofNat 32 ((i 1).val - (n + 1))) 0
    rw [h0]; exact ⟨n, rfl⟩
  · rw [h]
    intro a
    match a with
    | ⟨0, _⟩ => show 256 * n + 256 ≤ 4096; omega
    | ⟨1, _⟩ => show 0 + 128 ≤ 128; omega

theorem next_word (n : ℕ) (hn : n < (i 1).val) :
    Scalar.addi (BitVec.ofNat 32 ((i 1).val - (n + 1))) 1#32 = BitVec.ofNat 32 ((i 1).val - n) := by
  have h16 : (i 1).val < 16 := (i 1).isLt
  have h : ∀ j : Fin 16, Scalar.addi (BitVec.ofNat 32 j.val) 1#32 = BitVec.ofNat 32 (j.val + 1) := by decide
  have hj := h ⟨(i 1).val - (n + 1), by omega⟩
  simp only [] at hj
  rw [hj, show (i 1).val - (n + 1) + 1 = (i 1).val - n from by omega]

/-! ### The label -/

variable (c : Dev nD)
  (a3 : Memref sig .tc .vmem S4096x128 .bf16) (h3 : a3.IsWhole) (a4 : Memref sig .tc .vmem S4096x128 .bf16) (h4 : a4.IsWhole)
  (a10 : Memref sig .tc .vmem S4096x128 .f32) (h10 : a10.IsWhole) (a9 : Memref sig .tc .vmem S4096x128 .f32) (h9 : a9.IsWhole)
  (p : Sides F) (kc vc : Vec F S4096x128 .bf16)

/-- The buffers the label's function uses: keys, values, the key gradient and the value gradient. -/
def held (dk dv : Vec F S4096x128 .f32) : sProp 𝕄 :=
  iprop(owns (c : Thread nD τ) a3 fullShare kc ∗ owns (c : Thread nD τ) a4 fullShare vc
    ∗ owns (c : Thread nD τ) a9 fullShare dk ∗ owns (c : Thread nD τ) a10 fullShare dv)

/-- What the label's function returns: the counter and the carry. -/
abbrev Ret (F : FTy → Type) : Type :=
  BitVec 32 × FVec F S256x1 .f32 × FVec F S256x1 .f32 × FVec F S256x1 .f32 × FVec F S256x1 .f32 × FVec F S256x128 .f32

/-- The specification with `n` blocks to visit. -/
def spec (n : ℕ) (cy : Carry F) (dk dv : Vec F S4096x128 .f32) : sWPT 𝕄 (Ret F) := do
  sWPT.consume (held c a3 a4 a10 a9 kc vc dk dv)
  let r ← sWPT.arbitrary
  sWPT.assume (r.2.2.2.2.2 = (walk p kc vc n cy dk dv).1.dq)
  sWPT.produce (held c a3 a4 a10 a9 kc vc (walk p kc vc n cy dk dv).2.1 (walk p kc vc n cy dk dv).2.2)
  pure r

theorem spec_apply (n : ℕ) (cy : Carry F) (dk dv : Vec F S4096x128 .f32) (K : Ret F → sProp 𝕄) :
    spec c a3 a4 a10 a9 p kc vc n cy dk dv K
      = iprop(held c a3 a4 a10 a9 kc vc dk dv ∗ ∀ r : Ret F, ⌜r.2.2.2.2.2 = (walk p kc vc n cy dk dv).1.dq⌝
          -∗ (held c a3 a4 a10 a9 kc vc (walk p kc vc n cy dk dv).2.1 (walk p kc vc n cy dk dv).2.2 -∗ K r)) := rfl

theorem walk_succ (n : ℕ) (cy : Carry F) (dk dv : Vec F S4096x128 .f32) :
    walk p kc vc (n + 1) cy dk dv = if alive cy = 1#1 then
      walk p kc vc n (tripCarry p cy (rows (blkN n) kc) (rows (blkN n) vc))
        ((blkN n).overlay dk (tripDk p cy (rows (blkN n) kc) (rows (blkN n) vc) (rows (blkN n) dk)))
        ((blkN n).overlay dv (tripDv p cy (rows (blkN n) kc) (rows (blkN n) dv)))
    else (cy, dk, dv) := rfl

/-- One step of the walk, its block given by the rectangle's offsets. -/
theorem walk_step (n : ℕ) (hn : n < 16) (cy : Carry F) (dk dv : Vec F S4096x128 .f32) (ha : alive cy = 1#1) (o : Fin 2 → ℕ)
    (ho : o = ![256 * n, 0]) (hb : ∀ a, o a + S256x128.size a ≤ S4096x128.size a) :
    walk p kc vc (n + 1) cy dk dv
      = walk p kc vc n (tripCarry p cy (rows (Rect.unit (s := S4096x128) o S256x128.size hb) kc)
            (rows (Rect.unit (s := S4096x128) o S256x128.size hb) vc))
          ((Rect.unit (s := S4096x128) o S256x128.size hb).overlay dk
            (tripDk p cy (rows (Rect.unit (s := S4096x128) o S256x128.size hb) kc)
              (rows (Rect.unit (s := S4096x128) o S256x128.size hb) vc) (rows (Rect.unit (s := S4096x128) o S256x128.size hb) dk)))
          ((Rect.unit (s := S4096x128) o S256x128.size hb).overlay dv
            (tripDv p cy (rows (Rect.unit (s := S4096x128) o S256x128.size hb) kc)
              (rows (Rect.unit (s := S4096x128) o S256x128.size hb) dv))) := by
  have h : o = ![256 * (n % 16), 0] := by rw [ho, Nat.mod_eq_of_lt hn]
  subst h
  rw [walk_succ, if_pos ha]
  rfl

set_option maxHeartbeats 1000000 in
theorem spec_le (E : Set ℕ) : ∀ n, n ≤ (i 1).val → ∀ cy dk dv K, spec c a3 a4 a10 a9 p kc vc n cy dk dv K
    ⊢ wp frame (wpE (defs₀ (F := F)) 𝒱₀ (c : Thread nD τ) (some n)) E
        (defs₀ (F := F) .tc 1 ⟨i, a3, h3, a4, h4, p.doA, p.doB, p.qA, p.qB, p.tEx, p.tIn, p.sumA, p.sumB, a10, h10, a9, h9,
          BitVec.ofNat 32 ((i 1).val - n), cy.lA, cy.uA, cy.lB, cy.uB, cy.dq⟩) K := by
  have h16 : (i 1).val < 16 := (i 1).isLt
  intro n
  induction n with
  | zero =>
    intro _ cy dk dv K
    rw [spec_apply]
    show _ ⊢ wp frame (wpE (defs₀ (F := F)) 𝒱₀ (c : Thread nD τ) (some 0)) E
      (cc0_while1 i a3 h3 a4 h4 p.doA p.doB p.qA p.qB p.tEx p.tIn p.sumA p.sumB a10 h10 a9 h9
        (BitVec.ofNat 32 ((i 1).val - 0)) cy.lA cy.uA cy.lB cy.uB cy.dq) K
    simp only [cc0_while1_eq_skeleton]; unfold cc0_while1_skel
    have ht : ∀ x : BitVec 1, ¬ Scalar.andi (Scalar.cmpi .slt (BitVec.ofNat 32 ((i 1).val - 0)) (countOf (BitVec.ofNat 32 (i 1).val))) x = 1#1 := by
      intro x
      rw [Nat.sub_zero, not_lt_count ⟨(i 1).val, h16⟩]
      revert x; decide
    show _ ⊢ wp frame (wpE (defs₀ (F := F)) 𝒱₀ (c : Thread nD τ) (some 0)) E
      (if Scalar.andi (Scalar.cmpi .slt (BitVec.ofNat 32 ((i 1).val - 0)) (countOf (BitVec.ofNat 32 (i 1).val))) _ = 1#1 then _ else _) K
    rw [if_neg (ht _)]
    simp only [Prog.pure_eq_ret]
    iintro ⟨H, Hk⟩
    rw [wp_ret]; imodintro
    iapply Hk
    · ipureintro; rfl
    · iexact H
  | succ n ih =>
    intro hn cy dk dv K
    rw [spec_apply]
    show _ ⊢ wp frame (wpE (defs₀ (F := F)) 𝒱₀ (c : Thread nD τ) (some (n + 1))) E
      (cc0_while1 i a3 h3 a4 h4 p.doA p.doB p.qA p.qB p.tEx p.tIn p.sumA p.sumB a10 h10 a9 h9
        (BitVec.ofNat 32 ((i 1).val - (n + 1))) cy.lA cy.uA cy.lB cy.uB cy.dq) K
    simp only [cc0_while1_eq_skeleton]; unfold cc0_while1_skel
    have hlt : Scalar.cmpi .slt (BitVec.ofNat 32 ((i 1).val - (n + 1))) (countOf (BitVec.ofNat 32 (i 1).val)) = 1#1 :=
      lt_count ⟨(i 1).val, h16⟩ ⟨(i 1).val - (n + 1), by omega⟩ (by show (i 1).val - (n + 1) < (i 1).val; omega)
    by_cases ha : alive cy = 1#1
    · have ht : Scalar.andi (Scalar.cmpi .slt (BitVec.ofNat 32 ((i 1).val - (n + 1))) (countOf (BitVec.ofNat 32 (i 1).val)))
          (Scalar.cmpf .oge (k0_pay2 cy.lA cy.lB) (Named.named κ "dead" 0xC2D20000#32)) = 1#1 := by
        rw [hlt, show Scalar.cmpf .oge (k0_pay2 cy.lA cy.lB) (Named.named κ "dead" 0xC2D20000#32) = 1#1 from ha]; decide
      have hchk := chk_block i n (by omega)
      rw [walk_step p kc vc n (by omega) cy dk dv ha _ (off2_block i n (by omega)) (k0_off2_inb i _ hchk)]
      show _ ⊢ wp frame (wpE (defs₀ (F := F)) 𝒱₀ (c : Thread nD τ) (some (n + 1))) E
        (if Scalar.andi (Scalar.cmpi .slt (BitVec.ofNat 32 ((i 1).val - (n + 1))) (countOf (BitVec.ofNat 32 (i 1).val)))
          (Scalar.cmpf .oge (k0_pay2 cy.lA cy.lB) (Named.named κ "dead" 0xC2D20000#32)) = 1#1 then _ else _) K
      rw [if_pos ht]
      simp only [k0_part7_eq_skeleton, k0_part8_eq_skeleton, k0_part9_eq_skeleton]
      unfold k0_part7_skel k0_part8_skel k0_part9_skel
      simp only [Prog.lift, Prog.bind_op, Prog.bind_ret, Prog.pure_eq_ret]
      unfold held
      iintro ⟨⟨Hk, Hv, Hdk, Hdv⟩, Hc⟩
      iapply (wp_assume 𝒱₀ (c : Thread nD τ) (some (n + 1)) E hchk)
      iapply (wp_load_owns 𝒱₀ (c : Thread nD τ) (some (n + 1)) E) $$ Hk; iintro Hk
      iapply (wp_load_owns 𝒱₀ (c : Thread nD τ) (some (n + 1)) E) $$ Hv; iintro Hv
      iapply (wp_load_owns 𝒱₀ (c : Thread nD τ) (some (n + 1)) E) $$ Hdv; iintro Hdv
      iapply (wp_load_owns 𝒱₀ (c : Thread nD τ) (some (n + 1)) E) $$ Hdv; iintro Hdv
      iapply (wp_store_owns 𝒱₀ (c : Thread nD τ) (some (n + 1)) E) $$ Hdv; iintro Hdv
      iapply (wp_load_owns 𝒱₀ (c : Thread nD τ) (some (n + 1)) E) $$ Hdk; iintro Hdk
      iapply (wp_load_owns 𝒱₀ (c : Thread nD τ) (some (n + 1)) E) $$ Hdk; iintro Hdk
      iapply (wp_store_owns 𝒱₀ (c : Thread nD τ) (some (n + 1)) E) $$ Hdk; iintro Hdk
      rw [next_word i n (by omega)]
      iapply (wp_call_spec 𝒱₀ (c : Thread nD τ) (some (n + 1)) E
        (spec c a3 a4 a10 a9 p kc vc n
          (tripCarry p cy (rows (Rect.unit (s := S4096x128) (k0_off2 i (BitVec.ofNat 32 ((i 1).val - (n + 1)))) S256x128.size (k0_off2_inb i _ hchk)) kc)
            (rows (Rect.unit (s := S4096x128) (k0_off2 i (BitVec.ofNat 32 ((i 1).val - (n + 1)))) S256x128.size (k0_off2_inb i _ hchk)) vc)) _ _)
        n (fun u hu => by cases hu; exact Nat.lt_succ_self n) (ih (by omega) _ _ _))
      rw [spec_apply]
      unfold held
      isplitr [Hc]
      · isplitl [Hk]; · iexact Hk
        isplitl [Hv]; · iexact Hv
        isplitl [Hdk]; · iexact Hdk
        iexact Hdv
      iintro %r %hr ⟨Hk, Hv, Hdk, Hdv⟩
      rw [wp_ret]; imodintro
      iapply Hc
      · ipureintro; exact hr
      · isplitl [Hk]; · iexact Hk
        isplitl [Hv]; · iexact Hv
        isplitl [Hdk]; · iexact Hdk
        iexact Hdv
    · have ht : ¬ Scalar.andi (Scalar.cmpi .slt (BitVec.ofNat 32 ((i 1).val - (n + 1))) (countOf (BitVec.ofNat 32 (i 1).val)))
          (Scalar.cmpf .oge (k0_pay2 cy.lA cy.lB) (Named.named κ "dead" 0xC2D20000#32)) = 1#1 := by
        have h0 : alive cy = 0#1 := by
          have : ∀ x : BitVec 1, x ≠ 1#1 → x = 0#1 := by decide
          exact this _ ha
        rw [hlt, show Scalar.cmpf .oge (k0_pay2 cy.lA cy.lB) (Named.named κ "dead" 0xC2D20000#32) = 0#1 from h0]; decide
      show _ ⊢ wp frame (wpE (defs₀ (F := F)) 𝒱₀ (c : Thread nD τ) (some (n + 1))) E
        (if Scalar.andi (Scalar.cmpi .slt (BitVec.ofNat 32 ((i 1).val - (n + 1))) (countOf (BitVec.ofNat 32 (i 1).val)))
          (Scalar.cmpf .oge (k0_pay2 cy.lA cy.lB) (Named.named κ "dead" 0xC2D20000#32)) = 1#1 then _ else _) K
      rw [if_neg ht, walk_succ, if_neg ha]
      simp only [Prog.pure_eq_ret]
      iintro ⟨H, Hk⟩
      rw [wp_ret]; imodintro
      iapply Hk
      · ipureintro; rfl
      · iexact H

end Cert.Proof.KI

end
-- ==== Proof.Ideal.Body.lean ====
/-
  The kernel body at one grid point, on any whole memrefs: holding the point's blocks and the key and value gradients'
  contents, it leaves the query gradient's and the gate gradient's blocks at `outDq` and `outDsg`, and the two
  accumulated gradients at what `point` gives.
-/
module

public import proofs.«01_k».proof.Proof.Ideal.Walk

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### The rectangles of the body -/

theorem emb_small (h : ∀ a, (![0, 0] : Fin 2 → ℕ) a + S256x128.size a ≤ S256x128.size a) (x : S256x128.Idx) :
    (Rect.unit (s := S256x128) ![0, 0] S256x128.size h).emb x = x :=
  Rect.emb_eq_of_coords _ _ _ (fun a => by
    match a with
    | ⟨0, _⟩ => exact ((Nat.zero_add _).trans (Nat.one_mul _)).symm
    | ⟨1, _⟩ => exact ((Nat.zero_add _).trans (Nat.one_mul _)).symm)

theorem rows_small {β : Type} (h : ∀ a, (![0, 0] : Fin 2 → ℕ) a + S256x128.size a ≤ S256x128.size a) (X : S256x128.Idx → β) :
    rows (Rect.unit (s := S256x128) ![0, 0] S256x128.size h) X = X := by
  funext x; exact congrArg X (emb_small h x)

theorem overlay_small {β : Type} (h : ∀ a, (![0, 0] : Fin 2 → ℕ) a + S256x128.size a ≤ S256x128.size a) (X w : S256x128.Idx → β) :
    (Rect.unit (s := S256x128) ![0, 0] S256x128.size h).overlay X w = w := by
  funext x
  have := Rect.overlay_emb (Rect.unit (s := S256x128) ![0, 0] S256x128.size h) X w x
  rwa [emb_small h x] at this

theorem emb_large (h : ∀ a, (![0, 0] : Fin 2 → ℕ) a + S4096x128.size a ≤ S4096x128.size a) (x : S4096x128.Idx) :
    (Rect.unit (s := S4096x128) ![0, 0] S4096x128.size h).emb x = x :=
  Rect.emb_eq_of_coords _ _ _ (fun a => by
    match a with
    | ⟨0, _⟩ => exact ((Nat.zero_add _).trans (Nat.one_mul _)).symm
    | ⟨1, _⟩ => exact ((Nat.zero_add _).trans (Nat.one_mul _)).symm)

theorem overlay_large {β : Type} (h : ∀ a, (![0, 0] : Fin 2 → ℕ) a + S4096x128.size a ≤ S4096x128.size a) (X w : S4096x128.Idx → β) :
    (Rect.unit (s := S4096x128) ![0, 0] S4096x128.size h).overlay X w = w := by
  funext x
  have := Rect.overlay_emb (Rect.unit (s := S4096x128) ![0, 0] S4096x128.size h) X w x
  rwa [emb_large h x] at this

/-- A load of a whole block. -/
theorem wp_load_small (c : Dev nD) (bd : Option (𝒱₀).V) (E : Set ℕ) {e : EltTy} {α : Type} {Q : α → sProp 𝕄}
    {m : Memref sig .tc .vmem S256x128 e} {h : ∀ a, (![0, 0] : Fin 2 → ℕ) a + S256x128.size a ≤ S256x128.size a}
    {hl : m.view.LoadsAt (Rect.unit (s := S256x128) ![0, 0] S256x128.size h).toLoadRect}
    {k : (S256x128.Idx → Elt F e) → Prog (TpuEff nD τ sig (Elt F) (Λ₀ F) .tc) α} {q : PosShare TreeShare} {X : S256x128.Idx → Elt F e} :
    owns (c : Thread nD τ) m q X
      ⊢ iprop((owns (c : Thread nD τ) m q X -∗ wp frame (wpE (defs₀ (F := F)) 𝒱₀ (c : Thread nD τ) bd) E (k X) Q)
        -∗ wp frame (wpE (defs₀ (F := F)) 𝒱₀ (c : Thread nD τ) bd) E
          (.op (.load m (Rect.unit (s := S256x128) ![0, 0] S256x128.size h).toLoadRect hl) k) Q) := by
  have := wp_load_owns (defs := defs₀ (F := F)) 𝒱₀ (c : Thread nD τ) bd E (m := m)
    (r := Rect.unit (s := S256x128) ![0, 0] S256x128.size h) (hl := hl) (k := k) (q := q) (X := X) (Q := Q)
  rwa [rows_small] at this

/-- A store of a whole block. -/
theorem wp_store_small (c : Dev nD) (bd : Option (𝒱₀).V) (E : Set ℕ) {e : EltTy} {α : Type} {Q : α → sProp 𝕄}
    {m : Memref sig .tc .vmem S256x128 e} {h : ∀ a, (![0, 0] : Fin 2 → ℕ) a + S256x128.size a ≤ S256x128.size a}
    {w : S256x128.Idx → Elt F e}
    {hx : (m.access (Rect.unit (s := S256x128) ![0, 0] S256x128.size h)).Stores Finset.univ}
    {hm : Finset.univ = Finset.univ ∨ ∀ a, (Rect.unit (s := S256x128) ![0, 0] S256x128.size h).stride a = 1}
    {k : PUnit → Prog (TpuEff nD τ sig (Elt F) (Λ₀ F) .tc) α} {X : S256x128.Idx → Elt F e} :
    owns (c : Thread nD τ) m fullShare X
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E
          (.op (.store m (Rect.unit (s := S256x128) ![0, 0] S256x128.size h) w Finset.univ hx hm) k) Q) := by
  have := wp_store_owns (defs := defs₀ (F := F)) 𝒱₀ (c : Thread nD τ) bd E (m := m)
    (r := Rect.unit (s := S256x128) ![0, 0] S256x128.size h) (w := w) (hx := hx) (hm := hm) (k := k) (X := X) (Q := Q)
  rwa [overlay_small] at this

/-- A store of a whole gradient. -/
theorem wp_store_large (c : Dev nD) (bd : Option (𝒱₀).V) (E : Set ℕ) {e : EltTy} {α : Type} {Q : α → sProp 𝕄}
    {m : Memref sig .tc .vmem S4096x128 e} {h : ∀ a, (![0, 0] : Fin 2 → ℕ) a + S4096x128.size a ≤ S4096x128.size a}
    {w : S4096x128.Idx → Elt F e}
    {hx : (m.access (Rect.unit (s := S4096x128) ![0, 0] S4096x128.size h)).Stores Finset.univ}
    {hm : Finset.univ = Finset.univ ∨ ∀ a, (Rect.unit (s := S4096x128) ![0, 0] S4096x128.size h).stride a = 1}
    {k : PUnit → Prog (TpuEff nD τ sig (Elt F) (Λ₀ F) .tc) α} {X : S4096x128.Idx → Elt F e} :
    owns (c : Thread nD τ) m fullShare X
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E
          (.op (.store m (Rect.unit (s := S4096x128) ![0, 0] S4096x128.size h) w Finset.univ hx hm) k) Q) := by
  have := wp_store_owns (defs := defs₀ (F := F)) 𝒱₀ (c : Thread nD τ) bd E (m := m)
    (r := Rect.unit (s := S4096x128) ![0, 0] S4096x128.size h) (w := w) (hx := hx) (hm := hm) (k := k) (X := X) (Q := Q)
  rwa [overlay_large] at this

variable (i : grid0.Coords)

/-- The point's query block. -/
abbrev qb : Fin 16 := ⟨(i 1).val, (i 1).isLt⟩

theorem off1_block : k0_off1 i = ![256 * (qb i).val, 0] := by
  have h : ∀ b : Fin 16, (Scalar.addi (Scalar.muli (BitVec.ofNat 32 b.val) 256#32) 0#32).toNat = 256 * b.val := by decide +kernel
  show ![(Scalar.addi (Scalar.muli (BitVec.ofNat 32 (i 1).val) 256#32) 0#32).toNat, 0] = _
  rw [show (i 1).val = (qb i).val from rfl, h]

theorem first_iff : Scalar.cmpi .ne (Scalar.extui (Scalar.cmpi .eq (BitVec.ofNat 32 (i 1).val) 0#32) : BitVec 32) 0#32 = 1#1
    ↔ (qb i).val = 0 := by
  have h : ∀ b : Fin 16, Scalar.cmpi .ne (Scalar.extui (Scalar.cmpi .eq (BitVec.ofNat 32 b.val) 0#32) : BitVec 32) 0#32 = 1#1 ↔ b.val = 0 := by
    decide +kernel
  exact h (qb i)

/-- The point's results, the diagonal block given by its rectangle's offsets and the gradients by what they hold once
    cleared or not. -/
theorem point_at (x2 : Vec F S256x128 .bf16) (kc vc : Vec F S4096x128 .bf16) (x5 x6 x7 : Vec F S256x128 .f32)
    (dk dv dk0 dv0 : Vec F S4096x128 .f32) (hk : (if (qb i).val = 0 then (k0_pay4 : Vec F S4096x128 .f32) else dk) = dk0)
    (hv : (if (qb i).val = 0 then (k0_pay5 : Vec F S4096x128 .f32) else dv) = dv0) (o : Fin 2 → ℕ)
    (ho : o = ![256 * (qb i).val, 0]) (hb : ∀ a, o a + S256x128.size a ≤ S4096x128.size a) :
    point (qb i) x2 kc vc x5 x6 x7 dk dv
      = walk (sides x2 x5 x6 x7) kc vc (i 1).val
          (dgCarry (BitVec.ofNat 32 (i 1).val) (sides x2 x5 x6 x7) (rows (Rect.unit (s := S4096x128) o S256x128.size hb) kc)
            (rows (Rect.unit (s := S4096x128) o S256x128.size hb) vc))
          ((Rect.unit (s := S4096x128) o S256x128.size hb).overlay dk0
            (dgDk (BitVec.ofNat 32 (i 1).val) (sides x2 x5 x6 x7) (rows (Rect.unit (s := S4096x128) o S256x128.size hb) kc)
              (rows (Rect.unit (s := S4096x128) o S256x128.size hb) vc) (rows (Rect.unit (s := S4096x128) o S256x128.size hb) dk0)))
          ((Rect.unit (s := S4096x128) o S256x128.size hb).overlay dv0
            (dgDv (BitVec.ofNat 32 (i 1).val) (sides x2 x5 x6 x7) (rows (Rect.unit (s := S4096x128) o S256x128.size hb) kc)
              (rows (Rect.unit (s := S4096x128) o S256x128.size hb) dv0))) := by
  subst ho
  unfold point
  simp only [hk, hv]
  rfl

variable (c : Dev nD)
  (a2 : Memref sig .tc .vmem S256x128 .bf16) (h2 : a2.IsWhole) (a3 : Memref sig .tc .vmem S4096x128 .bf16) (h3 : a3.IsWhole)
  (a4 : Memref sig .tc .vmem S4096x128 .bf16) (h4 : a4.IsWhole) (a5 : Memref sig .tc .vmem S256x128 .f32) (h5 : a5.IsWhole)
  (a6 : Memref sig .tc .vmem S256x128 .f32) (h6 : a6.IsWhole) (a7 : Memref sig .tc .vmem S256x128 .f32) (h7 : a7.IsWhole)
  (a8 : Memref sig .tc .vmem S256x128 .f32) (h8 : a8.IsWhole) (a9 : Memref sig .tc .vmem S4096x128 .f32) (h9 : a9.IsWhole)
  (a10 : Memref sig .tc .vmem S4096x128 .f32) (h10 : a10.IsWhole) (a11 : Memref sig .tc .vmem S256x128 .f32) (h11 : a11.IsWhole)
  (x2 : Vec F S256x128 .bf16) (kc vc : Vec F S4096x128 .bf16) (x5 x6 x7 : Vec F S256x128 .f32)

/-- The ten buffers at their contents. -/
def bufs (x8 : Vec F S256x128 .f32) (dk dv : Vec F S4096x128 .f32) (x11 : Vec F S256x128 .f32) : sProp 𝕄 :=
  iprop(owns (c : Thread nD τ) a2 fullShare x2 ∗ owns (c : Thread nD τ) a3 fullShare kc ∗ owns (c : Thread nD τ) a4 fullShare vc
    ∗ owns (c : Thread nD τ) a5 fullShare x5 ∗ owns (c : Thread nD τ) a6 fullShare x6 ∗ owns (c : Thread nD τ) a7 fullShare x7
    ∗ owns (c : Thread nD τ) a8 fullShare x8 ∗ owns (c : Thread nD τ) a9 fullShare dk ∗ owns (c : Thread nD τ) a10 fullShare dv
    ∗ owns (c : Thread nD τ) a11 fullShare x11)

/-- The walk's call from the body: its counter at zero, every earlier block to visit. -/
theorem call_le (p : Sides F) (E : Set ℕ) (cy : Carry F) (dk dv : Vec F S4096x128 .f32) (K : Ret F → sProp 𝕄) :
    spec c a3 a4 a10 a9 p kc vc (i 1).val cy dk dv K
      ⊢ wp frame (wpE (defs₀ (F := F)) 𝒱₀ (c : Thread nD τ) (some (i 1).val)) E
        (defs₀ (F := F) .tc 1 ⟨i, a3, h3, a4, h4, p.doA, p.doB, p.qA, p.qB, p.tEx, p.tIn, p.sumA, p.sumB, a10, h10, a9, h9,
          0#32, cy.lA, cy.uA, cy.lB, cy.uB, cy.dq⟩) K := by
  have h := spec_le i c a3 h3 a4 h4 a10 h10 a9 h9 p kc vc E (i 1).val le_rfl cy dk dv K
  rwa [Nat.sub_self] at h

/-- Equal contents. -/
theorem owns_eq (X Y : Vec F S256x128 .f32) (h : X = Y) :
    (owns (c : Thread nD τ) a8 fullShare X : sProp 𝕄) ⊢ owns (c : Thread nD τ) a8 fullShare Y := by
  subst h; exact BIBase.Entails.rfl

set_option maxHeartbeats 4000000 in
/-- The body's run. -/
theorem body_run (E : Set ℕ) (x8 : Vec F S256x128 .f32) (dk dv : Vec F S4096x128 .f32) (x11 : Vec F S256x128 .f32)
    (Q : PUnit → sProp 𝕄) :
    iprop(bufs c a2 a3 a4 a5 a6 a7 a8 a9 a10 a11 x2 kc vc x5 x6 x7 x8 dk dv x11
      ∗ (bufs c a2 a3 a4 a5 a6 a7 a8 a9 a10 a11 x2 kc vc x5 x6 x7 (outDq (point (qb i) x2 kc vc x5 x6 x7 dk dv))
          (point (qb i) x2 kc vc x5 x6 x7 dk dv).2.1 (point (qb i) x2 kc vc x5 x6 x7 dk dv).2.2 (outDsg x5 x6 x7) -∗ Q ⟨⟩))
    ⊢ wp frame (wpE (defs₀ (F := F)) 𝒱₀ (c : Thread nD τ) none) E
        (cc0_sb_bwd i a2 h2 a3 h3 a4 h4 a5 h5 a6 h6 a7 h7 a8 h8 a9 h9 a10 h10 a11 h11) Q := by
  have h16 : (i 1).val < 16 := (i 1).isLt
  obtain ⟨dk0, hk⟩ : ∃ dk0, (if (qb i).val = 0 then (k0_pay4 : Vec F S4096x128 .f32) else dk) = dk0 := ⟨_, rfl⟩
  obtain ⟨dv0, hv⟩ : ∃ dv0, (if (qb i).val = 0 then (k0_pay5 : Vec F S4096x128 .f32) else dv) = dv0 := ⟨_, rfl⟩
  rw [point_at i x2 kc vc x5 x6 x7 dk dv dk0 dv0 hk hv _ (off1_block i) (k0_off1_inb i)]
  simp only [cc0_sb_bwd_eq_skeleton]; unfold cc0_sb_bwd_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  by_cases hb : (qb i).val = 0
  · have hc := (first_iff i).2 hb
    rw [if_pos hb] at hk hv
    subst hk hv
    simp only [dif_pos hc, Prog.lift, Prog.bind_op, Prog.bind_ret, Prog.pure_eq_ret]
    unfold bufs
    iintro ⟨⟨H2, H3, H4, H5, H6, H7, H8, H9, H10, H11⟩, Hq⟩
    iapply (wp_load_owns 𝒱₀ (c : Thread nD τ) none E) $$ H9; iintro H9
    iapply (wp_store_large c none E) $$ H9; iintro H9
    iapply (wp_load_owns 𝒱₀ (c : Thread nD τ) none E) $$ H10; iintro H10
    iapply (wp_store_large c none E) $$ H10; iintro H10
    iapply (wp_load_small c none E) $$ H2; iintro H2
    iapply (wp_load_small c none E) $$ H7; iintro H7
    iapply (wp_load_small c none E) $$ H6; iintro H6
    iapply (wp_load_small c none E) $$ H5; iintro H5
    iapply (wp_load_small c none E) $$ H11; iintro H11
    iapply (wp_store_small c none E) $$ H11; iintro H11
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ H10; iintro H10
    iapply (wp_load_owns 𝒱₀ (c : Thread nD τ) none E) $$ H10; iintro H10
    iapply (wp_store_owns 𝒱₀ (c : Thread nD τ) none E) $$ H10; iintro H10
    iapply (wp_load_owns 𝒱₀ (c : Thread nD τ) none E) $$ H9; iintro H9
    iapply (wp_load_owns 𝒱₀ (c : Thread nD τ) none E) $$ H9; iintro H9
    iapply (wp_store_owns 𝒱₀ (c : Thread nD τ) none E) $$ H9; iintro H9
    iapply (wp_call_spec 𝒱₀ (c : Thread nD τ) none E
      (spec c a3 a4 a10 a9 (sides x2 x5 x6 x7) kc vc (i 1).val
        (dgCarry (BitVec.ofNat 32 (i 1).val) (sides x2 x5 x6 x7)
          (rows (Rect.unit (s := S4096x128) (k0_off1 i) S256x128.size (k0_off1_inb i)) kc)
          (rows (Rect.unit (s := S4096x128) (k0_off1 i) S256x128.size (k0_off1_inb i)) vc)) _ _)
      (i 1).val (fun u hu => nomatch hu) (call_le i c a3 h3 a4 h4 a9 h9 a10 h10 kc vc (sides x2 x5 x6 x7) E _ _ _))
    rw [spec_apply]
    unfold held
    isplitl [H3 H4 H9 H10]
    · isplitl [H3]; · iexact H3
      isplitl [H4]; · iexact H4
      isplitl [H9]; · iexact H9
      iexact H10
    iintro %r %hr ⟨H3, H4, H9, H10⟩
    iapply (wp_load_small c none E) $$ H8; iintro H8
    iapply (wp_store_small c none E) $$ H8; iintro H8
    rw [wp_ret]; imodintro
    iapply Hq
    isplitl [H2]; · iexact H2
    isplitl [H3]; · iexact H3
    isplitl [H4]; · iexact H4
    isplitl [H5]; · iexact H5
    isplitl [H6]; · iexact H6
    isplitl [H7]; · iexact H7
    isplitl [H8]; · iapply (owns_eq c a8 _ _ (congrArg (fun z => k0_pay1 z k0_pay62) hr)) $$ H8
    isplitl [H9]; · iexact H9
    isplitl [H10]; · iexact H10
    iexact H11
  · have hc := fun h => hb ((first_iff i).1 h)
    rw [if_neg hb] at hk hv
    subst hk hv
    simp only [dif_neg hc, Prog.lift, Prog.bind_op, Prog.bind_ret, Prog.pure_eq_ret]
    unfold bufs
    iintro ⟨⟨H2, H3, H4, H5, H6, H7, H8, H9, H10, H11⟩, Hq⟩
    iapply (wp_load_small c none E) $$ H2; iintro H2
    iapply (wp_load_small c none E) $$ H7; iintro H7
    iapply (wp_load_small c none E) $$ H6; iintro H6
    iapply (wp_load_small c none E) $$ H5; iintro H5
    iapply (wp_load_small c none E) $$ H11; iintro H11
    iapply (wp_store_small c none E) $$ H11; iintro H11
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ H10; iintro H10
    iapply (wp_load_owns 𝒱₀ (c : Thread nD τ) none E) $$ H10; iintro H10
    iapply (wp_store_owns 𝒱₀ (c : Thread nD τ) none E) $$ H10; iintro H10
    iapply (wp_load_owns 𝒱₀ (c : Thread nD τ) none E) $$ H9; iintro H9
    iapply (wp_load_owns 𝒱₀ (c : Thread nD τ) none E) $$ H9; iintro H9
    iapply (wp_store_owns 𝒱₀ (c : Thread nD τ) none E) $$ H9; iintro H9
    iapply (wp_call_spec 𝒱₀ (c : Thread nD τ) none E
      (spec c a3 a4 a10 a9 (sides x2 x5 x6 x7) kc vc (i 1).val
        (dgCarry (BitVec.ofNat 32 (i 1).val) (sides x2 x5 x6 x7)
          (rows (Rect.unit (s := S4096x128) (k0_off1 i) S256x128.size (k0_off1_inb i)) kc)
          (rows (Rect.unit (s := S4096x128) (k0_off1 i) S256x128.size (k0_off1_inb i)) vc)) _ _)
      (i 1).val (fun u hu => nomatch hu) (call_le i c a3 h3 a4 h4 a9 h9 a10 h10 kc vc (sides x2 x5 x6 x7) E _ _ _))
    rw [spec_apply]
    unfold held
    isplitl [H3 H4 H9 H10]
    · isplitl [H3]; · iexact H3
      isplitl [H4]; · iexact H4
      isplitl [H9]; · iexact H9
      iexact H10
    iintro %r %hr ⟨H3, H4, H9, H10⟩
    iapply (wp_load_small c none E) $$ H8; iintro H8
    iapply (wp_store_small c none E) $$ H8; iintro H8
    rw [wp_ret]; imodintro
    iapply Hq
    isplitl [H2]; · iexact H2
    isplitl [H3]; · iexact H3
    isplitl [H4]; · iexact H4
    isplitl [H5]; · iexact H5
    isplitl [H6]; · iexact H6
    isplitl [H7]; · iexact H7
    isplitl [H8]; · iapply (owns_eq c a8 _ _ (congrArg (fun z => k0_pay1 z k0_pay62) hr)) $$ H8
    isplitl [H9]; · iexact H9
    isplitl [H10]; · iexact H10
    iexact H11

end Cert.Proof.KI

end
-- ==== Proof.Ideal.Run.lean ====
module

public import proofs.«01_k».proof.Proof.Ideal.Body
public import proofs.«01_k».proof.Proof.Gen.KernelIdeal.Launch
public import proofs.«01_k».proof.Proof.Gen.KernelIdeal.Points
public import Idealize.ShloMosaic.Lib.Pipeline.FrameBody
public import Idealize.ShloMosaic.Lib.Claim

@[expose] public section

set_option maxRecDepth 16384

noncomputable section

/-! The launch: what each window's buffer holds at each grid point, the body's triple there, and the whole program's run. -/

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host's operations before the launch -/

/-- Every host operation before the launch, stretch by stretch. -/
abbrev hostLines : List (List (HloOp τ sig (Elt F))) :=
  [hostOps0, hostOps0_1, hostOps0_2, hostOps0_3, hostOps0_4, hostOps0_5, hostOps0_6, hostOps0_7, hostOps0_8, hostOps0_9]

/-- What a buffer holds when the launch is entered. -/
def V (c : Dev nD) (b : Ref sig .tc) : Buf (Elt F) ((c : Thread nD τ).loc b) :=
  StableHlo.after (hostLines (F := F)).flatten (fun b => m (c, b)) (Proc.devRef .tc b)

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    ⟨hostOps0_sub, hostOps0_1_sub, hostOps0_2_sub, hostOps0_3_sub, hostOps0_4_sub, hostOps0_5_sub, hostOps0_6_sub, hostOps0_7_sub,
      hostOps0_8_sub, hostOps0_9_sub⟩
    (by
      simp only [hostLines, List.Forall]
      repeat' apply And.intro
      all_goals rfl)
    fun c => (main_chain c).trans rfl

theorem arg_kept (c : Dev nD) (b : Ref sig .tc) (hb : b = main_arg0 ∨ b = main_arg1) : V m c b = m ((c : Thread nD τ).loc b) := by
  unfold V
  refine StableHlo.after_of_forall_not_mem (b := Proc.devRef .tc b) _ _ (List.forall_iff_forall_mem.mp ?_)
  simp only [hostLines, List.flatten_cons, List.flatten_nil, List.append_nil, List.cons_append, List.nil_append, List.Forall,
    StableHlo.nullary_writes, StableHlo.unary_writes, StableHlo.binary_writes, StableHlo.ternary_writes, StableHlo.reshape_writes,
    StableHlo.nary_writes, Finset.mem_singleton]
  rcases hb with rfl | rfl
  all_goals
    repeat' apply And.intro
    all_goals exact StableHlo.devRef_ne_of_ne (by decide)

/-! ### What the windows' buffers hold -/

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Point `t` of the walk over the grid, from the key and value gradients `dk` and `dv` it finds. -/
def at_ (c : Dev nD) (t : Fin (cfg0 (F := F)).N) (dk dv : Vec F S4096x128 .f32) : Carry F × Vec F S4096x128 .f32 × Vec F S4096x128 .f32 :=
  point (qb (grid0.coords t)) (iblk m c 0 t) (iblk m c 1 t) (iblk m c 2 t) (iblk m c 3 t) (iblk m c 4 t) (iblk m c 5 t) dk dv

/-- What point `n` leaves, every point from the first on having run. -/
def acc (c : Dev nD) : (n : ℕ) → n < (cfg0 (F := F)).N → Carry F × Vec F S4096x128 .f32 × Vec F S4096x128 .f32
  | 0, h => at_ m c ⟨0, h⟩ k0_pay4 k0_pay5
  | n + 1, h => at_ m c ⟨n + 1, h⟩ (acc c n (Nat.lt_of_succ_lt h)).2.1 (acc c n (Nat.lt_of_succ_lt h)).2.2

/-- The first query block of a head pair starts from zero, whatever the buffers held. -/
theorem point_first (b : Fin 16) (hb : b.val = 0) (x2 : Vec F S256x128 .bf16) (kc vc : Vec F S4096x128 .bf16)
    (x5 x6 x7 : Vec F S256x128 .f32) (dk dv dk' dv' : Vec F S4096x128 .f32) :
    point b x2 kc vc x5 x6 x7 dk dv = point b x2 kc vc x5 x6 x7 dk' dv' := by
  unfold point
  simp only [if_pos hb]

theorem coord_one (t : Fin (cfg0 (F := F)).N) : (qb (grid0.coords t)).val = t.val % 16 := by
  have h : (grid0.coords t 1).val = t.val / 1 % 16 := Pipeline.Grid.coords_val (G := grid0) t 1 (by decide) rfl
  have e : (qb (grid0.coords t)).val = (grid0.coords t 1).val := rfl
  rw [e]
  exact h.trans (by simp)

theorem acc_first (c : Dev nD) (t : Fin (cfg0 (F := F)).N) (ht : t.val % 16 = 0) (dk dv : Vec F S4096x128 .f32) :
    at_ m c t dk dv = acc m c t.val t.isLt := by
  obtain ⟨n, hn⟩ := t
  cases n with
  | zero => exact point_first _ ((coord_one _).trans ht) _ _ _ _ _ _ _ _ _ _
  | succ n => exact point_first _ ((coord_one _).trans ht) _ _ _ _ _ _ _ _ _ _

theorem acc_next (c : Dev nD) (t : Fin (cfg0 (F := F)).N) (ht : t.val ≠ 0) :
    at_ m c t (acc m c (t.val - 1) (Nat.lt_of_le_of_lt (Nat.sub_le _ _) t.isLt)).2.1
      (acc m c (t.val - 1) (Nat.lt_of_le_of_lt (Nat.sub_le _ _) t.isLt)).2.2 = acc m c t.val t.isLt := by
  obtain ⟨n, hn⟩ := t
  cases n with
  | zero => exact absurd rfl ht
  | succ n => rfl

/-- The pipeline's proof data: each input's buffer at its block, each output's at what the points so far leave. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outDq (acc m c t.val t.isLt)
    | ⟨7, _⟩ => (acc m c t.val t.isLt).2.1
    | ⟨8, _⟩ => (acc m c t.val t.isLt).2.2
    | ⟨9, _⟩ => outDsg (iblk m c 3 t) (iblk m c 4 t) (iblk m c 5 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = outDq (acc m c t.val t.isLt) := rfl
theorem after0_7 (c : Dev nD) (t : Fin (cfg0 (F := F)).N) : (dats m 0 c).after 7 t = (acc m c t.val t.isLt).2.1 := rfl
theorem after0_8 (c : Dev nD) (t : Fin (cfg0 (F := F)).N) : (dats m 0 c).after 8 t = (acc m c t.val t.isLt).2.2 := rfl
theorem after0_9 (c : Dev nD) (t : Fin (cfg0 (F := F)).N) : (dats m 0 c).after 9 t = outDsg (iblk m c 3 t) (iblk m c 4 t) (iblk m c 5 t) := rfl
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
/-- The key gradient's buffer before a point: what the point before left, or anything at all at a head pair's first. -/
theorem at_before (c : Dev nD) (t : Fin (cfg0 (F := F)).N) (d7 d8) :
    at_ m c t ((dats m 0 c).before 7 t d7) ((dats m 0 c).before 8 t d8) = acc m c t.val t.isLt := by
  by_cases ht : t.val % 16 = 0
  · exact acc_first m c t ht _ _
  · have h0 : t.val ≠ 0 := fun h => ht (by rw [h])
    have hf : ¬(t.val - 1) % 16 = 15 := by omega
    rw [(dats m 0 c).before_out_kept 7 rfl t h0 (Bool.eq_false_iff.mpr fun h => hf ((flush0_7 _).mp h)) (fun _ => rfl) (fun _ _ => rfl),
      (dats m 0 c).before_out_kept 8 rfl t h0 (Bool.eq_false_iff.mpr fun h => hf ((flush0_8 _).mp h)) (fun _ => rfl) (fun _ _ => rfl),
      after0_7, after0_8]
    exact acc_next m c t h0

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare ((dats m 0 c).before 8 t d))
    ∗ (∃ d, owns (c : Thread nD τ) (win0_9.stage ((cfg0 (F := F)).slots t 9)) fullShare ((dats m 0 c).before 9 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ owns (c : Thread nD τ) (win0_8.stage ((cfg0 (F := F)).slots t 8)) fullShare ((dats m 0 c).after 8 t)
    ∗ owns (c : Thread nD τ) (win0_9.stage ((cfg0 (F := F)).slots t 9)) fullShare ((dats m 0 c).after 9 t))

set_option maxHeartbeats 2400000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hp := at_before m c t d7 d8
  rw [← hp]
  unfold at_
  iapply (body_run (grid0.coords t) c _ _ _ _ _ _ _ _ _ _ _ _ _ _ _ _ _ _ _ _ (iblk m c 0 t) (iblk m c 1 t) (iblk m c 2 t) (iblk m c 3 t)
    (iblk m c 4 t) (iblk m c 5 t) Set.univ ((dats m 0 c).before 6 t d6) ((dats m 0 c).before 7 t d7) ((dats m 0 c).before 8 t d8)
    ((dats m 0 c).before 9 t d9) _)
  unfold bufs
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- Every final state: the two arguments as launched, the four results at the pipeline's final arrays, every counter at zero. -/
theorem run_main : θ_run defs (onTc (τ := τ) (main (F := F))) ⟨m, fun _ => 0, ρ⟩ (fun r => (∀ c : Dev nD,
      r.2.mem ((c.tc : Thread nD τ).loc main_v35_0) = (dats m 0 c).arrAt 6 (cfg0 (F := F)).N
      ∧ r.2.mem ((c.tc : Thread nD τ).loc main_v35_1) = (dats m 0 c).arrAt 7 (cfg0 (F := F)).N
      ∧ r.2.mem ((c.tc : Thread nD τ).loc main_v35_2) = (dats m 0 c).arrAt 8 (cfg0 (F := F)).N
      ∧ r.2.mem ((c.tc : Thread nD τ).loc main_v35_3) = (dats m 0 c).arrAt 9 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 6, (h.1 c).1 7, (h.1 c).1 8, (h.1 c).1 9,
      ((h.1 c).1 5).trans (((dats m 0 c).arrAt_in 5 rfl _).trans ((A_eq m c 5).trans (arg_kept m c main_arg0 (Or.inl rfl)))),
      ((h.1 c).1 4).trans (((dats m 0 c).arrAt_in 4 rfl _).trans ((A_eq m c 4).trans (arg_kept m c main_arg1 (Or.inr rfl))))⟩, h.2⟩)
    (run_quiescent m ρ)

/-- The frame: the two arguments as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).2.2.2.2.1, (h.1 c).2.2.2.2.2⟩, h.2⟩) (run_main m ρ)

end Cert.Proof.KI

end
-- ==== Proof.Frames.lean ====
module

public import proofs.«01_k».proof.Defs
public import proofs.«01_k».proof.Proof.Ideal.Run
public import proofs.«01_k».proof.Proof.Bits.Run
public import proofs.«01_k».proof.Proof.Gen.ReferenceIdeal
public import proofs.«01_k».proof.Proof.Gen.ReferenceIdeal.Run
public import proofs.«01_k».proof.Proof.Gen.Pre_finite

@[expose] public section

noncomputable section

/-! The three frames, and the two named constants of the idealisation. -/

namespace Cert.Proof

open Idealize.ShloMosaic Idealize.ShloMosaic.TcCoe Idealize.SL.Sem

theorem frame_kernel : Cert.quiescent_Kernel := fun m ρ _ => K.frame_main m ρ

theorem frame_ideal : Cert.quiescent_KernelIdeal := fun m ρ _ => KI.frame_main m ρ

theorem frame_ideal_finite : Cert.quiescent_KernelIdeal_pre_finite := fun m ρ _ => KI.frame_main m ρ

/-- The reference's run, its arguments as launched; it declares no semaphore. -/
theorem frame_reference : Cert.quiescent_ReferenceIdeal := fun m ρ _ =>
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

theorem frame_reference_finite : Cert.quiescent_ReferenceIdeal_pre_finite := fun m ρ _ =>
  (θ_run Cert.ReferenceIdeal.defs _ _).mono
    (fun r h => ⟨fun c => ⟨(h c).2.2.2.2.1, (h c).2.2.2.2.2⟩, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ (by simp [Cert.KernelIdeal.κ]),
    IdealRules.named_const.statement Cert.KernelIdeal.κ "dead" .f32 0xC2D20000#32 ⊥ (by simp [Cert.KernelIdeal.κ])⟩

end Cert.Proof

end
-- ==== Proof.Ideal.Block.lean ====
/-
  One block of the stick-breaking backward pass over the real numbers: the functions of one 256 × 256 block of scores
  that the kernel computes, and how a table of extended reals is said to hold a real matrix.
-/
module

public import proofs.«01_k».proof.Proof.Ideal.Model
public import Idealize.ShloMosaic.Lib.Pointwise

@[expose] public section

noncomputable section

namespace Cert.Proof.KI

open Idealize.ShloMosaic Idealize.ShloMosaic.TcCoe
open Finset

/-- The table holds the real matrix. -/
def Mat {m n : ℕ} (x : (⟨2, ![m, n]⟩ : Shape).Idx → EReal) (X : ℕ → ℕ → ℝ) : Prop :=
  ∀ (r : Fin m) (c : Fin n), x (ix2 r c) = ((X r c : ℝ) : EReal)

/-- The one-column table holds the real vector. -/
def Col {m : ℕ} (x : (⟨2, ![m, 1]⟩ : Shape).Idx → EReal) (X : ℕ → ℝ) : Prop :=
  ∀ r : Fin m, x (ix2 r 0) = ((X r : ℝ) : EReal)

/-- The logarithm of one minus the logistic function, as the kernel writes it. -/
def lsm (z : ℝ) : ℝ := min (0 - z) 0 - Real.log (1 + Real.exp (0 - max z (-z)))

/-- The scores: rows of `q` against rows of `k`. -/
def bZ (q k : ℕ → ℕ → ℝ) (r c : ℕ) : ℝ := ∑ d ∈ range 128, q r d * k c d

section Head

open Classical in
/-- The logs kept by the mask `m`. -/
def bL (m : ℕ → ℕ → Prop) (z : ℕ → ℕ → ℝ) (r c : ℕ) : ℝ := if m r c then lsm (z r c) else 0

/-- The sum of a row behind a column. -/
def bS (x : ℕ → ℕ → ℝ) (r c : ℕ) : ℝ := ∑ j ∈ range 256, if c < j then x r j else 0

/-- The sum of a row from a column on. -/
def bT (x : ℕ → ℕ → ℝ) (r c : ℕ) : ℝ := ∑ j ∈ range 256, if c ≤ j then x r j else 0

open Classical in
/-- The weights, where the columns behind the block have summed to `l`. -/
def bA (m : ℕ → ℕ → Prop) (z : ℕ → ℕ → ℝ) (l : ℕ → ℝ) (r c : ℕ) : ℝ :=
  if m r c then Real.exp (z r c + bL m z r c + (bS (bL m z) r c + l r)) else 0

/-- The weights times their gradients. -/
def bU (m : ℕ → ℕ → Prop) (z g : ℕ → ℕ → ℝ) (l : ℕ → ℝ) (r c : ℕ) : ℝ := bA m z l r c * g r c

/-- What the row's total `w` leaves for the columns before this one, where the blocks behind have taken `u`. -/
def bR (m : ℕ → ℕ → Prop) (z g : ℕ → ℕ → ℝ) (l u w : ℕ → ℝ) (r c : ℕ) : ℝ := w r - (bT (bU m z g l) r c + u r)

open Classical in
/-- The gradient of the scores. -/
def bD (m : ℕ → ℕ → Prop) (z g : ℕ → ℕ → ℝ) (l u w : ℕ → ℝ) (r c : ℕ) : ℝ :=
  if m r c then bU m z g l r c * Real.exp (lsm (z r c)) - Real.exp (z r c + lsm (z r c)) * bR m z g l u w r c else 0

end Head

/-- No mask. -/
def all : ℕ → ℕ → Prop := fun _ _ => True

/-- The columns of the pair's first head, and of its second. -/
def lo (x : ℕ → ℕ → ℝ) (r d : ℕ) : ℝ := if d < 64 then x r d else 0
def hi (x : ℕ → ℕ → ℝ) (r d : ℕ) : ℝ := if d < 64 then 0 else x r d

/-! ### Extended reals that are real -/

theorem sum_coe {n : ℕ} (f : Fin n → ℝ) : ∑ j, ((f j : ℝ) : EReal) = ((∑ j, f j : ℝ) : EReal) := by
  induction n with
  | zero => simp
  | succ n ih => rw [Fin.sum_univ_castSucc, Fin.sum_univ_castSucc, ih, EReal.coe_add]

theorem sub_self_coe (a : ℝ) : ((a : ℝ) : EReal) - ((a : ℝ) : EReal) = 0 := by
  rw [← EReal.coe_sub, sub_self, EReal.coe_zero]

theorem lsm_coe (z : ℝ) : min (0 - ((z : ℝ) : EReal)) 0
    - Ideal.log (1 + Ideal.exp (0 - FloatOps.absf (F := Ideal) (φ := .f32) ((z : ℝ) : EReal))) = ((lsm z : ℝ) : EReal) := by
  have h0 : ∀ x y : ℝ, ((max x y : ℝ) : EReal) = max ((x : ℝ) : EReal) ((y : ℝ) : EReal) := fun x y =>
    EReal.coe_strictMono.monotone.map_max
  have h1 : ∀ x y : ℝ, ((min x y : ℝ) : EReal) = min ((x : ℝ) : EReal) ((y : ℝ) : EReal) := fun x y =>
    EReal.coe_strictMono.monotone.map_min
  have ha : FloatOps.absf (F := Ideal) (φ := .f32) ((z : ℝ) : EReal) = ((max z (-z) : ℝ) : EReal) := by
    rw [h0, EReal.coe_neg]; rfl
  rw [ha, ← EReal.coe_zero, ← EReal.coe_one, ← EReal.coe_sub, ← EReal.coe_sub, Ideal.exp_coe, ← EReal.coe_add, Ideal.log_coe,
    if_neg (not_le.mpr (by positivity)), ← h1, ← EReal.coe_sub, lsm]

/-- A product with a triangular 0–1 matrix is a partial sum, and the remainder of the split adds nothing. -/
theorem sum_coe_mul_ite {n : ℕ} (f : Fin n → ℝ) (p : Fin n → Prop) [DecidablePred p] :
    ∑ j, ((f j : ℝ) : EReal) * (if p j then 1 else 0) = ((∑ j, if p j then f j else 0 : ℝ) : EReal) := by
  rw [← sum_coe]
  refine Finset.sum_congr rfl fun j _ => ?_
  split
  · rw [mul_one]
  · rw [mul_zero, EReal.coe_zero]

end Cert.Proof.KI

end
-- ==== Proof.Ideal.Pay.lean ====
/-
  The kernel body's values over the real numbers: where the tables a payload reads hold real matrices, the table it
  computes holds the real matrix of `Block`.
-/
module

public import proofs.«01_k».proof.Proof.Ideal.Block

@[expose] public section

noncomputable section

namespace Cert.Proof.KI

open Cert.KernelIdeal Cert.KernelIdeal.Gen
open Idealize.ShloMosaic Idealize.ShloMosaic.TcCoe
open Finset

/-- The stacked strict triangle: rows behind the column. -/
def TriEx (T : FVec Ideal S512x256 .bf16) : Prop :=
  ∀ (j c : Fin 256) (h), T (ix2 ⟨j, h⟩ c) = if c.val < j.val then 1 else 0

/-- The stacked triangle: rows from the column on. -/
def TriIn (T : FVec Ideal S512x256 .bf16) : Prop :=
  ∀ (j c : Fin 256) (h), T (ix2 ⟨j, h⟩ c) = if c.val ≤ j.val then 1 else 0

theorem named_mask : (Named.named (F := Ideal) κ "mask" 0xF149F2CA#32 : Ideal .f32) = ⊥ := by
  first | rfl | exact IdealRules.named_const.ideal_named_scalar κ _ _ _ rfl

/-! ### One trip -/

section Trip

variable {q k dO v : FVec Ideal S256x128 .bf16} {Q K D V : ℕ → ℕ → ℝ}
variable {T T' : FVec Ideal S512x256 .bf16} {z n g : FVec Ideal S256x256 .f32} {Z G : ℕ → ℕ → ℝ}
variable {l u w : FVec Ideal S256x1 .f32} {L U W : ℕ → ℝ}

theorem pay71_mat (hq : Mat q Q) (hk : Mat k K) : Mat (k0_pay71 q k) (bZ Q K) := fun r c => by
  pointwise [k0_pay71, k0_pay63]
  simp only [hq r _, hk c _, ← EReal.coe_mul, sum_coe, bZ, Finset.sum_range]

theorem pay72_mat (hq : Mat q Q) (hk : Mat k K) : Mat (k0_pay72 q k) (bZ Q K) := fun r c => by
  pointwise [k0_pay72, k0_pay63]
  simp only [hq r _, hk c _, ← EReal.coe_mul, sum_coe, bZ, Finset.sum_range]

theorem pay69_mat (hq : Mat q Q) (hk : Mat k K) : Mat (k0_pay69 q k) (bZ Q K) := fun r c => by
  pointwise [k0_pay69, k0_pay64]
  simp only [hq r _, hk c _, ← EReal.coe_mul, sum_coe, bZ, Finset.sum_range]

theorem pay70_mat (hq : Mat q Q) (hk : Mat k K) : Mat (k0_pay70 q k) (bZ Q K) := fun r c => by
  pointwise [k0_pay70, k0_pay64]
  simp only [hq r _, hk c _, ← EReal.coe_mul, sum_coe, bZ, Finset.sum_range]

theorem pay73_mat (hq : Mat q Q) (hk : Mat k K) : Mat (k0_pay73 q k) (fun r c => lsm (bZ Q K r c)) := fun r c => by
  pointwise [k0_pay73]
  rw [pay71_mat hq hk r c]
  exact lsm_coe _

theorem pay76_mat (hq : Mat q Q) (hk : Mat k K) :
    Mat (k0_pay76 (k0_pay74 q k) (k0_pay75 q k)) (fun r c => lsm (bZ Q K r c)) := fun r c => by
  pointwise [k0_pay76, k0_pay74, k0_pay75]
  rw [pay72_mat hq hk r c]
  exact lsm_coe _

theorem bL_all (Z : ℕ → ℕ → ℝ) : bL all Z = fun r c => lsm (Z r c) := by
  funext r c; simp [bL, all]

theorem pay77_mat (hT : TriEx T) (hz : Mat z Z) (hn : Mat n (fun r c => lsm (Z r c))) (hl : Col l L) :
    Mat (k0_pay77 T l z n) (bA all Z L) := fun r c => by
  pointwise [k0_pay77]
  simp only [hz r c, hn r _, hl r, hT _ c, sub_self_coe, zero_mul, Finset.sum_const_zero, add_zero,
    sum_coe_mul_ite, ← EReal.coe_add, Ideal.exp_coe, bA, bL_all, bS, Finset.sum_range, all, if_true]

theorem pay78_eq (q k : FVec Ideal S256x128 .bf16) :
    k0_pay78 T l z (k0_pay74 q k) (k0_pay75 q k) = k0_pay77 T l z (k0_pay76 (k0_pay74 q k) (k0_pay75 q k)) := rfl

theorem pay79_mat (hT : TriEx T) (hz : Mat z Z) (hn : Mat n (fun r c => lsm (Z r c))) (hg : Mat g G) (hl : Col l L) :
    Mat (k0_pay79 T l g z n) (bU all Z G L) := fun r c => by
  pointwise [k0_pay79]
  rw [pay77_mat hT hz hn hl r c, hg r c, ← EReal.coe_mul, bU]

theorem pay80_eq (q k : FVec Ideal S256x128 .bf16) :
    k0_pay80 T l g z (k0_pay74 q k) (k0_pay75 q k) = k0_pay79 T l g z (k0_pay76 (k0_pay74 q k) (k0_pay75 q k)) := rfl

theorem pay82_mat (hT : TriEx T) (hT' : TriIn T') (hz : Mat z Z) (hn : Mat n (fun r c => lsm (Z r c))) (hg : Mat g G)
    (hl : Col l L) (hu : Col u U) (hw : Col w W) :
    Mat (k0_pay82 T T' w l u g z n) (bR all Z G L U W) := fun r c => by
  have h := pay79_mat hT hz hn hg hl
  pointwise [k0_pay82]
  simp only [h r _, hT' _ c, hu r, hw r, sub_self_coe, zero_mul, Finset.sum_const_zero, add_zero,
    sum_coe_mul_ite, ← EReal.coe_add, ← EReal.coe_sub, bR, bT, Finset.sum_range]

/-- The second head's triangular sum, before the carried sum and the total come in. -/
theorem pay81_mat (hT : TriEx T) (hT' : TriIn T') (hq : Mat q Q) (hk : Mat k K) (hg : Mat g G)
    (hl : Col l L) :
    Mat (k0_pay81 T T' l g (k0_pay72 q k) (k0_pay74 q k) (k0_pay75 q k)) (bT (bU all (bZ Q K) G L)) := fun r c => by
  have h := pay79_mat hT (pay72_mat hq hk) (pay76_mat hq hk) hg hl
  pointwise [k0_pay81]
  simp only [pay80_eq, h r _, hT' _ c, sub_self_coe, zero_mul, Finset.sum_const_zero, add_zero,
    sum_coe_mul_ite, ← EReal.coe_add, ← EReal.coe_sub, bR, bT, Finset.sum_range]

theorem pay85_mat (hT : TriEx T) (hT' : TriIn T') (hz : Mat z Z) (hn : Mat n (fun r c => lsm (Z r c))) (hg : Mat g G)
    (hl : Col l L) (hu : Col u U) (hw : Col w W) :
    Mat (k0_pay85 (k0_pay82 T T' w l u g z n) (k0_pay83 T l g z n) (k0_pay84 z n)) (bD all Z G L U W) := fun r c => by
  pointwise [k0_pay85, k0_pay83, k0_pay84]
  simp only [pay79_mat hT hz hn hg hl r c, pay82_mat hT hT' hz hn hg hl hu hw r c, hz r c, hn r c, ← EReal.coe_add,
    Ideal.exp_coe, ← EReal.coe_mul, ← EReal.coe_sub]
  rw [bD, if_pos (show all _ _ from trivial)]

theorem pay86_mat {U' S : FVec Ideal S256x256 .f32} (hz : Mat z Z) (hn : Mat n (fun r c => lsm (Z r c)))
    (hU : Mat U' (bU all Z G L)) (hS : Mat S (bT (bU all Z G L))) (hu : Col u U) (hw : Col w W) :
    Mat (k0_pay86 w u z n U' S) (bD all Z G L U W) := fun r c => by
  pointwise [k0_pay86]
  simp only [hU r c, hS r c, hz r c, hn r c, hu r, hw r, ← EReal.coe_add,
    Ideal.exp_coe, ← EReal.coe_mul, ← EReal.coe_sub]
  rw [bD, if_pos (show all _ _ from trivial), bR]

end Trip

/-! ### The diagonal block -/

section Diag

variable {q k dO v : FVec Ideal S256x128 .bf16} {Q K D V : ℕ → ℕ → ℝ} {m : ℕ → ℕ → Prop} {mk : IVec S256x256 1}
variable {T T' : FVec Ideal S512x256 .bf16} {z n g x s : FVec Ideal S256x256 .f32} {Z G : ℕ → ℕ → ℝ}
variable {l u w : FVec Ideal S256x1 .f32} {L U W : ℕ → ℝ}

open Classical in
/-- The bits say where the mask holds. -/
def Bits (mk : IVec S256x256 1) (m : ℕ → ℕ → Prop) : Prop :=
  ∀ (r c : Fin 256) (x y : EReal), Scalar.select (mk (ix2 r c)) x y = if m r c then x else y

theorem pay38_mat (hq : Mat q Q) (hk : Mat k K) : Mat (k0_pay38 q (k0_pay28 k)) (bZ Q K) := fun r c => by
  pointwise [k0_pay38, k0_pay28]
  simp only [hq r _, hk c _, ← EReal.coe_mul, sum_coe, bZ, Finset.sum_range]

theorem pay39_mat (hq : Mat q Q) (hk : Mat k K) : Mat (k0_pay39 q (k0_pay28 k)) (bZ Q K) := fun r c => by
  pointwise [k0_pay39, k0_pay28]
  simp only [hq r _, hk c _, ← EReal.coe_mul, sum_coe, bZ, Finset.sum_range]

theorem pay36_mat (hq : Mat q Q) (hk : Mat k K) : Mat (k0_pay36 q (k0_pay29 k)) (bZ Q K) := fun r c => by
  pointwise [k0_pay36, k0_pay29]
  simp only [hq r _, hk c _, ← EReal.coe_mul, sum_coe, bZ, Finset.sum_range]

theorem pay37_mat (hq : Mat q Q) (hk : Mat k K) : Mat (k0_pay37 q (k0_pay29 k)) (bZ Q K) := fun r c => by
  pointwise [k0_pay37, k0_pay29]
  simp only [hq r _, hk c _, ← EReal.coe_mul, sum_coe, bZ, Finset.sum_range]

theorem pay40_mat (hq : Mat q Q) (hk : Mat k K) :
    Mat (k0_pay40 q (k0_pay28 k)) (fun r c => lsm (bZ Q K r c)) := fun r c => by
  pointwise [k0_pay40]
  rw [pay38_mat hq hk r c]
  exact lsm_coe _

theorem pay41_mat (hq : Mat q Q) (hk : Mat k K) :
    Mat (k0_pay41 q (k0_pay28 k)) (fun r c => lsm (bZ Q K r c)) := fun r c => by
  pointwise [k0_pay41]
  rw [pay39_mat hq hk r c]
  exact lsm_coe _

theorem ite_coe (p : Prop) [Decidable p] (a b : ℝ) :
    (if p then ((a : ℝ) : EReal) else ((b : ℝ) : EReal)) = ((if p then a else b : ℝ) : EReal) := by
  split <;> rfl

theorem ite_coe_zero (p : Prop) [Decidable p] (a : ℝ) :
    (if p then ((a : ℝ) : EReal) else 0) = ((if p then a else 0 : ℝ) : EReal) := by
  split <;> rfl

theorem zero_ite_coe (p : Prop) [Decidable p] (a : ℝ) :
    (if p then 0 else ((a : ℝ) : EReal)) = ((if p then 0 else a : ℝ) : EReal) := by
  split <;> rfl

theorem pay42_mat {a : IVec S256x256 32} {b e : BitVec 32} (hm : Bits (k0_pay35 a b e) m) (hq : Mat q Q) (hk : Mat k K) :
    Mat (k0_pay42 q (k0_pay28 k) a b e) (bL m (bZ Q K)) := fun r c => by
  pointwise [k0_pay42]
  rw [pay40_mat hq hk r c, hm, ite_coe_zero, bL]

theorem pay43_mat {a : IVec S256x256 32} {b e : BitVec 32} (hm : Bits (k0_pay35 a b e) m) (hq : Mat q Q) (hk : Mat k K) :
    Mat (k0_pay43 q (k0_pay28 k) a b e) (bL m (bZ Q K)) := fun r c => by
  pointwise [k0_pay43]
  rw [pay41_mat hq hk r c, hm, ite_coe_zero, bL]

theorem pay44_mat {a : IVec S256x256 32} {b e : BitVec 32} (hT : TriEx T) (hm : Bits (k0_pay35 a b e) m)
    (hq : Mat q Q) (hk : Mat k K) :
    Mat (k0_pay44 q T (k0_pay28 k) a b e) (bS (bL m (bZ Q K))) := fun r c => by
  have h := pay42_mat hm hq hk
  pointwise [k0_pay44]
  simp only [h r _, hT _ c, sub_self_coe, zero_mul, Finset.sum_const_zero, add_zero, sum_coe_mul_ite, bS, Finset.sum_range]

theorem exp_ite (p : Prop) [Decidable p] (a : ℝ) :
    Ideal.exp (if p then ((a : ℝ) : EReal) else ⊥) = ((if p then Real.exp a else 0 : ℝ) : EReal) := by
  split <;> rfl

theorem pay47_mat (hm : Bits mk m) (hz : Mat z Z) (hx : Mat x (bL m Z)) (hs : Mat s (bS (bL m Z))) (hl : Col l L) :
    Mat (k0_pay47 l mk z x s) (bA m Z L) := fun r c => by
  pointwise [k0_pay47]
  rw [hm, named_mask]
  simp only [hz r c, hx r c, hs r c, hl r, ← EReal.coe_add]
  rw [exp_ite, bA]

theorem pay48_eq {a : IVec S256x256 32} {b e : BitVec 32} :
    k0_pay48 T l mk z (k0_pay43 q k a b e) (k0_pay45 q k a b e) (k0_pay46 q k a b e)
      = k0_pay47 l mk z (k0_pay43 q k a b e)
        (matmul dot_S256x512_S512x256_S256x256_1_0_0_1_n_n none
          (concatenate S256x512 1 [⟨S256x256, truncf .bf16 (k0_pay43 q k a b e) bitsLt_bf16_f32⟩,
            ⟨S256x256, truncf .bf16 (subf (k0_pay43 q k a b e) (extf .f32 (truncf .bf16 (k0_pay43 q k a b e) bitsLt_bf16_f32 : FVec Ideal S256x256 .bf16) bitsLt_bf16_f32)) bitsLt_bf16_f32⟩]
            concatenates_S256x256_S256x256_S256x512_d1) T (constant S256x256 .f32 0x00000000#32)) := rfl

theorem pay49_mat (hm : Bits mk m) (hz : Mat z Z) (hg : Mat g G) (hx : Mat x (bL m Z)) (hs : Mat s (bS (bL m Z)))
    (hl : Col l L) : Mat (k0_pay49 l mk g z x s) (bU m Z G L) := fun r c => by
  pointwise [k0_pay49]
  rw [pay47_mat hm hz hx hs hl r c, hg r c, ← EReal.coe_mul, bU]

theorem pay48_mat {a : IVec S256x256 32} {b e : BitVec 32} (hT : TriEx T) (hm : Bits (k0_pay35 a b e) m)
    (hq : Mat q Q) (hk : Mat k K) (hz : Mat z (bZ Q K)) (hl : Col l L) :
    Mat (k0_pay48 T l (k0_pay35 a b e) z (k0_pay43 q (k0_pay28 k) a b e) (k0_pay45 q (k0_pay28 k) a b e)
      (k0_pay46 q (k0_pay28 k) a b e)) (bA m (bZ Q K) L) := by
  rw [pay48_eq]
  refine pay47_mat hm hz (pay43_mat hm hq hk) (fun r c => ?_) hl
  have h := pay43_mat hm hq hk
  pointwise
  simp only [h r _, hT _ c, sub_self_coe, zero_mul, Finset.sum_const_zero, add_zero, sum_coe_mul_ite, bS, Finset.sum_range]

theorem pay50_mat {a : IVec S256x256 32} {b e : BitVec 32} (hT : TriEx T) (hm : Bits (k0_pay35 a b e) m)
    (hq : Mat q Q) (hk : Mat k K) (hz : Mat z (bZ Q K)) (hg : Mat g G) (hl : Col l L) :
    Mat (k0_pay50 T l (k0_pay35 a b e) g z (k0_pay43 q (k0_pay28 k) a b e) (k0_pay45 q (k0_pay28 k) a b e)
      (k0_pay46 q (k0_pay28 k) a b e)) (bU m (bZ Q K) G L) := fun r c => by
  pointwise [k0_pay50]
  rw [pay48_mat hT hm hq hk hz hl r c, hg r c, ← EReal.coe_mul, bU]

theorem pay51_mat (hT' : TriIn T') (hm : Bits mk m) (hz : Mat z Z) (hg : Mat g G) (hn : Mat n (fun r c => lsm (Z r c)))
    (hx : Mat x (bL m Z)) (hs : Mat s (bS (bL m Z))) (hl : Col l L) (hw : Col w W) :
    Mat (k0_pay51 w T' l mk g z n x s) (bD m Z G L L W) := fun r c => by
  have h := pay49_mat hm hz hg hx hs hl
  pointwise [k0_pay51]
  rw [hm]
  simp only [h r _, hT' _ c, hl r, hw r, hz r c, hn r c, sub_self_coe, zero_mul, Finset.sum_const_zero, add_zero, sum_coe_mul_ite,
    ← EReal.coe_add, ← EReal.coe_sub, Ideal.exp_coe, ← EReal.coe_mul, bD, bR, bT, Finset.sum_range, ite_coe_zero]

theorem pay52_mat {a : IVec S256x256 32} {b e : BitVec 32} (hT : TriEx T) (hT' : TriIn T') (hm : Bits (k0_pay35 a b e) m)
    (hq : Mat q Q) (hk : Mat k K) (hz : Mat z (bZ Q K)) (hg : Mat g G) (hl : Col l L) (hw : Col w W) :
    Mat (k0_pay52 w T T' l (k0_pay35 a b e) g z (k0_pay43 q (k0_pay28 k) a b e) (k0_pay45 q (k0_pay28 k) a b e)
      (k0_pay46 q (k0_pay28 k) a b e)) (bR m (bZ Q K) G L L W) := fun r c => by
  have h := pay50_mat hT hm hq hk hz hg hl
  pointwise [k0_pay52]
  simp only [h r _, hT' _ c, hl r, hw r, sub_self_coe, zero_mul, Finset.sum_const_zero, add_zero, sum_coe_mul_ite,
    ← EReal.coe_add, ← EReal.coe_sub, bR, bT, Finset.sum_range]

theorem pay54_mat {y R : FVec Ideal S256x256 .f32} (hm : Bits mk m) (hz : Mat z Z) (hn : Mat n (fun r c => lsm (Z r c)))
    (hy : Mat y (bU m Z G L)) (hR : Mat R (bR m Z G L U W)) :
    Mat (k0_pay54 mk z n y R (k0_pay53 n)) (bD m Z G L U W) := fun r c => by
  pointwise [k0_pay54, k0_pay53]
  rw [hm]
  simp only [hz r c, hn r c, hy r c, hR r c,
    ← EReal.coe_add, ← EReal.coe_sub, Ideal.exp_coe, ← EReal.coe_mul, bD, ite_coe_zero]

end Diag

end Cert.Proof.KI

end
-- ==== Proof.Ideal.Trip.lean ====
/-
  The diagonal block and one trip of the walk over the real numbers: what is added to the key and value gradients'
  rows, and what is carried on, where everything read is real.
-/
module

public import proofs.«01_k».proof.Proof.Ideal.Pay

@[expose] public section

noncomputable section

namespace Cert.Proof.KI

open Cert.KernelIdeal Cert.KernelIdeal.Gen
open Idealize.ShloMosaic Idealize.ShloMosaic.TcCoe
open Finset

/-- What a query block fixes, as real matrices: per head the output's gradient, the queries and the row totals. -/
structure RSides where
  doA : ℕ → ℕ → ℝ
  doB : ℕ → ℕ → ℝ
  qA : ℕ → ℕ → ℝ
  qB : ℕ → ℕ → ℝ
  wA : ℕ → ℝ
  wB : ℕ → ℝ

/-- What the walk carries, as real vectors. -/
structure RCarry where
  lA : ℕ → ℝ
  uA : ℕ → ℝ
  lB : ℕ → ℝ
  uB : ℕ → ℝ
  dq : ℕ → ℕ → ℝ

/-- The fixed tables hold the real ones. -/
structure HSides (p : Sides Ideal) (P : RSides) : Prop where
  doA : Mat p.doA P.doA
  doB : Mat p.doB P.doB
  qA : Mat p.qA P.qA
  qB : Mat p.qB P.qB
  tEx : TriEx p.tEx
  tIn : TriIn p.tIn
  wA : Col p.sumA P.wA
  wB : Col p.sumB P.wB

/-- The carried tables hold the real ones. -/
structure HCarry (c : Carry Ideal) (C : RCarry) : Prop where
  lA : Col c.lA C.lA
  uA : Col c.uA C.uA
  lB : Col c.lB C.lB
  uB : Col c.uB C.uB
  dq : Mat c.dq C.dq

section Real

variable (m : ℕ → ℕ → Prop) (P : RSides) (C : RCarry) (K V : ℕ → ℕ → ℝ)

/-- Per head the weights of the block, the weights times their gradients, and the scores' gradient. -/
def rAA := bA m (bZ P.qA K) C.lA
def rAB := bA m (bZ P.qB K) C.lB
def rUA := bU m (bZ P.qA K) (bZ P.doA V) C.lA
def rUB := bU m (bZ P.qB K) (bZ P.doB V) C.lB
def rDA := bD m (bZ P.qA K) (bZ P.doA V) C.lA C.uA P.wA
def rDB := bD m (bZ P.qB K) (bZ P.doB V) C.lB C.uB P.wB

/-- The value gradient's rows, over `o`. -/
def rDv (o : ℕ → ℕ → ℝ) (r d : ℕ) : ℝ :=
  o r d + (∑ j ∈ range 256, rAA m P C K j r * P.doA j d + ∑ j ∈ range 256, rAB m P C K j r * P.doB j d)

/-- The key gradient's rows, over `o`. -/
def rDk (o : ℕ → ℕ → ℝ) (r d : ℕ) : ℝ :=
  o r d + (∑ j ∈ range 256, rDA m P C K V j r * P.qA j d + ∑ j ∈ range 256, rDB m P C K V j r * P.qB j d)

/-- What is carried on. -/
def rCarry : RCarry where
  lA r := C.lA r + ∑ j ∈ range 256, bL m (bZ P.qA K) r j
  uA r := C.uA r + ∑ j ∈ range 256, rUA m P C K V r j
  lB r := C.lB r + ∑ j ∈ range 256, bL m (bZ P.qB K) r j
  uB r := C.uB r + ∑ j ∈ range 256, rUB m P C K V r j
  dq r d := C.dq r d
    + (∑ j ∈ range 256, rDA m P C K V r j * lo K j d + ∑ j ∈ range 256, rDB m P C K V r j * hi K j d)

end Real

/-- Nothing carried. -/
def RCarry.zero : RCarry := ⟨fun _ => 0, fun _ => 0, fun _ => 0, fun _ => 0, fun _ _ => 0⟩

/-! ### Masks -/

/-- Signed comparison of small naturals. -/
theorem toInt_small {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

theorem sle_small {a b : ℕ} (ha : a < 2 ^ 31) (hb : b < 2 ^ 31) {α : Type} (x y : α) :
    Scalar.select (IntOp.cmpi CmpIPredicate.sge (BitVec.ofNat 32 b) (BitVec.ofNat 32 a)) x y = if a ≤ b then x else y := by
  have h : IntOp.cmpi CmpIPredicate.sge (BitVec.ofNat 32 b) (BitVec.ofNat 32 a) = BitVec.ofBool (decide (a ≤ b)) := by
    show BitVec.ofBool ((BitVec.ofNat 32 a).sle (BitVec.ofNat 32 b)) = _
    rw [BitVec.sle, toInt_small ha, toInt_small hb]
    simp
  rw [h]
  by_cases hab : a ≤ b <;> simp [hab, Scalar.select]

theorem slt_small {a b : ℕ} (ha : a < 2 ^ 31) (hb : b < 2 ^ 31) {α : Type} (x y : α) :
    Scalar.select (IntOp.cmpi CmpIPredicate.slt (BitVec.ofNat 32 a) (BitVec.ofNat 32 b)) x y = if a < b then x else y := by
  have h : IntOp.cmpi CmpIPredicate.slt (BitVec.ofNat 32 a) (BitVec.ofNat 32 b) = BitVec.ofBool (decide (a < b)) := by
    show BitVec.ofBool ((BitVec.ofNat 32 a).slt (BitVec.ofNat 32 b)) = _
    rw [BitVec.slt, toInt_small ha, toInt_small hb]
    simp
  rw [h]
  by_cases hab : a < b <;> simp [hab, Scalar.select]

theorem lane_lt : ∀ d : Fin 128, IntOp.cmpi CmpIPredicate.slt (BitVec.ofNat 32 d.val) 64#32 = if d.val < 64 then 1#1 else 0#1 := by
  decide

theorem select_lane (d : Fin 128) {α : Type} (x y : α) :
    Scalar.select (IntOp.cmpi CmpIPredicate.slt (BitVec.ofNat 32 d.val) 64#32) x y = if d.val < 64 then x else y := by
  rw [lane_lt]; split <;> rfl

theorem loK_mat {k : FVec Ideal S256x128 .bf16} {K : ℕ → ℕ → ℝ} (hk : Mat k K) : Mat (k0_pay67 (F := Ideal) k) (lo K) := fun r d => by
  pointwise [k0_pay67, k0_pay65, k0_pay63, k0_pay66]
  rw [select_lane, hk r d, ite_coe_zero, lo]

theorem hiK_mat {k : FVec Ideal S256x128 .bf16} {K : ℕ → ℕ → ℝ} (hk : Mat k K) : Mat (k0_pay68 (F := Ideal) k) (hi K) := fun r d => by
  pointwise [k0_pay68, k0_pay65, k0_pay63, k0_pay66]
  rw [select_lane, hk r d, zero_ite_coe, hi]

theorem loK'_mat {k : FVec Ideal S256x128 .bf16} {K : ℕ → ℕ → ℝ} (hk : Mat k K) : Mat (k0_pay32 (F := Ideal) k) (lo K) := fun r d => by
  pointwise [k0_pay32, k0_pay28, k0_pay30, k0_pay31]
  rw [select_lane, hk r d, ite_coe_zero, lo]

theorem hiK'_mat {k : FVec Ideal S256x128 .bf16} {K : ℕ → ℕ → ℝ} (hk : Mat k K) : Mat (k0_pay33 (F := Ideal) k) (hi K) := fun r d => by
  pointwise [k0_pay33, k0_pay28, k0_pay30, k0_pay31]
  rw [select_lane, hk r d, zero_ite_coe, hi]

/-! ### One trip -/

section Trip

variable {p : Sides Ideal} {c : Carry Ideal} {kk vv : Vec Ideal S256x128 .bf16} {P : RSides} {C : RCarry}
  {K V O : ℕ → ℕ → ℝ} {old : Vec Ideal S256x128 .f32}

theorem tripAA_mat (hp : HSides p P) (hc : HCarry c C) (hk : Mat kk K) : Mat (tripAA p c kk) (rAA all P C K) :=
  pay77_mat hp.tEx (pay71_mat hp.qA hk) (pay73_mat hp.qA hk) hc.lA

theorem tripAB_mat (hp : HSides p P) (hc : HCarry c C) (hk : Mat kk K) : Mat (tripAB p c kk) (rAB all P C K) :=
  pay77_mat hp.tEx (pay72_mat hp.qB hk) (pay76_mat hp.qB hk) hc.lB

theorem tripUA_mat (hp : HSides p P) (hc : HCarry c C) (hk : Mat kk K) (hv : Mat vv V) :
    Mat (tripUA p c kk vv) (rUA all P C K V) :=
  pay79_mat hp.tEx (pay71_mat hp.qA hk) (pay73_mat hp.qA hk) (pay69_mat hp.doA hv) hc.lA

theorem tripUB_mat (hp : HSides p P) (hc : HCarry c C) (hk : Mat kk K) (hv : Mat vv V) :
    Mat (tripUB p c kk vv) (rUB all P C K V) :=
  pay79_mat hp.tEx (pay72_mat hp.qB hk) (pay76_mat hp.qB hk) (pay70_mat hp.doB hv) hc.lB

theorem tripDA_mat (hp : HSides p P) (hc : HCarry c C) (hk : Mat kk K) (hv : Mat vv V) :
    Mat (k0_pay85 (tripRA p c kk vv) (tripPA p c kk vv) (tripQA p kk)) (rDA all P C K V) :=
  pay85_mat hp.tEx hp.tIn (pay71_mat hp.qA hk) (pay73_mat hp.qA hk) (pay69_mat hp.doA hv) hc.lA hc.uA hp.wA

theorem tripDB_mat (hp : HSides p P) (hc : HCarry c C) (hk : Mat kk K) (hv : Mat vv V) :
    Mat (k0_pay86 p.sumB c.uB (k0_pay72 p.qB kk) (tripNB p kk) (tripUB p c kk vv) (tripSB p c kk vv)) (rDB all P C K V) :=
  pay86_mat (pay72_mat hp.qB hk) (pay76_mat hp.qB hk) (tripUB_mat hp hc hk hv)
    (pay81_mat hp.tEx hp.tIn hp.qB hk (pay70_mat hp.doB hv) hc.lB) hc.uB hp.wB

theorem tripDv_mat (hp : HSides p P) (hc : HCarry c C) (hk : Mat kk K) (ho : Mat old O) :
    Mat (tripDv p c kk old) (rDv all P C K O) := fun r d => by
  have hA := tripAA_mat hp hc hk
  have hB := tripAB_mat hp hc hk
  pointwise [tripDv, k0_pay87]
  simp only [hA _ r, hB _ r, hp.doA _ d, hp.doB _ d, ho r d, ← EReal.coe_mul, sum_coe, ← EReal.coe_add, rDv, Finset.sum_range]

theorem tripDk_mat (hp : HSides p P) (hc : HCarry c C) (hk : Mat kk K) (hv : Mat vv V) (ho : Mat old O) :
    Mat (tripDk p c kk vv old) (rDk all P C K V O) := fun r d => by
  have hA := tripDA_mat hp hc hk hv
  have hB := tripDB_mat hp hc hk hv
  pointwise [tripDk, k0_pay88]
  simp only [hA _ r, hB _ r, hp.qA _ d, hp.qB _ d, ho r d, ← EReal.coe_mul, sum_coe, ← EReal.coe_add, rDk, Finset.sum_range]

theorem tripCarry_mat (hp : HSides p P) (hc : HCarry c C) (hk : Mat kk K) (hv : Mat vv V) :
    HCarry (tripCarry p c kk vv) (rCarry all P C K V) where
  lA r := by
    have h := pay73_mat hp.qA hk
    pointwise [tripCarry, k0_pay90]
    simp only [h r _, hc.lA r, sum_coe, ← EReal.coe_add, rCarry, bL_all, Finset.sum_range]
  uA r := by
    have h := tripUA_mat hp hc hk hv
    pointwise [tripCarry, k0_pay91]
    simp only [h r _, hc.uA r, sum_coe, ← EReal.coe_add, rCarry, Finset.sum_range]
  lB r := by
    have h : Mat (tripNB p kk) _ := pay76_mat hp.qB hk
    pointwise [tripCarry, k0_pay92]
    simp only [h r _, hc.lB r, sum_coe, ← EReal.coe_add, rCarry, bL_all, Finset.sum_range]
  uB r := by
    have h := tripUB_mat hp hc hk hv
    pointwise [tripCarry, k0_pay3, k0_pay93]
    simp only [h r _, hc.uB r, sum_coe, ← EReal.coe_add, rCarry, Finset.sum_range]
  dq r d := by
    have hA := tripDA_mat hp hc hk hv
    have hB := tripDB_mat hp hc hk hv
    have hl := loK_mat hk
    have hh := hiK_mat hk
    pointwise [tripCarry, k0_pay89]
    simp only [hA r _, hB r _, hl _ d, hh _ d, hc.dq r d, ← EReal.coe_mul, sum_coe, ← EReal.coe_add, rCarry, Finset.sum_range]

end Trip

/-! ### The diagonal block -/

section Diag

variable {w : BitVec 32} {m : ℕ → ℕ → Prop} {p : Sides Ideal} {kk vv : Vec Ideal S256x128 .bf16} {P : RSides}
  {K V O : ℕ → ℕ → ℝ} {old : Vec Ideal S256x128 .f32}

theorem zero_col : Col (k0_pay26 (F := Ideal)) (fun _ => 0) := fun r => by
  pointwise [k0_pay26]
  rfl

theorem zero_mat : Mat (k0_pay27 (F := Ideal)) (fun _ _ => 0) := fun r c => by
  pointwise [k0_pay27]
  rfl

theorem dgAA_mat (hm : Bits (dgMask w) m) (hp : HSides p P) (hk : Mat kk K) : Mat (dgAA w p kk) (rAA m P .zero K) :=
  pay47_mat hm (pay38_mat hp.qA hk) (pay42_mat hm hp.qA hk) (pay44_mat hp.tEx hm hp.qA hk) zero_col

theorem dgAB_mat (hm : Bits (dgMask w) m) (hp : HSides p P) (hk : Mat kk K) : Mat (dgAB w p kk) (rAB m P .zero K) :=
  pay48_mat hp.tEx hm hp.qB hk (pay39_mat hp.qB hk) zero_col

theorem dgUA_mat (hm : Bits (dgMask w) m) (hp : HSides p P) (hk : Mat kk K) (hv : Mat vv V) :
    Mat (dgUA w p kk vv) (rUA m P .zero K V) :=
  pay49_mat hm (pay38_mat hp.qA hk) (pay36_mat hp.doA hv) (pay42_mat hm hp.qA hk) (pay44_mat hp.tEx hm hp.qA hk) zero_col

theorem dgUB_mat (hm : Bits (dgMask w) m) (hp : HSides p P) (hk : Mat kk K) (hv : Mat vv V) :
    Mat (dgUB w p kk vv) (rUB m P .zero K V) :=
  pay50_mat hp.tEx hm hp.qB hk (pay39_mat hp.qB hk) (pay37_mat hp.doB hv) zero_col

theorem dgDA_mat (hm : Bits (dgMask w) m) (hp : HSides p P) (hk : Mat kk K) (hv : Mat vv V) :
    Mat (dgDA w p kk vv) (rDA m P .zero K V) :=
  pay51_mat hp.tIn hm (pay38_mat hp.qA hk) (pay36_mat hp.doA hv) (pay40_mat hp.qA hk) (pay42_mat hm hp.qA hk)
    (pay44_mat hp.tEx hm hp.qA hk) zero_col hp.wA

theorem dgDB_mat (hm : Bits (dgMask w) m) (hp : HSides p P) (hk : Mat kk K) (hv : Mat vv V) :
    Mat (k0_pay54 (dgMask w) (dgZB p kk) (dgNB p kk) (dgUB w p kk vv) (dgRB w p kk vv) (dgEB p kk)) (rDB m P .zero K V) :=
  pay54_mat hm (pay39_mat hp.qB hk) (pay41_mat hp.qB hk) (dgUB_mat hm hp hk hv)
    (pay52_mat hp.tEx hp.tIn hm hp.qB hk (pay39_mat hp.qB hk) (pay37_mat hp.doB hv) zero_col hp.wB)

theorem dgDv_mat (hm : Bits (dgMask w) m) (hp : HSides p P) (hk : Mat kk K) (ho : Mat old O) :
    Mat (dgDv w p kk old) (rDv m P .zero K O) := fun r d => by
  have hA := dgAA_mat hm hp hk
  have hB := dgAB_mat hm hp hk
  pointwise [dgDv, k0_pay55]
  simp only [hA _ r, hB _ r, hp.doA _ d, hp.doB _ d, ho r d, ← EReal.coe_mul, sum_coe, ← EReal.coe_add, rDv, Finset.sum_range]

theorem dgDk_mat (hm : Bits (dgMask w) m) (hp : HSides p P) (hk : Mat kk K) (hv : Mat vv V) (ho : Mat old O) :
    Mat (dgDk w p kk vv old) (rDk m P .zero K V O) := fun r d => by
  have hA := dgDA_mat hm hp hk hv
  have hB := dgDB_mat hm hp hk hv
  pointwise [dgDk, k0_pay56]
  simp only [hA _ r, hB _ r, hp.qA _ d, hp.qB _ d, ho r d, ← EReal.coe_mul, sum_coe, ← EReal.coe_add, rDk, Finset.sum_range]

theorem dgCarry_mat (hm : Bits (dgMask w) m) (hp : HSides p P) (hk : Mat kk K) (hv : Mat vv V) :
    HCarry (dgCarry w p kk vv) (rCarry m P .zero K V) where
  lA r := by
    have h : Mat (dgLA w p kk) _ := pay42_mat hm hp.qA hk
    have h0 := zero_col r
    pointwise [dgCarry, k0_pay58]
    simp only [h r _, h0, sum_coe, ← EReal.coe_add, rCarry, RCarry.zero, Finset.sum_range]
  uA r := by
    have h := dgUA_mat hm hp hk hv
    have h0 := zero_col r
    pointwise [dgCarry, k0_pay59]
    simp only [h r _, h0, sum_coe, ← EReal.coe_add, rCarry, Finset.sum_range]
    rfl
  lB r := by
    have h : Mat (dgLB w p kk) _ := pay43_mat hm hp.qB hk
    have h0 := zero_col r
    pointwise [dgCarry, k0_pay60]
    simp only [h r _, h0, sum_coe, ← EReal.coe_add, rCarry, RCarry.zero, Finset.sum_range]
  uB r := by
    have h := dgUB_mat hm hp hk hv
    have h0 := zero_col r
    pointwise [dgCarry, k0_pay61]
    simp only [h r _, h0, sum_coe, ← EReal.coe_add, rCarry, Finset.sum_range]
    rfl
  dq r d := by
    have hA := dgDA_mat hm hp hk hv
    have hB := dgDB_mat hm hp hk hv
    have hl := loK'_mat hk
    have hh := hiK'_mat hk
    have h0 := zero_mat r d
    pointwise [dgCarry, k0_pay57]
    simp only [hA r _, hB r _, hl _ d, hh _ d, h0, ← EReal.coe_mul, sum_coe, ← EReal.coe_add, rCarry, Finset.sum_range]
    rfl

/-- Query block `b`'s diagonal mask: the key lies before the query. -/
theorem dgMask_bits (b : Fin 16) : Bits (dgMask (BitVec.ofNat 32 b.val)) (fun r c => c < r) := fun r c x y => by
  have hb := b.isLt
  have hr := r.isLt
  have hc := c.isLt
  pointwise [dgMask, k0_pay35, k0_pay34]
  have e : ∀ n : ℕ, IntOp.addi (Scalar.addi (Scalar.muli (BitVec.ofNat 32 b.val) 256#32) 0#32) (BitVec.ofNat 32 n)
      = BitVec.ofNat 32 (b.val * 256 + n) := fun n => by
    show BitVec.ofNat 32 b.val * BitVec.ofNat 32 256 + 0#32 + BitVec.ofNat 32 n = _
    rw [BitVec.add_zero, ← BitVec.ofNat_mul, ← BitVec.ofNat_add]
  rw [e, e, slt_small (by omega) (by omega)]
  by_cases h : c.val < r.val
  · rw [if_pos h, if_pos (by omega)]
  · rw [if_neg h, if_neg (by omega)]

end Diag

/-! ### The fixed tables -/

section Sides

variable {x2 : Vec Ideal S256x128 .bf16} {x5 x6 x7 : Vec Ideal S256x128 .f32} {Q O D G : ℕ → ℕ → ℝ}

/-- The logistic function, as the kernel writes it. -/
def sg (x : ℝ) : ℝ := 1 / (1 + Real.exp (0 - x))

theorem sg_coe (x : ℝ) : Ideal.div 1 (1 + Ideal.exp (0 - ((x : ℝ) : EReal))) = ((sg x : ℝ) : EReal) := by
  rw [← EReal.coe_zero, ← EReal.coe_sub, Ideal.exp_coe, ← EReal.coe_one, ← EReal.coe_add,
    Ideal.div_coe (by positivity), ← EReal.coe_mul, one_mul, sg]

/-- The output's gradient: the mixed gradient times the gate. -/
def rDo (D G : ℕ → ℕ → ℝ) (r d : ℕ) : ℝ := D r d * (G r d * sg (G r d))

/-- The fixed tables as real ones. -/
def rSides (Q O D G : ℕ → ℕ → ℝ) : RSides where
  doA := lo (rDo D G)
  doB := hi (rDo D G)
  qA := lo Q
  qB := hi Q
  wA r := ∑ d ∈ range 128, lo (fun r d => rDo D G r d * O r d) r d
  wB r := ∑ d ∈ range 128, hi (fun r d => rDo D G r d * O r d) r d

theorem pay14_mat (h6 : Mat x6 D) (h7 : Mat x7 G) : Mat (k0_pay14 x7 x6) (rDo D G) := fun r d => by
  pointwise [k0_pay14, k0_pay12]
  rw [h6 r d, h7 r d, sg_coe, ← EReal.coe_mul, ← EReal.coe_mul, rDo]

theorem and_small : ∀ j : Fin 256, IntOp.andi (BitVec.ofNat 32 j.val) 255#32 = BitVec.ofNat 32 j.val := by
  decide

theorem tEx_tri : TriEx (k0_pay24 (F := Ideal)) := fun j c h => by
  have hj := j.isLt
  have hc := c.isLt
  pointwise [k0_pay24]
  rw [and_small]
  exact slt_small (by omega) (by omega) _ _

theorem tIn_tri : TriIn (k0_pay25 (F := Ideal)) := fun j c h => by
  have hj := j.isLt
  have hc := c.isLt
  pointwise [k0_pay25]
  rw [and_small]
  exact sle_small (by omega) (by omega) _ _

theorem sides_mat (h2 : Mat x2 Q) (h5 : Mat x5 O) (h6 : Mat x6 D) (h7 : Mat x7 G) :
    HSides (sides x2 x5 x6 x7) (rSides Q O D G) where
  doA r d := by
    have h := pay14_mat h6 h7
    pointwise [sides, k0_pay22, k0_pay16, k0_pay20, k0_pay21]
    rw [select_lane, h r d, ite_coe_zero]
    rfl
  doB r d := by
    have h := pay14_mat h6 h7
    pointwise [sides, k0_pay23, k0_pay16, k0_pay20, k0_pay21]
    rw [select_lane, h r d, zero_ite_coe]
    rfl
  qA r d := by
    pointwise [sides, k0_pay10, k0_pay8, k0_pay7, k0_pay9]
    rw [select_lane, h2 r d, ite_coe_zero]
    rfl
  qB r d := by
    pointwise [sides, k0_pay11, k0_pay8, k0_pay7, k0_pay9]
    rw [select_lane, h2 r d, zero_ite_coe]
    rfl
  tEx := tEx_tri
  tIn := tIn_tri
  wA r := by
    have h := pay14_mat h6 h7
    pointwise [sides, k0_pay18, k0_pay17, k0_pay16, k0_pay6, k0_pay13]
    simp only [select_lane, h r _, h5 r _, ← EReal.coe_mul, ite_coe_zero, sum_coe, rSides, lo, Finset.sum_range]
  wB r := by
    have h := pay14_mat h6 h7
    pointwise [sides, k0_pay19, k0_pay17, k0_pay16, k0_pay6, k0_pay13]
    simp only [select_lane, h r _, h5 r _, ← EReal.coe_mul, zero_ite_coe, sum_coe, rSides, hi, Finset.sum_range]

/-- The gate's gradient. -/
def rDsg (O D G : ℕ → ℕ → ℝ) (r d : ℕ) : ℝ :=
  D r d * O r d * (sg (G r d) * (1 + G r d * (1 - sg (G r d))))

theorem outDsg_mat (h5 : Mat x5 O) (h6 : Mat x6 D) (h7 : Mat x7 G) : Mat (outDsg x5 x6 x7) (rDsg O D G) := fun r d => by
  pointwise [outDsg, k0_pay15, k0_pay12, k0_pay13]
  rw [h5 r d, h6 r d, h7 r d, sg_coe]
  simp only [← EReal.coe_mul, ← EReal.coe_sub, ← EReal.coe_add, ← EReal.coe_one, rDsg]

theorem eighth : Ideal.ofBits .f32 0x3E000000#32 = ((0.125 : ℝ) : EReal) := by
  simp [Ideal.ofBits, Ideal.ieee, -EReal.coe_mul]
  norm_num

theorem outDq_mat {R : Carry Ideal × Vec Ideal S4096x128 .f32 × Vec Ideal S4096x128 .f32} {X : ℕ → ℕ → ℝ} (h : Mat R.1.dq X) :
    Mat (outDq R) (fun r d => X r d * 0.125) := fun r d => by
  pointwise [outDq, k0_pay1, k0_pay62]
  rw [h r d, eighth, EReal.coe_mul]

end Sides

/-- Nothing is below the threshold. -/
theorem alive_one (c : Carry Ideal) : alive c = 1#1 := by
  have h : (Named.named (F := Ideal) κ "dead" 0xC2D20000#32 : Ideal .f32) = ⊥ := by
    first | rfl | exact IdealRules.named_const.ideal_named_scalar κ _ _ _ rfl
  rw [alive, h, Ideal.scalar_cmpf_def]
  show BitVec.ofBool (decide (⊥ ≤ _)) = 1#1
  rw [decide_eq_true bot_le]
  rfl

end Cert.Proof.KI

end
-- ==== Proof.Ideal.Head.lean ====
/-
  One head of the stick-breaking backward pass over the real numbers, on the whole sequence: the logs, the weights and
  the scores' gradient as sums over all 4096 keys, and that a block's functions, given the sums over the blocks behind
  it, are their restrictions to the block.
-/
module

public import proofs.«01_k».proof.Proof.Ideal.Block

@[expose] public section

noncomputable section

namespace Cert.Proof.KI

open Finset

/-- The log of one minus the break, at keys before the query. -/
def sL (z : ℕ → ℕ → ℝ) (t s : ℕ) : ℝ := if s < t then lsm (z t s) else 0

/-- The sum of the logs behind key `s`. -/
def sR (z : ℕ → ℕ → ℝ) (t s : ℕ) : ℝ := ∑ j ∈ Ico (s + 1) 4096, sL z t j

/-- The weights. -/
def sA (z : ℕ → ℕ → ℝ) (t s : ℕ) : ℝ := if s < t then Real.exp (z t s + lsm (z t s) + sR z t s) else 0

/-- The weights times their gradients. -/
def sU (z g : ℕ → ℕ → ℝ) (t s : ℕ) : ℝ := sA z t s * g t s

/-- Their sum from key `s` on. -/
def sT (z g : ℕ → ℕ → ℝ) (t s : ℕ) : ℝ := ∑ j ∈ Ico s 4096, sU z g t j

/-- The scores' gradient, with `w` the rows' totals of weight times gradient. -/
def sD (z g : ℕ → ℕ → ℝ) (w : ℕ → ℝ) (t s : ℕ) : ℝ :=
  if s < t then sU z g t s * Real.exp (lsm (z t s)) - Real.exp (z t s + lsm (z t s)) * (w t - sT z g t s) else 0

theorem sL_of_le (z : ℕ → ℕ → ℝ) {t s : ℕ} (h : t ≤ s) : sL z t s = 0 := if_neg (by omega)
theorem sA_of_le (z : ℕ → ℕ → ℝ) {t s : ℕ} (h : t ≤ s) : sA z t s = 0 := if_neg (by omega)
theorem sU_of_le (z g : ℕ → ℕ → ℝ) {t s : ℕ} (h : t ≤ s) : sU z g t s = 0 := by rw [sU, sA_of_le z h, zero_mul]
theorem sD_of_le (z g : ℕ → ℕ → ℝ) (w : ℕ → ℝ) {t s : ℕ} (h : t ≤ s) : sD z g w t s = 0 := if_neg (by omega)

/-- A sum over `256·m …` up to the end is the block's part and the rest. -/
theorem sum_block (f : ℕ → ℝ) {m : ℕ} (hm : m < 16) (c : ℕ) (hc : c ≤ 256) :
    ∑ j ∈ Ico (256 * m + c) 4096, f j
      = (∑ j ∈ range 256, if c ≤ j then f (256 * m + j) else 0) + ∑ j ∈ Ico (256 * (m + 1)) 4096, f j := by
  rw [← Finset.sum_Ico_consecutive f (show 256 * m + c ≤ 256 * (m + 1) by omega) (by omega)]
  congr 1
  rw [show 256 * m + c = c + 256 * m by ring, show 256 * (m + 1) = 256 + 256 * m by ring, ← Finset.sum_Ico_add f c 256 (256 * m), ← Finset.sum_filter]
  refine Finset.sum_congr ?_ fun _ _ => rfl
  ext j
  simp only [Finset.mem_Ico, Finset.mem_filter, Finset.mem_range]
  omega

section Blk

variable {b m : ℕ} {μ : ℕ → ℕ → Prop} {z g Z G : ℕ → ℕ → ℝ} {l u w W : ℕ → ℝ}

/-- A block's data are the restrictions of the sequence's. -/
structure OnBlock (b m : ℕ) (μ : ℕ → ℕ → Prop) (z g : ℕ → ℕ → ℝ) (l u w : ℕ → ℝ) (Z G : ℕ → ℕ → ℝ) (W : ℕ → ℝ) : Prop where
  hm : m < 16
  mask : ∀ r < 256, ∀ c < 256, (μ r c ↔ 256 * m + c < 256 * b + r)
  z : ∀ r < 256, ∀ c < 256, z r c = Z (256 * b + r) (256 * m + c)
  g : ∀ r < 256, ∀ c < 256, g r c = G (256 * b + r) (256 * m + c)
  l : ∀ r < 256, l r = ∑ j ∈ Ico (256 * (m + 1)) 4096, sL Z (256 * b + r) j
  u : ∀ r < 256, u r = ∑ j ∈ Ico (256 * (m + 1)) 4096, sU Z G (256 * b + r) j
  w : ∀ r < 256, w r = W (256 * b + r)

variable (h : OnBlock b m μ z g l u w Z G W)
include h

theorem OnBlock.bL_eq {r c : ℕ} (hr : r < 256) (hc : c < 256) : bL μ z r c = sL Z (256 * b + r) (256 * m + c) := by
  rw [bL, sL, h.z r hr c hc]
  by_cases hlt : 256 * m + c < 256 * b + r
  · rw [if_pos ((h.mask r hr c hc).mpr hlt), if_pos hlt]
  · rw [if_neg (fun x => hlt ((h.mask r hr c hc).mp x)), if_neg hlt]

theorem OnBlock.bS_eq {r c : ℕ} (hr : r < 256) (hc : c < 256) :
    bS (bL μ z) r c + l r = sR Z (256 * b + r) (256 * m + c) := by
  rw [sR, add_assoc, sum_block _ h.hm (c + 1) (by omega), h.l r hr, bS]
  congr 1
  refine Finset.sum_congr rfl fun j hj => ?_
  rw [h.bL_eq hr (Finset.mem_range.mp hj)]
  rfl

theorem OnBlock.bA_eq {r c : ℕ} (hr : r < 256) (hc : c < 256) : bA μ z l r c = sA Z (256 * b + r) (256 * m + c) := by
  rw [bA, sA, h.bS_eq hr hc, h.bL_eq hr hc, h.z r hr c hc]
  by_cases hlt : 256 * m + c < 256 * b + r
  · rw [if_pos ((h.mask r hr c hc).mpr hlt), if_pos hlt, sL, if_pos hlt]
  · rw [if_neg (fun x => hlt ((h.mask r hr c hc).mp x)), if_neg hlt]

theorem OnBlock.bU_eq {r c : ℕ} (hr : r < 256) (hc : c < 256) : bU μ z g l r c = sU Z G (256 * b + r) (256 * m + c) := by
  rw [bU, sU, h.bA_eq hr hc, h.g r hr c hc]

theorem OnBlock.bT_eq {r c : ℕ} (hr : r < 256) (hc : c < 256) :
    bT (bU μ z g l) r c + u r = sT Z G (256 * b + r) (256 * m + c) := by
  rw [sT, sum_block _ h.hm c (by omega), h.u r hr, bT]
  congr 1
  refine Finset.sum_congr rfl fun j hj => ?_
  rw [h.bU_eq hr (Finset.mem_range.mp hj)]

theorem OnBlock.bD_eq {r c : ℕ} (hr : r < 256) (hc : c < 256) :
    bD μ z g l u w r c = sD Z G W (256 * b + r) (256 * m + c) := by
  rw [bD, sD, bR, h.bT_eq hr hc, h.bU_eq hr hc, h.z r hr c hc, h.w r hr]
  by_cases hlt : 256 * m + c < 256 * b + r
  · rw [if_pos ((h.mask r hr c hc).mpr hlt), if_pos hlt]
  · rw [if_neg (fun x => hlt ((h.mask r hr c hc).mp x)), if_neg hlt]

theorem OnBlock.l_next {r : ℕ} (hr : r < 256) :
    l r + ∑ j ∈ range 256, bL μ z r j = ∑ j ∈ Ico (256 * m) 4096, sL Z (256 * b + r) j := by
  have := sum_block (sL Z (256 * b + r)) h.hm 0 (by omega)
  rw [add_zero] at this
  rw [this, h.l r hr, add_comm]
  congr 1
  refine Finset.sum_congr rfl fun j hj => ?_
  rw [h.bL_eq hr (Finset.mem_range.mp hj), if_pos (Nat.zero_le _)]

theorem OnBlock.u_next {r : ℕ} (hr : r < 256) :
    u r + ∑ j ∈ range 256, bU μ z g l r j = ∑ j ∈ Ico (256 * m) 4096, sU Z G (256 * b + r) j := by
  have := sum_block (sU Z G (256 * b + r)) h.hm 0 (by omega)
  rw [add_zero] at this
  rw [this, h.u r hr, add_comm]
  congr 1
  refine Finset.sum_congr rfl fun j hj => ?_
  rw [h.bU_eq hr (Finset.mem_range.mp hj), if_pos (Nat.zero_le _)]

end Blk

end Cert.Proof.KI

end
-- ==== Proof.Ideal.Point.lean ====
/-
  One grid point over the real numbers: where the point's blocks and the key and value buffers hold real matrices, and
  the key and value gradients hold the sums over the queries before the point's block, they hold afterwards the sums
  over the queries up to the block's end, and the query gradient's rows are the sums over all keys.
-/
module

public import proofs.«01_k».proof.Proof.Ideal.Trip
public import proofs.«01_k».proof.Proof.Ideal.Head

@[expose] public section

noncomputable section

namespace Cert.Proof.KI

open Cert.KernelIdeal Cert.KernelIdeal.Gen
open Idealize.ShloMosaic Idealize.ShloMosaic.TcCoe
open Finset

theorem Mat.congr {m n : ℕ} {x : (⟨2, ![m, n]⟩ : Shape).Idx → EReal} {X Y : ℕ → ℕ → ℝ} (h : Mat x X)
    (e : ∀ r < m, ∀ c < n, X r c = Y r c) : Mat x Y := fun r c => by
  rw [h r c, e r r.isLt c c.isLt]

theorem Col.congr {m : ℕ} {x : (⟨2, ![m, 1]⟩ : Shape).Idx → EReal} {X Y : ℕ → ℝ} (h : Col x X)
    (e : ∀ r < m, X r = Y r) : Col x Y := fun r => by
  rw [h r, e r r.isLt]

/-- The rows from `256·b` on. -/
def shf (b : ℕ) (X : ℕ → ℕ → ℝ) (r d : ℕ) : ℝ := X (256 * b + r) d

/-! ### Blocks of rows -/

theorem blk_emb (b : Fin 16) (r : Fin 256) (d : Fin 128) :
    (blk b).emb (ix2 r d) = (ix2 (⟨256 * b.val + r.val, by have := b.isLt; have := r.isLt; omega⟩ : Fin 4096) d : S4096x128.Idx) :=
  Rect.emb_eq_of_coords _ _ _ (fun a => by
    match a with
    | ⟨0, _⟩ => show 256 * b.val + r.val = 256 * b.val + 1 * r.val; omega
    | ⟨1, _⟩ => show d.val = 0 + 1 * d.val; omega)

theorem rows_mat {φ : FTy} {X : FVec Ideal S4096x128 φ} {F : ℕ → ℕ → ℝ} (b : Fin 16) (h : Mat X F) :
    Mat (m := 256) (n := 128) (rows (blk b) X) (shf b.val F) := fun r d => by
  show X ((blk b).emb (ix2 r d)) = _
  rw [blk_emb, h _ d]
  rfl

theorem overlay_mat {X : FVec Ideal S4096x128 .f32} {Y : FVec Ideal S256x128 .f32} {F H : ℕ → ℕ → ℝ} (b : Fin 16)
    (h : Mat X F) (hY : Mat Y (shf b.val H))
    (e : ∀ s, s < 256 * b.val ∨ 256 * (b.val + 1) ≤ s → ∀ d, F s d = H s d) :
    Mat (m := 4096) (n := 128) ((blk b).overlay X Y) H := fun s d => by
  by_cases hs : 256 * b.val ≤ s.val ∧ s.val < 256 * (b.val + 1)
  · have hr : s.val - 256 * b.val < 256 := by omega
    have e1 : (ix2 s d : S4096x128.Idx) = (blk b).emb (ix2 (⟨s.val - 256 * b.val, hr⟩ : Fin 256) d) := by
      rw [blk_emb]
      congr 1
      apply Fin.ext
      show s.val = 256 * b.val + (s.val - 256 * b.val)
      omega
    rw [e1]
    refine (Rect.overlay_emb (blk b) X Y _).trans ?_
    refine (hY _ d).trans ?_
    show ((H (256 * b.val + (s.val - 256 * b.val)) d : ℝ) : EReal) = _
    rw [show 256 * b.val + (s.val - 256 * b.val) = s.val by omega]
  · refine (Rect.overlay_of_not_mem (blk b) X Y ?_).trans ?_
    case neg.refine_2 => rw [h s d, e s.val (by omega)]
    intro hmem
    obtain ⟨h1, h2⟩ := Rect.mem_set_unit.mp hmem 0
    have h1' : 256 * b.val ≤ s.val := h1
    have h2' : s.val < 256 * b.val + 256 := h2
    omega

section Data

variable (Q K V O D G : ℕ → ℕ → ℝ)

/-- The two heads' scores, output gradients against values, and row totals. -/
def zA := bZ (lo Q) K
def zB := bZ (hi Q) K
def gA := bZ (lo (rDo D G)) V
def gB := bZ (hi (rDo D G)) V
def wA (t : ℕ) : ℝ := ∑ d ∈ range 128, lo (fun r d => rDo D G r d * O r d) t d
def wB (t : ℕ) : ℝ := ∑ d ∈ range 128, hi (fun r d => rDo D G r d * O r d) t d

/-- The two heads' weights and scores' gradients. -/
def aA := sA (zA Q K)
def aB := sA (zB Q K)
def dA := sD (zA Q K) (gA V D G) (wA O D G)
def dB := sD (zB Q K) (gB V D G) (wB O D G)

/-- What the walk of query block `b` has carried over the keys from `256·m` on. -/
def RC (b m : ℕ) : RCarry where
  lA r := ∑ j ∈ Ico (256 * m) 4096, sL (zA Q K) (256 * b + r) j
  uA r := ∑ j ∈ Ico (256 * m) 4096, sU (zA Q K) (gA V D G) (256 * b + r) j
  lB r := ∑ j ∈ Ico (256 * m) 4096, sL (zB Q K) (256 * b + r) j
  uB r := ∑ j ∈ Ico (256 * m) 4096, sU (zB Q K) (gB V D G) (256 * b + r) j
  dq r d := ∑ s ∈ Ico (256 * m) 4096, dA Q K V O D G (256 * b + r) s * lo K s d
    + ∑ s ∈ Ico (256 * m) 4096, dB Q K V O D G (256 * b + r) s * hi K s d

/-- The value gradient summed over the first `N` queries. -/
def gDv (N s d : ℕ) : ℝ :=
  ∑ t ∈ range N, aA Q K t s * lo (rDo D G) t d + ∑ t ∈ range N, aB Q K t s * hi (rDo D G) t d

/-- The key gradient summed over the first `N` queries. -/
def gDk (N s d : ℕ) : ℝ :=
  ∑ t ∈ range N, dA Q K V O D G t s * lo Q t d + ∑ t ∈ range N, dB Q K V O D G t s * hi Q t d

/-- A gradient whose rows from `256·m` on take in query block `b`. -/
def part (b m : ℕ) (X : ℕ → ℕ → ℕ → ℝ) (s d : ℕ) : ℝ := if 256 * m ≤ s then X (256 * (b + 1)) s d else X (256 * b) s d

/-- The point's fixed matrices. -/
abbrev PS (b : ℕ) : RSides := rSides (shf b Q) (shf b O) (shf b D) (shf b G)

variable {Q K V O D G}

section Step

variable {b m : ℕ} {μ : ℕ → ℕ → Prop} {C : RCarry}

/-- The two heads' blocks are restrictions of the sequence's. -/
structure OnBlocks (Q K V O D G : ℕ → ℕ → ℝ) (b m : ℕ) (μ : ℕ → ℕ → Prop) (C : RCarry) : Prop where
  A : OnBlock b m μ (bZ (PS Q O D G b).qA (shf m K)) (bZ (PS Q O D G b).doA (shf m V)) C.lA C.uA (PS Q O D G b).wA
    (zA Q K) (gA V D G) (wA O D G)
  B : OnBlock b m μ (bZ (PS Q O D G b).qB (shf m K)) (bZ (PS Q O D G b).doB (shf m V)) C.lB C.uB (PS Q O D G b).wB
    (zB Q K) (gB V D G) (wB O D G)
  dq : ∀ r < 256, ∀ d < 128, C.dq r d = (RC Q K V O D G b (m + 1)).dq r d

theorem onBlocks_walk (hm : m < b) (hb : b < 16) : OnBlocks Q K V O D G b m all (RC Q K V O D G b (m + 1)) where
  A := ⟨by omega, fun r hr c hc => ⟨fun _ => by omega, fun _ => trivial⟩, fun _ _ _ _ => rfl, fun _ _ _ _ => rfl,
    fun _ _ => rfl, fun _ _ => rfl, fun _ _ => rfl⟩
  B := ⟨by omega, fun r hr c hc => ⟨fun _ => by omega, fun _ => trivial⟩, fun _ _ _ _ => rfl, fun _ _ _ _ => rfl,
    fun _ _ => rfl, fun _ _ => rfl, fun _ _ => rfl⟩
  dq := fun _ _ _ _ => rfl

theorem sum_behind {f : ℕ → ℝ} {r : ℕ} (hr : r < 256) (h : ∀ s, 256 * b + r ≤ s → f s = 0) :
    0 = ∑ j ∈ Ico (256 * (b + 1)) 4096, f j :=
  (Finset.sum_eq_zero fun j hj => h j (by have := (Finset.mem_Ico.mp hj).1; omega)).symm

theorem onBlocks_diag (hb : b < 16) : OnBlocks Q K V O D G b b (fun r c => c < r) .zero where
  A := ⟨hb, fun r hr c hc => ⟨fun h => by omega, fun h => by omega⟩, fun _ _ _ _ => rfl, fun _ _ _ _ => rfl,
    fun r hr => sum_behind hr fun _ h => sL_of_le _ h, fun r hr => sum_behind hr fun _ h => sU_of_le _ _ h, fun _ _ => rfl⟩
  B := ⟨hb, fun r hr c hc => ⟨fun h => by omega, fun h => by omega⟩, fun _ _ _ _ => rfl, fun _ _ _ _ => rfl,
    fun r hr => sum_behind hr fun _ h => sL_of_le _ h, fun r hr => sum_behind hr fun _ h => sU_of_le _ _ h, fun _ _ => rfl⟩
  dq := fun r hr d _ => by
    have eA : ∀ s, 256 * b + r ≤ s → dA Q K V O D G (256 * b + r) s * lo K s d = 0 := fun s h => by
      rw [dA, sD_of_le _ _ _ h, zero_mul]
    have eB : ∀ s, 256 * b + r ≤ s → dB Q K V O D G (256 * b + r) s * hi K s d = 0 := fun s h => by
      rw [dB, sD_of_le _ _ _ h, zero_mul]
    show (0 : ℝ) = _ + _
    rw [← sum_behind hr eA, ← sum_behind hr eB, add_zero]

variable (h : OnBlocks Q K V O D G b m μ C)
include h

theorem carry_next {c : Carry Ideal} (hc : HCarry c (rCarry μ (PS Q O D G b) C (shf m K) (shf m V))) :
    HCarry c (RC Q K V O D G b m) where
  lA := hc.lA.congr fun r hr => h.A.l_next hr
  uA := hc.uA.congr fun r hr => h.A.u_next hr
  lB := hc.lB.congr fun r hr => h.B.l_next hr
  uB := hc.uB.congr fun r hr => h.B.u_next hr
  dq := hc.dq.congr fun r hr d hd => by
    have eA := sum_block (fun s => dA Q K V O D G (256 * b + r) s * lo K s d) h.A.hm 0 (by omega)
    have eB := sum_block (fun s => dB Q K V O D G (256 * b + r) s * hi K s d) h.A.hm 0 (by omega)
    rw [add_zero] at eA eB
    show C.dq r d + (_ + _) = _ + _
    rw [eA, eB, h.dq r hr d hd]
    have fA : ∑ j ∈ range 256, rDA μ (PS Q O D G b) C (shf m K) (shf m V) r j * lo (shf m K) j d
        = ∑ j ∈ range 256, if 0 ≤ j then dA Q K V O D G (256 * b + r) (256 * m + j) * lo K (256 * m + j) d else 0 :=
      Finset.sum_congr rfl fun j hj => by
        rw [if_pos (Nat.zero_le _), rDA, h.A.bD_eq hr (Finset.mem_range.mp hj)]
        rfl
    have fB : ∑ j ∈ range 256, rDB μ (PS Q O D G b) C (shf m K) (shf m V) r j * hi (shf m K) j d
        = ∑ j ∈ range 256, if 0 ≤ j then dB Q K V O D G (256 * b + r) (256 * m + j) * hi K (256 * m + j) d else 0 :=
      Finset.sum_congr rfl fun j hj => by
        rw [if_pos (Nat.zero_le _), rDB, h.B.bD_eq hr (Finset.mem_range.mp hj)]
        rfl
    rw [fA, fB]
    simp only [RC]
    ring

theorem dv_next {y : FVec Ideal S256x128 .f32}
    (hy : Mat y (rDv μ (PS Q O D G b) C (shf m K) (shf m (gDv Q K D G (256 * b))))) :
    Mat y (shf m (gDv Q K D G (256 * (b + 1)))) := hy.congr fun r hr d hd => by
  have fA : ∑ j ∈ range 256, rAA μ (PS Q O D G b) C (shf m K) j r * (PS Q O D G b).doA j d
      = ∑ j ∈ range 256, aA Q K (256 * b + j) (256 * m + r) * lo (rDo D G) (256 * b + j) d :=
    Finset.sum_congr rfl fun j hj => by
      rw [rAA, h.A.bA_eq (Finset.mem_range.mp hj) hr]
      rfl
  have fB : ∑ j ∈ range 256, rAB μ (PS Q O D G b) C (shf m K) j r * (PS Q O D G b).doB j d
      = ∑ j ∈ range 256, aB Q K (256 * b + j) (256 * m + r) * hi (rDo D G) (256 * b + j) d :=
    Finset.sum_congr rfl fun j hj => by
      rw [rAB, h.B.bA_eq (Finset.mem_range.mp hj) hr]
      rfl
  rw [rDv, fA, fB, shf, shf, gDv, gDv, mul_add, mul_one, Finset.sum_range_add, Finset.sum_range_add]
  ring

theorem dk_next {y : FVec Ideal S256x128 .f32}
    (hy : Mat y (rDk μ (PS Q O D G b) C (shf m K) (shf m V) (shf m (gDk Q K V O D G (256 * b))))) :
    Mat y (shf m (gDk Q K V O D G (256 * (b + 1)))) := hy.congr fun r hr d hd => by
  have fA : ∑ j ∈ range 256, rDA μ (PS Q O D G b) C (shf m K) (shf m V) j r * (PS Q O D G b).qA j d
      = ∑ j ∈ range 256, dA Q K V O D G (256 * b + j) (256 * m + r) * lo Q (256 * b + j) d :=
    Finset.sum_congr rfl fun j hj => by
      rw [rDA, h.A.bD_eq (Finset.mem_range.mp hj) hr]
      rfl
  have fB : ∑ j ∈ range 256, rDB μ (PS Q O D G b) C (shf m K) (shf m V) j r * (PS Q O D G b).qB j d
      = ∑ j ∈ range 256, dB Q K V O D G (256 * b + j) (256 * m + r) * hi Q (256 * b + j) d :=
    Finset.sum_congr rfl fun j hj => by
      rw [rDB, h.B.bD_eq (Finset.mem_range.mp hj) hr]
      rfl
  rw [rDk, fA, fB, shf, shf, gDk, gDk, mul_add, mul_one, Finset.sum_range_add, Finset.sum_range_add]
  ring

end Step

/-! ### The walk -/

variable {kc vc : Vec Ideal S4096x128 .bf16} {p : Sides Ideal} {b : ℕ}

theorem walk_mat (hb : b < 16) (hk : Mat kc K) (hv : Mat vc V) (hp : HSides p (PS Q O D G b)) :
    ∀ n ≤ b, ∀ (c : Carry Ideal) (dk dv : Vec Ideal S4096x128 .f32), HCarry c (RC Q K V O D G b n) →
      Mat dk (part b n (gDk Q K V O D G)) → Mat dv (part b n (gDv Q K D G)) →
      HCarry (walk p kc vc n c dk dv).1 (RC Q K V O D G b 0)
        ∧ Mat (walk p kc vc n c dk dv).2.1 (gDk Q K V O D G (256 * (b + 1)))
        ∧ Mat (walk p kc vc n c dk dv).2.2 (gDv Q K D G (256 * (b + 1)))
  | 0, _, c, dk, dv, hc, hdk, hdv => ⟨hc, hdk.congr fun _ _ _ _ => if_pos (by omega), hdv.congr fun _ _ _ _ => if_pos (by omega)⟩
  | n + 1, hn, c, dk, dv, hc, hdk, hdv => by
    have hn16 : n % 16 = n := Nat.mod_eq_of_lt (by omega)
    have hob := onBlocks_walk (Q := Q) (K := K) (V := V) (O := O) (D := D) (G := G) (m := n) (b := b) (by omega) hb
    have eb : blkN n = blk ⟨n % 16, Nat.mod_lt _ (by omega)⟩ := rfl
    have hk' : Mat (m := 256) (n := 128) (rows (blkN n) kc) (shf n K) := by
      have := rows_mat (φ := .bf16) ⟨n % 16, Nat.mod_lt _ (by omega)⟩ hk
      exact this.congr fun r _ d _ => by show shf (n % 16) _ r d = _; rw [hn16]
    have hv' : Mat (m := 256) (n := 128) (rows (blkN n) vc) (shf n V) := by
      have := rows_mat (φ := .bf16) ⟨n % 16, Nat.mod_lt _ (by omega)⟩ hv
      exact this.congr fun r _ d _ => by show shf (n % 16) _ r d = _; rw [hn16]
    have hdk' : Mat (m := 256) (n := 128) (rows (blkN n) dk) (shf n (gDk Q K V O D G (256 * b))) := by
      have := rows_mat (φ := .f32) ⟨n % 16, Nat.mod_lt _ (by omega)⟩ hdk
      exact this.congr fun r hr d _ => by show shf (n % 16) _ r d = _; rw [hn16]; exact if_neg (by omega)
    have hdv' : Mat (m := 256) (n := 128) (rows (blkN n) dv) (shf n (gDv Q K D G (256 * b))) := by
      have := rows_mat (φ := .f32) ⟨n % 16, Nat.mod_lt _ (by omega)⟩ hdv
      exact this.congr fun r hr d _ => by show shf (n % 16) _ r d = _; rw [hn16]; exact if_neg (by omega)
    have yk := dk_next hob (tripDk_mat hp hc hk' hv' hdk')
    have yv := dv_next hob (tripDv_mat hp hc hk' hdv')
    rw [walk, if_pos (alive_one c)]
    refine walk_mat hb hk hv hp n (by omega) _ _ _ (carry_next hob (tripCarry_mat hp hc hk' hv')) ?_ ?_
    · refine overlay_mat ⟨n % 16, Nat.mod_lt _ (by omega)⟩ hdk (yk.congr fun r hr d _ => ?_) fun s hs d => ?_
      · show _ = shf (n % 16) _ r d
        rw [hn16]
        exact (if_pos (by omega)).symm
      · have hs' : s < 256 * (n % 16) ∨ 256 * (n % 16 + 1) ≤ s := hs
        rw [hn16] at hs'
        rcases hs' with h | h
        · rw [part, part, if_neg (by omega), if_neg (by omega)]
        · rw [part, part, if_pos (by omega), if_pos (by omega)]
    · refine overlay_mat ⟨n % 16, Nat.mod_lt _ (by omega)⟩ hdv (yv.congr fun r hr d _ => ?_) fun s hs d => ?_
      · show _ = shf (n % 16) _ r d
        rw [hn16]
        exact (if_pos (by omega)).symm
      · have hs' : s < 256 * (n % 16) ∨ 256 * (n % 16 + 1) ≤ s := hs
        rw [hn16] at hs'
        rcases hs' with h | h
        · rw [part, part, if_neg (by omega), if_neg (by omega)]
        · rw [part, part, if_pos (by omega), if_pos (by omega)]

/-- Queries before a key add nothing to it. -/
theorem gDk_behind {s : ℕ} (hs : 256 * (b + 1) ≤ s) (d : ℕ) :
    gDk Q K V O D G (256 * b) s d = gDk Q K V O D G (256 * (b + 1)) s d := by
  have h : ∀ N ≤ s, gDk Q K V O D G N s d = 0 := fun N hN => by
    rw [gDk, Finset.sum_eq_zero, Finset.sum_eq_zero, add_zero]
    · intro t ht
      rw [dB, sD_of_le _ _ _ (by have := Finset.mem_range.mp ht; omega), zero_mul]
    · intro t ht
      rw [dA, sD_of_le _ _ _ (by have := Finset.mem_range.mp ht; omega), zero_mul]
  rw [h _ (by omega), h _ hs]

theorem gDv_behind {s : ℕ} (hs : 256 * (b + 1) ≤ s) (d : ℕ) :
    gDv Q K D G (256 * b) s d = gDv Q K D G (256 * (b + 1)) s d := by
  have h : ∀ N ≤ s, gDv Q K D G N s d = 0 := fun N hN => by
    rw [gDv, Finset.sum_eq_zero, Finset.sum_eq_zero, add_zero]
    · intro t ht
      rw [aB, sA_of_le _ (by have := Finset.mem_range.mp ht; omega), zero_mul]
    · intro t ht
      rw [aA, sA_of_le _ (by have := Finset.mem_range.mp ht; omega), zero_mul]
  rw [h _ (by omega), h _ hs]

theorem clear_dk : Mat (k0_pay4 (F := Ideal)) (gDk Q K V O D G (256 * 0)) := fun r d => by
  pointwise [k0_pay4]
  simp [gDk]

theorem clear_dv : Mat (k0_pay5 (F := Ideal)) (gDv Q K D G (256 * 0)) := fun r d => by
  pointwise [k0_pay5]
  simp [gDv]

/-- The whole point. -/
theorem point_mat (b : Fin 16) {x2 : Vec Ideal S256x128 .bf16} {x5 x6 x7 : Vec Ideal S256x128 .f32}
    {dk dv : Vec Ideal S4096x128 .f32} (h2 : Mat x2 (shf b.val Q)) (hk : Mat kc K) (hv : Mat vc V) (h5 : Mat x5 (shf b.val O))
    (h6 : Mat x6 (shf b.val D)) (h7 : Mat x7 (shf b.val G))
    (hdk : b.val ≠ 0 → Mat dk (gDk Q K V O D G (256 * b.val))) (hdv : b.val ≠ 0 → Mat dv (gDv Q K D G (256 * b.val))) :
    HCarry (point b x2 kc vc x5 x6 x7 dk dv).1 (RC Q K V O D G b.val 0)
      ∧ Mat (point b x2 kc vc x5 x6 x7 dk dv).2.1 (gDk Q K V O D G (256 * (b.val + 1)))
      ∧ Mat (point b x2 kc vc x5 x6 x7 dk dv).2.2 (gDv Q K D G (256 * (b.val + 1))) := by
  have hb := b.isLt
  have hp := sides_mat h2 h5 h6 h7
  have hob := onBlocks_diag (Q := Q) (K := K) (V := V) (O := O) (D := D) (G := G) hb
  have hm := dgMask_bits b
  have hdk0 : Mat (if b.val = 0 then k0_pay4 (F := Ideal) else dk) (gDk Q K V O D G (256 * b.val)) := by
    by_cases h : b.val = 0
    · rw [if_pos h, h]; exact clear_dk
    · rw [if_neg h]; exact hdk h
  have hdv0 : Mat (if b.val = 0 then k0_pay5 (F := Ideal) else dv) (gDv Q K D G (256 * b.val)) := by
    by_cases h : b.val = 0
    · rw [if_pos h, h]; exact clear_dv
    · rw [if_neg h]; exact hdv h
  have hk' := rows_mat (φ := .bf16) b hk
  have hv' := rows_mat (φ := .bf16) b hv
  have yk := dk_next hob (dgDk_mat hm hp hk' hv' (rows_mat (φ := .f32) b hdk0))
  have yv := dv_next hob (dgDv_mat hm hp hk' (rows_mat (φ := .f32) b hdv0))
  refine walk_mat hb hk hv hp b.val le_rfl _ _ _ (carry_next hob (dgCarry_mat hm hp hk' hv')) ?_ ?_
  · refine overlay_mat b hdk0 (yk.congr fun r hr d _ => (if_pos (by omega)).symm) fun s hs d => ?_
    rcases hs with h | h
    · rw [part, if_neg (by omega)]
    · rw [part, if_pos (by omega), gDk_behind h]
  · refine overlay_mat b hdv0 (yv.congr fun r hr d _ => (if_pos (by omega)).symm) fun s hs d => ?_
    rcases hs with h | h
    · rw [part, if_neg (by omega)]
    · rw [part, if_pos (by omega), gDv_behind h]

end Data

end Cert.Proof.KI

end
-- ==== Proof.Ideal.Grid.lean ====
/-
  The whole grid over the real numbers: where the arrays the windows read hold real matrices, the four result arrays
  hold the gradients of the two head pairs, side by side.
-/
module

public import proofs.«01_k».proof.Proof.Ideal.Point
public import proofs.«01_k».proof.Proof.Ideal.Run
public import Idealize.ShloMosaic.Lib.Pipeline.ValueKit

@[expose] public section

noncomputable section

namespace Cert.Proof.KI

open Cert.KernelIdeal Cert.KernelIdeal.Gen
open Idealize.ShloMosaic Idealize.ShloMosaic.TcCoe
open Idealize.SL Idealize.SL.Sem
open Finset

variable (m : (ℓ : Loc nD τ sig) → Buf (Elt Ideal) ℓ) (c : Dev nD)

theorem Mat.at {m n : ℕ} {x : (⟨2, ![m, n]⟩ : Shape).Idx → EReal} {X : ℕ → ℕ → ℝ} (h : Mat x X)
    (i : (⟨2, ![m, n]⟩ : Shape).Idx) : x i = ((X (i 0).val (i 1).val : ℝ) : EReal) := by
  rw [eq_ix2 i]
  exact h (i 0) (i 1)

/-- The columns from `o` on. -/
def col (o : ℕ) (X : ℕ → ℕ → ℝ) (t d : ℕ) : ℝ := X t (o + d)

/-! ### The windows -/

theorem index_0 : ∀ t : Fin (cfg0 (F := Ideal)).N, win0_0.index t = ![t.val % 16, t.val / 16] := by
  decide +kernel

theorem index_1 : ∀ t : Fin (cfg0 (F := Ideal)).N, win0_1.index t = ![0, t.val / 16] := by
  decide +kernel

theorem index_2 : ∀ t : Fin (cfg0 (F := Ideal)).N, win0_2.index t = ![0, t.val / 16] := by
  decide +kernel

theorem index_3 : ∀ t : Fin (cfg0 (F := Ideal)).N, win0_3.index t = ![t.val % 16, t.val / 16] := by
  decide +kernel

theorem index_4 : ∀ t : Fin (cfg0 (F := Ideal)).N, win0_4.index t = ![t.val % 16, 6 + t.val / 16] := by
  decide +kernel

theorem index_5 : ∀ t : Fin (cfg0 (F := Ideal)).N, win0_5.index t = ![t.val % 16, 26 + t.val / 16] := by
  decide +kernel

theorem index_6 : ∀ t : Fin (cfg0 (F := Ideal)).N, win0_6.index t = ![t.val % 16, t.val / 16] := by
  decide +kernel

theorem index_7 : ∀ t : Fin (cfg0 (F := Ideal)).N, win0_7.index t = ![0, t.val / 16] := by
  decide +kernel

theorem index_8 : ∀ t : Fin (cfg0 (F := Ideal)).N, win0_8.index t = ![0, t.val / 16] := by
  decide +kernel

theorem index_9 : ∀ t : Fin (cfg0 (F := Ideal)).N, win0_9.index t = ![t.val % 16, t.val / 16] := by
  decide +kernel

theorem iblk0_mat {X : ℕ → ℕ → ℝ} (h : Mat (m := 4096) (n := 256) (V m c main_v32) X) (t : Fin (cfg0 (F := Ideal)).N) :
    Mat (m := 256) (n := 128) (iblk m c 0 t) (shf (t.val % 16) (col (128 * (t.val / 16)) X)) := fun r d => by
  have e0 : ((win0_0.blk t).view.emb (ix2 r d) 0 : Fin _).val = win0_0.index t 0 * 256 + r.val := by blk_simp
  have e1 : ((win0_0.blk t).view.emb (ix2 r d) 1 : Fin _).val = win0_0.index t 1 * 128 + d.val := by blk_simp
  have f0 : win0_0.index t 0 * 256 + r.val = 256 * (t.val % 16) + r.val := by
    rw [index_0]
    show (t.val % 16) * 256 + r.val = _
    omega
  have f1 : win0_0.index t 1 * 128 + d.val = 128 * (t.val / 16) + d.val := by
    rw [index_0]
    show (t.val / 16) * 128 + d.val = _
    omega
  blk_simp [iblk]
  exact (h.at _).trans (congrArg₂ (fun x y : ℕ => ((X x y : ℝ) : EReal)) (e0.trans f0) (e1.trans f1))

theorem iblk1_mat {X : ℕ → ℕ → ℝ} (h : Mat (m := 4096) (n := 256) (V m c main_v33) X) (t : Fin (cfg0 (F := Ideal)).N) :
    Mat (m := 4096) (n := 128) (iblk m c 1 t) (col (128 * (t.val / 16)) X) := fun r d => by
  have e0 : ((win0_1.blk t).view.emb (ix2 r d) 0 : Fin _).val = win0_1.index t 0 * 4096 + r.val := by blk_simp
  have e1 : ((win0_1.blk t).view.emb (ix2 r d) 1 : Fin _).val = win0_1.index t 1 * 128 + d.val := by blk_simp
  have f0 : win0_1.index t 0 * 4096 + r.val = r.val := by
    rw [index_1]
    show (0) * 4096 + r.val = _
    omega
  have f1 : win0_1.index t 1 * 128 + d.val = 128 * (t.val / 16) + d.val := by
    rw [index_1]
    show (t.val / 16) * 128 + d.val = _
    omega
  blk_simp [iblk]
  exact (h.at _).trans (congrArg₂ (fun x y : ℕ => ((X x y : ℝ) : EReal)) (e0.trans f0) (e1.trans f1))

theorem iblk2_mat {X : ℕ → ℕ → ℝ} (h : Mat (m := 4096) (n := 256) (V m c main_v34) X) (t : Fin (cfg0 (F := Ideal)).N) :
    Mat (m := 4096) (n := 128) (iblk m c 2 t) (col (128 * (t.val / 16)) X) := fun r d => by
  have e0 : ((win0_2.blk t).view.emb (ix2 r d) 0 : Fin _).val = win0_2.index t 0 * 4096 + r.val := by blk_simp
  have e1 : ((win0_2.blk t).view.emb (ix2 r d) 1 : Fin _).val = win0_2.index t 1 * 128 + d.val := by blk_simp
  have f0 : win0_2.index t 0 * 4096 + r.val = r.val := by
    rw [index_2]
    show (0) * 4096 + r.val = _
    omega
  have f1 : win0_2.index t 1 * 128 + d.val = 128 * (t.val / 16) + d.val := by
    rw [index_2]
    show (t.val / 16) * 128 + d.val = _
    omega
  blk_simp [iblk]
  exact (h.at _).trans (congrArg₂ (fun x y : ℕ => ((X x y : ℝ) : EReal)) (e0.trans f0) (e1.trans f1))

theorem iblk3_mat {X : ℕ → ℕ → ℝ} (h : Mat (m := 4096) (n := 256) (V m c main_v29) X) (t : Fin (cfg0 (F := Ideal)).N) :
    Mat (m := 256) (n := 128) (iblk m c 3 t) (shf (t.val % 16) (col (128 * (t.val / 16)) X)) := fun r d => by
  have e0 : ((win0_3.blk t).view.emb (ix2 r d) 0 : Fin _).val = win0_3.index t 0 * 256 + r.val := by blk_simp
  have e1 : ((win0_3.blk t).view.emb (ix2 r d) 1 : Fin _).val = win0_3.index t 1 * 128 + d.val := by blk_simp
  have f0 : win0_3.index t 0 * 256 + r.val = 256 * (t.val % 16) + r.val := by
    rw [index_3]
    show (t.val % 16) * 256 + r.val = _
    omega
  have f1 : win0_3.index t 1 * 128 + d.val = 128 * (t.val / 16) + d.val := by
    rw [index_3]
    show (t.val / 16) * 128 + d.val = _
    omega
  blk_simp [iblk]
  exact (h.at _).trans (congrArg₂ (fun x y : ℕ => ((X x y : ℝ) : EReal)) (e0.trans f0) (e1.trans f1))

theorem iblk4_mat {X : ℕ → ℕ → ℝ} (h : Mat (m := 4096) (n := 1024) (V m c main_arg1) X) (t : Fin (cfg0 (F := Ideal)).N) :
    Mat (m := 256) (n := 128) (iblk m c 4 t) (shf (t.val % 16) (col (768 + 128 * (t.val / 16)) X)) := fun r d => by
  have e0 : ((win0_4.blk t).view.emb (ix2 r d) 0 : Fin _).val = win0_4.index t 0 * 256 + r.val := by blk_simp
  have e1 : ((win0_4.blk t).view.emb (ix2 r d) 1 : Fin _).val = win0_4.index t 1 * 128 + d.val := by blk_simp
  have f0 : win0_4.index t 0 * 256 + r.val = 256 * (t.val % 16) + r.val := by
    rw [index_4]
    show (t.val % 16) * 256 + r.val = _
    omega
  have f1 : win0_4.index t 1 * 128 + d.val = 768 + 128 * (t.val / 16) + d.val := by
    rw [index_4]
    show (6 + t.val / 16) * 128 + d.val = _
    omega
  blk_simp [iblk]
  exact (h.at _).trans (congrArg₂ (fun x y : ℕ => ((X x y : ℝ) : EReal)) (e0.trans f0) (e1.trans f1))

theorem iblk5_mat {X : ℕ → ℕ → ℝ} (h : Mat (m := 4096) (n := 3584) (V m c main_arg0) X) (t : Fin (cfg0 (F := Ideal)).N) :
    Mat (m := 256) (n := 128) (iblk m c 5 t) (shf (t.val % 16) (col (3328 + 128 * (t.val / 16)) X)) := fun r d => by
  have e0 : ((win0_5.blk t).view.emb (ix2 r d) 0 : Fin _).val = win0_5.index t 0 * 256 + r.val := by blk_simp
  have e1 : ((win0_5.blk t).view.emb (ix2 r d) 1 : Fin _).val = win0_5.index t 1 * 128 + d.val := by blk_simp
  have f0 : win0_5.index t 0 * 256 + r.val = 256 * (t.val % 16) + r.val := by
    rw [index_5]
    show (t.val % 16) * 256 + r.val = _
    omega
  have f1 : win0_5.index t 1 * 128 + d.val = 3328 + 128 * (t.val / 16) + d.val := by
    rw [index_5]
    show (26 + t.val / 16) * 128 + d.val = _
    omega
  blk_simp [iblk]
  exact (h.at _).trans (congrArg₂ (fun x y : ℕ => ((X x y : ℝ) : EReal)) (e0.trans f0) (e1.trans f1))

/-! ### The accumulation over the query blocks -/

/-- The arrays the windows read hold real matrices: scaled queries, keys, values, output, mixed gradient, projections. -/
structure Reads (q k v o dm pj : ℕ → ℕ → ℝ) : Prop where
  q : Mat (m := 4096) (n := 256) (V m c main_v32) q
  k : Mat (m := 4096) (n := 256) (V m c main_v33) k
  v : Mat (m := 4096) (n := 256) (V m c main_v34) v
  o : Mat (m := 4096) (n := 256) (V m c main_v29) o
  dm : Mat (m := 4096) (n := 1024) (V m c main_arg1) dm
  pj : Mat (m := 4096) (n := 3584) (V m c main_arg0) pj

variable {m c} {q k v o dm pj : ℕ → ℕ → ℝ}

/-- A head pair's columns of the mixed gradient and of the gate. -/
abbrev cd (dm : ℕ → ℕ → ℝ) (p : ℕ) := col (768 + 128 * p) dm
abbrev cg (pj : ℕ → ℕ → ℝ) (p : ℕ) := col (3328 + 128 * p) pj
abbrev c4 (x : ℕ → ℕ → ℝ) (p : ℕ) := col (128 * p) x

theorem at_mat (h : Reads m c q k v o dm pj) (t : Fin (cfg0 (F := Ideal)).N) (dk dv : Vec Ideal S4096x128 .f32)
    (hdk : t.val % 16 ≠ 0 → Mat dk (gDk (c4 q (t.val / 16)) (c4 k (t.val / 16)) (c4 v (t.val / 16)) (c4 o (t.val / 16))
      (cd dm (t.val / 16)) (cg pj (t.val / 16)) (256 * (t.val % 16))))
    (hdv : t.val % 16 ≠ 0 → Mat dv (gDv (c4 q (t.val / 16)) (c4 k (t.val / 16))
      (cd dm (t.val / 16)) (cg pj (t.val / 16)) (256 * (t.val % 16)))) :
    HCarry (at_ m c t dk dv).1 (RC (c4 q (t.val / 16)) (c4 k (t.val / 16)) (c4 v (t.val / 16)) (c4 o (t.val / 16))
        (cd dm (t.val / 16)) (cg pj (t.val / 16)) (t.val % 16) 0)
      ∧ Mat (at_ m c t dk dv).2.1 (gDk (c4 q (t.val / 16)) (c4 k (t.val / 16)) (c4 v (t.val / 16)) (c4 o (t.val / 16))
        (cd dm (t.val / 16)) (cg pj (t.val / 16)) (256 * (t.val % 16 + 1)))
      ∧ Mat (at_ m c t dk dv).2.2 (gDv (c4 q (t.val / 16)) (c4 k (t.val / 16))
        (cd dm (t.val / 16)) (cg pj (t.val / 16)) (256 * (t.val % 16 + 1))) := by
  have hb := coord_one t
  have h0 := iblk0_mat m c h.q t
  have h3 := iblk3_mat m c h.o t
  have h4 := iblk4_mat m c h.dm t
  have h5 := iblk5_mat m c h.pj t
  rw [← hb] at h0 h3 h4 h5 hdk hdv ⊢
  exact point_mat (qb (grid0.coords t)) h0 (iblk1_mat m c h.k t) (iblk2_mat m c h.v t) h3 h4 h5 hdk hdv

theorem acc_mat (h : Reads m c q k v o dm pj) : ∀ (n : ℕ) (hn : n < (cfg0 (F := Ideal)).N),
    HCarry (acc m c n hn).1 (RC (c4 q (n / 16)) (c4 k (n / 16)) (c4 v (n / 16)) (c4 o (n / 16))
        (cd dm (n / 16)) (cg pj (n / 16)) (n % 16) 0)
      ∧ Mat (acc m c n hn).2.1 (gDk (c4 q (n / 16)) (c4 k (n / 16)) (c4 v (n / 16)) (c4 o (n / 16))
        (cd dm (n / 16)) (cg pj (n / 16)) (256 * (n % 16 + 1)))
      ∧ Mat (acc m c n hn).2.2 (gDv (c4 q (n / 16)) (c4 k (n / 16))
        (cd dm (n / 16)) (cg pj (n / 16)) (256 * (n % 16 + 1)))
  | 0, hn => at_mat h ⟨0, hn⟩ _ _ (fun x => absurd rfl x) (fun x => absurd rfl x)
  | n + 1, hn => by
    obtain ⟨-, hk, hv⟩ := acc_mat h n (Nat.lt_of_succ_lt hn)
    refine at_mat h ⟨n + 1, hn⟩ _ _ (fun hx => ?_) (fun hx => ?_)
    · have hx' : (n + 1) % 16 ≠ 0 := hx
      have e1 : (n + 1) / 16 = n / 16 := by omega
      have e2 : (n + 1) % 16 = n % 16 + 1 := by omega
      show Mat _ (gDk (c4 q ((n + 1) / 16)) (c4 k ((n + 1) / 16)) (c4 v ((n + 1) / 16)) (c4 o ((n + 1) / 16))
        (cd dm ((n + 1) / 16)) (cg pj ((n + 1) / 16)) (256 * ((n + 1) % 16)))
      rw [e1, e2]
      exact hk
    · have hx' : (n + 1) % 16 ≠ 0 := hx
      have e1 : (n + 1) / 16 = n / 16 := by omega
      have e2 : (n + 1) % 16 = n % 16 + 1 := by omega
      show Mat _ (gDv (c4 q ((n + 1) / 16)) (c4 k ((n + 1) / 16))
        (cd dm ((n + 1) / 16)) (cg pj ((n + 1) / 16)) (256 * ((n + 1) % 16)))
      rw [e1, e2]
      exact hv

/-! ### The result arrays -/

/-- The gradients of all four heads: of the queries, the keys, the values and the gate. -/
def outQ (q k v o dm pj : ℕ → ℕ → ℝ) (t j : ℕ) : ℝ :=
  (RC (c4 q (j / 128)) (c4 k (j / 128)) (c4 v (j / 128)) (c4 o (j / 128)) (cd dm (j / 128)) (cg pj (j / 128)) 0 0).dq t (j % 128)
    * 0.125
def outK (q k v o dm pj : ℕ → ℕ → ℝ) (s j : ℕ) : ℝ :=
  gDk (c4 q (j / 128)) (c4 k (j / 128)) (c4 v (j / 128)) (c4 o (j / 128)) (cd dm (j / 128)) (cg pj (j / 128)) 4096 s (j % 128)
def outV (q k dm pj : ℕ → ℕ → ℝ) (s j : ℕ) : ℝ :=
  gDv (c4 q (j / 128)) (c4 k (j / 128)) (cd dm (j / 128)) (cg pj (j / 128)) 4096 s (j % 128)
def outG (o dm pj : ℕ → ℕ → ℝ) (t j : ℕ) : ℝ :=
  rDsg (c4 o (j / 128)) (cd dm (j / 128)) (cg pj (j / 128)) t (j % 128)

theorem result6 (h : Reads m c q k v o dm pj) :
    Mat (m := 4096) (n := 256) ((dats m 0 c).arrAt 6 (cfg0 (F := Ideal)).N) (outQ q k v o dm pj) := fun r d => by
  refine (dats m 0 c).arrAt_forall_of_covers 6 (fun i a => a = ((outQ q k v o dm pj (i 0).val (i 1).val : ℝ) : EReal))
    (by decide +kernel) (fun t hf y => ?_) (ix2 r d)
  have y0 : (y 0).val < 256 := (y 0).isLt
  have y1 : (y 1).val < 128 := (y 1).isLt
  have f0 : win0_6.index t 0 * 256 + (y 0).val = 256 * (t.val % 16) + (y 0).val := by
    rw [index_6]
    show (t.val % 16) * 256 + (y 0).val = _
    omega
  have f1 : win0_6.index t 1 * 128 + (y 1).val = 128 * (t.val / 16) + (y 1).val := by
    rw [index_6]
    show (t.val / 16) * 128 + (y 1).val = _
    omega
  have hm := (outDq_mat (acc_mat h t.val t.isLt).1.dq).at y
  have g1 : (128 * (t.val / 16) + (y 1).val) / 128 = t.val / 16 := by omega
  have g2 : (128 * (t.val / 16) + (y 1).val) % 128 = (y 1).val := by omega
  blk_simp
  rw [after0_6]
  refine hm.trans ?_
  refine Eq.trans ?_ (congrArg₂ (fun x y : ℕ => ((outQ q k v o dm pj x y : ℝ) : EReal)) f0 f1).symm
  show _ = ((outQ q k v o dm pj _ (128 * (t.val / 16) + (y 1).val) : ℝ) : EReal)
  rw [outQ, g1, g2]
  simp only [RC, Nat.mul_zero, Nat.zero_add]

theorem result7 (h : Reads m c q k v o dm pj) :
    Mat (m := 4096) (n := 256) ((dats m 0 c).arrAt 7 (cfg0 (F := Ideal)).N) (outK q k v o dm pj) := fun r d => by
  refine (dats m 0 c).arrAt_forall_of_covers 7 (fun i a => a = ((outK q k v o dm pj (i 0).val (i 1).val : ℝ) : EReal))
    (by decide +kernel) (fun t hf y => ?_) (ix2 r d)
  have y0 : (y 0).val < 4096 := (y 0).isLt
  have y1 : (y 1).val < 128 := (y 1).isLt
  have f0 : win0_7.index t 0 * 4096 + (y 0).val = (y 0).val := by
    rw [index_7]
    show (0) * 4096 + (y 0).val = _
    omega
  have f1 : win0_7.index t 1 * 128 + (y 1).val = 128 * (t.val / 16) + (y 1).val := by
    rw [index_7]
    show (t.val / 16) * 128 + (y 1).val = _
    omega
  have hl : t.val % 16 = 15 := (flush0_7 t).mp hf
  have hm := (acc_mat h t.val t.isLt).2.1.at y
  have g1 : (128 * (t.val / 16) + (y 1).val) / 128 = t.val / 16 := by omega
  have g2 : (128 * (t.val / 16) + (y 1).val) % 128 = (y 1).val := by omega
  blk_simp
  rw [after0_7]
  refine hm.trans ?_
  refine Eq.trans ?_ (congrArg₂ (fun x y : ℕ => ((outK q k v o dm pj x y : ℝ) : EReal)) f0 f1).symm
  show _ = ((outK q k v o dm pj _ (128 * (t.val / 16) + (y 1).val) : ℝ) : EReal)
  rw [outK, g1, g2]
  rw [hl]

theorem result8 (h : Reads m c q k v o dm pj) :
    Mat (m := 4096) (n := 256) ((dats m 0 c).arrAt 8 (cfg0 (F := Ideal)).N) (outV q k dm pj) := fun r d => by
  refine (dats m 0 c).arrAt_forall_of_covers 8 (fun i a => a = ((outV q k dm pj (i 0).val (i 1).val : ℝ) : EReal))
    (by decide +kernel) (fun t hf y => ?_) (ix2 r d)
  have y0 : (y 0).val < 4096 := (y 0).isLt
  have y1 : (y 1).val < 128 := (y 1).isLt
  have f0 : win0_8.index t 0 * 4096 + (y 0).val = (y 0).val := by
    rw [index_8]
    show (0) * 4096 + (y 0).val = _
    omega
  have f1 : win0_8.index t 1 * 128 + (y 1).val = 128 * (t.val / 16) + (y 1).val := by
    rw [index_8]
    show (t.val / 16) * 128 + (y 1).val = _
    omega
  have hl : t.val % 16 = 15 := (flush0_8 t).mp hf
  have hm := (acc_mat h t.val t.isLt).2.2.at y
  have g1 : (128 * (t.val / 16) + (y 1).val) / 128 = t.val / 16 := by omega
  have g2 : (128 * (t.val / 16) + (y 1).val) % 128 = (y 1).val := by omega
  blk_simp
  rw [after0_8]
  refine hm.trans ?_
  refine Eq.trans ?_ (congrArg₂ (fun x y : ℕ => ((outV q k dm pj x y : ℝ) : EReal)) f0 f1).symm
  show _ = ((outV q k dm pj _ (128 * (t.val / 16) + (y 1).val) : ℝ) : EReal)
  rw [outV, g1, g2]
  rw [hl]

theorem result9 (h : Reads m c q k v o dm pj) :
    Mat (m := 4096) (n := 256) ((dats m 0 c).arrAt 9 (cfg0 (F := Ideal)).N) (outG o dm pj) := fun r d => by
  refine (dats m 0 c).arrAt_forall_of_covers 9 (fun i a => a = ((outG o dm pj (i 0).val (i 1).val : ℝ) : EReal))
    (by decide +kernel) (fun t hf y => ?_) (ix2 r d)
  have y0 : (y 0).val < 256 := (y 0).isLt
  have y1 : (y 1).val < 128 := (y 1).isLt
  have f0 : win0_9.index t 0 * 256 + (y 0).val = 256 * (t.val % 16) + (y 0).val := by
    rw [index_9]
    show (t.val % 16) * 256 + (y 0).val = _
    omega
  have f1 : win0_9.index t 1 * 128 + (y 1).val = 128 * (t.val / 16) + (y 1).val := by
    rw [index_9]
    show (t.val / 16) * 128 + (y 1).val = _
    omega
  have hm := (outDsg_mat (iblk3_mat m c h.o t) (iblk4_mat m c h.dm t) (iblk5_mat m c h.pj t)).at y
  have g1 : (128 * (t.val / 16) + (y 1).val) / 128 = t.val / 16 := by omega
  have g2 : (128 * (t.val / 16) + (y 1).val) % 128 = (y 1).val := by omega
  blk_simp
  rw [after0_9]
  refine hm.trans ?_
  refine Eq.trans ?_ (congrArg₂ (fun x y : ℕ => ((outG o dm pj x y : ℝ) : EReal)) f0 f1).symm
  show _ = ((outG o dm pj _ (128 * (t.val / 16) + (y 1).val) : ℝ) : EReal)
  rw [outG, g1, g2]
  rfl

end Cert.Proof.KI

end
-- ==== Proof.Ref.Window.lean ====
/-
  Running sums over the last axis as the host computes them: a window as long as the axis, padded on one side by
  zeros. Over the reals each entry is the sum from its position on, or up to it.
-/
module

public import proofs.«01_k».proof.Proof.Ideal.Block

@[expose] public section

noncomputable section

namespace Cert.Proof.RI

open Idealize.ShloMosaic Idealize.ShloMosaic.TcCoe
open Finset
open Cert.Proof.KI (sum_coe)

/-- The table of rank two, or three, holds the real numbers. -/
def Two {m n : ℕ} (x : (⟨2, ![m, n]⟩ : Shape).Idx → EReal) (X : ℕ → ℕ → ℝ) : Prop :=
  ∀ i, x i = ((X (i 0).val (i 1).val : ℝ) : EReal)
def Ten {l m n : ℕ} (x : (⟨3, ![l, m, n]⟩ : Shape).Idx → EReal) (X : ℕ → ℕ → ℕ → ℝ) : Prop :=
  ∀ i, x i = ((X (i 0).val (i 1).val (i 2).val : ℝ) : EReal)

theorem foldl_add {ι : Type} (f : ι → EReal) : ∀ (l : List ι) (v : EReal), l.foldl (fun r n => r + f n) v = v + (l.map f).sum
  | [], v => by simp
  | a :: l, v => by rw [List.foldl_cons, foldl_add f l, List.map_cons, List.sum_cons, add_assoc]

/-- The positions of a window that is one wide but along the last axis. -/
def pos (N : ℕ) : Fin N ≃ (⟨3, ![1, 1, N]⟩ : Shape).Idx where
  toFun k := ix3 0 0 k
  invFun w := w 2
  left_inv _ := rfl
  right_inv w := by
    have e0 : w 0 = (0 : Fin 1) := Subsingleton.elim (α := Fin 1) _ _
    have e1 : w 1 = (0 : Fin 1) := Subsingleton.elim (α := Fin 1) _ _
    refine Eq.trans ?_ (eq_ix3 w).symm
    rw [e0, e1]

theorem sum_pos {N : ℕ} (f : Fin (⟨3, ![1, 1, N]⟩ : Shape).numel → EReal) (X : ℕ → ℝ)
    (h : ∀ n, f n = ((X ((⟨3, ![1, 1, N]⟩ : Shape).rowMajor.symm n 2).val : ℝ) : EReal)) :
    ((List.finRange (⟨3, ![1, 1, N]⟩ : Shape).numel).map f).sum = ((∑ k ∈ range N, X k : ℝ) : EReal) := by
  rw [← Fin.sum_univ_def, Finset.sum_congr rfl fun n _ => h n,
    Equiv.sum_comp (⟨3, ![1, 1, N]⟩ : Shape).rowMajor.symm fun w => ((X (w 2).val : ℝ) : EReal),
    ← Equiv.sum_comp (pos N), ← Fin.sum_univ_eq_sum_range]
  exact sum_coe _

theorem window_from {A B N M : ℕ} (hM : M + 1 = N) {x : (⟨3, ![A, B, N]⟩ : Shape).Idx → EReal} {X : ℕ → ℕ → ℕ → ℝ} (hx : Ten x X)
    {u : Shape} {init : u.Idx → EReal} (h0 : ∀ i, init i = 0)
    (h : (⟨3, ![A, B, N]⟩ : Shape).ReduceWindows ![1, 1, N] ![1, 1, 1] ![0, 0, 0] ![0, 0, M] ⟨3, ![A, B, N]⟩) (hu : 0 < u.numel) :
    Ten (Host.reduceWindow (· + ·) ![1, 1, N] ![1, 1, 1] ![0, 0, 0] ![0, 0, M] x init h hu)
      (fun a b c => ∑ j ∈ Ico c N, X a b j) := fun i => by
  unfold Host.reduceWindow
  have i0 : (i 0).val < A := (i 0).isLt
  have i1 : (i 1).val < B := (i 1).isLt
  have i2 : (i 2).val < N := (i 2).isLt
  refine (foldl_add _ _ _).trans ?_
  rw [h0, zero_add]
  refine (sum_pos _
    (fun k => if (i 2).val + k < N then X (i 0).val (i 1).val ((i 2).val + k) else 0) (fun n => ?_)).trans ?_
  · let w : (⟨3, ![1, 1, N]⟩ : Shape).Idx := (⟨3, ![1, 1, N]⟩ : Shape).rowMajor.symm n
    have w0 : (w 0).val < 1 := (w 0).isLt
    have w1 : (w 1).val < 1 := (w 1).isLt
    show _ = ((if (i 2).val + (w 2).val < N then X (i 0).val (i 1).val ((i 2).val + (w 2).val) else 0 : ℝ) : EReal)
    by_cases hlt : (i 2).val + (w 2).val < N
    · rw [if_pos hlt, dif_pos ?_]
      · refine (hx _).trans ?_
        show ((X ((i 0).val * 1 + (w 0).val - 0) ((i 1).val * 1 + (w 1).val - 0) ((i 2).val * 1 + (w 2).val - 0) : ℝ) : EReal) = _
        congr 2 <;> omega
      · intro a
        match a with
        | ⟨0, _⟩ => show 0 ≤ (i 0).val * 1 + (w 0).val ∧ (i 0).val * 1 + (w 0).val - 0 < A; omega
        | ⟨1, _⟩ => show 0 ≤ (i 1).val * 1 + (w 1).val ∧ (i 1).val * 1 + (w 1).val - 0 < B; omega
        | ⟨2, _⟩ => show 0 ≤ (i 2).val * 1 + (w 2).val ∧ (i 2).val * 1 + (w 2).val - 0 < N; omega
    · rw [if_neg hlt, dif_neg ?_]
      · rfl
      · intro hin
        have : (0 : ℕ) ≤ (i 2).val * 1 + (w 2).val ∧ (i 2).val * 1 + (w 2).val - 0 < N := hin 2
        omega
  · congr 1
    rw [← Finset.sum_filter]
    refine Finset.sum_bij' (fun k _ => (i 2).val + k) (fun j _ => j - (i 2).val) ?_ ?_ ?_ ?_ ?_
    · intro k hk; simp only [Finset.mem_filter, Finset.mem_range, Finset.mem_Ico] at hk ⊢; omega
    · intro k hk; simp only [Finset.mem_filter, Finset.mem_range, Finset.mem_Ico] at hk ⊢; omega
    · intro k hk; simp only [Finset.mem_filter, Finset.mem_range] at hk; omega
    · intro k hk; simp only [Finset.mem_Ico] at hk; omega
    · intro k hk; rfl

theorem window_upto {A B N M : ℕ} (hM : M + 1 = N) {x : (⟨3, ![A, B, N]⟩ : Shape).Idx → EReal} {X : ℕ → ℕ → ℕ → ℝ} (hx : Ten x X)
    {u : Shape} {init : u.Idx → EReal} (h0 : ∀ i, init i = 0)
    (h : (⟨3, ![A, B, N]⟩ : Shape).ReduceWindows ![1, 1, N] ![1, 1, 1] ![0, 0, M] ![0, 0, 0] ⟨3, ![A, B, N]⟩) (hu : 0 < u.numel) :
    Ten (Host.reduceWindow (· + ·) ![1, 1, N] ![1, 1, 1] ![0, 0, M] ![0, 0, 0] x init h hu)
      (fun a b c => ∑ j ∈ range (c + 1), X a b j) := fun i => by
  unfold Host.reduceWindow
  have i0 : (i 0).val < A := (i 0).isLt
  have i1 : (i 1).val < B := (i 1).isLt
  have i2 : (i 2).val < N := (i 2).isLt
  refine (foldl_add _ _ _).trans ?_
  rw [h0, zero_add]
  refine (sum_pos _
    (fun k => if M ≤ (i 2).val + k then X (i 0).val (i 1).val ((i 2).val + k - M) else 0) (fun n => ?_)).trans ?_
  · let w : (⟨3, ![1, 1, N]⟩ : Shape).Idx := (⟨3, ![1, 1, N]⟩ : Shape).rowMajor.symm n
    have w0 : (w 0).val < 1 := (w 0).isLt
    have w1 : (w 1).val < 1 := (w 1).isLt
    have w2 : (w 2).val < N := (w 2).isLt
    show _ = ((if M ≤ (i 2).val + (w 2).val then X (i 0).val (i 1).val ((i 2).val + (w 2).val - M) else 0 : ℝ) : EReal)
    by_cases hlt : M ≤ (i 2).val + (w 2).val
    · rw [if_pos hlt, dif_pos ?_]
      · refine (hx _).trans ?_
        show ((X ((i 0).val * 1 + (w 0).val - 0) ((i 1).val * 1 + (w 1).val - 0) ((i 2).val * 1 + (w 2).val - M) : ℝ) : EReal) = _
        congr 2 <;> omega
      · intro a
        match a with
        | ⟨0, _⟩ => show 0 ≤ (i 0).val * 1 + (w 0).val ∧ (i 0).val * 1 + (w 0).val - 0 < A; omega
        | ⟨1, _⟩ => show 0 ≤ (i 1).val * 1 + (w 1).val ∧ (i 1).val * 1 + (w 1).val - 0 < B; omega
        | ⟨2, _⟩ => show M ≤ (i 2).val * 1 + (w 2).val ∧ (i 2).val * 1 + (w 2).val - M < N; omega
    · rw [if_neg hlt, dif_neg ?_]
      · rfl
      · intro hin
        have : M ≤ (i 2).val * 1 + (w 2).val ∧ (i 2).val * 1 + (w 2).val - M < N := hin 2
        omega
  · congr 1
    rw [← Finset.sum_filter]
    refine Finset.sum_bij' (fun k _ => (i 2).val + k - M) (fun j _ => j + M - (i 2).val) ?_ ?_ ?_ ?_ ?_
    · intro k hk; simp only [Finset.mem_filter, Finset.mem_range] at hk ⊢; omega
    · intro k hk; simp only [Finset.mem_filter, Finset.mem_range] at hk ⊢; omega
    · intro k hk; simp only [Finset.mem_filter, Finset.mem_range] at hk; omega
    · intro k hk; simp only [Finset.mem_range] at hk; omega
    · intro k hk; rfl

theorem host_from {A B N M : ℕ} (hM : M + 1 = N) {x : FVec Ideal ⟨3, ![A, B, N]⟩ .f32} {X : ℕ → ℕ → ℕ → ℝ} (hx : Ten x X)
    {u : Shape} {init : u.Idx → Ideal .f32} (h0 : ∀ i, init i = (0 : EReal))
    (h : (⟨3, ![A, B, N]⟩ : Shape).ReduceWindows ![1, 1, N] ![1, 1, 1] ![0, 0, 0] ![0, 0, M] ⟨3, ![A, B, N]⟩) (hu : 0 < u.numel) :
    Ten (Host.reduceWindowAdd (F := Ideal) ![1, 1, N] ![1, 1, 1] ![0, 0, 0] ![0, 0, M] x init h hu) (fun a b c => ∑ j ∈ Ico c N, X a b j) :=
  window_from hM hx (u := ⟨0, ![]⟩) (init := fun _ => init (Shape.Idx.first hu)) (fun _ => h0 _) h (by decide)

theorem host_upto {A B N M : ℕ} (hM : M + 1 = N) {x : FVec Ideal ⟨3, ![A, B, N]⟩ .f32} {X : ℕ → ℕ → ℕ → ℝ} (hx : Ten x X)
    {u : Shape} {init : u.Idx → Ideal .f32} (h0 : ∀ i, init i = (0 : EReal))
    (h : (⟨3, ![A, B, N]⟩ : Shape).ReduceWindows ![1, 1, N] ![1, 1, 1] ![0, 0, M] ![0, 0, 0] ⟨3, ![A, B, N]⟩) (hu : 0 < u.numel) :
    Ten (Host.reduceWindowAdd (F := Ideal) ![1, 1, N] ![1, 1, 1] ![0, 0, M] ![0, 0, 0] x init h hu) (fun a b c => ∑ j ∈ range (c + 1), X a b j) :=
  window_upto hM hx (u := ⟨0, ![]⟩) (init := fun _ => init (Shape.Idx.first hu)) (fun _ => h0 _) h (by decide)

end Cert.Proof.RI

end
-- ==== Proof.Ref.Real.lean ====
/-
  Stick-breaking attention and its gradients over the real numbers, head by head, as the reference computes them, and the
  operations of the reference on extended reals that are real.
-/
module

public import proofs.«01_k».proof.Proof.Ideal.Head
public import proofs.«01_k».proof.Proof.Ideal.Trip
public import proofs.«01_k».proof.Proof.Ref.Window

@[expose] public section

noncomputable section

namespace Cert.Proof.RI

open Idealize.ShloMosaic Idealize.ShloMosaic.TcCoe
open Finset
open Cert.Proof.KI (lsm sL sR sA sU sT sD sg)

/-! ### Operations on reals -/

theorem mulf_coe (a b : ℝ) : FloatOps.mulf (F := Ideal) (φ := .f32) ((a : ℝ) : EReal) ((b : ℝ) : EReal) = ((a * b : ℝ) : EReal) :=
  (EReal.coe_mul a b).symm
theorem addf_coe (a b : ℝ) : FloatOps.addf (F := Ideal) (φ := .f32) ((a : ℝ) : EReal) ((b : ℝ) : EReal) = ((a + b : ℝ) : EReal) :=
  (EReal.coe_add a b).symm
theorem subf_coe (a b : ℝ) : FloatOps.subf (F := Ideal) (φ := .f32) ((a : ℝ) : EReal) ((b : ℝ) : EReal) = ((a - b : ℝ) : EReal) :=
  (EReal.coe_sub a b).symm
theorem maximumf_coe (a b : ℝ) : FloatOps.maximumf (F := Ideal) (φ := .f32) ((a : ℝ) : EReal) ((b : ℝ) : EReal) = ((max a b : ℝ) : EReal) :=
  (EReal.coe_strictMono.monotone.map_max).symm
theorem negf_coe (a : ℝ) : FloatOps.hostNegf (F := Ideal) (φ := .f32) ((a : ℝ) : EReal) = ((-a : ℝ) : EReal) :=
  (EReal.coe_neg a).symm
theorem absf_coe (a : ℝ) : FloatOps.hostAbsf (F := Ideal) (φ := .f32) ((a : ℝ) : EReal) = ((|a| : ℝ) : EReal) := by
  rw [abs, show ((a ⊔ -a : ℝ) : EReal) = max ((a : ℝ) : EReal) ((-a : ℝ) : EReal) from EReal.coe_strictMono.monotone.map_max, EReal.coe_neg]
  rfl
theorem exp_coe (a : ℝ) : FloatOps.hostUnary (F := Ideal) (φ := .f32) .exp ((a : ℝ) : EReal) = ((Real.exp a : ℝ) : EReal) := rfl
theorem log1p_coe (a : ℝ) :
    FloatOps.hostUnary (F := Ideal) (φ := .f32) .log1p ((Real.exp a : ℝ) : EReal) = ((Real.log (1 + Real.exp a) : ℝ) : EReal) := by
  show Ideal.log (1 + ((Real.exp a : ℝ) : EReal)) = _
  rw [← EReal.coe_one, ← EReal.coe_add, Ideal.log_coe, if_neg (not_le.mpr (by positivity))]
theorem div_coe (a b : ℝ) :
    FloatOps.hostDivf (F := Ideal) (φ := .f32) ((a : ℝ) : EReal) ((1 + Real.exp b : ℝ) : EReal) = ((a / (1 + Real.exp b) : ℝ) : EReal) := by
  show Ideal.div ((a : ℝ) : EReal) ((1 + Real.exp b : ℝ) : EReal) = _
  rw [Ideal.div_coe (by positivity), ← EReal.coe_mul, mul_one_div]
theorem une_self (a : ℝ) : FloatOps.cmpf (F := Ideal) (φ := .f32) .une ((a : ℝ) : EReal) ((a : ℝ) : EReal) = 0#1 := by
  show BitVec.ofBool (decide (_ ≠ _)) = _
  simp
theorem oeq_top (a : ℝ) : FloatOps.cmpf (F := Ideal) (φ := .f32) .oeq ((a : ℝ) : EReal) (⊤ : EReal) = 0#1 := by
  show BitVec.ofBool (decide (((a : ℝ) : EReal) = ⊤)) = _
  simp
theorem bits_zero : FloatOps.ofBits (F := Ideal) .f32 0x00000000#32 = ((0 : ℝ) : EReal) := by
  show Ideal.ofBits .f32 0x00000000#32 = _
  rw [Ideal.ofBits_zero_f32, EReal.coe_zero]
theorem bits_top : FloatOps.ofBits (F := Ideal) .f32 0x7F800000#32 = (⊤ : EReal) := by
  show Ideal.ofBits .f32 0x7F800000#32 = _
  simp [Ideal.ofBits, Ideal.ieee]
theorem bits_one : FloatOps.ofBits (F := Ideal) .f32 0x3F800000#32 = ((1 : ℝ) : EReal) := by
  show Ideal.ofBits .f32 0x3F800000#32 = _
  simp [Ideal.ofBits, Ideal.ieee, -EReal.coe_mul]
  norm_num
theorem bits_eighth : FloatOps.ofBits (F := Ideal) .f32 0x3E000000#32 = ((0.125 : ℝ) : EReal) := Cert.Proof.KI.eighth
theorem select_zero (a b : EReal) : Scalar.select (0#1) a b = b := rfl
theorem select_ofBool (p : Prop) [Decidable p] (a b : ℝ) :
    Scalar.select (BitVec.ofBool (decide p)) ((a : ℝ) : EReal) ((b : ℝ) : EReal) = ((if p then a else b : ℝ) : EReal) := by
  by_cases h : p
  · simp [h, Scalar.select]
  · simp [h, Scalar.select]

/-! ### The logarithms -/

/-- The softplus function as the reference computes it. -/
def sp (z : ℝ) : ℝ := max z 0 + Real.log (1 + Real.exp (-|z - 0|))

theorem sp_eq (z : ℝ) : sp z = -lsm z := by
  have h : max z 0 = -min (0 - z) 0 := by
    rcases le_total z 0 with hz | hz
    · rw [max_eq_right hz, min_eq_right (by linarith), neg_zero]
    · rw [max_eq_left hz, min_eq_left (by linarith)]; ring
  rw [sp, lsm, h, sub_zero, zero_sub (max z (-z)), show max z (-z) = |z| from rfl]
  ring

theorem sp_neg (z : ℝ) : -sp (-z) = z + lsm z := by
  have h : max (-z) 0 = -z - min (0 - z) 0 + (0 - z) + z := by
    rcases le_total z 0 with hz | hz
    · rw [max_eq_left (by linarith), min_eq_right (by linarith)]; ring
    · rw [max_eq_right (by linarith), min_eq_left (by linarith)]; ring
  rw [sp, lsm, h, sub_zero, zero_sub (max z (-z)), show max z (-z) = |z| from rfl, abs_neg]
  ring

/-! ### The gradients of one head -/

/-- The columns of head `h` from column `o` on. -/
def hd (o : ℕ) (x : ℕ → ℕ → ℝ) (h t d : ℕ) : ℝ := x t (o + (64 * h + d))

/-- The scores, the outputs, the output gradients against the values. -/
def fz (pj : ℕ → ℕ → ℝ) (h t s : ℕ) : ℝ := (∑ d ∈ range 64, hd 2560 pj h t d * hd 2816 pj h s d) * 0.125
def fo (pj : ℕ → ℕ → ℝ) (t j : ℕ) : ℝ := ∑ s ∈ range 4096, sA (fz pj (j / 64)) t s * hd 3072 pj (j / 64) s (j % 64)
def fgo (pj dm : ℕ → ℕ → ℝ) (t j : ℕ) : ℝ := dm t (768 + j) * (pj t (3328 + j) * sg (pj t (3328 + j)))
def fg (pj dm : ℕ → ℕ → ℝ) (h t s : ℕ) : ℝ := ∑ d ∈ range 64, hd 0 (fgo pj dm) h t d * hd 3072 pj h s d

/-- The gradient of the scores. -/
def fD (pj dm : ℕ → ℕ → ℝ) (h : ℕ) : ℕ → ℕ → ℝ :=
  sD (fz pj h) (fg pj dm h) (fun t => ∑ s ∈ range 4096, sU (fz pj h) (fg pj dm h) t s)

/-- The four gradients. -/
def fdq (pj dm : ℕ → ℕ → ℝ) (t j : ℕ) : ℝ := ∑ s ∈ range 4096, fD pj dm (j / 64) t s * 0.125 * hd 2816 pj (j / 64) s (j % 64)
def fdk (pj dm : ℕ → ℕ → ℝ) (s j : ℕ) : ℝ := ∑ t ∈ range 4096, fD pj dm (j / 64) t s * 0.125 * hd 2560 pj (j / 64) t (j % 64)
def fdv (pj dm : ℕ → ℕ → ℝ) (s j : ℕ) : ℝ := ∑ t ∈ range 4096, hd 0 (fgo pj dm) (j / 64) t (j % 64) * sA (fz pj (j / 64)) t s
def fdg (pj dm : ℕ → ℕ → ℝ) (t j : ℕ) : ℝ :=
  fo pj t j * dm t (768 + j) * sg (pj t (3328 + j))
    + pj t (3328 + j) * (fo pj t j * dm t (768 + j)) * (sg (pj t (3328 + j)) * (1 - sg (pj t (3328 + j))))

/-- The reference's score gradient: what a weight's own score gets, less what the weights before it take. -/
theorem sD_eq {z g : ℕ → ℕ → ℝ} {t s : ℕ} (ht : t < 4096) (hs : s < 4096) :
    sU z g t s * Real.exp (lsm (z t s)) + -(if s < t then -sU z g t s + ∑ j ∈ range (s + 1), sU z g t j else 0) * Real.exp (z t s + lsm (z t s))
      = sD z g (fun t => ∑ s ∈ range 4096, sU z g t s) t s := by
  rw [sD]
  by_cases h : s < t
  · rw [if_pos h, if_pos h, sT, Finset.sum_range_succ]
    have e : ∑ j ∈ range 4096, sU z g t j = ∑ j ∈ range s, sU z g t j + ∑ j ∈ Ico s 4096, sU z g t j :=
      (Finset.sum_range_add_sum_Ico _ (by omega)).symm
    show _ = _ - _ * ((∑ j ∈ range 4096, sU z g t j) - _)
    rw [e]
    ring
  · rw [if_neg h, if_neg h, Cert.Proof.KI.sU_of_le z g (by omega)]
    ring

end Cert.Proof.RI

end
-- ==== Proof.Agree.lean ====
/-
  The kernel's real matrices are the reference's: a pair of heads in the kernel's 128 lanes is two heads of 64 columns,
  a row's total of output gradient times output is its total of weight times gradient, and so the four gradients agree.
-/
module

public import proofs.«01_k».proof.Proof.Ideal.Grid
public import proofs.«01_k».proof.Proof.Ref.Real

@[expose] public section

noncomputable section

namespace Cert.Proof

open Finset
open Cert.Proof.KI Cert.Proof.RI

/-! ### Sums over the lanes of one head -/

theorem sum_lo (X : ℕ → ℕ → ℝ) (Y : ℕ → ℝ) (t : ℕ) : ∑ d ∈ range 128, lo X t d * Y d = ∑ d ∈ range 64, X t d * Y d := by
  rw [show (128 : ℕ) = 64 + 64 from rfl, Finset.sum_range_add]
  rw [Finset.sum_eq_zero (s := range 64) (f := fun d => lo X t (64 + d) * Y (64 + d)) fun d _ => by rw [lo, if_neg (by omega), zero_mul], add_zero]
  exact Finset.sum_congr rfl fun d hd => by rw [lo, if_pos (Finset.mem_range.mp hd)]

theorem sum_hi (X : ℕ → ℕ → ℝ) (Y : ℕ → ℝ) (t : ℕ) : ∑ d ∈ range 128, hi X t d * Y d = ∑ d ∈ range 64, X t (64 + d) * Y (64 + d) := by
  rw [show (128 : ℕ) = 64 + 64 from rfl, Finset.sum_range_add]
  rw [Finset.sum_eq_zero (s := range 64) (f := fun d => hi X t d * Y d) fun d hd => by rw [hi, if_pos (Finset.mem_range.mp hd), zero_mul], zero_add]
  exact Finset.sum_congr rfl fun d _ => by rw [hi, if_neg (by omega)]

section Agree

variable (pj dm : ℕ → ℕ → ℝ)

/-- What the kernel's windows hold: scaled queries, keys, values. -/
def kq (t j : ℕ) : ℝ := pj t (2560 + j) * 0.125
def kk (t j : ℕ) : ℝ := pj t (2816 + j)
def kv (t j : ℕ) : ℝ := pj t (3072 + j)

variable (p : ℕ)

abbrev Qp := c4 (kq pj) p
abbrev Kp := c4 (kk pj) p
abbrev Vp := c4 (kv pj) p
abbrev Op := c4 (fo pj) p

theorem zA_eq : zA (Qp pj p) (Kp pj p) = fz pj (2 * p) := by
  funext t s
  rw [zA, bZ, sum_lo, fz, Finset.sum_mul]
  refine Finset.sum_congr rfl fun d _ => ?_
  simp only [c4, col, kq, kk, hd]
  rw [show 64 * (2 * p) + d = 128 * p + d by ring]
  ring

theorem zB_eq : zB (Qp pj p) (Kp pj p) = fz pj (2 * p + 1) := by
  funext t s
  rw [zB, bZ, sum_hi, fz, Finset.sum_mul]
  refine Finset.sum_congr rfl fun d _ => ?_
  simp only [c4, col, kq, kk, hd]
  rw [show 64 * (2 * p + 1) + d = 128 * p + (64 + d) by ring]
  ring

theorem rDo_eq (t d : ℕ) : rDo (cd dm p) (cg pj p) t d = fgo pj dm t (128 * p + d) := by
  simp only [rDo, cd, cg, col, fgo, Nat.add_assoc]

theorem gA_eq : gA (Vp pj p) (cd dm p) (cg pj p) = fg pj dm (2 * p) := by
  funext t s
  rw [gA, bZ, sum_lo, fg]
  refine Finset.sum_congr rfl fun d _ => ?_
  rw [rDo_eq]
  simp only [c4, col, kv, hd, Nat.zero_add]
  rw [show 64 * (2 * p) + d = 128 * p + d by ring]

theorem gB_eq : gB (Vp pj p) (cd dm p) (cg pj p) = fg pj dm (2 * p + 1) := by
  funext t s
  rw [gB, bZ, sum_hi, fg]
  refine Finset.sum_congr rfl fun d _ => ?_
  rw [rDo_eq]
  simp only [c4, col, kv, hd, Nat.zero_add]
  rw [show 64 * (2 * p + 1) + d = 128 * p + (64 + d) by ring]

/-- A row's output gradient against its output is its weights against their gradients. -/
theorem total (h t : ℕ) : ∑ d ∈ range 64, fgo pj dm t (64 * h + d) * fo pj t (64 * h + d)
    = ∑ s ∈ range 4096, sU (fz pj h) (fg pj dm h) t s := by
  have e : ∀ d ∈ range 64, fgo pj dm t (64 * h + d) * fo pj t (64 * h + d)
      = ∑ s ∈ range 4096, sA (fz pj h) t s * (hd 0 (fgo pj dm) h t d * hd 3072 pj h s d) := fun d hd' => by
    have hd'' := Finset.mem_range.mp hd'
    rw [fo, show (64 * h + d) / 64 = h by omega, show (64 * h + d) % 64 = d by omega, Finset.mul_sum]
    refine Finset.sum_congr rfl fun s _ => ?_
    simp only [hd, Nat.zero_add]
    ring
  rw [Finset.sum_congr rfl e, Finset.sum_comm]
  refine Finset.sum_congr rfl fun s _ => ?_
  rw [sU, fg, Finset.mul_sum]

theorem wA_eq : wA (Op pj p) (cd dm p) (cg pj p) = fun t => ∑ s ∈ range 4096, sU (fz pj (2 * p)) (fg pj dm (2 * p)) t s := by
  funext t
  rw [← total, wA]
  have e := sum_lo (fun r d => rDo (cd dm p) (cg pj p) r d * Op pj p r d) (fun _ => 1) t
  simp only [mul_one] at e
  rw [e]
  refine Finset.sum_congr rfl fun d _ => ?_
  rw [rDo_eq, show 64 * (2 * p) + d = 128 * p + d by ring]
  rfl

theorem wB_eq : wB (Op pj p) (cd dm p) (cg pj p) = fun t => ∑ s ∈ range 4096, sU (fz pj (2 * p + 1)) (fg pj dm (2 * p + 1)) t s := by
  funext t
  rw [← total, wB]
  have e := sum_hi (fun r d => rDo (cd dm p) (cg pj p) r d * Op pj p r d) (fun _ => 1) t
  simp only [mul_one] at e
  rw [e]
  refine Finset.sum_congr rfl fun d _ => ?_
  rw [rDo_eq, show 64 * (2 * p + 1) + d = 128 * p + (64 + d) by ring]
  rfl

theorem dA_eq : dA (Qp pj p) (Kp pj p) (Vp pj p) (Op pj p) (cd dm p) (cg pj p) = fD pj dm (2 * p) := by
  rw [dA, zA_eq, gA_eq, wA_eq, fD]

theorem dB_eq : dB (Qp pj p) (Kp pj p) (Vp pj p) (Op pj p) (cd dm p) (cg pj p) = fD pj dm (2 * p + 1) := by
  rw [dB, zB_eq, gB_eq, wB_eq, fD]

/-! ### The four gradients -/

variable (t j : ℕ)

/-- A column is in the first or the second head of its pair. -/
theorem halves : (j % 128 < 64 ∧ j / 64 = 2 * (j / 128)) ∨ (¬ j % 128 < 64 ∧ j / 64 = 2 * (j / 128) + 1) := by omega

theorem hd_col (o : ℕ) (x : ℕ → ℕ → ℝ) : hd o x (j / 64) t (j % 64) = x t (o + j) := by
  rw [hd, show 64 * (j / 64) + j % 64 = j by omega]

theorem c4_col (x : ℕ → ℕ → ℝ) : c4 x (j / 128) t (j % 128) = x t j := by
  simp only [c4, col]
  rw [show 128 * (j / 128) + j % 128 = j by omega]

theorem go_col : rDo (cd dm (j / 128)) (cg pj (j / 128)) t (j % 128) = fgo pj dm t j := by
  rw [rDo_eq, show 128 * (j / 128) + j % 128 = j by omega]

theorem outQ_eq : outQ (kq pj) (kk pj) (kv pj) (fo pj) dm pj t j = fdq pj dm t j := by
  rw [outQ, RC, fdq]
  dsimp only
  rw [dA_eq, dB_eq, Nat.mul_zero, Nat.zero_add, ← Finset.range_eq_Ico, add_mul, Finset.sum_mul, Finset.sum_mul]
  rcases halves j with ⟨h, e⟩ | ⟨h, e⟩
  · rw [Finset.sum_eq_zero (f := fun s => fD pj dm (2 * (j / 128) + 1) t s * hi (c4 (kk pj) (j / 128)) s (j % 128) * 0.125) fun s _ => by
      rw [hi, if_pos h, mul_zero, zero_mul], add_zero]
    refine Finset.sum_congr rfl fun s _ => ?_
    rw [lo, if_pos h, c4_col, hd_col, e, kk]
    ring
  · rw [Finset.sum_eq_zero (f := fun s => fD pj dm (2 * (j / 128)) t s * lo (c4 (kk pj) (j / 128)) s (j % 128) * 0.125) fun s _ => by
      rw [lo, if_neg h, mul_zero, zero_mul], zero_add]
    refine Finset.sum_congr rfl fun s _ => ?_
    rw [hi, if_neg h, c4_col, hd_col, e, kk]
    ring

theorem outK_eq : outK (kq pj) (kk pj) (kv pj) (fo pj) dm pj t j = fdk pj dm t j := by
  rw [outK, gDk, fdk, dA_eq, dB_eq]
  rcases halves j with ⟨h, e⟩ | ⟨h, e⟩
  · rw [Finset.sum_eq_zero (f := fun s => fD pj dm (2 * (j / 128) + 1) s t * hi (c4 (kq pj) (j / 128)) s (j % 128)) fun s _ => by
      rw [hi, if_pos h, mul_zero], add_zero]
    refine Finset.sum_congr rfl fun s _ => ?_
    rw [lo, if_pos h, c4_col, hd_col, e, kq]
    ring
  · rw [Finset.sum_eq_zero (f := fun s => fD pj dm (2 * (j / 128)) s t * lo (c4 (kq pj) (j / 128)) s (j % 128)) fun s _ => by
      rw [lo, if_neg h, mul_zero], zero_add]
    refine Finset.sum_congr rfl fun s _ => ?_
    rw [hi, if_neg h, c4_col, hd_col, e, kq]
    ring

theorem outV_eq : outV (kq pj) (kk pj) dm pj t j = fdv pj dm t j := by
  rw [outV, gDv, fdv, aA, aB, zA_eq, zB_eq]
  rcases halves j with ⟨h, e⟩ | ⟨h, e⟩
  · rw [Finset.sum_eq_zero (f := fun s => sA (fz pj (2 * (j / 128) + 1)) s t * hi (rDo (cd dm (j / 128)) (cg pj (j / 128))) s (j % 128)) fun s _ => by
      rw [hi, if_pos h, mul_zero], add_zero]
    refine Finset.sum_congr rfl fun s _ => ?_
    rw [lo, if_pos h, go_col, hd_col, e, Nat.zero_add]
    ring
  · rw [Finset.sum_eq_zero (f := fun s => sA (fz pj (2 * (j / 128))) s t * lo (rDo (cd dm (j / 128)) (cg pj (j / 128))) s (j % 128)) fun s _ => by
      rw [lo, if_neg h, mul_zero], zero_add]
    refine Finset.sum_congr rfl fun s _ => ?_
    rw [hi, if_neg h, go_col, hd_col, e, Nat.zero_add]
    ring

theorem outG_eq : outG (fo pj) dm pj t j = fdg pj dm t j := by
  rw [outG, rDsg, fdg, c4_col]
  simp only [cd, cg, col]
  rw [show 768 + 128 * (j / 128) + j % 128 = 768 + j by omega, show 3328 + 128 * (j / 128) + j % 128 = 3328 + j by omega]
  ring

end Agree

end Cert.Proof

end
-- ==== Proof.Ref.Read.lean ====
/-
  The reference's tables over the real numbers: where its arguments hold real matrices, each table it computes on the
  way holds the real table of `Real`, and its results the four gradients.
-/
module

public import proofs.«01_k».proof.Proof.Gen.ReferenceIdeal.Read
public import proofs.«01_k».proof.Proof.Ref.Real

@[expose] public section

set_option maxRecDepth 8192

noncomputable section

namespace Cert.Proof.RI

open Cert.ReferenceIdeal Cert.ReferenceIdeal.Gen Cert.ReferenceIdeal.Read
open Idealize.ShloMosaic Idealize.ShloMosaic.TcCoe
open Finset
open Cert.Proof.KI (lsm sL sR sA sU sT sD sg sum_coe slt_small)

section Fwd

variable {x0 : (⟨S4096x3584, .f32⟩ : BufTy).Contents (Elt Ideal)} {pj : ℕ → ℕ → ℝ}

theorem v1_two (h : Two (m := 4096) (n := 3584) x0 pj) : Two (m := 4096) (n := 256) (val_main_v1 (F := Ideal) x0) (fun t j => pj t (2560 + j)) := fun i => by
  rw [val_main_v1_apply, val_main_v0_apply]
  exact h _
theorem v2_two (h : Two (m := 4096) (n := 3584) x0 pj) : Two (m := 4096) (n := 256) (val_main_v2 (F := Ideal) x0) (fun t j => pj t (2816 + j)) := fun i => by
  rw [val_main_v2_apply, val_main_v0_apply]
  refine (h _).trans ?_
  show ((pj (i 0).val (2560 + (256 + (i 1).val)) : ℝ) : EReal) = _
  rw [← Nat.add_assoc]
theorem v3_two (h : Two (m := 4096) (n := 3584) x0 pj) : Two (m := 4096) (n := 256) (val_main_v3 (F := Ideal) x0) (fun t j => pj t (3072 + j)) := fun i => by
  rw [val_main_v3_apply, val_main_v0_apply]
  refine (h _).trans ?_
  show ((pj (i 0).val (2560 + (512 + (i 1).val)) : ℝ) : EReal) = _
  rw [← Nat.add_assoc]
theorem v4_two (h : Two (m := 4096) (n := 3584) x0 pj) : Two (m := 4096) (n := 256) (val_main_v4 (F := Ideal) x0) (fun t j => pj t (3328 + j)) := fun i => by
  rw [val_main_v4_apply, val_main_v0_apply]
  refine (h _).trans ?_
  show ((pj (i 0).val (2560 + (768 + (i 1).val)) : ℝ) : EReal) = _
  rw [← Nat.add_assoc]

/-- Where a row of four heads is split. -/
theorem split_heads (t h d : ℕ) (hh : h < 4) (hd : d < 64) :
    ((t * 4 + h) * 64 + d) / 256 = t ∧ ((t * 4 + h) * 64 + d) % 256 = 64 * h + d := by omega

theorem v6_ten (h : Two (m := 4096) (n := 3584) x0 pj) : Ten (l := 4) (m := 4096) (n := 64) (val_main_v6 (F := Ideal) x0) (hd 2560 pj) := fun i => by
  rw [val_main_v6_apply, val_main_v5_apply, v1_two h]
  obtain ⟨e0, e1⟩ := split_heads (i 1).val (i 0).val (i 2).val (i 0).isLt (i 2).isLt
  show ((pj ((((i 1).val * 4 + (i 0).val) * 64 + (i 2).val) / 256) (2560 + (((i 1).val * 4 + (i 0).val) * 64 + (i 2).val) % 256) : ℝ) : EReal) = _
  rw [e0, e1, hd]
theorem v8_ten (h : Two (m := 4096) (n := 3584) x0 pj) : Ten (l := 4) (m := 4096) (n := 64) (val_main_v8 (F := Ideal) x0) (hd 2816 pj) := fun i => by
  rw [val_main_v8_apply, val_main_v7_apply, v2_two h]
  obtain ⟨e0, e1⟩ := split_heads (i 1).val (i 0).val (i 2).val (i 0).isLt (i 2).isLt
  show ((pj ((((i 1).val * 4 + (i 0).val) * 64 + (i 2).val) / 256) (2816 + (((i 1).val * 4 + (i 0).val) * 64 + (i 2).val) % 256) : ℝ) : EReal) = _
  rw [e0, e1, hd]
theorem v10_ten (h : Two (m := 4096) (n := 3584) x0 pj) : Ten (l := 4) (m := 4096) (n := 64) (val_main_v10 (F := Ideal) x0) (hd 3072 pj) := fun i => by
  rw [val_main_v10_apply, val_main_v9_apply, v3_two h]
  obtain ⟨e0, e1⟩ := split_heads (i 1).val (i 0).val (i 2).val (i 0).isLt (i 2).isLt
  show ((pj ((((i 1).val * 4 + (i 0).val) * 64 + (i 2).val) / 256) (3072 + (((i 1).val * 4 + (i 0).val) * 64 + (i 2).val) % 256) : ℝ) : EReal) = _
  rw [e0, e1, hd]

theorem v14_ten (h : Two (m := 4096) (n := 3584) x0 pj) : Ten (l := 4) (m := 4096) (n := 4096) (val_main_v14 (F := Ideal) x0) (fz pj) := fun i => by
  rw [val_main_v14_apply, val_main_v13_apply, val_main_cst_apply, bits_eighth, val_main_v12_apply]
  simp only [v6_ten h _, v8_ten h _, ← EReal.coe_mul, sum_coe]
  rw [mulf_coe, fz, Finset.sum_range]

theorem softplus_ten (h : Two (m := 4096) (n := 3584) x0 pj) : Ten (l := 4) (m := 4096) (n := 4096) (val_main_v20_0 (F := Ideal) x0) (fun a t s => -lsm (fz pj a t s)) := fun i => by
  simp only [val_main_v20_0_apply, val_main_call0_v4_apply, val_main_call0_v3_apply, val_main_call0_v11_apply, val_main_call0_v1_apply,
    val_main_call0_v10_apply, val_main_call0_v9_apply, val_main_call0_v8_apply, val_main_call0_v7_apply, val_main_call0_v2_apply,
    val_main_call0_v0_apply, val_main_call0_cst_apply, bits_zero, v14_ten h i, subf_coe, une_self, select_zero, maximumf_coe, absf_coe,
    negf_coe, exp_coe, log1p_coe, addf_coe]
  rw [← sp_eq, sp]

/-- The softplus function's derivative at the scores. -/
theorem softplus_deriv (h : Two (m := 4096) (n := 3584) x0 pj) : Ten (l := 4) (m := 4096) (n := 4096) (val_main_v20_1 (F := Ideal) x0)
    (fun a t s => Real.exp (fz pj a t s + lsm (fz pj a t s))) := fun i => by
  simp only [val_main_v20_1_apply, val_main_call0_v21_apply, val_main_call0_v16_apply, val_main_call0_v14_apply, val_main_call0_v13_apply,
    val_main_call0_cst_0_apply, val_main_call0_v20_apply, val_main_call0_v18_apply, val_main_call0_v17_apply, val_main_call0_cst_2_apply,
    bits_top, softplus_ten h i, v14_ten h i, oeq_top, select_zero, subf_coe, exp_coe]
  rw [sub_neg_eq_add]

theorem lsig_ten (h : Two (m := 4096) (n := 3584) x0 pj) : Ten (l := 4) (m := 4096) (n := 4096) (val_main_call3_v1_0 (F := Ideal) x0) (fun a t s => sp (-fz pj a t s)) := fun i => by
  simp only [val_main_call3_v1_0_apply, val_main_call3_v0_apply, val_main_call3_call0_v4_apply, val_main_call3_call0_v3_apply, val_main_call3_call0_v11_apply, val_main_call3_call0_v1_apply,
    val_main_call3_call0_v10_apply, val_main_call3_call0_v9_apply, val_main_call3_call0_v8_apply, val_main_call3_call0_v7_apply, val_main_call3_call0_v2_apply,
    val_main_call3_call0_v0_apply, val_main_call3_call0_cst_apply, bits_zero, v14_ten h i, subf_coe, une_self, select_zero, maximumf_coe, absf_coe,
    negf_coe, exp_coe, log1p_coe, addf_coe]
  rfl

/-- A mask selects at keys before the query. -/
theorem select_slt {a b : ℕ} (ha : a < 4096) (hb : b < 4096) (x y : ℝ) :
    Scalar.select (IntOp.cmpi CmpIPredicate.slt (BitVec.ofNat 32 a) (BitVec.ofNat 32 b)) ((x : ℝ) : EReal) ((y : ℝ) : EReal)
      = ((if a < b then x else y : ℝ) : EReal) := by
  rw [slt_small (by omega) (by omega)]
  split <;> rfl

theorem mask1 (i : S4x4096x4096.Idx) (x y : ℝ) :
    Scalar.select (val_main_v22_1 (F := Ideal) i) ((x : ℝ) : EReal) ((y : ℝ) : EReal) = ((if (i 2).val < (i 1).val then x else y : ℝ) : EReal) := by
  rw [val_main_v22_1_apply, val_main_v19_apply, val_main_v17_apply, val_main_v15_apply, val_main_v18_apply, val_main_v16_apply,
    val_main_v11_apply, val_main_v11_apply]
  exact select_slt (i 2).isLt (i 1).isLt x y
theorem mask4 (i : S4x4096x4096.Idx) (x y : ℝ) :
    Scalar.select (val_main_v28_1 (F := Ideal) i) ((x : ℝ) : EReal) ((y : ℝ) : EReal) = ((if (i 2).val < (i 1).val then x else y : ℝ) : EReal) := by
  rw [val_main_v28_1_apply, val_main_v19_apply, val_main_v17_apply, val_main_v15_apply, val_main_v18_apply, val_main_v16_apply,
    val_main_v11_apply, val_main_v11_apply]
  exact select_slt (i 2).isLt (i 1).isLt x y

theorem logs_ten (h : Two (m := 4096) (n := 3584) x0 pj) : Ten (l := 4) (m := 4096) (n := 4096) (val_main_v22_0 (F := Ideal) x0) (fun a t s => sL (fz pj a) t s) := fun i => by
  rw [val_main_v22_0_apply, val_main_v21_apply, softplus_ten h i, val_main_call1_v2_apply, val_main_call1_v0_apply, val_main_cst_0_apply, bits_zero,
    negf_coe, mask1, neg_neg]
  rfl

theorem cumsum_ten (h : Two (m := 4096) (n := 3584) x0 pj) :
    Ten (l := 4) (m := 4096) (n := 4096) (val_main_v23 (F := Ideal) x0) (fun a t s => ∑ j ∈ Ico s 4096, sL (fz pj a) t j) := by
  unfold val_main_v23
  have h0 : ∀ i, val_main_call2_v0 (F := Ideal) i = (0 : EReal) := fun i => by
    rw [val_main_call2_v0_apply, val_main_call2_cst_apply, bits_zero, EReal.coe_zero]
  exact host_from (A := 4) (B := 4096) (N := 4096) (M := 4095) (by norm_num) (logs_ten h) h0 _ h_S_

theorem rest_ten (h : Two (m := 4096) (n := 3584) x0 pj) : Ten (l := 4) (m := 4096) (n := 4096) (val_main_v24 (F := Ideal) x0) (fun a t s => sR (fz pj a) t s) := fun i => by
  rw [val_main_v24_apply, cumsum_ten h i, logs_ten h i, subf_coe]
  have i2 : (i 2).val < 4096 := (i 2).isLt
  dsimp only
  rw [Finset.sum_eq_sum_Ico_succ_bot i2, add_sub_cancel_left, sR]

theorem expo_ten (h : Two (m := 4096) (n := 3584) x0 pj) : Ten (l := 4) (m := 4096) (n := 4096) (val_main_v27 (F := Ideal) x0)
    (fun a t s => Real.exp (fz pj a t s + lsm (fz pj a t s) + sR (fz pj a) t s)) := fun i => by
  rw [val_main_v27_apply, val_main_v26_apply, val_main_v25_0_apply, lsig_ten h i, rest_ten h i, negf_coe, addf_coe, exp_coe, sp_neg]

theorem weights_ten (h : Two (m := 4096) (n := 3584) x0 pj) : Ten (l := 4) (m := 4096) (n := 4096) (val_main_v28_0 (F := Ideal) x0) (fun a t s => sA (fz pj a) t s) := fun i => by
  rw [val_main_v28_0_apply, expo_ten h i, val_main_call4_v2_apply, val_main_call4_v0_apply, val_main_cst_1_apply, bits_zero, mask4]
  rfl

/-- Where a row of four heads is put together. -/
theorem join_heads (t j : ℕ) (hj : j < 256) : (t * 256 + j) / 256 = t ∧ (t * 256 + j) / 64 % 4 = j / 64 ∧ (t * 256 + j) % 64 = j % 64 := by
  omega

theorem out_two (h : Two (m := 4096) (n := 3584) x0 pj) : Two (m := 4096) (n := 256) (val_main_v31 (F := Ideal) x0) (fo pj) := fun i => by
  rw [val_main_v31_apply, val_main_v30_apply, val_main_v29_apply]
  simp only [weights_ten h _, v10_ten h _, ← EReal.coe_mul, sum_coe]
  obtain ⟨e0, e1, e2⟩ := join_heads (i 0).val (i 1).val (i 1).isLt
  rw [fo, Finset.sum_range]
  show ((∑ k : Fin 4096, sA (fz pj (((i 0).val * 256 + (i 1).val) / 64 % 4)) (((i 0).val * 256 + (i 1).val) / 256) k.val
    * hd 3072 pj (((i 0).val * 256 + (i 1).val) / 64 % 4) k.val (((i 0).val * 256 + (i 1).val) % 64) : ℝ) : EReal) = _
  rw [e0, e1, e2]

theorem sigmoid_two (h : Two (m := 4096) (n := 3584) x0 pj) : Two (m := 4096) (n := 256) (val_main_v32_2 (F := Ideal) x0) (fun t j => sg (pj t (3328 + j))) := fun i => by
  rw [val_main_v32_2_apply, val_main_call5_v4_apply, val_main_call5_cst_0_apply, val_main_call5_v3_apply, val_main_call5_v2_apply, val_main_call5_cst_apply,
    val_main_call5_v1_apply, val_main_call5_v0_apply, v4_two h i, bits_one, negf_coe, exp_coe, addf_coe, div_coe]
  dsimp only [sg]
  rw [zero_sub]

end Fwd

section Bwd

variable {x0 : (⟨S4096x3584, .f32⟩ : BufTy).Contents (Elt Ideal)} {x1 : (⟨S4096x1024, .f32⟩ : BufTy).Contents (Elt Ideal)} {pj dm : ℕ → ℕ → ℝ}
variable (h : Two (m := 4096) (n := 3584) x0 pj) (h1 : Two (m := 4096) (n := 1024) x1 dm)
include h1

theorem ct_two : Two (m := 4096) (n := 256) (val_main_v34 (F := Ideal) x1) (fun t j => dm t (768 + j)) := fun i => by
  rw [val_main_v34_apply]
  exact h1 _

include h

theorem dg_two : Two (m := 4096) (n := 256) (val_main_v37 (F := Ideal) x0 x1) (fdg pj dm) := fun i => by
  rw [val_main_v37_apply, val_main_call6_v1_apply, val_main_call6_v2_apply, val_main_call6_v0_apply, val_main_v35_apply, val_main_v32_1_apply,
    val_main_call5_v7_apply, val_main_call5_v6_apply, val_main_call5_cst_1_apply, bits_one, out_two h i, ct_two h1 i, v4_two h i, sigmoid_two h i]
  simp only [mulf_coe, subf_coe, addf_coe]
  rfl

theorem go_two : Two (m := 4096) (n := 256) (val_main_v36 (F := Ideal) x0 x1) (fgo pj dm) := fun i => by
  rw [val_main_v36_apply, val_main_v32_0_apply, ct_two h1 i, v4_two h i, sigmoid_two h i, mulf_coe, mulf_coe]
  rfl

theorem go_ten : Ten (l := 4) (m := 4096) (n := 64) (val_main_v39 (F := Ideal) x0 x1) (hd 0 (fgo pj dm)) := fun i => by
  rw [val_main_v39_apply, val_main_v38_apply, go_two h h1]
  obtain ⟨e0, e1⟩ := split_heads (i 1).val (i 0).val (i 2).val (i 0).isLt (i 2).isLt
  show ((fgo pj dm ((((i 1).val * 4 + (i 0).val) * 64 + (i 2).val) / 256) ((((i 1).val * 4 + (i 0).val) * 64 + (i 2).val) % 256) : ℝ) : EReal) = _
  rw [e0, e1, hd, zero_add]

theorem da_ten : Ten (l := 4) (m := 4096) (n := 4096) (val_main_v42 (F := Ideal) x0 x1) (fg pj dm) := fun i => by
  rw [val_main_v42_apply]
  simp only [go_ten h h1 _, v10_ten h _, ← EReal.coe_mul, sum_coe]
  rw [fg, Finset.sum_range]

theorem u_ten : Ten (l := 4) (m := 4096) (n := 4096) (val_main_v44 (F := Ideal) x0 x1) (fun a t s => sU (fz pj a) (fg pj dm a) t s) := fun i => by
  rw [val_main_v44_apply, val_main_v43_apply, da_ten h h1 i, expo_ten h i, val_main_call7_v0_apply, val_main_call7_cst_apply, bits_zero, mask4, mulf_coe]
  dsimp only
  rw [sU, sA]
  split
  · rw [mul_comm]
  · rw [zero_mul, zero_mul]

theorem ucum_ten : Ten (l := 4) (m := 4096) (n := 4096) (val_main_v47 (F := Ideal) x0 x1)
    (fun a t s => ∑ j ∈ range (s + 1), sU (fz pj a) (fg pj dm a) t j) := by
  unfold val_main_v47
  have h0 : ∀ i, val_main_call9_v0 (F := Ideal) i = (0 : EReal) := fun i => by
    rw [val_main_call9_v0_apply, val_main_call9_cst_apply, bits_zero, EReal.coe_zero]
  exact host_upto (A := 4) (B := 4096) (N := 4096) (M := 4095) (by norm_num) (u_ten h h1) h0 _ h_S_

omit h1 in
theorem lsig_deriv : Ten (l := 4) (m := 4096) (n := 4096) (val_main_v25_1 (F := Ideal) x0) (fun a t s => Real.exp (lsm (fz pj a t s))) := fun i => by
  simp only [val_main_v25_1_apply, val_main_call3_call0_v21_apply, val_main_call3_call0_v16_apply, val_main_call3_call0_v14_apply, val_main_call3_call0_v13_apply,
    val_main_call3_call0_cst_0_apply, val_main_call3_call0_v20_apply, val_main_call3_call0_v18_apply, val_main_call3_call0_v17_apply, val_main_call3_call0_cst_2_apply,
    val_main_call3_v0_apply, bits_top, lsig_ten h i, v14_ten h i, negf_coe, oeq_top, select_zero, subf_coe, exp_coe]
  rw [sub_eq_add_neg, sp_neg, neg_add_cancel_left]

theorem dz_ten : Ten (l := 4) (m := 4096) (n := 4096) (val_main_v54 (F := Ideal) x0 x1) (fun a t s => fD pj dm a t s * 0.125) := fun i => by
  have i1 : (i 1).val < 4096 := (i 1).isLt
  have i2 : (i 2).val < 4096 := (i 2).isLt
  rw [val_main_v54_apply, val_main_v53_apply, val_main_cst_2_apply, bits_eighth, val_main_v52_apply, val_main_v45_apply, val_main_call8_v1_apply,
    val_main_call8_v0_apply, val_main_v51_apply, val_main_v50_apply, val_main_v49_apply, val_main_v48_apply, val_main_v46_apply, u_ten h h1 i, ucum_ten h h1 i,
    lsig_deriv h i, softplus_deriv h i, val_main_call10_v0_apply, val_main_call10_cst_apply, bits_zero]
  simp only [negf_coe, addf_coe, mask1, mulf_coe]
  rw [neg_mul, neg_neg, sD_eq i1 i2, fD]

theorem dk_two : Two (m := 4096) (n := 256) (val_main_v60 (F := Ideal) x0 x1) (fdk pj dm) := fun i => by
  rw [val_main_v60_apply, val_main_v59_apply, val_main_v55_apply]
  simp only [dz_ten h h1 _, v6_ten h _, ← EReal.coe_mul, sum_coe]
  obtain ⟨e0, e1, e2⟩ := join_heads (i 0).val (i 1).val (i 1).isLt
  rw [fdk, Finset.sum_range]
  show ((∑ k : Fin 4096, fD pj dm (((i 0).val * 256 + (i 1).val) / 64 % 4) k.val (((i 0).val * 256 + (i 1).val) / 256) * 0.125
    * hd 2560 pj (((i 0).val * 256 + (i 1).val) / 64 % 4) k.val (((i 0).val * 256 + (i 1).val) % 64) : ℝ) : EReal) = _
  rw [e0, e1, e2]

theorem dq_two : Two (m := 4096) (n := 256) (val_main_v62 (F := Ideal) x0 x1) (fdq pj dm) := fun i => by
  rw [val_main_v62_apply, val_main_v61_apply, val_main_v56_apply]
  simp only [dz_ten h h1 _, v8_ten h _, ← EReal.coe_mul, sum_coe]
  obtain ⟨e0, e1, e2⟩ := join_heads (i 0).val (i 1).val (i 1).isLt
  rw [fdq, Finset.sum_range]
  show ((∑ k : Fin 4096, fD pj dm (((i 0).val * 256 + (i 1).val) / 64 % 4) (((i 0).val * 256 + (i 1).val) / 256) k.val * 0.125
    * hd 2816 pj (((i 0).val * 256 + (i 1).val) / 64 % 4) k.val (((i 0).val * 256 + (i 1).val) % 64) : ℝ) : EReal) = _
  rw [e0, e1, e2]

theorem dv_two : Two (m := 4096) (n := 256) (val_main_v58 (F := Ideal) x0 x1) (fdv pj dm) := fun i => by
  rw [val_main_v58_apply, val_main_v57_apply, val_main_v41_apply, val_main_v40_apply]
  simp only [go_ten h h1 _, weights_ten h _, ← EReal.coe_mul, sum_coe]
  obtain ⟨e0, e1, e2⟩ := join_heads (i 0).val (i 1).val (i 1).isLt
  rw [fdv, Finset.sum_range]
  show ((∑ k : Fin 4096, hd 0 (fgo pj dm) (((i 0).val * 256 + (i 1).val) / 64 % 4) k.val (((i 0).val * 256 + (i 1).val) % 64)
    * sA (fz pj (((i 0).val * 256 + (i 1).val) / 64 % 4)) k.val (((i 0).val * 256 + (i 1).val) / 256) : ℝ) : EReal) = _
  rw [e0, e1, e2]

end Bwd

end Cert.Proof.RI

end
-- ==== Proof.Ideal.Host.lean ====
/-
  What the host's lines leave in the arrays the launch is given: the forward output of the attention, as the reference
  computes it, and the scaled queries, the keys and the values.
-/
module

public import proofs.«01_k».proof.Proof.Ideal.Grid
public import proofs.«01_k».proof.Proof.Ref.Read

@[expose] public section

set_option maxRecDepth 8192

noncomputable section

namespace Cert.Proof.KI

open Cert.KernelIdeal Cert.KernelIdeal.Gen
open Idealize.ShloMosaic Idealize.ShloMosaic.TcCoe Idealize.SL.Sem
open Cert.ReferenceIdeal.Read Cert.Proof.RI

/-! ### The four columns of the projections -/

abbrev X0 := (⟨S4096x3584, .f32⟩ : BufTy).Contents (Elt Ideal)
abbrev HV := Valuation τ sig (Elt Ideal)

theorem slice_q (x : X0) : extractStridedSlice S4096x256 ![0, 2560] x slices_S4096x3584_S4096x256_0_2560 = val_main_v1 (F := Ideal) x := by
  funext i
  rw [val_main_v1_apply, val_main_v0_apply, extractStridedSlice_apply]
  case hk =>
    intro a
    fin_cases a <;> simp <;> omega

theorem slice_k (x : X0) : extractStridedSlice S4096x256 ![0, 2816] x slices_S4096x3584_S4096x256_0_2816 = val_main_v2 (F := Ideal) x := by
  funext i
  rw [val_main_v2_apply, val_main_v0_apply, extractStridedSlice_apply]
  case hk =>
    intro a
    fin_cases a <;> simp <;> omega

theorem slice_v (x : X0) : extractStridedSlice S4096x256 ![0, 3072] x slices_S4096x3584_S4096x256_0_3072 = val_main_v3 (F := Ideal) x := by
  funext i
  rw [val_main_v3_apply, val_main_v0_apply, extractStridedSlice_apply]
  case hk =>
    intro a
    fin_cases a <;> simp <;> omega

/-! ### The lines, a few at a time -/

abbrev linesA : List (HloOp τ sig (Elt Ideal)) := hostOps0
abbrev linesB : List (HloOp τ sig (Elt Ideal)) := hostOps0_1 ++ hostOps0_2 ++ hostOps0_3
abbrev linesC : List (HloOp τ sig (Elt Ideal)) := hostOps0_4 ++ hostOps0_5
abbrev linesD : List (HloOp τ sig (Elt Ideal)) := hostOps0_6
abbrev linesE : List (HloOp τ sig (Elt Ideal)) := hostOps0_7 ++ hostOps0_8 ++ hostOps0_9

set_option maxHeartbeats 2000000 in
theorem A_v0 (W : HV) :
    StableHlo.after linesA W (Proc.devRef .tc main_v0) = val_main_v1 (F := Ideal) (W (Proc.devRef .tc main_arg0)) := by
  simp only [linesA]
  after_results_simp
  exact slice_q _

set_option maxHeartbeats 2000000 in
theorem A_v1 (W : HV) :
    StableHlo.after linesA W (Proc.devRef .tc main_v1) = val_main_v2 (F := Ideal) (W (Proc.devRef .tc main_arg0)) := by
  simp only [linesA]
  after_results_simp
  exact slice_k _

set_option maxHeartbeats 2000000 in
theorem A_v2 (W : HV) :
    StableHlo.after linesA W (Proc.devRef .tc main_v2) = val_main_v3 (F := Ideal) (W (Proc.devRef .tc main_arg0)) := by
  simp only [linesA]
  after_results_simp
  exact slice_v _

set_option maxHeartbeats 2000000 in
theorem A_v8 (W : HV) :
    StableHlo.after linesA W (Proc.devRef .tc main_v8) = val_main_v10 (F := Ideal) (W (Proc.devRef .tc main_arg0)) := by
  simp only [linesA]
  after_results_simp
  rw [slice_v]
  rfl

set_option maxHeartbeats 2000000 in
theorem A_v12 (W : HV) :
    StableHlo.after linesA W (Proc.devRef .tc main_v12) = val_main_v14 (F := Ideal) (W (Proc.devRef .tc main_arg0)) := by
  simp only [linesA]
  after_results_simp
  rw [slice_q, slice_k]
  rfl

set_option maxHeartbeats 2000000 in
theorem A_v17 (W : HV) :
    StableHlo.after linesA W (Proc.devRef .tc main_v17) = val_main_v19 (F := Ideal) := by
  simp only [linesA]
  after_results_simp
  all_goals rfl

set_option maxHeartbeats 2000000 in
theorem B_v20 (W : HV) (x : X0)
    (h_v12 : W (Proc.devRef .tc main_v12) = val_main_v14 (F := Ideal) x)
    (h_v17 : W (Proc.devRef .tc main_v17) = val_main_v19 (F := Ideal)) :
    StableHlo.after linesB W (Proc.devRef .tc main_v20) = val_main_v22_0 (F := Ideal) x := by
  simp only [linesB, List.cons_append, List.nil_append, StableHlo.TRef.binary, StableHlo.TRef.nullary, StableHlo.TRef.ternary, StableHlo.TRef.unary, StableHlo.TRef.toBuf, StableHlo.TRef.ofBuf, cast_eq]
  after_results_simp
  simp only [h_v12, h_v17]
  rfl

set_option maxHeartbeats 2000000 in
theorem C_v22 (W : HV) (x : X0)
    (h_v20 : W (Proc.devRef .tc main_v20) = val_main_v22_0 (F := Ideal) x) :
    StableHlo.after linesC W (Proc.devRef .tc main_v22) = val_main_v24 (F := Ideal) x := by
  simp only [linesC, List.cons_append, List.nil_append, StableHlo.TRef.binary, StableHlo.TRef.nullary, StableHlo.TRef.ternary, StableHlo.TRef.unary, StableHlo.TRef.toBuf, StableHlo.TRef.ofBuf, cast_eq]
  after_results_simp
  simp only [h_v20]
  rfl

set_option maxHeartbeats 2000000 in
theorem D_v23 (W : HV) (x : X0)
    (h_v12 : W (Proc.devRef .tc main_v12) = val_main_v14 (F := Ideal) x) :
    StableHlo.after linesD W (Proc.devRef .tc main_v23) = val_main_v25_0 (F := Ideal) x := by
  simp only [linesD, List.cons_append, List.nil_append, StableHlo.TRef.binary, StableHlo.TRef.nullary, StableHlo.TRef.ternary, StableHlo.TRef.unary, StableHlo.TRef.toBuf, StableHlo.TRef.ofBuf, cast_eq]
  after_results_simp
  simp only [h_v12]
  rfl

set_option maxHeartbeats 2000000 in
theorem E_v29 (W : HV) (x : X0)
    (h_v17 : W (Proc.devRef .tc main_v17) = val_main_v19 (F := Ideal))
    (h_v22 : W (Proc.devRef .tc main_v22) = val_main_v24 (F := Ideal) x)
    (h_v23 : W (Proc.devRef .tc main_v23) = val_main_v25_0 (F := Ideal) x)
    (h_v8 : W (Proc.devRef .tc main_v8) = val_main_v10 (F := Ideal) x) :
    StableHlo.after linesE W (Proc.devRef .tc main_v29) = val_main_v31 (F := Ideal) x := by
  simp only [linesE, List.cons_append, List.nil_append, StableHlo.TRef.binary, StableHlo.TRef.nullary, StableHlo.TRef.ternary, StableHlo.TRef.unary, StableHlo.TRef.toBuf, StableHlo.TRef.ofBuf, cast_eq]
  after_results_simp
  simp only [h_v17, h_v22, h_v23, h_v8]
  rfl

set_option maxHeartbeats 2000000 in
theorem E_v32 (W : HV) (x : X0)
    (h_v0 : W (Proc.devRef .tc main_v0) = val_main_v1 (F := Ideal) x) :
    StableHlo.after linesE W (Proc.devRef .tc main_v32) = truncf (F := Ideal) (s := S4096x256) .bf16 (mulf (F := Ideal) (φ := .f32) (val_main_v1 (F := Ideal) x) (broadcastInDim S4096x256 ![] bcast_S_S4096x256 (constant (F := Ideal) S_ .f32 0x3E000000#32))) bitsLt_bf16_f32 := by
  simp only [linesE, List.cons_append, List.nil_append, StableHlo.TRef.binary, StableHlo.TRef.nullary, StableHlo.TRef.ternary, StableHlo.TRef.unary, StableHlo.TRef.toBuf, StableHlo.TRef.ofBuf, cast_eq]
  after_results_simp
  simp only [h_v0]

set_option maxHeartbeats 2000000 in
theorem E_v33 (W : HV) (x : X0)
    (h_v1 : W (Proc.devRef .tc main_v1) = val_main_v2 (F := Ideal) x) :
    StableHlo.after linesE W (Proc.devRef .tc main_v33) = truncf (F := Ideal) (s := S4096x256) .bf16 (val_main_v2 (F := Ideal) x) bitsLt_bf16_f32 := by
  simp only [linesE, List.cons_append, List.nil_append, StableHlo.TRef.binary, StableHlo.TRef.nullary, StableHlo.TRef.ternary, StableHlo.TRef.unary, StableHlo.TRef.toBuf, StableHlo.TRef.ofBuf, cast_eq]
  after_results_simp
  simp only [h_v1]

set_option maxHeartbeats 2000000 in
theorem E_v34 (W : HV) (x : X0)
    (h_v2 : W (Proc.devRef .tc main_v2) = val_main_v3 (F := Ideal) x) :
    StableHlo.after linesE W (Proc.devRef .tc main_v34) = truncf (F := Ideal) (s := S4096x256) .bf16 (val_main_v3 (F := Ideal) x) bitsLt_bf16_f32 := by
  simp only [linesE, List.cons_append, List.nil_append, StableHlo.TRef.binary, StableHlo.TRef.nullary, StableHlo.TRef.ternary, StableHlo.TRef.unary, StableHlo.TRef.toBuf, StableHlo.TRef.ofBuf, cast_eq]
  after_results_simp
  simp only [h_v2]

/-- Arrays these lines leave as they are. -/
theorem keep_B (W : HV) (b : Ref sig .tc) (hb : b = main_v0 ∨ b = main_v1 ∨ b = main_v2 ∨ b = main_v8 ∨ b = main_v12 ∨ b = main_v17) :
    StableHlo.after linesB W (Proc.devRef .tc b) = W (Proc.devRef .tc b) := by
  refine StableHlo.after_of_forall_not_mem (b := Proc.devRef .tc b) _ _ (List.forall_iff_forall_mem.mp ?_)
  simp only [linesB, List.cons_append, List.nil_append, List.Forall,
    StableHlo.nullary_writes, StableHlo.unary_writes, StableHlo.binary_writes, StableHlo.ternary_writes, StableHlo.reshape_writes,
    StableHlo.nary_writes, Finset.mem_singleton]
  rcases hb with rfl | rfl | rfl | rfl | rfl | rfl
  all_goals
    repeat' apply And.intro
    all_goals exact StableHlo.devRef_ne_of_ne (by decide)

/-- Arrays these lines leave as they are. -/
theorem keep_C (W : HV) (b : Ref sig .tc) (hb : b = main_v0 ∨ b = main_v1 ∨ b = main_v2 ∨ b = main_v8 ∨ b = main_v12 ∨ b = main_v17) :
    StableHlo.after linesC W (Proc.devRef .tc b) = W (Proc.devRef .tc b) := by
  refine StableHlo.after_of_forall_not_mem (b := Proc.devRef .tc b) _ _ (List.forall_iff_forall_mem.mp ?_)
  simp only [linesC, List.cons_append, List.nil_append, List.Forall,
    StableHlo.nullary_writes, StableHlo.unary_writes, StableHlo.binary_writes, StableHlo.ternary_writes, StableHlo.reshape_writes,
    StableHlo.nary_writes, Finset.mem_singleton]
  rcases hb with rfl | rfl | rfl | rfl | rfl | rfl
  all_goals
    repeat' apply And.intro
    all_goals exact StableHlo.devRef_ne_of_ne (by decide)

/-- Arrays these lines leave as they are. -/
theorem keep_D (W : HV) (b : Ref sig .tc) (hb : b = main_v0 ∨ b = main_v1 ∨ b = main_v2 ∨ b = main_v8 ∨ b = main_v22 ∨ b = main_v17) :
    StableHlo.after linesD W (Proc.devRef .tc b) = W (Proc.devRef .tc b) := by
  refine StableHlo.after_of_forall_not_mem (b := Proc.devRef .tc b) _ _ (List.forall_iff_forall_mem.mp ?_)
  simp only [linesD, List.cons_append, List.nil_append, List.Forall,
    StableHlo.nullary_writes, StableHlo.unary_writes, StableHlo.binary_writes, StableHlo.ternary_writes, StableHlo.reshape_writes,
    StableHlo.nary_writes, Finset.mem_singleton]
  rcases hb with rfl | rfl | rfl | rfl | rfl | rfl
  all_goals
    repeat' apply And.intro
    all_goals exact StableHlo.devRef_ne_of_ne (by decide)

theorem after_two (l₁ l₂ : List (HloOp τ sig (Elt Ideal))) (W : HV) : StableHlo.after (l₁ ++ l₂) W = StableHlo.after l₂ (StableHlo.after l₁ W) := by
  induction l₁ generalizing W with
  | nil => rfl
  | cons op l ih => exact ih _

section Launch

variable (m : (ℓ : Loc nD τ sig) → Buf (Elt Ideal) ℓ) (c : Dev nD)

/-- The arrays as launched, on one device. -/
abbrev W0 : HV := fun b => m (c, b)
abbrev W1 : HV := StableHlo.after linesA (W0 m c)
abbrev W2 : HV := StableHlo.after linesB (W1 m c)
abbrev W3 : HV := StableHlo.after linesC (W2 m c)
abbrev W4 : HV := StableHlo.after linesD (W3 m c)

theorem V_eq (b : Ref sig .tc) : V m c b = StableHlo.after linesE (W4 m c) (Proc.devRef .tc b) := by
  have e : (hostLines (F := Ideal)).flatten = linesA ++ (linesB ++ (linesC ++ (linesD ++ linesE))) := rfl
  rw [V, e, after_two, after_two, after_two, after_two]

abbrev arg0 : X0 := m (c, Proc.devRef .tc main_arg0)

theorem V_v29 : V m c main_v29 = val_main_v31 (F := Ideal) (arg0 m c) := by
  rw [V_eq]
  refine E_v29 _ (arg0 m c) ?_ ?_ ?_ ?_
  · exact (keep_D _ _ (by simp)).trans ((keep_C _ _ (by simp)).trans ((keep_B _ _ (by simp)).trans (A_v17 _)))
  · exact (keep_D _ _ (by simp)).trans (C_v22 _ _ (B_v20 _ _ (A_v12 _) (A_v17 _)))
  · exact D_v23 _ _ ((keep_C _ _ (by simp)).trans ((keep_B _ _ (by simp)).trans (A_v12 _)))
  · exact (keep_D _ _ (by simp)).trans ((keep_C _ _ (by simp)).trans ((keep_B _ _ (by simp)).trans (A_v8 _)))

variable {pj : ℕ → ℕ → ℝ} (h : Two (m := 4096) (n := 3584) (arg0 m c) pj)
include h

theorem read_o : Mat (m := 4096) (n := 256) (V m c main_v29) (fo pj) := by
  rw [V_v29]
  exact fun r k => out_two h _

theorem read_q : Mat (m := 4096) (n := 256) (V m c main_v32) (fun t j => pj t (2560 + j) * 0.125) := by
  rw [V_eq, E_v32 _ (arg0 m c) ((keep_D _ _ (by simp)).trans ((keep_C _ _ (by simp)).trans ((keep_B _ _ (by simp)).trans (A_v0 _))))]
  intro r k
  show FloatOps.mulf (F := Ideal) (φ := .f32) (val_main_v1 (F := Ideal) (arg0 m c) (ix2 r k)) (FloatOps.ofBits .f32 0x3E000000#32) = _
  rw [v1_two h, bits_eighth, mulf_coe]
  rfl

theorem read_k : Mat (m := 4096) (n := 256) (V m c main_v33) (fun t j => pj t (2816 + j)) := by
  rw [V_eq, E_v33 _ (arg0 m c) ((keep_D _ _ (by simp)).trans ((keep_C _ _ (by simp)).trans ((keep_B _ _ (by simp)).trans (A_v1 _))))]
  exact fun r k => v2_two h _

theorem read_v : Mat (m := 4096) (n := 256) (V m c main_v34) (fun t j => pj t (3072 + j)) := by
  rw [V_eq, E_v34 _ (arg0 m c) ((keep_D _ _ (by simp)).trans ((keep_C _ _ (by simp)).trans ((keep_B _ _ (by simp)).trans (A_v2 _))))]
  exact fun r k => v3_two h _

/-- All six arrays the launch reads hold real matrices. -/
theorem reads {dm : ℕ → ℕ → ℝ} (h1 : Two (m := 4096) (n := 1024) (m (c, Proc.devRef .tc main_arg1)) dm) :
    Reads m c (fun t j => pj t (2560 + j) * 0.125) (fun t j => pj t (2816 + j)) (fun t j => pj t (3072 + j)) (fo pj) dm pj where
  q := read_q m c h
  k := read_k m c h
  v := read_v m c h
  o := read_o m c h
  dm := by
    rw [arg_kept m c main_arg1 (Or.inr rfl)]
    exact fun r k => h1 _
  pj := by
    rw [arg_kept m c main_arg0 (Or.inl rfl)]
    exact fun r k => h _

end Launch

end Cert.Proof.KI

end
-- ==== Proof.Value.lean ====
/-
  The value claim: from finite arguments the kernel's four result arrays are the reference's, over the reals.
-/
module

public import proofs.«01_k».proof.Defs
public import proofs.«01_k».proof.Proof.Agree
public import proofs.«01_k».proof.Proof.Ideal.Host
public import proofs.«01_k».proof.Proof.Gen.ReferenceIdeal
public import proofs.«01_k».proof.Proof.Gen.ReferenceIdeal.Run
public import proofs.«01_k».proof.Proof.Gen.Pre_finite

@[expose] public section

noncomputable section

namespace Cert.Proof

open Idealize.ShloMosaic Idealize.ShloMosaic.TcCoe Idealize.SL.Sem
open Cert.Proof.KI (Mat)
open Cert.Proof.RI

/-- An array's real matrix. -/
def real {a b : ℕ} (x : Shape.Idx ⟨2, ![a, b]⟩ → EReal) (r c : ℕ) : ℝ :=
  if h : r < a ∧ c < b then (x (ix2 ⟨r, h.1⟩ ⟨c, h.2⟩)).toReal else 0

/-- The comparison the precondition makes at one entry. -/
theorem finite_entry (x : EReal) (h : Ideal.cmp .olt (max x (-x)) (FloatOps.ofBits (F := Ideal) .f32 0x7F800000#32) = 1#1) :
    x ≠ ⊤ ∧ x ≠ ⊥ := by
  have ht : FloatOps.ofBits (F := Ideal) .f32 0x7F800000#32 = (⊤ : EReal) := by
    simp [Ideal.ofBits, Ideal.ieee]
  rw [ht] at h
  constructor
  · rintro rfl
    simp [Ideal.cmp] at h
  · rintro rfl
    simp [Ideal.cmp] at h

theorem two_real {a b : ℕ} (x : Shape.Idx ⟨2, ![a, b]⟩ → EReal) (h : ∀ i, x i ≠ ⊤ ∧ x i ≠ ⊥) : Two (m := a) (n := b) x (real x) := fun i => by
  have e : i = ix2 (i 0) (i 1) := eq_ix2 i
  rw [real, dif_pos ⟨(i 0).isLt, (i 1).isLt⟩]
  conv_lhs => rw [e]
  exact (EReal.coe_toReal (h _).1 (h _).2).symm

/-- Two arrays of one real matrix are one array. -/
theorem same {a b : ℕ} {x y : Shape.Idx ⟨2, ![a, b]⟩ → EReal} {X Y : ℕ → ℕ → ℝ} (hx : Mat (m := a) (n := b) x X)
    (hy : Two (m := a) (n := b) y Y) (e : ∀ r c, X r c = Y r c) : y = x := by
  funext i
  rw [hy i, ← e]
  conv_rhs => rw [eq_ix2 i]
  exact (hx _ _).symm

theorem algebraic : Cert.algebraic_KernelIdeal_ReferenceIdeal_pre_finite := by
  intro m g m' g' hpre hin
  have h0 : ∀ c, Two (m := 4096) (n := 3584) (KI.arg0 m c) (real (KI.arg0 m c)) := fun c =>
    two_real _ fun i => finite_entry _ (congrFun (hpre c).1 i)
  have h1 : ∀ c : Dev Cert.KernelIdeal.nD, Two (m := 4096) (n := 1024) (m (c, Proc.devRef .tc Cert.KernelIdeal.main_arg1))
      (real (m (c, Proc.devRef .tc Cert.KernelIdeal.main_arg1))) := fun c =>
    two_real _ fun i => finite_entry _ (congrFun (hpre c).2 i)
  have hr := fun c => KI.reads m c (h0 c) (h1 c)
  refine ⟨fun c => (KI.dats m 0 c).arrAt 6 (Cert.KernelIdeal.cfg0 (F := Ideal)).N, fun c => (KI.dats m 0 c).arrAt 7 (Cert.KernelIdeal.cfg0 (F := Ideal)).N,
    fun c => (KI.dats m 0 c).arrAt 8 (Cert.KernelIdeal.cfg0 (F := Ideal)).N, fun c => (KI.dats m 0 c).arrAt 9 (Cert.KernelIdeal.cfg0 (F := Ideal)).N,
    (θ_run _ _ _).mono (fun r h => h.1) (KI.run_main m g), ?_⟩
  refine (θ_run _ _ _).mono (fun r h c => ?_) (Cert.ReferenceIdeal.Value.run (F := Ideal) m' g')
  obtain ⟨e62, e60, e58, e37, k0, k1⟩ := h c
  obtain ⟨i0, i1⟩ := hin c
  have g0 : Two (m := 4096) (n := 3584) (m' (c, Proc.devRef .tc Cert.ReferenceIdeal.main_arg0)) (real (KI.arg0 m c)) :=
    fun i => (congrFun i0 i).trans (h0 c i)
  have g1 : Two (m := 4096) (n := 1024) (m' (c, Proc.devRef .tc Cert.ReferenceIdeal.main_arg1))
      (real (m (c, Proc.devRef .tc Cert.KernelIdeal.main_arg1))) := fun i => (congrFun i1 i).trans (h1 c i)
  exact ⟨e62.trans ((Cert.ReferenceIdeal.Read.val_main_v62_eq _).trans (same (KI.result6 (hr c)) (dq_two g0 g1) fun _ _ => outQ_eq _ _ _ _)),
    e60.trans ((Cert.ReferenceIdeal.Read.val_main_v60_eq _).trans (same (KI.result7 (hr c)) (dk_two g0 g1) fun _ _ => outK_eq _ _ _ _)),
    e58.trans ((Cert.ReferenceIdeal.Read.val_main_v58_eq _).trans (same (KI.result8 (hr c)) (dv_two g0 g1) fun _ _ => outV_eq _ _ _ _)),
    e37.trans ((Cert.ReferenceIdeal.Read.val_main_v37_eq _).trans (same (KI.result9 (hr c)) (dg_two g0 g1) fun _ _ => outG_eq _ _ _ _)), k0, k1⟩

end Cert.Proof

end
-- ==== Proof.Out.Kernel.lean ====
/-
  The output projection's kernel over the extended reals: each entry of its result is the residual entry and three sums,
  over the rows of the weights that belong to the three mixers.
-/
module

public import proofs.«01_k».proof.Proof.Gen.Kernel6Ideal.Value
public import Idealize.ShloMosaic.Lib.Pipeline.ValueKit
public import Idealize.ShloMosaic.Lib.Pointwise

@[expose] public section

set_option maxRecDepth 8192

noncomputable section

namespace Cert.Proof.Out

open Cert.Kernel6Ideal Cert.Kernel6Ideal.Gen
open Idealize.ShloMosaic Idealize.ShloMosaic.TcCoe Idealize.SL.Sem

theorem ix2_of {a b : ℕ} (i : (⟨2, ![a, b]⟩ : Shape).Idx) (r : Fin a) (d : Fin b) (h0 : (i 0).val = r.val) (h1 : (i 1).val = d.val) :
    i = ix2 r d := by
  funext k; apply Fin.ext; fin_cases k
  · exact h0
  · exact h1

theorem ix3_of {a b n : ℕ} (i : (⟨3, ![a, b, n]⟩ : Shape).Idx) (q : Fin a) (r : Fin b) (d : Fin n) (h0 : (i 0).val = q.val)
    (h1 : (i 1).val = r.val) (h2 : (i 2).val = d.val) : i = ix3 q r d := by
  funext k; apply Fin.ext; fin_cases k
  · exact h0
  · exact h1
  · exact h2

/-- One entry of the projection: the residual and the three mixers' sums. -/
def entry (x : S4096x1024.Idx → EReal) (f : S4096x512.Idx → EReal) (p s : S4096x256.Idx → EReal) (w : S4x1024x1024.Idx → EReal)
    (r : Fin 4096) (d : Fin 1024) : EReal :=
  x (ix2 r d) + ∑ k : Fin 512, f (ix2 r k) * w (ix3 0 ⟨k.val, by omega⟩ d)
    + ∑ k : Fin 256, p (ix2 r k) * w (ix3 0 ⟨512 + k.val, by omega⟩ d)
    + ∑ k : Fin 256, s (ix2 r k) * w (ix3 0 ⟨768 + k.val, by omega⟩ d)

theorem pay_at (v0 : FVec Ideal S1024x1024 .f32) (v1 : FVec Ideal S1024x512 .bf16) (v3 : FVec Ideal S1x512x1024 .bf16)
    (v7 : FVec Ideal S1024x256 .bf16) (v9 : FVec Ideal S1x256x1024 .bf16) (v13 : FVec Ideal S1024x256 .bf16)
    (v15 : FVec Ideal S1x256x1024 .bf16) (r d : Fin 1024) :
    k0_pay1 v0 v1 v3 v7 v9 v13 v15 (ix2 r d) = v0 (ix2 r d) + ∑ k : Fin 512, v1 (ix2 r k) * v3 (ix3 0 k d)
      + ∑ k : Fin 256, v7 (ix2 r k) * v9 (ix3 0 k d) + ∑ k : Fin 256, v13 (ix2 r k) * v15 (ix3 0 k d) := by
  pointwise [k0_pay1]

/-- What a point leaves in its block of the result, from the blocks it reads. -/
theorem out_at (x0 : FVec Ideal S1024x1024 .f32) (x1 : FVec Ideal S1024x512 .bf16) (x2 x3 : FVec Ideal S1024x256 .bf16)
    (x4 : FVec Ideal S1x1024x1024 .bf16) (r d : Fin 1024) :
    out0_5 (F := Ideal) x0 x1 x2 x3 x4 (ix2 r d) = x0 (ix2 r d) + ∑ k : Fin 512, x1 (ix2 r k) * x4 (ix3 0 ⟨k.val, by omega⟩ d)
      + ∑ k : Fin 256, x2 (ix2 r k) * x4 (ix3 0 ⟨512 + k.val, by omega⟩ d)
      + ∑ k : Fin 256, x3 (ix2 r k) * x4 (ix3 0 ⟨768 + k.val, by omega⟩ d) := by
  have z2 : (![0, 0] : Fin 2 → ℕ) = fun _ => 0 := by funext a; fin_cases a <;> rfl
  have e0 : View.ld (Val := Elt Ideal) (S := S1024x1024) (e' := .f32) x0 r0_0 = x0 := View.ld_unit_zero (Val := Elt Ideal) (S := S1024x1024) (e := .f32) z2 _ _
  have e1 : View.ld (Val := Elt Ideal) (S := S1024x512) (e' := .bf16) x1 r0_1 = x1 := View.ld_unit_zero (Val := Elt Ideal) (S := S1024x512) (e := .bf16) z2 _ _
  have e2 : View.ld (Val := Elt Ideal) (S := S1024x256) (e' := .bf16) x2 r0_3 = x2 := View.ld_unit_zero (Val := Elt Ideal) (S := S1024x256) (e := .bf16) z2 _ _
  have e3 : View.ld (Val := Elt Ideal) (S := S1024x256) (e' := .bf16) x3 r0_3 = x3 := View.ld_unit_zero (Val := Elt Ideal) (S := S1024x256) (e := .bf16) z2 _ _
  have l1 : ∀ k : Fin 512, View.ld (Val := Elt Ideal) (S := S1x1024x1024) (e' := .bf16) x4 r0_2 (ix3 0 k d) = x4 (ix3 0 ⟨k.val, by omega⟩ d) := fun k =>
    congrArg x4 (ix3_of _ _ _ _ rfl (by show 0 + 1 * k.val = k.val; omega) (by show 0 + 1 * d.val = d.val; omega))
  have l2 : ∀ k : Fin 256, View.ld (Val := Elt Ideal) (S := S1x1024x1024) (e' := .bf16) x4 r0_4 (ix3 0 k d) = x4 (ix3 0 ⟨512 + k.val, by omega⟩ d) := fun k =>
    congrArg x4 (ix3_of _ _ _ _ rfl (by show 512 + 1 * k.val = 512 + k.val; omega) (by show 0 + 1 * d.val = d.val; omega))
  have l3 : ∀ k : Fin 256, View.ld (Val := Elt Ideal) (S := S1x1024x1024) (e' := .bf16) x4 r0_5 (ix3 0 k d) = x4 (ix3 0 ⟨768 + k.val, by omega⟩ d) := fun k =>
    congrArg x4 (ix3_of _ _ _ _ rfl (by show 768 + 1 * k.val = 768 + k.val; omega) (by show 0 + 1 * d.val = d.val; omega))
  rw [out0_5, View.canon_unit_zero z2, e0, e1, e2, e3, pay_at]
  simp only [l1, l2, l3]

/-! ### The windows -/

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![0, 0, 0] := by decide +kernel
theorem index_5 : ∀ t : Fin cfg0.N, win0_5.index t = ![t.val, 0] := by decide +kernel

variable (m : (ℓ : Loc nD τ sig) → Buf (Elt Ideal) ℓ) (c : Dev nD)

/-- The row of the array that row `r` of point `t`'s block is. -/
def row (t : Fin cfg0.N) (r : Fin 1024) : Fin 4096 :=
  ⟨1024 * t.val + r.val, by have : t.val < 4 := t.isLt; omega⟩

theorem blk0 (t : Fin cfg0.N) (r : Fin 1024) (d : Fin 1024) : iblk m c 0 t (ix2 r d) = V m c main_arg0 (ix2 (row t r) d) := by
  have e0 : ((win0_0.blk t).view.emb (ix2 r d) 0 : Fin _).val = win0_0.index t 0 * 1024 + r.val := by blk_simp
  have e1 : ((win0_0.blk t).view.emb (ix2 r d) 1 : Fin _).val = win0_0.index t 1 * 1024 + d.val := by blk_simp
  rw [index_0] at e0 e1
  blk_simp [iblk]
  exact congrArg _ (ix2_of _ (row t r) d (e0.trans (by show t.val * 1024 + r.val = 1024 * t.val + r.val; omega)) (e1.trans (by show 0 * 1024 + d.val = d.val; omega)))

theorem blk1 (t : Fin cfg0.N) (r : Fin 1024) (d : Fin 512) : iblk m c 1 t (ix2 r d) = V m c main_v0 (ix2 (row t r) d) := by
  have e0 : ((win0_1.blk t).view.emb (ix2 r d) 0 : Fin _).val = win0_1.index t 0 * 1024 + r.val := by blk_simp
  have e1 : ((win0_1.blk t).view.emb (ix2 r d) 1 : Fin _).val = win0_1.index t 1 * 512 + d.val := by blk_simp
  rw [index_1] at e0 e1
  blk_simp [iblk]
  exact congrArg _ (ix2_of _ (row t r) d (e0.trans (by show t.val * 1024 + r.val = 1024 * t.val + r.val; omega)) (e1.trans (by show 0 * 512 + d.val = d.val; omega)))

theorem blk2 (t : Fin cfg0.N) (r : Fin 1024) (d : Fin 256) : iblk m c 2 t (ix2 r d) = V m c main_v1 (ix2 (row t r) d) := by
  have e0 : ((win0_2.blk t).view.emb (ix2 r d) 0 : Fin _).val = win0_2.index t 0 * 1024 + r.val := by blk_simp
  have e1 : ((win0_2.blk t).view.emb (ix2 r d) 1 : Fin _).val = win0_2.index t 1 * 256 + d.val := by blk_simp
  rw [index_2] at e0 e1
  blk_simp [iblk]
  exact congrArg _ (ix2_of _ (row t r) d (e0.trans (by show t.val * 1024 + r.val = 1024 * t.val + r.val; omega)) (e1.trans (by show 0 * 256 + d.val = d.val; omega)))

theorem blk3 (t : Fin cfg0.N) (r : Fin 1024) (d : Fin 256) : iblk m c 3 t (ix2 r d) = V m c main_v2 (ix2 (row t r) d) := by
  have e0 : ((win0_3.blk t).view.emb (ix2 r d) 0 : Fin _).val = win0_3.index t 0 * 1024 + r.val := by blk_simp
  have e1 : ((win0_3.blk t).view.emb (ix2 r d) 1 : Fin _).val = win0_3.index t 1 * 256 + d.val := by blk_simp
  rw [index_3] at e0 e1
  blk_simp [iblk]
  exact congrArg _ (ix2_of _ (row t r) d (e0.trans (by show t.val * 1024 + r.val = 1024 * t.val + r.val; omega)) (e1.trans (by show 0 * 256 + d.val = d.val; omega)))

theorem blk4 (t : Fin cfg0.N) (k d : Fin 1024) : iblk m c 4 t (ix3 0 k d) = V m c main_v3 (ix3 0 k d) := by
  have e0 : ((win0_4.blk t).view.emb (ix3 0 k d) 0 : Fin _).val = win0_4.index t 0 := by blk_simp; simp
  have e1 : ((win0_4.blk t).view.emb (ix3 0 k d) 1 : Fin _).val = win0_4.index t 1 * 1024 + k.val := by blk_simp
  have e2 : ((win0_4.blk t).view.emb (ix3 0 k d) 2 : Fin _).val = win0_4.index t 2 * 1024 + d.val := by blk_simp
  rw [index_4] at e0 e1 e2
  blk_simp [iblk]
  exact congrArg _ (ix3_of _ 0 k d (e0.trans rfl) (e1.trans (by show 0 * 1024 + k.val = k.val; omega)) (e2.trans (by show 0 * 1024 + d.val = d.val; omega)))

theorem V_v0 : V m c main_v0 = (m (c, Proc.devRef .tc main_arg1) : S4096x512.Idx → EReal) := by
  rw [V]; after_results_simp; rfl
theorem V_v1 : V m c main_v1 = (m (c, Proc.devRef .tc main_arg2) : S4096x256.Idx → EReal) := by
  rw [V]; after_results_simp; rfl
theorem V_v2 : V m c main_v2 = (m (c, Proc.devRef .tc main_arg3) : S4096x256.Idx → EReal) := by
  rw [V]; after_results_simp; rfl
theorem V_v3 : V m c main_v3 = (m (c, Proc.devRef .tc main_arg4) : S4x1024x1024.Idx → EReal) := by
  rw [V]; after_results_simp; rfl

/-- The whole result array. -/
theorem result (r : Fin 4096) (d : Fin 1024) : (dats m 0 c).arrAt 5 cfg0.N (ix2 r d)
    = entry (m (c, Proc.devRef .tc main_arg0)) (m (c, Proc.devRef .tc main_arg1)) (m (c, Proc.devRef .tc main_arg2))
        (m (c, Proc.devRef .tc main_arg3)) (m (c, Proc.devRef .tc main_arg4)) r d := by
  refine (dats m 0 c).arrAt_forall_of_covers 5 (fun i a => a = entry (m (c, Proc.devRef .tc main_arg0)) (m (c, Proc.devRef .tc main_arg1))
        (m (c, Proc.devRef .tc main_arg2)) (m (c, Proc.devRef .tc main_arg3)) (m (c, Proc.devRef .tc main_arg4)) (i 0) (i 1))
    (by decide +kernel) (fun t hf y => ?_) (ix2 r d)
  have y0 : (y 0).val < 1024 := (y 0).isLt
  have y1 : (y 1).val < 1024 := (y 1).isLt
  have e0 : ((win0_5.blk t).view.emb y 0 : Fin _).val = win0_5.index t 0 * 1024 + (y 0).val := by blk_simp
  have e1 : ((win0_5.blk t).view.emb y 1 : Fin _).val = win0_5.index t 1 * 1024 + (y 1).val := by blk_simp
  rw [index_5] at e0 e1
  have f0 : (win0_5.blk t).view.emb y 0 = row t ⟨(y 0).val, y0⟩ :=
    Fin.ext (e0.trans (by show t.val * 1024 + (y 0).val = 1024 * t.val + (y 0).val; omega))
  have f1 : (win0_5.blk t).view.emb y 1 = (⟨(y 1).val, y1⟩ : Fin 1024) := Fin.ext (e1.trans (by show 0 * 1024 + (y 1).val = (y 1).val; omega))
  have h := out_at (iblk m c 0 t) (iblk m c 1 t) (iblk m c 2 t) (iblk m c 3 t) (iblk m c 4 t) ⟨(y 0).val, y0⟩ ⟨(y 1).val, y1⟩
  simp only [blk0, blk1, blk2, blk3, blk4] at h
  have hy : y = ix2 (⟨(y 0).val, y0⟩ : Fin 1024) (⟨(y 1).val, y1⟩ : Fin 1024) := ix2_of _ _ _ rfl rfl
  blk_simp
  rw [after0_5]
  refine (congrArg (out0_5 (F := Ideal) (iblk m c 0 t) (iblk m c 1 t) (iblk m c 2 t) (iblk m c 3 t) (iblk m c 4 t)) hy).trans (h.trans ?_)
  rw [f0, f1, V_v0, V_v1, V_v2, V_v3, V_main_arg0]
  rfl

end Cert.Proof.Out

end
-- ==== Proof.Dx.Kernel.lean ====
/-
  The input projection's backward kernel over the extended reals, entry by entry.
-/
module

public import proofs.«01_k».proof.Proof.Gen.Kernel2Ideal.Value
public import proofs.«01_k».proof.Proof.Out.Kernel
public import Idealize.ShloMosaic.Lib.Pipeline.ValueKit
public import Idealize.ShloMosaic.Lib.Pointwise

@[expose] public section

set_option maxRecDepth 8192

noncomputable section

namespace Cert.Proof.Dx

open Cert.Kernel2Ideal Cert.Kernel2Ideal.Gen
open Idealize.ShloMosaic Idealize.ShloMosaic.TcCoe Idealize.SL.Sem
open Cert.Proof.Out (ix2_of ix3_of)

/-- The gradient of the normalised rows: one entry of the product with the weights. -/
def dh {b n : ℕ} [NeZero n] (p : Shape.Idx ⟨2, ![b, 3712]⟩ → EReal) (w : Shape.Idx ⟨3, ![n, 3712, 1024]⟩ → EReal) (r : Fin b) (d : Fin 1024) : EReal :=
  ∑ k : Fin 3712, p (ix2 r k) * w (ix3 0 k d)

/-- The mean square of a row, with the small constant added. -/
def sq {b : ℕ} (x : Shape.Idx ⟨2, ![b, 1024]⟩ → EReal) (r : Fin b) : EReal :=
  Ideal.div (∑ d : Fin 1024, x (ix2 r d) * x (ix2 r d)) (Ideal.ofBits FTy.f32 1149239296#32) + Ideal.ofBits FTy.f32 897988541#32

/-- The normalised entry. -/
def xh {b : ℕ} (x : Shape.Idx ⟨2, ![b, 1024]⟩ → EReal) (r : Fin b) (d : Fin 1024) : EReal := x (ix2 r d) * Ideal.rsqrt (sq x r)

/-- One entry of the gradient of the rows, as the kernel computes it. -/
def dxE {b n : ℕ} [NeZero n] (p : Shape.Idx ⟨2, ![b, 3712]⟩ → EReal) (w : Shape.Idx ⟨3, ![n, 3712, 1024]⟩ → EReal)
    (x : Shape.Idx ⟨2, ![b, 1024]⟩ → EReal) (g : Shape.Idx ⟨2, ![1, 1024]⟩ → EReal) (y : Shape.Idx ⟨2, ![b, 1024]⟩ → EReal)
    (r : Fin b) (d : Fin 1024) : EReal :=
  Ideal.rsqrt (sq x r) * (dh p w r d * g (ix2 0 d) - xh x r d
    * Ideal.div (∑ j : Fin 1024, dh p w r j * g (ix2 0 j) * xh x r j) (Ideal.ofBits FTy.f32 1149239296#32)) + y (ix2 r d)

theorem pay3_at (p : FVec Ideal S512x3712 .bf16) (w : FVec Ideal S1x3712x1024 .bf16) (r : Fin 512) (d : Fin 1024) :
    k0_pay3 (F := Ideal) p w (ix2 r d) = dh p w r d := by
  unfold dh
  pointwise [k0_pay3]

theorem pay4_at (x : FVec Ideal S512x1024 .f32) (r : Fin 512) :
    k0_pay4 (F := Ideal) x (ix2 r 0) = Ideal.rsqrt (sq x r) := by
  unfold sq
  pointwise [k0_pay4]

theorem pay5_at (x : FVec Ideal S512x1024 .f32) (r : Fin 512) (d : Fin 1024) :
    k0_pay5 (F := Ideal) x (ix2 r d) = xh x r d := by
  rw [xh, ← pay4_at]
  pointwise [k0_pay5]

theorem pay6_at (p : FVec Ideal S512x3712 .bf16) (w : FVec Ideal S1x3712x1024 .bf16) (x : FVec Ideal S512x1024 .f32)
    (a : FVec Ideal S1x1024 .f32) (d : Fin 1024) :
    k0_pay6 (F := Ideal) p w x a (ix2 0 d) = a (ix2 0 d) + ∑ r : Fin 512, dh p w r d * xh x r d := by
  simp only [← pay3_at, ← pay5_at]
  pointwise [k0_pay6]

theorem pay2_at (d : Fin 1024) : k0_pay2 (F := Ideal) (ix2 0 d) = (0 : EReal) := by
  pointwise [k0_pay2]

theorem pay7_at (p : FVec Ideal S512x3712 .bf16) (w : FVec Ideal S1x3712x1024 .bf16) (g : FVec Ideal S1x1024 .f32) (r : Fin 512) (d : Fin 1024) :
    k0_pay7 (F := Ideal) p w g (ix2 r d) = dh p w r d * g (ix2 0 d) := by
  rw [← pay3_at]
  pointwise [k0_pay7]

theorem pay8_at (p : FVec Ideal S512x3712 .bf16) (w : FVec Ideal S1x3712x1024 .bf16) (x : FVec Ideal S512x1024 .f32) (g : FVec Ideal S1x1024 .f32)
    (r : Fin 512) (d : Fin 1024) : k0_pay8 (F := Ideal) p w x g (ix2 r d)
      = Ideal.div (∑ j : Fin 1024, dh p w r j * g (ix2 0 j) * xh x r j) (Ideal.ofBits FTy.f32 1149239296#32) := by
  simp only [← pay7_at, ← pay5_at]
  pointwise [k0_pay8]

theorem pay1_at (q : FVec Ideal S512x1 .f32) (a b c e : FVec Ideal S512x1024 .f32) (r : Fin 512) (d : Fin 1024) :
    k0_pay1 (F := Ideal) q a b c e (ix2 r d) = q (ix2 r 0) * (b (ix2 r d) - a (ix2 r d) * c (ix2 r d)) + e (ix2 r d) := by
  pointwise [k0_pay1]

variable (m : (ℓ : Loc nD τ sig) → Buf (Elt Ideal) ℓ) (c : Dev nD)

/-- What every point leaves in its block of the rows' gradient. -/
theorem dx_at (t : Fin cfg0.N) (r : Fin 512) (d : Fin 1024) : (outsAt0 m c t.val t.isLt).1 (ix2 r d)
    = dxE (b := 512) (n := 1) (iblk m c 0 t) (iblk m c 1 t) (iblk m c 2 t) (iblk m c 3 t) (iblk m c 4 t) r d := by
  by_cases h : t.val % 8 = 0
  · rw [outsAt0_A m c t h]; frame_out
    rw [pay1_at, pay4_at, pay5_at, pay7_at, pay8_at]; rfl
  · rw [outsAt0_B m c t h]; frame_out
    rw [pay1_at, pay4_at, pay5_at, pay7_at, pay8_at]; rfl

/-- What the last point leaves in the scale's gradient: the sum over all points. -/
theorem dg_at (t : Fin cfg0.N) (ht : t.val + 1 = cfg0.N) (d : Fin 1024) : (outsAt0 m c t.val t.isLt).2 (ix2 0 d)
    = ∑ p : Fin cfg0.N, ∑ r : Fin 512, dh (b := 512) (n := 1) (iblk m c 0 p) (iblk m c 1 p) r d * xh (b := 512) (iblk m c 2 p) r d := by
  have h := Pipeline.eq_sum_fin_of_reset_step_apply_last (ι := Fin 1024) (M := EReal)
    (fun n h d => (outsAt0 m c n h).2 (ix2 0 d)) 8 (fun _ => 0)
    (fun p d => ∑ r : Fin 512, dh (b := 512) (n := 1) (iblk m c 0 p) (iblk m c 1 p) r d * xh (b := 512) (iblk m c 2 p) r d)
    (fun t h d => by rw [outsAt0_A m c t h]; frame_out; rw [pay6_at, pay2_at])
    (fun t h d => by rw [outsAt0_B m c t h]; frame_out; rw [pay6_at])
    (le_of_eq N_0) t ht d
  exact h.trans (zero_add _)

/-! ### The windows -/

theorem index_0 : ∀ t : Fin cfg0.N, win0_0.index t = ![t.val, 0] := by decide +kernel
theorem index_1 : ∀ t : Fin cfg0.N, win0_1.index t = ![0, 0, 0] := by decide +kernel
theorem index_2 : ∀ t : Fin cfg0.N, win0_2.index t = ![t.val, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel
theorem index_6 : ∀ t : Fin cfg0.N, win0_6.index t = ![0, 0] := by decide +kernel

/-- The row of the array that row `r` of point `t`'s block is. -/
def row (t : Fin cfg0.N) (r : Fin 512) : Fin 4096 :=
  ⟨512 * t.val + r.val, by have : t.val < 8 := t.isLt; omega⟩

theorem blk0 (t : Fin cfg0.N) (r : Fin 512) (d : Fin 3712) : iblk m c 0 t (ix2 r d) = V m c main_v0 (ix2 (row t r) d) := by
  have e0 : ((win0_0.blk t).view.emb (ix2 r d) 0 : Fin _).val = win0_0.index t 0 * 512 + r.val := by blk_simp
  have e1 : ((win0_0.blk t).view.emb (ix2 r d) 1 : Fin _).val = win0_0.index t 1 * 3712 + d.val := by blk_simp
  rw [index_0] at e0 e1
  blk_simp [iblk]
  exact congrArg _ (ix2_of _ (row t r) d (e0.trans (by show t.val * 512 + r.val = 512 * t.val + r.val; omega)) (e1.trans (by show 0 * 3712 + d.val = d.val; omega)))

theorem blk1 (t : Fin cfg0.N) (k : Fin 3712) (d : Fin 1024) : iblk m c 1 t (ix3 0 k d) = V m c main_v1 (ix3 0 k d) := by
  have e0 : ((win0_1.blk t).view.emb (ix3 0 k d) 0 : Fin _).val = win0_1.index t 0 := by blk_simp; simp
  have e1 : ((win0_1.blk t).view.emb (ix3 0 k d) 1 : Fin _).val = win0_1.index t 1 * 3712 + k.val := by blk_simp
  have e2 : ((win0_1.blk t).view.emb (ix3 0 k d) 2 : Fin _).val = win0_1.index t 2 * 1024 + d.val := by blk_simp
  rw [index_1] at e0 e1 e2
  blk_simp [iblk]
  exact congrArg _ (ix3_of _ 0 k d (e0.trans rfl) (e1.trans (by show 0 * 3712 + k.val = k.val; omega)) (e2.trans (by show 0 * 1024 + d.val = d.val; omega)))

theorem blk2 (t : Fin cfg0.N) (r : Fin 512) (d : Fin 1024) : iblk m c 2 t (ix2 r d) = V m c main_arg2 (ix2 (row t r) d) := by
  have e0 : ((win0_2.blk t).view.emb (ix2 r d) 0 : Fin _).val = win0_2.index t 0 * 512 + r.val := by blk_simp
  have e1 : ((win0_2.blk t).view.emb (ix2 r d) 1 : Fin _).val = win0_2.index t 1 * 1024 + d.val := by blk_simp
  rw [index_2] at e0 e1
  blk_simp [iblk]
  exact congrArg _ (ix2_of _ (row t r) d (e0.trans (by show t.val * 512 + r.val = 512 * t.val + r.val; omega)) (e1.trans (by show 0 * 1024 + d.val = d.val; omega)))

theorem blk3 (t : Fin cfg0.N) (d : Fin 1024) : iblk m c 3 t (ix2 0 d) = V m c main_arg3 (ix2 0 d) := by
  have e0 : ((win0_3.blk t).view.emb (ix2 0 d) 0 : Fin _).val = win0_3.index t 0 := by blk_simp; simp
  have e1 : ((win0_3.blk t).view.emb (ix2 0 d) 1 : Fin _).val = win0_3.index t 1 * 1024 + d.val := by blk_simp
  rw [index_3] at e0 e1
  blk_simp [iblk]
  exact congrArg _ (ix2_of _ 0 d (e0.trans rfl) (e1.trans (by show 0 * 1024 + d.val = d.val; omega)))

theorem blk4 (t : Fin cfg0.N) (r : Fin 512) (d : Fin 1024) : iblk m c 4 t (ix2 r d) = V m c main_arg4 (ix2 (row t r) d) := by
  have e0 : ((win0_4.blk t).view.emb (ix2 r d) 0 : Fin _).val = win0_4.index t 0 * 512 + r.val := by blk_simp
  have e1 : ((win0_4.blk t).view.emb (ix2 r d) 1 : Fin _).val = win0_4.index t 1 * 1024 + d.val := by blk_simp
  rw [index_4] at e0 e1
  blk_simp [iblk]
  exact congrArg _ (ix2_of _ (row t r) d (e0.trans (by show t.val * 512 + r.val = 512 * t.val + r.val; omega)) (e1.trans (by show 0 * 1024 + d.val = d.val; omega)))

theorem V_v0 : V m c main_v0 = (m (c, Proc.devRef .tc main_arg0) : S4096x3712.Idx → EReal) := by
  rw [V]; after_results_simp; rfl
theorem V_v1 : V m c main_v1 = (m (c, Proc.devRef .tc main_arg1) : S4x3712x1024.Idx → EReal) := by
  rw [V]; after_results_simp; rfl

theorem dh_blk (t : Fin cfg0.N) (r : Fin 512) (d : Fin 1024) : dh (b := 512) (n := 1) (iblk m c 0 t) (iblk m c 1 t) r d
    = dh (b := 4096) (n := 4) (m (c, Proc.devRef .tc main_arg0)) (m (c, Proc.devRef .tc main_arg1)) (row t r) d := by
  simp only [dh, blk0, blk1]
  rw [V_v0, V_v1]

theorem sq_blk (t : Fin cfg0.N) (r : Fin 512) : sq (b := 512) (iblk m c 2 t) r
    = sq (b := 4096) (m (c, Proc.devRef .tc main_arg2)) (row t r) := by
  simp only [sq, blk2]
  rw [V_main_arg2]

theorem xh_blk (t : Fin cfg0.N) (r : Fin 512) (d : Fin 1024) : xh (b := 512) (iblk m c 2 t) r d
    = xh (b := 4096) (m (c, Proc.devRef .tc main_arg2)) (row t r) d := by
  simp only [xh, sq_blk, blk2]
  rw [V_main_arg2]

/-- The rows' gradient, whole. -/
theorem result_x (r : Fin 4096) (d : Fin 1024) : (dats m 0 c).arrAt 5 cfg0.N (ix2 r d)
    = dxE (b := 4096) (n := 4) (m (c, Proc.devRef .tc main_arg0)) (m (c, Proc.devRef .tc main_arg1)) (m (c, Proc.devRef .tc main_arg2))
        (m (c, Proc.devRef .tc main_arg3)) (m (c, Proc.devRef .tc main_arg4)) r d := by
  refine (dats m 0 c).arrAt_forall_of_covers 5 (fun i a => a = dxE (b := 4096) (n := 4) (m (c, Proc.devRef .tc main_arg0)) (m (c, Proc.devRef .tc main_arg1))
        (m (c, Proc.devRef .tc main_arg2)) (m (c, Proc.devRef .tc main_arg3)) (m (c, Proc.devRef .tc main_arg4)) (i 0) (i 1))
    (by decide +kernel) (fun t hf y => ?_) (ix2 r d)
  have y0 : (y 0).val < 512 := (y 0).isLt
  have y1 : (y 1).val < 1024 := (y 1).isLt
  have e0 : ((win0_5.blk t).view.emb y 0 : Fin _).val = win0_5.index t 0 * 512 + (y 0).val := by blk_simp
  have e1 : ((win0_5.blk t).view.emb y 1 : Fin _).val = win0_5.index t 1 * 1024 + (y 1).val := by blk_simp
  rw [index_5] at e0 e1
  have f0 : (win0_5.blk t).view.emb y 0 = row t ⟨(y 0).val, y0⟩ :=
    Fin.ext (e0.trans (by show t.val * 512 + (y 0).val = 512 * t.val + (y 0).val; omega))
  have f1 : (win0_5.blk t).view.emb y 1 = (⟨(y 1).val, y1⟩ : Fin 1024) := Fin.ext (e1.trans (by show 0 * 1024 + (y 1).val = (y 1).val; omega))
  have h := dx_at m c t ⟨(y 0).val, y0⟩ ⟨(y 1).val, y1⟩
  simp only [dxE, dh_blk, sq_blk, xh_blk, blk3, blk4] at h
  have hy : y = ix2 (⟨(y 0).val, y0⟩ : Fin 512) (⟨(y 1).val, y1⟩ : Fin 1024) := ix2_of _ _ _ rfl rfl
  blk_simp
  rw [after0_5]
  refine (congrArg (outsAt0 m c t.val t.isLt).1 hy).trans (h.trans ?_)
  rw [f0, f1, V_main_arg3, V_main_arg4]
  rfl

/-- The scale's gradient, whole. -/
theorem result_g (d : Fin 1024) : (dats m 0 c).arrAt 6 cfg0.N (ix2 0 d)
    = ∑ r : Fin 4096, dh (b := 4096) (n := 4) (m (c, Proc.devRef .tc main_arg0)) (m (c, Proc.devRef .tc main_arg1)) r d
        * xh (b := 4096) (m (c, Proc.devRef .tc main_arg2)) r d := by
  refine (dats m 0 c).arrAt_forall_of_covers 6 (fun i a => a = ∑ r : Fin 4096, dh (b := 4096) (n := 4) (m (c, Proc.devRef .tc main_arg0)) (m (c, Proc.devRef .tc main_arg1)) r (i 1)
        * xh (b := 4096) (m (c, Proc.devRef .tc main_arg2)) r (i 1))
    (by decide +kernel) (fun t hf y => ?_) (ix2 0 d)
  have ht : t.val + 1 = cfg0.N := by
    have := (flush0_6 t).mp hf; have h : t.val < 8 := t.isLt; show t.val + 1 = 8; omega
  have y0 : (y 0).val < 1 := (y 0).isLt
  have y1 : (y 1).val < 1024 := (y 1).isLt
  have e1 : ((win0_6.blk t).view.emb y 1 : Fin _).val = win0_6.index t 1 * 1024 + (y 1).val := by blk_simp
  rw [index_6] at e1
  have f1 : (win0_6.blk t).view.emb y 1 = (⟨(y 1).val, y1⟩ : Fin 1024) := Fin.ext (e1.trans (by show 0 * 1024 + (y 1).val = (y 1).val; omega))
  have h := dg_at m c t ht ⟨(y 1).val, y1⟩
  have hy : y = ix2 (0 : Fin 1) (⟨(y 1).val, y1⟩ : Fin 1024) := ix2_of _ _ _ (by show (y 0).val = 0; omega) rfl
  blk_simp
  rw [after0_6]
  refine (congrArg (outsAt0 m c t.val t.isLt).2 hy).trans (h.trans ?_)
  rw [f1]
  refine Fin.sum_mul_add_congr (L := 4096) (S := 8) (n := 512) (fun p r hl => ?_) rfl
  have hr : row p r = ⟨p.val * 512 + r.val, hl⟩ := Fin.ext (by show 512 * p.val + r.val = p.val * 512 + r.val; omega)
  rw [← hr]
  exact congrArg₂ (· * ·) (dh_blk m c p r _) (xh_blk m c p r _)

end Cert.Proof.Dx

end
-- ==== Proof.Dx.Ref.lean ====
/-
  The reference's gradients over the extended reals, entry by entry.
-/
module

public import proofs.«01_k».proof.Proof.Gen.Reference2Ideal.Read
public import proofs.«01_k».proof.Proof.Dx.Kernel

@[expose] public section

set_option maxRecDepth 8192

noncomputable section

namespace Cert.Proof.Dx

open Cert.Reference2Ideal Cert.Reference2Ideal.Read
open Idealize.ShloMosaic Idealize.ShloMosaic.TcCoe Idealize.SL.Sem

variable (x0 : S4096x3712.Idx → EReal) (x1 : S4x3712x1024.Idx → EReal) (x2 : S4096x1024.Idx → EReal) (x3 : S1x1024.Idx → EReal)
  (x4 : S4096x1024.Idx → EReal)

theorem v6 (r : Fin 4096) : val_main_v6 (F := Ideal) x2 (ix2 r 0) = sq (b := 4096) x2 r := by
  unfold sq
  pointwise [val_main_v6, val_main_v5, val_main_v4, val_main_v3, val_main_v2, val_main_v1, val_main_v0, val_main_cst, val_main_cst_0, val_main_cst_1]

theorem v7 (r : Fin 4096) : val_main_v7 (F := Ideal) x2 (ix2 r 0) = Ideal.rsqrt (sq (b := 4096) x2 r) := by
  rw [← v6]
  pointwise [val_main_v7]

theorem v10 (r : Fin 4096) : val_main_v10 (F := Ideal) x2 (ix2 r 0)
    = Ideal.ofBits FTy.f32 3204448256#32 * Ideal.div (Ideal.rsqrt (sq (b := 4096) x2 r)) (sq (b := 4096) x2 r) := by
  rw [← v7, ← v6]
  pointwise [val_main_v10, val_main_v9, val_main_v8, val_main_cst_2]

theorem v12 (r : Fin 4096) (d : Fin 1024) : val_main_v12 (F := Ideal) x2 (ix2 r d) = xh (b := 4096) x2 r d := by
  rw [xh, ← v7]
  pointwise [val_main_v12, val_main_v11]

theorem v19 (r : Fin 4096) (d : Fin 1024) : val_main_v19 (F := Ideal) x0 x1 (ix2 r d) = dh (b := 4096) (n := 4) x0 x1 r d := by
  unfold dh
  pointwise [val_main_v19, val_main_v17, val_main_v16, val_main_v15]

theorem v22 (d : Fin 1024) : val_main_v22 (F := Ideal) x0 x1 x2 (ix2 0 d)
    = ∑ r : Fin 4096, xh (b := 4096) x2 r d * dh (b := 4096) (n := 4) x0 x1 r d := by
  simp only [← v12, ← v19]
  pointwise [val_main_v22, val_main_v21, val_main_v20, val_main_cst_3]

theorem v24 (r : Fin 4096) (d : Fin 1024) : val_main_v24 (F := Ideal) x0 x1 x3 (ix2 r d)
    = dh (b := 4096) (n := 4) x0 x1 r d * x3 (ix2 0 d) := by
  rw [← v19]
  pointwise [val_main_v24, val_main_v23]

/-- What the row's mean contributes to each of its entries, but for the factor `2 x`. -/
def back (r : Fin 4096) : EReal :=
  Ideal.div ((∑ j : Fin 1024, x2 (ix2 r j) * (dh (b := 4096) (n := 4) x0 x1 r j * x3 (ix2 0 j)))
    * (Ideal.ofBits FTy.f32 3204448256#32 * Ideal.div (Ideal.rsqrt (sq (b := 4096) x2 r)) (sq (b := 4096) x2 r)))
    (Ideal.ofBits FTy.f32 1149239296#32)

theorem v33 (r : Fin 4096) : val_main_v33 (F := Ideal) x0 x1 x2 x3 (ix2 r 0) = back x0 x1 x2 x3 r := by
  unfold back
  simp only [← v24, ← v10]
  pointwise [val_main_v33, val_main_v32, val_main_v31, val_main_v27, val_main_v26, val_main_v25, val_main_cst_4, val_main_cst_5]

theorem v35 (r : Fin 4096) (d : Fin 1024) : val_main_v35 (F := Ideal) x0 x1 x2 x3 (ix2 r d) = back x0 x1 x2 x3 r := by
  rw [← v33]
  pointwise [val_main_v35, val_main_v34, val_main_cst_6]
  exact Fin.sum_univ_one _

theorem v39 (r : Fin 4096) (d : Fin 1024) : val_main_v39 (F := Ideal) x0 x1 x2 x3 x4 (ix2 r d)
    = x4 (ix2 r d) + dh (b := 4096) (n := 4) x0 x1 r d * x3 (ix2 0 d) * Ideal.rsqrt (sq (b := 4096) x2 r)
      + x2 (ix2 r d) * back x0 x1 x2 x3 r + back x0 x1 x2 x3 r * x2 (ix2 r d) := by
  rw [← v24, ← v7, ← v35 x0 x1 x2 x3 r d]
  pointwise [val_main_v39, val_main_v38, val_main_v37, val_main_v36, val_main_v30, val_main_v29, val_main_v28]

/-! ### Over the reals -/

theorem thousand : Ideal.ofBits FTy.f32 1149239296#32 = ((1024 : ℝ) : EReal) := by
  simp [Ideal.ofBits, Ideal.ieee, -EReal.coe_mul]
  norm_num

theorem half : Ideal.ofBits FTy.f32 3204448256#32 = ((-(1 / 2) : ℝ) : EReal) := by
  simp [Ideal.ofBits, Ideal.ieee, -EReal.coe_mul]
  norm_num

theorem small : ∃ e : ℝ, 0 < e ∧ Ideal.ofBits FTy.f32 897988541#32 = ((e : ℝ) : EReal) := by
  simp [Ideal.ofBits, Ideal.ieee, -EReal.coe_mul]

theorem sum_real {n : ℕ} {f : Fin n → EReal} {g : Fin n → ℝ} (h : ∀ k, f k = ((g k : ℝ) : EReal)) :
    ∑ k, f k = ((∑ k, g k : ℝ) : EReal) := by
  rw [Finset.sum_congr rfl fun k _ => h k]
  exact (map_sum (⟨⟨((↑) : ℝ → EReal), EReal.coe_zero⟩, EReal.coe_add⟩ : ℝ →+ EReal) g Finset.univ).symm

theorem div_real (a b : ℝ) (h : b ≠ 0) : Ideal.div ((a : ℝ) : EReal) ((b : ℝ) : EReal) = ((a / b : ℝ) : EReal) := by
  rw [Ideal.div_coe h, ← EReal.coe_mul, mul_one_div]

theorem div_thousand (a : EReal) : Ideal.div a ((1024 : ℝ) : EReal) = a * ((1 / 1024 : ℝ) : EReal) := Ideal.div_coe (by norm_num) a

/-- A positive real factor comes out of a sum, whatever the terms. -/
theorem sum_mul_real {n : ℕ} (f : Fin n → EReal) (q : ℝ) (hq : 0 ≤ q) : ∑ k, f k * ((q : ℝ) : EReal) = (∑ k, f k) * ((q : ℝ) : EReal) := by
  induction n with
  | zero => simp
  | succ n ih =>
    rw [Fin.sum_univ_castSucc, Fin.sum_univ_castSucc, ih,
      EReal.right_distrib_of_nonneg_of_ne_top (by exact_mod_cast hq) (EReal.coe_ne_top q)]

theorem halves (l : EReal) (a : ℝ) : l * ((a : ℝ) : EReal) + l * ((a : ℝ) : EReal) = l * ((2 * a : ℝ) : EReal) := by
  induction l with
  | bot =>
    rcases lt_trichotomy a 0 with h | h | h
    · rw [EReal.bot_mul_coe_of_neg h, EReal.bot_mul_coe_of_neg (by linarith)]; rfl
    · simp [h]
    · rw [EReal.bot_mul_coe_of_pos h, EReal.bot_mul_coe_of_pos (by linarith)]; rfl
  | top =>
    rcases lt_trichotomy a 0 with h | h | h
    · rw [EReal.top_mul_coe_of_neg h, EReal.top_mul_coe_of_neg (by linarith)]; rfl
    · simp [h]
    · rw [EReal.top_mul_coe_of_pos h, EReal.top_mul_coe_of_pos (by linarith)]; rfl
  | coe l =>
    rw [← EReal.coe_mul, ← EReal.coe_mul, ← EReal.coe_add]
    congr 1; ring

theorem square_nonneg (a : EReal) : 0 ≤ a * a := by
  induction a with
  | bot => simp
  | top => simp
  | coe a => rw [← EReal.coe_mul]; exact_mod_cast mul_self_nonneg a

/-- A row's mean square is a positive real number where the row is finite, and infinite elsewhere. -/
theorem sq_cases (r : Fin 4096) : (∃ X : Fin 1024 → ℝ, (∀ j, x2 (ix2 r j) = ((X j : ℝ) : EReal)) ∧ ∃ s : ℝ, 0 < s ∧ sq (b := 4096) x2 r = ((s : ℝ) : EReal))
    ∨ sq (b := 4096) x2 r = ⊤ := by
  obtain ⟨e, e0, he⟩ := small
  by_cases h : ∀ j : Fin 1024, x2 (ix2 r j) ≠ ⊤ ∧ x2 (ix2 r j) ≠ ⊥
  · have hX : ∀ j : Fin 1024, x2 (ix2 r j) = (((x2 (ix2 r j)).toReal : ℝ) : EReal) := fun j => (EReal.coe_toReal (h j).1 (h j).2).symm
    refine Or.inl ⟨fun j => (x2 (ix2 r j)).toReal, hX, (∑ j : Fin 1024, (x2 (ix2 r j)).toReal * (x2 (ix2 r j)).toReal) / 1024 + e, ?_, ?_⟩
    · have : 0 ≤ ∑ j : Fin 1024, (x2 (ix2 r j)).toReal * (x2 (ix2 r j)).toReal := Finset.sum_nonneg fun j _ => mul_self_nonneg _
      positivity
    · rw [sq, sum_real (g := fun j => (x2 (ix2 r j)).toReal * (x2 (ix2 r j)).toReal) (fun j => by rw [EReal.coe_mul, ← hX]), thousand, he,
        div_real _ _ (by norm_num), EReal.coe_add]
  · right
    push Not at h
    obtain ⟨j, hj⟩ := h
    have hs : x2 (ix2 r j) * x2 (ix2 r j) = ⊤ := by
      by_cases ht : x2 (ix2 r j) = ⊤
      · rw [ht]; simp
      · rw [hj ht]; simp
    have h0 : 0 ≤ ∑ k ∈ Finset.univ.erase j, x2 (ix2 r k) * x2 (ix2 r k) := Finset.sum_nonneg fun k _ => square_nonneg _
    have hsum : ∑ d : Fin 1024, x2 (ix2 r d) * x2 (ix2 r d) = ⊤ := by
      rw [← Finset.add_sum_erase Finset.univ _ (Finset.mem_univ j), hs]
      exact EReal.top_add_of_ne_bot (fun hb => by rw [hb] at h0; exact absurd h0 (by simp))
    rw [sq, hsum, thousand, he, div_thousand, EReal.top_mul_coe_of_pos (by norm_num), EReal.top_add_coe]

/-- The two forms of the rows' gradient agree, at every value. -/
theorem agree (r : Fin 4096) (d : Fin 1024) :
    val_main_v39 (F := Ideal) x0 x1 x2 x3 x4 (ix2 r d) = dxE (b := 4096) (n := 4) x0 x1 x2 x3 x4 r d := by
  rw [v39, dxE, back]
  rcases sq_cases x2 r with ⟨X, hX, s, s0, hs⟩ | hs
  · obtain ⟨q, q0, hq, hr⟩ : ∃ q : ℝ, 0 < q ∧ q / s = q * q * q ∧ Ideal.rsqrt ((s : ℝ) : EReal) = ((q : ℝ) : EReal) := by
      refine ⟨(Real.sqrt s)⁻¹, inv_pos.mpr (Real.sqrt_pos.mpr s0), ?_, ?_⟩
      · have h := Real.mul_self_sqrt s0.le
        have h2 : (Real.sqrt s)⁻¹ * (Real.sqrt s)⁻¹ * s = 1 := by
          rw [← mul_inv, h, inv_mul_cancel₀ s0.ne']
        rw [div_eq_iff s0.ne', mul_assoc, mul_assoc, ← mul_assoc _ _ s, h2, mul_one]
      · rw [Ideal.rsqrt_coe, if_neg (not_lt.mpr s0.le), if_neg s0.ne']
    have hK : (∑ j : Fin 1024, dh (b := 4096) (n := 4) x0 x1 r j * x3 (ix2 0 j) * xh (b := 4096) x2 r j)
        = (∑ j : Fin 1024, x2 (ix2 r j) * (dh (b := 4096) (n := 4) x0 x1 r j * x3 (ix2 0 j))) * ((q : ℝ) : EReal) := by
      rw [← sum_mul_real _ _ q0.le]
      refine Finset.sum_congr rfl fun j _ => ?_
      rw [xh, hs, hr, ← mul_assoc, mul_comm (x2 (ix2 r j))]
    rw [hK, xh, hs, hr, thousand, half, hX, div_real _ _ s0.ne', hq, div_thousand, div_thousand]
    generalize (∑ j : Fin 1024, x2 (ix2 r j) * (dh (b := 4096) (n := 4) x0 x1 r j * x3 (ix2 0 j))) = l
    generalize dh (b := 4096) (n := 4) x0 x1 r d * x3 (ix2 0 d) = a
    have e1 : ((X d : ℝ) : EReal) * (l * (((-(1 / 2) : ℝ) : EReal) * ((q * q * q : ℝ) : EReal)) * ((1 / 1024 : ℝ) : EReal))
        = l * ((X d * (-(1 / 2) * (q * q * q)) * (1 / 1024) : ℝ) : EReal) := by
      simp only [EReal.coe_mul]
      ac_rfl
    have e2 : ((q : ℝ) : EReal) * (((X d : ℝ) : EReal) * ((q : ℝ) : EReal) * (l * ((q : ℝ) : EReal) * ((1 / 1024 : ℝ) : EReal)))
        = l * ((q * X d * q * q * (1 / 1024) : ℝ) : EReal) := by
      simp only [EReal.coe_mul]
      ac_rfl
    rw [mul_comm (l * _ * _) ((X d : ℝ) : EReal), e1, add_assoc _ (l * _) (l * _), halves, sub_eq_add_neg,
      EReal.left_distrib_of_nonneg_of_ne_top (by exact_mod_cast q0.le) (EReal.coe_ne_top q), mul_neg, e2, ← mul_neg, ← EReal.coe_neg,
      add_comm _ (x4 (ix2 r d)), ← add_assoc, mul_comm a]
    congr 3
    ring
  · have hd : Ideal.div 0 ⊤ = 0 := by simp [Ideal.div]
    rw [hs, Ideal.rsqrt_top, hd, mul_zero, mul_zero, mul_zero, zero_mul, thousand, div_thousand, zero_mul, mul_zero, zero_mul, add_zero, add_zero, add_zero, zero_add]

end Cert.Proof.Dx

end
-- ==== Proof.Dx.Claim.lean ====
/-
  The backward kernel of the input projection: its frames, and the value claim.
-/
module

public import proofs.«01_k».proof.Defs
public import proofs.«01_k».proof.Proof.Dx.Ref
public import proofs.«01_k».proof.Proof.Gen.Kernel2.Frame
public import proofs.«01_k».proof.Proof.Gen.Reference2Ideal.Run

@[expose] public section

noncomputable section

namespace Cert.Proof.Dx

open Idealize.ShloMosaic Idealize.ShloMosaic.TcCoe Idealize.SL.Sem

theorem frame_kernel : Cert.quiescent_Kernel2 := fun m ρ _ => Cert.Kernel2.Gen.frame m ρ

theorem frame_ideal : Cert.quiescent_Kernel2Ideal := fun m ρ _ => Cert.Kernel2Ideal.Gen.frame m ρ

/-- The reference's run, its arguments as launched; it declares no semaphore. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

theorem preserves : Cert.preserves_Kernel2_Kernel2Ideal := trivial

theorem algebraic : Cert.algebraic_Kernel2Ideal_Reference2Ideal := by
  intro m g m' g' _ hin
  refine ⟨fun c => (Cert.Kernel2Ideal.Gen.dats m 0 c).arrAt 5 Cert.Kernel2Ideal.cfg0.N,
    fun c => (Cert.Kernel2Ideal.Gen.dats m 0 c).arrAt 6 Cert.Kernel2Ideal.cfg0.N, Cert.Kernel2Ideal.Value.run_blocks m g, ?_⟩
  refine (θ_run _ _ _).mono (fun r h c => ?_) (Cert.Reference2Ideal.Value.run (F := Ideal) m' g')
  obtain ⟨e, e', k⟩ := h c
  obtain ⟨i0, i1, i2, i3, i4⟩ := hin c
  refine ⟨e.trans ((Cert.Reference2Ideal.Read.val_main_v39_eq _ _).trans (funext fun i => ?_)),
    e'.trans ((Cert.Reference2Ideal.Read.val_main_v22_eq _ _ _).trans (funext fun i => ?_)), k⟩
  · rw [eq_ix2 i]
    refine (agree _ _ _ _ _ _ _).trans (Eq.trans ?_ (result_x m c _ _).symm)
    rw [i0, i1, i2, i3, i4]
  · have hi : i = ix2 0 (i 1) := Out.ix2_of i 0 (i 1) (by have h : (i 0).val < 1 := (i 0).isLt; show (i 0).val = 0; omega) rfl
    rw [hi]
    refine (v22 _ _ _ _).trans (Eq.trans ?_ (result_g m c _).symm)
    refine Finset.sum_congr rfl fun k _ => ?_
    rw [i0, i1, i2, mul_comm]

end Cert.Proof.Dx

end
-- ==== Proof.Dw.Kernel.lean ====
/-
  The input projection's weight gradient over the extended reals: what each grid point adds, and the sums that the
  last point of each walk has.
-/
module

public import proofs.«01_k».proof.Proof.Dw.Run
public import proofs.«01_k».proof.Proof.Out.Kernel
public import proofs.«01_k».proof.Proof.Gen.Reference3Ideal.Read
public import Idealize.ShloMosaic.Lib.Pipeline.ValueKit
public import Idealize.ShloMosaic.Lib.Pointwise

@[expose] public section

set_option maxRecDepth 8192

noncomputable section

namespace Cert.Proof.Dw

open Cert.Kernel3Ideal Cert.Kernel3Ideal.Gen
open Idealize.ShloMosaic Idealize.ShloMosaic.TcCoe Idealize.SL.Sem
open Cert.Proof.Out (ix2_of ix3_of)

/-- One entry of the weights' gradient: a column of the projection's gradient against a column of the normed rows. -/
def prod {b k : ℕ} (h : Shape.Idx ⟨2, ![b, 1024]⟩ → EReal) (p : Shape.Idx ⟨2, ![b, k]⟩ → EReal) (n : Fin k) (d : Fin 1024) : EReal :=
  ∑ r : Fin b, p (ix2 r n) * h (ix2 r d)

/-! ### The body's values -/

theorem pay1_at (n : Fin 1792) (d : Fin 1024) : k0_pay1 (F := Ideal) (ix3 0 n d) = (0 : EReal) := by
  pointwise [k0_pay1]

theorem pay2_at (n : Fin 128) (d : Fin 1024) : k0_pay2 (F := Ideal) (ix3 0 n d) = (0 : EReal) := by
  pointwise [k0_pay2]

theorem pay4_at (h : FVec Ideal S1024x1024 .bf16) (a : FVec Ideal S1x1792x1024 .f32) (p : FVec Ideal S1024x1792 .bf16) (n : Fin 1792) (d : Fin 1024) :
    k0_pay4 (F := Ideal) h a p (ix3 0 n d) = a (ix3 0 n d) + prod (b := 1024) (k := 1792) h p n d := by
  unfold prod
  pointwise [k0_pay4, k0_pay3]

theorem pay5_at (h : FVec Ideal S1024x1024 .bf16) (a : FVec Ideal S1x128x1024 .f32) (p : FVec Ideal S1024x128 .bf16) (n : Fin 128) (d : Fin 1024) :
    k0_pay5 (F := Ideal) h a p (ix3 0 n d) = a (ix3 0 n d) + prod (b := 1024) (k := 128) h p n d := by
  unfold prod
  pointwise [k0_pay5, k0_pay3]

variable (m : (ℓ : Loc nD τ sig) → Buf (Elt Ideal) ℓ) (c : Dev nD)

/-- What point `t` adds to its half's buffer, -/
def p7 (t : Fin cfg0.N) (n : Fin 1792) (d : Fin 1024) : EReal := prod (b := 1024) (k := 1792) (iblk m c 0 t) (X0_1 m c t) n d

/-- and, in the first half's walk, to the last columns'. -/
def p8 (t : Fin cfg0.N) (n : Fin 128) (d : Fin 1024) : EReal := prod (b := 1024) (k := 128) (iblk m c 0 t) (iblk m c 2 t) n d

theorem acc7_at_first (t : Fin cfg0.N) (h : t.val % 4 = 0) (n : Fin 1792) (d : Fin 1024) :
    acc7 m c t.val t.isLt (ix3 0 n d) = p7 m c t n d := by
  rw [← acc7_first m c t h (k0_pay1 (F := Ideal)), step7, next7, if_pos h]
  refine (pay4_at _ _ _ n d).trans ?_
  rw [pay1_at, zero_add]; rfl

theorem acc7_at_next (t : Fin cfg0.N) (h : ¬t.val % 4 = 0) (n : Fin 1792) (d : Fin 1024) : acc7 m c t.val t.isLt (ix3 0 n d)
    = acc7 m c (t.val - 1) (Nat.lt_of_le_of_lt (Nat.sub_le _ _) t.isLt) (ix3 0 n d) + p7 m c t n d := by
  rw [← acc7_next m c t (by omega), step7, next7, if_neg h]
  exact pay4_at _ _ _ n d

theorem acc8_at_first (t : Fin cfg0.N) (h : t.val = 0) (n : Fin 128) (d : Fin 1024) :
    acc8 m c t.val t.isLt (ix3 0 n d) = p8 m c t n d := by
  rw [← acc8_first m c t h (k0_pay2 (F := Ideal)), step8, next8, if_pos (show t.val % 4 = 0 by omega), if_pos (show t.val < 4 by omega)]
  refine (pay5_at _ _ _ n d).trans ?_
  rw [pay2_at, zero_add]; rfl

theorem acc8_at_next (t : Fin cfg0.N) (h : t.val ≠ 0) (h' : t.val < 4) (n : Fin 128) (d : Fin 1024) : acc8 m c t.val t.isLt (ix3 0 n d)
    = acc8 m c (t.val - 1) (Nat.lt_of_le_of_lt (Nat.sub_le _ _) t.isLt) (ix3 0 n d) + p8 m c t n d := by
  rw [← acc8_next m c t h, step8, next8, if_neg (show ¬t.val % 4 = 0 by omega), if_pos h']
  exact pay5_at _ _ _ n d

/-- Point `s` of half `j`'s walk. -/
def pt (j : Fin 2) (s : Fin 4) : Fin cfg0.N := ⟨4 * j.val + s.val, by show _ < 8; omega⟩

/-- A half's buffer after its walk. -/
theorem acc7_last (t : Fin cfg0.N) (j : Fin 2) (ht : t.val = 4 * j.val + 3) (n : Fin 1792) (d : Fin 1024) :
    acc7 m c t.val t.isLt (ix3 0 n d) = ∑ s : Fin 4, p7 m c (pt j s) n d := by
  have e : t = pt j 3 := Fin.ext ht
  have a0 := acc7_at_first m c (pt j 0) (by show (4 * j.val + 0) % 4 = 0; omega) n d
  have a1 := acc7_at_next m c (pt j 1) (by show ¬(4 * j.val + 1) % 4 = 0; omega) n d
  have a2 := acc7_at_next m c (pt j 2) (by show ¬(4 * j.val + 2) % 4 = 0; omega) n d
  have a3 := acc7_at_next m c (pt j 3) (by show ¬(4 * j.val + 3) % 4 = 0; omega) n d
  rw [e, Fin.sum_univ_four]
  refine a3.trans (congrArg (· + p7 m c (pt j 3) n d) ?_)
  refine Eq.trans a2 (congrArg (· + p7 m c (pt j 2) n d) ?_)
  exact a1.trans (congrArg (· + p7 m c (pt j 1) n d) a0)

/-- The last columns' buffer after the first half's walk, -/
theorem acc8_third (n : Fin 128) (d : Fin 1024) :
    acc8 m c (pt 0 3).val (pt 0 3).isLt (ix3 0 n d) = ∑ s : Fin 4, p8 m c (pt 0 s) n d := by
  have a0 := acc8_at_first m c (pt 0 0) rfl n d
  have a1 := acc8_at_next m c (pt 0 1) (by decide) (by decide) n d
  have a2 := acc8_at_next m c (pt 0 2) (by decide) (by decide) n d
  have a3 := acc8_at_next m c (pt 0 3) (by decide) (by decide) n d
  rw [Fin.sum_univ_four]
  refine a3.trans (congrArg (· + p8 m c (pt 0 3) n d) ?_)
  refine Eq.trans a2 (congrArg (· + p8 m c (pt 0 2) n d) ?_)
  exact a1.trans (congrArg (· + p8 m c (pt 0 1) n d) a0)

/-- and at the end. -/
theorem acc8_last (t : Fin cfg0.N) (ht : t.val = 7) (n : Fin 128) (d : Fin 1024) :
    acc8 m c t.val t.isLt (ix3 0 n d) = ∑ s : Fin 4, p8 m c (pt 0 s) n d := by
  have e : t = pt 1 3 := Fin.ext ht
  have b3 := acc8_passed m c (pt 1 3) (by decide)
  have b2 := acc8_passed m c (pt 1 2) (by decide)
  have b1 := acc8_passed m c (pt 1 1) (by decide)
  have b0 := acc8_passed m c (pt 1 0) (by decide)
  rw [e, ← acc8_third m c n d]
  exact congrFun (b3.symm.trans (Eq.trans b2.symm (Eq.trans b1.symm b0.symm))) _

/-! ### The windows -/

theorem index_0 : ∀ t : Fin cfg0.N, win0_0.index t = ![t.val % 4, 0] := by decide +kernel
theorem index_1 : ∀ t : Fin cfg0.N, win0_1.index t = ![t.val % 4, t.val / 4] := by decide +kernel
theorem index_2 : ∀ t : Fin cfg0.N, win0_2.index t = ![t.val % 4, 28] := by decide +kernel
theorem index_3 : ∀ t : Fin cfg0.N, win0_3.index t = ![0, t.val / 4, 0] := by decide +kernel
theorem index_4 : ∀ t : Fin cfg0.N, win0_4.index t = ![0, 0, 0] := by decide +kernel

/-- The row of the array that row `r` of a point's block is. -/
def row (s : Fin 4) (r : Fin 1024) : Fin 4096 := ⟨1024 * s.val + r.val, by omega⟩

/-- The column that column `n` of a half's block is. -/
def col (j : Fin 2) (n : Fin 1792) : Fin 3712 := ⟨1792 * j.val + n.val, by omega⟩

theorem blk0 (j : Fin 2) (s : Fin 4) (r : Fin 1024) (d : Fin 1024) : iblk m c 0 (pt j s) (ix2 r d) = V m c main_v12 (ix2 (row s r) d) := by
  have e0 : ((win0_0.blk (pt j s)).view.emb (ix2 r d) 0 : Fin _).val = win0_0.index (pt j s) 0 * 1024 + r.val := by blk_simp
  have e1 : ((win0_0.blk (pt j s)).view.emb (ix2 r d) 1 : Fin _).val = win0_0.index (pt j s) 1 * 1024 + d.val := by blk_simp
  rw [index_0] at e0 e1
  blk_simp [iblk]
  exact congrArg _ (ix2_of _ (row s r) d (e0.trans (by show (4 * j.val + s.val) % 4 * 1024 + r.val = 1024 * s.val + r.val; omega))
    (e1.trans (by show 0 * 1024 + d.val = d.val; omega)))

theorem blk1 (j : Fin 2) (s : Fin 4) (r : Fin 1024) (n : Fin 1792) :
    X0_1 m c (pt j s) (ix2 r n) = V m c main_v13 (ix2 (row s r) (col j n)) := by
  refine (dif_pos (moved0_1 (pt j s) (ix2 r n))).trans ?_
  generalize hi : (fun a => ⟨((ix2 r n : S1024x1792.Idx) a).val, ((cfg0.win 1).moved_iff (cfg0.grid.coords (pt j s)) (ix2 r n)).mp (moved0_1 (pt j s) (ix2 r n)) a⟩
    : ((cfg0.win 1).xblock (cfg0.grid.coords (pt j s))).Idx) = i
  have i0 : (i 0).val = r.val := by rw [← hi]; rfl
  have i1 : (i 1).val = n.val := by rw [← hi]; rfl
  have e0 : ((win0_1.blk (pt j s)).view.emb i 0 : Fin _).val = win0_1.index (pt j s) 0 * 1024 + (i 0).val := Pipeline.Window.rect_emb_val win0_1 (pt j s) i 0 rfl
  have e1 : ((win0_1.blk (pt j s)).view.emb i 1 : Fin _).val = win0_1.index (pt j s) 1 * 1792 + (i 1).val := Pipeline.Window.rect_emb_val win0_1 (pt j s) i 1 rfl
  rw [index_1, i0] at e0
  rw [index_1, i1] at e1
  show V m c main_v13 ((win0_1.blk (pt j s)).view.emb i) = _
  exact congrArg (V m c main_v13) (ix2_of _ (row s r) (col j n) (e0.trans (by show (4 * j.val + s.val) % 4 * 1024 + r.val = 1024 * s.val + r.val; omega))
    (e1.trans (by show (4 * j.val + s.val) / 4 * 1792 + n.val = 1792 * j.val + n.val; omega)))

theorem blk2 (s : Fin 4) (r : Fin 1024) (n : Fin 128) :
    iblk m c 2 (pt 0 s) (ix2 r n) = V m c main_v13 (ix2 (row s r) ⟨3584 + n.val, by omega⟩) := by
  have e0 : ((win0_2.blk (pt 0 s)).view.emb (ix2 r n) 0 : Fin _).val = win0_2.index (pt 0 s) 0 * 1024 + r.val := by blk_simp
  have e1 : ((win0_2.blk (pt 0 s)).view.emb (ix2 r n) 1 : Fin _).val = win0_2.index (pt 0 s) 1 * 128 + n.val := by blk_simp
  rw [index_2] at e0 e1
  blk_simp [iblk]
  exact congrArg _ (ix2_of _ (row s r) ⟨3584 + n.val, by omega⟩ (e0.trans (by show (4 * 0 + s.val) % 4 * 1024 + r.val = 1024 * s.val + r.val; omega))
    (e1.trans (by show 28 * 128 + n.val = 3584 + n.val; omega)))

/-- The normed rows, as the host computes them, -/
def H : S4096x1024.Idx → EReal :=
  Cert.Reference3Ideal.Read.val_main_v12 (F := Ideal) (m (c, Proc.devRef .tc main_arg0)) (m (c, Proc.devRef .tc main_arg1))

/-- and the projection's gradient. -/
def D : S4096x3712.Idx → EReal := m (c, Proc.devRef .tc main_arg2)

theorem V_v13 : V m c main_v13 = D m c := by
  rw [V]; after_results_simp; rfl

theorem V_v12 : V m c main_v12 = H m c := by
  rw [V]; after_results_simp; rfl

end Cert.Proof.Dw

end
-- ==== Proof.Ob.Layer.lean ====
/-
  Writing one matrix over layer 0 of a stack of matrices.
-/
module

public import Idealize.ShloMosaic.Lib.Routing.OpsOne
public import Idealize.ShloMosaic.Lib.ValueIdx

@[expose] public section

noncomputable section

namespace Cert.Proof.Ob

open Idealize.ShloMosaic Idealize.ShloMosaic.ValueIdx Idealize.ShloMosaic.Routing

/-- The dimension numbers of such a write: one index word, and an update that is one of the stack's matrices. -/
def layerDims (N A B : ℕ) (h : ScatterDims.WF (⟨3, ![N, A, B]⟩ : Shape) (⟨1, ![1]⟩ : Shape) (⟨2, ![A, B]⟩ : Shape) [0, 1] [0] [0] 0) :
    ScatterDims (⟨3, ![N, A, B]⟩ : Shape) (⟨1, ![1]⟩ : Shape) (⟨2, ![A, B]⟩ : Shape) where
  updateWindowDims := [0, 1]
  insertedWindowDims := [0]
  scatterDimsToOperandDims := [0]
  indexVectorDim := 0
  wf := h

variable {N A B : ℕ} (h : ScatterDims.WF (⟨3, ![N, A, B]⟩ : Shape) (⟨1, ![1]⟩ : Shape) (⟨2, ![A, B]⟩ : Shape) [0, 1] [0] [0] 0)

theorem lands_layer (idx : IVec (⟨1, ![1]⟩ : Shape) 32) (h0 : ∀ i, idx i = 0#32) (j : (⟨2, ![A, B]⟩ : Shape).Idx) (i : (⟨3, ![N, A, B]⟩ : Shape).Idx) :
    (layerDims N A B h).resultIdx? j idx = some i ↔ (i 0).val = 0 ∧ (j 0).val = (i 1).val ∧ (j 1).val = (i 2).val := by
  have s0 : (layerDims N A B h).start j idx 0 = 0 := by
    unfold ScatterDims.start
    refine (dif_pos (show (0 : Fin 3) ∈ [(0 : Fin 3)] from List.mem_singleton.2 rfl)).trans ?_
    rw [h0]; rfl
  have s1 : (layerDims N A B h).start j idx 1 = 0 := by
    unfold ScatterDims.start
    exact dif_neg (show ¬(1 : Fin 3) ∈ [(0 : Fin 3)] by decide)
  have s2 : (layerDims N A B h).start j idx 2 = 0 := by
    unfold ScatterDims.start
    exact dif_neg (show ¬(2 : Fin 3) ∈ [(0 : Fin 3)] by decide)
  have w0 : (layerDims N A B h).window j 0 = 0 := by
    unfold ScatterDims.window
    exact dif_neg (show ¬(0 : Fin 3) ∈ (List.finRange 3).filter (fun a => decide (a ∉ [(0 : Fin 3)])) by decide)
  have w1 : (layerDims N A B h).window j 1 = (j 0).val := by
    unfold ScatterDims.window
    exact dif_pos (show (1 : Fin 3) ∈ (List.finRange 3).filter (fun a => decide (a ∉ [(0 : Fin 3)])) by decide)
  have w2 : (layerDims N A B h).window j 2 = (j 1).val := by
    unfold ScatterDims.window
    exact dif_pos (show (2 : Fin 3) ∈ (List.finRange 3).filter (fun a => decide (a ∉ [(0 : Fin 3)])) by decide)
  rw [resultIdx?_eq_some]
  constructor
  · intro q
    have q0 := q 0; have q1 := q 1; have q2 := q 2
    rw [s0, w0] at q0; rw [s1, w1] at q1; rw [s2, w2] at q2
    omega
  · rintro ⟨q0, q1, q2⟩ a
    match a with
    | ⟨0, _⟩ => show (layerDims N A B h).start j idx 0 + ((layerDims N A B h).window j 0 : Int) = ((i 0).val : Int); rw [s0, w0]; omega
    | ⟨1, _⟩ => show (layerDims N A B h).start j idx 1 + ((layerDims N A B h).window j 1 : Int) = ((i 1).val : Int); rw [s1, w1]; omega
    | ⟨2, _⟩ => show (layerDims N A B h).start j idx 2 + ((layerDims N A B h).window j 2 : Int) = ((i 2).val : Int); rw [s2, w2]; omega

/-- The stack after the write. -/
theorem scatter_layer {α : Type} (x : (⟨3, ![N, A, B]⟩ : Shape).Idx → α) (idx : IVec (⟨1, ![1]⟩ : Shape) 32) (h0 : ∀ i, idx i = 0#32)
    (u : (⟨2, ![A, B]⟩ : Shape).Idx → α) (i : (⟨3, ![N, A, B]⟩ : Shape).Idx) (a : Fin A) (b : Fin B) (ha : (i 1).val = a.val) (hb : (i 2).val = b.val) :
    Host.scatter (layerDims N A B h) (fun _ b => b) x idx u i = if (i 0).val = 0 then u (ix2 a b) else x i := by
  by_cases k : (i 0).val = 0
  · rw [if_pos k]
    refine scatter_set_hit _ x idx u i _ (fun j hj => ?_) (ix2 a b) ((lands_layer h idx h0 _ i).2 ⟨k, ha.symm, hb.symm⟩)
    obtain ⟨-, e1, e2⟩ := (lands_layer h idx h0 j i).1 hj
    refine congrArg u (funext fun z => Fin.ext ?_)
    match z with
    | ⟨0, _⟩ => exact e1.trans ha
    | ⟨1, _⟩ => exact e2.trans hb
  · rw [if_neg k]
    exact scatter_set_miss _ x idx u i fun j hj => k ((lands_layer h idx h0 j i).1 hj).1

end Cert.Proof.Ob

end
-- ==== Proof.Dw.Ref.lean ====
/-
  The input projection's weight gradient in the reference, over the extended reals, entry by entry.
-/
module

public import proofs.«01_k».proof.Proof.Dw.Kernel
public import proofs.«01_k».proof.Proof.Ob.Layer

@[expose] public section

set_option maxRecDepth 8192

noncomputable section

namespace Cert.Proof.Dw

open Cert.Reference3Ideal Cert.Reference3Ideal.Gen Cert.Reference3Ideal.Read
open Idealize.ShloMosaic Idealize.ShloMosaic.TcCoe Idealize.SL.Sem
open Cert.Proof.Out (ix2_of ix3_of)
open Cert.Proof.Ob (scatter_layer)

variable (x0 : S4096x1024.Idx → EReal) (x1 : S1x1024.Idx → EReal) (x2 : S4096x3712.Idx → EReal)

/-- The weights' gradient. -/
theorem ref_dw (n : Fin 3712) (d : Fin 1024) : val_main_v17 (F := Ideal) x0 x1 x2 (ix2 n d)
    = prod (b := 4096) (k := 3712) (val_main_v12 (F := Ideal) x0 x1) x2 n d := by
  rw [val_main_v17_apply, val_main_v16_apply, val_main_v15_apply]
  refine Finset.sum_congr rfl fun k _ => ?_
  exact congrArg₂ (fun i j => x2 i * val_main_v12 (F := Ideal) x0 x1 j) (ix2_of _ _ _ rfl rfl) (ix2_of _ _ _ rfl rfl)

theorem ref_main (n : Fin 3584) (d : Fin 1024) : val_main_v18 (F := Ideal) x0 x1 x2 (ix2 n d)
    = prod (b := 4096) (k := 3712) (val_main_v12 (F := Ideal) x0 x1) x2 ⟨n.val, by omega⟩ d := by
  rw [val_main_v18_apply, ← ref_dw]
  exact congrArg (val_main_v17 (F := Ideal) x0 x1 x2) (ix2_of _ _ _ rfl rfl)

theorem ref_last (n : Fin 128) (d : Fin 1024) : val_main_v21 (F := Ideal) x0 x1 x2 (ix2 n d)
    = prod (b := 4096) (k := 3712) (val_main_v12 (F := Ideal) x0 x1) x2 ⟨3584 + n.val, by omega⟩ d := by
  rw [val_main_v21_apply, ← ref_dw]
  exact congrArg (val_main_v17 (F := Ideal) x0 x1 x2) (ix2_of _ _ _ rfl rfl)

/-- The main columns' stack with the gradient in layer 0, -/
theorem stack_m (x3 : S4x3584x1024.Idx → EReal) (i : S4x3584x1024.Idx) (n : Fin 3584) (d : Fin 1024) (hn : (i 1).val = n.val) (hd : (i 2).val = d.val) :
    val_main_v20 (F := Ideal) x0 x1 x2 x3 i
      = if (i 0).val = 0 then prod (b := 4096) (k := 3712) (val_main_v12 (F := Ideal) x0 x1) x2 ⟨n.val, by omega⟩ d else x3 i := by
  rw [← ref_main]
  exact scatter_layer _ x3 _ (fun i => by rw [val_main_v19_apply]; rfl) _ i n d hn hd

/-- and the last columns'. -/
theorem stack_l (x4 : S4x128x1024.Idx → EReal) (i : S4x128x1024.Idx) (n : Fin 128) (d : Fin 1024) (hn : (i 1).val = n.val) (hd : (i 2).val = d.val) :
    val_main_v23 (F := Ideal) x0 x1 x2 x4 i
      = if (i 0).val = 0 then prod (b := 4096) (k := 3712) (val_main_v12 (F := Ideal) x0 x1) x2 ⟨3584 + n.val, by omega⟩ d else x4 i := by
  rw [← ref_last]
  exact scatter_layer _ x4 _ (fun i => by rw [val_main_v22_apply]; rfl) _ i n d hn hd

end Cert.Proof.Dw

end
-- ==== Proof.Dw.Result.lean ====
/-
  The two stacks that the input projection's weight gradient leaves, over the extended reals.
-/
module

public import proofs.«01_k».proof.Proof.Dw.Kernel

@[expose] public section

set_option maxRecDepth 8192

noncomputable section

namespace Cert.Proof.Dw

open Cert.Kernel3Ideal Cert.Kernel3Ideal.Gen
open Idealize.ShloMosaic Idealize.ShloMosaic.TcCoe Idealize.SL.Sem
open Cert.Proof.Out (ix2_of ix3_of)

variable (m : (ℓ : Loc nD τ sig) → Buf (Elt Ideal) ℓ) (c : Dev nD)

/-- The four row blocks' sums are the sum over all rows. -/
theorem sum7 (j : Fin 2) (n : Fin 1792) (d : Fin 1024) :
    ∑ s : Fin 4, p7 m c (pt j s) n d = prod (b := 4096) (k := 3712) (H m c) (D m c) (col j n) d := by
  have hh : ∀ (s : Fin 4) (r : Fin 1024), iblk m c 0 (pt j s) (ix2 r d) = H m c (ix2 (row s r) d) := fun s r => by rw [blk0, V_v12]
  have hp : ∀ (s : Fin 4) (r : Fin 1024), X0_1 m c (pt j s) (ix2 r n) = D m c (ix2 (row s r) (col j n)) := fun s r => by rw [blk1, V_v13]
  unfold p7 prod
  refine Fin.sum_mul_add_congr (L := 4096) (S := 4) (n := 1024) (fun s r hl => ?_) rfl
  have hr : row s r = ⟨s.val * 1024 + r.val, hl⟩ := Fin.ext (by show 1024 * s.val + r.val = s.val * 1024 + r.val; omega)
  rw [← hr]
  exact congrArg₂ (· * ·) (hp s r) (hh s r)

theorem sum8 (n : Fin 128) (d : Fin 1024) :
    ∑ s : Fin 4, p8 m c (pt 0 s) n d = prod (b := 4096) (k := 3712) (H m c) (D m c) ⟨3584 + n.val, by omega⟩ d := by
  have hh : ∀ (s : Fin 4) (r : Fin 1024), iblk m c 0 (pt 0 s) (ix2 r d) = H m c (ix2 (row s r) d) := fun s r => by rw [blk0, V_v12]
  have hp : ∀ (s : Fin 4) (r : Fin 1024), iblk m c 2 (pt 0 s) (ix2 r n) = D m c (ix2 (row s r) ⟨3584 + n.val, by omega⟩) := fun s r => by rw [blk2, V_v13]
  unfold p8 prod
  refine Fin.sum_mul_add_congr (L := 4096) (S := 4) (n := 1024) (fun s r hl => ?_) rfl
  have hr : row s r = ⟨s.val * 1024 + r.val, hl⟩ := Fin.ext (by show 1024 * s.val + r.val = s.val * 1024 + r.val; omega)
  rw [← hr]
  exact congrArg₂ (· * ·) (hp s r) (hh s r)

/-- One entry of the gradient on the main columns, and on the last. -/
def main (n : Fin 3584) (d : Fin 1024) : EReal := prod (b := 4096) (k := 3712) (H m c) (D m c) ⟨n.val, by omega⟩ d
def last (n : Fin 128) (d : Fin 1024) : EReal := prod (b := 4096) (k := 3712) (H m c) (D m c) ⟨3584 + n.val, by omega⟩ d

/-- The main columns' stack: layer 0 is the gradient, the others are as passed in. -/
theorem result_m (i : S4x3584x1024.Idx) (n : Fin 3584) (d : Fin 1024) (hn : (i 1).val = n.val) (hd : (i 2).val = d.val) :
    (dats m 0 c).arrAt 3 cfg0.N i = if (i 0).val = 0 then main m c n d else (m (c, Proc.devRef .tc main_arg3) : S4x3584x1024.Idx → EReal) i := by
  refine ((dats m 0 c).arrAt_apply_of_coversWhere 3 (fun i : S4x3584x1024.Idx => main m c (i 1) (i 2))
    (P := fun i : S4x3584x1024.Idx => (i 0).val = 0) (fun β => β 0 = 0) (by decide +kernel) (fun t hf y => ?_) (fun j => ?_) i).trans ?_
  · have h8 : t.val < 8 := t.isLt
    have ht : t.val = 4 * (t.val / 4) + 3 := by have := (flush0_3 t).mp hf; omega
    have y0 : (y 0).val < 1 := (y 0).isLt
    have y1 : (y 1).val < 1792 := (y 1).isLt
    have y2 : (y 2).val < 1024 := (y 2).isLt
    have e1 : ((win0_3.blk t).view.emb y 1 : Fin _).val = win0_3.index t 1 * 1792 + (y 1).val := by blk_simp
    have e2 : ((win0_3.blk t).view.emb y 2 : Fin _).val = win0_3.index t 2 * 1024 + (y 2).val := by blk_simp
    rw [index_3] at e1 e2
    have b1 : ((win0_3.blk t).view.emb y 1 : Fin 3584).val < 3712 := Nat.lt_trans ((win0_3.blk t).view.emb y 1 : Fin 3584).isLt (show 3584 < 3712 by decide)
    have f1 : (⟨((win0_3.blk t).view.emb y 1 : Fin 3584).val, b1⟩ : Fin 3712) = col ⟨t.val / 4, by omega⟩ ⟨(y 1).val, y1⟩ :=
      Fin.ext (e1.trans (by show t.val / 4 * 1792 + (y 1).val = 1792 * (t.val / 4) + (y 1).val; omega))
    have f2 : (win0_3.blk t).view.emb y 2 = (⟨(y 2).val, y2⟩ : Fin 1024) := Fin.ext (e2.trans (by show 0 * 1024 + (y 2).val = (y 2).val; omega))
    have h := (acc7_last m c t ⟨t.val / 4, by omega⟩ ht ⟨(y 1).val, y1⟩ ⟨(y 2).val, y2⟩).trans (sum7 m c _ _ _)
    have hy : y = ix3 (0 : Fin 1) (⟨(y 1).val, y1⟩ : Fin 1792) (⟨(y 2).val, y2⟩ : Fin 1024) :=
      ix3_of _ _ _ _ (by show (y 0).val = 0; omega) rfl rfl
    blk_simp
    rw [after0_3]
    refine (congrArg (acc7 m c t.val t.isLt) hy).trans (h.trans ?_)
    rw [← f1, ← f2]; rfl
  · blk_simp [Pipeline.Window.cell_apply]
    omega
  · have hn' : (i 1 : Fin 3584) = n := Fin.ext hn
    have hd' : (i 2 : Fin 1024) = d := Fin.ext hd
    rw [hn', hd']
    refine congrArg (fun z => if (i 0).val = 0 then _ else z) ?_
    refine (congrFun (A_eq m c 3) i).trans ?_
    show V m c main_v14_0 i = _
    rw [V]; after_results_simp; rfl

/-- The last columns' stack: layer 0 is the gradient, the others are as passed in. -/
theorem result_l (i : S4x128x1024.Idx) (n : Fin 128) (d : Fin 1024) (hn : (i 1).val = n.val) (hd : (i 2).val = d.val) :
    (dats m 0 c).arrAt 4 cfg0.N i = if (i 0).val = 0 then last m c n d else (m (c, Proc.devRef .tc main_arg4) : S4x128x1024.Idx → EReal) i := by
  refine ((dats m 0 c).arrAt_apply_of_coversWhere 4 (fun i : S4x128x1024.Idx => last m c (i 1) (i 2))
    (P := fun i : S4x128x1024.Idx => (i 0).val = 0) (fun β => β 0 = 0) (by decide +kernel) (fun t hf y => ?_) (fun j => ?_) i).trans ?_
  · have h8 : t.val < 8 := t.isLt
    have ht : t.val = 7 := by have := (flush0_4 t).mp hf; omega
    have y0 : (y 0).val < 1 := (y 0).isLt
    have y1 : (y 1).val < 128 := (y 1).isLt
    have y2 : (y 2).val < 1024 := (y 2).isLt
    have e1 : ((win0_4.blk t).view.emb y 1 : Fin _).val = win0_4.index t 1 * 128 + (y 1).val := by blk_simp
    have e2 : ((win0_4.blk t).view.emb y 2 : Fin _).val = win0_4.index t 2 * 1024 + (y 2).val := by blk_simp
    rw [index_4] at e1 e2
    have f1 : (win0_4.blk t).view.emb y 1 = (⟨(y 1).val, y1⟩ : Fin 128) := Fin.ext (e1.trans (by show 0 * 128 + (y 1).val = (y 1).val; omega))
    have f2 : (win0_4.blk t).view.emb y 2 = (⟨(y 2).val, y2⟩ : Fin 1024) := Fin.ext (e2.trans (by show 0 * 1024 + (y 2).val = (y 2).val; omega))
    have h := (acc8_last m c t ht ⟨(y 1).val, y1⟩ ⟨(y 2).val, y2⟩).trans (sum8 m c _ _)
    have hy : y = ix3 (0 : Fin 1) (⟨(y 1).val, y1⟩ : Fin 128) (⟨(y 2).val, y2⟩ : Fin 1024) :=
      ix3_of _ _ _ _ (by show (y 0).val = 0; omega) rfl rfl
    blk_simp
    rw [after0_4]
    refine (congrArg (acc8 m c t.val t.isLt) hy).trans (h.trans ?_)
    rw [f1, f2]; rfl
  · blk_simp [Pipeline.Window.cell_apply]
    omega
  · have hn' : (i 1 : Fin 128) = n := Fin.ext hn
    have hd' : (i 2 : Fin 1024) = d := Fin.ext hd
    rw [hn', hd']
    refine congrArg (fun z => if (i 0).val = 0 then _ else z) ?_
    refine (congrFun (A_eq m c 4) i).trans ?_
    show V m c main_v14_1 i = _
    rw [V]; after_results_simp; rfl

end Cert.Proof.Dw

end
-- ==== Proof.Dw.Claim.lean ====
/-
  The input projection's weight gradient: its frames, and the value claim.
-/
module

public import proofs.«01_k».proof.Defs
public import proofs.«01_k».proof.Proof.Dw.Ref
public import proofs.«01_k».proof.Proof.Dw.Result
public import proofs.«01_k».proof.Proof.Dw.RunK
public import proofs.«01_k».proof.Proof.Gen.Reference3Ideal.Run

@[expose] public section

noncomputable section

namespace Cert.Proof.Dw

open Idealize.ShloMosaic Idealize.ShloMosaic.TcCoe Idealize.SL.Sem

theorem frame_kernel : Cert.quiescent_Kernel3 := fun m ρ _ => Cert.Proof.DwK.frame_main (F := Bits) m ρ

theorem frame_ideal : Cert.quiescent_Kernel3Ideal := fun m ρ _ => frame_main (F := Ideal) m ρ

/-- The reference's run, its arguments as launched; it declares no semaphore. -/
theorem frame_reference : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

theorem preserves : Cert.preserves_Kernel3_Kernel3Ideal := trivial

theorem algebraic : Cert.algebraic_Kernel3Ideal_Reference3Ideal := by
  intro m g m' g' _ hin
  refine ⟨fun c => (dats m 0 c).arrAt 3 Cert.Kernel3Ideal.cfg0.N, fun c => (dats m 0 c).arrAt 4 Cert.Kernel3Ideal.cfg0.N, run_blocks m g, ?_⟩
  refine (θ_run _ _ _).mono (fun r h c => ?_) (Cert.Reference3Ideal.Value.run (F := Ideal) m' g')
  obtain ⟨e, e', k⟩ := h c
  obtain ⟨i0, i1, i2, i3, i4⟩ := hin c
  refine ⟨e.trans ((Cert.Reference3Ideal.Read.val_main_v20_eq _ _ _ _).trans (funext fun i => ?_)),
    e'.trans ((Cert.Reference3Ideal.Read.val_main_v23_eq _ _ _ _).trans (funext fun i => ?_)), k⟩
  · refine (stack_m _ _ _ _ i (i 1) (i 2) rfl rfl).trans (Eq.trans ?_ (result_m m c i (i 1) (i 2) rfl rfl).symm)
    rw [i0, i1, i2, i3]; rfl
  · refine (stack_l _ _ _ _ i (i 1) (i 2) rfl rfl).trans (Eq.trans ?_ (result_l m c i (i 1) (i 2) rfl rfl).symm)
    rw [i0, i1, i2, i4]; rfl

end Cert.Proof.Dw

end
-- ==== Proof.Ob.Body.lean ====
/-
  The output projection's backward kernel over the extended reals: what a grid point leaves in its block of the mixers'
  gradient and in the weights' gradient, which is summed over the points.
-/
module

public import proofs.«01_k».proof.Proof.Gen.Kernel4Ideal.Value
public import proofs.«01_k».proof.Proof.Out.Kernel
public import Idealize.ShloMosaic.Lib.Pipeline.ValueKit
public import Idealize.ShloMosaic.Lib.Pipeline.ReadBack
public import Idealize.ShloMosaic.Lib.Pointwise

@[expose] public section

set_option maxRecDepth 8192

noncomputable section

namespace Cert.Proof.Ob

open Cert.Kernel4Ideal Cert.Kernel4Ideal.Gen
open Idealize.ShloMosaic Idealize.ShloMosaic.TcCoe Idealize.SL.Sem
open Cert.Proof.Out (ix2_of ix3_of)

/-- Column `r` of row `k` of the three mixers' outputs, set side by side. -/
def mix {b : ℕ} (f : (⟨2, ![b, 512]⟩ : Shape).Idx → EReal) (p s : (⟨2, ![b, 256]⟩ : Shape).Idx → EReal) (k : Fin b) (r : Fin 1024) : EReal :=
  if h : r.val < 512 then f (ix2 k ⟨r.val, h⟩)
  else if h' : r.val < 768 then p (ix2 k ⟨r.val - 512, by omega⟩) else s (ix2 k ⟨r.val - 768, by omega⟩)

/-- One entry of the weights' gradient over `b` rows. -/
def dw {b : ℕ} (y : (⟨2, ![b, 1024]⟩ : Shape).Idx → EReal) (f : (⟨2, ![b, 512]⟩ : Shape).Idx → EReal)
    (p s : (⟨2, ![b, 256]⟩ : Shape).Idx → EReal) (r d : Fin 1024) : EReal :=
  ∑ k : Fin b, mix f p s k r * y (ix2 k d)

theorem dw_1 {b : ℕ} (y : (⟨2, ![b, 1024]⟩ : Shape).Idx → EReal) (f : (⟨2, ![b, 512]⟩ : Shape).Idx → EReal)
    (p s : (⟨2, ![b, 256]⟩ : Shape).Idx → EReal) (r d : Fin 1024) (q : Fin 512) (h : r.val = q.val) :
    dw y f p s r d = ∑ k : Fin b, f (ix2 k q) * y (ix2 k d) := by
  refine Finset.sum_congr rfl fun k _ => congrArg (· * y (ix2 k d)) ?_
  rw [mix, dif_pos (by omega)]
  exact congrArg (fun z => f (ix2 k z)) (Fin.ext h)

theorem dw_2 {b : ℕ} (y : (⟨2, ![b, 1024]⟩ : Shape).Idx → EReal) (f : (⟨2, ![b, 512]⟩ : Shape).Idx → EReal)
    (p s : (⟨2, ![b, 256]⟩ : Shape).Idx → EReal) (r d : Fin 1024) (q : Fin 256) (h : r.val = 512 + q.val) :
    dw y f p s r d = ∑ k : Fin b, p (ix2 k q) * y (ix2 k d) := by
  refine Finset.sum_congr rfl fun k _ => congrArg (· * y (ix2 k d)) ?_
  rw [mix, dif_neg (by omega), dif_pos (by omega)]
  exact congrArg (fun z => p (ix2 k z)) (Fin.ext (by show r.val - 512 = q.val; omega))

theorem dw_3 {b : ℕ} (y : (⟨2, ![b, 1024]⟩ : Shape).Idx → EReal) (f : (⟨2, ![b, 512]⟩ : Shape).Idx → EReal)
    (p s : (⟨2, ![b, 256]⟩ : Shape).Idx → EReal) (r d : Fin 1024) (q : Fin 256) (h : r.val = 768 + q.val) :
    dw y f p s r d = ∑ k : Fin b, s (ix2 k q) * y (ix2 k d) := by
  refine Finset.sum_congr rfl fun k _ => congrArg (· * y (ix2 k d)) ?_
  rw [mix, dif_neg (by omega), dif_neg (by omega)]
  exact congrArg (fun z => s (ix2 k z)) (Fin.ext (by show r.val - 768 = q.val; omega))

/-! ### The body's values -/

theorem pay2_at (i : S1x1024x1024.Idx) : k0_pay2 (F := Ideal) i = 0 := by
  pointwise [k0_pay2]

theorem pay4_at (y : FVec Ideal S1024x1024 .f32) (w : FVec Ideal S1x1024x1024 .bf16) (r d : Fin 1024) :
    k0_pay4 (F := Ideal) y w (ix2 r d) = ∑ k : Fin 1024, y (ix2 r k) * w (ix3 0 d k) := by
  pointwise [k0_pay4, k0_pay3]

theorem pay5_at (y : FVec Ideal S1024x1024 .f32) (a : FVec Ideal S1x512x1024 .f32) (f : FVec Ideal S1024x512 .bf16) (r : Fin 512) (d : Fin 1024) :
    k0_pay5 (F := Ideal) y a f (ix3 0 r d) = a (ix3 0 r d) + ∑ k : Fin 1024, f (ix2 k r) * y (ix2 k d) := by
  pointwise [k0_pay5, k0_pay3]

theorem pay6_at (y : FVec Ideal S1024x1024 .f32) (a : FVec Ideal S1x256x1024 .f32) (f : FVec Ideal S1024x256 .bf16) (r : Fin 256) (d : Fin 1024) :
    k0_pay6 (F := Ideal) y a f (ix3 0 r d) = a (ix3 0 r d) + ∑ k : Fin 1024, f (ix2 k r) * y (ix2 k d) := by
  pointwise [k0_pay6, k0_pay3]

theorem pay1_at (y : FVec Ideal S1024x1024 .f32) (a : FVec Ideal S1x256x1024 .f32) (f : FVec Ideal S1024x256 .bf16) (r : Fin 256) (d : Fin 1024) :
    k0_pay1 (F := Ideal) (k0_pay3 y) a f (ix3 0 r d) = a (ix3 0 r d) + ∑ k : Fin 1024, f (ix2 k r) * y (ix2 k d) := by
  pointwise [k0_pay1, k0_pay3]

theorem ix3_self {n : ℕ} (x : (⟨3, ![1, n, 1024]⟩ : Shape).Idx) : ∃ (r : Fin n) (d : Fin 1024), x = ix3 0 r d :=
  ⟨⟨(x 1).val, (x 1).isLt⟩, ⟨(x 2).val, (x 2).isLt⟩,
    ix3_of x _ _ _ (by have h : (x 0).val < 1 := (x 0).isLt; show (x 0).val = 0; omega) rfl rfl⟩

/-- The three pieces that a point stores into the weights' gradient. -/
def pieces (y : FVec Ideal S1024x1024 .f32) (f : FVec Ideal S1024x512 .bf16) (p s : FVec Ideal S1024x256 .bf16)
    (a1 : FVec Ideal S1x512x1024 .f32) (a2 a3 : FVec Ideal S1x256x1024 .f32) : List (View.Piece (Elt Ideal) S1x1024x1024 .f32) :=
  [⟨Rect.unit ![0, 768, 0] ![1, 256, 1024] inb_S1x1024x1024_S1x256x1024_0_768_0, k0_pay1 (F := Ideal) (k0_pay3 y) a3 s⟩,
    ⟨Rect.unit ![0, 512, 0] ![1, 256, 1024] inb_S1x1024x1024_S1x256x1024_0_512_0, k0_pay6 (F := Ideal) y a2 p⟩,
    ⟨Rect.unit ![0, 0, 0] ![1, 512, 1024] inb_S1x1024x1024_S1x512x1024_0_0_0, k0_pay5 (F := Ideal) y a1 f⟩]

/-- What the three stores leave, if what they add to is `A`. -/
theorem canon_pieces (y : FVec Ideal S1024x1024 .f32) (f : FVec Ideal S1024x512 .bf16) (p s : FVec Ideal S1024x256 .bf16)
    (a1 : FVec Ideal S1x512x1024 .f32) (a2 a3 : FVec Ideal S1x256x1024 .f32) (L : List (View.Piece (Elt Ideal) S1x1024x1024 .f32))
    (A : Fin 1024 → Fin 1024 → EReal) (h1 : ∀ (q : Fin 512) e, a1 (ix3 0 q e) = A ⟨q.val, by omega⟩ e)
    (h2 : ∀ (q : Fin 256) e, a2 (ix3 0 q e) = A ⟨512 + q.val, by omega⟩ e)
    (h3 : ∀ (q : Fin 256) e, a3 (ix3 0 q e) = A ⟨768 + q.val, by omega⟩ e) (r d : Fin 1024) :
    View.canon (pieces y f p s a1 a2 a3 ++ L) (ix3 0 r d) = A r d + dw (b := 1024) y f p s r d := by
  have e1 : ∀ (q : Fin 512) (e : Fin 1024) (r' d' : Fin 1024), r'.val = q.val → d'.val = e.val →
      k0_pay5 (F := Ideal) y a1 f (ix3 0 q e) = A r' d' + dw (b := 1024) y f p s r' d' := fun q e r' d' hq he => by
    have hi : d' = e := Fin.ext he
    have hj : r' = ⟨q.val, by omega⟩ := Fin.ext hq
    rw [pay5_at, h1, dw_1 _ _ _ _ _ _ q hq, hi, hj]
  have e2 : ∀ (q : Fin 256) (e : Fin 1024) (r' d' : Fin 1024), r'.val = 512 + q.val → d'.val = e.val →
      k0_pay6 (F := Ideal) y a2 p (ix3 0 q e) = A r' d' + dw (b := 1024) y f p s r' d' := fun q e r' d' hq he => by
    have hi : d' = e := Fin.ext he
    have hj : r' = ⟨512 + q.val, by omega⟩ := Fin.ext hq
    rw [pay6_at, h2, dw_2 _ _ _ _ _ _ q hq, hi, hj]
  have e3 : ∀ (q : Fin 256) (e : Fin 1024) (r' d' : Fin 1024), r'.val = 768 + q.val → d'.val = e.val →
      k0_pay1 (F := Ideal) (k0_pay3 y) a3 s (ix3 0 q e) = A r' d' + dw (b := 1024) y f p s r' d' := fun q e r' d' hq he => by
    have hi : d' = e := Fin.ext he
    have hj : r' = ⟨768 + q.val, by omega⟩ := Fin.ext hq
    rw [pay1_at, h3, dw_3 _ _ _ _ _ _ q hq, hi, hj]
  refine View.canon_append_of_piecesOf (fun i : S1x1024x1024.Idx => A (i 1) (i 2) + dw (b := 1024) y f p s (i 1) (i 2)) L
    (pieces y f p s a1 a2 a3) ⟨fun x => ?_, fun x => ?_, fun x => ?_, trivial⟩ (ix3 0 r d) ?_
  · obtain ⟨q, e, hx⟩ := ix3_self (n := 256) x
    subst hx
    exact e3 q e _ _ (by show 768 + 1 * q.val = _; omega) (by show 0 + 1 * e.val = _; omega)
  · obtain ⟨q, e, hx⟩ := ix3_self (n := 256) x
    subst hx
    exact e2 q e _ _ (by show 512 + 1 * q.val = _; omega) (by show 0 + 1 * e.val = _; omega)
  · obtain ⟨q, e, hx⟩ := ix3_self (n := 512) x
    subst hx
    exact e1 q e _ _ (by show 0 + 1 * q.val = _; omega) (by show 0 + 1 * e.val = _; omega)
  · have m0 : (0 : ℕ) ≤ ((ix3 0 r d : S1x1024x1024.Idx) 0).val ∧ ((ix3 0 r d : S1x1024x1024.Idx) 0).val < 0 + 1 := ⟨Nat.zero_le _, Nat.zero_lt_one⟩
    have m2 : (0 : ℕ) ≤ ((ix3 0 r d : S1x1024x1024.Idx) 2).val ∧ ((ix3 0 r d : S1x1024x1024.Idx) 2).val < 0 + 1024 :=
      ⟨Nat.zero_le _, by show d.val < 0 + 1024; omega⟩
    by_cases k1 : r.val < 512
    · have h : (ix3 0 r d : S1x1024x1024.Idx) ∈ (Rect.unit ![0, 0, 0] ![1, 512, 1024] inb_S1x1024x1024_S1x512x1024_0_0_0).set := Rect.mem_set_unit.2 fun a => by
        fin_cases a
        · exact m0
        · exact ⟨by show 0 ≤ r.val; omega, by show r.val < 0 + 512; omega⟩
        · exact m2
      exact ⟨_, List.mem_cons_of_mem _ (List.mem_cons_of_mem _ List.mem_cons_self), h⟩
    · by_cases k2 : r.val < 768
      · have h : (ix3 0 r d : S1x1024x1024.Idx) ∈ (Rect.unit ![0, 512, 0] ![1, 256, 1024] inb_S1x1024x1024_S1x256x1024_0_512_0).set := Rect.mem_set_unit.2 fun a => by
          fin_cases a
          · exact m0
          · exact ⟨by show 512 ≤ r.val; omega, by show r.val < 512 + 256; omega⟩
          · exact m2
        exact ⟨_, List.mem_cons_of_mem _ List.mem_cons_self, h⟩
      · have h : (ix3 0 r d : S1x1024x1024.Idx) ∈ (Rect.unit ![0, 768, 0] ![1, 256, 1024] inb_S1x1024x1024_S1x256x1024_0_768_0).set := Rect.mem_set_unit.2 fun a => by
          fin_cases a
          · exact m0
          · exact ⟨by show 768 ≤ r.val; omega, by show r.val < 768 + 256; omega⟩
          · exact m2
        exact ⟨_, List.mem_cons_self, h⟩

/-- The stores of a later point, listed. -/
theorem canon_later (y : FVec Ideal S1024x1024 .f32) (f : FVec Ideal S1024x512 .bf16) (p s : FVec Ideal S1024x256 .bf16)
    (a1 : FVec Ideal S1x512x1024 .f32) (a2 a3 : FVec Ideal S1x256x1024 .f32)
    (A : Fin 1024 → Fin 1024 → EReal) (h1 : ∀ (q : Fin 512) e, a1 (ix3 0 q e) = A ⟨q.val, by omega⟩ e)
    (h2 : ∀ (q : Fin 256) e, a2 (ix3 0 q e) = A ⟨512 + q.val, by omega⟩ e)
    (h3 : ∀ (q : Fin 256) e, a3 (ix3 0 q e) = A ⟨768 + q.val, by omega⟩ e) (r d : Fin 1024) :
    View.canon (Val := Elt Ideal) (s := S1x1024x1024) (e := .f32) [⟨Rect.unit ![0, 768, 0] ![1, 256, 1024] inb_S1x1024x1024_S1x256x1024_0_768_0, k0_pay1 (F := Ideal) (k0_pay3 y) a3 s⟩,
      ⟨Rect.unit ![0, 512, 0] ![1, 256, 1024] inb_S1x1024x1024_S1x256x1024_0_512_0, k0_pay6 (F := Ideal) y a2 p⟩,
      ⟨Rect.unit ![0, 0, 0] ![1, 512, 1024] inb_S1x1024x1024_S1x512x1024_0_0_0, k0_pay5 (F := Ideal) y a1 f⟩] (ix3 0 r d) = A r d + dw (b := 1024) y f p s r d :=
  canon_pieces y f p s a1 a2 a3 [] A h1 h2 h3 r d

/-- The stores of the first point, over its zeros. -/
theorem canon_first (z : FVec Ideal S1x1024x1024 .f32) (y : FVec Ideal S1024x1024 .f32) (f : FVec Ideal S1024x512 .bf16) (p s : FVec Ideal S1024x256 .bf16)
    (a1 : FVec Ideal S1x512x1024 .f32) (a2 a3 : FVec Ideal S1x256x1024 .f32)
    (A : Fin 1024 → Fin 1024 → EReal) (h1 : ∀ (q : Fin 512) e, a1 (ix3 0 q e) = A ⟨q.val, by omega⟩ e)
    (h2 : ∀ (q : Fin 256) e, a2 (ix3 0 q e) = A ⟨512 + q.val, by omega⟩ e)
    (h3 : ∀ (q : Fin 256) e, a3 (ix3 0 q e) = A ⟨768 + q.val, by omega⟩ e) (r d : Fin 1024) :
    View.canon (Val := Elt Ideal) (s := S1x1024x1024) (e := .f32) [⟨Rect.unit ![0, 768, 0] ![1, 256, 1024] inb_S1x1024x1024_S1x256x1024_0_768_0, k0_pay1 (F := Ideal) (k0_pay3 y) a3 s⟩,
      ⟨Rect.unit ![0, 512, 0] ![1, 256, 1024] inb_S1x1024x1024_S1x256x1024_0_512_0, k0_pay6 (F := Ideal) y a2 p⟩,
      ⟨Rect.unit ![0, 0, 0] ![1, 512, 1024] inb_S1x1024x1024_S1x512x1024_0_0_0, k0_pay5 (F := Ideal) y a1 f⟩,
      ⟨Rect.unit ![0, 0, 0] ![1, 1024, 1024] inb_S1x1024x1024_S1x1024x1024_0_0_0, z⟩] (ix3 0 r d) = A r d + dw (b := 1024) y f p s r d :=
  canon_pieces y f p s a1 a2 a3 [⟨Rect.unit ![0, 0, 0] ![1, 1024, 1024] inb_S1x1024x1024_S1x1024x1024_0_0_0, z⟩] A h1 h2 h3 r d

theorem ld_1 (X : FVec Ideal S1x1024x1024 .f32) (q : Fin 512) (e : Fin 1024) :
    View.ld (Val := Elt Ideal) (S := S1x1024x1024) (e' := .f32) X (Rect.unit ![0, 0, 0] ![1, 512, 1024] inb_S1x1024x1024_S1x512x1024_0_0_0) (ix3 0 q e)
      = X (ix3 0 ⟨q.val, by omega⟩ e) :=
  congrArg X (ix3_of _ _ _ _ rfl (by show 0 + 1 * q.val = q.val; omega) (by show 0 + 1 * e.val = e.val; omega))

theorem ld_2 (X : FVec Ideal S1x1024x1024 .f32) (q : Fin 256) (e : Fin 1024) :
    View.ld (Val := Elt Ideal) (S := S1x1024x1024) (e' := .f32) X (Rect.unit ![0, 512, 0] ![1, 256, 1024] inb_S1x1024x1024_S1x256x1024_0_512_0) (ix3 0 q e)
      = X (ix3 0 ⟨512 + q.val, by omega⟩ e) :=
  congrArg X (ix3_of _ _ _ _ rfl (by show 512 + 1 * q.val = 512 + q.val; omega) (by show 0 + 1 * e.val = e.val; omega))

theorem ld_3 (X : FVec Ideal S1x1024x1024 .f32) (q : Fin 256) (e : Fin 1024) :
    View.ld (Val := Elt Ideal) (S := S1x1024x1024) (e' := .f32) X (Rect.unit ![0, 768, 0] ![1, 256, 1024] inb_S1x1024x1024_S1x256x1024_0_768_0) (ix3 0 q e)
      = X (ix3 0 ⟨768 + q.val, by omega⟩ e) :=
  congrArg X (ix3_of _ _ _ _ rfl (by show 768 + 1 * q.val = 768 + q.val; omega) (by show 0 + 1 * e.val = e.val; omega))

/-- One entry of the mixers' gradient. -/
def dm {b : ℕ} (y : (⟨2, ![b, 1024]⟩ : Shape).Idx → EReal) {n : ℕ} (w : (⟨3, ![n + 1, 1024, 1024]⟩ : Shape).Idx → EReal) (r : Fin b) (d : Fin 1024) : EReal :=
  ∑ k : Fin 1024, y (ix2 r k) * w (ix3 0 d k)

variable (m : (ℓ : Loc nD τ sig) → Buf (Elt Ideal) ℓ) (c : Dev nD)

/-- A point's block of the mixers' gradient. -/
theorem dmix_at (t : Fin cfg0.N) (r d : Fin 1024) : (outsAt0 m c t.val t.isLt).1 (ix2 r d)
    = dm (b := 1024) (iblk m c 0 t) (n := 0) (iblk m c 4 t) r d := by
  by_cases h : t.val % 4 = 0
  · rw [outsAt0_A m c t h]; frame_out
    exact pay4_at _ _ _ _
  · rw [outsAt0_B m c t h]; frame_out
    exact pay4_at _ _ _ _

/-- The first point starts the weights' gradient from zero. -/
theorem dw_A (t : Fin cfg0.N) (h : t.val % 4 = 0) (r d : Fin 1024) : (outsAt0 m c t.val t.isLt).2 (ix3 0 r d)
    = 0 + dw (b := 1024) (iblk m c 0 t) (iblk m c 1 t) (iblk m c 2 t) (iblk m c 3 t) r d := by
  rw [outsAt0_A m c t h]; frame_out
  refine canon_first k0_pay2 (iblk m c 0 t) (iblk m c 1 t) (iblk m c 2 t) (iblk m c 3 t) _ _ _
    (fun _ _ => 0) (fun q e => ?_) (fun q e => ?_) (fun q e => ?_) r d
  · rw [View.readCov_fill _ _ _ _ _ (by decide)]
    exact pay2_at _
  · rw [View.readCov_skip _ _ _ _ _ (by decide), View.readCov_fill _ _ _ _ _ (by decide)]
    exact pay2_at _
  · rw [View.readCov_skip _ _ _ _ _ (by decide), View.readCov_skip _ _ _ _ _ (by decide), View.readCov_fill _ _ _ _ _ (by decide)]
    exact pay2_at _

/-- A later point adds its rows. -/
theorem dw_B (t : Fin cfg0.N) (h : ¬t.val % 4 = 0) (r d : Fin 1024) : (outsAt0 m c t.val t.isLt).2 (ix3 0 r d)
    = (outsAt0 m c (t.val - 1) (Nat.lt_of_le_of_lt (Nat.sub_le _ _) t.isLt)).2 (ix3 0 r d)
      + dw (b := 1024) (iblk m c 0 t) (iblk m c 1 t) (iblk m c 2 t) (iblk m c 3 t) r d := by
  rw [outsAt0_B m c t h]; frame_out
  refine canon_later (iblk m c 0 t) (iblk m c 1 t) (iblk m c 2 t) (iblk m c 3 t) _ _ _
    (fun r d => (outsAt0 m c (t.val - 1) (Nat.lt_of_le_of_lt (Nat.sub_le _ _) t.isLt)).2 (ix3 0 r d)) (fun q e => ?_) (fun q e => ?_) (fun q e => ?_) r d
  · exact ld_1 _ q e
  · exact ld_2 _ q e
  · exact ld_3 _ q e

/-- What the last point leaves in the weights' gradient: the sum over all points. -/
theorem dw_at (t : Fin cfg0.N) (ht : t.val + 1 = cfg0.N) (r d : Fin 1024) : (outsAt0 m c t.val t.isLt).2 (ix3 0 r d)
    = ∑ p : Fin cfg0.N, dw (b := 1024) (iblk m c 0 p) (iblk m c 1 p) (iblk m c 2 p) (iblk m c 3 p) r d := by
  have h := Pipeline.eq_sum_fin_of_reset_step_apply_last (ι := Fin 1024) (M := EReal)
    (fun n h d => (outsAt0 m c n h).2 (ix3 0 r d)) 4 (fun _ => 0)
    (fun p d => dw (b := 1024) (iblk m c 0 p) (iblk m c 1 p) (iblk m c 2 p) (iblk m c 3 p) r d)
    (fun t h d => dw_A m c t h r d)
    (fun t h d => dw_B m c t h r d)
    (le_of_eq N_0) t ht d
  exact h.trans (zero_add _)

end Cert.Proof.Ob

end
-- ==== Proof.Ob.Ref.lean ====
/-
  The output projection's backward reference over the extended reals, entry by entry.
-/
module

public import proofs.«01_k».proof.Proof.Ob.Body
public import proofs.«01_k».proof.Proof.Ob.Layer
public import proofs.«01_k».proof.Proof.Gen.Reference4Ideal.Read

@[expose] public section

set_option maxRecDepth 8192

noncomputable section

namespace Cert.Proof.Ob

open Cert.Reference4Ideal Cert.Reference4Ideal.Gen Cert.Reference4Ideal.Read
open Idealize.ShloMosaic Idealize.ShloMosaic.TcCoe Idealize.SL.Sem
open Cert.Proof.Out (ix2_of ix3_of)

variable (x0 : S4096x1024.Idx → EReal) (x1 : S4096x512.Idx → EReal) (x2 x3 : S4096x256.Idx → EReal)

/-- The mixers' outputs side by side. -/
theorem mixed (k : Fin 4096) (r : Fin 1024) : val_main_v0 (F := Ideal) x1 x2 x3 (ix2 k r) = mix x1 x2 x3 k r := by
  by_cases h : r.val < 512
  · rw [mix, dif_pos h]
    pointwise [val_main_v0]
    rw [dif_pos h]
  · by_cases h' : r.val < 768
    · rw [mix, dif_neg h, dif_pos h']
      pointwise [val_main_v0]
      rw [dif_neg h, dif_pos (by omega)]
    · rw [mix, dif_neg h, dif_neg h']
      pointwise [val_main_v0]
      rw [dif_neg h, dif_neg (by omega)]
      exact congrArg x3 (ix2_of _ _ _ rfl (by show r.val - 512 - 256 = r.val - 768; omega))

/-- The layer's weights. -/
theorem weights (x4 : S4x1024x1024.Idx → EReal) (k d : Fin 1024) : val_main_v2 (F := Ideal) x4 (ix2 k d) = x4 (ix3 0 k d) := by
  rw [val_main_v2_apply, val_main_v1_apply]
  exact congrArg x4 (ix3_of _ _ _ _ rfl (by show (k.val * 1024 + d.val) / 1024 % 1024 = k.val; omega)
    (by show (k.val * 1024 + d.val) % 1024 = d.val; omega))

/-- The mixers' gradient. -/
theorem ref_dm (x4 : S4x1024x1024.Idx → EReal) (r : Fin 4096) (d : Fin 1024) :
    val_main_v6 (F := Ideal) x0 x4 (ix2 r d) = dm (b := 4096) x0 (n := 3) x4 r d := by
  rw [val_main_v6_apply]
  refine Finset.sum_congr rfl fun k _ => ?_
  rw [← weights x4 d k]
  exact congrArg₂ (fun i j => x0 i * val_main_v2 (F := Ideal) x4 j) (ix2_of _ _ _ rfl rfl) (ix2_of _ _ _ rfl rfl)

/-- The weights' gradient. -/
theorem ref_dw (r d : Fin 1024) : val_main_v5 (F := Ideal) x0 x1 x2 x3 (ix2 r d) = dw (b := 4096) x0 x1 x2 x3 r d := by
  rw [val_main_v5_apply, val_main_v4_apply]
  refine Finset.sum_congr rfl fun k _ => ?_
  rw [← mixed x1 x2 x3 k r, mul_comm]
  exact congrArg₂ (fun i j => val_main_v0 (F := Ideal) x1 x2 x3 i * x0 j) (ix2_of _ _ _ rfl rfl) (ix2_of _ _ _ rfl rfl)

/-- The stack with the gradient in layer 0. -/
theorem ref_stack (x5 : S4x1024x1024.Idx → EReal) (i : S4x1024x1024.Idx) (r d : Fin 1024) (hr : (i 1).val = r.val) (hd : (i 2).val = d.val) :
    val_main_v8 (F := Ideal) x0 x1 x2 x3 x5 i = if (i 0).val = 0 then dw (b := 4096) x0 x1 x2 x3 r d else x5 i := by
  rw [← ref_dw]
  exact scatter_layer _ x5 _ (fun i => by rw [val_main_v7_apply]; rfl) _ i r d hr hd

end Cert.Proof.Ob

end
-- ==== Proof.Ob.Kernel.lean ====
/-
  The output projection's backward kernel over the extended reals: its windows and its two result arrays.
-/
module

public import proofs.«01_k».proof.Proof.Ob.Body

@[expose] public section

set_option maxRecDepth 8192

noncomputable section

namespace Cert.Proof.Ob

open Cert.Kernel4Ideal Cert.Kernel4Ideal.Gen
open Idealize.ShloMosaic Idealize.ShloMosaic.TcCoe Idealize.SL.Sem
open Cert.Proof.Out (ix2_of ix3_of)

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_5 : ∀ t : Fin cfg0.N, win0_5.index t = ![t.val, 0] := by decide +kernel
theorem index_4 : ∀ t : Fin cfg0.N, win0_4.index t = ![0, 0, 0] := by decide +kernel
theorem index_6 : ∀ t : Fin cfg0.N, win0_6.index t = ![0, 0, 0] := by decide +kernel

variable (m : (ℓ : Loc nD τ sig) → Buf (Elt Ideal) ℓ) (c : Dev nD)

/-- The row of the array that row `r` of point `t`'s block is. -/
def row (t : Fin cfg0.N) (r : Fin 1024) : Fin 4096 :=
  ⟨1024 * t.val + r.val, by have : t.val < 4 := t.isLt; omega⟩

theorem blk0 (t : Fin cfg0.N) (r : Fin 1024) (d : Fin 1024) : iblk m c 0 t (ix2 r d) = V m c main_arg0 (ix2 (row t r) d) := by
  have e0 : ((win0_0.blk t).view.emb (ix2 r d) 0 : Fin _).val = win0_0.index t 0 * 1024 + r.val := by blk_simp
  have e1 : ((win0_0.blk t).view.emb (ix2 r d) 1 : Fin _).val = win0_0.index t 1 * 1024 + d.val := by blk_simp
  rw [index_0] at e0 e1
  blk_simp [iblk]
  exact congrArg _ (ix2_of _ (row t r) d (e0.trans (by show t.val * 1024 + r.val = 1024 * t.val + r.val; omega)) (e1.trans (by show 0 * 1024 + d.val = d.val; omega)))

theorem blk1 (t : Fin cfg0.N) (r : Fin 1024) (d : Fin 512) : iblk m c 1 t (ix2 r d) = V m c main_v0 (ix2 (row t r) d) := by
  have e0 : ((win0_1.blk t).view.emb (ix2 r d) 0 : Fin _).val = win0_1.index t 0 * 1024 + r.val := by blk_simp
  have e1 : ((win0_1.blk t).view.emb (ix2 r d) 1 : Fin _).val = win0_1.index t 1 * 512 + d.val := by blk_simp
  rw [index_1] at e0 e1
  blk_simp [iblk]
  exact congrArg _ (ix2_of _ (row t r) d (e0.trans (by show t.val * 1024 + r.val = 1024 * t.val + r.val; omega)) (e1.trans (by show 0 * 512 + d.val = d.val; omega)))

theorem blk2 (t : Fin cfg0.N) (r : Fin 1024) (d : Fin 256) : iblk m c 2 t (ix2 r d) = V m c main_v1 (ix2 (row t r) d) := by
  have e0 : ((win0_2.blk t).view.emb (ix2 r d) 0 : Fin _).val = win0_2.index t 0 * 1024 + r.val := by blk_simp
  have e1 : ((win0_2.blk t).view.emb (ix2 r d) 1 : Fin _).val = win0_2.index t 1 * 256 + d.val := by blk_simp
  rw [index_2] at e0 e1
  blk_simp [iblk]
  exact congrArg _ (ix2_of _ (row t r) d (e0.trans (by show t.val * 1024 + r.val = 1024 * t.val + r.val; omega)) (e1.trans (by show 0 * 256 + d.val = d.val; omega)))

theorem blk3 (t : Fin cfg0.N) (r : Fin 1024) (d : Fin 256) : iblk m c 3 t (ix2 r d) = V m c main_v2 (ix2 (row t r) d) := by
  have e0 : ((win0_3.blk t).view.emb (ix2 r d) 0 : Fin _).val = win0_3.index t 0 * 1024 + r.val := by blk_simp
  have e1 : ((win0_3.blk t).view.emb (ix2 r d) 1 : Fin _).val = win0_3.index t 1 * 256 + d.val := by blk_simp
  rw [index_3] at e0 e1
  blk_simp [iblk]
  exact congrArg _ (ix2_of _ (row t r) d (e0.trans (by show t.val * 1024 + r.val = 1024 * t.val + r.val; omega)) (e1.trans (by show 0 * 256 + d.val = d.val; omega)))

theorem blk4 (t : Fin cfg0.N) (k d : Fin 1024) : iblk m c 4 t (ix3 0 k d) = V m c main_v3 (ix3 0 k d) := by
  have e0 : ((win0_4.blk t).view.emb (ix3 0 k d) 0 : Fin _).val = win0_4.index t 0 := by blk_simp; simp
  have e1 : ((win0_4.blk t).view.emb (ix3 0 k d) 1 : Fin _).val = win0_4.index t 1 * 1024 + k.val := by blk_simp
  have e2 : ((win0_4.blk t).view.emb (ix3 0 k d) 2 : Fin _).val = win0_4.index t 2 * 1024 + d.val := by blk_simp
  rw [index_4] at e0 e1 e2
  blk_simp [iblk]
  exact congrArg _ (ix3_of _ 0 k d (e0.trans rfl) (e1.trans (by show 0 * 1024 + k.val = k.val; omega)) (e2.trans (by show 0 * 1024 + d.val = d.val; omega)))

theorem V_v0 : V m c main_v0 = (m (c, Proc.devRef .tc main_arg1) : S4096x512.Idx → EReal) := by
  rw [V]; after_results_simp; rfl
theorem V_v1 : V m c main_v1 = (m (c, Proc.devRef .tc main_arg2) : S4096x256.Idx → EReal) := by
  rw [V]; after_results_simp; rfl
theorem V_v2 : V m c main_v2 = (m (c, Proc.devRef .tc main_arg3) : S4096x256.Idx → EReal) := by
  rw [V]; after_results_simp; rfl
theorem V_v3 : V m c main_v3 = (m (c, Proc.devRef .tc main_arg4) : S4x1024x1024.Idx → EReal) := by
  rw [V]; after_results_simp; rfl

/-- The whole array of the mixers' gradient. -/
theorem result_dm (r : Fin 4096) (d : Fin 1024) : (dats m 0 c).arrAt 5 cfg0.N (ix2 r d)
    = dm (b := 4096) (m (c, Proc.devRef .tc main_arg0)) (n := 3) (m (c, Proc.devRef .tc main_arg4)) r d := by
  refine (dats m 0 c).arrAt_forall_of_covers 5 (fun i a => a = dm (b := 4096) (m (c, Proc.devRef .tc main_arg0)) (n := 3)
    (m (c, Proc.devRef .tc main_arg4)) (i 0) (i 1)) (by decide +kernel) (fun t hf y => ?_) (ix2 r d)
  have y0 : (y 0).val < 1024 := (y 0).isLt
  have y1 : (y 1).val < 1024 := (y 1).isLt
  have e0 : ((win0_5.blk t).view.emb y 0 : Fin _).val = win0_5.index t 0 * 1024 + (y 0).val := by blk_simp
  have e1 : ((win0_5.blk t).view.emb y 1 : Fin _).val = win0_5.index t 1 * 1024 + (y 1).val := by blk_simp
  rw [index_5] at e0 e1
  have f0 : (win0_5.blk t).view.emb y 0 = row t ⟨(y 0).val, y0⟩ :=
    Fin.ext (e0.trans (by show t.val * 1024 + (y 0).val = 1024 * t.val + (y 0).val; omega))
  have f1 : (win0_5.blk t).view.emb y 1 = (⟨(y 1).val, y1⟩ : Fin 1024) := Fin.ext (e1.trans (by show 0 * 1024 + (y 1).val = (y 1).val; omega))
  have h := dmix_at m c t ⟨(y 0).val, y0⟩ ⟨(y 1).val, y1⟩
  simp only [dm, blk0, blk4] at h
  have hy : y = ix2 (⟨(y 0).val, y0⟩ : Fin 1024) (⟨(y 1).val, y1⟩ : Fin 1024) := ix2_of _ _ _ rfl rfl
  blk_simp
  rw [after0_5]
  refine (congrArg (outsAt0 m c t.val t.isLt).1 hy).trans (h.trans ?_)
  rw [f0, f1, V_v3, V_main_arg0]
  rfl

/-- The weights' gradient of the whole sequence, as a sum over the points. -/
theorem dw_sum (r d : Fin 1024) : ∑ p : Fin cfg0.N, dw (b := 1024) (iblk m c 0 p) (iblk m c 1 p) (iblk m c 2 p) (iblk m c 3 p) r d
    = dw (b := 4096) (m (c, Proc.devRef .tc main_arg0)) (m (c, Proc.devRef .tc main_arg1)) (m (c, Proc.devRef .tc main_arg2))
      (m (c, Proc.devRef .tc main_arg3)) r d := by
  have hm : ∀ (p : Fin cfg0.N) (k : Fin 1024), mix (b := 1024) (iblk m c 1 p) (iblk m c 2 p) (iblk m c 3 p) k r
      = mix (b := 4096) (m (c, Proc.devRef .tc main_arg1)) (m (c, Proc.devRef .tc main_arg2)) (m (c, Proc.devRef .tc main_arg3)) (row p k) r := fun p k => by
    simp only [mix, blk1, blk2, blk3]
    rw [V_v0, V_v1, V_v2]
  have hy : ∀ (p : Fin cfg0.N) (k : Fin 1024), iblk m c 0 p (ix2 k d) = (m (c, Proc.devRef .tc main_arg0) : S4096x1024.Idx → EReal) (ix2 (row p k) d) :=
    fun p k => by rw [blk0, V_main_arg0]
  rw [dw]
  refine Fin.sum_mul_add_congr (L := 4096) (S := 4) (n := 1024) (fun p k hl => ?_) rfl
  have hr : row p k = ⟨p.val * 1024 + k.val, hl⟩ := Fin.ext (by show 1024 * p.val + k.val = p.val * 1024 + k.val; omega)
  rw [← hr]
  exact congrArg₂ (· * ·) (hm p k) (hy p k)

/-- The whole stack: layer 0 is the weights' gradient, the others are as passed in. -/
theorem result_dw (i : S4x1024x1024.Idx) (r d : Fin 1024) (hr : (i 1).val = r.val) (hd : (i 2).val = d.val) : (dats m 0 c).arrAt 6 cfg0.N i
    = if (i 0).val = 0 then dw (b := 4096) (m (c, Proc.devRef .tc main_arg0)) (m (c, Proc.devRef .tc main_arg1)) (m (c, Proc.devRef .tc main_arg2))
      (m (c, Proc.devRef .tc main_arg3)) r d else (m (c, Proc.devRef .tc main_arg5) : S4x1024x1024.Idx → EReal) i := by
  refine ((dats m 0 c).arrAt_apply_of_coversWhere 6 (fun i : S4x1024x1024.Idx => dw (b := 4096) (m (c, Proc.devRef .tc main_arg0))
    (m (c, Proc.devRef .tc main_arg1)) (m (c, Proc.devRef .tc main_arg2)) (m (c, Proc.devRef .tc main_arg3)) (i 1) (i 2))
    (P := fun i : S4x1024x1024.Idx => (i 0).val = 0) (fun β => β 0 = 0) (by decide +kernel) (fun t hf y => ?_) (fun j => ?_) i).trans ?_
  · have ht : t.val + 1 = cfg0.N := by
      have := (flush0_6 t).mp hf; have h : t.val < 4 := t.isLt; show t.val + 1 = 4; omega
    have y0 : (y 0).val < 1 := (y 0).isLt
    have y1 : (y 1).val < 1024 := (y 1).isLt
    have y2 : (y 2).val < 1024 := (y 2).isLt
    have e1 : ((win0_6.blk t).view.emb y 1 : Fin _).val = win0_6.index t 1 * 1024 + (y 1).val := by blk_simp
    have e2 : ((win0_6.blk t).view.emb y 2 : Fin _).val = win0_6.index t 2 * 1024 + (y 2).val := by blk_simp
    rw [index_6] at e1 e2
    have f1 : (win0_6.blk t).view.emb y 1 = (⟨(y 1).val, y1⟩ : Fin 1024) := Fin.ext (e1.trans (by show 0 * 1024 + (y 1).val = (y 1).val; omega))
    have f2 : (win0_6.blk t).view.emb y 2 = (⟨(y 2).val, y2⟩ : Fin 1024) := Fin.ext (e2.trans (by show 0 * 1024 + (y 2).val = (y 2).val; omega))
    have h := (dw_at m c t ht ⟨(y 1).val, y1⟩ ⟨(y 2).val, y2⟩).trans (dw_sum m c _ _)
    have hy : y = ix3 (0 : Fin 1) (⟨(y 1).val, y1⟩ : Fin 1024) (⟨(y 2).val, y2⟩ : Fin 1024) :=
      ix3_of _ _ _ _ (by show (y 0).val = 0; omega) rfl rfl
    blk_simp
    rw [after0_6]
    refine (congrArg (outsAt0 m c t.val t.isLt).2 hy).trans (h.trans ?_)
    rw [f1, f2]
  · blk_simp [Pipeline.Window.cell_apply]
    omega
  · have hr' : (i 1 : Fin 1024) = r := Fin.ext hr
    have hd' : (i 2 : Fin 1024) = d := Fin.ext hd
    rw [hr', hd']
    refine congrArg (fun z => if (i 0).val = 0 then _ else z) ?_
    refine (congrFun (A_eq m c 6) i).trans ?_
    show V m c main_v4_1 i = _
    rw [V]; after_results_simp; rfl

end Cert.Proof.Ob

end
-- ==== Proof.Ob.Claim.lean ====
/-
  The output projection's backward kernel: its frames, and the value claim.
-/
module

public import proofs.«01_k».proof.Defs
public import proofs.«01_k».proof.Proof.Ob.Ref
public import proofs.«01_k».proof.Proof.Ob.Kernel
public import proofs.«01_k».proof.Proof.Gen.Kernel4.Frame
public import proofs.«01_k».proof.Proof.Gen.Reference4Ideal.Run

@[expose] public section

noncomputable section

namespace Cert.Proof.Ob

open Idealize.ShloMosaic Idealize.ShloMosaic.TcCoe Idealize.SL.Sem

theorem frame_kernel : Cert.quiescent_Kernel4 := fun m ρ _ => Cert.Kernel4.Gen.frame m ρ

theorem frame_ideal : Cert.quiescent_Kernel4Ideal := fun m ρ _ => Cert.Kernel4Ideal.Gen.frame m ρ

/-- The reference's run, its arguments as launched; it declares no semaphore. -/
theorem frame_reference : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem preserves : Cert.preserves_Kernel4_Kernel4Ideal := trivial

theorem algebraic : Cert.algebraic_Kernel4Ideal_Reference4Ideal := by
  intro m g m' g' _ hin
  refine ⟨fun c => (Cert.Kernel4Ideal.Gen.dats m 0 c).arrAt 5 Cert.Kernel4Ideal.cfg0.N,
    fun c => (Cert.Kernel4Ideal.Gen.dats m 0 c).arrAt 6 Cert.Kernel4Ideal.cfg0.N, Cert.Kernel4Ideal.Value.run_blocks m g, ?_⟩
  refine (θ_run _ _ _).mono (fun r h c => ?_) (Cert.Reference4Ideal.Value.run (F := Ideal) m' g')
  obtain ⟨e, e', k⟩ := h c
  obtain ⟨i0, i1, i2, i3, i4, i5⟩ := hin c
  refine ⟨e.trans ((Cert.Reference4Ideal.Read.val_main_v6_eq _ _).trans (funext fun i => ?_)),
    e'.trans ((Cert.Reference4Ideal.Read.val_main_v8_eq _ _ _ _ _).trans (funext fun i => ?_)), k⟩
  · rw [eq_ix2 i]
    refine (ref_dm _ _ _ _).trans (Eq.trans ?_ (result_dm m c _ _).symm)
    rw [i0, i4]
  · refine (ref_stack _ _ _ _ _ i (i 1) (i 2) rfl rfl).trans (Eq.trans ?_ (result_dw m c i (i 1) (i 2) rfl rfl).symm)
    rw [i0, i1, i2, i3, i5]

end Cert.Proof.Ob

end
-- ==== Proof.Inp.Kernel.lean ====
/-
  The forward input projection's kernel over the extended reals, entry by entry.
-/
module

public import proofs.«01_k».proof.Proof.Inp.Run
public import proofs.«01_k».proof.Proof.Dx.Kernel

@[expose] public section

set_option maxRecDepth 8192

noncomputable section

namespace Cert.Proof.Inp

open Cert.Kernel5Ideal Cert.Kernel5Ideal.Gen
open Idealize.ShloMosaic Idealize.ShloMosaic.TcCoe Idealize.SL.Sem
open Cert.Proof.Out (ix2_of ix3_of)
open Cert.Proof.Dx (sq xh)

/-- One entry of the normed rows. -/
def hE {b : ℕ} (x : Shape.Idx ⟨2, ![b, 1024]⟩ → EReal) (g : Shape.Idx ⟨2, ![1, 1024]⟩ → EReal) (r : Fin b) (d : Fin 1024) : EReal :=
  xh x r d * g (ix2 0 d)

/-- One entry of their projection: the product with row `n` of the first layer's weights. -/
def pE {b l k : ℕ} [NeZero l] (x : Shape.Idx ⟨2, ![b, 1024]⟩ → EReal) (g : Shape.Idx ⟨2, ![1, 1024]⟩ → EReal)
    (w : Shape.Idx ⟨3, ![l, k, 1024]⟩ → EReal) (r : Fin b) (n : Fin k) : EReal :=
  ∑ d : Fin 1024, hE x g r d * w (ix3 0 n d)

/-! ### The body's values -/

theorem pay1_at (x : FVec Ideal S1024x1024 .f32) (g : FVec Ideal S1x1024 .f32) (r d : Fin 1024) :
    k0_pay1 (F := Ideal) x g (ix2 r d) = hE (b := 1024) x g r d := by
  unfold hE xh Dx.sq
  pointwise [k0_pay1]

theorem pay2_at (x : FVec Ideal S1024x1024 .f32) (g : FVec Ideal S1x1024 .f32) (w : FVec Ideal S1x128x1024 .bf16) (r : Fin 1024) (n : Fin 128) :
    k0_pay2 (F := Ideal) x g w (ix2 r n) = pE (b := 1024) (l := 1) (k := 128) x g w r n := by
  unfold pE
  simp only [← pay1_at]
  pointwise [k0_pay2]

theorem pay3_at (x : FVec Ideal S1024x1024 .f32) (g : FVec Ideal S1x1024 .f32) (w : FVec Ideal S1x1792x1024 .bf16) (r : Fin 1024) (n : Fin 1792) :
    k0_pay3 (F := Ideal) (k0_pay1 (F := Ideal) x g) w (ix2 r n) = pE (b := 1024) (l := 1) (k := 1792) x g w r n := by
  unfold pE
  simp only [← pay1_at]
  generalize k0_pay1 (F := Ideal) x g = h
  pointwise [k0_pay3]

/-! ### The windows -/

theorem index_0 : ∀ t : Fin cfg0.N, win0_0.index t = ![t.val / 2, 0] := by decide +kernel
theorem index_1 : ∀ t : Fin cfg0.N, win0_1.index t = ![0, 0] := by decide +kernel
theorem index_2 : ∀ t : Fin cfg0.N, win0_2.index t = ![0, t.val % 2, 0] := by decide +kernel
theorem index_3 : ∀ t : Fin cfg0.N, win0_3.index t = ![0, 28, 0] := by decide +kernel
theorem index_4 : ∀ t : Fin cfg0.N, win0_4.index t = ![t.val / 2, t.val % 2] := by decide +kernel
theorem index_5 : ∀ t : Fin cfg0.N, win0_5.index t = ![t.val / 2, 0] := by decide +kernel
theorem index_6 : ∀ t : Fin cfg0.N, win0_6.index t = ![t.val / 2, 0] := by decide +kernel

variable (m : (ℓ : Loc nD τ sig) → Buf (Elt Ideal) ℓ) (c : Dev nD)

/-- The row of the array that row `r` of point `t`'s block is. -/
def row (t : Fin cfg0.N) (r : Fin 1024) : Fin 4096 :=
  ⟨1024 * (t.val / 2) + r.val, by have : t.val < 8 := t.isLt; omega⟩

theorem row_base (t : Fin cfg0.N) (r : Fin 1024) : row (base t) r = row t r :=
  Fin.ext (by unfold row base; dsimp only; omega)

theorem blk0 (t : Fin cfg0.N) (r : Fin 1024) (d : Fin 1024) : iblk m c 0 t (ix2 r d) = V m c main_arg0 (ix2 (row t r) d) := by
  have e0 : ((win0_0.blk t).view.emb (ix2 r d) 0 : Fin _).val = win0_0.index t 0 * 1024 + r.val := by blk_simp
  have e1 : ((win0_0.blk t).view.emb (ix2 r d) 1 : Fin _).val = win0_0.index t 1 * 1024 + d.val := by blk_simp
  rw [index_0] at e0 e1
  blk_simp [iblk]
  exact congrArg _ (ix2_of _ (row t r) d (e0.trans (by show t.val / 2 * 1024 + r.val = 1024 * (t.val / 2) + r.val; omega)) (e1.trans (by show 0 * 1024 + d.val = d.val; omega)))

theorem blk1 (t : Fin cfg0.N) (d : Fin 1024) : iblk m c 1 t (ix2 0 d) = V m c main_arg1 (ix2 0 d) := by
  have e0 : ((win0_1.blk t).view.emb (ix2 0 d) 0 : Fin _).val = win0_1.index t 0 := by blk_simp; simp
  have e1 : ((win0_1.blk t).view.emb (ix2 0 d) 1 : Fin _).val = win0_1.index t 1 * 1024 + d.val := by blk_simp
  rw [index_1] at e0 e1
  blk_simp [iblk]
  exact congrArg _ (ix2_of _ 0 d (e0.trans rfl) (e1.trans (by show 0 * 1024 + d.val = d.val; omega)))

/-- The row of the weights that row `n` of point `t`'s block is. -/
def col (t : Fin cfg0.N) (n : Fin 1792) : Fin 3712 := ⟨1792 * (t.val % 2) + n.val, by omega⟩

theorem blk2 (t : Fin cfg0.N) (n : Fin 1792) (d : Fin 1024) :
    X0_2 m c t (ix3 0 n d) = V m c main_v0 (ix3 0 (col t n) d) := by
  refine (dif_pos (moved0_2 t (ix3 0 n d))).trans ?_
  generalize hj : (fun a => ⟨((ix3 0 n d : S1x1792x1024.Idx) a).val, ((cfg0.win 2).moved_iff (cfg0.grid.coords t) (ix3 0 n d)).mp (moved0_2 t (ix3 0 n d)) a⟩
    : ((cfg0.win 2).xblock (cfg0.grid.coords t)).Idx) = j
  have j0 : (j 0).val = 0 := by rw [← hj]; rfl
  have j1 : (j 1).val = n.val := by rw [← hj]; rfl
  have j2 : (j 2).val = d.val := by rw [← hj]; rfl
  have e0 : ((win0_2.blk t).view.emb j 0 : Fin _).val = win0_2.index t 0 * 1 + (j 0).val := Pipeline.Window.rect_emb_val win0_2 t j 0 rfl
  have e1 : ((win0_2.blk t).view.emb j 1 : Fin _).val = win0_2.index t 1 * 1792 + (j 1).val := Pipeline.Window.rect_emb_val win0_2 t j 1 rfl
  have e2 : ((win0_2.blk t).view.emb j 2 : Fin _).val = win0_2.index t 2 * 1024 + (j 2).val := Pipeline.Window.rect_emb_val win0_2 t j 2 rfl
  rw [index_2, j0] at e0
  rw [index_2, j1] at e1
  rw [index_2, j2] at e2
  show V m c main_v0 ((win0_2.blk t).view.emb j) = _
  exact congrArg (V m c main_v0) (ix3_of _ 0 (col t n) d (e0.trans rfl) (e1.trans (by show t.val % 2 * 1792 + n.val = 1792 * (t.val % 2) + n.val; omega))
    (e2.trans (by show 0 * 1024 + d.val = d.val; omega)))

theorem blk3 (t : Fin cfg0.N) (n : Fin 128) (d : Fin 1024) :
    iblk m c 3 t (ix3 0 n d) = V m c main_v0 (ix3 0 ⟨3584 + n.val, by omega⟩ d) := by
  have e0 : ((win0_3.blk t).view.emb (ix3 0 n d) 0 : Fin _).val = win0_3.index t 0 := by blk_simp; simp
  have e1 : ((win0_3.blk t).view.emb (ix3 0 n d) 1 : Fin _).val = win0_3.index t 1 * 128 + n.val := by blk_simp
  have e2 : ((win0_3.blk t).view.emb (ix3 0 n d) 2 : Fin _).val = win0_3.index t 2 * 1024 + d.val := by blk_simp
  rw [index_3] at e0 e1 e2
  blk_simp [iblk]
  exact congrArg _ (ix3_of _ 0 ⟨3584 + n.val, by omega⟩ d (e0.trans rfl) (e1.trans (by show 28 * 128 + n.val = 3584 + n.val; omega))
    (e2.trans (by show 0 * 1024 + d.val = d.val; omega)))

theorem V_v0 : V m c main_v0 = (m (c, Proc.devRef .tc main_arg2) : S4x3712x1024.Idx → EReal) := by
  rw [V]; after_results_simp; rfl

end Cert.Proof.Inp

end
-- ==== Proof.Inp.Ref.lean ====
/-
  The forward input projection's reference over the extended reals, entry by entry.
-/
module

public import proofs.«01_k».proof.Proof.Gen.Reference5Ideal.Read
public import proofs.«01_k».proof.Proof.Inp.Kernel

@[expose] public section

set_option maxRecDepth 8192

noncomputable section

namespace Cert.Proof.Inp

open Cert.Reference5Ideal Cert.Reference5Ideal.Read
open Idealize.ShloMosaic Idealize.ShloMosaic.TcCoe Idealize.SL.Sem
open Cert.Proof.Out (ix2_of ix3_of)
open Cert.Proof.Dx (xh)

variable (x0 : S4096x1024.Idx → EReal) (x1 : S1x1024.Idx → EReal) (x2 : S4x3712x1024.Idx → EReal)

theorem v6 (r : Fin 4096) : val_main_v6 (F := Ideal) x0 (ix2 r 0) = Dx.sq (b := 4096) x0 r := by
  unfold Dx.sq
  pointwise [val_main_v6, val_main_v5, val_main_v4, val_main_v3, val_main_v2, val_main_v1, val_main_v0, val_main_cst, val_main_cst_0, val_main_cst_1]

theorem v11 (r : Fin 4096) (d : Fin 1024) : val_main_v11 (F := Ideal) x0 x1 (ix2 r d) = hE (b := 4096) x0 x1 r d := by
  unfold hE xh
  rw [← v6]
  pointwise [val_main_v11, val_main_v10, val_main_v9, val_main_v8, val_main_v7]

theorem v14 (n : Fin 3712) (d : Fin 1024) : val_main_v14 (F := Ideal) x2 (ix2 d n) = x2 (ix3 0 n d) := by
  rw [val_main_v14_apply, val_main_v13_apply, val_main_v12_apply]
  exact congrArg x2 (ix3_of _ _ _ _ rfl (by show (n.val * 1024 + d.val) / 1024 % 3712 = n.val; omega)
    (by show (n.val * 1024 + d.val) % 1024 = d.val; omega))

theorem v15 (r : Fin 4096) (n : Fin 3712) : val_main_v15 (F := Ideal) x0 x1 x2 (ix2 r n) = pE (b := 4096) (l := 4) (k := 3712) x0 x1 x2 r n := by
  rw [val_main_v15_apply]
  unfold pE
  refine Finset.sum_congr rfl fun d _ => ?_
  rw [← v11, ← v14 x2 n d]
  exact congrArg₂ (fun i j => val_main_v11 (F := Ideal) x0 x1 i * val_main_v14 (F := Ideal) x2 j) (ix2_of _ _ _ rfl rfl) (ix2_of _ _ _ rfl rfl)

theorem reference_p (r : Fin 4096) (n : Fin 3584) : val_main_v16 (F := Ideal) x0 x1 x2 (ix2 r n)
    = pE (b := 4096) (l := 4) (k := 3712) x0 x1 x2 r ⟨n.val, by omega⟩ := by
  rw [val_main_v16_apply, ← v15]
  exact congrArg (val_main_v15 (F := Ideal) x0 x1 x2) (ix2_of _ _ _ rfl rfl)

theorem reference_f (r : Fin 4096) (n : Fin 128) : val_main_v17 (F := Ideal) x0 x1 x2 (ix2 r n)
    = pE (b := 4096) (l := 4) (k := 3712) x0 x1 x2 r ⟨3584 + n.val, by omega⟩ := by
  rw [val_main_v17_apply, ← v15]
  exact congrArg (val_main_v15 (F := Ideal) x0 x1 x2) (ix2_of _ _ _ rfl rfl)

theorem reference_h (r : Fin 4096) (d : Fin 1024) : val_main_v18 (F := Ideal) x0 x1 (ix2 r d) = hE (b := 4096) x0 x1 r d := by
  rw [val_main_v18_apply, ← v11]
  rfl

end Cert.Proof.Inp

end
-- ==== Proof.Inp.Result.lean ====
/-
  The forward input projection's three result arrays over the extended reals.
-/
module

public import proofs.«01_k».proof.Proof.Inp.Kernel

@[expose] public section

set_option maxRecDepth 8192

noncomputable section

namespace Cert.Proof.Inp

open Cert.Kernel5Ideal Cert.Kernel5Ideal.Gen
open Idealize.ShloMosaic Idealize.ShloMosaic.TcCoe Idealize.SL.Sem
open Cert.Proof.Out (ix2_of ix3_of)
open Cert.Proof.Dx (xh)

/-- A normed entry needs the entry's row only. -/
theorem hE_congr {a b : ℕ} (x : Shape.Idx ⟨2, ![a, 1024]⟩ → EReal) (y : Shape.Idx ⟨2, ![b, 1024]⟩ → EReal)
    (g h : Shape.Idx ⟨2, ![1, 1024]⟩ → EReal) (r : Fin a) (s : Fin b)
    (e : ∀ d, x (ix2 r d) = y (ix2 s d)) (eg : ∀ d, g (ix2 0 d) = h (ix2 0 d)) (d : Fin 1024) : hE x g r d = hE y h s d := by
  unfold hE xh Dx.sq
  simp only [e, eg]

theorem pE_congr {a b l n k j : ℕ} [NeZero l] [NeZero n] (x : Shape.Idx ⟨2, ![a, 1024]⟩ → EReal) (y : Shape.Idx ⟨2, ![b, 1024]⟩ → EReal)
    (g h : Shape.Idx ⟨2, ![1, 1024]⟩ → EReal) (w : Shape.Idx ⟨3, ![l, k, 1024]⟩ → EReal) (v : Shape.Idx ⟨3, ![n, j, 1024]⟩ → EReal)
    (r : Fin a) (s : Fin b) (p : Fin k) (q : Fin j)
    (e : ∀ d, x (ix2 r d) = y (ix2 s d)) (eg : ∀ d, g (ix2 0 d) = h (ix2 0 d)) (ew : ∀ d, w (ix3 0 p d) = v (ix3 0 q d)) :
    pE x g w r p = pE y h v s q := by
  unfold pE
  simp only [hE_congr x y g h r s e eg, ew]

variable (m : (ℓ : Loc nD τ sig) → Buf (Elt Ideal) ℓ) (c : Dev nD)

/-- The rows, the scales and the weights, as launched. -/
def X : S4096x1024.Idx → EReal := m (c, Proc.devRef .tc main_arg0)
def G : S1x1024.Idx → EReal := m (c, Proc.devRef .tc main_arg1)
def W : S4x3712x1024.Idx → EReal := m (c, Proc.devRef .tc main_arg2)

theorem x_at (t : Fin cfg0.N) (r d : Fin 1024) : iblk m c 0 (base t) (ix2 r d) = X m c (ix2 (row t r) d) := by
  rw [blk0, V_main_arg0, row_base]; rfl

theorem g_at (t : Fin cfg0.N) (d : Fin 1024) : iblk m c 1 (base t) (ix2 0 d) = G m c (ix2 0 d) := by
  rw [blk1, V_main_arg1]; rfl

theorem hAt_at (t : Fin cfg0.N) (r d : Fin 1024) : hAt m c t (ix2 r d) = hE (b := 4096) (X m c) (G m c) (row t r) d := by
  unfold hAt
  exact (pay1_at _ _ r d).trans (hE_congr (a := 1024) (b := 4096) _ _ _ _ r (row t r) (x_at m c t r) (g_at m c t) d)

theorem fAt_at (t : Fin cfg0.N) (r : Fin 1024) (n : Fin 128) : fAt m c t (ix2 r n)
    = pE (b := 4096) (l := 4) (k := 3712) (X m c) (G m c) (W m c) (row t r) ⟨3584 + n.val, by omega⟩ := by
  unfold fAt
  exact (pay2_at _ _ _ r n).trans (pE_congr (a := 1024) (b := 4096) (l := 1) (n := 4) (k := 128) (j := 3712) _ _ _ _ _ _ r (row t r) n _ (x_at m c t r) (g_at m c t)
    (fun d => by rw [blk3, V_v0]; rfl))

theorem pAt_at (t : Fin cfg0.N) (r : Fin 1024) (n : Fin 1792) : pAt m c t (ix2 r n)
    = pE (b := 4096) (l := 4) (k := 3712) (X m c) (G m c) (W m c) (row t r) (col t n) := by
  unfold pAt hAt
  exact (pay3_at _ _ _ r n).trans (pE_congr (a := 1024) (b := 4096) (l := 1) (n := 4) (k := 1792) (j := 3712) _ _ _ _ _ _ r (row t r) n _ (x_at m c t r) (g_at m c t)
    (fun d => by rw [blk2, V_v0]; rfl))

/-- The projection on the main columns. -/
theorem result_p (r : Fin 4096) (n : Fin 3584) : (dats m 0 c).arrAt 4 cfg0.N (ix2 r n)
    = pE (b := 4096) (l := 4) (k := 3712) (X m c) (G m c) (W m c) r ⟨n.val, by omega⟩ := by
  refine ((dats m 0 c).arrAt_forall_of_covers 4 (fun i a => ∀ (r : Fin 4096) (n : Fin 3584), (i 0).val = r.val → (i 1).val = n.val →
    a = pE (b := 4096) (l := 4) (k := 3712) (X m c) (G m c) (W m c) r ⟨n.val, by omega⟩) (by decide +kernel) (fun t hf y r n hr hn => ?_) (ix2 r n)) r n rfl rfl
  have y0 : (y 0).val < 1024 := (y 0).isLt
  have y1 : (y 1).val < 1792 := (y 1).isLt
  have e0 : ((win0_4.blk t).view.emb y 0 : Fin _).val = win0_4.index t 0 * 1024 + (y 0).val := by blk_simp
  have e1 : ((win0_4.blk t).view.emb y 1 : Fin _).val = win0_4.index t 1 * 1792 + (y 1).val := by blk_simp
  rw [index_4] at e0 e1
  have f0 : r = row t ⟨(y 0).val, y0⟩ := Fin.ext (hr.symm.trans (e0.trans (by show t.val / 2 * 1024 + (y 0).val = 1024 * (t.val / 2) + (y 0).val; omega)))
  have f1 : (⟨n.val, by omega⟩ : Fin 3712) = col t ⟨(y 1).val, y1⟩ :=
    Fin.ext (hn.symm.trans (e1.trans (by show t.val % 2 * 1792 + (y 1).val = 1792 * (t.val % 2) + (y 1).val; omega)))
  have hy : y = ix2 (⟨(y 0).val, y0⟩ : Fin 1024) (⟨(y 1).val, y1⟩ : Fin 1792) := ix2_of _ _ _ rfl rfl
  blk_simp
  rw [after0_4]
  refine (congrArg (pAt m c t) hy).trans ((pAt_at m c t _ _).trans ?_)
  rw [f0, f1]

/-- The projection on the last columns. -/
theorem result_f (r : Fin 4096) (n : Fin 128) : (dats m 0 c).arrAt 5 cfg0.N (ix2 r n)
    = pE (b := 4096) (l := 4) (k := 3712) (X m c) (G m c) (W m c) r ⟨3584 + n.val, by omega⟩ := by
  refine ((dats m 0 c).arrAt_forall_of_covers 5 (fun i a => ∀ (r : Fin 4096) (n : Fin 128), (i 0).val = r.val → (i 1).val = n.val →
    a = pE (b := 4096) (l := 4) (k := 3712) (X m c) (G m c) (W m c) r ⟨3584 + n.val, by omega⟩) (by decide +kernel) (fun t hf y r n hr hn => ?_) (ix2 r n)) r n rfl rfl
  have y0 : (y 0).val < 1024 := (y 0).isLt
  have y1 : (y 1).val < 128 := (y 1).isLt
  have e0 : ((win0_5.blk t).view.emb y 0 : Fin _).val = win0_5.index t 0 * 1024 + (y 0).val := by blk_simp
  have e1 : ((win0_5.blk t).view.emb y 1 : Fin _).val = win0_5.index t 1 * 128 + (y 1).val := by blk_simp
  rw [index_5] at e0 e1
  have f0 : r = row t ⟨(y 0).val, y0⟩ := Fin.ext (hr.symm.trans (e0.trans (by show t.val / 2 * 1024 + (y 0).val = 1024 * (t.val / 2) + (y 0).val; omega)))
  have f1 : n = (⟨(y 1).val, y1⟩ : Fin 128) := Fin.ext (hn.symm.trans (e1.trans (by show 0 * 128 + (y 1).val = (y 1).val; omega)))
  have hy : y = ix2 (⟨(y 0).val, y0⟩ : Fin 1024) (⟨(y 1).val, y1⟩ : Fin 128) := ix2_of _ _ _ rfl rfl
  blk_simp
  rw [after0_5]
  refine (congrArg (fAt m c t) hy).trans ((fAt_at m c t _ _).trans ?_)
  rw [f0, f1]

/-- The normed rows. -/
theorem result_h (r : Fin 4096) (d : Fin 1024) : (dats m 0 c).arrAt 6 cfg0.N (ix2 r d) = hE (b := 4096) (X m c) (G m c) r d := by
  refine ((dats m 0 c).arrAt_forall_of_covers 6 (fun i a => ∀ (r : Fin 4096) (d : Fin 1024), (i 0).val = r.val → (i 1).val = d.val →
    a = hE (b := 4096) (X m c) (G m c) r d) (by decide +kernel) (fun t hf y r d hr hd => ?_) (ix2 r d)) r d rfl rfl
  have y0 : (y 0).val < 1024 := (y 0).isLt
  have y1 : (y 1).val < 1024 := (y 1).isLt
  have e0 : ((win0_6.blk t).view.emb y 0 : Fin _).val = win0_6.index t 0 * 1024 + (y 0).val := by blk_simp
  have e1 : ((win0_6.blk t).view.emb y 1 : Fin _).val = win0_6.index t 1 * 1024 + (y 1).val := by blk_simp
  rw [index_6] at e0 e1
  have f0 : r = row t ⟨(y 0).val, y0⟩ := Fin.ext (hr.symm.trans (e0.trans (by show t.val / 2 * 1024 + (y 0).val = 1024 * (t.val / 2) + (y 0).val; omega)))
  have f1 : d = (⟨(y 1).val, y1⟩ : Fin 1024) := Fin.ext (hd.symm.trans (e1.trans (by show 0 * 1024 + (y 1).val = (y 1).val; omega)))
  have hy : y = ix2 (⟨(y 0).val, y0⟩ : Fin 1024) (⟨(y 1).val, y1⟩ : Fin 1024) := ix2_of _ _ _ rfl rfl
  blk_simp
  rw [after0_6]
  refine (congrArg (hAt m c t) hy).trans ((hAt_at m c t _ _).trans ?_)
  rw [f0, f1]

end Cert.Proof.Inp

end
-- ==== Proof.Inp.Claim.lean ====
/-
  The forward input projection's kernel: its frames, and the value claim.
-/
module

public import proofs.«01_k».proof.Defs
public import proofs.«01_k».proof.Proof.Inp.Ref
public import proofs.«01_k».proof.Proof.Inp.Result
public import proofs.«01_k».proof.Proof.Inp.RunK
public import proofs.«01_k».proof.Proof.Gen.Reference5Ideal.Run

@[expose] public section

noncomputable section

namespace Cert.Proof.Inp

open Idealize.ShloMosaic Idealize.ShloMosaic.TcCoe Idealize.SL.Sem

theorem frame_kernel : Cert.quiescent_Kernel5 := fun m ρ _ => Cert.Proof.InpK.frame_main (F := Bits) m ρ

theorem frame_ideal : Cert.quiescent_Kernel5Ideal := fun m ρ _ => frame_main (F := Ideal) m ρ

/-- The reference's run, its arguments as launched; it declares no semaphore. -/
theorem frame_reference : Cert.quiescent_Reference5Ideal := fun m ρ _ =>
  (θ_run Cert.Reference5Ideal.defs _ _).mono
    (fun r h => ⟨fun c => (h c).2.2.2, sem_eq_zero_of_no_sems (by decide) r.2⟩)
    (Cert.Reference5Ideal.Value.run (F := Ideal) m ρ)

theorem preserves : Cert.preserves_Kernel5_Kernel5Ideal := trivial

theorem algebraic : Cert.algebraic_Kernel5Ideal_Reference5Ideal := by
  intro m g m' g' _ hin
  refine ⟨fun c => (dats m 0 c).arrAt 4 Cert.Kernel5Ideal.cfg0.N, fun c => (dats m 0 c).arrAt 5 Cert.Kernel5Ideal.cfg0.N,
    fun c => (dats m 0 c).arrAt 6 Cert.Kernel5Ideal.cfg0.N, run_blocks m g, ?_⟩
  refine (θ_run _ _ _).mono (fun r h c => ?_) (Cert.Reference5Ideal.Value.run (F := Ideal) m' g')
  obtain ⟨e, e', e'', k⟩ := h c
  obtain ⟨i0, i1, i2⟩ := hin c
  refine ⟨e.trans ((Cert.Reference5Ideal.Read.val_main_v16_eq _ _ _).trans (funext fun i => ?_)),
    e'.trans ((Cert.Reference5Ideal.Read.val_main_v17_eq _ _ _).trans (funext fun i => ?_)),
    e''.trans ((Cert.Reference5Ideal.Read.val_main_v18_eq _ _).trans (funext fun i => ?_)), k⟩
  · rw [eq_ix2 i]
    refine (reference_p _ _ _ _ _).trans (Eq.trans ?_ (result_p m c _ _).symm)
    rw [i0, i1, i2]; rfl
  · rw [eq_ix2 i]
    refine (reference_f _ _ _ _ _).trans (Eq.trans ?_ (result_f m c _ _).symm)
    rw [i0, i1, i2]; rfl
  · rw [eq_ix2 i]
    refine (reference_h _ _ _ _).trans (Eq.trans ?_ (result_h m c _ _).symm)
    rw [i0, i1]; rfl

end Cert.Proof.Inp

end
-- ==== Proof.Out.Ref.lean ====
/-
  The output projection's reference over the extended reals, entry by entry.
-/
module

public import proofs.«01_k».proof.Proof.Out.Kernel
public import proofs.«01_k».proof.Proof.Gen.Reference6Ideal.Read

@[expose] public section

set_option maxRecDepth 8192

noncomputable section

namespace Cert.Proof.Out

open Cert.Reference6Ideal Cert.Reference6Ideal.Gen Cert.Reference6Ideal.Read
open Idealize.ShloMosaic Idealize.ShloMosaic.TcCoe Idealize.SL.Sem

/-- A sum over the mixed columns is the three mixers' sums. -/
theorem sum_mixed (f : Fin 1024 → EReal) : ∑ k, f k = ∑ k : Fin 512, f ⟨k.val, by omega⟩
    + ∑ k : Fin 256, f ⟨512 + k.val, by omega⟩ + ∑ k : Fin 256, f ⟨768 + k.val, by omega⟩ := by
  rw [Fin.sum_univ_add (a := 768) (b := 256) f, Fin.sum_univ_add (a := 512) (b := 256)]
  rfl

variable (x1 : S4096x512.Idx → EReal) (x2 x3 : S4096x256.Idx → EReal)

theorem mixed_1 (r : Fin 4096) (k : Fin 512) : val_main_v0 (F := Ideal) x1 x2 x3 (ix2 r ⟨k.val, by omega⟩) = x1 (ix2 r k) := by
  pointwise [val_main_v0]

theorem mixed_2 (r : Fin 4096) (k : Fin 256) : val_main_v0 (F := Ideal) x1 x2 x3 (ix2 r ⟨512 + k.val, by omega⟩) = x2 (ix2 r k) := by
  pointwise [val_main_v0]

theorem mixed_3 (r : Fin 4096) (k : Fin 256) : val_main_v0 (F := Ideal) x1 x2 x3 (ix2 r ⟨768 + k.val, by omega⟩) = x3 (ix2 r k) := by
  pointwise [val_main_v0]
  rw [dif_neg (by omega), dif_neg (by omega)]
  exact congrArg x3 (ix2_of _ _ _ rfl (by show 768 + k.val - 512 - 256 = k.val; omega))

/-- The layer's weights. -/
theorem weights (x4 : S4x1024x1024.Idx → EReal) (k d : Fin 1024) : val_main_v2 (F := Ideal) x4 (ix2 k d) = x4 (ix3 0 k d) := by
  rw [val_main_v2_apply, val_main_v1_apply]
  exact congrArg x4 (ix3_of _ _ _ _ rfl (by show (k.val * 1024 + d.val) / 1024 % 1024 = k.val; omega)
    (by show (k.val * 1024 + d.val) % 1024 = d.val; omega))

theorem reference (x0 : S4096x1024.Idx → EReal) (x4 : S4x1024x1024.Idx → EReal) (r : Fin 4096) (d : Fin 1024) :
    val_main_v4 (F := Ideal) x0 x1 x2 x3 x4 (ix2 r d) = entry x0 x1 x2 x3 x4 r d := by
  have e : ∀ k : Fin 1024, val_main_v0 (F := Ideal) x1 x2 x3 (lidx_main_v3 (ix2 r d) k) * val_main_v2 (F := Ideal) x4 (ridx_main_v3 (ix2 r d) k)
      = val_main_v0 (F := Ideal) x1 x2 x3 (ix2 r k) * x4 (ix3 0 k d) := fun k => by
    rw [← weights x4 k d]
    exact congrArg₂ (fun i j => val_main_v0 (F := Ideal) x1 x2 x3 i * val_main_v2 (F := Ideal) x4 j) (ix2_of _ _ _ rfl rfl) (ix2_of _ _ _ rfl rfl)
  rw [val_main_v4_apply, val_main_v3_apply, Finset.sum_congr rfl fun k _ => e k, sum_mixed]
  simp only [mixed_1, mixed_2, mixed_3]
  show x0 (ix2 r d) + (_ + _ + _) = _
  rw [← add_assoc, ← add_assoc]
  rfl

end Cert.Proof.Out

end
-- ==== Proof.Out.Claim.lean ====
/-
  The output projection's kernel: its frames, and the value claim.
-/
module

public import proofs.«01_k».proof.Defs
public import proofs.«01_k».proof.Proof.Out.Ref
public import proofs.«01_k».proof.Proof.Gen.Kernel6.Frame
public import proofs.«01_k».proof.Proof.Gen.Reference6Ideal.Run

@[expose] public section

noncomputable section

namespace Cert.Proof.Out

open Idealize.ShloMosaic Idealize.ShloMosaic.TcCoe Idealize.SL.Sem

theorem frame_kernel : Cert.quiescent_Kernel6 := fun m ρ _ => Cert.Kernel6.Gen.frame m ρ

theorem frame_ideal : Cert.quiescent_Kernel6Ideal := fun m ρ _ => Cert.Kernel6Ideal.Gen.frame m ρ

/-- The reference's run, its arguments as launched; it declares no semaphore. -/
theorem frame_reference : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

theorem preserves : Cert.preserves_Kernel6_Kernel6Ideal := trivial

theorem algebraic : Cert.algebraic_Kernel6Ideal_Reference6Ideal := by
  intro m g m' g' _ hin
  refine ⟨fun c => (Cert.Kernel6Ideal.Gen.dats m 0 c).arrAt 5 Cert.Kernel6Ideal.cfg0.N, Cert.Kernel6Ideal.Value.run_blocks m g, ?_⟩
  refine (θ_run _ _ _).mono (fun r h c => ?_) (Cert.Reference6Ideal.Value.run (F := Ideal) m' g')
  obtain ⟨e, k⟩ := h c
  obtain ⟨i0, i1, i2, i3, i4⟩ := hin c
  refine ⟨e.trans ((Cert.Reference6Ideal.Read.val_main_v4_eq _ _ _ _ _).trans (funext fun i => ?_)), k⟩
  rw [eq_ix2 i]
  refine (reference _ _ _ _ _ _ _).trans (Eq.trans ?_ (result m c _ _).symm)
  rw [i0, i1, i2, i3, i4]

end Cert.Proof.Out

end
-- ==== Proof.Fox.Model.lean ====
/-
  What the kernel body of the forget-gated attention's backward computes at one grid point, as plain functions of what
  its buffers hold: the four diagonal blocks (`diag1 … diag4`), one trip of each of the three walks over the blocks
  before them (`trip`, `tripA`, `tripB`), the walks, and the point's results. Every value is the payload the printed
  body computes; nothing is simplified here.
-/
module

public import proofs.«01_k».proof.Proof.Owns
public import proofs.«01_k».proof.Proof.Gen.Kernel7Ideal.Skeleton
public import proofs.«01_k».proof.Proof.Gen.Kernel7Ideal.Points

@[expose] public section

noncomputable section

namespace Cert.Proof.KI7

open Cert.Kernel7Ideal Cert.Kernel7Ideal.Gen
open Idealize.ShloMosaic Idealize.ShloMosaic.TcCoe
open Idealize.SL.Sem

variable {F : FTy → Type} [FloatOps F] [Named F]

/-- 512 rows of a 4096-row buffer, sixteen rows of it, and 512 columns of one row of the column sums, from an offset. -/
abbrev blkO (o : Fin 2 → ℕ) (h : ∀ a, o a + S512x128.size a ≤ S4096x128.size a) : Rect S4096x128 :=
  Rect.unit (s := S4096x128) o S512x128.size h
abbrev tailO (o : Fin 2 → ℕ) (h : ∀ a, o a + S16x128.size a ≤ S4096x128.size a) : Rect S4096x128 :=
  Rect.unit (s := S4096x128) o S16x128.size h
abbrev colsO (o : Fin 3 → ℕ) (h : ∀ a, o a + S1x1x512.size a ≤ S1x8x4096.size a) : Rect S1x8x4096 :=
  Rect.unit (s := S1x8x4096) o S1x1x512.size h

theorem in_blk (n : ℕ) : ∀ a, (![512 * (n % 8), 0] : Fin 2 → ℕ) a + S512x128.size a ≤ S4096x128.size a := by
  intro a
  have hb : n % 8 < 8 := Nat.mod_lt _ (by omega)
  match a with
  | ⟨0, _⟩ => show 512 * (n % 8) + 512 ≤ 4096; omega
  | ⟨1, _⟩ => show 0 + 128 ≤ 128; omega

theorem in_tail (n : ℕ) : ∀ a, (![512 * ((n - 1) % 8) + 496, 0] : Fin 2 → ℕ) a + S16x128.size a ≤ S4096x128.size a := by
  intro a
  have hb : (n - 1) % 8 < 8 := Nat.mod_lt _ (by omega)
  match a with
  | ⟨0, _⟩ => show 512 * ((n - 1) % 8) + 496 + 16 ≤ 4096; omega
  | ⟨1, _⟩ => show 0 + 128 ≤ 128; omega

theorem in_cols (h : Fin 2) (n : ℕ) : ∀ a, (![0, h.val, 512 * (n % 8)] : Fin 3 → ℕ) a + S1x1x512.size a ≤ S1x8x4096.size a := by
  intro a
  have hb : n % 8 < 8 := Nat.mod_lt _ (by omega)
  have hh := h.isLt
  match a with
  | ⟨0, _⟩ => show 0 + 1 ≤ 1; omega
  | ⟨1, _⟩ => show h.val + 1 ≤ 8; omega
  | ⟨2, _⟩ => show 512 * (n % 8) + 512 ≤ 4096; omega

/-- What a query block fixes for the whole point: per head the scaled queries, the queries with their bias lanes, the
    row's log-sum, the row sums of gradient times output, and the gradient of the attention's output. -/
structure Sides (F : FTy → Type) where
  qA : FVec F S1024x128 .bf16
  qB : FVec F S1024x128 .bf16
  gA : FVec F S1024x128 .bf16
  gB : FVec F S1024x128 .bf16
  lA : FVec F S1024x1 .f32
  lB : FVec F S1024x1 .f32
  sA : FVec F S1024x1 .f32
  sB : FVec F S1024x1 .f32
  oA : FVec F S1024x128 .bf16
  oB : FVec F S1024x128 .bf16

/-- What the blocks carry: the query gradient and per head the row sums. -/
structure Carry (F : FTy → Type) where
  dq : FVec F S1024x128 .f32
  rA : FVec F S1024x1 .f32
  rB : FVec F S1024x1 .f32

/-- The gathered gradients: of the keys, of the values, and the column sums. -/
structure Bufs (F : FTy → Type) where
  dk : Vec F S4096x128 .f32
  dv : Vec F S4096x128 .f32
  dc : Vec F S1x8x4096 .f32

def lanes : IVec S1x128 32 := iota .tc S1x128 32 [1] iota_S1x128_d1_w32

/-- The fixed part from the point's blocks of the queries `x2`, output `x6`, log-sum `x7`, gradient `x8` and gate `x9`. -/
def sides (x2 : Vec F S1024x128 .bf16) (x6 x7 x8 x9 : Vec F S1024x128 .f32) : Sides F where
  qA := k0_pay19 x2
  qB := k0_pay20 x2
  gA := k0_pay24 x2
  gB := k0_pay27 (k0_pay21 x2) k0_pay25 k0_pay26
  lA := k0_pay29 lanes x7
  lB := k0_pay30 lanes x7
  sA := k0_pay36 k0_pay15 (k0_pay32 x6) (k0_pay33 x9 x8)
  sB := k0_pay37 k0_pay15 (k0_pay32 x6) (k0_pay33 x9 x8)
  oA := k0_pay41 (k0_pay33 x9 x8)
  oB := k0_pay42 (k0_pay33 x9 x8)

/-- The gate gradient's block. -/
def outDfg (x6 x8 x9 : Vec F S1024x128 .f32) : Vec F S1024x128 .f32 := k0_pay34 x9 x8 x6

/-! ### The trips of the walks -/

section Trip

variable (p : Sides F) (ka kb vc : Vec F S4096x128 .bf16)
  (o : Fin 2 → ℕ) (ho : ∀ a, o a + S512x128.size a ≤ S4096x128.size a)
  (u : Fin 3 → ℕ) (hu : ∀ a, u a + S1x1x512.size a ≤ S1x8x4096.size a)
  (w : Fin 3 → ℕ) (hw : ∀ a, w a + S1x1x512.size a ≤ S1x8x4096.size a)

/-- One block for both heads. -/
def tripAt (s : Carry F × Bufs F) : Carry F × Bufs F :=
  let vv := rows (blkO o ho) vc
  let kk := rows (blkO o ho) ka
  let kl := rows (blkO o ho) kb
  let gB := k0_pay137 p.oB vv
  let aA := k0_pay142 p.gA p.lA kk
  let dA := k0_pay143 p.gA p.oA p.lA p.sA vv kk
  let aB := k0_pay144 p.gB p.lB kl
  let dc := (colsO u hu).overlay s.2.dc (k0_pay140 p.gA p.oA p.lA p.sA vv kk (rows (colsO u hu) s.2.dc))
  ({ dq := k0_pay5 s.1.dq (k0_pay136 kl) dA (k0_pay148 p.sB gB aB) (k0_pay153 (k0_pay135 kk))
     rA := k0_pay141 p.gA p.oA p.lA p.sA s.1.rA vv kk
     rB := k0_pay147 p.sB s.1.rB gB aB },
   { dk := (blkO o ho).overlay s.2.dk (k0_pay150 p.sB p.qA p.qB gB dA aB (rows (blkO o ho) s.2.dk))
     dv := (blkO o ho).overlay s.2.dv (k0_pay149 p.oA p.oB aA aB (rows (blkO o ho) s.2.dv))
     dc := (colsO w hw).overlay dc (k0_pay146 p.sB gB aB (rows (colsO w hw) dc)) })

/-- One block for the first head alone. -/
def tripAAt (s : Carry F × Bufs F) : Carry F × Bufs F :=
  let vv := rows (blkO o ho) vc
  let kk := rows (blkO o ho) ka
  let dA := k0_pay159 p.gA p.oA p.lA p.sA vv kk
  ({ dq := k0_pay8 s.1.dq (k0_pay154 kk) dA
     rA := k0_pay158 p.gA p.oA p.lA p.sA s.1.rA vv kk
     rB := s.1.rB },
   { dk := (blkO o ho).overlay s.2.dk (k0_pay7 p.qA dA (rows (blkO o ho) s.2.dk))
     dv := (blkO o ho).overlay s.2.dv (k0_pay160 p.gA p.oA p.lA kk (rows (blkO o ho) s.2.dv))
     dc := (colsO u hu).overlay s.2.dc (k0_pay157 p.gA p.oA p.lA p.sA vv kk (rows (colsO u hu) s.2.dc)) })

/-- One block for the second head alone. -/
def tripBAt (s : Carry F × Bufs F) : Carry F × Bufs F :=
  let vv := rows (blkO o ho) vc
  let kl := rows (blkO o ho) kb
  let dB := k0_pay166 p.gB p.oB p.lB p.sB vv kl
  ({ dq := k0_pay11 s.1.dq (k0_pay161 kl) dB
     rA := s.1.rA
     rB := k0_pay165 p.gB p.oB p.lB p.sB s.1.rB vv kl },
   { dk := (blkO o ho).overlay s.2.dk (k0_pay10 p.qB dB (rows (blkO o ho) s.2.dk))
     dv := (blkO o ho).overlay s.2.dv (k0_pay167 p.gB p.oB p.lB kl (rows (blkO o ho) s.2.dv))
     dc := (colsO w hw).overlay s.2.dc (k0_pay164 p.gB p.oB p.lB p.sB vv kl (rows (colsO w hw) s.2.dc)) })

/-- The same at block `n`. -/
def trip (n : ℕ) (s : Carry F × Bufs F) : Carry F × Bufs F :=
  tripAt p ka kb vc _ (in_blk n) _ (in_cols 0 n) _ (in_cols 1 n) s
def tripA (n : ℕ) (s : Carry F × Bufs F) : Carry F × Bufs F := tripAAt p ka vc _ (in_blk n) _ (in_cols 0 n) s
def tripB (n : ℕ) (s : Carry F × Bufs F) : Carry F × Bufs F := tripBAt p kb vc _ (in_blk n) _ (in_cols 1 n) s

theorem trip_eq (n : ℕ) (s : Carry F × Bufs F) (eo : o = ![512 * (n % 8), 0]) (eu : u = ![0, 0, 512 * (n % 8)])
    (ew : w = ![0, 1, 512 * (n % 8)]) : trip p ka kb vc n s = tripAt p ka kb vc o ho u hu w hw s := by
  subst eo eu ew; rfl
theorem tripA_eq (n : ℕ) (s : Carry F × Bufs F) (eo : o = ![512 * (n % 8), 0]) (eu : u = ![0, 0, 512 * (n % 8)]) :
    tripA p ka vc n s = tripAAt p ka vc o ho u hu s := by
  subst eo eu; rfl
theorem tripB_eq (n : ℕ) (s : Carry F × Bufs F) (eo : o = ![512 * (n % 8), 0])
    (ew : w = ![0, 1, 512 * (n % 8)]) : tripB p kb vc n s = tripBAt p kb vc o ho w hw s := by
  subst eo ew; rfl

end Trip

/-! ### The walks: from block `n - 1` down while the test holds -/

section Walk

variable (p : Sides F) (ka kb vc : Vec F S4096x128 .bf16) (bd fA fB : F .f32)

/-- The tests, from the sixteen rows looked at. -/
def aliveOf (x y : Vec F S16x128 .bf16) : BitVec 1 :=
  Scalar.andi (Scalar.cmpf .oge (k0_pay132 lanes bd fA x) (Named.named κ "dead" 0xC2D20000#32))
    (Scalar.cmpf .oge (k0_pay4 lanes bd fB (k0_pay133 y)) (Named.named κ "dead" 0xC2D20000#32))
def aliveAOf (x : Vec F S16x128 .bf16) : BitVec 1 := Scalar.cmpf .oge (k0_pay6 lanes bd fA x) (Named.named κ "dead" 0xC2D20000#32)
def aliveBOf (y : Vec F S16x128 .bf16) : BitVec 1 := Scalar.cmpf .oge (k0_pay9 lanes bd fB y) (Named.named κ "dead" 0xC2D20000#32)

/-- The walk goes on before block `n - 1`: the last sixteen rows of that block decide. -/
def alive (n : ℕ) : BitVec 1 := aliveOf bd fA fB (rows (tailO _ (in_tail n)) ka) (rows (tailO _ (in_tail n)) kb)
def aliveA (n : ℕ) : BitVec 1 := aliveAOf bd fA (rows (tailO _ (in_tail n)) ka)
def aliveB (n : ℕ) : BitVec 1 := aliveBOf bd fB (rows (tailO _ (in_tail n)) kb)

theorem alive_eq (n : ℕ) (o : Fin 2 → ℕ) (h : ∀ a, o a + S16x128.size a ≤ S4096x128.size a)
    (eo : o = ![512 * ((n - 1) % 8) + 496, 0]) :
    alive ka kb bd fA fB n = aliveOf bd fA fB (rows (tailO o h) ka) (rows (tailO o h) kb) := by subst eo; rfl
theorem aliveA_eq (n : ℕ) (o : Fin 2 → ℕ) (h : ∀ a, o a + S16x128.size a ≤ S4096x128.size a)
    (eo : o = ![512 * ((n - 1) % 8) + 496, 0]) : aliveA ka bd fA n = aliveAOf bd fA (rows (tailO o h) ka) := by subst eo; rfl
theorem aliveB_eq (n : ℕ) (o : Fin 2 → ℕ) (h : ∀ a, o a + S16x128.size a ≤ S4096x128.size a)
    (eo : o = ![512 * ((n - 1) % 8) + 496, 0]) : aliveB kb bd fB n = aliveBOf bd fB (rows (tailO o h) kb) := by subst eo; rfl

/-- The blocks both heads visit; the number of blocks left unvisited comes first. -/
def walk : ℕ → Carry F × Bufs F → ℕ × Carry F × Bufs F
  | 0, s => (0, s)
  | n + 1, s => if alive ka kb bd fA fB (n + 1) = 1#1 then walk n (trip p ka kb vc n s) else (n + 1, s)

def walkA : ℕ → Carry F × Bufs F → Carry F × Bufs F
  | 0, s => s
  | n + 1, s => if aliveA ka bd fA (n + 1) = 1#1 then walkA n (tripA p ka vc n s) else s

def walkB : ℕ → Carry F × Bufs F → Carry F × Bufs F
  | 0, s => s
  | n + 1, s => if aliveB kb bd fB (n + 1) = 1#1 then walkB n (tripB p kb vc n s) else s

end Walk

/-! ### The diagonal blocks -/

section Diag

variable (i : grid0.Coords) (p : Sides F) (ka kb vc : Vec F S4096x128 .bf16)

/-- The rectangles of diagonal block `j`: its rows of a 4096-row buffer, and its columns of the column sums' two rows. -/
def dg (j : Fin 4) : Rect S4096x128 := Rect.unit (s := S4096x128) (k0_off1 i (BitVec.ofNat 32 (256 * j.val))) S256x128.size (k0_off1_inb i j)
def dgc (j : Fin 4) : Rect S1x8x4096 := Rect.unit (s := S1x8x4096) (k0_off2 i (BitVec.ofNat 32 (256 * j.val))) S1x1x256.size (k0_off2_inb i j)
def dgd (j : Fin 4) : Rect S1x8x4096 := Rect.unit (s := S1x8x4096) (k0_off3 i (BitVec.ofNat 32 (256 * j.val))) S1x1x256.size (k0_off3_inb i j)

/-- The query block's word. -/
def wd : BitVec 32 := BitVec.ofNat 32 (i 1).val

/-- The first diagonal block: 256 keys against all 1024 rows. -/
def diag1 (b : Bufs F) : Carry F × Bufs F :=
  let vv := rows (dg i 0) vc
  let kk := rows (dg i 0) ka
  let kl := rows (dg i 0) kb
  let m : IVec S1024x256 1 := k0_pay46 (wd i)
  let v := k0_pay45 vv
  let aA := k0_pay53 p.gA p.lA m kk
  let dA := k0_pay54 p.gA p.lA p.sA p.oA v m kk
  let aB := k0_pay55 p.gB p.lB m kl
  let dB := k0_pay56 p.gB p.lB p.sB p.oB v m kl
  let dc := (dgc i 0).overlay b.dc (k0_pay51 p.gA p.lA p.sA p.oA v m kk (rows (dgc i 0) b.dc))
  ({ dq := k0_pay65 k0_pay44 dA (k0_pay61 dB) (k0_pay64 (k0_pay47 kk) (k0_pay48 kl))
     rA := k0_pay52 p.gA p.lA p.sA p.oA k0_pay43 v m kk
     rB := k0_pay60 k0_pay43 dB },
   { dk := (dg i 0).overlay b.dk (k0_pay63 p.qA p.qB dA dB (rows (dg i 0) b.dk))
     dv := (dg i 0).overlay b.dv (k0_pay62 p.oA p.oB aA aB (rows (dg i 0) b.dv))
     dc := (dgd i 0).overlay dc (k0_pay59 (k0_pay57 (rows (dgd i 0) dc)) (k0_pay58 p.gB p.lB p.sB p.oB v m kl)) })

/-- The second: 256 keys against the last 768 rows. -/
def diag2 (s : Carry F × Bufs F) : Carry F × Bufs F :=
  let vv := rows (dg i 1) vc
  let kk := rows (dg i 1) ka
  let kl := rows (dg i 1) kb
  let m : IVec S768x256 1 := k0_pay67 (wd i)
  let zB := k0_pay70 p.gB kl
  let gB := k0_pay71 p.oB vv
  let eA := k0_pay72 (wd i) p.gA p.lA kk
  let hA := k0_pay73 (wd i) p.gA p.lA p.sA p.oA vv kk
  let dA := k0_pay78 hA
  let dB := k0_pay84 p.lB p.sB m zB gB
  let dc := (dgc i 1).overlay s.2.dc (k0_pay75 hA (k0_pay74 (rows (dgc i 1) s.2.dc)))
  ({ dq := k0_pay88 s.1.dq (k0_pay68 kk) (k0_pay69 kl) dA dB
     rA := k0_pay76 s.1.rA hA
     rB := k0_pay82 p.lB p.sB s.1.rB m zB gB },
   { dk := (dg i 1).overlay s.2.dk (k0_pay87 p.qA p.qB dA dB (rows (dg i 1) s.2.dk))
     dv := (dg i 1).overlay s.2.dv (k0_pay86 p.oA p.oB (k0_pay77 eA) (k0_pay83 p.lB m zB) (k0_pay85 (rows (dg i 1) s.2.dv)))
     dc := (dgd i 1).overlay dc (k0_pay81 p.lB p.sB m zB gB (rows (dgd i 1) dc)) })

/-- The third: 256 keys against the last 512 rows. -/
def diag3 (s : Carry F × Bufs F) : Carry F × Bufs F :=
  let vv := rows (dg i 2) vc
  let kk := rows (dg i 2) ka
  let kl := rows (dg i 2) kb
  let w : BitVec 32 := Scalar.addi (Scalar.muli (wd i) 1024#32) 512#32
  let m : IVec S512x256 1 := k0_pay90 (wd i) w
  let zB := k0_pay93 p.gB kl
  let gB := k0_pay94 p.oB vv
  let eA := k0_pay95 (wd i) p.gA p.lA w kk
  let hA := k0_pay96 (wd i) p.gA p.lA p.sA p.oA w vv kk
  let dA := k0_pay100 hA
  let dB := k0_pay105 p.lB p.sB m zB gB
  let dc := (dgc i 2).overlay s.2.dc (k0_pay97 (wd i) p.gA p.lA p.sA p.oA w vv kk (rows (dgc i 2) s.2.dc))
  ({ dq := k0_pay108 s.1.dq (k0_pay91 kk) (k0_pay92 kl) dA dB
     rA := k0_pay99 s.1.rA hA (k0_pay98 s.1.rA)
     rB := k0_pay104 p.lB p.sB s.1.rB m zB gB },
   { dk := (dg i 2).overlay s.2.dk (k0_pay107 p.qA p.qB dA dB (rows (dg i 2) s.2.dk))
     dv := (dg i 2).overlay s.2.dv (k0_pay106 p.lB p.oA p.oB m zB eA (rows (dg i 2) s.2.dv))
     dc := (dgd i 2).overlay dc (k0_pay103 p.lB p.sB m zB gB (rows (dgd i 2) dc)) })

/-- The fourth: 256 keys against the last 256 rows. -/
def diag4 (s : Carry F × Bufs F) : Carry F × Bufs F :=
  let vv := rows (dg i 3) vc
  let kk := rows (dg i 3) ka
  let kl := rows (dg i 3) kb
  let m : IVec S256x256 1 := k0_pay110 (wd i)
  let v := k0_pay109 vv
  let gB := k0_pay113 p.oB v
  let aA := k0_pay118 p.gA p.lA m kk
  let dA := k0_pay119 p.gA p.lA p.sA p.oA v m kk
  let zB := k0_pay120 p.gB m kl
  let lB := k0_pay121 p.lB
  let dB := k0_pay126 p.sB gB zB lB
  let dc := (dgc i 3).overlay s.2.dc (k0_pay116 p.gA p.lA p.sA p.oA v m kk (rows (dgc i 3) s.2.dc))
  ({ dq := k0_pay129 s.1.dq (k0_pay111 kk) (k0_pay112 kl) dA dB
     rA := k0_pay117 p.gA p.lA p.sA p.oA s.1.rA v m kk
     rB := k0_pay125 p.sB s.1.rB gB zB lB },
   { dk := (dg i 3).overlay s.2.dk (k0_pay128 p.qA p.qB p.sB gB dA zB lB (rows (dg i 3) s.2.dk))
     dv := (dg i 3).overlay s.2.dv (k0_pay127 p.oA p.oB aA zB lB (rows (dg i 3) s.2.dv))
     dc := (dgd i 3).overlay dc (k0_pay124 p.sB gB zB lB (rows (dgd i 3) dc)) })

/-- The four diagonal blocks in turn. -/
def diag (b : Bufs F) : Carry F × Bufs F := diag4 i p ka kb vc (diag3 i p ka kb vc (diag2 i p ka kb vc (diag1 i p ka kb vc b)))

end Diag

/-! ### The point -/

section Point

variable (i : grid0.Coords) (x2 : Vec F S1024x128 .bf16) (ka kb vc : Vec F S4096x128 .bf16)
  (x6 x7 x8 x9 : Vec F S1024x128 .f32) (x10 : Vec F S1x128 .f32)

/-- The gathered gradients, cleared at query block 0. -/
def cleared (b : Bufs F) : Bufs F :=
  if (i 1).val = 0 then { dk := k0_pay12, dv := k0_pay13, dc := k0_pay14 } else b

/-- After the diagonal blocks and the walk of both heads. -/
def both (b : Bufs F) : ℕ × Carry F × Bufs F :=
  let p := sides x2 x6 x7 x8 x9
  walk p ka kb vc (k0_pay1 x10) (k0_pay130 p.lA) (k0_pay131 p.lB) (2 * (i 1).val) (diag i p ka kb vc (cleared i b))

/-- After the point's walks. -/
def point (b : Bufs F) : Carry F × Bufs F :=
  let p := sides x2 x6 x7 x8 x9
  let w := both i x2 ka kb vc x6 x7 x8 x9 x10 b
  walkB p kb vc (k0_pay1 x10) (k0_pay131 p.lB) w.1 (walkA p ka vc (k0_pay1 x10) (k0_pay130 p.lA) w.1 w.2)

end Point

/-- The point's block of the query gradient. -/
def outDq (r : Carry F × Bufs F) : Vec F S1024x128 .f32 := k0_pay2 r.1.dq

/-- The point's block of the row sums. -/
def outDcr (r : Carry F × Bufs F) : Vec F S1x1024x128 .f32 := k0_pay3 k0_pay15 r.1.rA r.1.rB

end Cert.Proof.KI7

end
-- ==== Proof.Fox.Block.lean ====
/-
  One block of the forget-gated attention's backward pass over the real numbers: the weights and the scores' gradient
  of some rows against some keys, and what they add to the gradients of the keys, the values and the queries.
-/
module

public import proofs.«01_k».proof.Proof.Fox.Model
public import Idealize.ShloMosaic.Lib.Pointwise

@[expose] public section

noncomputable section

namespace Cert.Proof.KI7

open Cert.Kernel7Ideal Cert.Kernel7Ideal.Gen
open Idealize.ShloMosaic Idealize.ShloMosaic.TcCoe
open Finset

/-- The table holds the real matrix. -/
def Mat {m n : ℕ} (x : (⟨2, ![m, n]⟩ : Shape).Idx → EReal) (X : ℕ → ℕ → ℝ) : Prop :=
  ∀ (r : Fin m) (c : Fin n), x (ix2 r c) = ((X r c : ℝ) : EReal)

/-- The one-column table holds the real vector. -/
def Col {m : ℕ} (x : (⟨2, ![m, 1]⟩ : Shape).Idx → EReal) (X : ℕ → ℝ) : Prop :=
  ∀ r : Fin m, x (ix2 r 0) = ((X r : ℝ) : EReal)

open Classical in
/-- The bits say where the mask holds. -/
def Bits {m n : ℕ} (mk : IVec ⟨2, ![m, n]⟩ 1) (p : ℕ → ℕ → Prop) : Prop :=
  ∀ (r : Fin m) (c : Fin n) (x y : EReal), Scalar.select (mk (ix2 r c)) x y = if p r c then x else y

/-- Rows against keys. -/
def dotp (q k : ℕ → ℕ → ℝ) (r c : ℕ) : ℝ := ∑ d ∈ range 128, q r d * k c d

open Classical in
/-- The weights where the mask holds. -/
def wP (m : ℕ → ℕ → Prop) (q k : ℕ → ℕ → ℝ) (l : ℕ → ℝ) (r c : ℕ) : ℝ :=
  if m r c then Real.exp (dotp q k r c - l r) else 0

/-- The gradient of the scores. -/
def wD (m : ℕ → ℕ → Prop) (q k : ℕ → ℕ → ℝ) (l : ℕ → ℝ) (o v : ℕ → ℕ → ℝ) (s : ℕ → ℝ) (r c : ℕ) : ℝ :=
  wP m q k l r c * (dotp o v r c - s r)

/-- No mask. -/
def all : ℕ → ℕ → Prop := fun _ _ => True

/-- The rows from `e` on. -/
def sh {α : Type} (e : ℕ) (x : ℕ → α) (r : ℕ) : α := x (e + r)

/-- The columns of the pair's first head, and of its second. -/
def lo (x : ℕ → ℕ → ℝ) (r d : ℕ) : ℝ := if d < 64 then x r d else 0
def hi (x : ℕ → ℕ → ℝ) (r d : ℕ) : ℝ := if d < 64 then 0 else x r d

/-- What `n` rows add to a key's gradient: per head the weights times the rows. -/
def addK (n : ℕ) (a b x y : ℕ → ℕ → ℝ) (k c : ℕ) : ℝ := ∑ r ∈ range n, a r k * x r c + ∑ r ∈ range n, b r k * y r c

/-- What `n` keys add to a row's gradient: per head the weights times the keys. -/
def addQ (n : ℕ) (a b x y : ℕ → ℕ → ℝ) (r c : ℕ) : ℝ := ∑ k ∈ range n, a r k * lo x k c + ∑ k ∈ range n, b r k * hi y k c

/-! ### Extended reals that are real -/

theorem sum_coe {n : ℕ} (f : Fin n → ℝ) : ∑ j, ((f j : ℝ) : EReal) = ((∑ j, f j : ℝ) : EReal) := by
  induction n with
  | zero => simp
  | succ n ih => rw [Fin.sum_univ_castSucc, Fin.sum_univ_castSucc, ih, EReal.coe_add]

theorem ite_coe_zero (p : Prop) [Decidable p] (a : ℝ) :
    (if p then ((a : ℝ) : EReal) else 0) = ((if p then a else 0 : ℝ) : EReal) := by
  split <;> rfl

theorem zero_ite_coe (p : Prop) [Decidable p] (a : ℝ) :
    (if p then 0 else ((a : ℝ) : EReal)) = ((if p then 0 else a : ℝ) : EReal) := by
  split <;> rfl

theorem exp_ite (p : Prop) [Decidable p] (a b : ℝ) :
    Ideal.exp ((if p then ((a : ℝ) : EReal) else ⊥) - ((b : ℝ) : EReal)) = ((if p then Real.exp (a - b) else 0 : ℝ) : EReal) := by
  split
  · rw [← EReal.coe_sub, Ideal.exp_coe]
  · rw [EReal.bot_sub]; rfl

theorem lane_lt : ∀ d : Fin 128, IntOp.cmpi CmpIPredicate.slt (BitVec.ofNat 32 d.val) 64#32 = if d.val < 64 then 1#1 else 0#1 := by
  decide

theorem select_lane (d : Fin 128) {α : Type} (x y : α) :
    Scalar.select (IntOp.cmpi CmpIPredicate.slt (BitVec.ofNat 32 d.val) 64#32) x y = if d.val < 64 then x else y := by
  rw [lane_lt]; split <;> rfl

theorem mul_ite_coe (p : Prop) [Decidable p] (a b : ℝ) :
    ((a : ℝ) : EReal) * (if p then ((b : ℝ) : EReal) else 0) = ((a * if p then b else 0 : ℝ) : EReal) := by
  split
  · rw [← EReal.coe_mul]
  · rw [mul_zero, mul_zero, EReal.coe_zero]

theorem named_mask : (Named.named (F := Ideal) κ "mask" 0xF149F2CA#32 : Ideal .f32) = ⊥ := by
  first | rfl | exact IdealRules.named_const.ideal_named_scalar κ _ _ _ rfl

end Cert.Proof.KI7

end
-- ==== Proof.Fox.PayT.lean ====
/-
  The values of one trip of the walk over the real numbers.
-/
module

public import proofs.«01_k».proof.Proof.Fox.Block

@[expose] public section

noncomputable section

namespace Cert.Proof.KI7

open Cert.Kernel7Ideal Cert.Kernel7Ideal.Gen
open Idealize.ShloMosaic Idealize.ShloMosaic.TcCoe
open Finset

section Trip

variable {gA gB oA oB qA qB : FVec Ideal S1024x128 .bf16} {GA GB OA OB QA QB : ℕ → ℕ → ℝ}
variable {k kl v : Vec Ideal S512x128 .bf16} {K KL V : ℕ → ℕ → ℝ}
variable {lA lB sA sB : FVec Ideal S1024x1 .f32} {LA LB SA SB : ℕ → ℝ}

theorem pay142_mat (hg : Mat gA GA) (hl : Col lA LA) (hk : Mat k K) : Mat (k0_pay142 gA lA k) (wP all GA K LA) := fun r c => by
  pointwise [k0_pay142, k0_pay138, k0_pay135]
  simp only [hg r _, hk c _, hl r, ← EReal.coe_mul, ← EReal.coe_sub, Ideal.exp_coe, sum_coe, wP, dotp, Finset.sum_range, all, if_true]

theorem pay137_mat (ho : Mat oB OB) (hv : Mat v V) : Mat (k0_pay137 oB v) (dotp OB V) := fun r c => by
  pointwise [k0_pay137, k0_pay134]
  simp only [ho r _, hv c _, ← EReal.coe_mul, sum_coe, dotp, Finset.sum_range]

theorem pay144_mat (hg : Mat gB GB) (hl : Col lB LB) (hk : Mat kl KL) : Mat (k0_pay144 gB lB kl) (wP all GB KL LB) := fun r c => by
  pointwise [k0_pay144, k0_pay136]
  simp only [hg r _, hk c _, hl r, ← EReal.coe_mul, ← EReal.coe_sub, Ideal.exp_coe, sum_coe, wP, dotp, Finset.sum_range, all, if_true]

theorem pay143_mat (hg : Mat gA GA) (hl : Col lA LA) (hk : Mat k K) (ho : Mat oA OA) (hs : Col sA SA) (hv : Mat v V) :
    Mat (k0_pay143 gA oA lA sA v k) (wD all GA K LA OA V SA) := fun r c => by
  pointwise [k0_pay143, k0_pay139, k0_pay138, k0_pay135, k0_pay134]
  simp only [hg r _, hk c _, hl r, ho r _, hv c _, hs r, ← EReal.coe_mul, ← EReal.coe_sub, Ideal.exp_coe, sum_coe, wD, wP, dotp,
    Finset.sum_range, all, if_true]

theorem pay148_mat {g a : FVec Ideal S1024x512 .f32} {G A : ℕ → ℕ → ℝ} (hg : Mat g G) (ha : Mat a A) (hs : Col sB SB) :
    Mat (k0_pay148 sB g a) (fun r c => A r c * (G r c - SB r)) := fun r c => by
  pointwise [k0_pay148, k0_pay145]
  simp only [hg r _, ha r c, hs r, ← EReal.coe_mul, ← EReal.coe_sub]

theorem pay149_mat {a : FVec Ideal S1024x512 .bf16} {b : FVec Ideal S1024x512 .f32} {A B X : ℕ → ℕ → ℝ} {x : Vec Ideal S512x128 .f32}
    (ha : Mat a A) (hb : Mat b B) (hoA : Mat oA OA) (hoB : Mat oB OB) (hx : Mat x X) :
    Mat (k0_pay149 oA oB a b x) (fun k c => X k c + addK 1024 A B OA OB k c) := fun r c => by
  pointwise [k0_pay149]
  simp only [ha _ r, hb _ r, hoA _ c, hoB _ c, hx r c, ← EReal.coe_mul, sum_coe, ← EReal.coe_add, addK, Finset.sum_range]

theorem pay150_mat {g y : FVec Ideal S1024x512 .f32} {a : FVec Ideal S1024x512 .bf16} {A B X : ℕ → ℕ → ℝ} {x : Vec Ideal S512x128 .f32}
    (ha : Mat a A) (hb : Mat (k0_pay148 sB g y) B) (hqA : Mat qA QA) (hqB : Mat qB QB) (hx : Mat x X) :
    Mat (k0_pay150 sB qA qB g a y x) (fun k c => X k c + addK 1024 A B QA QB k c) := fun r c => by
  pointwise [k0_pay150]
  simp only [ha _ r, hb _ r, hqA _ c, hqB _ c, hx r c, ← EReal.coe_mul, sum_coe, ← EReal.coe_add, addK, Finset.sum_range]

theorem pay5_mat {a b : FVec Ideal S1024x512 .bf16} {A B X : ℕ → ℕ → ℝ} {x : FVec Ideal S1024x128 .f32}
    (ha : Mat a A) (hb : Mat b B) (hk : Mat k K) (hkl : Mat kl KL) (hx : Mat x X) :
    Mat (k0_pay5 x (k0_pay136 kl) a b (k0_pay153 (k0_pay135 k))) (fun r c => X r c + addQ 512 A B K KL r c) := fun r c => by
  pointwise [k0_pay5, k0_pay153, k0_pay136, k0_pay135, k0_pay151, k0_pay152]
  simp only [ha r _, hb r _, hk _ c, hkl _ c, hx r c, select_lane, ← EReal.coe_mul, ite_coe_zero, zero_ite_coe, sum_coe,
    ← EReal.coe_add, addQ, lo, hi, Finset.sum_range, mul_ite, mul_zero]

end Trip

end Cert.Proof.KI7

end
-- ==== Proof.Fox.Pay1.lean ====
/-
  The values of the diagonal blocks over the real numbers (the first).
-/
module

public import proofs.«01_k».proof.Proof.Fox.Block

@[expose] public section

noncomputable section

namespace Cert.Proof.KI7

open Cert.Kernel7Ideal Cert.Kernel7Ideal.Gen
open Idealize.ShloMosaic Idealize.ShloMosaic.TcCoe
open Finset

section Diag

variable {gA gB oA oB qA qB : FVec Ideal S1024x128 .bf16} {GA GB OA OB QA QB : ℕ → ℕ → ℝ}
variable {k kl v : Vec Ideal S256x128 .bf16} {K KL V : ℕ → ℕ → ℝ} {M : ℕ → ℕ → Prop}
variable {lA lB sA sB : FVec Ideal S1024x1 .f32} {LA LB SA SB : ℕ → ℝ}

variable {mk : IVec S1024x256 1}

theorem pay53_mat (hm : Bits mk M) (hg : Mat gA GA) (hl : Col lA LA) (hk : Mat k K) :
    Mat (k0_pay53 gA lA mk k) (wP M GA K LA) := fun r c => by
  pointwise [k0_pay53, k0_pay49, k0_pay47]
  simp only [hg _ _, hk _ _, hl _, hm _ _, named_mask, ← EReal.coe_mul, sum_coe, exp_ite, ← EReal.coe_sub, wD, wP, dotp, sh, Finset.sum_range]

theorem pay55_mat (hm : Bits mk M) (hg : Mat gB GB) (hl : Col lB LB) (hk : Mat kl KL) :
    Mat (k0_pay55 gB lB mk kl) (wP M GB KL LB) := fun r c => by
  pointwise [k0_pay55, k0_pay48]
  simp only [hg _ _, hk _ _, hl _, hm _ _, named_mask, ← EReal.coe_mul, sum_coe, exp_ite, ← EReal.coe_sub, wD, wP, dotp, sh, Finset.sum_range]

theorem pay54_mat (hm : Bits mk M) (hg : Mat gA GA) (hl : Col lA LA) (hk : Mat k K) (ho : Mat oA OA) (hs : Col sA SA) (hv : Mat v V) :
    Mat (k0_pay54 gA lA sA oA (k0_pay45 v) mk k) (wD M GA K LA OA V SA) := fun r c => by
  pointwise [k0_pay54, k0_pay50, k0_pay49, k0_pay47, k0_pay45]
  simp only [hg _ _, hk _ _, hl _, hm _ _, ho _ _, hv _ _, hs _, named_mask, ← EReal.coe_mul, sum_coe, exp_ite, ← EReal.coe_sub, wD, wP, dotp, sh, Finset.sum_range]

theorem pay56_mat (hm : Bits mk M) (hg : Mat gB GB) (hl : Col lB LB) (hk : Mat kl KL) (ho : Mat oB OB) (hs : Col sB SB) (hv : Mat v V) :
    Mat (k0_pay56 gB lB sB oB (k0_pay45 v) mk kl) (wD M GB KL LB OB V SB) := fun r c => by
  pointwise [k0_pay56, k0_pay55, k0_pay48, k0_pay45]
  simp only [hg _ _, hk _ _, hl _, hm _ _, ho _ _, hv _ _, hs _, named_mask, ← EReal.coe_mul, sum_coe, exp_ite, ← EReal.coe_sub, wD, wP, dotp, sh, Finset.sum_range]

theorem pay62_mat {a : FVec Ideal S1024x256 .bf16} {b : FVec Ideal S1024x256 .f32} {A B X : ℕ → ℕ → ℝ} {x : Vec Ideal S256x128 .f32} (ha : Mat a A) (hb : Mat b B) (hp : Mat oA OA) (hq : Mat oB OB) (hx : Mat x X) :
    Mat (k0_pay62 oA oB a b x) (fun k c => X k c + addK 1024 A B OA OB k c) := fun r c => by
  pointwise [k0_pay62]
  simp only [ha _ _, hb _ _, hp _ _, hq _ _, hx _ _, ← EReal.coe_mul, sum_coe, ← EReal.coe_add, addK, sh, Finset.sum_range]

theorem pay63_mat {a : FVec Ideal S1024x256 .bf16} {b : FVec Ideal S1024x256 .f32} {A B X : ℕ → ℕ → ℝ} {x : Vec Ideal S256x128 .f32} (ha : Mat a A) (hb : Mat b B) (hp : Mat qA QA) (hq : Mat qB QB) (hx : Mat x X) :
    Mat (k0_pay63 qA qB a b x) (fun k c => X k c + addK 1024 A B QA QB k c) := fun r c => by
  pointwise [k0_pay63, k0_pay61]
  simp only [ha _ _, hb _ _, hp _ _, hq _ _, hx _ _, ← EReal.coe_mul, sum_coe, ← EReal.coe_add, addK, sh, Finset.sum_range]

theorem pay65_mat {a : FVec Ideal S1024x256 .bf16} {b : FVec Ideal S1024x256 .f32} {A B : ℕ → ℕ → ℝ} (ha : Mat a A) (hb : Mat b B) (hk : Mat k K) (hkl : Mat kl KL) :
    Mat (k0_pay65 k0_pay44 a (k0_pay61 b) (k0_pay64 (k0_pay47 k) (k0_pay48 kl))) (addQ 256 A B K KL) := fun r c => by
  pointwise [k0_pay65, k0_pay44, k0_pay61, k0_pay64, k0_pay47, k0_pay48]
  simp only [ha _ _, hb _ _, hk _ _, hkl _ _, zero_add, select_lane, ← EReal.coe_mul, ite_coe_zero, zero_ite_coe, sum_coe, ← EReal.coe_add, addQ, lo, hi, Finset.sum_range, mul_ite, mul_zero]

end Diag

end Cert.Proof.KI7

end
-- ==== Proof.Fox.Pay2.lean ====
/-
  The values of the diagonal blocks over the real numbers (the second).
-/
module

public import proofs.«01_k».proof.Proof.Fox.Block

@[expose] public section

noncomputable section

namespace Cert.Proof.KI7

open Cert.Kernel7Ideal Cert.Kernel7Ideal.Gen
open Idealize.ShloMosaic Idealize.ShloMosaic.TcCoe
open Finset

section Diag

variable {gA gB oA oB qA qB : FVec Ideal S1024x128 .bf16} {GA GB OA OB QA QB : ℕ → ℕ → ℝ}
variable {k kl v : Vec Ideal S256x128 .bf16} {K KL V : ℕ → ℕ → ℝ} {M : ℕ → ℕ → Prop}
variable {lA lB sA sB : FVec Ideal S1024x1 .f32} {LA LB SA SB : ℕ → ℝ}

variable {w : BitVec 32} {mk : IVec S768x256 1}

theorem pay77_mat (hm : Bits (k0_pay67 w) M) (hg : Mat gA GA) (hl : Col lA LA) (hk : Mat k K) :
    Mat (k0_pay77 (k0_pay72 w gA lA k)) (wP M (sh 256 GA) K (sh 256 LA)) := fun r c => by
  pointwise [k0_pay77, k0_pay72, k0_pay68]
  simp only [hg _ _, hk _ _, hl _, hm _ _, named_mask, ← EReal.coe_mul, sum_coe, exp_ite, ← EReal.coe_sub, wD, wP, dotp, sh, Finset.sum_range]

theorem pay78_mat (hm : Bits (k0_pay67 w) M) (hg : Mat gA GA) (hl : Col lA LA) (hk : Mat k K) (ho : Mat oA OA) (hs : Col sA SA) (hv : Mat v V) :
    Mat (k0_pay78 (k0_pay73 w gA lA sA oA v k)) (wD M (sh 256 GA) K (sh 256 LA) (sh 256 OA) V (sh 256 SA)) := fun r c => by
  pointwise [k0_pay78, k0_pay73, k0_pay72, k0_pay68, k0_pay66]
  simp only [hg _ _, hk _ _, hl _, hm _ _, ho _ _, hv _ _, hs _, named_mask, ← EReal.coe_mul, sum_coe, exp_ite, ← EReal.coe_sub, wD, wP, dotp, sh, Finset.sum_range]

theorem pay83_mat (hm : Bits mk M) (hg : Mat gB GB) (hl : Col lB LB) (hk : Mat kl KL) :
    Mat (k0_pay83 lB mk (k0_pay70 gB kl)) (wP M (sh 256 GB) KL (sh 256 LB)) := fun r c => by
  pointwise [k0_pay83, k0_pay79, k0_pay70, k0_pay69]
  simp only [hg _ _, hk _ _, hl _, hm _ _, named_mask, ← EReal.coe_mul, sum_coe, exp_ite, ← EReal.coe_sub, wD, wP, dotp, sh, Finset.sum_range]

theorem pay84_mat (hm : Bits mk M) (hg : Mat gB GB) (hl : Col lB LB) (hk : Mat kl KL) (ho : Mat oB OB) (hs : Col sB SB) (hv : Mat v V) :
    Mat (k0_pay84 lB sB mk (k0_pay70 gB kl) (k0_pay71 oB v)) (wD M (sh 256 GB) KL (sh 256 LB) (sh 256 OB) V (sh 256 SB)) := fun r c => by
  pointwise [k0_pay84, k0_pay80, k0_pay79, k0_pay70, k0_pay69, k0_pay71, k0_pay66]
  simp only [hg _ _, hk _ _, hl _, hm _ _, ho _ _, hv _ _, hs _, named_mask, ← EReal.coe_mul, sum_coe, exp_ite, ← EReal.coe_sub, wD, wP, dotp, sh, Finset.sum_range]

theorem pay86_mat {a : FVec Ideal S768x256 .bf16} {b : FVec Ideal S768x256 .bf16} {A B X : ℕ → ℕ → ℝ} {x : Vec Ideal S256x128 .f32} (ha : Mat a A) (hb : Mat b B) (hp : Mat oA OA) (hq : Mat oB OB) (hx : Mat x X) :
    Mat (k0_pay86 oA oB a b (k0_pay85 x)) (fun k c => X k c + addK 768 A B (sh 256 OA) (sh 256 OB) k c) := fun r c => by
  pointwise [k0_pay86, k0_pay85]
  simp only [ha _ _, hb _ _, hp _ _, hq _ _, hx _ _, ← EReal.coe_mul, sum_coe, ← EReal.coe_add, addK, sh, Finset.sum_range]

theorem pay87_mat {a : FVec Ideal S768x256 .bf16} {b : FVec Ideal S768x256 .bf16} {A B X : ℕ → ℕ → ℝ} {x : Vec Ideal S256x128 .f32} (ha : Mat a A) (hb : Mat b B) (hp : Mat qA QA) (hq : Mat qB QB) (hx : Mat x X) :
    Mat (k0_pay87 qA qB a b x) (fun k c => X k c + addK 768 A B (sh 256 QA) (sh 256 QB) k c) := fun r c => by
  pointwise [k0_pay87]
  simp only [ha _ _, hb _ _, hp _ _, hq _ _, hx _ _, ← EReal.coe_mul, sum_coe, ← EReal.coe_add, addK, sh, Finset.sum_range]

theorem pay88_mat {a : FVec Ideal S768x256 .bf16} {b : FVec Ideal S768x256 .bf16} {A B X : ℕ → ℕ → ℝ} {x : Vec Ideal S1024x128 .f32} (ha : Mat a A) (hb : Mat b B) (hk : Mat k K) (hkl : Mat kl KL) (hx : Mat x X) :
    Mat (k0_pay88 x (k0_pay68 k) (k0_pay69 kl) a b) (fun r c => X r c + if r < 256 then 0 else addQ 256 A B K KL (r - 256) c) := fun r c => by
  pointwise [k0_pay88, k0_pay68, k0_pay69]
  simp only [ha _ _, hb _ _, hk _ _, hkl _ _, hx _ _, select_lane, ← EReal.coe_mul, ite_coe_zero, zero_ite_coe, sum_coe, ← EReal.coe_add, addQ, lo, hi, Finset.sum_range, mul_ite, mul_zero]
  by_cases h : r.val < 256
  · rw [dif_pos h, if_pos h, add_zero]
  · rw [dif_neg h, if_neg h, show 256 + (r.val - 256) = r.val by omega]

end Diag

end Cert.Proof.KI7

end
-- ==== Proof.Fox.Pay3.lean ====
/-
  The values of the diagonal blocks over the real numbers (the third).
-/
module

public import proofs.«01_k».proof.Proof.Fox.Block

@[expose] public section

noncomputable section

namespace Cert.Proof.KI7

open Cert.Kernel7Ideal Cert.Kernel7Ideal.Gen
open Idealize.ShloMosaic Idealize.ShloMosaic.TcCoe
open Finset

section Diag

variable {gA gB oA oB qA qB : FVec Ideal S1024x128 .bf16} {GA GB OA OB QA QB : ℕ → ℕ → ℝ}
variable {k kl v : Vec Ideal S256x128 .bf16} {K KL V : ℕ → ℕ → ℝ} {M : ℕ → ℕ → Prop}
variable {lA lB sA sB : FVec Ideal S1024x1 .f32} {LA LB SA SB : ℕ → ℝ}

variable {w u : BitVec 32} {mk : IVec S512x256 1}

theorem pay95_mat (hm : Bits (k0_pay90 w u) M) (hg : Mat gA GA) (hl : Col lA LA) (hk : Mat k K) :
    Mat (k0_pay95 w gA lA u k) (wP M (sh 512 GA) K (sh 512 LA)) := fun r c => by
  pointwise [k0_pay95, k0_pay91]
  simp only [hg _ _, hk _ _, hl _, hm _ _, named_mask, ← EReal.coe_mul, sum_coe, exp_ite, ← EReal.coe_sub, wD, wP, dotp, sh, Finset.sum_range]

theorem pay100_mat (hm : Bits (k0_pay90 w u) M) (hg : Mat gA GA) (hl : Col lA LA) (hk : Mat k K) (ho : Mat oA OA) (hs : Col sA SA) (hv : Mat v V) :
    Mat (k0_pay100 (k0_pay96 w gA lA sA oA u v k)) (wD M (sh 512 GA) K (sh 512 LA) (sh 512 OA) V (sh 512 SA)) := fun r c => by
  pointwise [k0_pay100, k0_pay96, k0_pay95, k0_pay91, k0_pay89]
  simp only [hg _ _, hk _ _, hl _, hm _ _, ho _ _, hv _ _, hs _, named_mask, ← EReal.coe_mul, sum_coe, exp_ite, ← EReal.coe_sub, wD, wP, dotp, sh, Finset.sum_range]

theorem pay101_mat (hm : Bits mk M) (hg : Mat gB GB) (hl : Col lB LB) (hk : Mat kl KL) :
    Mat (k0_pay101 lB mk (k0_pay93 gB kl)) (wP M (sh 512 GB) KL (sh 512 LB)) := fun r c => by
  pointwise [k0_pay101, k0_pay93, k0_pay92]
  simp only [hg _ _, hk _ _, hl _, hm _ _, named_mask, ← EReal.coe_mul, sum_coe, exp_ite, ← EReal.coe_sub, wD, wP, dotp, sh, Finset.sum_range]

theorem pay105_mat (hm : Bits mk M) (hg : Mat gB GB) (hl : Col lB LB) (hk : Mat kl KL) (ho : Mat oB OB) (hs : Col sB SB) (hv : Mat v V) :
    Mat (k0_pay105 lB sB mk (k0_pay93 gB kl) (k0_pay94 oB v)) (wD M (sh 512 GB) KL (sh 512 LB) (sh 512 OB) V (sh 512 SB)) := fun r c => by
  pointwise [k0_pay105, k0_pay102, k0_pay101, k0_pay93, k0_pay92, k0_pay94, k0_pay89]
  simp only [hg _ _, hk _ _, hl _, hm _ _, ho _ _, hv _ _, hs _, named_mask, ← EReal.coe_mul, sum_coe, exp_ite, ← EReal.coe_sub, wD, wP, dotp, sh, Finset.sum_range]

theorem pay106_mat {z : FVec Ideal S512x256 .f32} {a : FVec Ideal S512x256 .f32} {A B X : ℕ → ℕ → ℝ} {x : Vec Ideal S256x128 .f32} (ha : Mat a A) (hb : Mat (k0_pay101 lB mk z) B) (hp : Mat oA OA) (hq : Mat oB OB) (hx : Mat x X) :
    Mat (k0_pay106 lB oA oB mk z a x) (fun k c => X k c + addK 512 A B (sh 512 OA) (sh 512 OB) k c) := fun r c => by
  pointwise [k0_pay106]
  simp only [ha _ _, hb _ _, hp _ _, hq _ _, hx _ _, ← EReal.coe_mul, sum_coe, ← EReal.coe_add, addK, sh, Finset.sum_range]

theorem pay107_mat {a : FVec Ideal S512x256 .bf16} {b : FVec Ideal S512x256 .bf16} {A B X : ℕ → ℕ → ℝ} {x : Vec Ideal S256x128 .f32} (ha : Mat a A) (hb : Mat b B) (hp : Mat qA QA) (hq : Mat qB QB) (hx : Mat x X) :
    Mat (k0_pay107 qA qB a b x) (fun k c => X k c + addK 512 A B (sh 512 QA) (sh 512 QB) k c) := fun r c => by
  pointwise [k0_pay107]
  simp only [ha _ _, hb _ _, hp _ _, hq _ _, hx _ _, ← EReal.coe_mul, sum_coe, ← EReal.coe_add, addK, sh, Finset.sum_range]

theorem pay108_mat {a : FVec Ideal S512x256 .bf16} {b : FVec Ideal S512x256 .bf16} {A B X : ℕ → ℕ → ℝ} {x : Vec Ideal S1024x128 .f32} (ha : Mat a A) (hb : Mat b B) (hk : Mat k K) (hkl : Mat kl KL) (hx : Mat x X) :
    Mat (k0_pay108 x (k0_pay91 k) (k0_pay92 kl) a b) (fun r c => X r c + if r < 512 then 0 else addQ 256 A B K KL (r - 512) c) := fun r c => by
  pointwise [k0_pay108, k0_pay91, k0_pay92]
  simp only [ha _ _, hb _ _, hk _ _, hkl _ _, hx _ _, select_lane, ← EReal.coe_mul, ite_coe_zero, zero_ite_coe, sum_coe, ← EReal.coe_add, addQ, lo, hi, Finset.sum_range, mul_ite, mul_zero]
  by_cases h : r.val < 512
  · rw [dif_pos h, if_pos h, add_zero]
  · rw [dif_neg h, if_neg h, show 512 + (r.val - 512) = r.val by omega]

end Diag

end Cert.Proof.KI7

end
-- ==== Proof.Fox.Pay4.lean ====
/-
  The values of the diagonal blocks over the real numbers (the fourth).
-/
module

public import proofs.«01_k».proof.Proof.Fox.Block

@[expose] public section

noncomputable section

namespace Cert.Proof.KI7

open Cert.Kernel7Ideal Cert.Kernel7Ideal.Gen
open Idealize.ShloMosaic Idealize.ShloMosaic.TcCoe
open Finset

section Diag

variable {gA gB oA oB qA qB : FVec Ideal S1024x128 .bf16} {GA GB OA OB QA QB : ℕ → ℕ → ℝ}
variable {k kl v : Vec Ideal S256x128 .bf16} {K KL V : ℕ → ℕ → ℝ} {M : ℕ → ℕ → Prop}
variable {lA lB sA sB : FVec Ideal S1024x1 .f32} {LA LB SA SB : ℕ → ℝ}

variable {mk : IVec S256x256 1}

theorem pay118_mat (hm : Bits mk M) (hg : Mat gA GA) (hl : Col lA LA) (hk : Mat k K) :
    Mat (k0_pay118 gA lA mk k) (wP M (sh 768 GA) K (sh 768 LA)) := fun r c => by
  pointwise [k0_pay118, k0_pay114, k0_pay111]
  simp only [hg _ _, hk _ _, hl _, hm _ _, named_mask, ← EReal.coe_mul, sum_coe, exp_ite, ← EReal.coe_sub, wD, wP, dotp, sh, Finset.sum_range]

theorem pay119_mat (hm : Bits mk M) (hg : Mat gA GA) (hl : Col lA LA) (hk : Mat k K) (ho : Mat oA OA) (hs : Col sA SA) (hv : Mat v V) :
    Mat (k0_pay119 gA lA sA oA (k0_pay109 v) mk k) (wD M (sh 768 GA) K (sh 768 LA) (sh 768 OA) V (sh 768 SA)) := fun r c => by
  pointwise [k0_pay119, k0_pay115, k0_pay114, k0_pay111, k0_pay109]
  simp only [hg _ _, hk _ _, hl _, hm _ _, ho _ _, hv _ _, hs _, named_mask, ← EReal.coe_mul, sum_coe, exp_ite, ← EReal.coe_sub, wD, wP, dotp, sh, Finset.sum_range]

theorem pay122_mat (hm : Bits mk M) (hg : Mat gB GB) (hl : Col lB LB) (hk : Mat kl KL) :
    Mat (k0_pay122 (k0_pay120 gB mk kl) (k0_pay121 lB)) (wP M (sh 768 GB) KL (sh 768 LB)) := fun r c => by
  pointwise [k0_pay122, k0_pay120, k0_pay121, k0_pay112]
  simp only [hg _ _, hk _ _, hl _, hm _ _, named_mask, ← EReal.coe_mul, sum_coe, exp_ite, ← EReal.coe_sub, wD, wP, dotp, sh, Finset.sum_range]

theorem pay126_mat (hm : Bits mk M) (hg : Mat gB GB) (hl : Col lB LB) (hk : Mat kl KL) (ho : Mat oB OB) (hs : Col sB SB) (hv : Mat v V) :
    Mat (k0_pay126 sB (k0_pay113 oB (k0_pay109 v)) (k0_pay120 gB mk kl) (k0_pay121 lB)) (wD M (sh 768 GB) KL (sh 768 LB) (sh 768 OB) V (sh 768 SB)) := fun r c => by
  pointwise [k0_pay126, k0_pay123, k0_pay122, k0_pay120, k0_pay121, k0_pay112, k0_pay113, k0_pay109]
  simp only [hg _ _, hk _ _, hl _, hm _ _, ho _ _, hv _ _, hs _, named_mask, ← EReal.coe_mul, sum_coe, exp_ite, ← EReal.coe_sub, wD, wP, dotp, sh, Finset.sum_range]

theorem pay127_mat {z : FVec Ideal S256x256 .f32} {y : FVec Ideal S256x1 .f32} {a : FVec Ideal S256x256 .bf16} {A B X : ℕ → ℕ → ℝ} {x : Vec Ideal S256x128 .f32} (ha : Mat a A) (hb : Mat (k0_pay122 z y) B) (hp : Mat oA OA) (hq : Mat oB OB) (hx : Mat x X) :
    Mat (k0_pay127 oA oB a z y x) (fun k c => X k c + addK 256 A B (sh 768 OA) (sh 768 OB) k c) := fun r c => by
  pointwise [k0_pay127]
  simp only [ha _ _, hb _ _, hp _ _, hq _ _, hx _ _, ← EReal.coe_mul, sum_coe, ← EReal.coe_add, addK, sh, Finset.sum_range]

theorem pay128_mat {z g : FVec Ideal S256x256 .f32} {y : FVec Ideal S256x1 .f32} {a : FVec Ideal S256x256 .bf16} {A B X : ℕ → ℕ → ℝ} {x : Vec Ideal S256x128 .f32} (ha : Mat a A) (hb : Mat (k0_pay126 sB g z y) B) (hp : Mat qA QA) (hq : Mat qB QB) (hx : Mat x X) :
    Mat (k0_pay128 qA qB sB g a z y x) (fun k c => X k c + addK 256 A B (sh 768 QA) (sh 768 QB) k c) := fun r c => by
  pointwise [k0_pay128]
  simp only [ha _ _, hb _ _, hp _ _, hq _ _, hx _ _, ← EReal.coe_mul, sum_coe, ← EReal.coe_add, addK, sh, Finset.sum_range]

theorem pay129_mat {a : FVec Ideal S256x256 .bf16} {b : FVec Ideal S256x256 .bf16} {A B X : ℕ → ℕ → ℝ} {x : Vec Ideal S1024x128 .f32} (ha : Mat a A) (hb : Mat b B) (hk : Mat k K) (hkl : Mat kl KL) (hx : Mat x X) :
    Mat (k0_pay129 x (k0_pay111 k) (k0_pay112 kl) a b) (fun r c => X r c + if r < 768 then 0 else addQ 256 A B K KL (r - 768) c) := fun r c => by
  pointwise [k0_pay129, k0_pay111, k0_pay112]
  simp only [ha _ _, hb _ _, hk _ _, hkl _ _, hx _ _, select_lane, ← EReal.coe_mul, ite_coe_zero, zero_ite_coe, sum_coe, ← EReal.coe_add, addQ, lo, hi, Finset.sum_range, mul_ite, mul_zero]
  by_cases h : r.val < 768
  · rw [dif_pos h, if_pos h, add_zero]
  · rw [dif_neg h, if_neg h, show 768 + (r.val - 768) = r.val by omega]

end Diag

end Cert.Proof.KI7

end
-- ==== Proof.Fox.Sides.lean ====
/-
  What a query block fixes, over the real numbers: the two heads' lanes of the queries with their bias lanes, the
  log-sums, the gradient of the attention's output and its row sums, the masks of the diagonal blocks, and the walk's
  test, which always holds.
-/
module

public import proofs.«01_k».proof.Proof.Fox.PayT
public import proofs.«01_k».proof.Proof.Fox.Pay1
public import proofs.«01_k».proof.Proof.Fox.Pay2
public import proofs.«01_k».proof.Proof.Fox.Pay3
public import proofs.«01_k».proof.Proof.Fox.Pay4

@[expose] public section

noncomputable section

namespace Cert.Proof.KI7

open Cert.Kernel7Ideal Cert.Kernel7Ideal.Gen
open Idealize.ShloMosaic Idealize.ShloMosaic.TcCoe
open Finset

/-! ### Masks -/

/-- Signed comparison of small naturals. -/
theorem toInt_small {n : ℕ} (h : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

theorem sle_small {a b : ℕ} (ha : a < 2 ^ 31) (hb : b < 2 ^ 31) {α : Type} (x y : α) :
    Scalar.select (IntOp.cmpi CmpIPredicate.sle (BitVec.ofNat 32 a) (BitVec.ofNat 32 b)) x y = if a ≤ b then x else y := by
  have h : IntOp.cmpi CmpIPredicate.sle (BitVec.ofNat 32 a) (BitVec.ofNat 32 b) = BitVec.ofBool (decide (a ≤ b)) := by
    show BitVec.ofBool ((BitVec.ofNat 32 a).sle (BitVec.ofNat 32 b)) = _
    rw [BitVec.sle, toInt_small ha, toInt_small hb]
    simp
  rw [h]
  by_cases hab : a ≤ b <;> simp [hab, Scalar.select]

/-- A diagonal block's mask: its key is not after its query, both counted from the block's first row. -/
theorem mask_small {b e r c : ℕ} (hb : b < 4) (he : e < 1024) (hr : r < 1024) (hc : c < 1024) (x y : EReal) :
    Scalar.select (IntOp.cmpi CmpIPredicate.sle
      (IntOp.addi (Scalar.addi (Scalar.muli (BitVec.ofNat 32 b) 1024#32) (BitVec.ofNat 32 e)) (BitVec.ofNat 32 c))
      (IntOp.addi (Scalar.addi (Scalar.muli (BitVec.ofNat 32 b) 1024#32) (BitVec.ofNat 32 e)) (BitVec.ofNat 32 r))) x y
      = if c ≤ r then x else y := by
  have e : ∀ n : ℕ, IntOp.addi (Scalar.addi (Scalar.muli (BitVec.ofNat 32 b) 1024#32) (BitVec.ofNat 32 e)) (BitVec.ofNat 32 n)
      = BitVec.ofNat 32 (b * 1024 + e + n) := fun n => by
    show BitVec.ofNat 32 b * BitVec.ofNat 32 1024 + BitVec.ofNat 32 e + BitVec.ofNat 32 n = _
    rw [← BitVec.ofNat_mul, ← BitVec.ofNat_add, ← BitVec.ofNat_add]
  rw [e, e, sle_small (by omega) (by omega)]
  by_cases h : c ≤ r
  · rw [if_pos h, if_pos (by omega)]
  · rw [if_neg h, if_neg (by omega)]

section Mask

variable {b : ℕ} (hb : b < 4)
include hb

theorem mask1 : Bits (k0_pay46 (BitVec.ofNat 32 b)) (fun r c => c ≤ r) := fun r c x y => by
  have hr := r.isLt
  have hc := c.isLt
  pointwise [k0_pay46]
  exact (mask_small hb (e := 0) (by omega) (by omega) (by omega) x y).trans (by congr)

theorem mask2 : Bits (k0_pay67 (BitVec.ofNat 32 b)) (fun r c => c ≤ r) := fun r c x y => by
  have hr := r.isLt
  have hc := c.isLt
  pointwise [k0_pay67]
  exact (mask_small hb (e := 256) (by omega) (by omega) (by omega) x y).trans (by congr)

theorem mask3 : Bits (k0_pay90 (BitVec.ofNat 32 b) (Scalar.addi (Scalar.muli (BitVec.ofNat 32 b) 1024#32) 512#32))
    (fun r c => c ≤ r) := fun r c x y => by
  have hr := r.isLt
  have hc := c.isLt
  pointwise [k0_pay90]
  exact (mask_small hb (e := 512) (by omega) (by omega) (by omega) x y).trans (by congr)

theorem mask4 : Bits (k0_pay110 (BitVec.ofNat 32 b)) (fun r c => c ≤ r) := fun r c x y => by
  have hr := r.isLt
  have hc := c.isLt
  pointwise [k0_pay110]
  exact (mask_small hb (e := 768) (by omega) (by omega) (by omega) x y).trans (by congr)

end Mask

/-! ### The fixed tables -/

/-- The fixed tables as real ones. -/
structure RSides where
  qA : ℕ → ℕ → ℝ
  qB : ℕ → ℕ → ℝ
  gA : ℕ → ℕ → ℝ
  gB : ℕ → ℕ → ℝ
  lA : ℕ → ℝ
  lB : ℕ → ℝ
  sA : ℕ → ℝ
  sB : ℕ → ℝ
  oA : ℕ → ℕ → ℝ
  oB : ℕ → ℕ → ℝ

/-- The rows from `e` on of all of them. -/
def RSides.at (P : RSides) (e : ℕ) : RSides where
  qA := sh e P.qA
  qB := sh e P.qB
  gA := sh e P.gA
  gB := sh e P.gB
  lA := sh e P.lA
  lB := sh e P.lB
  sA := sh e P.sA
  sB := sh e P.sB
  oA := sh e P.oA
  oB := sh e P.oB

structure HSides (p : Sides Ideal) (P : RSides) : Prop where
  qA : Mat p.qA P.qA
  qB : Mat p.qB P.qB
  gA : Mat p.gA P.gA
  gB : Mat p.gB P.gB
  lA : Col p.lA P.lA
  lB : Col p.lB P.lB
  sA : Col p.sA P.sA
  sB : Col p.sB P.sB
  oA : Mat p.oA P.oA
  oB : Mat p.oB P.oB

/-- The logistic function, as the kernel writes it. -/
def sg (x : ℝ) : ℝ := 1 / (1 + Real.exp (0 - x))

theorem sg_coe (x : ℝ) : Ideal.div 1 (1 + Ideal.exp (0 - ((x : ℝ) : EReal))) = ((sg x : ℝ) : EReal) := by
  rw [← EReal.coe_zero, ← EReal.coe_sub, Ideal.exp_coe, ← EReal.coe_one, ← EReal.coe_add,
    Ideal.div_coe (by positivity), ← EReal.coe_mul, one_mul, sg]

/-- The attention output's gradient: the mixed gradient times the gate. -/
def rDo (D G : ℕ → ℕ → ℝ) (r d : ℕ) : ℝ := D r d * (G r d * sg (G r d))

/-- The fixed tables from the queries, the output, the log-sums, the mixed gradient and the gate. -/
def rSides (Q O L D G : ℕ → ℕ → ℝ) : RSides where
  qA := lo Q
  qB := hi Q
  gA r d := if d < 64 then Q r d else if d < 67 then 1 else 0
  gB r d := if 64 ≤ d then Q r d else if d < 3 then 1 else 0
  lA r := L r 0
  lB r := L r 64
  sA r := ∑ d ∈ range 128, lo (fun r d => O r d * rDo D G r d) r d
  sB r := ∑ d ∈ range 128, hi (fun r d => O r d * rDo D G r d) r d
  oA := lo (rDo D G)
  oB := hi (rDo D G)

theorem rSides_at (Q O L D G : ℕ → ℕ → ℝ) (e : ℕ) : rSides (sh e Q) (sh e O) (sh e L) (sh e D) (sh e G) = (rSides Q O L D G).at e := rfl

section Tables

variable {x2 : Vec Ideal S1024x128 .bf16} {x6 x7 x8 x9 : Vec Ideal S1024x128 .f32} {Q O L D G : ℕ → ℕ → ℝ}

theorem pay33_mat (h8 : Mat x8 D) (h9 : Mat x9 G) : Mat (k0_pay33 x9 x8) (rDo D G) := fun r d => by
  pointwise [k0_pay33, k0_pay31]
  simp only [h8 r d, h9 r d, sg_coe, ← EReal.coe_mul, rDo]

theorem lane_67 : ∀ d : Fin 128, IntOp.cmpi CmpIPredicate.slt (BitVec.ofNat 32 d.val) 67#32 = if d.val < 67 then 1#1 else 0#1 := by
  decide
theorem lane_3 : ∀ d : Fin 128, IntOp.cmpi CmpIPredicate.slt (BitVec.ofNat 32 d.val) 3#32 = if d.val < 3 then 1#1 else 0#1 := by
  decide
theorem lane_ge : ∀ d : Fin 128, IntOp.cmpi CmpIPredicate.sge (BitVec.ofNat 32 d.val) 64#32 = if 64 ≤ d.val then 1#1 else 0#1 := by
  decide
theorem lane_0 : ∀ d : Fin 128, IntOp.cmpi CmpIPredicate.eq (BitVec.ofNat 32 d.val) 0#32 = if d = 0 then 1#1 else 0#1 := by
  decide
theorem lane_64 : ∀ d : Fin 128, IntOp.cmpi CmpIPredicate.eq (BitVec.ofNat 32 d.val) 64#32 = if d = 64 then 1#1 else 0#1 := by
  decide

theorem select_ite (p : Prop) [Decidable p] {α : Type} (x y : α) : Scalar.select (if p then 1#1 else 0#1) x y = if p then x else y := by
  split <;> rfl

theorem coe_ite (p : Prop) [Decidable p] (a b : ℝ) :
    ((if p then a else b : ℝ) : EReal) = if p then ((a : ℝ) : EReal) else ((b : ℝ) : EReal) := by
  split <;> rfl

theorem sides_mat (h2 : Mat x2 Q) (h6 : Mat x6 O) (h7 : Mat x7 L) (h8 : Mat x8 D) (h9 : Mat x9 G) :
    HSides (sides x2 x6 x7 x8 x9) (rSides Q O L D G) where
  qA r d := by
    pointwise [sides, k0_pay19, k0_pay16, k0_pay17, k0_pay18]
    rw [select_lane, h2 r d, ite_coe_zero]
    rfl
  qB r d := by
    pointwise [sides, k0_pay20, k0_pay16, k0_pay17, k0_pay18]
    rw [select_lane, h2 r d, zero_ite_coe]
    rfl
  gA r d := by
    pointwise [sides, k0_pay24, k0_pay21, k0_pay22, k0_pay23]
    simp only [lane_lt, lane_67, select_ite, h2 r d, rSides, coe_ite, EReal.coe_one, EReal.coe_zero]
  gB r d := by
    pointwise [sides, k0_pay27, k0_pay21, k0_pay22, k0_pay23, k0_pay25, k0_pay26]
    simp only [lane_ge, lane_3, select_ite, h2 r d, rSides, coe_ite, EReal.coe_one, EReal.coe_zero]
  lA r := by
    pointwise [sides, k0_pay29, k0_pay28, lanes]
    simp only [lane_0, select_ite, h7 r _, rSides, Finset.sum_ite_eq', Finset.mem_univ, if_true]
    rfl
  lB r := by
    pointwise [sides, k0_pay30, k0_pay28, lanes]
    simp only [lane_64, select_ite, h7 r _, rSides, Finset.sum_ite_eq', Finset.mem_univ, if_true]
    rfl
  sA r := by
    have h := pay33_mat h8 h9
    pointwise [sides, k0_pay36, k0_pay35, k0_pay32, k0_pay15]
    simp only [select_lane, h r _, h6 r _, ← EReal.coe_mul, ite_coe_zero, sum_coe, rSides, lo, Finset.sum_range, mul_comm]
  sB r := by
    have h := pay33_mat h8 h9
    pointwise [sides, k0_pay37, k0_pay35, k0_pay32, k0_pay15]
    simp only [select_lane, h r _, h6 r _, ← EReal.coe_mul, zero_ite_coe, sum_coe, rSides, hi, Finset.sum_range, mul_comm]
  oA r d := by
    have h := pay33_mat h8 h9
    pointwise [sides, k0_pay41, k0_pay38, k0_pay39, k0_pay40]
    rw [select_lane, h r d, ite_coe_zero]
    rfl
  oB r d := by
    have h := pay33_mat h8 h9
    pointwise [sides, k0_pay42, k0_pay38, k0_pay39, k0_pay40]
    rw [select_lane, h r d, zero_ite_coe]
    rfl

/-- The gate's gradient. -/
def rDfg (O D G : ℕ → ℕ → ℝ) (r d : ℕ) : ℝ :=
  D r d * O r d * (sg (G r d) * (1 + G r d * (1 - sg (G r d))))

theorem outDfg_mat (h6 : Mat x6 O) (h8 : Mat x8 D) (h9 : Mat x9 G) : Mat (outDfg x6 x8 x9) (rDfg O D G) := fun r d => by
  pointwise [outDfg, k0_pay34, k0_pay31, k0_pay32]
  rw [h6 r d, h8 r d, h9 r d, sg_coe]
  simp only [← EReal.coe_mul, ← EReal.coe_sub, ← EReal.coe_add, ← EReal.coe_one, rDfg]

theorem eighth : Ideal.ofBits .f32 0x3E000000#32 = ((0.125 : ℝ) : EReal) := by
  simp [Ideal.ofBits, Ideal.ieee, -EReal.coe_mul]
  norm_num

theorem outDq_mat {R : Carry Ideal × Bufs Ideal} {X : ℕ → ℕ → ℝ} (h : Mat R.1.dq X) :
    Mat (outDq R) (fun r d => X r d * 0.125) := fun r d => by
  pointwise [outDq, k0_pay2]
  rw [h r d, eighth, EReal.coe_mul]

end Tables

/-- Nothing is below the threshold. -/
theorem alive_one (ka kb : Vec Ideal S4096x128 .bf16) (bd fA fB : Ideal .f32) (n : ℕ) : alive ka kb bd fA fB n = 1#1 := by
  have h : (Named.named (F := Ideal) κ "dead" 0xC2D20000#32 : Ideal .f32) = ⊥ := by
    first | rfl | exact IdealRules.named_const.ideal_named_scalar κ _ _ _ rfl
  have h1 : ∀ x : Ideal .f32, Scalar.cmpf .oge x (⊥ : EReal) = 1#1 := fun x => by
    rw [Ideal.scalar_cmpf_def]
    show BitVec.ofBool (decide (⊥ ≤ _)) = 1#1
    rw [decide_eq_true bot_le]
    rfl
  rw [alive, aliveOf, h, h1, h1]
  rfl

end Cert.Proof.KI7

end
-- ==== Proof.Fox.Step.lean ====
/-
  One block of keys against the rows of a query block, over the real numbers: which part of the sums over all queries
  and all keys the block's step adds.
-/
module

public import proofs.«01_k».proof.Proof.Fox.Sides

@[expose] public section

noncomputable section

namespace Cert.Proof.KI7

open Cert.Kernel7Ideal Cert.Kernel7Ideal.Gen
open Idealize.ShloMosaic Idealize.ShloMosaic.TcCoe
open Finset

theorem Mat.congr {m n : ℕ} {x : (⟨2, ![m, n]⟩ : Shape).Idx → EReal} {X Y : ℕ → ℕ → ℝ} (h : Mat x X)
    (e : ∀ r < m, ∀ c < n, X r c = Y r c) : Mat x Y := fun r c => by
  rw [h r c, e r r.isLt c c.isLt]

theorem sh_sh {α : Type} (e E : ℕ) (x : ℕ → α) : sh e (sh E x) = sh (E + e) x := by
  funext r
  show x (E + (e + r)) = x (E + e + r)
  rw [add_assoc]

/-! ### Blocks of rows -/

section Rows

variable {n f : ℕ} {o : Fin 2 → ℕ} {h : ∀ a, o a + (⟨2, ![n, 128]⟩ : Shape).size a ≤ S4096x128.size a}
  (e0 : o 0 = f) (e1 : o 1 = 0)
include e0 e1

theorem rows_emb (r : Fin n) (d : Fin 128) (hf : f + r.val < 4096) :
    (Rect.unit (s := S4096x128) o (⟨2, ![n, 128]⟩ : Shape).size h).emb (ix2 r d) = (ix2 (⟨f + r.val, hf⟩ : Fin 4096) d : S4096x128.Idx) :=
  Rect.emb_eq_of_coords _ _ _ (fun a => by
    match a with
    | ⟨0, _⟩ => show f + r.val = o 0 + 1 * r.val; omega
    | ⟨1, _⟩ => show d.val = o 1 + 1 * d.val; omega)

include h in
theorem rows_fit : f + n ≤ 4096 := by
  have := h 0
  have h' : o 0 + n ≤ 4096 := this
  omega

theorem rows_mat {φ : FTy} {X : FVec Ideal S4096x128 φ} {F : ℕ → ℕ → ℝ} (hX : Mat X F) :
    Mat (m := n) (n := 128) (rows (Rect.unit (s := S4096x128) o (⟨2, ![n, 128]⟩ : Shape).size h) X) (sh f F) := fun r d => by
  have hf := rows_fit (h := h) e0 e1
  show X ((Rect.unit (s := S4096x128) o (⟨2, ![n, 128]⟩ : Shape).size h).emb (ix2 r d)) = _
  rw [rows_emb e0 e1 r d (by have := r.isLt; omega), hX _ d]
  rfl

theorem overlay_mat {X : FVec Ideal S4096x128 .f32} {Y : FVec Ideal ⟨2, ![n, 128]⟩ .f32} {F H : ℕ → ℕ → ℝ}
    (hX : Mat X F) (hY : Mat Y (sh f H)) (e : ∀ s, ¬(f ≤ s ∧ s < f + n) → ∀ d, F s d = H s d) :
    Mat (m := 4096) (n := 128) ((Rect.unit (s := S4096x128) o (⟨2, ![n, 128]⟩ : Shape).size h).overlay X Y) H := fun s d => by
  by_cases hs : f ≤ s.val ∧ s.val < f + n
  · have hr : s.val - f < n := by omega
    have e2 : (ix2 s d : S4096x128.Idx) = (Rect.unit (s := S4096x128) o (⟨2, ![n, 128]⟩ : Shape).size h).emb
        (ix2 (⟨s.val - f, hr⟩ : Fin n) d) := by
      rw [rows_emb e0 e1 _ d (by show f + (s.val - f) < 4096; have := s.isLt; omega)]
      congr 1
      apply Fin.ext
      show s.val = f + (s.val - f)
      omega
    rw [e2]
    refine (Rect.overlay_emb (Rect.unit (s := S4096x128) o (⟨2, ![n, 128]⟩ : Shape).size h) X Y _).trans ?_
    refine (hY _ d).trans ?_
    show ((H (f + (s.val - f)) d : ℝ) : EReal) = _
    rw [show f + (s.val - f) = s.val by omega]
  · refine (Rect.overlay_of_not_mem (Rect.unit (s := S4096x128) o (⟨2, ![n, 128]⟩ : Shape).size h) X Y ?_).trans ?_
    case neg.refine_2 => rw [hX s d, e s.val hs]
    intro hmem
    obtain ⟨h1, h2⟩ := Rect.mem_set_unit.mp hmem 0
    have h1' : o 0 ≤ s.val := h1
    have h2' : s.val < o 0 + n := h2
    omega

end Rows

/-! ### Sums over the queries -/

/-- Rows that add nothing may be left out. -/
theorem sum_skip (g : ℕ → ℝ) {a e : ℕ} (m : ℕ) (hae : a ≤ e) (h0 : ∀ t, a ≤ t → t < e → g t = 0) :
    ∑ t ∈ range (e + m), g t = ∑ t ∈ range a, g t + ∑ r ∈ range m, g (e + r) := by
  obtain ⟨k, rfl⟩ := Nat.exists_eq_add_of_le hae
  rw [Finset.sum_range_add, Finset.sum_range_add g a k,
    Finset.sum_eq_zero fun x hx => h0 (a + x) (by omega) (by have := Finset.mem_range.mp hx; omega), add_zero]

theorem addK_next {W W' x y : ℕ → ℕ → ℝ} {a e k : ℕ} (m d : ℕ) (hae : a ≤ e)
    (h0 : ∀ t, a ≤ t → t < e → W t k = 0) (h1 : ∀ t, a ≤ t → t < e → W' t k = 0) :
    addK (e + m) W W' x y k d = addK a W W' x y k d
      + (∑ r ∈ range m, W (e + r) k * x (e + r) d + ∑ r ∈ range m, W' (e + r) k * y (e + r) d) := by
  rw [addK, addK, sum_skip _ m hae fun t h h' => by rw [h0 t h h', zero_mul],
    sum_skip _ m hae fun t h h' => by rw [h1 t h h', zero_mul]]
  ring

/-- A gradient whose rows from `lo` to `hi` take in query block `b`. -/
def part (b lo hi : ℕ) (X : ℕ → ℕ → ℕ → ℝ) (s d : ℕ) : ℝ :=
  if lo ≤ s ∧ s < hi then X (1024 * (b + 1)) s d else X (1024 * b) s d

section Buf

variable {W W' x y A B : ℕ → ℕ → ℝ} {b lo hi lo' hi' f n E m : ℕ}

/-- The block's step on a gathered gradient. -/
theorem buf_step {o : Fin 2 → ℕ} {h : ∀ a, o a + (⟨2, ![n, 128]⟩ : Shape).size a ≤ S4096x128.size a} (e0 : o 0 = f) (e1 : o 1 = 0)
    (z : ∀ t s, t < s → W t s = 0) (z' : ∀ t s, t < s → W' t s = 0)
    (hE : 1024 * b ≤ E) (hm : E + m = 1024 * (b + 1)) (hf : E ≤ f ∨ E = 1024 * b)
    (hA : ∀ r < m, ∀ k < n, A r k = W (E + r) (f + k)) (hB : ∀ r < m, ∀ k < n, B r k = W' (E + r) (f + k))
    (hin : ∀ s, (lo' ≤ s ∧ s < hi') ↔ (lo ≤ s ∧ s < hi) ∨ (f ≤ s ∧ s < f + n))
    (hout : ∀ s, f ≤ s → s < f + n → ¬(lo ≤ s ∧ s < hi))
    {X : FVec Ideal S4096x128 .f32} {Y : FVec Ideal ⟨2, ![n, 128]⟩ .f32}
    (hX : Mat X (part b lo hi fun N => addK N W W' x y))
    (hY : Mat Y (fun k c => sh f (part b lo hi fun N => addK N W W' x y) k c + addK m A B (sh E x) (sh E y) k c)) :
    Mat (m := 4096) (n := 128) ((Rect.unit (s := S4096x128) o (⟨2, ![n, 128]⟩ : Shape).size h).overlay X Y)
      (part b lo' hi' fun N => addK N W W' x y) := by
  refine overlay_mat e0 e1 hX (hY.congr fun k hk d _ => ?_) fun s hs d => ?_
  · show part b lo hi (fun N => addK N W W' x y) (f + k) d + _ = part b lo' hi' (fun N => addK N W W' x y) (f + k) d
    rw [part, part, if_neg (hout _ (by omega) (by omega)), if_pos ((hin _).mpr (Or.inr ⟨by omega, by omega⟩)), ← hm,
      addK_next m d hE (fun t h1 h2 => z _ _ (by omega)) (fun t h1 h2 => z' _ _ (by omega)), addK]
    show addK (1024 * b) W W' x y (f + k) d + _ = _
    congr 1
    refine congrArg₂ (· + ·) ?_ ?_
    · exact Finset.sum_congr rfl fun r hr => by rw [hA r (Finset.mem_range.mp hr) k hk]; rfl
    · exact Finset.sum_congr rfl fun r hr => by rw [hB r (Finset.mem_range.mp hr) k hk]; rfl
  · rw [part, part]
    by_cases hl : lo ≤ s ∧ s < hi
    · rw [if_pos hl, if_pos ((hin s).mpr (Or.inl hl))]
    · rw [if_neg hl, if_neg fun x => ((hin s).mp x).elim hl hs]

/-! ### Sums over the keys -/

/-- Row `1024·b + r`'s gradient over the keys from `lo` to `hi`. -/
def qsum (W W' k kl : ℕ → ℕ → ℝ) (b lo hi r d : ℕ) : ℝ :=
  ∑ s ∈ Ico lo hi, (W (1024 * b + r) s * KI7.lo k s d + W' (1024 * b + r) s * KI7.hi kl s d)

/-- The keys of one block. -/
theorem qsum_block {k kl : ℕ → ℕ → ℝ} {e r d : ℕ} (hr : e ≤ r)
    (hA : ∀ c < n, A (r - e) c = W (1024 * b + r) (f + c)) (hB : ∀ c < n, B (r - e) c = W' (1024 * b + r) (f + c)) :
    addQ n A B (sh f k) (sh f kl) (r - e) d = qsum W W' k kl b f (f + n) r d := by
  rw [qsum, Finset.sum_Ico_eq_sum_range, Nat.add_sub_cancel_left, Finset.sum_add_distrib, addQ]
  congr 1
  · exact Finset.sum_congr rfl fun c hc => by rw [hA c (Finset.mem_range.mp hc)]; rfl
  · exact Finset.sum_congr rfl fun c hc => by rw [hB c (Finset.mem_range.mp hc)]; rfl

theorem qsum_zero {k kl : ℕ → ℕ → ℝ} {r d : ℕ} (z : ∀ t s, t < s → W t s = 0) (z' : ∀ t s, t < s → W' t s = 0)
    (h : 1024 * b + r < lo) : qsum W W' k kl b lo hi r d = 0 :=
  Finset.sum_eq_zero fun s hs => by
    have := (Finset.mem_Ico.mp hs).1
    rw [z _ _ (by omega), z' _ _ (by omega), zero_mul, zero_mul, add_zero]

theorem qsum_add (k kl : ℕ → ℕ → ℝ) {a c e : ℕ} (h : a ≤ c) (h' : c ≤ e) (r d : ℕ) :
    qsum W W' k kl b a c r d + qsum W W' k kl b c e r d = qsum W W' k kl b a e r d :=
  Finset.sum_Ico_consecutive _ h h'

/-- A diagonal block's step on the query gradient. -/
theorem q_step {k kl : ℕ → ℕ → ℝ} {e g r d : ℕ} (hg : g = 1024 * b + e + 256)
    (z : ∀ t s, t < s → W t s = 0) (z' : ∀ t s, t < s → W' t s = 0)
    (hA : ∀ r' c, A r' c = W (1024 * b + e + r') (1024 * b + e + c))
    (hB : ∀ r' c, B r' c = W' (1024 * b + e + r') (1024 * b + e + c)) :
    (qsum W W' k kl b (1024 * b) (1024 * b + e) r d
        + if r < e then 0 else addQ 256 A B (sh (1024 * b + e) k) (sh (1024 * b + e) kl) (r - e) d)
      = qsum W W' k kl b (1024 * b) g r d := by
  rw [hg, ← qsum_add k kl (show 1024 * b ≤ 1024 * b + e by omega) (show 1024 * b + e ≤ 1024 * b + e + 256 by omega)]
  congr 1
  by_cases h : r < e
  · rw [if_pos h, qsum_zero z z' (by omega)]
  · rw [if_neg h]
    refine qsum_block (by omega) (fun c _ => ?_) (fun c _ => ?_)
    · rw [hA, show 1024 * b + e + (r - e) = 1024 * b + r by omega]
    · rw [hB, show 1024 * b + e + (r - e) = 1024 * b + r by omega]

end Buf

/-- The mask of the whole sequence. -/
def le' : ℕ → ℕ → Prop := fun t s => s ≤ t

section At

variable {M : ℕ → ℕ → Prop} {E f r c : ℕ} (q k o v : ℕ → ℕ → ℝ) (l s : ℕ → ℝ)

theorem wP_at (h : M r c ↔ f + c ≤ E + r) : wP M (sh E q) (sh f k) (sh E l) r c = wP le' q k l (E + r) (f + c) := by
  rw [wP, wP]
  by_cases hm : M r c
  · rw [if_pos hm, if_pos (show le' (E + r) (f + c) from h.mp hm)]; rfl
  · rw [if_neg hm, if_neg (show ¬ le' (E + r) (f + c) from fun x => hm (h.mpr x))]

theorem wD_at (h : M r c ↔ f + c ≤ E + r) :
    wD M (sh E q) (sh f k) (sh E l) (sh E o) (sh f v) (sh E s) r c = wD le' q k l o v s (E + r) (f + c) := by
  rw [wD, wD, wP_at q k l h]; rfl

theorem wP_zero {t u : ℕ} (h : t < u) : wP le' q k l t u = 0 := if_neg (by show ¬ u ≤ t; omega)
theorem wD_zero {t u : ℕ} (h : t < u) : wD le' q k l o v s t u = 0 := by rw [wD, wP_zero q k l h, zero_mul]

end At

end Cert.Proof.KI7

end
-- ==== Proof.Fox.Point.lean ====
/-
  A point of the forget-gated attention's backward over the real numbers: the four diagonal blocks of keys and the walk
  over the blocks before them.
-/
module

public import proofs.«01_k».proof.Proof.Fox.Step
public import proofs.«01_k».proof.Proof.Fox.PayT
public import proofs.«01_k».proof.Proof.Fox.Pay1
public import proofs.«01_k».proof.Proof.Fox.Pay2
public import proofs.«01_k».proof.Proof.Fox.Pay3
public import proofs.«01_k».proof.Proof.Fox.Pay4

@[expose] public section

noncomputable section

namespace Cert.Proof.KI7

open Cert.Kernel7Ideal Cert.Kernel7Ideal.Gen
open Idealize.ShloMosaic Idealize.ShloMosaic.TcCoe
open Idealize.SL.Sem
open Finset

/-- The tables the whole pair of heads has: those of the queries' side, the keys of the first head, of the second, the values. -/
structure Tab where
  P : RSides
  K : ℕ → ℕ → ℝ
  KL : ℕ → ℕ → ℝ
  V : ℕ → ℕ → ℝ

namespace Tab

variable (T : Tab)

def wA : ℕ → ℕ → ℝ := wP le' T.P.gA T.K T.P.lA
def wB : ℕ → ℕ → ℝ := wP le' T.P.gB T.KL T.P.lB
def dA : ℕ → ℕ → ℝ := wD le' T.P.gA T.K T.P.lA T.P.oA T.V T.P.sA
def dB : ℕ → ℕ → ℝ := wD le' T.P.gB T.KL T.P.lB T.P.oB T.V T.P.sB

theorem wA_zero (t s : ℕ) (h : t < s) : T.wA t s = 0 := wP_zero _ _ _ h
theorem wB_zero (t s : ℕ) (h : t < s) : T.wB t s = 0 := wP_zero _ _ _ h
theorem dA_zero (t s : ℕ) (h : t < s) : T.dA t s = 0 := wD_zero _ _ _ _ _ _ h
theorem dB_zero (t s : ℕ) (h : t < s) : T.dB t s = 0 := wD_zero _ _ _ _ _ _ h

/-- The value and the key gradients gathered from the first `N` queries. -/
def gDv (N : ℕ) : ℕ → ℕ → ℝ := addK N T.wA T.wB T.P.oA T.P.oB
def gDk (N : ℕ) : ℕ → ℕ → ℝ := addK N T.dA T.dB T.P.qA T.P.qB

end Tab

/-- What holds after some blocks: rows `lo` to `hi` of the gathered gradients take in query block `b`, and the query
    gradient is summed over the keys from `lo'` to `hi'`. -/
structure HSt (T : Tab) (b lo hi : ℕ) (s : Carry Ideal × Bufs Ideal) : Prop where
  dk : Mat s.2.dk (part b lo hi T.gDk)
  dv : Mat s.2.dv (part b lo hi T.gDv)
  dq : Mat s.1.dq (qsum T.dA T.dB T.K T.KL b lo hi)

theorem off1_eq (i : grid0.Coords) (j : Fin 4) :
    k0_off1 i (BitVec.ofNat 32 (256 * j.val)) = ![1024 * (i 1).val + 256 * j.val, 0] := by
  have h : ∀ b j : Fin 4, (Scalar.addi (Scalar.muli (BitVec.ofNat 32 b.val) 1024#32) (BitVec.ofNat 32 (256 * j.val))).toNat
      = 1024 * b.val + 256 * j.val := by decide +kernel
  rw [← h (i 1) j]
  rfl

section Diag

variable {i : grid0.Coords} {p : Sides Ideal} {ka kb vc : Vec Ideal S4096x128 .bf16} {T : Tab} {b : ℕ}
variable (hb : (i 1).val = b) (hp : HSides p (T.P.at (1024 * b))) (ha : Mat ka T.K) (hkb : Mat kb T.KL) (hv : Mat vc T.V)

theorem off_0 (hb : (i 1).val = b) (j : Fin 4) : k0_off1 i (BitVec.ofNat 32 (256 * j.val)) 0 = 1024 * b + 256 * j.val := by
  rw [off1_eq, ← hb]; rfl
theorem off_1 (j : Fin 4) : k0_off1 i (BitVec.ofNat 32 (256 * j.val)) 1 = 0 := by
  rw [off1_eq]; rfl

include hb

theorem dg_mat (j : Fin 4) (e : ℕ) (he : 256 * j.val = e) {φ : FTy} {X : FVec Ideal S4096x128 φ} {F : ℕ → ℕ → ℝ} (hX : Mat X F) :
    Mat (m := 256) (n := 128) (rows (dg i j) X) (sh (1024 * b + e) F) := by
  subst he
  exact rows_mat (off_0 hb j) (off_1 j) hX

/-- The step of diagonal block `j` on a gathered gradient. -/
theorem dg_step (j : Fin 4) (e m g : ℕ) (W W' x y : ℕ → ℕ → ℝ) {A B : ℕ → ℕ → ℝ} (he : 256 * j.val = e) (hm : e + m = 1024)
    (hg : g = 1024 * b + e + 256) (z : ∀ t s, t < s → W t s = 0) (z' : ∀ t s, t < s → W' t s = 0)
    {X : FVec Ideal S4096x128 .f32} {Y : FVec Ideal ⟨2, ![256, 128]⟩ .f32}
    (hX : Mat X (part b (1024 * b) (1024 * b + e) fun N => addK N W W' x y))
    (hY : Mat Y (fun k c => sh (1024 * b + e) (part b (1024 * b) (1024 * b + e) fun N => addK N W W' x y) k c
      + addK m A B (sh (1024 * b + e) x) (sh (1024 * b + e) y) k c))
    (hA : ∀ r c, A r c = W (1024 * b + e + r) (1024 * b + e + c))
    (hB : ∀ r c, B r c = W' (1024 * b + e + r) (1024 * b + e + c)) :
    Mat (m := 4096) (n := 128) ((dg i j).overlay X Y) (part b (1024 * b) g fun N => addK N W W' x y) := by
  subst he hg
  exact buf_step (off_0 hb j) (off_1 j) z z' (by omega) (by omega) (Or.inl le_rfl) (fun r _ k _ => hA r k) (fun r _ k _ => hB r k)
    (fun s => by omega) (fun s h1 h2 => by omega) hX hY

include hp ha hkb hv

theorem diag1_mat {s : Bufs Ideal} (hdk : Mat s.dk (T.gDk (1024 * b))) (hdv : Mat s.dv (T.gDv (1024 * b))) :
    HSt T b (1024 * b) (1024 * b + 256) (diag1 i p ka kb vc s) := by
  have hb4 : b < 4 := hb ▸ (i 1).isLt
  have hk := dg_mat (φ := .bf16) hb 0 0 rfl ha
  have hl := dg_mat (φ := .bf16) hb 0 0 rfl hkb
  have hw := dg_mat (φ := .bf16) hb 0 0 rfl hv
  have m := mask1 hb4
  rw [← hb] at m
  have p0 : ∀ X : ℕ → ℕ → ℕ → ℝ, part b (1024 * b) (1024 * b + 0) X = X (1024 * b) := fun X => by
    funext s d
    rw [part, if_neg (by omega)]
  have hk' : Mat s.dk (part b (1024 * b) (1024 * b + 0) T.gDk) := by rw [p0]; exact hdk
  have hv' : Mat s.dv (part b (1024 * b) (1024 * b + 0) T.gDv) := by rw [p0]; exact hdv
  have iff : ∀ r c : ℕ, c ≤ r ↔ 1024 * b + 0 + c ≤ 1024 * b + 0 + r := fun r c => by omega
  have hp : HSides p (T.P.at (1024 * b + 0)) := hp
  have DA := pay54_mat m hp.gA hp.lA hk hp.oA hp.sA hw
  have DB := pay56_mat m hp.gB hp.lB hl hp.oB hp.sB hw
  have NK := pay63_mat DA DB hp.qA hp.qB (dg_mat (φ := .f32) hb 0 0 rfl hk')
  have NV := pay62_mat (pay53_mat m hp.gA hp.lA hk) (pay55_mat m hp.gB hp.lB hl) hp.oA hp.oB (dg_mat (φ := .f32) hb 0 0 rfl hv')
  have NQ := pay65_mat DA DB hk hl
  simp only [RSides.at] at NK NV NQ
  have RK := dg_step hb 0 0 1024 (1024 * b + 256) T.dA T.dB T.P.qA T.P.qB rfl rfl rfl T.dA_zero T.dB_zero hk' NK
    (fun r c => wD_at _ _ _ _ _ _ (iff r c)) (fun r c => wD_at _ _ _ _ _ _ (iff r c))
  have RV := dg_step hb 0 0 1024 (1024 * b + 256) T.wA T.wB T.P.oA T.P.oB rfl rfl rfl T.wA_zero T.wB_zero hv' NV
    (fun r c => wP_at _ _ _ (iff r c)) (fun r c => wP_at _ _ _ (iff r c))
  refine ⟨RK, RV, NQ.congr fun r _ d _ => ?_⟩
  exact qsum_block (e := 0) (W := T.dA) (W' := T.dB) (Nat.zero_le _) (fun c _ => wD_at (E := 1024 * b + 0) _ _ _ _ _ _ (iff r c))
    (fun c _ => wD_at (E := 1024 * b + 0) _ _ _ _ _ _ (iff r c))

theorem diag2_mat {s : Carry Ideal × Bufs Ideal} (hs : HSt T b (1024 * b) (1024 * b + 256) s) :
    HSt T b (1024 * b) (1024 * b + 512) (diag2 i p ka kb vc s) := by
  have hb4 : b < 4 := hb ▸ (i 1).isLt
  have hk := dg_mat (φ := .bf16) hb 1 256 rfl ha
  have hl := dg_mat (φ := .bf16) hb 1 256 rfl hkb
  have hw := dg_mat (φ := .bf16) hb 1 256 rfl hv
  have m := mask2 hb4
  rw [← hb] at m
  have iff : ∀ r c : ℕ, c ≤ r ↔ 1024 * b + 256 + c ≤ 1024 * b + 256 + r := fun r c => by omega
  have hg : 1024 * b + 512 = 1024 * b + 256 + 256 := by omega
  have DA := pay78_mat m hp.gA hp.lA hk hp.oA hp.sA hw
  have DB := pay84_mat m hp.gB hp.lB hl hp.oB hp.sB hw
  have WA := pay77_mat m hp.gA hp.lA hk
  have WB := pay83_mat m hp.gB hp.lB hl
  have NK := pay87_mat DA DB hp.qA hp.qB (dg_mat (φ := .f32) hb 1 256 rfl hs.dk)
  have NV := pay86_mat WA WB hp.oA hp.oB (dg_mat (φ := .f32) hb 1 256 rfl hs.dv)
  have NQ := pay88_mat DA DB hk hl hs.dq
  simp only [RSides.at, sh_sh] at NK NV NQ
  have RK := dg_step hb 1 256 768 (1024 * b + 512) T.dA T.dB T.P.qA T.P.qB rfl rfl hg T.dA_zero T.dB_zero hs.dk NK
    (fun r c => wD_at _ _ _ _ _ _ (iff r c)) (fun r c => wD_at _ _ _ _ _ _ (iff r c))
  have RV := dg_step hb 1 256 768 (1024 * b + 512) T.wA T.wB T.P.oA T.P.oB rfl rfl hg T.wA_zero T.wB_zero hs.dv NV
    (fun r c => wP_at _ _ _ (iff r c)) (fun r c => wP_at _ _ _ (iff r c))
  exact ⟨RK, RV, NQ.congr fun r _ d _ => q_step hg T.dA_zero T.dB_zero
    (fun r c => wD_at _ _ _ _ _ _ (iff r c)) (fun r c => wD_at _ _ _ _ _ _ (iff r c))⟩

theorem diag3_mat {s : Carry Ideal × Bufs Ideal} (hs : HSt T b (1024 * b) (1024 * b + 512) s) :
    HSt T b (1024 * b) (1024 * b + 768) (diag3 i p ka kb vc s) := by
  have hb4 : b < 4 := hb ▸ (i 1).isLt
  have hk := dg_mat (φ := .bf16) hb 2 512 rfl ha
  have hl := dg_mat (φ := .bf16) hb 2 512 rfl hkb
  have hw := dg_mat (φ := .bf16) hb 2 512 rfl hv
  have m := mask3 hb4
  rw [← hb] at m
  have iff : ∀ r c : ℕ, c ≤ r ↔ 1024 * b + 512 + c ≤ 1024 * b + 512 + r := fun r c => by omega
  have hg : 1024 * b + 768 = 1024 * b + 512 + 256 := by omega
  have DA := pay100_mat m hp.gA hp.lA hk hp.oA hp.sA hw
  have DB := pay105_mat m hp.gB hp.lB hl hp.oB hp.sB hw
  have WA := pay95_mat m hp.gA hp.lA hk
  have WB := pay101_mat m hp.gB hp.lB hl
  have NK := pay107_mat DA DB hp.qA hp.qB (dg_mat (φ := .f32) hb 2 512 rfl hs.dk)
  have NV := pay106_mat WA WB hp.oA hp.oB (dg_mat (φ := .f32) hb 2 512 rfl hs.dv)
  have NQ := pay108_mat DA DB hk hl hs.dq
  simp only [RSides.at, sh_sh] at NK NV NQ
  have RK := dg_step hb 2 512 512 (1024 * b + 768) T.dA T.dB T.P.qA T.P.qB rfl rfl hg T.dA_zero T.dB_zero hs.dk NK
    (fun r c => wD_at _ _ _ _ _ _ (iff r c)) (fun r c => wD_at _ _ _ _ _ _ (iff r c))
  have RV := dg_step hb 2 512 512 (1024 * b + 768) T.wA T.wB T.P.oA T.P.oB rfl rfl hg T.wA_zero T.wB_zero hs.dv NV
    (fun r c => wP_at _ _ _ (iff r c)) (fun r c => wP_at _ _ _ (iff r c))
  exact ⟨RK, RV, NQ.congr fun r _ d _ => q_step hg T.dA_zero T.dB_zero
    (fun r c => wD_at _ _ _ _ _ _ (iff r c)) (fun r c => wD_at _ _ _ _ _ _ (iff r c))⟩

theorem diag4_mat {s : Carry Ideal × Bufs Ideal} (hs : HSt T b (1024 * b) (1024 * b + 768) s) :
    HSt T b (1024 * b) (1024 * (b + 1)) (diag4 i p ka kb vc s) := by
  have hb4 : b < 4 := hb ▸ (i 1).isLt
  have hk := dg_mat (φ := .bf16) hb 3 768 rfl ha
  have hl := dg_mat (φ := .bf16) hb 3 768 rfl hkb
  have hw := dg_mat (φ := .bf16) hb 3 768 rfl hv
  have m := mask4 hb4
  rw [← hb] at m
  have iff : ∀ r c : ℕ, c ≤ r ↔ 1024 * b + 768 + c ≤ 1024 * b + 768 + r := fun r c => by omega
  have hg : 1024 * (b + 1) = 1024 * b + 768 + 256 := by omega
  have DA := pay119_mat m hp.gA hp.lA hk hp.oA hp.sA hw
  have DB := pay126_mat m hp.gB hp.lB hl hp.oB hp.sB hw
  have WA := pay118_mat m hp.gA hp.lA hk
  have WB := pay122_mat m hp.gB hp.lB hl
  have NK := pay128_mat DA DB hp.qA hp.qB (dg_mat (φ := .f32) hb 3 768 rfl hs.dk)
  have NV := pay127_mat WA WB hp.oA hp.oB (dg_mat (φ := .f32) hb 3 768 rfl hs.dv)
  have NQ := pay129_mat DA DB hk hl hs.dq
  simp only [RSides.at, sh_sh] at NK NV NQ
  have RK := dg_step hb 3 768 256 (1024 * (b + 1)) T.dA T.dB T.P.qA T.P.qB rfl rfl hg T.dA_zero T.dB_zero hs.dk NK
    (fun r c => wD_at _ _ _ _ _ _ (iff r c)) (fun r c => wD_at _ _ _ _ _ _ (iff r c))
  have RV := dg_step hb 3 768 256 (1024 * (b + 1)) T.wA T.wB T.P.oA T.P.oB rfl rfl hg T.wA_zero T.wB_zero hs.dv NV
    (fun r c => wP_at _ _ _ (iff r c)) (fun r c => wP_at _ _ _ (iff r c))
  exact ⟨RK, RV, NQ.congr fun r _ d _ => q_step hg T.dA_zero T.dB_zero
    (fun r c => wD_at _ _ _ _ _ _ (iff r c)) (fun r c => wD_at _ _ _ _ _ _ (iff r c))⟩

theorem diag_mat {s : Bufs Ideal} (hdk : Mat s.dk (T.gDk (1024 * b))) (hdv : Mat s.dv (T.gDv (1024 * b))) :
    HSt T b (1024 * b) (1024 * (b + 1)) (diag i p ka kb vc s) :=
  diag4_mat hb hp ha hkb hv (diag3_mat hb hp ha hkb hv (diag2_mat hb hp ha hkb hv (diag1_mat hb hp ha hkb hv hdk hdv)))

omit hb

set_option maxHeartbeats 1000000 in
/-- One trip of the walk. -/
theorem trip_mat {n : ℕ} {s : Carry Ideal × Bufs Ideal} (hn : 512 * (n + 1) ≤ 1024 * b) (hb4 : b < 4)
    (hs : HSt T b (512 * (n + 1)) (1024 * (b + 1)) s) : HSt T b (512 * n) (1024 * (b + 1)) (trip p ka kb vc n s) := by
  have e0 : (![512 * (n % 8), 0] : Fin 2 → ℕ) 0 = 512 * n := by
    show 512 * (n % 8) = _; omega
  have hk := rows_mat (φ := .bf16) (h := in_blk n) e0 rfl ha
  have hl := rows_mat (φ := .bf16) (h := in_blk n) e0 rfl hkb
  have hw := rows_mat (φ := .bf16) (h := in_blk n) e0 rfl hv
  have iff : ∀ r c : ℕ, c < 512 → (all r c ↔ 512 * n + c ≤ 1024 * b + r) := fun r c hc => ⟨fun _ => by omega, fun _ => trivial⟩
  have WA := pay142_mat hp.gA hp.lA hk
  have WB := pay144_mat hp.gB hp.lB hl
  have DA := pay143_mat hp.gA hp.lA hk hp.oA hp.sA hw
  have DB := pay148_mat (pay137_mat hp.oB hw) WB hp.sB
  have NK := pay150_mat DA DB hp.qA hp.qB (rows_mat (φ := .f32) (h := in_blk n) e0 rfl hs.dk)
  have NV := pay149_mat WA WB hp.oA hp.oB (rows_mat (φ := .f32) (h := in_blk n) e0 rfl hs.dv)
  have NQ := pay5_mat DA DB hk hl hs.dq
  simp only [RSides.at] at NK NV NQ
  have RK := buf_step (h := in_blk n) (lo' := 512 * n) (hi' := 1024 * (b + 1)) (W := T.dA) (W' := T.dB) (x := T.P.qA) (y := T.P.qB)
    (E := 1024 * b) e0 rfl T.dA_zero T.dB_zero le_rfl (by omega) (Or.inr rfl)
    (fun r _ k h => wD_at _ _ _ _ _ _ (iff r k h)) (fun r _ k h => wD_at _ _ _ _ _ _ (iff r k h))
    (fun s => by omega) (fun s h1 h2 => by omega) hs.dk NK
  have RV := buf_step (h := in_blk n) (lo' := 512 * n) (hi' := 1024 * (b + 1)) (W := T.wA) (W' := T.wB) (x := T.P.oA) (y := T.P.oB)
    (E := 1024 * b) e0 rfl T.wA_zero T.wB_zero le_rfl (by omega) (Or.inr rfl)
    (fun r _ k h => wP_at _ _ _ (iff r k h)) (fun r _ k h => wP_at _ _ _ (iff r k h))
    (fun s => by omega) (fun s h1 h2 => by omega) hs.dv NV
  refine ⟨RK, RV, ?_⟩
  · refine NQ.congr fun r _ d _ => ?_
    rw [← qsum_add T.K T.KL (show 512 * n ≤ 512 * (n + 1) by omega) (show 512 * (n + 1) ≤ 1024 * (b + 1) by omega), add_comm]
    congr 1
    exact qsum_block (e := 0) (Nat.zero_le _) (fun c h => wD_at _ _ _ _ _ _ (iff r c h)) (fun c h => wD_at _ _ _ _ _ _ (iff r c h))

/-- The whole walk. -/
theorem walk_mat (hb4 : b < 4) (bd fA fB : Ideal .f32) : ∀ (n : ℕ) (s : Carry Ideal × Bufs Ideal), 512 * n ≤ 1024 * b →
    HSt T b (512 * n) (1024 * (b + 1)) s → (walk p ka kb vc bd fA fB n s).1 = 0
      ∧ HSt T b 0 (1024 * (b + 1)) (walk p ka kb vc bd fA fB n s).2
  | 0, s, _, hs => ⟨rfl, hs⟩
  | n + 1, s, hn, hs => by
    rw [walk, if_pos (alive_one ka kb bd fA fB (n + 1))]
    exact walk_mat hb4 bd fA fB n _ (by omega) (trip_mat hp ha hkb hv hn hb4 hs)

end Diag

section Point

variable {i : grid0.Coords} {x2 : Vec Ideal S1024x128 .bf16} {ka kb vc : Vec Ideal S4096x128 .bf16}
  {x6 x7 x8 x9 : Vec Ideal S1024x128 .f32} {Q O L D G K KL V : ℕ → ℕ → ℝ} {b : ℕ}

/-- The tables of a pair of heads from its arrays. -/
def tab (Q O L D G K KL V : ℕ → ℕ → ℝ) : Tab := { P := rSides Q O L D G, K := K, KL := KL, V := V }

/-- The whole point: from the gradients gathered over the query blocks before, those over one more block, and the
    block's query gradient. -/
theorem point_mat (x10 : Vec Ideal S1x128 .f32) (hb : (i 1).val = b)
    (h2 : Mat x2 (sh (1024 * b) Q)) (ha : Mat ka K) (hkb : Mat kb KL) (hv : Mat vc V)
    (h6 : Mat x6 (sh (1024 * b) O)) (h7 : Mat x7 (sh (1024 * b) L)) (h8 : Mat x8 (sh (1024 * b) D)) (h9 : Mat x9 (sh (1024 * b) G))
    {s : Bufs Ideal} (hdk : b ≠ 0 → Mat s.dk ((tab Q O L D G K KL V).gDk (1024 * b)))
    (hdv : b ≠ 0 → Mat s.dv ((tab Q O L D G K KL V).gDv (1024 * b))) :
    HSt (tab Q O L D G K KL V) b 0 (1024 * (b + 1)) (point i x2 ka kb vc x6 x7 x8 x9 x10 s) := by
  subst hb
  have hb4 : (i 1).val < 4 := (i 1).isLt
  have hp : HSides (sides x2 x6 x7 x8 x9) ((tab Q O L D G K KL V).P.at (1024 * (i 1).val)) := by
    have := sides_mat h2 h6 h7 h8 h9
    rw [rSides_at] at this
    exact this
  have hc : Mat (cleared i s).dk ((tab Q O L D G K KL V).gDk (1024 * (i 1).val)) ∧ Mat (cleared i s).dv ((tab Q O L D G K KL V).gDv (1024 * (i 1).val)) := by
    by_cases h0 : (i 1).val = 0
    · rw [cleared, if_pos h0, h0]
      constructor
      · intro r c
        pointwise [k0_pay12]
        rw [Tab.gDk, addK, Finset.sum_range_zero, Finset.sum_range_zero, add_zero, EReal.coe_zero]
      · intro r c
        pointwise [k0_pay13]
        rw [Tab.gDv, addK, Finset.sum_range_zero, Finset.sum_range_zero, add_zero, EReal.coe_zero]
    · rw [cleared, if_neg h0]
      exact ⟨hdk h0, hdv h0⟩
  have hd := diag_mat (T := tab Q O L D G K KL V) rfl hp ha hkb hv hc.1 hc.2
  have hw := walk_mat (T := tab Q O L D G K KL V) hp ha hkb hv hb4 (k0_pay1 x10) (k0_pay130 (sides x2 x6 x7 x8 x9).lA)
    (k0_pay131 (sides x2 x6 x7 x8 x9).lB) (2 * (i 1).val) (diag i (sides x2 x6 x7 x8 x9) ka kb vc (cleared i s)) (by omega)
    (by rw [← mul_assoc]; exact hd)
  unfold point
  dsimp only
  rw [show (both i x2 ka kb vc x6 x7 x8 x9 x10 s).1 = 0 from hw.1]
  exact hw.2

end Point

end Cert.Proof.KI7

end
-- ==== Proof.Fox.Walk.lean ====
/-
  The three walks' labels meet their specifications. Entered with `n` blocks still to visit — the counter at `2·i - n`
  for query block `i` —, holding the keys (with each head's bias lanes), the values and the three gathered gradients at
  given contents, each label's function returns the counter, the carry and the gradients' contents that `walk`, `walkA`
  or `walkB` give. By induction on `n`: the tested rows are the last sixteen of block `n - 1`; with no block left the
  counter's test fails; otherwise the test decides as the model's own, the counter's rectangles are block `n - 1`'s, and
  the function's own call is answered by the induction hypothesis.
-/
module

public import proofs.«01_k».proof.Proof.Fox.Model
public import Idealize.ShloMosaic.Lib.Pipeline.Frame
public import Idealize.ShloMosaic.Lib.Tactic

@[expose] public section

noncomputable section

namespace Cert.Proof.KI7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The variants: the blocks still to visit. -/
abbrev 𝒱₀ : Variants := Variants.nat

/-! ### Words -/

/-- The walks' block count (the printed floor division of `1024·i` by 512). -/
def countOf (w : BitVec 32) : BitVec 32 :=
  Scalar.select (Scalar.andi (Scalar.cmpi .ne (Scalar.subi (Scalar.extui (Scalar.cmpi .sgt (Scalar.muli w 1024#32) 0#32))
      (Scalar.extui (Scalar.cmpi .slt (Scalar.muli w 1024#32) 0#32)))
    (Scalar.subi (Scalar.extui (Scalar.cmpi .sgt 512#32 0#32)) (Scalar.extui (Scalar.cmpi .slt 512#32 0#32))))
    (Scalar.cmpi .ne (Scalar.remsi (Scalar.muli w 1024#32) 512#32) 0#32))
    (Scalar.subi (Scalar.divsi (Scalar.muli w 1024#32) 512#32) 1#32) (Scalar.divsi (Scalar.muli w 1024#32) 512#32)

/-- The counter with `n` blocks left. -/
abbrev ctr (i : grid0.Coords) (n : ℕ) : BitVec 32 := BitVec.ofNat 32 (2 * (i 1).val - n)

theorem lt_count (i : grid0.Coords) (n : ℕ) (hn : n + 1 ≤ 2 * (i 1).val) :
    Scalar.cmpi .slt (ctr i (n + 1)) (countOf (BitVec.ofNat 32 (i 1).val)) = 1#1 := by
  have h : ∀ (b : Fin 4) (m : Fin 8), m.val + 1 ≤ 2 * b.val →
      Scalar.cmpi .slt (BitVec.ofNat 32 (2 * b.val - (m.val + 1))) (countOf (BitVec.ofNat 32 b.val)) = 1#1 := by decide +kernel
  have h4 : (i 1).val < 4 := (i 1).isLt
  exact h ⟨(i 1).val, h4⟩ ⟨n, by omega⟩ hn

theorem not_lt_count (i : grid0.Coords) :
    Scalar.cmpi .slt (ctr i 0) (countOf (BitVec.ofNat 32 (i 1).val)) = 0#1 := by
  have h : ∀ b : Fin 4, Scalar.cmpi .slt (BitVec.ofNat 32 (2 * b.val - 0)) (countOf (BitVec.ofNat 32 b.val)) = 0#1 := by decide +kernel
  exact h (i 1)

/-- The next counter. -/
theorem next_word (i : grid0.Coords) (n : ℕ) (hn : n + 1 ≤ 2 * (i 1).val) : Scalar.addi (ctr i (n + 1)) 1#32 = ctr i n := by
  have h : ∀ (b : Fin 4) (m : Fin 8), m.val + 1 ≤ 2 * b.val →
      Scalar.addi (BitVec.ofNat 32 (2 * b.val - (m.val + 1))) 1#32 = BitVec.ofNat 32 (2 * b.val - m.val) := by decide +kernel
  have h4 : (i 1).val < 4 := (i 1).isLt
  exact h ⟨(i 1).val, h4⟩ ⟨n, by omega⟩ hn

/-- The row a block's rectangle starts at, and the row the test's starts at. -/
def startOf (b w : BitVec 32) : ℕ := (Scalar.muli (Scalar.subi (Scalar.subi (countOf b) 1#32) w) 512#32).toNat
def tailOf (b w : BitVec 32) : ℕ :=
  (Scalar.subi (Scalar.addi (Scalar.muli (Scalar.maxsi (Scalar.subi (Scalar.subi (countOf b) 1#32) w) 0#32) 512#32) 512#32) 16#32).toNat

theorem startOf_eq (i : grid0.Coords) (n : ℕ) (hn : n + 1 ≤ 2 * (i 1).val) :
    startOf (BitVec.ofNat 32 (i 1).val) (ctr i (n + 1)) = 512 * (n % 8) := by
  have h : ∀ (b : Fin 4) (m : Fin 8), m.val + 1 ≤ 2 * b.val →
      startOf (BitVec.ofNat 32 b.val) (BitVec.ofNat 32 (2 * b.val - (m.val + 1))) = 512 * (m.val % 8) := by decide +kernel
  have h4 : (i 1).val < 4 := (i 1).isLt
  exact h ⟨(i 1).val, h4⟩ ⟨n, by omega⟩ hn

theorem tailOf_eq (i : grid0.Coords) (n : ℕ) (hn : n ≤ 2 * (i 1).val) :
    tailOf (BitVec.ofNat 32 (i 1).val) (ctr i n) = 512 * ((n - 1) % 8) + 496 := by
  have h : ∀ (b : Fin 4) (m : Fin 8), m.val ≤ 2 * b.val →
      tailOf (BitVec.ofNat 32 b.val) (BitVec.ofNat 32 (2 * b.val - m.val)) = 512 * ((m.val - 1) % 8) + 496 := by decide +kernel
  have h4 : (i 1).val < 4 := (i 1).isLt
  exact h ⟨(i 1).val, h4⟩ ⟨n, by omega⟩ hn

variable (i : grid0.Coords)

theorem off4 (n : ℕ) (hn : n ≤ 2 * (i 1).val) : k0_off4 i (ctr i n) = ![512 * ((n - 1) % 8) + 496, 0] := by
  show ![tailOf (BitVec.ofNat 32 (i 1).val) (ctr i n), 0] = _
  rw [tailOf_eq i n hn]
theorem off8 (n : ℕ) (hn : n ≤ 2 * (i 1).val) : k0_off8 i (ctr i n) = ![512 * ((n - 1) % 8) + 496, 0] := off4 i n hn
theorem off11 (n : ℕ) (hn : n ≤ 2 * (i 1).val) : k0_off11 i (ctr i n) = ![512 * ((n - 1) % 8) + 496, 0] := off4 i n hn
theorem off5 (n : ℕ) (hn : n + 1 ≤ 2 * (i 1).val) : k0_off5 i (ctr i (n + 1)) = ![512 * (n % 8), 0] := by
  show ![startOf (BitVec.ofNat 32 (i 1).val) (ctr i (n + 1)), 0] = _
  rw [startOf_eq i n hn]
theorem off9 (n : ℕ) (hn : n + 1 ≤ 2 * (i 1).val) : k0_off9 i (ctr i (n + 1)) = ![512 * (n % 8), 0] := off5 i n hn
theorem off12 (n : ℕ) (hn : n + 1 ≤ 2 * (i 1).val) : k0_off12 i (ctr i (n + 1)) = ![512 * (n % 8), 0] := off5 i n hn
theorem off6 (n : ℕ) (hn : n + 1 ≤ 2 * (i 1).val) : k0_off6 i (ctr i (n + 1)) = ![0, 0, 512 * (n % 8)] := by
  show ![0, 0, startOf (BitVec.ofNat 32 (i 1).val) (ctr i (n + 1))] = _
  rw [startOf_eq i n hn]
theorem off10 (n : ℕ) (hn : n + 1 ≤ 2 * (i 1).val) : k0_off10 i (ctr i (n + 1)) = ![0, 0, 512 * (n % 8)] := off6 i n hn
theorem off7 (n : ℕ) (hn : n + 1 ≤ 2 * (i 1).val) : k0_off7 i (ctr i (n + 1)) = ![0, 1, 512 * (n % 8)] := by
  show ![0, 1, startOf (BitVec.ofNat 32 (i 1).val) (ctr i (n + 1))] = _
  rw [startOf_eq i n hn]
theorem off13 (n : ℕ) (hn : n + 1 ≤ 2 * (i 1).val) : k0_off13 i (ctr i (n + 1)) = ![0, 1, 512 * (n % 8)] := off7 i n hn

theorem mult_tail (n : ℕ) (hn : n ≤ 2 * (i 1).val) : 16 ∣ tailOf (BitVec.ofNat 32 (i 1).val) (ctr i n) := by
  rw [tailOf_eq i n hn]; omega
theorem mult_start (n : ℕ) (hn : n + 1 ≤ 2 * (i 1).val) : 512 ∣ startOf (BitVec.ofNat 32 (i 1).val) (ctr i (n + 1)) := by
  rw [startOf_eq i n hn]; omega

theorem chk1 (n : ℕ) (hn : n ≤ 2 * (i 1).val) : k0_chk1 i (ctr i n) := by
  refine ⟨mult_tail i n hn, ?_, mult_tail i n hn⟩
  rw [off4 i n hn]; exact in_tail n
theorem chk3 (n : ℕ) (hn : n ≤ 2 * (i 1).val) : k0_chk3 i (ctr i n) := by
  refine ⟨mult_tail i n hn, ?_⟩
  rw [off8 i n hn]; exact in_tail n
theorem chk5 (n : ℕ) (hn : n ≤ 2 * (i 1).val) : k0_chk5 i (ctr i n) := by
  refine ⟨mult_tail i n hn, ?_⟩
  rw [off11 i n hn]; exact in_tail n
theorem chk2 (n : ℕ) (hn : n + 1 ≤ 2 * (i 1).val) : k0_chk2 i (ctr i (n + 1)) := by
  refine ⟨mult_start i n hn, ?_, ?_, ?_⟩
  · rw [off5 i n hn]; exact in_blk n
  · rw [off6 i n hn]; exact in_cols 0 n
  · rw [off7 i n hn]; exact in_cols 1 n
theorem chk4 (n : ℕ) (hn : n + 1 ≤ 2 * (i 1).val) : k0_chk4 i (ctr i (n + 1)) := by
  refine ⟨mult_start i n hn, ?_, ?_⟩
  · rw [off9 i n hn]; exact in_blk n
  · rw [off10 i n hn]; exact in_cols 0 n
theorem chk6 (n : ℕ) (hn : n + 1 ≤ 2 * (i 1).val) : k0_chk6 i (ctr i (n + 1)) := by
  refine ⟨mult_start i n hn, ?_, ?_⟩
  · rw [off12 i n hn]; exact in_blk n
  · rw [off13 i n hn]; exact in_cols 1 n

/-! ### The labels -/

variable (c : Dev nD)
  (a3 : Memref sig .tc .vmem S4096x128 .bf16) (h3 : a3.IsWhole) (a4 : Memref sig .tc .vmem S4096x128 .bf16) (h4 : a4.IsWhole)
  (a5 : Memref sig .tc .vmem S4096x128 .bf16) (h5 : a5.IsWhole)
  (a12 : Memref sig .tc .vmem S4096x128 .f32) (h12 : a12.IsWhole) (a13 : Memref sig .tc .vmem S4096x128 .f32) (h13 : a13.IsWhole)
  (a15 : Memref sig .tc .vmem S1x8x4096 .f32) (h15 : a15.IsWhole)
  (p : Sides F) (ka kb vc : Vec F S4096x128 .bf16) (bd fA fB : F .f32)

/-- The buffers the labels' functions use: the two key buffers, the values, and the gathered gradients. -/
def held (b : Bufs F) : sProp 𝕄 :=
  iprop(owns (c : Thread nD τ) a3 fullShare ka ∗ owns (c : Thread nD τ) a4 fullShare kb ∗ owns (c : Thread nD τ) a5 fullShare vc
    ∗ owns (c : Thread nD τ) a12 fullShare b.dk ∗ owns (c : Thread nD τ) a13 fullShare b.dv ∗ owns (c : Thread nD τ) a15 fullShare b.dc)

/-- A specification: the buffers at contents `b` before, a returned value for which `P` holds, and contents `b'` after. -/
def spec {R : Type} (P : R → Prop) (b b' : Bufs F) : sWPT 𝕄 R := do
  sWPT.consume (held c a3 a4 a5 a12 a13 a15 ka kb vc b)
  let r ← sWPT.arbitrary
  sWPT.assume (P r)
  sWPT.produce (held c a3 a4 a5 a12 a13 a15 ka kb vc b')
  pure r

theorem spec_apply {R : Type} (P : R → Prop) (b b' : Bufs F) (K : R → sProp 𝕄) :
    spec c a3 a4 a5 a12 a13 a15 ka kb vc P b b' K
      = iprop(held c a3 a4 a5 a12 a13 a15 ka kb vc b ∗ ∀ r : R, ⌜P r⌝
          -∗ (held c a3 a4 a5 a12 a13 a15 ka kb vc b' -∗ K r)) := rfl

/-- What the first walk returns. -/
def ret1 (w : ℕ × Carry F × Bufs F) : BitVec 32 × FVec F S1024x128 .f32 × FVec F S1024x1 .f32 × FVec F S1024x1 .f32 :=
  (ctr i w.1, w.2.1.dq, w.2.1.rA, w.2.1.rB)

theorem walk_succ (n : ℕ) (s : Carry F × Bufs F) : walk p ka kb vc bd fA fB (n + 1) s
    = if alive ka kb bd fA fB (n + 1) = 1#1 then walk p ka kb vc bd fA fB n (trip p ka kb vc n s) else (n + 1, s) := rfl
theorem walkA_succ (n : ℕ) (s : Carry F × Bufs F) : walkA p ka vc bd fA (n + 1) s
    = if aliveA ka bd fA (n + 1) = 1#1 then walkA p ka vc bd fA n (tripA p ka vc n s) else s := rfl
theorem walkB_succ (n : ℕ) (s : Carry F × Bufs F) : walkB p kb vc bd fB (n + 1) s
    = if aliveB kb bd fB (n + 1) = 1#1 then walkB p kb vc bd fB n (tripB p kb vc n s) else s := rfl

theorem one_or (x : BitVec 1) : x = 1#1 ∨ x = 0#1 := by revert x; decide
theorem and3 (a x y : BitVec 1) : Scalar.andi (Scalar.andi a x) y = Scalar.andi a (Scalar.andi x y) := by
  revert a x y; decide
theorem and_one (x : BitVec 1) : Scalar.andi 1#1 x = x := by revert x; decide
theorem and_zero (x : BitVec 1) : Scalar.andi 0#1 x = 0#1 := by revert x; decide

/-- The first walk's specification with `n` blocks to visit. -/
abbrev walkSpec (n : ℕ) (s : Carry F × Bufs F) :
    sWPT 𝕄 (BitVec 32 × FVec F S1024x128 .f32 × FVec F S1024x1 .f32 × FVec F S1024x1 .f32) :=
  spec c a3 a4 a5 a12 a13 a15 ka kb vc (fun r => r = ret1 i (walk p ka kb vc bd fA fB n s)) s.2 (walk p ka kb vc bd fA fB n s).2.2

set_option maxHeartbeats 4000000 in
theorem walk_le (E : Set ℕ) : ∀ n, n ≤ 2 * (i 1).val → ∀ (s : Carry F × Bufs F) K,
    walkSpec i c a3 a4 a5 a12 a13 a15 p ka kb vc bd fA fB n s K
    ⊢ wp frame (wpE (defs₀ (F := F)) 𝒱₀ (c : Thread nD τ) (some n)) E
        (defs₀ (F := F) .tc 1 ⟨i, a3, h3, lanes, bd, fA, a4, h4, fB, a5, h5, p.gA, p.gB, p.oA, p.oB, p.lA, p.sA, a15, h15, p.lB,
          p.sB, a13, h13, a12, h12, p.qA, p.qB, ctr i n, s.1.dq, s.1.rA, s.1.rB⟩) K := by
  intro n
  induction n with
  | zero =>
    intro hn s K
    rw [spec_apply]
    show _ ⊢ wp frame (wpE (defs₀ (F := F)) 𝒱₀ (c : Thread nD τ) (some 0)) E
      (cc0_while1 i a3 h3 lanes bd fA a4 h4 fB a5 h5 p.gA p.gB p.oA p.oB p.lA p.sA a15 h15 p.lB p.sB a13 h13 a12 h12 p.qA p.qB
        (ctr i 0) s.1.dq s.1.rA s.1.rB) K
    simp only [cc0_while1_eq_skeleton]; unfold cc0_while1_skel
    simp only [k0_part15_eq_skeleton]; unfold k0_part15_skel
    simp only [Prog.lift, Prog.bind_op, Prog.bind_ret, Prog.pure_eq_ret]
    unfold held
    iintro ⟨⟨H3, H4, H5, Hk, Hv, Hc⟩, Hr⟩
    iapply (wp_assume 𝒱₀ (c : Thread nD τ) (some 0) E (chk1 i 0 hn))
    iapply (wp_load_owns 𝒱₀ (c : Thread nD τ) (some 0) E) $$ H3; iintro H3
    iapply (wp_load_owns 𝒱₀ (c : Thread nD τ) (some 0) E) $$ H4; iintro H4
    rw [if_neg (by
      show ¬ Scalar.andi (Scalar.andi (Scalar.cmpi .slt (ctr i 0) (countOf (BitVec.ofNat 32 (i 1).val))) _) _ = 1#1
      rw [not_lt_count, and3, and_zero]; decide)]
    rw [wp_ret]; imodintro
    iapply Hr
    · ipureintro; rfl
    isplitl [H3]; · iexact H3
    isplitl [H4]; · iexact H4
    isplitl [H5]; · iexact H5
    isplitl [Hk]; · iexact Hk
    isplitl [Hv]; · iexact Hv
    iexact Hc
  | succ n ih =>
    intro hn s K
    rw [spec_apply]
    show _ ⊢ wp frame (wpE (defs₀ (F := F)) 𝒱₀ (c : Thread nD τ) (some (n + 1))) E
      (cc0_while1 i a3 h3 lanes bd fA a4 h4 fB a5 h5 p.gA p.gB p.oA p.oB p.lA p.sA a15 h15 p.lB p.sB a13 h13 a12 h12 p.qA p.qB
        (ctr i (n + 1)) s.1.dq s.1.rA s.1.rB) K
    rw [walk_succ, alive_eq ka kb bd fA fB (n + 1) (k0_off4 i (ctr i (n + 1))) (k0_off4_inb i _ (chk1 i (n + 1) hn)) (off4 i (n + 1) hn)]
    simp only [cc0_while1_eq_skeleton]; unfold cc0_while1_skel
    simp only [k0_part15_eq_skeleton]; unfold k0_part15_skel
    simp only [Prog.lift, Prog.bind_op, Prog.bind_ret, Prog.pure_eq_ret]
    unfold held
    have hlt := lt_count i n hn
    rcases one_or (aliveOf bd fA fB (rows (tailO (k0_off4 i (ctr i (n + 1))) (k0_off4_inb i _ (chk1 i (n + 1) hn))) ka)
      (rows (tailO (k0_off4 i (ctr i (n + 1))) (k0_off4_inb i _ (chk1 i (n + 1) hn))) kb)) with ha | ha
    · rw [if_pos ha]
      rw [trip_eq p ka kb vc _ (k0_off5_inb i _ (chk2 i n hn)) _ (k0_off6_inb i _ (chk2 i n hn)) _ (k0_off7_inb i _ (chk2 i n hn))
        n s (off5 i n hn) (off6 i n hn) (off7 i n hn)]
      iintro ⟨⟨H3, H4, H5, Hk, Hv, Hc⟩, Hr⟩
      iapply (wp_assume 𝒱₀ (c : Thread nD τ) (some (n + 1)) E (chk1 i (n + 1) hn))
      iapply (wp_load_owns 𝒱₀ (c : Thread nD τ) (some (n + 1)) E) $$ H3; iintro H3
      iapply (wp_load_owns 𝒱₀ (c : Thread nD τ) (some (n + 1)) E) $$ H4; iintro H4
      rw [if_pos (by
        show Scalar.andi (Scalar.andi (Scalar.cmpi .slt (ctr i (n + 1)) (countOf (BitVec.ofNat 32 (i 1).val))) _) _ = 1#1
        rw [hlt, and3, and_one]; exact ha)]
      simp only [k0_part16_eq_skeleton, k0_part17_eq_skeleton]
      unfold k0_part16_skel k0_part17_skel
      simp only [Prog.lift, Prog.bind_op, Prog.bind_ret, Prog.pure_eq_ret]
      iapply (wp_assume 𝒱₀ (c : Thread nD τ) (some (n + 1)) E (chk2 i n hn))
      iapply (wp_load_owns 𝒱₀ (c : Thread nD τ) (some (n + 1)) E) $$ H5; iintro H5
      iapply (wp_load_owns 𝒱₀ (c : Thread nD τ) (some (n + 1)) E) $$ H3; iintro H3
      iapply (wp_load_owns 𝒱₀ (c : Thread nD τ) (some (n + 1)) E) $$ H4; iintro H4
      iapply (wp_load_owns 𝒱₀ (c : Thread nD τ) (some (n + 1)) E) $$ Hc; iintro Hc
      iapply (wp_load_owns 𝒱₀ (c : Thread nD τ) (some (n + 1)) E) $$ Hc; iintro Hc
      iapply (wp_store_owns 𝒱₀ (c : Thread nD τ) (some (n + 1)) E) $$ Hc; iintro Hc
      iapply (wp_load_owns 𝒱₀ (c : Thread nD τ) (some (n + 1)) E) $$ Hc; iintro Hc
      iapply (wp_load_owns 𝒱₀ (c : Thread nD τ) (some (n + 1)) E) $$ Hc; iintro Hc
      iapply (wp_store_owns 𝒱₀ (c : Thread nD τ) (some (n + 1)) E) $$ Hc; iintro Hc
      iapply (wp_load_owns 𝒱₀ (c : Thread nD τ) (some (n + 1)) E) $$ Hv; iintro Hv
      iapply (wp_load_owns 𝒱₀ (c : Thread nD τ) (some (n + 1)) E) $$ Hv; iintro Hv
      iapply (wp_store_owns 𝒱₀ (c : Thread nD τ) (some (n + 1)) E) $$ Hv; iintro Hv
      iapply (wp_load_owns 𝒱₀ (c : Thread nD τ) (some (n + 1)) E) $$ Hk; iintro Hk
      iapply (wp_load_owns 𝒱₀ (c : Thread nD τ) (some (n + 1)) E) $$ Hk; iintro Hk
      iapply (wp_store_owns 𝒱₀ (c : Thread nD τ) (some (n + 1)) E) $$ Hk; iintro Hk
      rw [next_word i n hn]
      iapply (wp_call_spec 𝒱₀ (c : Thread nD τ) (some (n + 1)) E
        (walkSpec i c a3 a4 a5 a12 a13 a15 p ka kb vc bd fA fB n (tripAt p ka kb vc _ (k0_off5_inb i _ (chk2 i n hn)) _ (k0_off6_inb i _ (chk2 i n hn)) _
          (k0_off7_inb i _ (chk2 i n hn)) s)) n (fun u hu => by cases hu; exact Nat.lt_succ_self n)
        (ih (by omega) _))
      rw [spec_apply]
      unfold held
      isplitr [Hr]
      · isplitl [H3]; · iexact H3
        isplitl [H4]; · iexact H4
        isplitl [H5]; · iexact H5
        isplitl [Hk]; · iexact Hk
        isplitl [Hv]; · iexact Hv
        iexact Hc
      iintro %r %hr ⟨H3, H4, H5, Hk, Hv, Hc⟩
      rw [wp_ret]; imodintro
      iapply Hr
      · ipureintro; exact hr
      isplitl [H3]; · iexact H3
      isplitl [H4]; · iexact H4
      isplitl [H5]; · iexact H5
      isplitl [Hk]; · iexact Hk
      isplitl [Hv]; · iexact Hv
      iexact Hc
    · rw [if_neg (by rw [ha]; decide)]
      iintro ⟨⟨H3, H4, H5, Hk, Hv, Hc⟩, Hr⟩
      iapply (wp_assume 𝒱₀ (c : Thread nD τ) (some (n + 1)) E (chk1 i (n + 1) hn))
      iapply (wp_load_owns 𝒱₀ (c : Thread nD τ) (some (n + 1)) E) $$ H3; iintro H3
      iapply (wp_load_owns 𝒱₀ (c : Thread nD τ) (some (n + 1)) E) $$ H4; iintro H4
      rw [if_neg (by
        show ¬ Scalar.andi (Scalar.andi (Scalar.cmpi .slt (ctr i (n + 1)) (countOf (BitVec.ofNat 32 (i 1).val))) _) _ = 1#1
        rw [hlt, and3, and_one, show Scalar.andi _ _ = 0#1 from ha]; decide)]
      rw [wp_ret]; imodintro
      iapply Hr
      · ipureintro; rfl
      isplitl [H3]; · iexact H3
      isplitl [H4]; · iexact H4
      isplitl [H5]; · iexact H5
      isplitl [Hk]; · iexact Hk
      isplitl [Hv]; · iexact Hv
      iexact Hc

end Cert.Proof.KI7

end
-- ==== Proof.Fox.WalkA.lean ====
/-
  The first-head walk's label meets its specification, by the same induction as the walk of both heads.
-/
module

public import proofs.«01_k».proof.Proof.Fox.Walk
public import Idealize.ShloMosaic.Lib.Pipeline.Frame
public import Idealize.ShloMosaic.Lib.Tactic

@[expose] public section

noncomputable section

namespace Cert.Proof.KI7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (i : grid0.Coords)

variable (c : Dev nD)
  (a3 : Memref sig .tc .vmem S4096x128 .bf16) (h3 : a3.IsWhole) (a4 : Memref sig .tc .vmem S4096x128 .bf16) (h4 : a4.IsWhole)
  (a5 : Memref sig .tc .vmem S4096x128 .bf16) (h5 : a5.IsWhole)
  (a12 : Memref sig .tc .vmem S4096x128 .f32) (h12 : a12.IsWhole) (a13 : Memref sig .tc .vmem S4096x128 .f32) (h13 : a13.IsWhole)
  (a15 : Memref sig .tc .vmem S1x8x4096 .f32) (h15 : a15.IsWhole)
  (p : Sides F) (ka kb vc : Vec F S4096x128 .bf16) (bd fA : F .f32)

/-- The first-head walk's specification with `n` blocks to visit. -/
abbrev walkASpec (n : ℕ) (s : Carry F × Bufs F) :
    sWPT 𝕄 (BitVec 32 × FVec F S1024x128 .f32 × FVec F S1024x1 .f32) :=
  spec c a3 a4 a5 a12 a13 a15 ka kb vc (fun r => r.2.1 = (walkA p ka vc bd fA n s).1.dq ∧ r.2.2 = (walkA p ka vc bd fA n s).1.rA) s.2 (walkA p ka vc bd fA n s).2

set_option maxHeartbeats 4000000 in
theorem walkA_le (E : Set ℕ) : ∀ n, n ≤ 2 * (i 1).val → ∀ (s : Carry F × Bufs F) K,
    walkASpec c a3 a4 a5 a12 a13 a15 p ka kb vc bd fA n s K
    ⊢ wp frame (wpE (defs₀ (F := F)) 𝒱₀ (c : Thread nD τ) (some n)) E
        (defs₀ (F := F) .tc 2 ⟨i, a3, h3, lanes, bd, fA, a5, h5, p.gA, p.oA, p.lA, p.sA, a15, h15, a13, h13, a12, h12, p.qA, ctr i n, s.1.dq, s.1.rA⟩) K := by
  intro n
  induction n with
  | zero =>
    intro hn s K
    rw [spec_apply]
    show _ ⊢ wp frame (wpE (defs₀ (F := F)) 𝒱₀ (c : Thread nD τ) (some 0)) E
      (cc0_while2 i a3 h3 lanes bd fA a5 h5 p.gA p.oA p.lA p.sA a15 h15 a13 h13 a12 h12 p.qA
        (ctr i 0) s.1.dq s.1.rA) K
    simp only [cc0_while2_eq_skeleton]; unfold cc0_while2_skel
    simp only [Prog.lift, Prog.bind_op, Prog.bind_ret, Prog.pure_eq_ret]
    unfold held
    iintro ⟨⟨H3, H4, H5, Hk, Hv, Hc⟩, Hr⟩
    iapply (wp_assume 𝒱₀ (c : Thread nD τ) (some 0) E (chk3 i 0 hn))
    iapply (wp_load_owns 𝒱₀ (c : Thread nD τ) (some 0) E) $$ H3; iintro H3
    rw [if_neg (by
      show ¬ Scalar.andi (Scalar.cmpi .slt (ctr i 0) (countOf (BitVec.ofNat 32 (i 1).val))) _ = 1#1
      rw [not_lt_count, and_zero]; decide)]
    rw [wp_ret]; imodintro
    iapply Hr
    · ipureintro; exact ⟨rfl, rfl⟩
    isplitl [H3]; · iexact H3
    isplitl [H4]; · iexact H4
    isplitl [H5]; · iexact H5
    isplitl [Hk]; · iexact Hk
    isplitl [Hv]; · iexact Hv
    iexact Hc
  | succ n ih =>
    intro hn s K
    rw [spec_apply]
    show _ ⊢ wp frame (wpE (defs₀ (F := F)) 𝒱₀ (c : Thread nD τ) (some (n + 1))) E
      (cc0_while2 i a3 h3 lanes bd fA a5 h5 p.gA p.oA p.lA p.sA a15 h15 a13 h13 a12 h12 p.qA
        (ctr i (n + 1)) s.1.dq s.1.rA) K
    rw [walkA_succ, aliveA_eq ka bd fA (n + 1) (k0_off8 i (ctr i (n + 1))) (k0_off8_inb i _ (chk3 i (n + 1) hn)) (off8 i (n + 1) hn)]
    simp only [cc0_while2_eq_skeleton]; unfold cc0_while2_skel
    simp only [Prog.lift, Prog.bind_op, Prog.bind_ret, Prog.pure_eq_ret]
    unfold held
    have hlt := lt_count i n hn
    rcases one_or (aliveAOf bd fA (rows (tailO (k0_off8 i (ctr i (n + 1))) (k0_off8_inb i _ (chk3 i (n + 1) hn))) ka)) with ha | ha
    · rw [if_pos ha]
      rw [tripA_eq p ka vc _ (k0_off9_inb i _ (chk4 i n hn)) _ (k0_off10_inb i _ (chk4 i n hn)) n s (off9 i n hn) (off10 i n hn)]
      iintro ⟨⟨H3, H4, H5, Hk, Hv, Hc⟩, Hr⟩
      iapply (wp_assume 𝒱₀ (c : Thread nD τ) (some (n + 1)) E (chk3 i (n + 1) hn))
      iapply (wp_load_owns 𝒱₀ (c : Thread nD τ) (some (n + 1)) E) $$ H3; iintro H3
      rw [if_pos (by
        show Scalar.andi (Scalar.cmpi .slt (ctr i (n + 1)) (countOf (BitVec.ofNat 32 (i 1).val))) _ = 1#1
        rw [hlt, and_one]; exact ha)]
      simp only [k0_part18_eq_skeleton]
      unfold k0_part18_skel
      simp only [Prog.lift, Prog.bind_op, Prog.bind_ret, Prog.pure_eq_ret]
      iapply (wp_assume 𝒱₀ (c : Thread nD τ) (some (n + 1)) E (chk4 i n hn))
      iapply (wp_load_owns 𝒱₀ (c : Thread nD τ) (some (n + 1)) E) $$ H5; iintro H5
      iapply (wp_load_owns 𝒱₀ (c : Thread nD τ) (some (n + 1)) E) $$ H3; iintro H3
      iapply (wp_load_owns 𝒱₀ (c : Thread nD τ) (some (n + 1)) E) $$ Hc; iintro Hc
      iapply (wp_load_owns 𝒱₀ (c : Thread nD τ) (some (n + 1)) E) $$ Hc; iintro Hc
      iapply (wp_store_owns 𝒱₀ (c : Thread nD τ) (some (n + 1)) E) $$ Hc; iintro Hc
      iapply (wp_load_owns 𝒱₀ (c : Thread nD τ) (some (n + 1)) E) $$ Hv; iintro Hv
      iapply (wp_load_owns 𝒱₀ (c : Thread nD τ) (some (n + 1)) E) $$ Hv; iintro Hv
      iapply (wp_store_owns 𝒱₀ (c : Thread nD τ) (some (n + 1)) E) $$ Hv; iintro Hv
      iapply (wp_load_owns 𝒱₀ (c : Thread nD τ) (some (n + 1)) E) $$ Hk; iintro Hk
      iapply (wp_load_owns 𝒱₀ (c : Thread nD τ) (some (n + 1)) E) $$ Hk; iintro Hk
      iapply (wp_store_owns 𝒱₀ (c : Thread nD τ) (some (n + 1)) E) $$ Hk; iintro Hk
      rw [next_word i n hn]
      iapply (wp_call_spec 𝒱₀ (c : Thread nD τ) (some (n + 1)) E
        (walkASpec c a3 a4 a5 a12 a13 a15 p ka kb vc bd fA n (tripAAt p ka vc _ (k0_off9_inb i _ (chk4 i n hn)) _ (k0_off10_inb i _ (chk4 i n hn)) s)) n (fun u hu => by cases hu; exact Nat.lt_succ_self n)
        (ih (by omega) _))
      rw [spec_apply]
      unfold held
      isplitr [Hr]
      · isplitl [H3]; · iexact H3
        isplitl [H4]; · iexact H4
        isplitl [H5]; · iexact H5
        isplitl [Hk]; · iexact Hk
        isplitl [Hv]; · iexact Hv
        iexact Hc
      iintro %r %hr ⟨H3, H4, H5, Hk, Hv, Hc⟩
      rw [wp_ret]; imodintro
      iapply Hr
      · ipureintro; exact hr
      isplitl [H3]; · iexact H3
      isplitl [H4]; · iexact H4
      isplitl [H5]; · iexact H5
      isplitl [Hk]; · iexact Hk
      isplitl [Hv]; · iexact Hv
      iexact Hc
    · rw [if_neg (by rw [ha]; decide)]
      iintro ⟨⟨H3, H4, H5, Hk, Hv, Hc⟩, Hr⟩
      iapply (wp_assume 𝒱₀ (c : Thread nD τ) (some (n + 1)) E (chk3 i (n + 1) hn))
      iapply (wp_load_owns 𝒱₀ (c : Thread nD τ) (some (n + 1)) E) $$ H3; iintro H3
      rw [if_neg (by
        show ¬ Scalar.andi (Scalar.cmpi .slt (ctr i (n + 1)) (countOf (BitVec.ofNat 32 (i 1).val))) _ = 1#1
        rw [hlt, and_one]; intro h; exact absurd (ha.symm.trans h) (by decide))]
      rw [wp_ret]; imodintro
      iapply Hr
      · ipureintro; exact ⟨rfl, rfl⟩
      isplitl [H3]; · iexact H3
      isplitl [H4]; · iexact H4
      isplitl [H5]; · iexact H5
      isplitl [Hk]; · iexact Hk
      isplitl [Hv]; · iexact Hv
      iexact Hc

end Cert.Proof.KI7

end
-- ==== Proof.Fox.WalkB.lean ====
/-
  The second-head walk's label meets its specification, by the same induction as the walk of both heads.
-/
module

public import proofs.«01_k».proof.Proof.Fox.Walk
public import Idealize.ShloMosaic.Lib.Pipeline.Frame
public import Idealize.ShloMosaic.Lib.Tactic

@[expose] public section

noncomputable section

namespace Cert.Proof.KI7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

variable (i : grid0.Coords)

variable (c : Dev nD)
  (a3 : Memref sig .tc .vmem S4096x128 .bf16) (h3 : a3.IsWhole) (a4 : Memref sig .tc .vmem S4096x128 .bf16) (h4 : a4.IsWhole)
  (a5 : Memref sig .tc .vmem S4096x128 .bf16) (h5 : a5.IsWhole)
  (a12 : Memref sig .tc .vmem S4096x128 .f32) (h12 : a12.IsWhole) (a13 : Memref sig .tc .vmem S4096x128 .f32) (h13 : a13.IsWhole)
  (a15 : Memref sig .tc .vmem S1x8x4096 .f32) (h15 : a15.IsWhole)
  (p : Sides F) (ka kb vc : Vec F S4096x128 .bf16) (bd fB : F .f32)

/-- The second-head walk's specification with `n` blocks to visit. -/
abbrev walkBSpec (n : ℕ) (s : Carry F × Bufs F) :
    sWPT 𝕄 (BitVec 32 × FVec F S1024x128 .f32 × FVec F S1024x1 .f32) :=
  spec c a3 a4 a5 a12 a13 a15 ka kb vc (fun r => r.2.1 = (walkB p kb vc bd fB n s).1.dq ∧ r.2.2 = (walkB p kb vc bd fB n s).1.rB) s.2 (walkB p kb vc bd fB n s).2

set_option maxHeartbeats 4000000 in
theorem walkB_le (E : Set ℕ) : ∀ n, n ≤ 2 * (i 1).val → ∀ (s : Carry F × Bufs F) K,
    walkBSpec c a3 a4 a5 a12 a13 a15 p ka kb vc bd fB n s K
    ⊢ wp frame (wpE (defs₀ (F := F)) 𝒱₀ (c : Thread nD τ) (some n)) E
        (defs₀ (F := F) .tc 3 ⟨i, a4, h4, lanes, bd, fB, a5, h5, p.gB, p.oB, p.lB, p.sB, a15, h15, a13, h13, a12, h12, p.qB, ctr i n, s.1.dq, s.1.rB⟩) K := by
  intro n
  induction n with
  | zero =>
    intro hn s K
    rw [spec_apply]
    show _ ⊢ wp frame (wpE (defs₀ (F := F)) 𝒱₀ (c : Thread nD τ) (some 0)) E
      (cc0_while3 i a4 h4 lanes bd fB a5 h5 p.gB p.oB p.lB p.sB a15 h15 a13 h13 a12 h12 p.qB
        (ctr i 0) s.1.dq s.1.rB) K
    simp only [cc0_while3_eq_skeleton]; unfold cc0_while3_skel
    simp only [Prog.lift, Prog.bind_op, Prog.bind_ret, Prog.pure_eq_ret]
    unfold held
    iintro ⟨⟨H3, H4, H5, Hk, Hv, Hc⟩, Hr⟩
    iapply (wp_assume 𝒱₀ (c : Thread nD τ) (some 0) E (chk5 i 0 hn))
    iapply (wp_load_owns 𝒱₀ (c : Thread nD τ) (some 0) E) $$ H4; iintro H4
    rw [if_neg (by
      show ¬ Scalar.andi (Scalar.cmpi .slt (ctr i 0) (countOf (BitVec.ofNat 32 (i 1).val))) _ = 1#1
      rw [not_lt_count, and_zero]; decide)]
    rw [wp_ret]; imodintro
    iapply Hr
    · ipureintro; exact ⟨rfl, rfl⟩
    isplitl [H3]; · iexact H3
    isplitl [H4]; · iexact H4
    isplitl [H5]; · iexact H5
    isplitl [Hk]; · iexact Hk
    isplitl [Hv]; · iexact Hv
    iexact Hc
  | succ n ih =>
    intro hn s K
    rw [spec_apply]
    show _ ⊢ wp frame (wpE (defs₀ (F := F)) 𝒱₀ (c : Thread nD τ) (some (n + 1))) E
      (cc0_while3 i a4 h4 lanes bd fB a5 h5 p.gB p.oB p.lB p.sB a15 h15 a13 h13 a12 h12 p.qB
        (ctr i (n + 1)) s.1.dq s.1.rB) K
    rw [walkB_succ, aliveB_eq kb bd fB (n + 1) (k0_off11 i (ctr i (n + 1))) (k0_off11_inb i _ (chk5 i (n + 1) hn)) (off11 i (n + 1) hn)]
    simp only [cc0_while3_eq_skeleton]; unfold cc0_while3_skel
    simp only [Prog.lift, Prog.bind_op, Prog.bind_ret, Prog.pure_eq_ret]
    unfold held
    have hlt := lt_count i n hn
    rcases one_or (aliveBOf bd fB (rows (tailO (k0_off11 i (ctr i (n + 1))) (k0_off11_inb i _ (chk5 i (n + 1) hn))) kb)) with ha | ha
    · rw [if_pos ha]
      rw [tripB_eq p kb vc _ (k0_off12_inb i _ (chk6 i n hn)) _ (k0_off13_inb i _ (chk6 i n hn)) n s (off12 i n hn) (off13 i n hn)]
      iintro ⟨⟨H3, H4, H5, Hk, Hv, Hc⟩, Hr⟩
      iapply (wp_assume 𝒱₀ (c : Thread nD τ) (some (n + 1)) E (chk5 i (n + 1) hn))
      iapply (wp_load_owns 𝒱₀ (c : Thread nD τ) (some (n + 1)) E) $$ H4; iintro H4
      rw [if_pos (by
        show Scalar.andi (Scalar.cmpi .slt (ctr i (n + 1)) (countOf (BitVec.ofNat 32 (i 1).val))) _ = 1#1
        rw [hlt, and_one]; exact ha)]
      simp only [k0_part19_eq_skeleton]
      unfold k0_part19_skel
      simp only [Prog.lift, Prog.bind_op, Prog.bind_ret, Prog.pure_eq_ret]
      iapply (wp_assume 𝒱₀ (c : Thread nD τ) (some (n + 1)) E (chk6 i n hn))
      iapply (wp_load_owns 𝒱₀ (c : Thread nD τ) (some (n + 1)) E) $$ H5; iintro H5
      iapply (wp_load_owns 𝒱₀ (c : Thread nD τ) (some (n + 1)) E) $$ H4; iintro H4
      iapply (wp_load_owns 𝒱₀ (c : Thread nD τ) (some (n + 1)) E) $$ Hc; iintro Hc
      iapply (wp_load_owns 𝒱₀ (c : Thread nD τ) (some (n + 1)) E) $$ Hc; iintro Hc
      iapply (wp_store_owns 𝒱₀ (c : Thread nD τ) (some (n + 1)) E) $$ Hc; iintro Hc
      iapply (wp_load_owns 𝒱₀ (c : Thread nD τ) (some (n + 1)) E) $$ Hv; iintro Hv
      iapply (wp_load_owns 𝒱₀ (c : Thread nD τ) (some (n + 1)) E) $$ Hv; iintro Hv
      iapply (wp_store_owns 𝒱₀ (c : Thread nD τ) (some (n + 1)) E) $$ Hv; iintro Hv
      iapply (wp_load_owns 𝒱₀ (c : Thread nD τ) (some (n + 1)) E) $$ Hk; iintro Hk
      iapply (wp_load_owns 𝒱₀ (c : Thread nD τ) (some (n + 1)) E) $$ Hk; iintro Hk
      iapply (wp_store_owns 𝒱₀ (c : Thread nD τ) (some (n + 1)) E) $$ Hk; iintro Hk
      rw [next_word i n hn]
      iapply (wp_call_spec 𝒱₀ (c : Thread nD τ) (some (n + 1)) E
        (walkBSpec c a3 a4 a5 a12 a13 a15 p ka kb vc bd fB n (tripBAt p kb vc _ (k0_off12_inb i _ (chk6 i n hn)) _ (k0_off13_inb i _ (chk6 i n hn)) s)) n (fun u hu => by cases hu; exact Nat.lt_succ_self n)
        (ih (by omega) _))
      rw [spec_apply]
      unfold held
      isplitr [Hr]
      · isplitl [H3]; · iexact H3
        isplitl [H4]; · iexact H4
        isplitl [H5]; · iexact H5
        isplitl [Hk]; · iexact Hk
        isplitl [Hv]; · iexact Hv
        iexact Hc
      iintro %r %hr ⟨H3, H4, H5, Hk, Hv, Hc⟩
      rw [wp_ret]; imodintro
      iapply Hr
      · ipureintro; exact hr
      isplitl [H3]; · iexact H3
      isplitl [H4]; · iexact H4
      isplitl [H5]; · iexact H5
      isplitl [Hk]; · iexact Hk
      isplitl [Hv]; · iexact Hv
      iexact Hc
    · rw [if_neg (by rw [ha]; decide)]
      iintro ⟨⟨H3, H4, H5, Hk, Hv, Hc⟩, Hr⟩
      iapply (wp_assume 𝒱₀ (c : Thread nD τ) (some (n + 1)) E (chk5 i (n + 1) hn))
      iapply (wp_load_owns 𝒱₀ (c : Thread nD τ) (some (n + 1)) E) $$ H4; iintro H4
      rw [if_neg (by
        show ¬ Scalar.andi (Scalar.cmpi .slt (ctr i (n + 1)) (countOf (BitVec.ofNat 32 (i 1).val))) _ = 1#1
        rw [hlt, and_one]; intro h; exact absurd (ha.symm.trans h) (by decide))]
      rw [wp_ret]; imodintro
      iapply Hr
      · ipureintro; exact ⟨rfl, rfl⟩
      isplitl [H3]; · iexact H3
      isplitl [H4]; · iexact H4
      isplitl [H5]; · iexact H5
      isplitl [Hk]; · iexact Hk
      isplitl [Hv]; · iexact Hv
      iexact Hc

end Cert.Proof.KI7

end
-- ==== Proof.Fox.Body.lean ====
/-
  The kernel body at one grid point, on any whole memrefs: holding the point's blocks and the gathered gradients'
  contents, it leaves the query gradient's, the gate gradient's and the row sums' blocks at `outDq`, `outDfg` and
  `outDcr`, and the three gathered gradients at what `point` gives.
-/
module

public import proofs.«01_k».proof.Proof.Fox.WalkA
public import proofs.«01_k».proof.Proof.Fox.WalkB

@[expose] public section

noncomputable section

namespace Cert.Proof.KI7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ### Rectangles that are a whole buffer -/

theorem emb_whole (s : Shape) (o : Fin s.rank → ℕ) (ho : ∀ a, o a = 0) (h : ∀ a, o a + s.size a ≤ s.size a) (x : s.Idx) :
    (Rect.unit (s := s) o s.size h).emb x = x :=
  Rect.emb_eq_of_coords _ _ _ (fun a => by
    show (x a).val = o a + 1 * (x a).val
    rw [ho a, Nat.zero_add, Nat.one_mul])

theorem rows_whole {β : Type} (s : Shape) (o : Fin s.rank → ℕ) (ho : ∀ a, o a = 0) (h : ∀ a, o a + s.size a ≤ s.size a) (X : s.Idx → β) :
    rows (Rect.unit (s := s) o s.size h) X = X := by
  funext x; exact congrArg X (emb_whole s o ho h x)

theorem overlay_whole {β : Type} (s : Shape) (o : Fin s.rank → ℕ) (ho : ∀ a, o a = 0) (h : ∀ a, o a + s.size a ≤ s.size a) (X w : s.Idx → β) :
    (Rect.unit (s := s) o s.size h).overlay X w = w := by
  funext x
  have := Rect.overlay_emb (Rect.unit (s := s) o s.size h) X w x
  rwa [emb_whole s o ho h x] at this

theorem zero2 : ∀ a : Fin 2, (![0, 0] : Fin 2 → ℕ) a = 0 := by decide
theorem zero3 : ∀ a : Fin 3, (![0, 0, 0] : Fin 3 → ℕ) a = 0 := by decide

/-- A load of a whole buffer. -/
theorem wp_load_whole (c : Dev nD) (bd : Option (𝒱₀).V) (E : Set ℕ) {s : Shape} {e : EltTy} {α : Type} {Q : α → sProp 𝕄}
    {m : Memref sig .tc .vmem s e} {o : Fin s.rank → ℕ} (ho : ∀ a, o a = 0) {h : ∀ a, o a + s.size a ≤ s.size a}
    {hl : m.view.LoadsAt (Rect.unit (s := s) o s.size h).toLoadRect}
    {k : (s.Idx → Elt F e) → Prog (TpuEff nD τ sig (Elt F) (Λ₀ F) .tc) α} {q : PosShare TreeShare} {X : s.Idx → Elt F e} :
    owns (c : Thread nD τ) m q X
      ⊢ iprop((owns (c : Thread nD τ) m q X -∗ wp frame (wpE (defs₀ (F := F)) 𝒱₀ (c : Thread nD τ) bd) E (k X) Q)
        -∗ wp frame (wpE (defs₀ (F := F)) 𝒱₀ (c : Thread nD τ) bd) E
          (.op (.load m (Rect.unit (s := s) o s.size h).toLoadRect hl) k) Q) := by
  have := wp_load_owns (defs := defs₀ (F := F)) 𝒱₀ (c : Thread nD τ) bd E (m := m)
    (r := Rect.unit (s := s) o s.size h) (hl := hl) (k := k) (q := q) (X := X) (Q := Q)
  rwa [rows_whole s o ho] at this

/-- A store of a whole buffer. -/
theorem wp_store_whole (c : Dev nD) (bd : Option (𝒱₀).V) (E : Set ℕ) {s : Shape} {e : EltTy} {α : Type} {Q : α → sProp 𝕄}
    {m : Memref sig .tc .vmem s e} {o : Fin s.rank → ℕ} (ho : ∀ a, o a = 0) {h : ∀ a, o a + s.size a ≤ s.size a}
    {w : s.Idx → Elt F e}
    {hx : (m.access (Rect.unit (s := s) o s.size h)).Stores Finset.univ}
    {hm : Finset.univ = Finset.univ ∨ ∀ a, (Rect.unit (s := s) o s.size h).stride a = 1}
    {k : PUnit → Prog (TpuEff nD τ sig (Elt F) (Λ₀ F) .tc) α} {X : s.Idx → Elt F e} :
    owns (c : Thread nD τ) m fullShare X
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E
          (.op (.store m (Rect.unit (s := s) o s.size h) w Finset.univ hx hm) k) Q) := by
  have := wp_store_owns (defs := defs₀ (F := F)) 𝒱₀ (c : Thread nD τ) bd E (m := m)
    (r := Rect.unit (s := s) o s.size h) (w := w) (hx := hx) (hm := hm) (k := k) (X := X) (Q := Q)
  rwa [overlay_whole s o ho] at this

/-- Equal contents. -/
theorem owns_eq (c : Dev nD) {s : Shape} {e : EltTy} (m : Memref sig .tc .vmem s e) (X Y : s.Idx → Elt F e) (h : X = Y) (R : sProp 𝕄) :
    owns (c : Thread nD τ) m fullShare X ⊢ iprop((owns (c : Thread nD τ) m fullShare Y -∗ R) -∗ R) := by
  subst h; iintro H K; iapply K; iexact H

/-! ### What the walks keep -/

variable (i : grid0.Coords)

theorem first_iff : Scalar.cmpi .ne (Scalar.extui (Scalar.cmpi .eq (BitVec.ofNat 32 (i 1).val) 0#32) : BitVec 32) 0#32 = 1#1
    ↔ (i 1).val = 0 := by
  have h : ∀ b : Fin 4, Scalar.cmpi .ne (Scalar.extui (Scalar.cmpi .eq (BitVec.ofNat 32 b.val) 0#32) : BitVec 32) 0#32 = 1#1 ↔ b.val = 0 := by
    decide +kernel
  exact h (i 1)

section Kept
variable (p : Sides F) (ka kb vc : Vec F S4096x128 .bf16) (bd fA fB : F .f32)

theorem walk_left : ∀ (n : ℕ) (s : Carry F × Bufs F), (walk p ka kb vc bd fA fB n s).1 ≤ n := by
  intro n
  induction n with
  | zero => intro s; exact le_rfl
  | succ n ih =>
    intro s
    rw [walk_succ]
    by_cases h : alive ka kb bd fA fB (n + 1) = 1#1
    · rw [if_pos h]; exact (ih _).trans (Nat.le_succ n)
    · rw [if_neg h]

theorem walkA_rB : ∀ (n : ℕ) (s : Carry F × Bufs F), (walkA p ka vc bd fA n s).1.rB = s.1.rB := by
  intro n
  induction n with
  | zero => intro s; rfl
  | succ n ih =>
    intro s
    rw [walkA_succ]
    by_cases h : aliveA ka bd fA (n + 1) = 1#1
    · rw [if_pos h, ih]; rfl
    · rw [if_neg h]

theorem walkB_rA : ∀ (n : ℕ) (s : Carry F × Bufs F), (walkB p kb vc bd fB n s).1.rA = s.1.rA := by
  intro n
  induction n with
  | zero => intro s; rfl
  | succ n ih =>
    intro s
    rw [walkB_succ]
    by_cases h : aliveB kb bd fB (n + 1) = 1#1
    · rw [if_pos h, ih]; rfl
    · rw [if_neg h]

end Kept

variable (c : Dev nD)
  (a2 : Memref sig .tc .vmem S1024x128 .bf16) (h2 : a2.IsWhole) (a3 : Memref sig .tc .vmem S4096x128 .bf16) (h3 : a3.IsWhole)
  (a4 : Memref sig .tc .vmem S4096x128 .bf16) (h4 : a4.IsWhole) (a5 : Memref sig .tc .vmem S4096x128 .bf16) (h5 : a5.IsWhole)
  (a6 : Memref sig .tc .vmem S1024x128 .f32) (h6 : a6.IsWhole) (a7 : Memref sig .tc .vmem S1024x128 .f32) (h7 : a7.IsWhole)
  (a8 : Memref sig .tc .vmem S1024x128 .f32) (h8 : a8.IsWhole) (a9 : Memref sig .tc .vmem S1024x128 .f32) (h9 : a9.IsWhole)
  (a10 : Memref sig .tc .vmem S1x128 .f32) (h10 : a10.IsWhole) (a11 : Memref sig .tc .vmem S1024x128 .f32) (h11 : a11.IsWhole)
  (a12 : Memref sig .tc .vmem S4096x128 .f32) (h12 : a12.IsWhole) (a13 : Memref sig .tc .vmem S4096x128 .f32) (h13 : a13.IsWhole)
  (a14 : Memref sig .tc .vmem S1024x128 .f32) (h14 : a14.IsWhole) (a15 : Memref sig .tc .vmem S1x8x4096 .f32) (h15 : a15.IsWhole)
  (a16 : Memref sig .tc .vmem S1x1024x128 .f32) (h16 : a16.IsWhole)
  (x2 : Vec F S1024x128 .bf16) (ka kb vc : Vec F S4096x128 .bf16) (x6 x7 x8 x9 : Vec F S1024x128 .f32) (x10 : Vec F S1x128 .f32)

/-- The fifteen buffers at their contents. -/
def bufs (x11 : Vec F S1024x128 .f32) (b : Bufs F) (x14 : Vec F S1024x128 .f32) (x16 : Vec F S1x1024x128 .f32) : sProp 𝕄 :=
  iprop(owns (c : Thread nD τ) a2 fullShare x2 ∗ owns (c : Thread nD τ) a3 fullShare ka ∗ owns (c : Thread nD τ) a4 fullShare kb
    ∗ owns (c : Thread nD τ) a5 fullShare vc ∗ owns (c : Thread nD τ) a6 fullShare x6 ∗ owns (c : Thread nD τ) a7 fullShare x7
    ∗ owns (c : Thread nD τ) a8 fullShare x8 ∗ owns (c : Thread nD τ) a9 fullShare x9 ∗ owns (c : Thread nD τ) a10 fullShare x10
    ∗ owns (c : Thread nD τ) a11 fullShare x11 ∗ owns (c : Thread nD τ) a12 fullShare b.dk ∗ owns (c : Thread nD τ) a13 fullShare b.dv
    ∗ owns (c : Thread nD τ) a14 fullShare x14 ∗ owns (c : Thread nD τ) a15 fullShare b.dc ∗ owns (c : Thread nD τ) a16 fullShare x16)

/-- The first walk's call from the body: its counter at zero, every earlier block to visit. -/
theorem call1 (p : Sides F) (bd fA fB : F .f32) (E : Set ℕ) (s : Carry F × Bufs F) (K) :
    walkSpec i c a3 a4 a5 a12 a13 a15 p ka kb vc bd fA fB (2 * (i 1).val) s K
    ⊢ wp frame (wpE (defs₀ (F := F)) 𝒱₀ (c : Thread nD τ) (some (2 * (i 1).val))) E
        (defs₀ (F := F) .tc 1 ⟨i, a3, h3, lanes, bd, fA, a4, h4, fB, a5, h5, p.gA, p.gB, p.oA, p.oB, p.lA, p.sA, a15, h15, p.lB,
          p.sB, a13, h13, a12, h12, p.qA, p.qB, 0#32, s.1.dq, s.1.rA, s.1.rB⟩) K := by
  have h := walk_le i c a3 h3 a4 h4 a5 h5 a12 h12 a13 h13 a15 h15 p ka kb vc bd fA fB E (2 * (i 1).val) le_rfl s K
  rwa [show ctr i (2 * (i 1).val) = 0#32 from by unfold ctr; rw [Nat.sub_self]] at h

/-- The last walk's, after the first-head walk. -/
theorem call3 (p : Sides F) (bd fA fB : F .f32) (E : Set ℕ) (n : ℕ) (hn : n ≤ 2 * (i 1).val) (s : Carry F × Bufs F) (K) :
    walkBSpec c a3 a4 a5 a12 a13 a15 p ka kb vc bd fB n (walkA p ka vc bd fA n s) K
    ⊢ wp frame (wpE (defs₀ (F := F)) 𝒱₀ (c : Thread nD τ) (some n)) E
        (defs₀ (F := F) .tc 3 ⟨i, a4, h4, lanes, bd, fB, a5, h5, p.gB, p.oB, p.lB, p.sB, a15, h15, a13, h13, a12, h12, p.qB, ctr i n,
          (walkA p ka vc bd fA n s).1.dq, s.1.rB⟩) K := by
  have h := walkB_le i c a3 a4 h4 a5 h5 a12 h12 a13 h13 a15 h15 p ka kb vc bd fB E n hn (walkA p ka vc bd fA n s) K
  rwa [walkA_rB] at h

set_option maxHeartbeats 40000000 in
/-- The body's run. -/
theorem body_run (E : Set ℕ) (x11 : Vec F S1024x128 .f32) (b : Bufs F) (x14 : Vec F S1024x128 .f32) (x16 : Vec F S1x1024x128 .f32)
    (Q : PUnit → sProp 𝕄) :
    iprop(bufs c a2 a3 a4 a5 a6 a7 a8 a9 a10 a11 a12 a13 a14 a15 a16 x2 ka kb vc x6 x7 x8 x9 x10 x11 b x14 x16
      ∗ (bufs c a2 a3 a4 a5 a6 a7 a8 a9 a10 a11 a12 a13 a14 a15 a16 x2 ka kb vc x6 x7 x8 x9 x10
          (outDq (point i x2 ka kb vc x6 x7 x8 x9 x10 b)) (point i x2 ka kb vc x6 x7 x8 x9 x10 b).2 (outDfg x6 x8 x9)
          (outDcr (point i x2 ka kb vc x6 x7 x8 x9 x10 b)) -∗ Q ⟨⟩))
    ⊢ wp frame (wpE (defs₀ (F := F)) 𝒱₀ (c : Thread nD τ) none) E
        (cc0_fox_bwd i a2 h2 a3 h3 a4 h4 a5 h5 a6 h6 a7 h7 a8 h8 a9 h9 a10 h10 a11 h11 a12 h12 a13 h13 a14 h14 a15 h15 a16 h16) Q := by
  obtain ⟨b0, hb0⟩ : ∃ b0, cleared i b = b0 := ⟨_, rfl⟩
  unfold point both
  rw [hb0]
  unfold diag
  dsimp only
  obtain ⟨d1, hd1⟩ : ∃ d, diag1 i (sides x2 x6 x7 x8 x9) ka kb vc b0 = d := ⟨_, rfl⟩
  obtain ⟨d2, hd2⟩ : ∃ d, diag2 i (sides x2 x6 x7 x8 x9) ka kb vc d1 = d := ⟨_, rfl⟩
  obtain ⟨d3, hd3⟩ : ∃ d, diag3 i (sides x2 x6 x7 x8 x9) ka kb vc d2 = d := ⟨_, rfl⟩
  obtain ⟨d4, hd4⟩ : ∃ d, diag4 i (sides x2 x6 x7 x8 x9) ka kb vc d3 = d := ⟨_, rfl⟩
  rw [hd1, hd2, hd3, hd4]
  have dq1 := congrArg (fun d => d.1.dq) hd1.symm
  have rA1 := congrArg (fun d => d.1.rA) hd1.symm
  have rB1 := congrArg (fun d => d.1.rB) hd1.symm
  unfold diag1 at dq1 rA1 rB1
  dsimp only at dq1 rA1 rB1
  have dq2 := congrArg (fun d => d.1.dq) hd2.symm
  have rA2 := congrArg (fun d => d.1.rA) hd2.symm
  have rB2 := congrArg (fun d => d.1.rB) hd2.symm
  unfold diag2 at dq2 rA2 rB2
  dsimp only at dq2 rA2 rB2
  have dq3 := congrArg (fun d => d.1.dq) hd3.symm
  have rA3 := congrArg (fun d => d.1.rA) hd3.symm
  have rB3 := congrArg (fun d => d.1.rB) hd3.symm
  unfold diag3 at dq3 rA3 rB3
  dsimp only at dq3 rA3 rB3
  have dq4 := congrArg (fun d => d.1.dq) hd4.symm
  have rA4 := congrArg (fun d => d.1.rA) hd4.symm
  have rB4 := congrArg (fun d => d.1.rB) hd4.symm
  unfold diag4 at dq4 rA4 rB4
  dsimp only at dq4 rA4 rB4
  have hcall := call1 i c a3 h3 a4 h4 a5 h5 a12 h12 a13 h13 a15 h15 ka kb vc (sides x2 x6 x7 x8 x9) (k0_pay1 x10) (k0_pay130 (sides x2 x6 x7 x8 x9).lA) (k0_pay131 (sides x2 x6 x7 x8 x9).lB) E d4
  simp only [dq4, rA4, rB4, dq3, rA3, rB3, dq2, rA2, rB2, dq1, rA1, rB1] at hcall
  simp only [cc0_fox_bwd_eq_skeleton]; unfold cc0_fox_bwd_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel
  unfold bufs
  by_cases hb : (i 1).val = 0
  case' pos =>
    have hc := (first_iff i).2 hb
    simp only [dif_pos hc, Prog.lift, Prog.bind_op, Prog.bind_ret, Prog.pure_eq_ret]
    rw [cleared, if_pos hb] at hb0
    iintro ⟨⟨H2, H3, H4, H5, H6, H7, H8, H9, H10, H11, Hk, Hv, H14, Hc, H16⟩, Hq⟩
    iapply (wp_load_owns 𝒱₀ (c : Thread nD τ) none E) $$ Hk; iintro Hk
    iapply (wp_store_whole c none E zero2) $$ Hk; iintro Hk
    iapply (wp_load_owns 𝒱₀ (c : Thread nD τ) none E) $$ Hv; iintro Hv
    iapply (wp_store_whole c none E zero2) $$ Hv; iintro Hv
    iapply (wp_load_owns 𝒱₀ (c : Thread nD τ) none E) $$ Hc; iintro Hc
    iapply (wp_store_whole c none E zero3) $$ Hc; iintro Hc
    iapply (owns_eq c a12 _ b0.dk (by rw [← hb0])) $$ Hk; iintro Hk
    iapply (owns_eq c a13 _ b0.dv (by rw [← hb0])) $$ Hv; iintro Hv
    iapply (owns_eq c a15 _ b0.dc (by rw [← hb0])) $$ Hc; iintro Hc
  case' neg =>
    have hc := fun h => hb ((first_iff i).1 h)
    simp only [dif_neg hc, Prog.lift, Prog.bind_op, Prog.bind_ret, Prog.pure_eq_ret]
    rw [cleared, if_neg hb] at hb0
    subst hb0
    iintro ⟨⟨H2, H3, H4, H5, H6, H7, H8, H9, H10, H11, Hk, Hv, H14, Hc, H16⟩, Hq⟩

  all_goals
    iapply (wp_load_whole c none E zero2) $$ H2; iintro H2
    iapply (wp_load_whole c none E zero2) $$ H2; iintro H2
    iapply (wp_load_whole c none E zero2) $$ H7; iintro H7
    iapply (wp_load_whole c none E zero2) $$ H9; iintro H9
    iapply (wp_load_whole c none E zero2) $$ H8; iintro H8
    iapply (wp_load_whole c none E zero2) $$ H6; iintro H6
    iapply (wp_load_whole c none E zero2) $$ H14; iintro H14
    iapply (wp_store_whole c none E zero2) $$ H14; iintro H14
    iapply (wp_load_owns 𝒱₀ (c : Thread nD τ) none E) $$ H5; iintro H5
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hv; iintro Hv
    iapply (wp_load_owns 𝒱₀ (c : Thread nD τ) none E) $$ Hv; iintro Hv
    iapply (wp_store_owns 𝒱₀ (c : Thread nD τ) none E) $$ Hv; iintro Hv
    iapply (wp_load_owns 𝒱₀ (c : Thread nD τ) none E) $$ Hk; iintro Hk
    iapply (wp_load_owns 𝒱₀ (c : Thread nD τ) none E) $$ Hk; iintro Hk
    iapply (wp_store_owns 𝒱₀ (c : Thread nD τ) none E) $$ Hk; iintro Hk
    iapply (owns_eq c a12 _ d1.2.dk (by rw [← hd1]; unfold diag1; dsimp only; rfl)) $$ Hk; iintro Hk
    iapply (owns_eq c a13 _ d1.2.dv (by rw [← hd1]; unfold diag1; dsimp only; rfl)) $$ Hv; iintro Hv
    iapply (owns_eq c a15 _ d1.2.dc (by rw [← hd1]; unfold diag1; dsimp only; rfl)) $$ Hc; iintro Hc
    iapply (wp_load_owns 𝒱₀ (c : Thread nD τ) none E) $$ H5; iintro H5
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hv; iintro Hv
    iapply (wp_load_owns 𝒱₀ (c : Thread nD τ) none E) $$ Hv; iintro Hv
    iapply (wp_store_owns 𝒱₀ (c : Thread nD τ) none E) $$ Hv; iintro Hv
    iapply (wp_load_owns 𝒱₀ (c : Thread nD τ) none E) $$ Hk; iintro Hk
    iapply (wp_load_owns 𝒱₀ (c : Thread nD τ) none E) $$ Hk; iintro Hk
    iapply (wp_store_owns 𝒱₀ (c : Thread nD τ) none E) $$ Hk; iintro Hk
    iapply (owns_eq c a12 _ d2.2.dk (by rw [← hd2]; unfold diag2; dsimp only; rfl)) $$ Hk; iintro Hk
    iapply (owns_eq c a13 _ d2.2.dv (by rw [← hd2]; unfold diag2; dsimp only; rfl)) $$ Hv; iintro Hv
    iapply (owns_eq c a15 _ d2.2.dc (by rw [← hd2]; unfold diag2; dsimp only; rfl)) $$ Hc; iintro Hc
    iapply (wp_load_owns 𝒱₀ (c : Thread nD τ) none E) $$ H5; iintro H5
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hv; iintro Hv
    iapply (wp_load_owns 𝒱₀ (c : Thread nD τ) none E) $$ Hv; iintro Hv
    iapply (wp_store_owns 𝒱₀ (c : Thread nD τ) none E) $$ Hv; iintro Hv
    iapply (wp_load_owns 𝒱₀ (c : Thread nD τ) none E) $$ Hk; iintro Hk
    iapply (wp_load_owns 𝒱₀ (c : Thread nD τ) none E) $$ Hk; iintro Hk
    iapply (wp_store_owns 𝒱₀ (c : Thread nD τ) none E) $$ Hk; iintro Hk
    iapply (owns_eq c a12 _ d3.2.dk (by rw [← hd3]; unfold diag3; dsimp only; rfl)) $$ Hk; iintro Hk
    iapply (owns_eq c a13 _ d3.2.dv (by rw [← hd3]; unfold diag3; dsimp only; rfl)) $$ Hv; iintro Hv
    iapply (owns_eq c a15 _ d3.2.dc (by rw [← hd3]; unfold diag3; dsimp only; rfl)) $$ Hc; iintro Hc
    iapply (wp_load_owns 𝒱₀ (c : Thread nD τ) none E) $$ H5; iintro H5
    iapply (wp_load_owns 𝒱₀ (c : Thread nD τ) none E) $$ H3; iintro H3
    iapply (wp_load_owns 𝒱₀ (c : Thread nD τ) none E) $$ H4; iintro H4
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hc; iintro Hc
    iapply (wp_load_owns 𝒱₀ (c : Thread nD τ) none E) $$ Hc; iintro Hc
    iapply (wp_store_owns 𝒱₀ (c : Thread nD τ) none E) $$ Hc; iintro Hc
    iapply (wp_load_owns 𝒱₀ (c : Thread nD τ) none E) $$ Hv; iintro Hv
    iapply (wp_load_owns 𝒱₀ (c : Thread nD τ) none E) $$ Hv; iintro Hv
    iapply (wp_store_owns 𝒱₀ (c : Thread nD τ) none E) $$ Hv; iintro Hv
    iapply (wp_load_owns 𝒱₀ (c : Thread nD τ) none E) $$ Hk; iintro Hk
    iapply (wp_load_owns 𝒱₀ (c : Thread nD τ) none E) $$ Hk; iintro Hk
    iapply (wp_store_owns 𝒱₀ (c : Thread nD τ) none E) $$ Hk; iintro Hk
    iapply (owns_eq c a12 _ d4.2.dk (by rw [← hd4]; unfold diag4; dsimp only; rfl)) $$ Hk; iintro Hk
    iapply (owns_eq c a13 _ d4.2.dv (by rw [← hd4]; unfold diag4; dsimp only; rfl)) $$ Hv; iintro Hv
    iapply (owns_eq c a15 _ d4.2.dc (by rw [← hd4]; unfold diag4; dsimp only; rfl)) $$ Hc; iintro Hc
    iapply (wp_load_whole c none E zero2) $$ H10; iintro H10
    iapply (wp_call_spec 𝒱₀ (c : Thread nD τ) none E
      (walkSpec i c a3 a4 a5 a12 a13 a15 (sides x2 x6 x7 x8 x9) ka kb vc (k0_pay1 x10) (k0_pay130 (sides x2 x6 x7 x8 x9).lA) (k0_pay131 (sides x2 x6 x7 x8 x9).lB) (2 * (i 1).val) d4)
      (2 * (i 1).val) (fun u hu => nomatch hu) (fun K => hcall K))
    rw [spec_apply]
    unfold held
    isplitr [H2 H6 H7 H8 H9 H10 H11 H14 H16 Hq]
    · isplitl [H3]; · iexact H3
      isplitl [H4]; · iexact H4
      isplitl [H5]; · iexact H5
      isplitl [Hk]; · iexact Hk
      isplitl [Hv]; · iexact Hv
      iexact Hc
    iintro %r %hr ⟨H3, H4, H5, Hk, Hv, Hc⟩
    subst hr
    dsimp only [ret1]
    obtain ⟨w, hw⟩ : ∃ w, walk (sides x2 x6 x7 x8 x9) ka kb vc (k0_pay1 x10) (k0_pay130 (sides x2 x6 x7 x8 x9).lA) (k0_pay131 (sides x2 x6 x7 x8 x9).lB) (2 * (i 1).val) d4 = w := ⟨_, rfl⟩
    have hle : w.1 ≤ 2 * (i 1).val := by rw [← hw]; exact walk_left _ _ _ _ _ _ _ _ _
    simp only [hw]
    iapply (wp_call_spec 𝒱₀ (c : Thread nD τ) none E
      (walkASpec c a3 a4 a5 a12 a13 a15 (sides x2 x6 x7 x8 x9) ka kb vc (k0_pay1 x10) (k0_pay130 (sides x2 x6 x7 x8 x9).lA) w.1 w.2)
      w.1 (fun u hu => nomatch hu)
      (walkA_le i c a3 h3 a4 a5 h5 a12 h12 a13 h13 a15 h15 (sides x2 x6 x7 x8 x9) ka kb vc (k0_pay1 x10) (k0_pay130 (sides x2 x6 x7 x8 x9).lA) E w.1 hle w.2))
    rw [spec_apply]
    unfold held
    isplitr [H2 H6 H7 H8 H9 H10 H11 H14 H16 Hq]
    · isplitl [H3]; · iexact H3
      isplitl [H4]; · iexact H4
      isplitl [H5]; · iexact H5
      isplitl [Hk]; · iexact Hk
      isplitl [Hv]; · iexact Hv
      iexact Hc
    iintro %r %hr ⟨H3, H4, H5, Hk, Hv, Hc⟩
    obtain ⟨r0, r1, r2⟩ := r
    obtain ⟨e1, e2⟩ := hr
    dsimp only at e1 e2
    subst e1 e2
    dsimp only
    iapply (wp_call_spec 𝒱₀ (c : Thread nD τ) none E
      (walkBSpec c a3 a4 a5 a12 a13 a15 (sides x2 x6 x7 x8 x9) ka kb vc (k0_pay1 x10) (k0_pay131 (sides x2 x6 x7 x8 x9).lB) w.1
        (walkA (sides x2 x6 x7 x8 x9) ka vc (k0_pay1 x10) (k0_pay130 (sides x2 x6 x7 x8 x9).lA) w.1 w.2))
      w.1 (fun u hu => nomatch hu)
      (call3 i c a3 a4 h4 a5 h5 a12 h12 a13 h13 a15 h15 ka kb vc (sides x2 x6 x7 x8 x9) (k0_pay1 x10) (k0_pay130 (sides x2 x6 x7 x8 x9).lA) (k0_pay131 (sides x2 x6 x7 x8 x9).lB) E w.1 hle w.2))
    rw [spec_apply]
    unfold held
    isplitr [H2 H6 H7 H8 H9 H10 H11 H14 H16 Hq]
    · isplitl [H3]; · iexact H3
      isplitl [H4]; · iexact H4
      isplitl [H5]; · iexact H5
      isplitl [Hk]; · iexact Hk
      isplitl [Hv]; · iexact Hv
      iexact Hc
    iintro %r %hr ⟨H3, H4, H5, Hk, Hv, Hc⟩
    obtain ⟨r0, r1, r2⟩ := r
    obtain ⟨e1, e2⟩ := hr
    dsimp only at e1 e2
    subst e1 e2
    dsimp only
    iapply (wp_load_whole c none E zero2) $$ H11; iintro H11
    iapply (wp_store_whole c none E zero2) $$ H11; iintro H11
    iapply (wp_load_whole c none E zero3) $$ H16; iintro H16
    iapply (wp_store_whole c none E zero3) $$ H16; iintro H16
    iapply (owns_eq c a16 _ (outDcr (walkB (sides x2 x6 x7 x8 x9) kb vc (k0_pay1 x10) (k0_pay131 (sides x2 x6 x7 x8 x9).lB) w.1
        (walkA (sides x2 x6 x7 x8 x9) ka vc (k0_pay1 x10) (k0_pay130 (sides x2 x6 x7 x8 x9).lA) w.1 w.2))) (by unfold outDcr; rw [walkB_rA])) $$ H16; iintro H16
    rw [wp_ret]; imodintro
    iapply Hq
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [Hk]; · iexact Hk
    isplitl [Hv]; · iexact Hv
    isplitl [H14]; · iexact H14
    isplitl [Hc]; · iexact Hc
    iexact H16
end Cert.Proof.KI7

end
-- ==== Proof.Fox.Run.lean ====
module

public import proofs.«01_k».proof.Proof.Fox.Body
public import proofs.«01_k».proof.Proof.Gen.Kernel7Ideal.Launch
public import proofs.«01_k».proof.Proof.Gen.Kernel7Ideal.Points
public import Idealize.ShloMosaic.Lib.Pipeline.FrameBody
public import Idealize.ShloMosaic.Lib.Claim

@[expose] public section

set_option maxRecDepth 16384

noncomputable section

/-! The launch: what each window's buffer holds at each grid point, the body's triple there, and the whole program's run. -/

namespace Cert.Proof.KI7

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### The host's operations before the launch -/

/-- Every host operation before the launch, stretch by stretch. -/
abbrev hostLines : List (List (HloOp τ sig (Elt F))) :=
  [hostOps0, hostOps0_1, hostOps0_2, hostOps0_3, hostOps0_4, hostOps0_5, hostOps0_6]

/-- What a buffer holds when the launch is entered. -/
def V (c : Dev nD) (b : Ref sig .tc) : Buf (Elt F) ((c : Thread nD τ).loc b) :=
  StableHlo.after (hostLines (F := F)).flatten (fun b => m (c, b)) (Proc.devRef .tc b)

theorem hmain : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostLines
    ⟨hostOps0_sub, hostOps0_1_sub, hostOps0_2_sub, hostOps0_3_sub, hostOps0_4_sub, hostOps0_5_sub, hostOps0_6_sub⟩
    (by
      simp only [hostLines, List.Forall]
      repeat' apply And.intro
      all_goals rfl)
    fun c => (main_chain c).trans rfl

/-- A buffer no host operation writes holds what it held. -/
theorem arg_kept (c : Dev nD) (b : Ref sig .tc) (hb : b = main_arg0 ∨ b = main_arg1 ∨ b = main_arg2 ∨ b = main_arg3 ∨ b = main_arg4
    ∨ b = main_arg5 ∨ b = main_arg6 ∨ b = main_arg7) : V m c b = m ((c : Thread nD τ).loc b) := by
  unfold V
  refine StableHlo.after_of_forall_not_mem (b := Proc.devRef .tc b) _ _ (List.forall_iff_forall_mem.mp ?_)
  simp only [hostLines, List.flatten_cons, List.flatten_nil, List.append_nil, List.cons_append, List.nil_append, List.Forall,
    StableHlo.nullary_writes, StableHlo.unary_writes, StableHlo.binary_writes, StableHlo.ternary_writes, StableHlo.reshape_writes,
    StableHlo.nary_writes, Finset.mem_singleton]
  rcases hb with rfl | rfl | rfl | rfl | rfl | rfl | rfl | rfl
  all_goals
    repeat' apply And.intro
    all_goals exact StableHlo.devRef_ne_of_ne (by decide)

/-! ### What the windows' buffers hold -/

/-- Window `w`'s block at point `t`, read off its array. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Point `t` of the walk over the grid, from the gathered gradients it finds. -/
def at_ (c : Dev nD) (t : Fin (cfg0 (F := F)).N) (b : Bufs F) : Carry F × Bufs F :=
  point (grid0.coords t) (iblk m c 0 t) (iblk m c 1 t) (iblk m c 2 t) (iblk m c 3 t) (iblk m c 4 t) (iblk m c 5 t) (iblk m c 6 t)
    (iblk m c 7 t) (iblk m c 8 t) b

/-- What point `n` leaves, every point from the first on having run. -/
def acc (c : Dev nD) : (n : ℕ) → n < (cfg0 (F := F)).N → Carry F × Bufs F
  | 0, h => at_ m c ⟨0, h⟩ ⟨k0_pay12, k0_pay13, k0_pay14⟩
  | n + 1, h => at_ m c ⟨n + 1, h⟩ (acc c n (Nat.lt_of_succ_lt h)).2

/-- The first query block of a head pair starts from zero, whatever the buffers held. -/
theorem point_first (i : grid0.Coords) (hb : (i 1).val = 0) (x2 : Vec F S1024x128 .bf16) (ka kb vc : Vec F S4096x128 .bf16)
    (x6 x7 x8 x9 : Vec F S1024x128 .f32) (x10 : Vec F S1x128 .f32) (b b' : Bufs F) :
    point i x2 ka kb vc x6 x7 x8 x9 x10 b = point i x2 ka kb vc x6 x7 x8 x9 x10 b' := by
  unfold point both cleared
  simp only [if_pos hb]

theorem coord_one (t : Fin (cfg0 (F := F)).N) : ((cfg0 (F := F)).grid.coords t 1).val = t.val % 4 := by
  have h : (grid0.coords t 1).val = t.val / 1 % 4 := Pipeline.Grid.coords_val (G := grid0) t 1 (by decide) rfl
  exact h.trans (by simp)

theorem acc_first (c : Dev nD) (t : Fin (cfg0 (F := F)).N) (ht : t.val % 4 = 0) (b : Bufs F) :
    at_ m c t b = acc m c t.val t.isLt := by
  obtain ⟨n, hn⟩ := t
  cases n with
  | zero => exact point_first _ ((coord_one _).trans ht) _ _ _ _ _ _ _ _ _ _ _
  | succ n => exact point_first _ ((coord_one _).trans ht) _ _ _ _ _ _ _ _ _ _ _

theorem acc_next (c : Dev nD) (t : Fin (cfg0 (F := F)).N) (ht : t.val ≠ 0) :
    at_ m c t (acc m c (t.val - 1) (Nat.lt_of_le_of_lt (Nat.sub_le _ _) t.isLt)).2 = acc m c t.val t.isLt := by
  obtain ⟨n, hn⟩ := t
  cases n with
  | zero => exact absurd rfl ht
  | succ n => rfl

/-- The pipeline's proof data: each input's buffer at its block, each output's at what the points so far leave. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outDq (acc m c t.val t.isLt)
    | ⟨10, _⟩ => (acc m c t.val t.isLt).2.dk
    | ⟨11, _⟩ => (acc m c t.val t.isLt).2.dv
    | ⟨12, _⟩ => outDfg (iblk m c 4 t) (iblk m c 6 t) (iblk m c 7 t)
    | ⟨13, _⟩ => (acc m c t.val t.isLt).2.dc
    | ⟨14, _⟩ => outDcr (acc m c t.val t.isLt)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = iblk m c 8 t := rfl
theorem after0_9 (c : Dev nD) (t : Fin (cfg0 (F := F)).N) : (dats m 0 c).after 9 t = outDq (acc m c t.val t.isLt) := rfl
theorem after0_10 (c : Dev nD) (t : Fin (cfg0 (F := F)).N) : (dats m 0 c).after 10 t = (acc m c t.val t.isLt).2.dk := rfl
theorem after0_11 (c : Dev nD) (t : Fin (cfg0 (F := F)).N) : (dats m 0 c).after 11 t = (acc m c t.val t.isLt).2.dv := rfl
theorem after0_12 (c : Dev nD) (t : Fin (cfg0 (F := F)).N) : (dats m 0 c).after 12 t = outDfg (iblk m c 4 t) (iblk m c 6 t) (iblk m c 7 t) := rfl
theorem after0_13 (c : Dev nD) (t : Fin (cfg0 (F := F)).N) : (dats m 0 c).after 13 t = (acc m c t.val t.isLt).2.dc := rfl
theorem after0_14 (c : Dev nD) (t : Fin (cfg0 (F := F)).N) : (dats m 0 c).after 14 t = outDcr (acc m c t.val t.isLt) := rfl
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin (cfg0 (F := F)).N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
/-- The gathered gradients' buffers before a point: what the point before left, or anything at all at a head pair's first. -/
theorem at_before (c : Dev nD) (t : Fin (cfg0 (F := F)).N) (d10 d11 d13) :
    at_ m c t ⟨(dats m 0 c).before 10 t d10, (dats m 0 c).before 11 t d11, (dats m 0 c).before 13 t d13⟩ = acc m c t.val t.isLt := by
  by_cases ht : t.val % 4 = 0
  · exact acc_first m c t ht _
  · have h0 : t.val ≠ 0 := fun h => ht (by rw [h])
    have hf : ¬(t.val - 1) % 4 = 3 := by omega
    rw [(dats m 0 c).before_out_kept 10 rfl t h0 (Bool.eq_false_iff.mpr fun h => hf ((flush0_10 _).mp h)) (fun _ => rfl) (fun _ _ => rfl),
      (dats m 0 c).before_out_kept 11 rfl t h0 (Bool.eq_false_iff.mpr fun h => hf ((flush0_11 _).mp h)) (fun _ => rfl) (fun _ _ => rfl),
      (dats m 0 c).before_out_kept 13 rfl t h0 (Bool.eq_false_iff.mpr fun h => hf ((flush0_13 _).mp h)) (fun _ => rfl) (fun _ _ => rfl),
      after0_10, after0_11, after0_13]
    exact acc_next m c t h0

/-! ### The body at a point -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (win0_0.stage ((cfg0 (F := F)).slots t 0)) fullShare ((dats m 0 c).before 0 t d))
    ∗ (∃ d, owns (c : Thread nD τ) (win0_1.stage ((cfg0 (F := F)).slots t 1)) fullShare ((dats m 0 c).before 1 t d))
    ∗ (∃ d, owns (c : Thread nD τ) (win0_2.stage ((cfg0 (F := F)).slots t 2)) fullShare ((dats m 0 c).before 2 t d))
    ∗ (∃ d, owns (c : Thread nD τ) (win0_3.stage ((cfg0 (F := F)).slots t 3)) fullShare ((dats m 0 c).before 3 t d))
    ∗ (∃ d, owns (c : Thread nD τ) (win0_4.stage ((cfg0 (F := F)).slots t 4)) fullShare ((dats m 0 c).before 4 t d))
    ∗ (∃ d, owns (c : Thread nD τ) (win0_5.stage ((cfg0 (F := F)).slots t 5)) fullShare ((dats m 0 c).before 5 t d))
    ∗ (∃ d, owns (c : Thread nD τ) (win0_6.stage ((cfg0 (F := F)).slots t 6)) fullShare ((dats m 0 c).before 6 t d))
    ∗ (∃ d, owns (c : Thread nD τ) (win0_7.stage ((cfg0 (F := F)).slots t 7)) fullShare ((dats m 0 c).before 7 t d))
    ∗ (∃ d, owns (c : Thread nD τ) (win0_8.stage ((cfg0 (F := F)).slots t 8)) fullShare ((dats m 0 c).before 8 t d))
    ∗ (∃ d, owns (c : Thread nD τ) (win0_9.stage ((cfg0 (F := F)).slots t 9)) fullShare ((dats m 0 c).before 9 t d))
    ∗ (∃ d, owns (c : Thread nD τ) (win0_10.stage ((cfg0 (F := F)).slots t 10)) fullShare ((dats m 0 c).before 10 t d))
    ∗ (∃ d, owns (c : Thread nD τ) (win0_11.stage ((cfg0 (F := F)).slots t 11)) fullShare ((dats m 0 c).before 11 t d))
    ∗ (∃ d, owns (c : Thread nD τ) (win0_12.stage ((cfg0 (F := F)).slots t 12)) fullShare ((dats m 0 c).before 12 t d))
    ∗ (∃ d, owns (c : Thread nD τ) (win0_13.stage ((cfg0 (F := F)).slots t 13)) fullShare ((dats m 0 c).before 13 t d))
    ∗ (∃ d, owns (c : Thread nD τ) (win0_14.stage ((cfg0 (F := F)).slots t 14)) fullShare ((dats m 0 c).before 14 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (win0_0.stage ((cfg0 (F := F)).slots t 0)) fullShare ((dats m 0 c).after 0 t)
    ∗ owns (c : Thread nD τ) (win0_1.stage ((cfg0 (F := F)).slots t 1)) fullShare ((dats m 0 c).after 1 t)
    ∗ owns (c : Thread nD τ) (win0_2.stage ((cfg0 (F := F)).slots t 2)) fullShare ((dats m 0 c).after 2 t)
    ∗ owns (c : Thread nD τ) (win0_3.stage ((cfg0 (F := F)).slots t 3)) fullShare ((dats m 0 c).after 3 t)
    ∗ owns (c : Thread nD τ) (win0_4.stage ((cfg0 (F := F)).slots t 4)) fullShare ((dats m 0 c).after 4 t)
    ∗ owns (c : Thread nD τ) (win0_5.stage ((cfg0 (F := F)).slots t 5)) fullShare ((dats m 0 c).after 5 t)
    ∗ owns (c : Thread nD τ) (win0_6.stage ((cfg0 (F := F)).slots t 6)) fullShare ((dats m 0 c).after 6 t)
    ∗ owns (c : Thread nD τ) (win0_7.stage ((cfg0 (F := F)).slots t 7)) fullShare ((dats m 0 c).after 7 t)
    ∗ owns (c : Thread nD τ) (win0_8.stage ((cfg0 (F := F)).slots t 8)) fullShare ((dats m 0 c).after 8 t)
    ∗ owns (c : Thread nD τ) (win0_9.stage ((cfg0 (F := F)).slots t 9)) fullShare ((dats m 0 c).after 9 t)
    ∗ owns (c : Thread nD τ) (win0_10.stage ((cfg0 (F := F)).slots t 10)) fullShare ((dats m 0 c).after 10 t)
    ∗ owns (c : Thread nD τ) (win0_11.stage ((cfg0 (F := F)).slots t 11)) fullShare ((dats m 0 c).after 11 t)
    ∗ owns (c : Thread nD τ) (win0_12.stage ((cfg0 (F := F)).slots t 12)) fullShare ((dats m 0 c).after 12 t)
    ∗ owns (c : Thread nD τ) (win0_13.stage ((cfg0 (F := F)).slots t 13)) fullShare ((dats m 0 c).after 13 t)
    ∗ owns (c : Thread nD τ) (win0_14.stage ((cfg0 (F := F)).slots t 14)) fullShare ((dats m 0 c).after 14 t))

set_option maxHeartbeats 4800000 in
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  have hp := at_before m c t d10 d11 d13
  rw [← hp]
  unfold at_
  iapply (body_run (grid0.coords t) c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ
    ((dats m 0 c).before 9 t d9) ⟨(dats m 0 c).before 10 t d10, (dats m 0 c).before 11 t d11, (dats m 0 c).before 13 t d13⟩
    ((dats m 0 c).before 12 t d12) ((dats m 0 c).before 14 t d14) _)
  unfold bufs
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ### The run -/

set_option backward.isDefEq.respectTransparency.types false in
theorem run_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

/-- Every final state: the arguments as launched, the four results at the pipeline's final arrays, every counter at zero. -/
theorem run_main : θ_run defs (onTc (τ := τ) (main (F := F))) ⟨m, fun _ => 0, ρ⟩ (fun r => (∀ c : Dev nD,
      r.2.mem ((c.tc : Thread nD τ).loc main_v115_0) = (dats m 0 c).arrAt 9 (cfg0 (F := F)).N
      ∧ r.2.mem ((c.tc : Thread nD τ).loc main_v115_1) = (dats m 0 c).arrAt 10 (cfg0 (F := F)).N
      ∧ r.2.mem ((c.tc : Thread nD τ).loc main_v115_2) = (dats m 0 c).arrAt 11 (cfg0 (F := F)).N
      ∧ r.2.mem ((c.tc : Thread nD τ).loc main_v115_3) = (dats m 0 c).arrAt 12 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).1 9, (h.1 c).1 10, (h.1 c).1 11, (h.1 c).1 12,
      ((h.1 c).2 main_arg0 (by decide : main_arg0 ∈ Pipeline.restRefs sig spec0)).trans (arg_kept m c main_arg0 (Or.inl rfl)),
      ((h.1 c).2 main_arg1 (by decide : main_arg1 ∈ Pipeline.restRefs sig spec0)).trans (arg_kept m c main_arg1 (Or.inr (Or.inl rfl))),
      ((h.1 c).2 main_arg2 (by decide : main_arg2 ∈ Pipeline.restRefs sig spec0)).trans (arg_kept m c main_arg2 (Or.inr (Or.inr (Or.inl rfl)))),
      ((h.1 c).2 main_arg3 (by decide : main_arg3 ∈ Pipeline.restRefs sig spec0)).trans (arg_kept m c main_arg3 (Or.inr (Or.inr (Or.inr (Or.inl rfl))))),
      ((h.1 c).1 7).trans (((dats m 0 c).arrAt_in 7 rfl _).trans ((A_eq m c 7).trans (arg_kept m c main_arg4 (Or.inr (Or.inr (Or.inr (Or.inr (Or.inl rfl)))))))),
      ((h.1 c).1 6).trans (((dats m 0 c).arrAt_in 6 rfl _).trans ((A_eq m c 6).trans (arg_kept m c main_arg5 (Or.inr (Or.inr (Or.inr (Or.inr (Or.inr (Or.inl rfl))))))))),
      ((h.1 c).2 main_arg6 (by decide : main_arg6 ∈ Pipeline.restRefs sig spec0)).trans (arg_kept m c main_arg6 (Or.inr (Or.inr (Or.inr (Or.inr (Or.inr (Or.inr (Or.inl rfl)))))))),
      ((h.1 c).2 main_arg7 (by decide : main_arg7 ∈ Pipeline.restRefs sig spec0)).trans (arg_kept m c main_arg7 (Or.inr (Or.inr (Or.inr (Or.inr (Or.inr (Or.inr (Or.inr (rfl)))))))))⟩, h.2⟩)
    (run_quiescent m ρ)

/-- The frame: the arguments as launched, every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2.2.2.2, h.2⟩) (run_main m ρ)

end Cert.Proof.KI7

end
-- ==== Proof.Fox.Grid.lean ====
/-
  The whole grid of the forget-gated attention's backward over the real numbers: where the arrays the windows read hold
  real matrices, the four result arrays hold the gradients of the four head pairs, side by side.
-/
module

public import proofs.«01_k».proof.Proof.Fox.Point
public import proofs.«01_k».proof.Proof.Fox.Run
public import Idealize.ShloMosaic.Lib.Pipeline.ValueKit

@[expose] public section

noncomputable section

namespace Cert.Proof.KI7

open Cert.Kernel7Ideal Cert.Kernel7Ideal.Gen
open Idealize.ShloMosaic Idealize.ShloMosaic.TcCoe
open Idealize.SL Idealize.SL.Sem
open Finset

variable (m : (ℓ : Loc nD τ sig) → Buf (Elt Ideal) ℓ) (c : Dev nD)

theorem Mat.at {m n : ℕ} {x : (⟨2, ![m, n]⟩ : Shape).Idx → EReal} {X : ℕ → ℕ → ℝ} (h : Mat x X)
    (i : (⟨2, ![m, n]⟩ : Shape).Idx) : x i = ((X (i 0).val (i 1).val : ℝ) : EReal) := by
  rw [eq_ix2 i]
  exact h (i 0) (i 1)

/-- The columns from `o` on. -/
def col (o : ℕ) (X : ℕ → ℕ → ℝ) (t d : ℕ) : ℝ := X t (o + d)

/-! ### The windows -/

theorem index_0 : ∀ t : Fin (cfg0 (F := Ideal)).N, win0_0.index t = ![t.val % 4, t.val / 4] := by
  decide +kernel

theorem index_1 : ∀ t : Fin (cfg0 (F := Ideal)).N, win0_1.index t = ![0, t.val / 4] := by
  decide +kernel

theorem index_2 : ∀ t : Fin (cfg0 (F := Ideal)).N, win0_2.index t = ![0, t.val / 4] := by
  decide +kernel

theorem index_3 : ∀ t : Fin (cfg0 (F := Ideal)).N, win0_3.index t = ![0, t.val / 4] := by
  decide +kernel

theorem index_4 : ∀ t : Fin (cfg0 (F := Ideal)).N, win0_4.index t = ![t.val % 4, t.val / 4] := by
  decide +kernel

theorem index_5 : ∀ t : Fin (cfg0 (F := Ideal)).N, win0_5.index t = ![t.val % 4, t.val / 4] := by
  decide +kernel

theorem index_6 : ∀ t : Fin (cfg0 (F := Ideal)).N, win0_6.index t = ![t.val % 4, t.val / 4] := by
  decide +kernel

theorem index_7 : ∀ t : Fin (cfg0 (F := Ideal)).N, win0_7.index t = ![t.val % 4, 12 + t.val / 4] := by
  decide +kernel

theorem index_9 : ∀ t : Fin (cfg0 (F := Ideal)).N, win0_9.index t = ![t.val % 4, t.val / 4] := by
  decide +kernel

theorem index_10 : ∀ t : Fin (cfg0 (F := Ideal)).N, win0_10.index t = ![0, t.val / 4] := by
  decide +kernel

theorem index_11 : ∀ t : Fin (cfg0 (F := Ideal)).N, win0_11.index t = ![0, t.val / 4] := by
  decide +kernel

theorem index_12 : ∀ t : Fin (cfg0 (F := Ideal)).N, win0_12.index t = ![t.val % 4, t.val / 4] := by
  decide +kernel

theorem iblk0_mat {X : ℕ → ℕ → ℝ} (h : Mat (m := 4096) (n := 512) (V m c main_v69) X) (t : Fin (cfg0 (F := Ideal)).N) :
    Mat (m := 1024) (n := 128) (iblk m c 0 t) (sh (1024 * (t.val % 4)) (col (128 * (t.val / 4)) X)) := fun r d => by
  have e0 : ((win0_0.blk t).view.emb (ix2 r d) 0 : Fin _).val = win0_0.index t 0 * 1024 + r.val := by blk_simp
  have e1 : ((win0_0.blk t).view.emb (ix2 r d) 1 : Fin _).val = win0_0.index t 1 * 128 + d.val := by blk_simp
  have f0 : win0_0.index t 0 * 1024 + r.val = 1024 * (t.val % 4) + r.val := by
    rw [index_0]
    show (t.val % 4) * 1024 + r.val = _
    omega
  have f1 : win0_0.index t 1 * 128 + d.val = 128 * (t.val / 4) + d.val := by
    rw [index_0]
    show (t.val / 4) * 128 + d.val = _
    omega
  blk_simp [iblk]
  exact (h.at _).trans (congrArg₂ (fun x y : ℕ => ((X x y : ℝ) : EReal)) (e0.trans f0) (e1.trans f1))

theorem iblk1_mat {X : ℕ → ℕ → ℝ} (h : Mat (m := 4096) (n := 512) (V m c main_v70) X) (t : Fin (cfg0 (F := Ideal)).N) :
    Mat (m := 4096) (n := 128) (iblk m c 1 t) (col (128 * (t.val / 4)) X) := fun r d => by
  have e0 : ((win0_1.blk t).view.emb (ix2 r d) 0 : Fin _).val = win0_1.index t 0 * 4096 + r.val := by blk_simp
  have e1 : ((win0_1.blk t).view.emb (ix2 r d) 1 : Fin _).val = win0_1.index t 1 * 128 + d.val := by blk_simp
  have f0 : win0_1.index t 0 * 4096 + r.val = r.val := by
    rw [index_1]
    show (0) * 4096 + r.val = _
    omega
  have f1 : win0_1.index t 1 * 128 + d.val = 128 * (t.val / 4) + d.val := by
    rw [index_1]
    show (t.val / 4) * 128 + d.val = _
    omega
  blk_simp [iblk]
  exact (h.at _).trans (congrArg₂ (fun x y : ℕ => ((X x y : ℝ) : EReal)) (e0.trans f0) (e1.trans f1))

theorem iblk2_mat {X : ℕ → ℕ → ℝ} (h : Mat (m := 4096) (n := 512) (V m c main_v71) X) (t : Fin (cfg0 (F := Ideal)).N) :
    Mat (m := 4096) (n := 128) (iblk m c 2 t) (col (128 * (t.val / 4)) X) := fun r d => by
  have e0 : ((win0_2.blk t).view.emb (ix2 r d) 0 : Fin _).val = win0_2.index t 0 * 4096 + r.val := by blk_simp
  have e1 : ((win0_2.blk t).view.emb (ix2 r d) 1 : Fin _).val = win0_2.index t 1 * 128 + d.val := by blk_simp
  have f0 : win0_2.index t 0 * 4096 + r.val = r.val := by
    rw [index_2]
    show (0) * 4096 + r.val = _
    omega
  have f1 : win0_2.index t 1 * 128 + d.val = 128 * (t.val / 4) + d.val := by
    rw [index_2]
    show (t.val / 4) * 128 + d.val = _
    omega
  blk_simp [iblk]
  exact (h.at _).trans (congrArg₂ (fun x y : ℕ => ((X x y : ℝ) : EReal)) (e0.trans f0) (e1.trans f1))

theorem iblk3_mat {X : ℕ → ℕ → ℝ} (h : Mat (m := 4096) (n := 512) (V m c main_v72) X) (t : Fin (cfg0 (F := Ideal)).N) :
    Mat (m := 4096) (n := 128) (iblk m c 3 t) (col (128 * (t.val / 4)) X) := fun r d => by
  have e0 : ((win0_3.blk t).view.emb (ix2 r d) 0 : Fin _).val = win0_3.index t 0 * 4096 + r.val := by blk_simp
  have e1 : ((win0_3.blk t).view.emb (ix2 r d) 1 : Fin _).val = win0_3.index t 1 * 128 + d.val := by blk_simp
  have f0 : win0_3.index t 0 * 4096 + r.val = r.val := by
    rw [index_3]
    show (0) * 4096 + r.val = _
    omega
  have f1 : win0_3.index t 1 * 128 + d.val = 128 * (t.val / 4) + d.val := by
    rw [index_3]
    show (t.val / 4) * 128 + d.val = _
    omega
  blk_simp [iblk]
  exact (h.at _).trans (congrArg₂ (fun x y : ℕ => ((X x y : ℝ) : EReal)) (e0.trans f0) (e1.trans f1))

theorem iblk4_mat {X : ℕ → ℕ → ℝ} (h : Mat (m := 4096) (n := 512) (V m c main_v110) X) (t : Fin (cfg0 (F := Ideal)).N) :
    Mat (m := 1024) (n := 128) (iblk m c 4 t) (sh (1024 * (t.val % 4)) (col (128 * (t.val / 4)) X)) := fun r d => by
  have e0 : ((win0_4.blk t).view.emb (ix2 r d) 0 : Fin _).val = win0_4.index t 0 * 1024 + r.val := by blk_simp
  have e1 : ((win0_4.blk t).view.emb (ix2 r d) 1 : Fin _).val = win0_4.index t 1 * 128 + d.val := by blk_simp
  have f0 : win0_4.index t 0 * 1024 + r.val = 1024 * (t.val % 4) + r.val := by
    rw [index_4]
    show (t.val % 4) * 1024 + r.val = _
    omega
  have f1 : win0_4.index t 1 * 128 + d.val = 128 * (t.val / 4) + d.val := by
    rw [index_4]
    show (t.val / 4) * 128 + d.val = _
    omega
  blk_simp [iblk]
  exact (h.at _).trans (congrArg₂ (fun x y : ℕ => ((X x y : ℝ) : EReal)) (e0.trans f0) (e1.trans f1))

theorem read5 (A : Buf (Elt Ideal) ((c : Thread nD τ).loc main_v113)) (t : Fin (cfg0 (F := Ideal)).N) (y) :
    (((cfg0 (F := Ideal)).win 5).blk t).view.read (Elt Ideal) A y = A ((win0_5.blk t).view.emb y) := rfl

theorem at5 (A : Buf (Elt Ideal) ((c : Thread nD τ).loc main_v113)) {X : ℕ → ℕ → ℝ} (h : Mat (m := 4096) (n := 512) A X)
    (t : Fin (cfg0 (F := Ideal)).N) (y) : A ((win0_5.blk t).view.emb y)
      = ((X ((win0_5.blk t).view.emb y 0 : Fin _).val ((win0_5.blk t).view.emb y 1 : Fin _).val : ℝ) : EReal) := h.at _

theorem iblk5_mat {X : ℕ → ℕ → ℝ} (h : Mat (m := 4096) (n := 512) (V m c main_v113) X) (t : Fin (cfg0 (F := Ideal)).N) :
    Mat (m := 1024) (n := 128) (iblk m c 5 t) (sh (1024 * (t.val % 4)) (col (128 * (t.val / 4)) X)) := fun r d => by
  have e0 : ((win0_5.blk t).view.emb (ix2 r d) 0 : Fin _).val = win0_5.index t 0 * 1024 + r.val := by blk_simp
  have e1 : ((win0_5.blk t).view.emb (ix2 r d) 1 : Fin _).val = win0_5.index t 1 * 128 + d.val := by blk_simp
  have f0 : win0_5.index t 0 * 1024 + r.val = 1024 * (t.val % 4) + r.val := by
    rw [index_5]
    show (t.val % 4) * 1024 + r.val = _
    omega
  have f1 : win0_5.index t 1 * 128 + d.val = 128 * (t.val / 4) + d.val := by
    rw [index_5]
    show (t.val / 4) * 128 + d.val = _
    omega
  have hD : iblk m c 5 t (ix2 r d) = V m c main_v113 ((win0_5.blk t).view.emb (ix2 r d)) := read5 c (V m c main_v113) t (ix2 r d)
  refine hD.trans ((at5 c _ h t _).trans ?_)
  exact  (congrArg₂ (fun x y : ℕ => ((X x y : ℝ) : EReal)) (e0.trans f0) (e1.trans f1))

theorem iblk6_mat {X : ℕ → ℕ → ℝ} (h : Mat (m := 4096) (n := 1024) (V m c main_arg5) X) (t : Fin (cfg0 (F := Ideal)).N) :
    Mat (m := 1024) (n := 128) (iblk m c 6 t) (sh (1024 * (t.val % 4)) (col (128 * (t.val / 4)) X)) := fun r d => by
  have e0 : ((win0_6.blk t).view.emb (ix2 r d) 0 : Fin _).val = win0_6.index t 0 * 1024 + r.val := by blk_simp
  have e1 : ((win0_6.blk t).view.emb (ix2 r d) 1 : Fin _).val = win0_6.index t 1 * 128 + d.val := by blk_simp
  have f0 : win0_6.index t 0 * 1024 + r.val = 1024 * (t.val % 4) + r.val := by
    rw [index_6]
    show (t.val % 4) * 1024 + r.val = _
    omega
  have f1 : win0_6.index t 1 * 128 + d.val = 128 * (t.val / 4) + d.val := by
    rw [index_6]
    show (t.val / 4) * 128 + d.val = _
    omega
  blk_simp [iblk]
  exact (h.at _).trans (congrArg₂ (fun x y : ℕ => ((X x y : ℝ) : EReal)) (e0.trans f0) (e1.trans f1))

theorem iblk7_mat {X : ℕ → ℕ → ℝ} (h : Mat (m := 4096) (n := 3584) (V m c main_arg4) X) (t : Fin (cfg0 (F := Ideal)).N) :
    Mat (m := 1024) (n := 128) (iblk m c 7 t) (sh (1024 * (t.val % 4)) (col (1536 + 128 * (t.val / 4)) X)) := fun r d => by
  have e0 : ((win0_7.blk t).view.emb (ix2 r d) 0 : Fin _).val = win0_7.index t 0 * 1024 + r.val := by blk_simp
  have e1 : ((win0_7.blk t).view.emb (ix2 r d) 1 : Fin _).val = win0_7.index t 1 * 128 + d.val := by blk_simp
  have f0 : win0_7.index t 0 * 1024 + r.val = 1024 * (t.val % 4) + r.val := by
    rw [index_7]
    show (t.val % 4) * 1024 + r.val = _
    omega
  have f1 : win0_7.index t 1 * 128 + d.val = 1536 + 128 * (t.val / 4) + d.val := by
    rw [index_7]
    show (12 + t.val / 4) * 128 + d.val = _
    omega
  blk_simp [iblk]
  exact (h.at _).trans (congrArg₂ (fun x y : ℕ => ((X x y : ℝ) : EReal)) (e0.trans f0) (e1.trans f1))

/-! ### The accumulation over the query blocks -/

/-- The arrays the windows read hold real matrices: scaled queries, the keys with the bias lanes of each head, values,
    output, log-sums, mixed gradient, projections. -/
structure Reads (q k kl v o l dm pj : ℕ → ℕ → ℝ) : Prop where
  q : Mat (m := 4096) (n := 512) (V m c main_v69) q
  k : Mat (m := 4096) (n := 512) (V m c main_v70) k
  kl : Mat (m := 4096) (n := 512) (V m c main_v71) kl
  v : Mat (m := 4096) (n := 512) (V m c main_v72) v
  o : Mat (m := 4096) (n := 512) (V m c main_v110) o
  l : Mat (m := 4096) (n := 512) (V m c main_v113) l
  dm : Mat (m := 4096) (n := 1024) (V m c main_arg5) dm
  pj : Mat (m := 4096) (n := 3584) (V m c main_arg4) pj

/-- The tables of one head pair. -/
def T8 (q k kl v o l dm pj : ℕ → ℕ → ℝ) (p : ℕ) : Tab :=
  tab (col (128 * p) q) (col (128 * p) o) (col (128 * p) l) (col (128 * p) dm) (col (1536 + 128 * p) pj)
    (col (128 * p) k) (col (128 * p) kl) (col (128 * p) v)

variable {m c} {q k kl v o l dm pj : ℕ → ℕ → ℝ}

theorem at_mat (h : Reads m c q k kl v o l dm pj) (t : Fin (cfg0 (F := Ideal)).N) (s : Bufs Ideal)
    (hdk : t.val % 4 ≠ 0 → Mat s.dk ((T8 q k kl v o l dm pj (t.val / 4)).gDk (1024 * (t.val % 4))))
    (hdv : t.val % 4 ≠ 0 → Mat s.dv ((T8 q k kl v o l dm pj (t.val / 4)).gDv (1024 * (t.val % 4)))) :
    HSt (T8 q k kl v o l dm pj (t.val / 4)) (t.val % 4) 0 (1024 * (t.val % 4 + 1)) (at_ m c t s) :=
  point_mat (i := grid0.coords t) (iblk m c 8 t) (coord_one (F := Ideal) t) (iblk0_mat m c h.q t) (iblk1_mat m c h.k t) (iblk2_mat m c h.kl t)
    (iblk3_mat m c h.v t) (iblk4_mat m c h.o t) (iblk5_mat m c h.l t) (iblk6_mat m c h.dm t) (iblk7_mat m c h.pj t) hdk hdv

/-- The gathered gradients once a query block is done hold the sums over all rows up to it. -/
theorem HSt.full {T : Tab} {b : ℕ} {s : Carry Ideal × Bufs Ideal} (h : HSt T b 0 (1024 * (b + 1)) s) :
    Mat s.2.dk (T.gDk (1024 * (b + 1))) ∧ Mat s.2.dv (T.gDv (1024 * (b + 1))) := by
  have e : ∀ (W W' x y : ℕ → ℕ → ℝ), (∀ t s, t < s → W t s = 0) → (∀ t s, t < s → W' t s = 0) → ∀ s d,
      part b 0 (1024 * (b + 1)) (fun N => addK N W W' x y) s d = addK (1024 * (b + 1)) W W' x y s d := fun W W' x y z z' s d => by
    rw [part]
    by_cases hs : 0 ≤ s ∧ s < 1024 * (b + 1)
    · rw [if_pos hs]
    · rw [if_neg hs, addK, addK]
      refine congrArg₂ (· + ·) ?_ ?_
      · rw [Finset.sum_eq_zero fun t ht => by rw [z t s (by have := Finset.mem_range.mp ht; omega), zero_mul],
          Finset.sum_eq_zero fun t ht => by rw [z t s (by have := Finset.mem_range.mp ht; omega), zero_mul]]
      · rw [Finset.sum_eq_zero fun t ht => by rw [z' t s (by have := Finset.mem_range.mp ht; omega), zero_mul],
          Finset.sum_eq_zero fun t ht => by rw [z' t s (by have := Finset.mem_range.mp ht; omega), zero_mul]]
  exact ⟨h.dk.congr fun s _ d _ => e _ _ _ _ T.dA_zero T.dB_zero s d, h.dv.congr fun s _ d _ => e _ _ _ _ T.wA_zero T.wB_zero s d⟩

theorem acc_mat (h : Reads m c q k kl v o l dm pj) : ∀ (n : ℕ) (hn : n < (cfg0 (F := Ideal)).N),
    HSt (T8 q k kl v o l dm pj (n / 4)) (n % 4) 0 (1024 * (n % 4 + 1)) (acc m c n hn)
  | 0, hn => at_mat h ⟨0, hn⟩ _ (fun x => absurd rfl x) (fun x => absurd rfl x)
  | n + 1, hn => by
    obtain ⟨hk, hv⟩ := (acc_mat h n (Nat.lt_of_succ_lt hn)).full
    refine at_mat h ⟨n + 1, hn⟩ _ (fun hx => ?_) (fun hx => ?_)
    · have hx' : (n + 1) % 4 ≠ 0 := hx
      have e1 : (n + 1) / 4 = n / 4 := by omega
      have e2 : (n + 1) % 4 = n % 4 + 1 := by omega
      show Mat _ ((T8 q k kl v o l dm pj ((n + 1) / 4)).gDk (1024 * ((n + 1) % 4)))
      rw [e1, e2]
      exact hk
    · have hx' : (n + 1) % 4 ≠ 0 := hx
      have e1 : (n + 1) / 4 = n / 4 := by omega
      have e2 : (n + 1) % 4 = n % 4 + 1 := by omega
      show Mat _ ((T8 q k kl v o l dm pj ((n + 1) / 4)).gDv (1024 * ((n + 1) % 4)))
      rw [e1, e2]
      exact hv

/-! ### The result arrays -/

/-- The query gradient of one row over the whole sequence. -/
def Tab.gDq (T : Tab) (t d : ℕ) : ℝ := ∑ s ∈ range 4096, (T.dA t s * lo T.K s d + T.dB t s * hi T.KL s d)

theorem HSt.query {T : Tab} {b : ℕ} {s : Carry Ideal × Bufs Ideal} (h : HSt T b 0 (1024 * (b + 1)) s) (hb : b < 4) :
    Mat s.1.dq (fun r d => T.gDq (1024 * b + r) d) := h.dq.congr fun r hr d _ => by
  rw [qsum, Tab.gDq, Finset.range_eq_Ico]
  refine Finset.sum_subset (Finset.Ico_subset_Ico_right (by omega)) fun s hs hn => ?_
  have h1 := Finset.mem_Ico.mp hs
  have h2 : ¬ s < 1024 * (b + 1) := fun x => hn (Finset.mem_Ico.mpr ⟨h1.1, x⟩)
  rw [T.dA_zero _ _ (by omega), T.dB_zero _ _ (by omega), zero_mul, zero_mul, add_zero]

/-- The gradients of all eight heads: of the queries, the keys, the values and the gate. -/
def outQ (q k kl v o l dm pj : ℕ → ℕ → ℝ) (t j : ℕ) : ℝ := (T8 q k kl v o l dm pj (j / 128)).gDq t (j % 128) * 0.125
def outK (q k kl v o l dm pj : ℕ → ℕ → ℝ) (s j : ℕ) : ℝ := (T8 q k kl v o l dm pj (j / 128)).gDk 4096 s (j % 128)
def outV (q k kl v o l dm pj : ℕ → ℕ → ℝ) (s j : ℕ) : ℝ := (T8 q k kl v o l dm pj (j / 128)).gDv 4096 s (j % 128)
def outG (o dm pj : ℕ → ℕ → ℝ) (t j : ℕ) : ℝ :=
  rDfg (col (128 * (j / 128)) o) (col (128 * (j / 128)) dm) (col (1536 + 128 * (j / 128)) pj) t (j % 128)

theorem result9 (h : Reads m c q k kl v o l dm pj) :
    Mat (m := 4096) (n := 512) ((dats m 0 c).arrAt 9 (cfg0 (F := Ideal)).N) (outQ q k kl v o l dm pj) := fun r d => by
  refine (dats m 0 c).arrAt_forall_of_covers 9 (fun i a => a = ((outQ q k kl v o l dm pj (i 0).val (i 1).val : ℝ) : EReal))
    (by decide +kernel) (fun t hf y => ?_) (ix2 r d)
  have y0 : (y 0).val < 1024 := (y 0).isLt
  have y1 : (y 1).val < 128 := (y 1).isLt
  have f0 : win0_9.index t 0 * 1024 + (y 0).val = 1024 * (t.val % 4) + (y 0).val := by
    rw [index_9]
    show (t.val % 4) * 1024 + (y 0).val = _
    omega
  have f1 : win0_9.index t 1 * 128 + (y 1).val = 128 * (t.val / 4) + (y 1).val := by
    rw [index_9]
    show (t.val / 4) * 128 + (y 1).val = _
    omega
  have hm := (outDq_mat ((acc_mat h t.val t.isLt).query (Nat.mod_lt _ (by omega)))).at y
  have g1 : (128 * (t.val / 4) + (y 1).val) / 128 = t.val / 4 := by omega
  have g2 : (128 * (t.val / 4) + (y 1).val) % 128 = (y 1).val := by omega
  blk_simp
  rw [after0_9]
  refine hm.trans ?_
  refine Eq.trans ?_ (congrArg₂ (fun x y : ℕ => ((outQ q k kl v o l dm pj x y : ℝ) : EReal)) f0 f1).symm
  show _ = ((outQ q k kl v o l dm pj _ (128 * (t.val / 4) + (y 1).val) : ℝ) : EReal)
  rw [outQ, g1, g2]

theorem result10 (h : Reads m c q k kl v o l dm pj) :
    Mat (m := 4096) (n := 512) ((dats m 0 c).arrAt 10 (cfg0 (F := Ideal)).N) (outK q k kl v o l dm pj) := fun r d => by
  refine (dats m 0 c).arrAt_forall_of_covers 10 (fun i a => a = ((outK q k kl v o l dm pj (i 0).val (i 1).val : ℝ) : EReal))
    (by decide +kernel) (fun t hf y => ?_) (ix2 r d)
  have y0 : (y 0).val < 4096 := (y 0).isLt
  have y1 : (y 1).val < 128 := (y 1).isLt
  have f0 : win0_10.index t 0 * 4096 + (y 0).val = (y 0).val := by
    rw [index_10]
    show (0) * 4096 + (y 0).val = _
    omega
  have f1 : win0_10.index t 1 * 128 + (y 1).val = 128 * (t.val / 4) + (y 1).val := by
    rw [index_10]
    show (t.val / 4) * 128 + (y 1).val = _
    omega
  have hl : t.val % 4 = 3 := (flush0_10 t).mp hf
  have hm := (acc_mat h t.val t.isLt).full.1.at y
  have g1 : (128 * (t.val / 4) + (y 1).val) / 128 = t.val / 4 := by omega
  have g2 : (128 * (t.val / 4) + (y 1).val) % 128 = (y 1).val := by omega
  blk_simp
  rw [after0_10]
  refine hm.trans ?_
  refine Eq.trans ?_ (congrArg₂ (fun x y : ℕ => ((outK q k kl v o l dm pj x y : ℝ) : EReal)) f0 f1).symm
  show _ = ((outK q k kl v o l dm pj _ (128 * (t.val / 4) + (y 1).val) : ℝ) : EReal)
  rw [outK, g1, g2]
  rw [hl]

theorem result11 (h : Reads m c q k kl v o l dm pj) :
    Mat (m := 4096) (n := 512) ((dats m 0 c).arrAt 11 (cfg0 (F := Ideal)).N) (outV q k kl v o l dm pj) := fun r d => by
  refine (dats m 0 c).arrAt_forall_of_covers 11 (fun i a => a = ((outV q k kl v o l dm pj (i 0).val (i 1).val : ℝ) : EReal))
    (by decide +kernel) (fun t hf y => ?_) (ix2 r d)
  have y0 : (y 0).val < 4096 := (y 0).isLt
  have y1 : (y 1).val < 128 := (y 1).isLt
  have f0 : win0_11.index t 0 * 4096 + (y 0).val = (y 0).val := by
    rw [index_11]
    show (0) * 4096 + (y 0).val = _
    omega
  have f1 : win0_11.index t 1 * 128 + (y 1).val = 128 * (t.val / 4) + (y 1).val := by
    rw [index_11]
    show (t.val / 4) * 128 + (y 1).val = _
    omega
  have hl : t.val % 4 = 3 := (flush0_11 t).mp hf
  have hm := (acc_mat h t.val t.isLt).full.2.at y
  have g1 : (128 * (t.val / 4) + (y 1).val) / 128 = t.val / 4 := by omega
  have g2 : (128 * (t.val / 4) + (y 1).val) % 128 = (y 1).val := by omega
  blk_simp
  rw [after0_11]
  refine hm.trans ?_
  refine Eq.trans ?_ (congrArg₂ (fun x y : ℕ => ((outV q k kl v o l dm pj x y : ℝ) : EReal)) f0 f1).symm
  show _ = ((outV q k kl v o l dm pj _ (128 * (t.val / 4) + (y 1).val) : ℝ) : EReal)
  rw [outV, g1, g2]
  rw [hl]

theorem result12 (h : Reads m c q k kl v o l dm pj) :
    Mat (m := 4096) (n := 512) ((dats m 0 c).arrAt 12 (cfg0 (F := Ideal)).N) (outG o dm pj) := fun r d => by
  refine (dats m 0 c).arrAt_forall_of_covers 12 (fun i a => a = ((outG o dm pj (i 0).val (i 1).val : ℝ) : EReal))
    (by decide +kernel) (fun t hf y => ?_) (ix2 r d)
  have y0 : (y 0).val < 1024 := (y 0).isLt
  have y1 : (y 1).val < 128 := (y 1).isLt
  have f0 : win0_12.index t 0 * 1024 + (y 0).val = 1024 * (t.val % 4) + (y 0).val := by
    rw [index_12]
    show (t.val % 4) * 1024 + (y 0).val = _
    omega
  have f1 : win0_12.index t 1 * 128 + (y 1).val = 128 * (t.val / 4) + (y 1).val := by
    rw [index_12]
    show (t.val / 4) * 128 + (y 1).val = _
    omega
  have hm := (outDfg_mat (iblk4_mat m c h.o t) (iblk6_mat m c h.dm t) (iblk7_mat m c h.pj t)).at y
  have g1 : (128 * (t.val / 4) + (y 1).val) / 128 = t.val / 4 := by omega
  have g2 : (128 * (t.val / 4) + (y 1).val) % 128 = (y 1).val := by omega
  blk_simp
  rw [after0_12]
  refine hm.trans ?_
  refine Eq.trans ?_ (congrArg₂ (fun x y : ℕ => ((outG o dm pj x y : ℝ) : EReal)) f0 f1).symm
  show _ = ((outG o dm pj _ (128 * (t.val / 4) + (y 1).val) : ℝ) : EReal)
  rw [outG, g1, g2]
  rfl

end Cert.Proof.KI7

end
-- ==== Proof.Fox.Soft.lean ====
/-
  The forget-gated attention and its gradients over the real numbers, head by head, as the reference computes them, and
  the greatest entry of a row some of whose entries are minus infinity.
-/
module

public import proofs.«01_k».proof.Proof.Ref.Real

@[expose] public section

noncomputable section

namespace Cert.Proof.RI7

open Idealize.ShloMosaic Idealize.ShloMosaic.TcCoe
open Finset
open Cert.Proof.KI (sg sum_coe)
open Cert.Proof.RI

theorem bits_bot : FloatOps.ofBits (F := Ideal) .f32 0xFF800000#32 = (⊥ : EReal) := by
  show Ideal.ofBits .f32 0xFF800000#32 = _
  simp [Ideal.ofBits, Ideal.ieee]
theorem quot_coe {a b : ℝ} (hb : b ≠ 0) :
    FloatOps.hostDivf (F := Ideal) (φ := .f32) ((a : ℝ) : EReal) ((b : ℝ) : EReal) = ((a * (1 / b) : ℝ) : EReal) := by
  show Ideal.div ((a : ℝ) : EReal) ((b : ℝ) : EReal) = _
  rw [Ideal.div_coe hb, ← EReal.coe_mul]
theorem exp_bot : FloatOps.hostUnary (F := Ideal) (φ := .f32) .exp (⊥ : EReal) = ((0 : ℝ) : EReal) := rfl
theorem bot_sub (a : ℝ) : FloatOps.subf (F := Ideal) (φ := .f32) (⊥ : EReal) ((a : ℝ) : EReal) = (⊥ : EReal) :=
  EReal.bot_sub _
theorem max_bot (a : EReal) : FloatOps.maximumf (F := Ideal) (φ := .f32) (⊥ : EReal) a = a := max_eq_right bot_le

/-- The greatest of a list is below infinity where all its entries are, and above every entry of the list. -/
theorem foldl_max {ι : Type} (f : ι → EReal) : ∀ (l : List ι) (v : EReal),
    (v ≠ ⊤ → (∀ n, f n ≠ ⊤) → l.foldl (fun r n => FloatOps.maximumf (F := Ideal) (φ := .f32) r (f n)) v ≠ ⊤)
    ∧ v ≤ l.foldl (fun r n => FloatOps.maximumf (F := Ideal) (φ := .f32) r (f n)) v
    ∧ ∀ n ∈ l, f n ≤ l.foldl (fun r n => FloatOps.maximumf (F := Ideal) (φ := .f32) r (f n)) v
  | [], v => ⟨fun h _ => h, le_rfl, fun n h => absurd h List.not_mem_nil⟩
  | a :: l, v => by
    obtain ⟨h1, h2, h3⟩ := foldl_max f l (max v (f a))
    refine ⟨fun hv hf => h1 ?_ hf, le_trans (le_max_left _ _) h2, fun n hn => ?_⟩
    · rcases max_choice v (f a) with e | e <;> rw [e]
      exacts [hv, hf a]
    · rcases List.mem_cons.mp hn with rfl | hn
      · exact le_trans (le_max_right _ _) h2
      · exact h3 n hn

/-- A row's greatest entry is real if no entry is infinity and one is real. -/
theorem reduce_max {s t u : Shape} {axes : List (Fin s.rank)} (x : s.Idx → EReal) (init : u.Idx → EReal)
    (h : s.ReducesTo axes t) (hu : 0 < u.numel) (hi : ∀ i, init i = ⊥) (hx : ∀ i, x i ≠ ⊤) (j : t.Idx) (w : s.Idx) (hw : h.drop w = j)
    (hb : x w ≠ ⊥) :
    Host.reduce (FloatOps.maximumf (F := Ideal) (φ := .f32)) x init h hu j ≠ ⊤
      ∧ Host.reduce (FloatOps.maximumf (F := Ideal) (φ := .f32)) x init h hu j ≠ ⊥ := by
  unfold Host.reduce
  obtain ⟨h1, _, h3⟩ := foldl_max (fun n => x (s.rowMajor.symm n))
    ((List.finRange s.numel).filter fun n => h.drop (s.rowMajor.symm n) = j) (init (Shape.Idx.first hu))
  refine ⟨h1 (by rw [hi]; exact bot_ne_top) fun n => hx _, fun e => hb ?_⟩
  have := h3 (s.rowMajor w) (by simp [hw])
  rw [Equiv.symm_apply_apply] at this
  exact le_bot_iff.mp (this.trans_eq e)

/-- An array's real matrix. -/
def mat {a b : ℕ} (x : Shape.Idx ⟨2, ![a, b]⟩ → EReal) (r c : ℕ) : ℝ :=
  if h : r < a ∧ c < b then (x (ix2 ⟨r, h.1⟩ ⟨c, h.2⟩)).toReal else 0

theorem two_mat {a b : ℕ} (x : Shape.Idx ⟨2, ![a, b]⟩ → EReal) (h : ∀ i, x i ≠ ⊤ ∧ x i ≠ ⊥) : Two (m := a) (n := b) x (mat x) := fun i => by
  have e : i = ix2 (i 0) (i 1) := eq_ix2 i
  rw [mat, dif_pos ⟨(i 0).isLt, (i 1).isLt⟩]
  conv_lhs => rw [e]
  exact (EReal.coe_toReal (h _).1 (h _).2).symm

/-! ### The forget-gated attention over the reals, by head -/

section Tables

variable (q k v c pj dm M : ℕ → ℕ → ℝ)

/-- The scores. -/
def xz (h t s : ℕ) : ℝ := (∑ e ∈ range 64, q t (64 * h + e) * k s (64 * h + e)) * 0.125 + (c t h - c s h)
/-- The exponentials of scores less the row's greatest, their row sums and the weights. -/
def xe (h t s : ℕ) : ℝ := if s ≤ t then Real.exp (xz q k c h t s - M h t) else 0
def xs (h t : ℕ) : ℝ := ∑ s ∈ range 4096, xe q k c M h t s
def xp (h t s : ℕ) : ℝ := xe q k c M h t s * (1 / xs q k c M h t)
/-- The output. -/
def xo (t j : ℕ) : ℝ := ∑ s ∈ range 4096, xp q k c M (j / 64) t s * v s (64 * (j / 64) + j % 64)
/-- The output's gradient, and the gate's. -/
def xdo (t j : ℕ) : ℝ := dm t j * (pj t (1536 + j) * sg (pj t (1536 + j)))
def xdg (t j : ℕ) : ℝ := xo q k v c M t j * dm t j * sg (pj t (1536 + j))
  + pj t (1536 + j) * (xo q k v c M t j * dm t j) * (sg (pj t (1536 + j)) * (1 - sg (pj t (1536 + j))))
/-- The weights' gradient, a row's total, and the scores' gradient. -/
def xb (h t s : ℕ) : ℝ := ∑ e ∈ range 64, xdo pj dm t (64 * h + e) * v s (64 * h + e)
def xt (h t : ℕ) : ℝ := ∑ s ∈ range 4096, xb v pj dm h t s * (1 * (1 / (xs q k c M h t * xs q k c M h t))) * xe q k c M h t s
def xd (h t s : ℕ) : ℝ := (xb v pj dm h t s * (1 / xs q k c M h t) + -xt q k v c pj dm M h t) * xe q k c M h t s
/-- The gradients of the values, the queries and the keys. -/
def xv (s j : ℕ) : ℝ := ∑ t ∈ range 4096, xdo pj dm t (64 * (j / 64) + j % 64) * xp q k c M (j / 64) t s
def xq (t j : ℕ) : ℝ := ∑ s ∈ range 4096, xd q k v c pj dm M (j / 64) t s * 0.125 * k s (64 * (j / 64) + j % 64)
def xk (s j : ℕ) : ℝ := ∑ t ∈ range 4096, xd q k v c pj dm M (j / 64) t s * 0.125 * q t (64 * (j / 64) + j % 64)

theorem xs_pos (h : ℕ) {t : ℕ} (ht : t < 4096) : 0 < xs q k c M h t := by
  refine Finset.sum_pos' (fun s _ => ?_) ⟨t, Finset.mem_range.mpr ht, ?_⟩
  · rw [xe]; split
    · exact (Real.exp_pos _).le
    · exact le_rfl
  · rw [xe, if_pos le_rfl]; exact Real.exp_pos _

/-- The scores' gradient is the weight times what the weight's gradient is over the row's mean. -/
theorem xd_eq (h : ℕ) {t : ℕ} (ht : t < 4096) (s : ℕ) :
    xd q k v c pj dm M h t s = xp q k c M h t s * (xb v pj dm h t s - ∑ r ∈ range 4096, xp q k c M h t r * xb v pj dm h t r) := by
  have hs := (xs_pos q k c M h ht).ne'
  have e : xt q k v c pj dm M h t = (∑ r ∈ range 4096, xp q k c M h t r * xb v pj dm h t r) * (1 / xs q k c M h t) := by
    rw [xt, Finset.sum_mul]
    refine Finset.sum_congr rfl fun r _ => ?_
    rw [xp]
    field_simp
  rw [xd, e, xp]
  ring

/-- A row's total of output times output gradient is its mean of the weights' gradient. -/
theorem xo_dot (h t : ℕ) :
    ∑ e ∈ range 64, xo q k v c M t (64 * h + e) * xdo pj dm t (64 * h + e) = ∑ r ∈ range 4096, xp q k c M h t r * xb v pj dm h t r := by
  have e0 : ∀ e ∈ range 64, xo q k v c M t (64 * h + e) * xdo pj dm t (64 * h + e)
      = ∑ r ∈ range 4096, xp q k c M h t r * (xdo pj dm t (64 * h + e) * v r (64 * h + e)) := fun e he => by
    have he := Finset.mem_range.mp he
    rw [xo, show (64 * h + e) / 64 = h by omega, show (64 * h + e) % 64 = e by omega, Finset.sum_mul]
    exact Finset.sum_congr rfl fun r _ => by ring
  rw [Finset.sum_congr rfl e0, Finset.sum_comm]
  exact Finset.sum_congr rfl fun r _ => by rw [xb, Finset.mul_sum]

end Tables

end Cert.Proof.RI7

end
-- ==== Proof.Fox.Agree.lean ====
/-
  Over the real numbers the kernel's four results are the reference's four gradients: a pair of heads takes 128 lanes,
  64 each, the other head's lanes hold the bias, and the log-sum makes the exponential the weight.
-/
module

public import proofs.«01_k».proof.Proof.Fox.Grid
public import proofs.«01_k».proof.Proof.Fox.Soft

@[expose] public section

noncomputable section

namespace Cert.Proof.KI7

open Cert.Proof.RI7
open Finset

theorem sum_128 (f : ℕ → ℝ) : ∑ d ∈ range 128, f d = ∑ d ∈ range 64, f d + ∑ d ∈ range 64, f (64 + d) :=
  Finset.sum_range_add f 64 64

theorem sum_low (f g : ℕ → ℝ) (hf : ∀ d, d < 64 → f d = g d) (h0 : ∀ d, 64 ≤ d → f d = 0) : ∑ d ∈ range 128, f d = ∑ d ∈ range 64, g d := by
  rw [sum_128, Finset.sum_congr rfl (fun d hd => hf d (Finset.mem_range.mp hd)),
    Finset.sum_congr rfl (fun d _ => h0 (64 + d) (Nat.le_add_right _ _)), Finset.sum_const_zero, add_zero]

theorem sum_high (f g : ℕ → ℝ) (hf : ∀ d, d < 64 → f (64 + d) = g d) (h0 : ∀ d, d < 64 → f d = 0) : ∑ d ∈ range 128, f d = ∑ d ∈ range 64, g d := by
  rw [sum_128, Finset.sum_congr rfl (fun d hd => h0 d (Finset.mem_range.mp hd)),
    Finset.sum_congr rfl (fun d hd => hf d (Finset.mem_range.mp hd)), Finset.sum_const_zero, zero_add]

/-- A sum of which only the first term is there. -/
theorem sum_first (f : ℕ → ℝ) (h0 : ∀ d, d ≠ 0 → f d = 0) : ∑ d ∈ range 64, f d = f 0 :=
  Finset.sum_eq_single_of_mem 0 (Finset.mem_range.mpr (by norm_num)) (fun d _ h => h0 d h)

section Tables

variable (q k v c pj dm M : ℕ → ℕ → ℝ)

/-- The keys with the bias lane of the even heads, and with that of the odd ones. -/
def ka (t j : ℕ) : ℝ := if j % 128 < 64 then k t j else if j % 128 = 64 then -c t (2 * (j / 128)) else 0
def kb (t j : ℕ) : ℝ := if j % 128 < 64 then (if j % 128 = 0 then -c t (2 * (j / 128) + 1) else 0) else k t j
/-- The log-sums on the lanes of their head. -/
def ll (t j : ℕ) : ℝ := M (j / 64) t + Real.log (xs q k c M (j / 64) t) - c t (j / 64)

/-- The tables of head pair `p`. -/
def TT (p : ℕ) : Tab := T8 (fun t j => q t j * 0.125) (ka k c) (kb k c) v (xo q k v c M) (ll q k c M) dm pj p

variable (p : ℕ)

theorem do_eq (t d : ℕ) : rDo (col (128 * p) dm) (col (1536 + 128 * p) pj) t d = xdo pj dm t (128 * p + d) := by
  show dm t (128 * p + d) * (pj t (1536 + 128 * p + d) * sg (pj t (1536 + 128 * p + d))) = _
  rw [Nat.add_assoc 1536]; rfl

theorem oA_eq (t d : ℕ) : (TT q k v c pj dm M p).P.oA t d = if d < 64 then xdo pj dm t (128 * p + d) else 0 := by
  show lo (rDo (col (128 * p) dm) (col (1536 + 128 * p) pj)) t d = _
  rw [lo, do_eq]
theorem oB_eq (t d : ℕ) : (TT q k v c pj dm M p).P.oB t d = if d < 64 then 0 else xdo pj dm t (128 * p + d) := by
  show hi (rDo (col (128 * p) dm) (col (1536 + 128 * p) pj)) t d = _
  rw [hi, do_eq]
theorem gA_eq (t d : ℕ) : (TT q k v c pj dm M p).P.gA t d = if d < 64 then q t (128 * p + d) * 0.125 else if d < 67 then 1 else 0 := rfl
theorem gB_eq (t d : ℕ) : (TT q k v c pj dm M p).P.gB t d = if 64 ≤ d then q t (128 * p + d) * 0.125 else if d < 3 then 1 else 0 := rfl
theorem qA_eq (t d : ℕ) : (TT q k v c pj dm M p).P.qA t d = if d < 64 then q t (128 * p + d) * 0.125 else 0 := rfl
theorem qB_eq (t d : ℕ) : (TT q k v c pj dm M p).P.qB t d = if d < 64 then 0 else q t (128 * p + d) * 0.125 := rfl
theorem K_eq (t d : ℕ) : (TT q k v c pj dm M p).K t d = ka k c t (128 * p + d) := rfl
theorem KL_eq (t d : ℕ) : (TT q k v c pj dm M p).KL t d = kb k c t (128 * p + d) := rfl
theorem V_eq' (t d : ℕ) : (TT q k v c pj dm M p).V t d = v t (128 * p + d) := rfl
theorem lA_eq (t : ℕ) : (TT q k v c pj dm M p).P.lA t = M (2 * p) t + Real.log (xs q k c M (2 * p) t) - c t (2 * p) := by
  show ll q k c M t (128 * p + 0) = _
  rw [ll, show (128 * p + 0) / 64 = 2 * p by omega]
theorem lB_eq (t : ℕ) : (TT q k v c pj dm M p).P.lB t = M (2 * p + 1) t + Real.log (xs q k c M (2 * p + 1) t) - c t (2 * p + 1) := by
  show ll q k c M t (128 * p + 64) = _
  rw [ll, show (128 * p + 64) / 64 = 2 * p + 1 by omega]

theorem ka_low (t d : ℕ) (h : d < 64) : ka k c t (128 * p + d) = k t (128 * p + d) := by
  rw [ka, if_pos (by omega)]
theorem ka_bias (t : ℕ) : ka k c t (128 * p + 64) = -c t (2 * p) := by
  rw [ka, if_neg (by omega), if_pos (by omega), show (128 * p + 64) / 128 = p by omega]
theorem ka_rest (t d : ℕ) (h : 64 < d) (h' : d < 128) : ka k c t (128 * p + d) = 0 := by
  rw [ka, if_neg (by omega), if_neg (by omega)]
theorem kb_high (t d : ℕ) (h : 64 ≤ d) (h' : d < 128) : kb k c t (128 * p + d) = k t (128 * p + d) := by
  rw [kb, if_neg (by omega)]
theorem kb_bias (t : ℕ) : kb k c t (128 * p + 0) = -c t (2 * p + 1) := by
  rw [kb, if_pos (by omega), if_pos (by omega), show (128 * p + 0) / 128 = p by omega]
theorem kb_rest (t d : ℕ) (h : d ≠ 0) (h' : d < 64) : kb k c t (128 * p + d) = 0 := by
  rw [kb, if_pos (by omega), if_neg (by omega)]

theorem dotA (t s : ℕ) : dotp (TT q k v c pj dm M p).P.gA (TT q k v c pj dm M p).K t s = xz q k c (2 * p) t s - c t (2 * p) := by
  have e1 : ∀ d ∈ range 64, (TT q k v c pj dm M p).P.gA t d * (TT q k v c pj dm M p).K s d
      = q t (64 * (2 * p) + d) * k s (64 * (2 * p) + d) * 0.125 := fun d hd => by
    have hd := Finset.mem_range.mp hd
    rw [gA_eq, K_eq, if_pos hd, ka_low k c p s d hd, show 64 * (2 * p) + d = 128 * p + d by omega]
    ring
  have e2 : ∑ d ∈ range 64, (TT q k v c pj dm M p).P.gA t (64 + d) * (TT q k v c pj dm M p).K s (64 + d) = -c s (2 * p) := by
    refine (Finset.sum_eq_single_of_mem 0 (Finset.mem_range.mpr (by norm_num)) fun d hd h => ?_).trans ?_
    · have hd := Finset.mem_range.mp hd
      rw [K_eq, ka_rest k c p s (64 + d) (by omega) (by omega), mul_zero]
    · rw [gA_eq, K_eq, if_neg (by omega), if_pos (by omega), one_mul]
      exact ka_bias k c p s
  rw [dotp, sum_128, e2, Finset.sum_congr rfl e1, ← Finset.sum_mul, xz]
  ring

theorem dotB (t s : ℕ) : dotp (TT q k v c pj dm M p).P.gB (TT q k v c pj dm M p).KL t s = xz q k c (2 * p + 1) t s - c t (2 * p + 1) := by
  have e1 : ∀ d ∈ range 64, (TT q k v c pj dm M p).P.gB t (64 + d) * (TT q k v c pj dm M p).KL s (64 + d)
      = q t (64 * (2 * p + 1) + d) * k s (64 * (2 * p + 1) + d) * 0.125 := fun d hd => by
    have hd := Finset.mem_range.mp hd
    rw [gB_eq, KL_eq, if_pos (by omega), kb_high k c p s (64 + d) (by omega) (by omega),
      show 64 * (2 * p + 1) + d = 128 * p + (64 + d) by omega]
    ring
  have e2 : ∑ d ∈ range 64, (TT q k v c pj dm M p).P.gB t d * (TT q k v c pj dm M p).KL s d = -c s (2 * p + 1) := by
    refine (Finset.sum_eq_single_of_mem 0 (Finset.mem_range.mpr (by norm_num)) fun d hd h => ?_).trans ?_
    · have hd := Finset.mem_range.mp hd
      rw [KL_eq, kb_rest k c p s d h hd, mul_zero]
    · rw [gB_eq, KL_eq, if_neg (by omega), if_pos (by omega), one_mul]
      exact kb_bias k c p s
  rw [dotp, sum_128, e2, Finset.sum_congr rfl e1, ← Finset.sum_mul, xz]
  ring

/-- An exponential less the log-sum is the weight. -/
theorem weight (h s : ℕ) {t : ℕ} (ht : t < 4096) :
    Real.exp (xz q k c h t s - c t h - (M h t + Real.log (xs q k c M h t) - c t h))
      = Real.exp (xz q k c h t s - M h t) * (1 / xs q k c M h t) := by
  have hs := xs_pos q k c M h ht
  rw [show xz q k c h t s - c t h - (M h t + Real.log (xs q k c M h t) - c t h) = (xz q k c h t s - M h t) - Real.log (xs q k c M h t) by ring,
    Real.exp_sub, Real.exp_log hs]
  ring

theorem wA_eq {t : ℕ} (ht : t < 4096) (s : ℕ) : (TT q k v c pj dm M p).wA t s = xp q k c M (2 * p) t s := by
  rw [Tab.wA, wP, xp, xe]
  by_cases h : s ≤ t
  · rw [if_pos (show le' t s from h), if_pos h, dotA, lA_eq, weight q k c M _ _ ht]
  · rw [if_neg (show ¬ le' t s from h), if_neg h, zero_mul]

theorem wB_eq {t : ℕ} (ht : t < 4096) (s : ℕ) : (TT q k v c pj dm M p).wB t s = xp q k c M (2 * p + 1) t s := by
  rw [Tab.wB, wP, xp, xe]
  by_cases h : s ≤ t
  · rw [if_pos (show le' t s from h), if_pos h, dotB, lB_eq, weight q k c M _ _ ht]
  · rw [if_neg (show ¬ le' t s from h), if_neg h, zero_mul]

theorem bA_eq (t s : ℕ) : dotp (TT q k v c pj dm M p).P.oA (TT q k v c pj dm M p).V t s = xb v pj dm (2 * p) t s := by
  rw [dotp, xb]
  refine sum_low _ _ (fun d hd => ?_) (fun d hd => ?_)
  · rw [oA_eq, V_eq', if_pos hd, show 64 * (2 * p) + d = 128 * p + d by omega]
  · rw [oA_eq, if_neg (by omega), zero_mul]
theorem bB_eq (t s : ℕ) : dotp (TT q k v c pj dm M p).P.oB (TT q k v c pj dm M p).V t s = xb v pj dm (2 * p + 1) t s := by
  rw [dotp, xb]
  refine sum_high _ _ (fun d hd => ?_) (fun d hd => ?_)
  · rw [oB_eq, V_eq', if_neg (by omega), show 64 * (2 * p + 1) + d = 128 * p + (64 + d) by omega]
  · rw [oB_eq, if_pos hd, zero_mul]

theorem sA_eq (t : ℕ) : (TT q k v c pj dm M p).P.sA t = ∑ r ∈ range 4096, xp q k c M (2 * p) t r * xb v pj dm (2 * p) t r := by
  rw [← xo_dot]
  show ∑ d ∈ range 128, lo (fun r d => col (128 * p) (xo q k v c M) r d * rDo (col (128 * p) dm) (col (1536 + 128 * p) pj) r d) t d = _
  refine sum_low _ _ (fun d hd => ?_) (fun d hd => ?_)
  · rw [lo, if_pos hd, do_eq, show 64 * (2 * p) + d = 128 * p + d by omega]; rfl
  · rw [lo, if_neg (by omega)]
theorem sB_eq (t : ℕ) : (TT q k v c pj dm M p).P.sB t = ∑ r ∈ range 4096, xp q k c M (2 * p + 1) t r * xb v pj dm (2 * p + 1) t r := by
  rw [← xo_dot]
  show ∑ d ∈ range 128, hi (fun r d => col (128 * p) (xo q k v c M) r d * rDo (col (128 * p) dm) (col (1536 + 128 * p) pj) r d) t d = _
  refine sum_high _ _ (fun d hd => ?_) (fun d hd => ?_)
  · rw [hi, if_neg (by omega), do_eq, show 64 * (2 * p + 1) + d = 128 * p + (64 + d) by omega]; rfl
  · rw [hi, if_pos hd]

theorem dA_eq {t : ℕ} (ht : t < 4096) (s : ℕ) : (TT q k v c pj dm M p).dA t s = xd q k v c pj dm M (2 * p) t s := by
  rw [xd_eq q k v c pj dm M _ ht, ← wA_eq q k v c pj dm M p ht, ← sA_eq, ← bA_eq q k v c pj dm M p]; rfl
theorem dB_eq {t : ℕ} (ht : t < 4096) (s : ℕ) : (TT q k v c pj dm M p).dB t s = xd q k v c pj dm M (2 * p + 1) t s := by
  rw [xd_eq q k v c pj dm M _ ht, ← wB_eq q k v c pj dm M p ht, ← sB_eq, ← bB_eq q k v c pj dm M p]; rfl

/-! ### The results -/

/-- A column's head and pair. -/
theorem even_lane {j : ℕ} (h : j % 128 < 64) : j / 64 = 2 * (j / 128) ∧ 64 * (2 * (j / 128)) + j % 64 = 128 * (j / 128) + j % 128 := by omega
theorem odd_lane {j : ℕ} (h : ¬ j % 128 < 64) :
    j / 64 = 2 * (j / 128) + 1 ∧ 64 * (2 * (j / 128) + 1) + j % 64 = 128 * (j / 128) + j % 128 := by omega

theorem outV_eq (s j : ℕ) : outV (fun t j => q t j * 0.125) (ka k c) (kb k c) v (xo q k v c M) (ll q k c M) dm pj s j = xv q k c pj dm M s j := by
  show addK 4096 (TT q k v c pj dm M (j / 128)).wA (TT q k v c pj dm M (j / 128)).wB (TT q k v c pj dm M (j / 128)).P.oA
    (TT q k v c pj dm M (j / 128)).P.oB s (j % 128) = _
  rw [addK, xv]
  by_cases hd : j % 128 < 64
  · rw [(even_lane hd).1, (even_lane hd).2, Finset.sum_eq_zero (s := range 4096) (f := fun r => (TT q k v c pj dm M (j / 128)).wB r s
        * (TT q k v c pj dm M (j / 128)).P.oB r (j % 128)) (fun r _ => by rw [oB_eq, if_pos hd, mul_zero]), add_zero]
    refine Finset.sum_congr rfl fun r hr => ?_
    rw [wA_eq q k v c pj dm M _ (Finset.mem_range.mp hr), oA_eq, if_pos hd]
    ring
  · rw [(odd_lane hd).1, (odd_lane hd).2, Finset.sum_eq_zero (s := range 4096) (f := fun r => (TT q k v c pj dm M (j / 128)).wA r s
        * (TT q k v c pj dm M (j / 128)).P.oA r (j % 128)) (fun r _ => by rw [oA_eq, if_neg hd, mul_zero]), zero_add]
    refine Finset.sum_congr rfl fun r hr => ?_
    rw [wB_eq q k v c pj dm M _ (Finset.mem_range.mp hr), oB_eq, if_neg hd]
    ring

theorem outK_eq (s j : ℕ) : outK (fun t j => q t j * 0.125) (ka k c) (kb k c) v (xo q k v c M) (ll q k c M) dm pj s j = xk q k v c pj dm M s j := by
  show addK 4096 (TT q k v c pj dm M (j / 128)).dA (TT q k v c pj dm M (j / 128)).dB (TT q k v c pj dm M (j / 128)).P.qA
    (TT q k v c pj dm M (j / 128)).P.qB s (j % 128) = _
  rw [addK, xk]
  by_cases hd : j % 128 < 64
  · rw [(even_lane hd).1, (even_lane hd).2, Finset.sum_eq_zero (s := range 4096) (f := fun r => (TT q k v c pj dm M (j / 128)).dB r s
        * (TT q k v c pj dm M (j / 128)).P.qB r (j % 128)) (fun r _ => by rw [qB_eq, if_pos hd, mul_zero]), add_zero]
    refine Finset.sum_congr rfl fun r hr => ?_
    rw [dA_eq q k v c pj dm M _ (Finset.mem_range.mp hr), qA_eq, if_pos hd]
    ring
  · rw [(odd_lane hd).1, (odd_lane hd).2, Finset.sum_eq_zero (s := range 4096) (f := fun r => (TT q k v c pj dm M (j / 128)).dA r s
        * (TT q k v c pj dm M (j / 128)).P.qA r (j % 128)) (fun r _ => by rw [qA_eq, if_neg hd, mul_zero]), zero_add]
    refine Finset.sum_congr rfl fun r hr => ?_
    rw [dB_eq q k v c pj dm M _ (Finset.mem_range.mp hr), qB_eq, if_neg hd]
    ring

theorem outQ_eq {t : ℕ} (ht : t < 4096) (j : ℕ) :
    outQ (fun t j => q t j * 0.125) (ka k c) (kb k c) v (xo q k v c M) (ll q k c M) dm pj t j = xq q k v c pj dm M t j := by
  show (∑ s ∈ range 4096, ((TT q k v c pj dm M (j / 128)).dA t s * lo (TT q k v c pj dm M (j / 128)).K s (j % 128)
    + (TT q k v c pj dm M (j / 128)).dB t s * hi (TT q k v c pj dm M (j / 128)).KL s (j % 128))) * 0.125 = _
  rw [xq, Finset.sum_mul]
  refine Finset.sum_congr rfl fun s _ => ?_
  rw [dA_eq q k v c pj dm M _ ht, dB_eq q k v c pj dm M _ ht, lo, hi, K_eq, KL_eq]
  by_cases hd : j % 128 < 64
  · rw [(even_lane hd).1, (even_lane hd).2, if_pos hd, if_pos hd, ka_low k c _ s _ hd]
    ring
  · rw [(odd_lane hd).1, (odd_lane hd).2, if_neg hd, if_neg hd, kb_high k c _ s _ (by omega) (Nat.mod_lt _ (by norm_num))]
    ring

theorem outG_eq (t j : ℕ) : outG (xo q k v c M) dm pj t j = xdg q k v c pj dm M t j := by
  have e : 128 * (j / 128) + j % 128 = j := Nat.div_add_mod j 128
  show dm t (128 * (j / 128) + j % 128) * xo q k v c M t (128 * (j / 128) + j % 128) * (sg (pj t (1536 + 128 * (j / 128) + j % 128))
    * (1 + pj t (1536 + 128 * (j / 128) + j % 128) * (1 - sg (pj t (1536 + 128 * (j / 128) + j % 128))))) = _
  rw [Nat.add_assoc 1536, e, xdg]
  show dm t j * xo q k v c M t j * (sg (pj t (1536 + j)) * (1 + pj t (1536 + j) * (1 - sg (pj t (1536 + j)))))
    = xo q k v c M t j * dm t j * sg (pj t (1536 + j)) + pj t (1536 + j) * (xo q k v c M t j * dm t j) * (sg (pj t (1536 + j)) * (1 - sg (pj t (1536 + j))))
  ring

end Tables

end Cert.Proof.KI7
-- ==== Proof.Fox.Lines.lean ====
/-
  What the host's lines leave in the arrays the launch is given, as terms over the arguments: the forward scores and
  output as the reference computes them, the bias lanes cut and padded, and the queries, keys and values.
-/
module

public import proofs.«01_k».proof.Proof.Gen.Kernel7Ideal.Launch
public import proofs.«01_k».proof.Proof.Gen.Reference7Ideal.Read
public import proofs.«01_k».proof.Proof.Fox.Soft

@[expose] public section

set_option maxRecDepth 8192

noncomputable section

namespace Cert.Proof.KI7

open Cert.Kernel7Ideal Cert.Kernel7Ideal.Gen
open Idealize.ShloMosaic Idealize.ShloMosaic.TcCoe Idealize.SL.Sem
open Cert.Reference7Ideal.Read Cert.Proof.RI7

abbrev A8 := (⟨S4096x8, .f32⟩ : BufTy).Contents (Elt Ideal)
abbrev A512 := (⟨S4096x512, .f32⟩ : BufTy).Contents (Elt Ideal)
abbrev HV := Valuation τ sig (Elt Ideal)

/-! ### The terms -/

/-- The negated gate sums in three pieces of fewer digits: over the reals the later two are nought. -/
def neg1 (x3 : A8) : (⟨S4096x8, .bf16⟩ : BufTy).Contents (Elt Ideal) := truncf (F := Ideal) (s := S4096x8) (φ := .f32) .bf16 (Host.negf (F := Ideal) (φ := .f32) x3) bitsLt_bf16_f32
def rest1 (x3 : A8) : A8 := subf (F := Ideal) (φ := .f32) (Host.negf (F := Ideal) (φ := .f32) x3) (extf (F := Ideal) (s := S4096x8) (φ := .bf16) .f32 (neg1 x3) bitsLt_bf16_f32)
def neg2 (x3 : A8) : (⟨S4096x8, .bf16⟩ : BufTy).Contents (Elt Ideal) := truncf (F := Ideal) (s := S4096x8) (φ := .f32) .bf16 (rest1 x3) bitsLt_bf16_f32
def rest2 (x3 : A8) : A8 := subf (F := Ideal) (φ := .f32) (rest1 x3) (extf (F := Ideal) (s := S4096x8) (φ := .bf16) .f32 (neg2 x3) bitsLt_bf16_f32)
def neg3 (x3 : A8) : (⟨S4096x8, .bf16⟩ : BufTy).Contents (Elt Ideal) := truncf (F := Ideal) (s := S4096x8) (φ := .f32) .bf16 (rest2 x3) bitsLt_bf16_f32
def unit3 (x : (⟨S4096x8, .bf16⟩ : BufTy).Contents (Elt Ideal)) : (⟨S4096x8x1, .bf16⟩ : BufTy).Contents (Elt Ideal) :=
  broadcastInDim S4096x8x1 ![0, 1] bcast_S4096x8_S4096x8x1_0_1 x
def three (x3 : A8) : (⟨S4096x8x3, .bf16⟩ : BufTy).Contents (Elt Ideal) :=
  concatenate S4096x8x3 2 [⟨S4096x8x1, unit3 (neg1 x3)⟩, ⟨S4096x8x1, unit3 (neg2 x3)⟩, ⟨S4096x8x1, unit3 (neg3 x3)⟩]
    concatenates_S4096x8x1_S4096x8x1_S4096x8x1_S4096x8x3_d2
def biasLanes (x3 : A8) : (⟨S4096x8x64, .bf16⟩ : BufTy).Contents (Elt Ideal) :=
  pad S4096x8x64 ![0, 0, 0] ![0, 0, 61] ![0, 0, 0] (three x3) (sitofp (F := Ideal) .bf16 (constantI S_ 32 0#32))
    pads_S4096x8x3_S4096x8x64_000_000_0610 h_S_

/-- One head of each pair, of the keys and of the bias lanes. -/
def kEven (y : (⟨S4096x4x2x64, .f32⟩ : BufTy).Contents (Elt Ideal)) : (⟨S4096x4x64, .f32⟩ : BufTy).Contents (Elt Ideal) :=
  shapeCast S4096x4x64 (extractStridedSlice S4096x4x1x64 ![0, 0, 0, 0] y
    slices_S4096x4x2x64_S4096x4x1x64_0_0_0_0) shapeCasts_S4096x4x1x64_S4096x4x64
def kOdd (y : (⟨S4096x4x2x64, .f32⟩ : BufTy).Contents (Elt Ideal)) : (⟨S4096x4x64, .f32⟩ : BufTy).Contents (Elt Ideal) :=
  shapeCast S4096x4x64 (extractStridedSlice S4096x4x1x64 ![0, 0, 1, 0] y
    slices_S4096x4x2x64_S4096x4x1x64_0_0_1_0) shapeCasts_S4096x4x1x64_S4096x4x64
def bEven (b : (⟨S4096x8x64, .bf16⟩ : BufTy).Contents (Elt Ideal)) : (⟨S4096x4x64, .bf16⟩ : BufTy).Contents (Elt Ideal) :=
  shapeCast S4096x4x64 (extractStridedSlice S4096x4x1x64 ![0, 0, 0, 0] (shapeCast S4096x4x2x64 b shapeCasts_S4096x8x64_S4096x4x2x64)
    slices_S4096x4x2x64_S4096x4x1x64_0_0_0_0) shapeCasts_S4096x4x1x64_S4096x4x64
def bOdd (b : (⟨S4096x8x64, .bf16⟩ : BufTy).Contents (Elt Ideal)) : (⟨S4096x4x64, .bf16⟩ : BufTy).Contents (Elt Ideal) :=
  shapeCast S4096x4x64 (extractStridedSlice S4096x4x1x64 ![0, 0, 1, 0] (shapeCast S4096x4x2x64 b shapeCasts_S4096x8x64_S4096x4x2x64)
    slices_S4096x4x2x64_S4096x4x1x64_0_0_1_0) shapeCasts_S4096x4x1x64_S4096x4x64
def halves (a b : (⟨S4096x4x64, .f32⟩ : BufTy).Contents (Elt Ideal)) : (⟨S4096x512, .bf16⟩ : BufTy).Contents (Elt Ideal) :=
  truncf (F := Ideal) (s := S4096x512) (φ := .f32) .bf16 (shapeCast S4096x512 (concatenate S4096x4x128 2 [⟨S4096x4x64, a⟩, ⟨S4096x4x64, b⟩] concatenates_S4096x4x64_S4096x4x64_S4096x4x128_d2 :
    (⟨S4096x4x128, .f32⟩ : BufTy).Contents (Elt Ideal)) shapeCasts_S4096x4x128_S4096x512) bitsLt_bf16_f32
def keysA (y : (⟨S4096x4x2x64, .f32⟩ : BufTy).Contents (Elt Ideal)) (b : (⟨S4096x8x64, .bf16⟩ : BufTy).Contents (Elt Ideal)) :=
  halves (kEven y) (extf (F := Ideal) (s := S4096x4x64) (φ := .bf16) .f32 (bEven b) bitsLt_bf16_f32)
def keysB (y : (⟨S4096x4x2x64, .f32⟩ : BufTy).Contents (Elt Ideal)) (b : (⟨S4096x8x64, .bf16⟩ : BufTy).Contents (Elt Ideal)) :=
  halves (extf (F := Ideal) (s := S4096x4x64) (φ := .bf16) .f32 (bOdd b) bitsLt_bf16_f32) (kOdd y)
def scaled (x0 : A512) : (⟨S4096x512, .bf16⟩ : BufTy).Contents (Elt Ideal) :=
  truncf (F := Ideal) (s := S4096x512) (φ := .f32) .bf16 (mulf (F := Ideal) (φ := .f32) x0 (broadcastInDim S4096x512 ![] bcast_S_S4096x512 (constant (F := Ideal) S_ .f32 0x3E000000#32))) bitsLt_bf16_f32

/-- A row's logarithm of its sum of exponentials, less its gate sum; and the same on all the lanes of a head. -/
def logs (x0 x1 : A512) (x3 : A8) : A8 :=
  subf (F := Ideal) (φ := .f32) (transpose S4096x8 [1, 0] (addf (F := Ideal) (φ := .f32) (val_main_v23 (F := Ideal) x0 x1 x3) (Host.log (F := Ideal) (φ := .f32) (val_main_v44 (F := Ideal) x0 x1 x3)))
    transposes_S8x4096_S4096x8_1_0) x3
def logLanes (l : A8) : A512 :=
  shapeCast S4096x512 (broadcastInDim S4096x8x64 ![0, 1, 2] bcast_S4096x8x1_S4096x8x64_0_1_2
    (broadcastInDim S4096x8x1 ![0, 1] bcast_S4096x8_S4096x8x1_0_1 l : (⟨S4096x8x1, .f32⟩ : BufTy).Contents (Elt Ideal)) :
    (⟨S4096x8x64, .f32⟩ : BufTy).Contents (Elt Ideal)) shapeCasts_S4096x8x64_S4096x512

theorem top_eq (x0 x1 : A512) (x3 : A8) : val_main_v30 (F := Ideal) x0 x1 x3 = val_main_v23 x0 x1 x3 := by
  funext i
  rw [val_main_v30_apply, val_main_v29_apply, val_main_cst_3_apply, bits_bot, max_bot]

/-! ### The lines, a few at a time -/

abbrev linesA : List (HloOp τ sig (Elt Ideal)) := hostOps0
abbrev linesB : List (HloOp τ sig (Elt Ideal)) := hostOps0_1
abbrev linesC : List (HloOp τ sig (Elt Ideal)) := hostOps0_2
abbrev linesD : List (HloOp τ sig (Elt Ideal)) := hostOps0_3
abbrev linesE : List (HloOp τ sig (Elt Ideal)) := hostOps0_4
abbrev linesF : List (HloOp τ sig (Elt Ideal)) := hostOps0_5
abbrev linesG : List (HloOp τ sig (Elt Ideal)) := hostOps0_6

variable (W : HV)

set_option maxHeartbeats 2000000 in
theorem A_v14 (x0 x1 : A512) (x3 : A8) (h0 : W (Proc.devRef .tc main_arg0) = x0) (h1 : W (Proc.devRef .tc main_arg1) = x1) (h3 : W (Proc.devRef .tc main_arg3) = x3) :
    StableHlo.after linesA W (Proc.devRef .tc main_v14) = val_main_v15 (F := Ideal) x0 x1 x3 := by
  simp only [linesA, List.cons_append, List.nil_append, StableHlo.TRef.binary, StableHlo.TRef.nullary, StableHlo.TRef.ternary,
    StableHlo.TRef.unary, StableHlo.TRef.toBuf, StableHlo.TRef.ofBuf, cast_eq]
  after_results_simp
  simp only [h0, h1, h3]
  rfl

set_option maxHeartbeats 2000000 in
theorem A_v20   :
    StableHlo.after linesA W (Proc.devRef .tc main_v20) = val_main_v21 (F := Ideal) := by
  simp only [linesA, List.cons_append, List.nil_append, StableHlo.TRef.binary, StableHlo.TRef.nullary, StableHlo.TRef.ternary,
    StableHlo.TRef.unary, StableHlo.TRef.toBuf, StableHlo.TRef.ofBuf, cast_eq]
  after_results_simp
  rfl

set_option maxHeartbeats 2000000 in
theorem A_cst_0   :
    StableHlo.after linesA W (Proc.devRef .tc main_cst_0) = val_main_cst_0 (F := Ideal) := by
  simp only [linesA, List.cons_append, List.nil_append, StableHlo.TRef.binary, StableHlo.TRef.nullary, StableHlo.TRef.ternary,
    StableHlo.TRef.unary, StableHlo.TRef.toBuf, StableHlo.TRef.ofBuf, cast_eq]
  after_results_simp
  rfl

set_option maxHeartbeats 2000000 in
theorem B_v21 (x0 x1 : A512) (x3 : A8) (ha : W (Proc.devRef .tc main_v14) = val_main_v15 (F := Ideal) x0 x1 x3) (hb : W (Proc.devRef .tc main_v20) = val_main_v21 (F := Ideal)) (hc : W (Proc.devRef .tc main_cst_0) = val_main_cst_0 (F := Ideal)) :
    StableHlo.after linesB W (Proc.devRef .tc main_v21) = val_main_v22_0 (F := Ideal) x0 x1 x3 := by
  simp only [linesB, List.cons_append, List.nil_append, StableHlo.TRef.binary, StableHlo.TRef.nullary, StableHlo.TRef.ternary,
    StableHlo.TRef.unary, StableHlo.TRef.toBuf, StableHlo.TRef.ofBuf, cast_eq]
  after_results_simp
  simp only [ha, hb, hc]
  rfl

set_option maxHeartbeats 2000000 in
theorem C_v31 (x0 x1 : A512) (x3 : A8) (h3 : W (Proc.devRef .tc main_arg3) = x3) (ha : W (Proc.devRef .tc main_v21) = val_main_v22_0 (F := Ideal) x0 x1 x3) :
    StableHlo.after linesC W (Proc.devRef .tc main_v31) = logs x0 x1 x3 := by
  simp only [linesC, List.cons_append, List.nil_append, StableHlo.TRef.binary, StableHlo.TRef.nullary, StableHlo.TRef.ternary,
    StableHlo.TRef.unary, StableHlo.TRef.toBuf, StableHlo.TRef.ofBuf, cast_eq]
  after_results_simp
  simp only [h3, ha]
  unfold logs val_main_v44 val_main_v43 val_main_v42 val_main_v41 val_main_v40
  rw [top_eq]
  rfl

set_option maxHeartbeats 2000000 in
theorem C_v32 (x1 : A512) (h1 : W (Proc.devRef .tc main_arg1) = x1) :
    StableHlo.after linesC W (Proc.devRef .tc main_v32) = shapeCast S4096x4x2x64 x1 shapeCasts_S4096x512_S4096x4x2x64 := by
  simp only [linesC, List.cons_append, List.nil_append, StableHlo.TRef.binary, StableHlo.TRef.nullary, StableHlo.TRef.ternary,
    StableHlo.TRef.unary, StableHlo.TRef.toBuf, StableHlo.TRef.ofBuf, cast_eq]
  after_results_simp
  simp only [h1]
  rfl

set_option maxHeartbeats 2000000 in
theorem C_v44 (x3 : A8) (h3 : W (Proc.devRef .tc main_arg3) = x3) :
    StableHlo.after linesC W (Proc.devRef .tc main_v44) = three x3 := by
  simp only [linesC, List.cons_append, List.nil_append, StableHlo.TRef.binary, StableHlo.TRef.nullary, StableHlo.TRef.ternary,
    StableHlo.TRef.unary, StableHlo.TRef.toBuf, StableHlo.TRef.ofBuf, cast_eq]
  after_results_simp
  refine Eq.trans (b := three (W (Proc.devRef .tc main_arg3))) rfl ?_
  rw [h3]

set_option maxHeartbeats 2000000 in
theorem C_c   :
    StableHlo.after linesC W (Proc.devRef .tc main_c) = constantI S_ 32 0#32 := by
  simp only [linesC, List.cons_append, List.nil_append, StableHlo.TRef.binary, StableHlo.TRef.nullary, StableHlo.TRef.ternary,
    StableHlo.TRef.unary, StableHlo.TRef.toBuf, StableHlo.TRef.ofBuf, cast_eq]
  after_results_simp

set_option maxHeartbeats 2000000 in
theorem D_v45 (x3 : A8) (ha : W (Proc.devRef .tc main_v44) = three x3) (hb : W (Proc.devRef .tc main_c) = constantI S_ 32 0#32) :
    StableHlo.after linesD W (Proc.devRef .tc main_v45) = biasLanes x3 := by
  simp only [linesD, List.cons_append, List.nil_append, StableHlo.TRef.binary, StableHlo.TRef.nullary, StableHlo.TRef.ternary,
    StableHlo.TRef.unary, StableHlo.TRef.toBuf, StableHlo.TRef.ofBuf, cast_eq]
  after_results_simp
  simp only [ha, hb]
  rfl

set_option maxHeartbeats 2000000 in
theorem E_v69 (x0 : A512) (h0 : W (Proc.devRef .tc main_arg0) = x0) :
    StableHlo.after linesE W (Proc.devRef .tc main_v69) = scaled x0 := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  simp only [h0]
  rfl

set_option maxHeartbeats 2000000 in
theorem E_v70 (x1 : A512) (x3 : A8) (ha : W (Proc.devRef .tc main_v32) = shapeCast S4096x4x2x64 x1 shapeCasts_S4096x512_S4096x4x2x64) (hb : W (Proc.devRef .tc main_v45) = biasLanes x3) :
    StableHlo.after linesE W (Proc.devRef .tc main_v70) = keysA (shapeCast S4096x4x2x64 x1 shapeCasts_S4096x512_S4096x4x2x64) (biasLanes x3) := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  refine Eq.trans (b := keysA (W (Proc.devRef .tc main_v32)) (W (Proc.devRef .tc main_v45))) rfl ?_
  rw [ha, hb]

set_option maxHeartbeats 2000000 in
theorem E_v71 (x1 : A512) (x3 : A8) (ha : W (Proc.devRef .tc main_v32) = shapeCast S4096x4x2x64 x1 shapeCasts_S4096x512_S4096x4x2x64) (hb : W (Proc.devRef .tc main_v45) = biasLanes x3) :
    StableHlo.after linesE W (Proc.devRef .tc main_v71) = keysB (shapeCast S4096x4x2x64 x1 shapeCasts_S4096x512_S4096x4x2x64) (biasLanes x3) := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  refine Eq.trans (b := keysB (W (Proc.devRef .tc main_v32)) (W (Proc.devRef .tc main_v45))) rfl ?_
  rw [ha, hb]

set_option maxHeartbeats 2000000 in
theorem E_v72 (x2 : A512) (h2 : W (Proc.devRef .tc main_arg2) = x2) :
    StableHlo.after linesE W (Proc.devRef .tc main_v72) = truncf (F := Ideal) (s := S4096x512) (φ := .f32) .bf16 x2 bitsLt_bf16_f32 := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  simp only [h2]

set_option maxHeartbeats 2000000 in
theorem E_v87 (x0 x1 : A512) (x3 : A8) (h0 : W (Proc.devRef .tc main_arg0) = x0) (h1 : W (Proc.devRef .tc main_arg1) = x1) (h3 : W (Proc.devRef .tc main_arg3) = x3) :
    StableHlo.after linesE W (Proc.devRef .tc main_v87) = val_main_v15 (F := Ideal) x0 x1 x3 := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  simp only [h0, h1, h3]
  rfl

set_option maxHeartbeats 2000000 in
theorem E_v93   :
    StableHlo.after linesE W (Proc.devRef .tc main_v93) = val_main_v21 (F := Ideal) := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  rfl

set_option maxHeartbeats 2000000 in
theorem E_cst_8   :
    StableHlo.after linesE W (Proc.devRef .tc main_cst_8) = val_main_cst_0 (F := Ideal) := by
  simp only [linesE, List.cons_append, List.nil_append, StableHlo.TRef.binary, StableHlo.TRef.nullary, StableHlo.TRef.ternary,
    StableHlo.TRef.unary, StableHlo.TRef.toBuf, StableHlo.TRef.ofBuf, cast_eq]
  after_results_simp
  rfl

set_option maxHeartbeats 2000000 in
theorem F_v94 (x0 x1 : A512) (x3 : A8) (ha : W (Proc.devRef .tc main_v87) = val_main_v15 (F := Ideal) x0 x1 x3) (hb : W (Proc.devRef .tc main_v93) = val_main_v21 (F := Ideal)) (hc : W (Proc.devRef .tc main_cst_8) = val_main_cst_0 (F := Ideal)) :
    StableHlo.after linesF W (Proc.devRef .tc main_v94) = val_main_v22_0 (F := Ideal) x0 x1 x3 := by
  simp only [linesF, List.cons_append, List.nil_append, StableHlo.TRef.binary, StableHlo.TRef.nullary, StableHlo.TRef.ternary,
    StableHlo.TRef.unary, StableHlo.TRef.toBuf, StableHlo.TRef.ofBuf, cast_eq]
  after_results_simp
  simp only [ha, hb, hc]
  rfl

set_option maxHeartbeats 2000000 in
theorem G_v110 (x0 x1 x2 : A512) (x3 : A8) (h2 : W (Proc.devRef .tc main_arg2) = x2) (ha : W (Proc.devRef .tc main_v94) = val_main_v22_0 (F := Ideal) x0 x1 x3) :
    StableHlo.after linesG W (Proc.devRef .tc main_v110) = val_main_v55 (F := Ideal) x0 x1 x2 x3 := by
  simp only [linesG, List.cons_append, List.nil_append, StableHlo.TRef.binary, StableHlo.TRef.nullary, StableHlo.TRef.ternary,
    StableHlo.TRef.unary, StableHlo.TRef.toBuf, StableHlo.TRef.ofBuf, cast_eq]
  after_results_simp
  simp only [h2, ha]
  rfl

set_option maxHeartbeats 2000000 in
theorem G_v113 (l : A8) (ha : W (Proc.devRef .tc main_v31) = l) :
    StableHlo.after linesG W (Proc.devRef .tc main_v113) = logLanes l := by
  simp only [linesG, List.cons_append, List.nil_append, StableHlo.TRef.binary, StableHlo.TRef.nullary, StableHlo.TRef.ternary,
    StableHlo.TRef.unary, StableHlo.TRef.toBuf, StableHlo.TRef.ofBuf, cast_eq]
  after_results_simp
  simp only [ha]
  rfl

theorem keepA (b : Ref sig .tc) (hb : b = main_arg0 ∨ b = main_arg1 ∨ b = main_arg2 ∨ b = main_arg3) :
    StableHlo.after linesA W (Proc.devRef .tc b) = W (Proc.devRef .tc b) := by
  refine StableHlo.after_of_forall_not_mem (b := Proc.devRef .tc b) _ _ (List.forall_iff_forall_mem.mp ?_)
  simp only [linesA, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl
  all_goals repeat' apply And.intro
  all_goals exact StableHlo.devRef_ne_of_ne (by decide)

theorem keepB (b : Ref sig .tc) (hb : b = main_arg0 ∨ b = main_arg1 ∨ b = main_arg2 ∨ b = main_arg3) :
    StableHlo.after linesB W (Proc.devRef .tc b) = W (Proc.devRef .tc b) := by
  refine StableHlo.after_of_forall_not_mem (b := Proc.devRef .tc b) _ _ (List.forall_iff_forall_mem.mp ?_)
  simp only [linesB, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl
  all_goals repeat' apply And.intro
  all_goals exact StableHlo.devRef_ne_of_ne (by decide)

theorem keepC (b : Ref sig .tc) (hb : b = main_arg0 ∨ b = main_arg1 ∨ b = main_arg2 ∨ b = main_arg3) :
    StableHlo.after linesC W (Proc.devRef .tc b) = W (Proc.devRef .tc b) := by
  refine StableHlo.after_of_forall_not_mem (b := Proc.devRef .tc b) _ _ (List.forall_iff_forall_mem.mp ?_)
  simp only [linesC, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl
  all_goals repeat' apply And.intro
  all_goals exact StableHlo.devRef_ne_of_ne (by decide)

theorem keepD (b : Ref sig .tc) (hb : b = main_arg0 ∨ b = main_arg1 ∨ b = main_arg2 ∨ b = main_arg3 ∨ b = main_v31 ∨ b = main_v32) :
    StableHlo.after linesD W (Proc.devRef .tc b) = W (Proc.devRef .tc b) := by
  refine StableHlo.after_of_forall_not_mem (b := Proc.devRef .tc b) _ _ (List.forall_iff_forall_mem.mp ?_)
  simp only [linesD, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl | rfl | rfl
  all_goals repeat' apply And.intro
  all_goals exact StableHlo.devRef_ne_of_ne (by decide)

theorem keepE (b : Ref sig .tc) (hb : b = main_arg2 ∨ b = main_v31) :
    StableHlo.after linesE W (Proc.devRef .tc b) = W (Proc.devRef .tc b) := by
  refine StableHlo.after_of_forall_not_mem (b := Proc.devRef .tc b) _ _ (List.forall_iff_forall_mem.mp ?_)
  simp only [linesE, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl
  all_goals repeat' apply And.intro
  all_goals exact StableHlo.devRef_ne_of_ne (by decide)

theorem keepF (b : Ref sig .tc) (hb : b = main_arg2 ∨ b = main_v31 ∨ b = main_v69 ∨ b = main_v70 ∨ b = main_v71 ∨ b = main_v72) :
    StableHlo.after linesF W (Proc.devRef .tc b) = W (Proc.devRef .tc b) := by
  refine StableHlo.after_of_forall_not_mem (b := Proc.devRef .tc b) _ _ (List.forall_iff_forall_mem.mp ?_)
  simp only [linesF, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl | rfl | rfl
  all_goals repeat' apply And.intro
  all_goals exact StableHlo.devRef_ne_of_ne (by decide)

theorem keepG (b : Ref sig .tc) (hb : b = main_v69 ∨ b = main_v70 ∨ b = main_v71 ∨ b = main_v72) :
    StableHlo.after linesG W (Proc.devRef .tc b) = W (Proc.devRef .tc b) := by
  refine StableHlo.after_of_forall_not_mem (b := Proc.devRef .tc b) _ _ (List.forall_iff_forall_mem.mp ?_)
  simp only [linesG, List.cons_append, List.nil_append, List.Forall, StableHlo.nullary_writes, StableHlo.unary_writes, StableHlo.binary_writes,
    StableHlo.ternary_writes, StableHlo.reshape_writes, StableHlo.nary_writes, Finset.mem_singleton, StableHlo.TRef.binary, StableHlo.TRef.nullary,
    StableHlo.TRef.ternary, StableHlo.TRef.unary]
  rcases hb with rfl | rfl | rfl | rfl
  all_goals repeat' apply And.intro
  all_goals exact StableHlo.devRef_ne_of_ne (by decide)

end Cert.Proof.KI7
-- ==== Proof.Fox.Ref.lean ====
/-
  The reference's tables over the real numbers: where its arguments hold real matrices, each table it computes on the
  way holds the real table of `Soft`, and its results the four gradients.
-/
module

public import proofs.«01_k».proof.Proof.Gen.Reference7Ideal.Read
public import proofs.«01_k».proof.Proof.Fox.Soft

@[expose] public section

set_option maxRecDepth 8192

noncomputable section

namespace Cert.Proof.RI7

open Cert.Reference7Ideal Cert.Reference7Ideal.Gen Cert.Reference7Ideal.Read
open Idealize.ShloMosaic Idealize.ShloMosaic.TcCoe
open Finset
open Cert.Proof.KI (sg sum_coe)
open Cert.Proof.RI

/-- Where a row of eight heads is split, and where it is put together. -/
theorem split_heads (t h d : ℕ) (hh : h < 8) (hd : d < 64) :
    ((t * 8 + h) * 64 + d) / 512 = t ∧ ((t * 8 + h) * 64 + d) % 512 = 64 * h + d := by omega
theorem join_heads (t j : ℕ) (hj : j < 512) : (t * 512 + j) / 512 = t ∧ (t * 512 + j) / 64 % 8 = j / 64 ∧ (t * 512 + j) % 64 = j % 64 := by
  omega

section Fwd

variable {x0 x1 x2 : (⟨S4096x512, .f32⟩ : BufTy).Contents (Elt Ideal)} {x3 : (⟨S4096x8, .f32⟩ : BufTy).Contents (Elt Ideal)}
  {x4 : (⟨S4096x3584, .f32⟩ : BufTy).Contents (Elt Ideal)} {x5 : (⟨S4096x1024, .f32⟩ : BufTy).Contents (Elt Ideal)}
  {q k v c pj dm M : ℕ → ℕ → ℝ}

theorem v2_ten (h : Two (m := 4096) (n := 512) x0 q) : Ten (l := 8) (m := 4096) (n := 64) (val_main_v2 (F := Ideal) x0) (fun a t e => q t (64 * a + e)) := fun i => by
  rw [val_main_v2_apply, val_main_v1_apply, h]
  obtain ⟨e0, e1⟩ := split_heads (i 1).val (i 0).val (i 2).val (i 0).isLt (i 2).isLt
  show ((q ((((i 1).val * 8 + (i 0).val) * 64 + (i 2).val) / 512) ((((i 1).val * 8 + (i 0).val) * 64 + (i 2).val) % 512) : ℝ) : EReal) = _
  rw [e0, e1]
theorem v4_ten (h : Two (m := 4096) (n := 512) x1 k) : Ten (l := 8) (m := 4096) (n := 64) (val_main_v4 (F := Ideal) x1) (fun a t e => k t (64 * a + e)) := fun i => by
  rw [val_main_v4_apply, val_main_v3_apply, h]
  obtain ⟨e0, e1⟩ := split_heads (i 1).val (i 0).val (i 2).val (i 0).isLt (i 2).isLt
  show ((k ((((i 1).val * 8 + (i 0).val) * 64 + (i 2).val) / 512) ((((i 1).val * 8 + (i 0).val) * 64 + (i 2).val) % 512) : ℝ) : EReal) = _
  rw [e0, e1]
theorem v52_ten (h : Two (m := 4096) (n := 512) x2 v) : Ten (l := 8) (m := 4096) (n := 64) (val_main_v52 (F := Ideal) x2) (fun a t e => v t (64 * a + e)) := fun i => by
  rw [val_main_v52_apply, val_main_v51_apply, h]
  obtain ⟨e0, e1⟩ := split_heads (i 1).val (i 0).val (i 2).val (i 0).isLt (i 2).isLt
  show ((v ((((i 1).val * 8 + (i 0).val) * 64 + (i 2).val) / 512) ((((i 1).val * 8 + (i 0).val) * 64 + (i 2).val) % 512) : ℝ) : EReal) = _
  rw [e0, e1]

theorem v0_two (h : Two (m := 4096) (n := 3584) x4 pj) : Two (m := 4096) (n := 512) (val_main_v0 (F := Ideal) x4) (fun t j => pj t (1536 + j)) := fun i => by
  rw [val_main_v0_apply]
  exact h _
theorem v58_two (h : Two (m := 4096) (n := 1024) x5 dm) : Two (m := 4096) (n := 512) (val_main_v58 (F := Ideal) x5) dm := fun i => by
  rw [val_main_v58_apply]
  exact h _

section Scores

variable (h0 : Two (m := 4096) (n := 512) x0 q) (h1 : Two (m := 4096) (n := 512) x1 k) (h3 : Two (m := 4096) (n := 8) x3 c)
include h0 h1 h3

theorem score_ten : Ten (l := 8) (m := 4096) (n := 4096) (val_main_v15 (F := Ideal) x0 x1 x3) (xz q k c) := fun i => by
  rw [val_main_v15_apply, val_main_v7_apply, val_main_v6_apply, val_main_cst_apply, bits_eighth, val_main_v5_apply, val_main_v14_apply,
    val_main_v12_apply, val_main_v9_apply, val_main_v8_apply, val_main_v13_apply, val_main_v11_apply, val_main_v10_apply, h3, h3]
  simp only [v2_ten h0 _, v4_ten h1 _, ← EReal.coe_mul, sum_coe]
  rw [mulf_coe, subf_coe, addf_coe, xz, Finset.sum_range]

theorem masked (i : S8x4096x4096.Idx) {α : Type} (x y : α) :
    Scalar.select (val_main_v22_1 (F := Ideal) i) x y = if (i 2).val ≤ (i 1).val then x else y := by
  rw [val_main_v22_1_apply, val_main_v21_apply, val_main_v19_apply, val_main_v17_apply, val_main_v20_apply, val_main_v18_apply,
    val_main_v16_apply, val_main_v16_apply]
  have i1 : (i 1).val < 4096 := (i 1).isLt
  have i2 : (i 2).val < 4096 := (i 2).isLt
  exact Cert.Proof.KI.sle_small (a := (i 2).val) (b := (i 1).val) (by omega) (by omega) x y

theorem logit (i : S8x4096x4096.Idx) : val_main_v22_0 (F := Ideal) x0 x1 x3 i
    = if (i 2).val ≤ (i 1).val then ((xz q k c (i 0).val (i 1).val (i 2).val : ℝ) : EReal) else ⊥ := by
  rw [val_main_v22_0_apply, masked h0 h1 h3, score_ten h0 h1 h3 i, val_main_call0_v2_apply, val_main_call0_v0_apply, val_main_cst_0_apply, bits_bot]

theorem top_real (j : S8x4096.Idx) : val_main_v23 (F := Ideal) x0 x1 x3 j ≠ (⊤ : EReal) ∧ val_main_v23 (F := Ideal) x0 x1 x3 j ≠ (⊥ : EReal) := by
  unfold val_main_v23
  refine reduce_max _ _ _ _ (fun i => ?_) (fun i => ?_) j (ix3 (j 0) (j 1) (j 1)) ?_ ?_
  · rw [val_main_cst_1_apply, bits_bot]
  · rw [logit h0 h1 h3]
    split
    · exact EReal.coe_ne_top _
    · exact bot_ne_top
  · funext b
    match b with
    | ⟨0, _⟩ => exact Fin.ext (Shape.ReducesTo.drop_apply_val_of_eq reducesTo_S8x4096x4096_S8x4096_d2 (ix3 (j 0) (j 1) (j 1)) 0 0)
    | ⟨1, _⟩ => exact Fin.ext (Shape.ReducesTo.drop_apply_val_of_eq reducesTo_S8x4096x4096_S8x4096_d2 (ix3 (j 0) (j 1) (j 1)) 1 1)
  · intro e
    rw [logit h0 h1 h3] at e
    exact EReal.coe_ne_bot _ ((if_pos (le_refl (j 1).val)).symm.trans e)

variable (hM : Two (m := 8) (n := 4096) (val_main_v23 (F := Ideal) x0 x1 x3) M)
include hM

theorem exp_ten : Ten (l := 8) (m := 4096) (n := 4096) (val_main_v43 (F := Ideal) x0 x1 x3) (xe q k c M) := fun i => by
  rw [val_main_v43_apply, val_main_v42_apply, val_main_v41_apply, val_main_v40_apply, val_main_v30_apply, val_main_v29_apply,
    val_main_cst_3_apply, bits_bot, max_bot, hM, logit h0 h1 h3, xe]
  split
  · rw [subf_coe, exp_coe]
  · rw [bot_sub, exp_bot]

theorem sum_two : Two (m := 8) (n := 4096) (val_main_v44 (F := Ideal) x0 x1 x3) (xs q k c M) := fun i => by
  rw [val_main_v44_apply, val_main_cst_9_apply, bits_zero]
  simp only [exp_ten h0 h1 h3 hM _, sum_coe]
  rw [← EReal.coe_add, zero_add, xs, Finset.sum_range]

theorem sum_ten : Ten (l := 8) (m := 4096) (n := 1) (val_main_v45 (F := Ideal) x0 x1 x3) (fun a t _ => xs q k c M a t) := fun i => by
  rw [val_main_v45_apply]
  exact sum_two h0 h1 h3 hM _

theorem weight_ten : Ten (l := 8) (m := 4096) (n := 4096) (val_main_v47 (F := Ideal) x0 x1 x3) (xp q k c M) := fun i => by
  rw [val_main_v47_apply, val_main_v46_apply, exp_ten h0 h1 h3 hM i, sum_ten h0 h1 h3 hM]
  exact quot_coe (xs_pos q k c M _ (i 1).isLt).ne'

theorem out_two (h2 : Two (m := 4096) (n := 512) x2 v) :
    Two (m := 4096) (n := 512) (val_main_v55 (F := Ideal) x0 x1 x2 x3) (xo q k v c M) := fun i => by
  rw [val_main_v55_apply, val_main_v54_apply, val_main_v53_apply]
  simp only [weight_ten h0 h1 h3 hM _, v52_ten h2 _, ← EReal.coe_mul, sum_coe]
  obtain ⟨e0, e1, e2⟩ := join_heads (i 0).val (i 1).val (i 1).isLt
  rw [xo, Finset.sum_range]
  show ((∑ s : Fin 4096, xp q k c M (((i 0).val * 512 + (i 1).val) / 64 % 8) (((i 0).val * 512 + (i 1).val) / 512) s.val
    * v s.val (64 * (((i 0).val * 512 + (i 1).val) / 64 % 8) + ((i 0).val * 512 + (i 1).val) % 64) : ℝ) : EReal) = _
  rw [e0, e1, e2]

end Scores

theorem sig_two (h4 : Two (m := 4096) (n := 3584) x4 pj) : Two (m := 4096) (n := 512) (val_main_v56_2 (F := Ideal) x4) (fun t j => sg (pj t (1536 + j))) := fun i => by
  rw [val_main_v56_2_apply, val_main_call1_v4_apply, val_main_call1_cst_0_apply, val_main_call1_v3_apply, val_main_call1_v2_apply, val_main_call1_cst_apply,
    val_main_call1_v1_apply, val_main_call1_v0_apply, v0_two h4 i, bits_one, negf_coe, exp_coe, addf_coe, div_coe]
  dsimp only [sg]
  rw [zero_sub]

theorem do_two (h4 : Two (m := 4096) (n := 3584) x4 pj) (h5 : Two (m := 4096) (n := 1024) x5 dm) :
    Two (m := 4096) (n := 512) (val_main_v60 (F := Ideal) x4 x5) (xdo pj dm) := fun i => by
  rw [val_main_v60_apply, val_main_v56_0_apply, v58_two h5 i, v0_two h4 i, sig_two h4 i, mulf_coe, mulf_coe, xdo]

theorem do_ten (h4 : Two (m := 4096) (n := 3584) x4 pj) (h5 : Two (m := 4096) (n := 1024) x5 dm) :
    Ten (l := 8) (m := 4096) (n := 64) (val_main_v63 (F := Ideal) x4 x5) (fun a t e => xdo pj dm t (64 * a + e)) := fun i => by
  rw [val_main_v63_apply, val_main_v62_apply, do_two h4 h5]
  obtain ⟨e0, e1⟩ := split_heads (i 1).val (i 0).val (i 2).val (i 0).isLt (i 2).isLt
  show ((xdo pj dm ((((i 1).val * 8 + (i 0).val) * 64 + (i 2).val) / 512) ((((i 1).val * 8 + (i 0).val) * 64 + (i 2).val) % 512) : ℝ) : EReal) = _
  rw [e0, e1]

theorem b_ten (h2 : Two (m := 4096) (n := 512) x2 v) (h4 : Two (m := 4096) (n := 3584) x4 pj) (h5 : Two (m := 4096) (n := 1024) x5 dm) :
    Ten (l := 8) (m := 4096) (n := 4096) (val_main_v66 (F := Ideal) x2 x4 x5) (xb v pj dm) := fun i => by
  rw [val_main_v66_apply]
  simp only [do_ten h4 h5 _, v52_ten h2 _, ← EReal.coe_mul, sum_coe]
  rw [xb, Finset.sum_range]

section Bwd

variable (h0 : Two (m := 4096) (n := 512) x0 q) (h1 : Two (m := 4096) (n := 512) x1 k) (h3 : Two (m := 4096) (n := 8) x3 c)
variable (hM : Two (m := 8) (n := 4096) (val_main_v23 (F := Ideal) x0 x1 x3) M)
variable (h4 : Two (m := 4096) (n := 3584) x4 pj) (h5 : Two (m := 4096) (n := 1024) x5 dm)
include h0 h1 h3 hM h4 h5

theorem dv_two : Two (m := 4096) (n := 512) (val_main_v68 (F := Ideal) x0 x1 x3 x4 x5) (xv q k c pj dm M) := fun i => by
  rw [val_main_v68_apply, val_main_v67_apply, val_main_v65_apply, val_main_v64_apply]
  simp only [do_ten h4 h5 _, weight_ten h0 h1 h3 hM _, ← EReal.coe_mul, sum_coe]
  obtain ⟨e0, e1, e2⟩ := join_heads (i 0).val (i 1).val (i 1).isLt
  rw [xv, Finset.sum_range]
  show ((∑ t : Fin 4096, xdo pj dm t.val (64 * (((i 0).val * 512 + (i 1).val) / 64 % 8) + ((i 0).val * 512 + (i 1).val) % 64)
    * xp q k c M (((i 0).val * 512 + (i 1).val) / 64 % 8) t.val (((i 0).val * 512 + (i 1).val) / 512) : ℝ) : EReal) = _
  rw [e0, e1, e2]

variable (h2 : Two (m := 4096) (n := 512) x2 v)
include h2

theorem dg_two : Two (m := 4096) (n := 512) (val_main_v61 (F := Ideal) x0 x1 x2 x3 x4 x5) (xdg q k v c pj dm M) := fun i => by
  rw [val_main_v61_apply, val_main_call2_v1_apply, val_main_call2_v2_apply, val_main_call2_v0_apply, val_main_v59_apply, val_main_v56_1_apply,
    val_main_call1_v7_apply, val_main_call1_v6_apply, val_main_call1_cst_1_apply, bits_one, out_two h0 h1 h3 hM h2 i, v58_two h5 i, v0_two h4 i, sig_two h4 i]
  simp only [mulf_coe, subf_coe, addf_coe]
  rfl

theorem total_two : Two (m := 8) (n := 4096) (val_main_v72 (F := Ideal) x0 x1 x2 x3 x4 x5) (xt q k v c pj dm M) := fun i => by
  rw [val_main_v72_apply, val_main_cst_11_apply, bits_zero]
  have e : ∀ j : Fin 4096, val_main_v71 (F := Ideal) x0 x1 x2 x3 x4 x5 (idx_main_v72 i j)
      = ((xb v pj dm (i 0).val (i 1).val j.val * (1 * (1 / (xs q k c M (i 0).val (i 1).val * xs q k c M (i 0).val (i 1).val)))
        * xe q k c M (i 0).val (i 1).val j.val : ℝ) : EReal) := fun j => by
    have hs := (xs_pos q k c M (i 0).val (t := (i 1).val) (i 1).isLt).ne'
    rw [val_main_v71_apply, val_main_v70_apply, val_main_v69_apply, val_main_v50_apply, val_main_v49_apply, val_main_cst_10_apply, bits_one,
      val_main_v48_apply, sum_ten h0 h1 h3 hM, b_ten h2 h4 h5, exp_ten h0 h1 h3 hM, mulf_coe]
    refine (congrArg (fun x => FloatOps.mulf (F := Ideal) (φ := .f32) (FloatOps.mulf (F := Ideal) (φ := .f32) _ x) _)
      (quot_coe (a := 1) (mul_ne_zero hs hs))).trans ?_
    rw [mulf_coe, mulf_coe]
  simp only [e, sum_coe]
  rw [← EReal.coe_add, zero_add, xt, Finset.sum_range]

theorem neg_total_two : Two (m := 8) (n := 4096) (val_main_v77 (F := Ideal) x0 x1 x2 x3 x4 x5) (fun a t => -xt q k v c pj dm M a t) := fun i => by
  rw [val_main_v77_apply, val_main_cst_12_apply, bits_zero]
  have e : ∀ j : Fin 1, val_main_v74 (F := Ideal) x0 x1 x2 x3 x4 x5 (idx_main_v77 i j)
      = ((-xt q k v c pj dm M (i 0).val (i 1).val : ℝ) : EReal) := fun j => by
    rw [val_main_v74_apply, val_main_v73_apply, total_two h0 h1 h3 hM h4 h5 h2, negf_coe]
    have i1 : (i 1).val < 4096 := (i 1).isLt
    have j0 : j.val < 1 := j.isLt
    show ((-xt q k v c pj dm M ((((i 0).val * 4096 + (i 1).val) * 1 + j.val) / 4096)
      ((((i 0).val * 4096 + (i 1).val) * 1 + j.val) % 4096) : ℝ) : EReal) = _
    rw [show (((i 0).val * 4096 + (i 1).val) * 1 + j.val) / 4096 = (i 0).val by omega,
      show (((i 0).val * 4096 + (i 1).val) * 1 + j.val) % 4096 = (i 1).val by omega]
  simp only [e, sum_coe]
  rw [← EReal.coe_add, zero_add, Finset.sum_const, Finset.card_univ, Fintype.card_fin, one_smul]

theorem ds_ten : Ten (l := 8) (m := 4096) (n := 4096) (val_main_v83 (F := Ideal) x0 x1 x2 x3 x4 x5)
    (fun a t s => xd q k v c pj dm M a t s * 0.125) := fun i => by
  have hs := (xs_pos q k c M (i 0).val (t := (i 1).val) (i 1).isLt).ne'
  rw [val_main_v83_apply, val_main_v82_apply, val_main_cst_13_apply, bits_eighth, val_main_v81_apply, masked h0 h1 h3, val_main_call3_v0_apply,
    val_main_call3_cst_apply, bits_zero, val_main_v80_apply, val_main_v79_apply, val_main_v76_apply, val_main_v75_apply, val_main_v78_apply,
    neg_total_two h0 h1 h3 hM h4 h5 h2, exp_ten h0 h1 h3 hM i, b_ten h2 h4 h5 i, sum_ten h0 h1 h3 hM]
  refine (congrArg (fun x => FloatOps.mulf (F := Ideal) (φ := .f32) (if (i 2).val ≤ (i 1).val then FloatOps.mulf (F := Ideal) (φ := .f32)
    (FloatOps.addf (F := Ideal) (φ := .f32) x _) _ else _) _) (quot_coe hs)).trans ?_
  rw [addf_coe, mulf_coe]
  split
  · rw [mulf_coe]; rfl
  · next hn =>
    have e : xe q k c M (i 0).val (i 1).val (i 2).val = 0 := by rw [xe, if_neg hn]
    rw [mulf_coe]
    congr 1
    show (0 : ℝ) * 0.125 = (xb v pj dm (i 0).val (i 1).val (i 2).val * (1 / xs q k c M (i 0).val (i 1).val)
      + -xt q k v c pj dm M (i 0).val (i 1).val) * xe q k c M (i 0).val (i 1).val (i 2).val * 0.125
    rw [e, mul_zero]

theorem dk_two : Two (m := 4096) (n := 512) (val_main_v87 (F := Ideal) x0 x1 x2 x3 x4 x5) (xk q k v c pj dm M) := fun i => by
  rw [val_main_v87_apply, val_main_v86_apply, val_main_v84_apply]
  simp only [ds_ten h0 h1 h3 hM h4 h5 h2 _, v2_ten h0 _, ← EReal.coe_mul, sum_coe]
  obtain ⟨e0, e1, e2⟩ := join_heads (i 0).val (i 1).val (i 1).isLt
  rw [xk, Finset.sum_range]
  show ((∑ t : Fin 4096, xd q k v c pj dm M (((i 0).val * 512 + (i 1).val) / 64 % 8) t.val (((i 0).val * 512 + (i 1).val) / 512) * 0.125
    * q t.val (64 * (((i 0).val * 512 + (i 1).val) / 64 % 8) + ((i 0).val * 512 + (i 1).val) % 64) : ℝ) : EReal) = _
  rw [e0, e1, e2]

theorem dq_two : Two (m := 4096) (n := 512) (val_main_v89 (F := Ideal) x0 x1 x2 x3 x4 x5) (xq q k v c pj dm M) := fun i => by
  rw [val_main_v89_apply, val_main_v88_apply, val_main_v85_apply]
  simp only [ds_ten h0 h1 h3 hM h4 h5 h2 _, v4_ten h1 _, ← EReal.coe_mul, sum_coe]
  obtain ⟨e0, e1, e2⟩ := join_heads (i 0).val (i 1).val (i 1).isLt
  rw [xq, Finset.sum_range]
  show ((∑ s : Fin 4096, xd q k v c pj dm M (((i 0).val * 512 + (i 1).val) / 64 % 8) (((i 0).val * 512 + (i 1).val) / 512) s.val * 0.125
    * k s.val (64 * (((i 0).val * 512 + (i 1).val) / 64 % 8) + ((i 0).val * 512 + (i 1).val) % 64) : ℝ) : EReal) = _
  rw [e0, e1, e2]

end Bwd

end Fwd

end Cert.Proof.RI7

end
-- ==== Proof.Fox.Lanes.lean ====
/-
  The host's terms over the reals: where the arguments hold real matrices, the key arrays with their bias lanes, the
  scaled queries and the log-sums on all the lanes of their head hold the real tables of `Agree`.
-/
module

public import proofs.«01_k».proof.Proof.Fox.Lines
public import proofs.«01_k».proof.Proof.Fox.Ref
public import Idealize.ShloMosaic.Lib.Pipeline.ValueKit

@[expose] public section

set_option maxRecDepth 8192

noncomputable section

namespace Cert.Proof.KI7

open Cert.Kernel7Ideal Cert.Kernel7Ideal.Gen
open Idealize.ShloMosaic Idealize.ShloMosaic.TcCoe
open Cert.Reference7Ideal.Read Cert.Proof.RI7 Cert.Proof.RI

section Bias

variable {x3 : A8} {C : ℕ → ℕ → ℝ} (h3 : Two (m := 4096) (n := 8) x3 C)
include h3

theorem neg1_two : Two (m := 4096) (n := 8) (neg1 x3) (fun t h => -C t h) := fun i => by
  show -(x3 i : EReal) = _
  rw [h3 i, EReal.coe_neg]
theorem rest1_two : Two (m := 4096) (n := 8) (rest1 x3) (fun _ _ => 0) := fun i => by
  show -(x3 i : EReal) - -(x3 i : EReal) = _
  rw [h3 i, ← EReal.coe_neg, ← EReal.coe_sub, sub_self]
theorem neg2_two : Two (m := 4096) (n := 8) (neg2 x3) (fun _ _ => 0) := fun i => rest1_two h3 i
theorem rest2_two : Two (m := 4096) (n := 8) (rest2 x3) (fun _ _ => 0) := fun i => by
  show (rest1 x3 i : EReal) - (rest1 x3 i : EReal) = _
  rw [rest1_two h3 i, ← EReal.coe_sub, sub_self]
theorem neg3_two : Two (m := 4096) (n := 8) (neg3 x3) (fun _ _ => 0) := fun i => rest2_two h3 i

omit h3 in
theorem unit3_at (x : (⟨S4096x8, .bf16⟩ : BufTy).Contents (Elt Ideal)) (j : S4096x8x1.Idx) : unit3 x j = x (ix2 (j 0) (j 1)) :=
  broadcastInDim_apply _ bcast_S4096x8_S4096x8x1_0_1 x j (ix2 (j 0) (j 1)) (fun a => match a with
    | ⟨0, _⟩ => by show (j 0).val = if (4096 : Nat) = 1 then 0 else (j 0).val; rw [if_neg (by decide)]
    | ⟨1, _⟩ => by show (j 1).val = if (8 : Nat) = 1 then 0 else (j 1).val; rw [if_neg (by decide)])

/-- A bias entry: the negated gate sum in the first lane. -/
theorem three_at (i : S4096x8x3.Idx) : three x3 i = ((if (i 2).val = 0 then -C (i 0).val (i 1).val else 0 : ℝ) : EReal) := by
  unfold three
  refine concatenate_unit_eq 2 _ _ i _ rfl ⟨?_, ?_, ?_, trivial⟩
  · intro hk hr j hj hb
    have e0 : (j 0).val = (i 0).val := hb 0 (by decide)
    have e1 : (j 1).val = (i 1).val := hb 1 (by decide)
    show unit3 (neg1 x3) j = _
    rw [unit3_at, neg1_two h3, if_pos hk, ← e0, ← e1]
    rfl
  · intro hk hr j hj hb
    show unit3 (neg2 x3) j = _
    rw [unit3_at, neg2_two h3, if_neg (by omega)]
  · intro hk hr j hj hb
    show unit3 (neg3 x3) j = _
    rw [unit3_at, neg3_two h3, if_neg (by omega)]

theorem lanes_at (i : S4096x8x64.Idx) : biasLanes x3 i = ((if (i 2).val = 0 then -C (i 0).val (i 1).val else 0 : ℝ) : EReal) := by
  unfold biasLanes pad
  split
  · next hin =>
    rw [three_at h3]
    show ((if ((i 2).val - 0) / (0 + 1) = 0 then -C (((i 0).val - 0) / (0 + 1)) (((i 1).val - 0) / (0 + 1)) else 0 : ℝ) : EReal) = _
    simp only [Nat.sub_zero, Nat.zero_add, Nat.div_one]
  · next hin =>
    have hne : (i 2).val ≠ 0 := fun h0 => hin fun a => by
      have i0 : (i 0).val < 4096 := (i 0).isLt
      have i1 : (i 1).val < 8 := (i 1).isLt
      match a with
      | ⟨0, _⟩ => exact ⟨Nat.zero_le _, Nat.mod_one _, by show ((i 0).val - 0) / (0 + 1) < 4096; simpa using i0⟩
      | ⟨1, _⟩ => exact ⟨Nat.zero_le _, Nat.mod_one _, by show ((i 1).val - 0) / (0 + 1) < 8; simpa using i1⟩
      | ⟨2, _⟩ => exact ⟨Nat.zero_le _, Nat.mod_one _, by show ((i 2).val - 0) / (0 + 1) < 3; rw [h0]; norm_num⟩
    rw [if_neg hne]
    show (((0#32 : BitVec 32).toInt : ℝ) : EReal) = _
    simp

end Bias

/-! ### One head of each pair -/

/-- The entry of a row that is lane `d` of head `2p` or `2p + 1`. -/
theorem pair_apply {α : Type} (o : ℕ) (ho : o < 2) (y : S4096x4x2x64.Idx → α) (h : Shape.Slices S4096x4x2x64 ![0, 0, o, 0] S4096x4x1x64)
    (j : S4096x4x64.Idx) :
    shapeCast S4096x4x64 (extractStridedSlice S4096x4x1x64 ![0, 0, o, 0] y h) shapeCasts_S4096x4x1x64_S4096x4x64 j
      = y (ix4 (n0 := 4096) (n1 := 4) (n2 := 2) (n3 := 64) (j 0) (j 1) ⟨o, ho⟩ (j 2)) := by
  rw [shapeCast_apply _ shapeCasts_S4096x4x1x64_S4096x4x64 j (ix4 (n0 := 4096) (n1 := 4) (n2 := 1) (n3 := 64) (j 0) (j 1) 0 (j 2))
    (by
      rw [Shape.rowMajor_val_four, Shape.rowMajor_val_three]
      show (((j 0).val * 4 + (j 1).val) * 1 + 0) * 64 + (j 2).val = ((j 0).val * 4 + (j 1).val) * 64 + (j 2).val
      omega)]
  refine extractStridedSlice_apply _ y h _ _ fun a => ?_
  match a with
  | ⟨0, _⟩ => exact (Nat.zero_add _).symm
  | ⟨1, _⟩ => exact (Nat.zero_add _).symm
  | ⟨2, _⟩ => rfl
  | ⟨3, _⟩ => exact (Nat.zero_add _).symm

theorem key_at {x1 : A512} {K : ℕ → ℕ → ℝ} (h1 : Two (m := 4096) (n := 512) x1 K) (i : S4096x4x2x64.Idx) :
    shapeCast S4096x4x2x64 x1 shapeCasts_S4096x512_S4096x4x2x64 i
      = ((K (i 0).val (128 * (i 1).val + (64 * (i 2).val + (i 3).val)) : ℝ) : EReal) := by
  have i1 : (i 1).val < 4 := (i 1).isLt
  have i2 : (i 2).val < 2 := (i 2).isLt
  have i3 : (i 3).val < 64 := (i 3).isLt
  rw [shapeCast_apply x1 shapeCasts_S4096x512_S4096x4x2x64 i (ix2 (i 0) ⟨128 * (i 1).val + (64 * (i 2).val + (i 3).val), by omega⟩)
    (by
      rw [Shape.rowMajor_val_four, Shape.rowMajor_val_two]
      show (i 0).val * 512 + (128 * (i 1).val + (64 * (i 2).val + (i 3).val)) = (((i 0).val * 4 + (i 1).val) * 2 + (i 2).val) * 64 + (i 3).val
      omega), h1]
  rfl

theorem lane_at {x3 : A8} {C : ℕ → ℕ → ℝ} (h3 : Two (m := 4096) (n := 8) x3 C) (i : S4096x4x2x64.Idx) :
    shapeCast S4096x4x2x64 (biasLanes x3) shapeCasts_S4096x8x64_S4096x4x2x64 i
      = ((if (i 3).val = 0 then -C (i 0).val (2 * (i 1).val + (i 2).val) else 0 : ℝ) : EReal) := by
  have i1 : (i 1).val < 4 := (i 1).isLt
  have i2 : (i 2).val < 2 := (i 2).isLt
  have i3 : (i 3).val < 64 := (i 3).isLt
  rw [shapeCast_apply (biasLanes x3) shapeCasts_S4096x8x64_S4096x4x2x64 i
    (ix3 (n0 := 4096) (n1 := 8) (n2 := 64) (i 0) ⟨2 * (i 1).val + (i 2).val, by omega⟩ (i 3))
    (by
      rw [Shape.rowMajor_val_four, Shape.rowMajor_val_three]
      show ((i 0).val * 8 + (2 * (i 1).val + (i 2).val)) * 64 + (i 3).val = (((i 0).val * 4 + (i 1).val) * 2 + (i 2).val) * 64 + (i 3).val
      omega), lanes_at h3]
  rfl

/-- Two halves of 64 lanes side by side. -/
theorem both_low (a b : (⟨S4096x4x64, .f32⟩ : BufTy).Contents (Elt Ideal)) (i : S4096x512.Idx) (h : (i 1).val % 128 < 64) (hp : (i 1).val / 128 < 4) :
    halves a b i = a (ix3 (n0 := 4096) (n1 := 4) (n2 := 64) (i 0) ⟨(i 1).val / 128, hp⟩ ⟨(i 1).val % 128, h⟩) := by
  have hq : (i 1).val % 128 < 128 := Nat.mod_lt _ (by norm_num)
  show shapeCast S4096x512 (concatenate S4096x4x128 2 [⟨S4096x4x64, a⟩, ⟨S4096x4x64, b⟩] concatenates_S4096x4x64_S4096x4x64_S4096x4x128_d2)
    shapeCasts_S4096x4x128_S4096x512 i = _
  rw [shapeCast_apply _ shapeCasts_S4096x4x128_S4096x512 i
    (ix3 (n0 := 4096) (n1 := 4) (n2 := 128) (i 0) ⟨(i 1).val / 128, hp⟩ ⟨(i 1).val % 128, hq⟩)
    (by
      rw [Shape.rowMajor_val_three, Shape.rowMajor_val_two]
      show ((i 0).val * 4 + (i 1).val / 128) * 128 + (i 1).val % 128 = (i 0).val * 512 + (i 1).val
      omega)]
  refine concatenate_pair_apply_left 2 a b concatenates_S4096x4x64_S4096x4x64_S4096x4x128_d2 _ rfl _ fun d => ?_
  match d with
  | ⟨0, _⟩ => rfl
  | ⟨1, _⟩ => rfl
  | ⟨2, _⟩ => rfl

theorem both_high (a b : (⟨S4096x4x64, .f32⟩ : BufTy).Contents (Elt Ideal)) (i : S4096x512.Idx) (h : ¬ (i 1).val % 128 < 64) (hp : (i 1).val / 128 < 4)
    (hl : (i 1).val % 128 - 64 < 64) :
    halves a b i = b (ix3 (n0 := 4096) (n1 := 4) (n2 := 64) (i 0) ⟨(i 1).val / 128, hp⟩ ⟨(i 1).val % 128 - 64, hl⟩) := by
  have hq : (i 1).val % 128 < 128 := Nat.mod_lt _ (by norm_num)
  show shapeCast S4096x512 (concatenate S4096x4x128 2 [⟨S4096x4x64, a⟩, ⟨S4096x4x64, b⟩] concatenates_S4096x4x64_S4096x4x64_S4096x4x128_d2)
    shapeCasts_S4096x4x128_S4096x512 i = _
  rw [shapeCast_apply _ shapeCasts_S4096x4x128_S4096x512 i
    (ix3 (n0 := 4096) (n1 := 4) (n2 := 128) (i 0) ⟨(i 1).val / 128, hp⟩ ⟨(i 1).val % 128, hq⟩)
    (by
      rw [Shape.rowMajor_val_three, Shape.rowMajor_val_two]
      show ((i 0).val * 4 + (i 1).val / 128) * 128 + (i 1).val % 128 = (i 0).val * 512 + (i 1).val
      omega)]
  refine concatenate_pair_apply_right 2 a b concatenates_S4096x4x64_S4096x4x64_S4096x4x128_d2 _ rfl rfl _ (fun d hd => ?_) ?_
  · match d with
    | ⟨0, _⟩ => rfl
    | ⟨1, _⟩ => rfl
    | ⟨2, _⟩ => exact absurd rfl hd
  · show (i 1).val % 128 - 64 + 64 = (i 1).val % 128
    omega

/-- A row's entry on all the lanes of its head. -/
theorem logLanes_at (l : A8) (i : S4096x512.Idx) (hp : (i 1).val / 64 < 8) :
    logLanes l i = l (ix2 (n0 := 4096) (n1 := 8) (i 0) ⟨(i 1).val / 64, hp⟩) := by
  have hq : (i 1).val % 64 < 64 := Nat.mod_lt _ (by norm_num)
  rw [logLanes, shapeCast_apply _ shapeCasts_S4096x8x64_S4096x512 i
    (ix3 (n0 := 4096) (n1 := 8) (n2 := 64) (i 0) ⟨(i 1).val / 64, hp⟩ ⟨(i 1).val % 64, hq⟩)
    (by
      rw [Shape.rowMajor_val_three, Shape.rowMajor_val_two]
      show ((i 0).val * 8 + (i 1).val / 64) * 64 + (i 1).val % 64 = (i 0).val * 512 + (i 1).val
      omega)]
  rw [broadcastInDim_apply _ bcast_S4096x8x1_S4096x8x64_0_1_2 _ _ (ix3 (n0 := 4096) (n1 := 8) (n2 := 1) (i 0) ⟨(i 1).val / 64, hp⟩ 0) (fun a => match a with
    | ⟨0, _⟩ => by show (i 0).val = if (4096 : Nat) = 1 then 0 else (i 0).val; rw [if_neg (by decide)]
    | ⟨1, _⟩ => by show (i 1).val / 64 = if (8 : Nat) = 1 then 0 else (i 1).val / 64; rw [if_neg (by decide)]
    | ⟨2, _⟩ => by show 0 = if (1 : Nat) = 1 then 0 else (i 1).val % 64; rw [if_pos rfl])]
  exact broadcastInDim_apply _ bcast_S4096x8_S4096x8x1_0_1 l _ (ix2 (n0 := 4096) (n1 := 8) (i 0) ⟨(i 1).val / 64, hp⟩) (fun a => match a with
    | ⟨0, _⟩ => by show (i 0).val = if (4096 : Nat) = 1 then 0 else (i 0).val; rw [if_neg (by decide)]
    | ⟨1, _⟩ => by show (i 1).val / 64 = if (8 : Nat) = 1 then 0 else (i 1).val / 64; rw [if_neg (by decide)])

/-- The head's running maximum plus the logarithm of its sum, less the gate sum. -/
theorem logs_at (a b : (⟨S8x4096, .f32⟩ : BufTy).Contents (Elt Ideal)) (c : A8) {A B C : ℕ → ℕ → ℝ} (ha : Two (m := 8) (n := 4096) a A)
    (hb : Two (m := 8) (n := 4096) b B) (hc : Two (m := 4096) (n := 8) c C) (i : Fin 4096) (h : Fin 8) (pos : 0 < B h.val i.val) :
    subf (F := Ideal) (φ := .f32) (transpose S4096x8 [1, 0] (addf (F := Ideal) (φ := .f32) a (Host.log (F := Ideal) (φ := .f32) b))
      transposes_S8x4096_S4096x8_1_0) c (ix2 (n0 := 4096) (n1 := 8) i h) = ((A h.val i.val + Real.log (B h.val i.val) - C i.val h.val : ℝ) : EReal) := by
  have e : transpose S4096x8 [1, 0] (addf (F := Ideal) (φ := .f32) a (Host.log (F := Ideal) (φ := .f32) b)) transposes_S8x4096_S4096x8_1_0
      (ix2 (n0 := 4096) (n1 := 8) i h) = ((A h.val i.val + Real.log (B h.val i.val) : ℝ) : EReal) := by
    rw [transpose_apply [1, 0] _ transposes_S8x4096_S4096x8_1_0 _ (ix2 (n0 := 8) (n1 := 4096) h i) (fun b => match b with
      | ⟨0, _⟩ => rfl
      | ⟨1, _⟩ => rfl)]
    show FloatOps.addf (F := Ideal) (φ := .f32) (a (ix2 (n0 := 8) (n1 := 4096) h i)) (Ideal.log (b (ix2 (n0 := 8) (n1 := 4096) h i))) = _
    rw [ha, hb]
    show FloatOps.addf (F := Ideal) (φ := .f32) ((A h.val i.val : ℝ) : EReal) (Ideal.log ((B h.val i.val : ℝ) : EReal)) = _
    rw [Ideal.log_coe, if_neg (not_le.mpr pos), addf_coe]
  show FloatOps.subf (F := Ideal) (φ := .f32) _ (c (ix2 (n0 := 4096) (n1 := 8) i h)) = _
  rw [e, hc]
  exact subf_coe _ _

section Arrays

variable {x0 x1 : A512} {x3 : A8} {Q K C M : ℕ → ℕ → ℝ} (h0 : Two (m := 4096) (n := 512) x0 Q) (h1 : Two (m := 4096) (n := 512) x1 K)
  (h3 : Two (m := 4096) (n := 8) x3 C)

include h1 h3 in
theorem keysA_two : Two (m := 4096) (n := 512) (keysA (shapeCast S4096x4x2x64 x1 shapeCasts_S4096x512_S4096x4x2x64) (biasLanes x3))
    (fun t j => if j % 128 < 64 then K t j else if j % 128 = 64 then -C t (2 * (j / 128)) else 0) := fun i => by
  have i1 : (i 1).val < 512 := (i 1).isLt
  have hp : (i 1).val / 128 < 4 := by omega
  unfold keysA
  by_cases h : (i 1).val % 128 < 64
  · rw [both_low _ _ i h hp, kEven, pair_apply 0 (by norm_num), key_at h1]
    show ((K (i 0).val (128 * ((i 1).val / 128) + (64 * 0 + (i 1).val % 128)) : ℝ) : EReal)
      = ((if (i 1).val % 128 < 64 then K (i 0).val (i 1).val else _ : ℝ) : EReal)
    rw [if_pos h, show 128 * ((i 1).val / 128) + (64 * 0 + (i 1).val % 128) = (i 1).val by omega]
  · have hl : (i 1).val % 128 - 64 < 64 := by omega
    rw [both_high _ _ i h hp hl]
    show bEven (biasLanes x3) (ix3 (n0 := 4096) (n1 := 4) (n2 := 64) (i 0) ⟨(i 1).val / 128, hp⟩ ⟨(i 1).val % 128 - 64, hl⟩)
      = ((if (i 1).val % 128 < 64 then _ else if (i 1).val % 128 = 64 then -C (i 0).val (2 * ((i 1).val / 128)) else 0 : ℝ) : EReal)
    rw [bEven, pair_apply 0 (by norm_num), lane_at h3, if_neg h]
    show ((if (i 1).val % 128 - 64 = 0 then -C (i 0).val (2 * ((i 1).val / 128) + 0) else 0 : ℝ) : EReal) = _
    by_cases e : (i 1).val % 128 = 64
    · rw [if_pos e, if_pos (by omega), Nat.add_zero]
    · rw [if_neg e, if_neg (by omega)]

include h1 h3 in
theorem keysB_two : Two (m := 4096) (n := 512) (keysB (shapeCast S4096x4x2x64 x1 shapeCasts_S4096x512_S4096x4x2x64) (biasLanes x3))
    (fun t j => if j % 128 < 64 then (if j % 128 = 0 then -C t (2 * (j / 128) + 1) else 0) else K t j) := fun i => by
  have i1 : (i 1).val < 512 := (i 1).isLt
  have hp : (i 1).val / 128 < 4 := by omega
  unfold keysB
  by_cases h : (i 1).val % 128 < 64
  · rw [both_low _ _ i h hp]
    show bOdd (biasLanes x3) (ix3 (n0 := 4096) (n1 := 4) (n2 := 64) (i 0) ⟨(i 1).val / 128, hp⟩ ⟨(i 1).val % 128, h⟩)
      = ((if (i 1).val % 128 < 64 then (if (i 1).val % 128 = 0 then -C (i 0).val (2 * ((i 1).val / 128) + 1) else 0) else _ : ℝ) : EReal)
    rw [bOdd, pair_apply 1 (by norm_num), lane_at h3, if_pos h]
    rfl
  · have hl : (i 1).val % 128 - 64 < 64 := by omega
    rw [both_high _ _ i h hp hl, kOdd, pair_apply 1 (by norm_num), key_at h1]
    show ((K (i 0).val (128 * ((i 1).val / 128) + (64 * 1 + ((i 1).val % 128 - 64))) : ℝ) : EReal)
      = ((if (i 1).val % 128 < 64 then _ else K (i 0).val (i 1).val : ℝ) : EReal)
    rw [if_neg h, show 128 * ((i 1).val / 128) + (64 * 1 + ((i 1).val % 128 - 64)) = (i 1).val by omega]

include h0 in
theorem scaled_two : Two (m := 4096) (n := 512) (scaled x0) (fun t j => Q t j * 0.125) := fun i => by
  show FloatOps.mulf (F := Ideal) (φ := .f32) (x0 i) (FloatOps.ofBits (F := Ideal) .f32 0x3E000000#32) = _
  rw [h0 i, bits_eighth, mulf_coe]

include h0 h1 h3 in
/-- The log-sums on the lanes of their head. -/
theorem log_two (hM : Two (m := 8) (n := 4096) (val_main_v23 (F := Ideal) x0 x1 x3) M) : Two (m := 4096) (n := 512) (logLanes (logs x0 x1 x3))
    (fun t j => M (j / 64) t + Real.log (xs Q K C M (j / 64) t) - C t (j / 64)) := fun i => by
  have i0 : (i 0).val < 4096 := (i 0).isLt
  have i1 : (i 1).val < 512 := (i 1).isLt
  have hp : (i 1).val / 64 < 8 := by omega
  rw [logLanes_at _ i hp]
  unfold logs
  exact logs_at _ _ _ hM (sum_two h0 h1 h3 hM) h3 (i 0) ⟨(i 1).val / 64, hp⟩ (xs_pos Q K C M _ i0)

end Arrays

end Cert.Proof.KI7
-- ==== Proof.Fox.Host.lean ====
/-
  What the launch is given: where the arguments hold real matrices the arrays read by the grid hold the real tables.
-/
module

public import proofs.«01_k».proof.Proof.Fox.Agree
public import proofs.«01_k».proof.Proof.Fox.Lanes

@[expose] public section

set_option maxRecDepth 8192

noncomputable section

namespace Cert.Proof.KI7

open Cert.Kernel7Ideal Cert.Kernel7Ideal.Gen
open Idealize.ShloMosaic Idealize.ShloMosaic.TcCoe Idealize.SL.Sem
open Cert.Reference7Ideal.Read Cert.Proof.RI7 Cert.Proof.RI

theorem after_two (l₁ l₂ : List (HloOp τ sig (Elt Ideal))) (W : HV) : StableHlo.after (l₁ ++ l₂) W = StableHlo.after l₂ (StableHlo.after l₁ W) := by
  induction l₁ generalizing W with
  | nil => rfl
  | cons op l ih => exact ih _

variable (m : (ℓ : Loc nD τ sig) → Buf (Elt Ideal) ℓ) (c : Dev nD)

/-- The arrays as launched, on one device, and after each few lines. -/
abbrev W0 : HV := fun b => m (c, b)
abbrev W1 : HV := StableHlo.after linesA (W0 m c)
abbrev W2 : HV := StableHlo.after linesB (W1 m c)
abbrev W3 : HV := StableHlo.after linesC (W2 m c)
abbrev W4 : HV := StableHlo.after linesD (W3 m c)
abbrev W5 : HV := StableHlo.after linesE (W4 m c)
abbrev W6 : HV := StableHlo.after linesF (W5 m c)

theorem V_eq (b : Ref sig .tc) : V m c b = StableHlo.after linesG (W6 m c) (Proc.devRef .tc b) := by
  have e : (hostLines (F := Ideal)).flatten = linesA ++ (linesB ++ (linesC ++ (linesD ++ (linesE ++ (linesF ++ linesG))))) := by
    simp only [hostLines, List.flatten_cons, List.flatten_nil, List.append_nil]
  rw [V, e, after_two, after_two, after_two, after_two, after_two, after_two]

abbrev a0 : A512 := m (c, Proc.devRef .tc main_arg0)
abbrev a1 : A512 := m (c, Proc.devRef .tc main_arg1)
abbrev a2 : A512 := m (c, Proc.devRef .tc main_arg2)
abbrev a3 : A8 := m (c, Proc.devRef .tc main_arg3)

abbrev IsArg (b : Ref sig .tc) : Prop := b = main_arg0 ∨ b = main_arg1 ∨ b = main_arg2 ∨ b = main_arg3

theorem arg2 (b : Ref sig .tc) (hb : IsArg b) : W2 m c (Proc.devRef .tc b) = m (c, Proc.devRef .tc b) :=
  (keepB _ b hb).trans (keepA _ b hb)
theorem arg4 (b : Ref sig .tc) (hb : IsArg b) : W4 m c (Proc.devRef .tc b) = m (c, Proc.devRef .tc b) :=
  (keepD _ b (by rcases hb with h | h | h | h <;> simp [h])).trans ((keepC _ b hb).trans (arg2 m c b hb))

theorem W2_v21 : W2 m c (Proc.devRef .tc main_v21) = val_main_v22_0 (F := Ideal) (a0 m c) (a1 m c) (a3 m c) :=
  B_v21 _ _ _ _ (A_v14 _ _ _ _ rfl rfl rfl) (A_v20 _) (A_cst_0 _)
theorem W3_v31 : W3 m c (Proc.devRef .tc main_v31) = logs (a0 m c) (a1 m c) (a3 m c) :=
  C_v31 _ _ _ _ (arg2 m c main_arg3 (.inr (.inr (.inr rfl)))) (W2_v21 m c)
theorem W4_v32 : W4 m c (Proc.devRef .tc main_v32) = shapeCast S4096x4x2x64 (a1 m c) shapeCasts_S4096x512_S4096x4x2x64 :=
  (keepD _ main_v32 (by simp)).trans (C_v32 _ _ (arg2 m c main_arg1 (.inr (.inl rfl))))
theorem W4_v45 : W4 m c (Proc.devRef .tc main_v45) = biasLanes (a3 m c) :=
  D_v45 _ _ (C_v44 _ _ (arg2 m c main_arg3 (.inr (.inr (.inr rfl))))) (C_c _)
theorem W6_v94 : W6 m c (Proc.devRef .tc main_v94) = val_main_v22_0 (F := Ideal) (a0 m c) (a1 m c) (a3 m c) :=
  F_v94 _ _ _ _ (E_v87 _ _ _ _ (arg4 m c main_arg0 (.inl rfl)) (arg4 m c main_arg1 (.inr (.inl rfl))) (arg4 m c main_arg3 (.inr (.inr (.inr rfl))))) (E_v93 _) (E_cst_8 _)

theorem V_v69 : V m c main_v69 = scaled (a0 m c) :=
  (V_eq m c _).trans ((keepG _ main_v69 (by simp)).trans ((keepF _ main_v69 (by simp)).trans (E_v69 _ _ (arg4 m c main_arg0 (.inl rfl)))))
theorem V_v70 : V m c main_v70 = keysA (shapeCast S4096x4x2x64 (a1 m c) shapeCasts_S4096x512_S4096x4x2x64) (biasLanes (a3 m c)) :=
  (V_eq m c _).trans ((keepG _ main_v70 (by simp)).trans ((keepF _ main_v70 (by simp)).trans (E_v70 _ _ _ (W4_v32 m c) (W4_v45 m c))))
theorem V_v71 : V m c main_v71 = keysB (shapeCast S4096x4x2x64 (a1 m c) shapeCasts_S4096x512_S4096x4x2x64) (biasLanes (a3 m c)) :=
  (V_eq m c _).trans ((keepG _ main_v71 (by simp)).trans ((keepF _ main_v71 (by simp)).trans (E_v71 _ _ _ (W4_v32 m c) (W4_v45 m c))))
theorem V_v72 : V m c main_v72 = truncf (F := Ideal) (s := S4096x512) (φ := .f32) .bf16 (a2 m c) bitsLt_bf16_f32 :=
  (V_eq m c _).trans ((keepG _ main_v72 (by simp)).trans ((keepF _ main_v72 (by simp)).trans (E_v72 _ _ (arg4 m c main_arg2 (.inr (.inr (.inl rfl)))))))
theorem V_v110 : V m c main_v110 = val_main_v55 (F := Ideal) (a0 m c) (a1 m c) (a2 m c) (a3 m c) :=
  (V_eq m c _).trans (G_v110 _ _ _ _ _
    ((keepF _ main_arg2 (by simp)).trans ((keepE _ main_arg2 (by simp)).trans (arg4 m c main_arg2 (.inr (.inr (.inl rfl)))))) (W6_v94 m c))
theorem V_v113 : V m c main_v113 = logLanes (logs (a0 m c) (a1 m c) (a3 m c)) :=
  (V_eq m c _).trans (G_v113 _ _
    ((keepF _ main_v31 (by simp)).trans ((keepE _ main_v31 (by simp)).trans ((keepD _ main_v31 (by simp)).trans (W3_v31 m c)))))

/-- The two ways of saying that an array holds a real matrix. -/
theorem mat_of_two {a b : ℕ} {x : Shape.Idx ⟨2, ![a, b]⟩ → EReal} {X : ℕ → ℕ → ℝ} (h : Two (m := a) (n := b) x X) : Mat (m := a) (n := b) x X :=
  fun r d => h (ix2 r d)

variable {q k v C pj dm M : ℕ → ℕ → ℝ} (h0 : Two (m := 4096) (n := 512) (a0 m c) q) (h1 : Two (m := 4096) (n := 512) (a1 m c) k)
  (h2 : Two (m := 4096) (n := 512) (a2 m c) v) (h3 : Two (m := 4096) (n := 8) (a3 m c) C)
  (h4 : Two (m := 4096) (n := 3584) (m (c, Proc.devRef .tc main_arg4)) pj) (h5 : Two (m := 4096) (n := 1024) (m (c, Proc.devRef .tc main_arg5)) dm)
  (hM : Two (m := 8) (n := 4096) (val_main_v23 (F := Ideal) (a0 m c) (a1 m c) (a3 m c)) M)
include h0 h1 h2 h3 h4 h5 hM

theorem reads : Reads m c (fun t j => q t j * 0.125) (ka k C) (kb k C) v (xo q k v C M) (ll q k C M) dm pj where
  q := by rw [V_v69]; exact mat_of_two (scaled_two h0)
  k := by rw [V_v70]; exact mat_of_two (keysA_two h1 h3)
  kl := by rw [V_v71]; exact mat_of_two (keysB_two h1 h3)
  v := by rw [V_v72]; exact mat_of_two h2
  o := by rw [V_v110]; exact mat_of_two (out_two h0 h1 h3 hM h2)
  l := by rw [V_v113]; exact mat_of_two (log_two h0 h1 h3 hM)
  dm := by rw [arg_kept m c main_arg5 (by simp)]; exact mat_of_two h5
  pj := by rw [arg_kept m c main_arg4 (by simp)]; exact mat_of_two h4

end Cert.Proof.KI7
-- ==== Proof.Fox.Claim.lean ====
/-
  The attention's backward: the frames of its kernel and its reference, its named constants, and the value claim: from
  finite arguments the kernel's four result arrays are the reference's gradients, over the reals.
-/
module

public import proofs.«01_k».proof.Defs
public import proofs.«01_k».proof.Proof.Fox.Host
public import proofs.«01_k».proof.Proof.FoxBits.Run
public import proofs.«01_k».proof.Proof.Value
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Pre_finite7

@[expose] public section

noncomputable section

namespace Cert.Proof.Fox

open Idealize.ShloMosaic Idealize.ShloMosaic.TcCoe Idealize.SL.Sem
open Cert.Proof.KI7 (Mat)
open Cert.Proof.RI Cert.Proof.RI7

theorem frame_kernel : Cert.quiescent_Kernel7 := fun m ρ _ => KB7.frame_main m ρ

theorem frame_ideal : Cert.quiescent_Kernel7Ideal := fun m ρ _ => KI7.frame_main m ρ

theorem frame_ideal_finite : Cert.quiescent_Kernel7Ideal_pre_finite7 := fun m ρ _ => KI7.frame_main m ρ

/-- The reference's run, its arguments as launched; it declares no semaphore. -/
theorem frame_reference : Cert.quiescent_Reference7Ideal := fun m ρ _ =>
  (θ_run Cert.Reference7Ideal.defs _ _).mono
    (fun r h => ⟨fun c => (h c).2.2.2.2, sem_eq_zero_of_no_sems (by decide) r.2⟩)
    (Cert.Reference7Ideal.Value.run (F := Ideal) m ρ)

theorem frame_reference_finite : Cert.quiescent_Reference7Ideal_pre_finite7 := fun m ρ _ => frame_reference m ρ trivial

theorem preserves : Cert.preserves_Kernel7_Kernel7Ideal :=
  ⟨IdealRules.named_const.statement Cert.Kernel7Ideal.κ "mask" .f32 0xF149F2CA#32 ⊥ (by simp [Cert.Kernel7Ideal.κ]),
    IdealRules.named_const.statement Cert.Kernel7Ideal.κ "dead" .f32 0xC2D20000#32 ⊥ (by simp [Cert.Kernel7Ideal.κ])⟩

/-- Two arrays of one real matrix are one array. -/
theorem same {a b : ℕ} {x y : Shape.Idx ⟨2, ![a, b]⟩ → EReal} {X Y : ℕ → ℕ → ℝ} (hx : Mat (m := a) (n := b) x X)
    (hy : Two (m := a) (n := b) y Y) (e : ∀ r c, r < a → X r c = Y r c) : y = x := by
  funext i
  rw [hy i, ← e _ _ (i 0).isLt]
  conv_rhs => rw [eq_ix2 i]
  exact (hx _ _).symm

section Device

open Cert.Kernel7Ideal

variable (m : (ℓ : Loc nD τ sig) → Buf (Elt Ideal) ℓ) (c : Dev nD)

/-- The arguments' real matrices, and the rows' greatest scores. -/
abbrev rq := real (KI7.a0 m c)
abbrev rk := real (KI7.a1 m c)
abbrev rv := real (KI7.a2 m c)
abbrev rc := real (KI7.a3 m c)
abbrev rp : ℕ → ℕ → ℝ := real (a := 4096) (b := 3584) (m (c, Proc.devRef .tc main_arg4))
abbrev rd : ℕ → ℕ → ℝ := real (a := 4096) (b := 1024) (m (c, Proc.devRef .tc main_arg5))
abbrev rm : ℕ → ℕ → ℝ := mat (Cert.Reference7Ideal.Read.val_main_v23 (F := Ideal) (KI7.a0 m c) (KI7.a1 m c) (KI7.a3 m c))

/-- What the precondition says of one device's arguments. -/
structure Reals : Prop where
  q : Two (m := 4096) (n := 512) (KI7.a0 m c) (rq m c)
  k : Two (m := 4096) (n := 512) (KI7.a1 m c) (rk m c)
  v : Two (m := 4096) (n := 512) (KI7.a2 m c) (rv m c)
  g : Two (m := 4096) (n := 8) (KI7.a3 m c) (rc m c)
  p : Two (m := 4096) (n := 3584) (m (c, Proc.devRef .tc main_arg4)) (rp m c)
  d : Two (m := 4096) (n := 1024) (m (c, Proc.devRef .tc main_arg5)) (rd m c)

theorem Reals.top {m c} (h : Reals m c) :
    Two (m := 8) (n := 4096) (Cert.Reference7Ideal.Read.val_main_v23 (F := Ideal) (KI7.a0 m c) (KI7.a1 m c) (KI7.a3 m c)) (rm m c) :=
  two_mat _ (top_real h.q h.k h.g)

theorem Reals.reads {m c} (h : Reals m c) : KI7.Reads m c (fun t j => rq m c t j * 0.125) (KI7.ka (rk m c) (rc m c)) (KI7.kb (rk m c) (rc m c)) (rv m c)
    (xo (rq m c) (rk m c) (rv m c) (rc m c) (rm m c)) (KI7.ll (rq m c) (rk m c) (rc m c) (rm m c)) (rd m c) (rp m c) :=
  KI7.reads m c h.q h.k h.v h.g h.p h.d h.top

end Device

theorem algebraic : Cert.algebraic_Kernel7Ideal_Reference7Ideal_pre_finite7 := by
  intro m g m' g' hpre hin
  have hr : ∀ c, Reals m c := fun c => by
    obtain ⟨p0, p1, p2, p3, p4, p5⟩ := hpre c
    exact ⟨two_real _ fun i => finite_entry _ (congrFun p0 i), two_real _ fun i => finite_entry _ (congrFun p1 i),
      two_real _ fun i => finite_entry _ (congrFun p2 i), two_real _ fun i => finite_entry _ (congrFun p3 i),
      two_real _ fun i => finite_entry _ (congrFun p4 i), two_real _ fun i => finite_entry _ (congrFun p5 i)⟩
  refine ⟨fun c => (KI7.dats m 0 c).arrAt 9 (Cert.Kernel7Ideal.cfg0 (F := Ideal)).N, fun c => (KI7.dats m 0 c).arrAt 10 (Cert.Kernel7Ideal.cfg0 (F := Ideal)).N,
    fun c => (KI7.dats m 0 c).arrAt 11 (Cert.Kernel7Ideal.cfg0 (F := Ideal)).N, fun c => (KI7.dats m 0 c).arrAt 12 (Cert.Kernel7Ideal.cfg0 (F := Ideal)).N,
    (θ_run _ _ _).mono (fun r h => h.1) (KI7.run_main m g), ?_⟩
  refine (θ_run _ _ _).mono (fun r h c => ?_) (Cert.Reference7Ideal.Value.run (F := Ideal) m' g')
  obtain ⟨e89, e87, e68, e61, kept⟩ := h c
  obtain ⟨i0, i1, i2, i3, i4, i5, _, _⟩ := hin c
  have H := hr c
  have g0 : Two (m := 4096) (n := 512) (m' (c, Proc.devRef .tc Cert.Reference7Ideal.main_arg0)) (rq m c) := fun i => (congrFun i0 i).trans (H.q i)
  have g1 : Two (m := 4096) (n := 512) (m' (c, Proc.devRef .tc Cert.Reference7Ideal.main_arg1)) (rk m c) := fun i => (congrFun i1 i).trans (H.k i)
  have g2 : Two (m := 4096) (n := 512) (m' (c, Proc.devRef .tc Cert.Reference7Ideal.main_arg2)) (rv m c) := fun i => (congrFun i2 i).trans (H.v i)
  have g3 : Two (m := 4096) (n := 8) (m' (c, Proc.devRef .tc Cert.Reference7Ideal.main_arg3)) (rc m c) := fun i => (congrFun i3 i).trans (H.g i)
  have g4 : Two (m := 4096) (n := 3584) (m' (c, Proc.devRef .tc Cert.Reference7Ideal.main_arg4)) (rp m c) := fun i => (congrFun i4 i).trans (H.p i)
  have g5 : Two (m := 4096) (n := 1024) (m' (c, Proc.devRef .tc Cert.Reference7Ideal.main_arg5)) (rd m c) := fun i => (congrFun i5 i).trans (H.d i)
  have gm : Two (m := 8) (n := 4096) (Cert.Reference7Ideal.Read.val_main_v23 (F := Ideal) (m' (c, Proc.devRef .tc Cert.Reference7Ideal.main_arg0))
      (m' (c, Proc.devRef .tc Cert.Reference7Ideal.main_arg1)) (m' (c, Proc.devRef .tc Cert.Reference7Ideal.main_arg3))) (rm m c) := by
    have j0 : m' (c, Proc.devRef .tc Cert.Reference7Ideal.main_arg0) = KI7.a0 m c := i0
    have j1 : m' (c, Proc.devRef .tc Cert.Reference7Ideal.main_arg1) = KI7.a1 m c := i1
    have j3 : m' (c, Proc.devRef .tc Cert.Reference7Ideal.main_arg3) = KI7.a3 m c := i3
    rw [j0, j1, j3]
    exact H.top
  exact ⟨e89.trans ((Cert.Reference7Ideal.Read.val_main_v89_eq _ _).trans
      (same (KI7.result9 H.reads) (dq_two g0 g1 g3 gm g4 g5 g2) fun _ _ ht => KI7.outQ_eq (rq m c) (rk m c) (rv m c) (rc m c) (rp m c) (rd m c) (rm m c) ht _)),
    e87.trans ((Cert.Reference7Ideal.Read.val_main_v87_eq _ _).trans
      (same (KI7.result10 H.reads) (dk_two g0 g1 g3 gm g4 g5 g2) fun _ _ _ => KI7.outK_eq (rq m c) (rk m c) (rv m c) (rc m c) (rp m c) (rd m c) (rm m c) _ _)),
    e68.trans ((Cert.Reference7Ideal.Read.val_main_v68_eq _ _).trans
      (same (KI7.result11 H.reads) (dv_two g0 g1 g3 gm g4 g5) fun _ _ _ => KI7.outV_eq (rq m c) (rk m c) (rv m c) (rc m c) (rp m c) (rd m c) (rm m c) _ _)),
    e61.trans ((Cert.Reference7Ideal.Read.val_main_v61_eq _ _).trans
      (same (KI7.result12 H.reads) (dg_two g0 g1 g3 gm g4 g5 g2) fun _ _ _ => KI7.outG_eq (rq m c) (rk m c) (rv m c) (rc m c) (rp m c) (rd m c) (rm m c) _ _)), kept⟩

end Cert.Proof.Fox

end
-- ==== Proof.lean ====
/- The certificate of the stick-breaking attention's backward kernel: the programs run to their end and leave their
   arguments as they were, the idealisation keeps the kernel's meaning but for two named constants, and over the
   reals the kernel's four gradients are the reference's. The same for the kernels of the two projections,
   forward and backward. -/
module

public import proofs.«01_k».proof.Proof.Inp.Run
public import proofs.«01_k».proof.Proof.Gen.Kernel5.Frame
public import proofs.«01_k».proof.Proof.Gen.Kernel3.Frame
public import proofs.«01_k».proof.Proof.Inp.RunK
public import proofs.«01_k».proof.Proof.Dw.Run
public import proofs.«01_k».proof.Proof.Dw.RunK
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Frames
public import proofs.«01_k».proof.Proof.Value
public import proofs.«01_k».proof.Proof.Dx.Claim
public import proofs.«01_k».proof.Proof.Dw.Claim
public import proofs.«01_k».proof.Proof.Ob.Claim
public import proofs.«01_k».proof.Proof.Inp.Claim
public import proofs.«01_k».proof.Proof.Out.Claim
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel4.Frame
public import proofs.«01_k».proof.Proof.Gen.Kernel4Ideal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read

public import proofs.«01_k».proof.Proof.Fox.Claim
public import proofs.«01_k».proof.Proof.FoxBits.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts, Cert.Pre_finite7.Gen.facts,
  frame_kernel, frame_ideal, frame_ideal_finite, frame_reference, frame_reference_finite,
  Dx.frame_kernel, Dx.frame_ideal, Dx.frame_reference,
  Dw.frame_kernel, Dw.frame_ideal, Dw.frame_reference,
  Ob.frame_kernel, Ob.frame_ideal, Ob.frame_reference,
  Inp.frame_kernel, Inp.frame_ideal, Inp.frame_reference,
  Out.frame_kernel, Out.frame_ideal, Out.frame_reference,
  Fox.frame_kernel, Fox.frame_ideal, Fox.frame_ideal_finite, Fox.frame_reference, Fox.frame_reference_finite,
  preserves, algebraic, Dx.preserves, Dx.algebraic, Dw.preserves, Dw.algebraic,
  Ob.preserves, Ob.algebraic, Inp.preserves, Inp.algebraic, Out.preserves, Out.algebraic,
  Fox.preserves, Fox.algebraic⟩

end Cert.Proof

end
